-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Ff2Bwd (m : (ℓ : Loc Cert.Ff2Bwd.nD Cert.Ff2Bwd.τ Cert.Ff2Bwd.sig) → Buf (Elt Bits) ℓ) : Prop :=
  True

def Pre_Ff2BwdIdeal (m : (ℓ : Loc Cert.Ff2BwdIdeal.nD Cert.Ff2BwdIdeal.τ Cert.Ff2BwdIdeal.sig) → Buf (Elt Ideal) ℓ) : Prop :=
  True

def Pre_Ff2BwdRefIdeal (m : (ℓ : Loc Cert.Ff2BwdRefIdeal.nD Cert.Ff2BwdRefIdeal.τ Cert.Ff2BwdRefIdeal.sig) → Buf (Elt Ideal) ℓ) : Prop :=
  True

def Pre_GradFf2 (m : (ℓ : Loc Cert.GradFf2.nD Cert.GradFf2.τ Cert.GradFf2.sig) → Buf (Elt Bits) ℓ) : Prop :=
  True

def Pre_GradFf2Ideal (m : (ℓ : Loc Cert.GradFf2Ideal.nD Cert.GradFf2Ideal.τ Cert.GradFf2Ideal.sig) → Buf (Elt Ideal) ℓ) : Prop :=
  True

def Pre_GradFf2RefIdeal (m : (ℓ : Loc Cert.GradFf2RefIdeal.nD Cert.GradFf2RefIdeal.τ Cert.GradFf2RefIdeal.sig) → Buf (Elt Ideal) ℓ) : Prop :=
  True

def Pre_GradFf1 (m : (ℓ : Loc Cert.GradFf1.nD Cert.GradFf1.τ Cert.GradFf1.sig) → Buf (Elt Bits) ℓ) : Prop :=
  True

def Pre_GradFf1Ideal (m : (ℓ : Loc Cert.GradFf1Ideal.nD Cert.GradFf1Ideal.τ Cert.GradFf1Ideal.sig) → Buf (Elt Ideal) ℓ) : Prop :=
  True

def Pre_GradFf1RefIdeal (m : (ℓ : Loc Cert.GradFf1RefIdeal.nD Cert.GradFf1RefIdeal.τ Cert.GradFf1RefIdeal.sig) → Buf (Elt Ideal) ℓ) : Prop :=
  True

def Pre_Ff1Bwd (m : (ℓ : Loc Cert.Ff1Bwd.nD Cert.Ff1Bwd.τ Cert.Ff1Bwd.sig) → Buf (Elt Bits) ℓ) : Prop :=
  True

def Pre_Ff1BwdIdeal (m : (ℓ : Loc Cert.Ff1BwdIdeal.nD Cert.Ff1BwdIdeal.τ Cert.Ff1BwdIdeal.sig) → Buf (Elt Ideal) ℓ) : Prop :=
  True

def Pre_Ff1BwdRefIdeal (m : (ℓ : Loc Cert.Ff1BwdRefIdeal.nD Cert.Ff1BwdRefIdeal.τ Cert.Ff1BwdRefIdeal.sig) → Buf (Elt Ideal) ℓ) : Prop :=
  True

def Pre_ProjInA (m : (ℓ : Loc Cert.ProjInA.nD Cert.ProjInA.τ Cert.ProjInA.sig) → Buf (Elt Bits) ℓ) : Prop :=
  True

def Pre_ProjInAIdeal (m : (ℓ : Loc Cert.ProjInAIdeal.nD Cert.ProjInAIdeal.τ Cert.ProjInAIdeal.sig) → Buf (Elt Ideal) ℓ) : Prop :=
  True

def Pre_ProjInARefIdeal (m : (ℓ : Loc Cert.ProjInARefIdeal.nD Cert.ProjInARefIdeal.τ Cert.ProjInARefIdeal.sig) → Buf (Elt Ideal) ℓ) : Prop :=
  True

def Pre_ProjInB (m : (ℓ : Loc Cert.ProjInB.nD Cert.ProjInB.τ Cert.ProjInB.sig) → Buf (Elt Bits) ℓ) : Prop :=
  True

def Pre_ProjInBIdeal (m : (ℓ : Loc Cert.ProjInBIdeal.nD Cert.ProjInBIdeal.τ Cert.ProjInBIdeal.sig) → Buf (Elt Ideal) ℓ) : Prop :=
  True

def Pre_ProjInBRefIdeal (m : (ℓ : Loc Cert.ProjInBRefIdeal.nD Cert.ProjInBRefIdeal.τ Cert.ProjInBRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_ProjOutBwd (m : (ℓ : Loc Cert.ProjOutBwd.nD Cert.ProjOutBwd.τ Cert.ProjOutBwd.sig) → Buf (Elt Bits) ℓ) : Prop :=
  True

def Pre_ProjOutBwdIdeal (m : (ℓ : Loc Cert.ProjOutBwdIdeal.nD Cert.ProjOutBwdIdeal.τ Cert.ProjOutBwdIdeal.sig) → Buf (Elt Ideal) ℓ) : Prop :=
  True

def Pre_ProjOutBwdRefIdeal (m : (ℓ : Loc Cert.ProjOutBwdRefIdeal.nD Cert.ProjOutBwdRefIdeal.τ Cert.ProjOutBwdRefIdeal.sig) → Buf (Elt Ideal) ℓ) : Prop :=
  True

def Pre_GradKv (m : (ℓ : Loc Cert.GradKv.nD Cert.GradKv.τ Cert.GradKv.sig) → Buf (Elt Bits) ℓ) : Prop :=
  True

def Pre_GradKvIdeal (m : (ℓ : Loc Cert.GradKvIdeal.nD Cert.GradKvIdeal.τ Cert.GradKvIdeal.sig) → Buf (Elt Ideal) ℓ) : Prop :=
  True

def Pre_GradKvRefIdeal (m : (ℓ : Loc Cert.GradKvRefIdeal.nD Cert.GradKvRefIdeal.τ Cert.GradKvRefIdeal.sig) → Buf (Elt Ideal) ℓ) : Prop :=
  True

def Pre_GradInA (m : (ℓ : Loc Cert.GradInA.nD Cert.GradInA.τ Cert.GradInA.sig) → Buf (Elt Bits) ℓ) : Prop :=
  True

def Pre_GradInAIdeal (m : (ℓ : Loc Cert.GradInAIdeal.nD Cert.GradInAIdeal.τ Cert.GradInAIdeal.sig) → Buf (Elt Ideal) ℓ) : Prop :=
  True

def Pre_GradInARefIdeal (m : (ℓ : Loc Cert.GradInARefIdeal.nD Cert.GradInARefIdeal.τ Cert.GradInARefIdeal.sig) → Buf (Elt Ideal) ℓ) : Prop :=
  True

def Pre_GradInB (m : (ℓ : Loc Cert.GradInB.nD Cert.GradInB.τ Cert.GradInB.sig) → Buf (Elt Bits) ℓ) : Prop :=
  True

def Pre_GradInBIdeal (m : (ℓ : Loc Cert.GradInBIdeal.nD Cert.GradInBIdeal.τ Cert.GradInBIdeal.sig) → Buf (Elt Ideal) ℓ) : Prop :=
  True

def Pre_GradInBRefIdeal (m : (ℓ : Loc Cert.GradInBRefIdeal.nD Cert.GradInBRefIdeal.τ Cert.GradInBRefIdeal.sig) → Buf (Elt Ideal) ℓ) : Prop :=
  True

def Pre_ProjInBwdA (m : (ℓ : Loc Cert.ProjInBwdA.nD Cert.ProjInBwdA.τ Cert.ProjInBwdA.sig) → Buf (Elt Bits) ℓ) : Prop :=
  True

def Pre_ProjInBwdAIdeal (m : (ℓ : Loc Cert.ProjInBwdAIdeal.nD Cert.ProjInBwdAIdeal.τ Cert.ProjInBwdAIdeal.sig) → Buf (Elt Ideal) ℓ) : Prop :=
  True

def Pre_ProjInBwdARefIdeal (m : (ℓ : Loc Cert.ProjInBwdARefIdeal.nD Cert.ProjInBwdARefIdeal.τ Cert.ProjInBwdARefIdeal.sig) → Buf (Elt Ideal) ℓ) : Prop :=
  True

def Pre_ProjInBwdB (m : (ℓ : Loc Cert.ProjInBwdB.nD Cert.ProjInBwdB.τ Cert.ProjInBwdB.sig) → Buf (Elt Bits) ℓ) : Prop :=
  True

def Pre_ProjInBwdBIdeal (m : (ℓ : Loc Cert.ProjInBwdBIdeal.nD Cert.ProjInBwdBIdeal.τ Cert.ProjInBwdBIdeal.sig) → Buf (Elt Ideal) ℓ) : Prop :=
  True

def Pre_ProjInBwdBRefIdeal (m : (ℓ : Loc Cert.ProjInBwdBRefIdeal.nD Cert.ProjInBwdBRefIdeal.τ Cert.ProjInBwdBRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_gradient_finite [hPre_gradient_finite : Cert.Pre_gradient_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_gradient_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).1 = (fun _ => 1#1)
    ∧ (Cert.Pre_gradient_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_gradient_finite [hPre_gradient_finite : Cert.Pre_gradient_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_gradient_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).1 = (fun _ => 1#1)
    ∧ (Cert.Pre_gradient_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).2 = (fun _ => 1#1)

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_AdamFfRefIdeal (m : (ℓ : Loc Cert.AdamFfRefIdeal.nD Cert.AdamFfRefIdeal.τ Cert.AdamFfRefIdeal.sig) → Buf (Elt Ideal) ℓ) : Prop :=
  True

def Pre_AdamInA (m : (ℓ : Loc Cert.AdamInA.nD Cert.AdamInA.τ Cert.AdamInA.sig) → Buf (Elt Bits) ℓ) : Prop :=
  True

def Pre_AdamInAIdeal (m : (ℓ : Loc Cert.AdamInAIdeal.nD Cert.AdamInAIdeal.τ Cert.AdamInAIdeal.sig) → Buf (Elt Ideal) ℓ) : Prop :=
  True

def Pre_AdamInARefIdeal (m : (ℓ : Loc Cert.AdamInARefIdeal.nD Cert.AdamInARefIdeal.τ Cert.AdamInARefIdeal.sig) → Buf (Elt Ideal) ℓ) : Prop :=
  True

def Pre_AdamInB (m : (ℓ : Loc Cert.AdamInB.nD Cert.AdamInB.τ Cert.AdamInB.sig) → Buf (Elt Bits) ℓ) : Prop :=
  True

def Pre_AdamInBIdeal (m : (ℓ : Loc Cert.AdamInBIdeal.nD Cert.AdamInBIdeal.τ Cert.AdamInBIdeal.sig) → Buf (Elt Ideal) ℓ) : Prop :=
  True

def Pre_AdamInBRefIdeal (m : (ℓ : Loc Cert.AdamInBRefIdeal.nD Cert.AdamInBRefIdeal.τ Cert.AdamInBRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_MemBwdB (m : (ℓ : Loc Cert.MemBwdB.nD Cert.MemBwdB.τ Cert.MemBwdB.sig) → Buf (Elt Bits) ℓ) : Prop :=
  True

def Pre_MemBwdBIdeal (m : (ℓ : Loc Cert.MemBwdBIdeal.nD Cert.MemBwdBIdeal.τ Cert.MemBwdBIdeal.sig) → Buf (Elt Ideal) ℓ) : Prop :=
  True

def Pre_MemBwdBIdeal_scores_finite_b [hPre_scores_finite_b : Cert.Pre_scores_finite_b.Facts] (m : (ℓ : Loc Cert.MemBwdBIdeal.nD Cert.MemBwdBIdeal.τ Cert.MemBwdBIdeal.sig) → Buf (Elt Ideal) ℓ) : Prop :=
  ∀ c : Dev Cert.MemBwdBIdeal.nD,
    (Cert.Pre_scores_finite_b.fn (F := Ideal) (m ((c.tc : Thread Cert.MemBwdBIdeal.nD Cert.MemBwdBIdeal.τ).loc Cert.MemBwdBIdeal.main_arg0)) (m ((c.tc : Thread Cert.MemBwdBIdeal.nD Cert.MemBwdBIdeal.τ).loc Cert.MemBwdBIdeal.main_arg1)) (m ((c.tc : Thread Cert.MemBwdBIdeal.nD Cert.MemBwdBIdeal.τ).loc Cert.MemBwdBIdeal.main_arg2))).1 = (fun _ => 1#1)
    ∧ (Cert.Pre_scores_finite_b.fn (F := Ideal) (m ((c.tc : Thread Cert.MemBwdBIdeal.nD Cert.MemBwdBIdeal.τ).loc Cert.MemBwdBIdeal.main_arg0)) (m ((c.tc : Thread Cert.MemBwdBIdeal.nD Cert.MemBwdBIdeal.τ).loc Cert.MemBwdBIdeal.main_arg1)) (m ((c.tc : Thread Cert.MemBwdBIdeal.nD Cert.MemBwdBIdeal.τ).loc Cert.MemBwdBIdeal.main_arg2))).2 = (fun _ => 1#1)

def Pre_MemBwdBRefIdeal (m : (ℓ : Loc Cert.MemBwdBRefIdeal.nD Cert.MemBwdBRefIdeal.τ Cert.MemBwdBRefIdeal.sig) → Buf (Elt Ideal) ℓ) : Prop :=
  True

def Pre_MemBwdBRefIdeal_scores_finite_b [hPre_scores_finite_b : Cert.Pre_scores_finite_b.Facts] (m : (ℓ : Loc Cert.MemBwdBRefIdeal.nD Cert.MemBwdBRefIdeal.τ Cert.MemBwdBRefIdeal.sig) → Buf (Elt Ideal) ℓ) : Prop :=
  ∀ c : Dev Cert.MemBwdBRefIdeal.nD,
    (Cert.Pre_scores_finite_b.fn (F := Ideal) (m ((c.tc : Thread Cert.MemBwdBRefIdeal.nD Cert.MemBwdBRefIdeal.τ).loc Cert.MemBwdBRefIdeal.main_arg0)) (m ((c.tc : Thread Cert.MemBwdBRefIdeal.nD Cert.MemBwdBRefIdeal.τ).loc Cert.MemBwdBRefIdeal.main_arg1)) (m ((c.tc : Thread Cert.MemBwdBRefIdeal.nD Cert.MemBwdBRefIdeal.τ).loc Cert.MemBwdBRefIdeal.main_arg2))).1 = (fun _ => 1#1)
    ∧ (Cert.Pre_scores_finite_b.fn (F := Ideal) (m ((c.tc : Thread Cert.MemBwdBRefIdeal.nD Cert.MemBwdBRefIdeal.τ).loc Cert.MemBwdBRefIdeal.main_arg0)) (m ((c.tc : Thread Cert.MemBwdBRefIdeal.nD Cert.MemBwdBRefIdeal.τ).loc Cert.MemBwdBRefIdeal.main_arg1)) (m ((c.tc : Thread Cert.MemBwdBRefIdeal.nD Cert.MemBwdBRefIdeal.τ).loc Cert.MemBwdBRefIdeal.main_arg2))).2 = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_MemFwdB (m : (ℓ : Loc Cert.MemFwdB.nD Cert.MemFwdB.τ Cert.MemFwdB.sig) → Buf (Elt Bits) ℓ) : Prop :=
  True

def Pre_MemFwdBIdeal (m : (ℓ : Loc Cert.MemFwdBIdeal.nD Cert.MemFwdBIdeal.τ Cert.MemFwdBIdeal.sig) → Buf (Elt Ideal) ℓ) : Prop :=
  True

def Pre_MemFwdBRefIdeal (m : (ℓ : Loc Cert.MemFwdBRefIdeal.nD Cert.MemFwdBRefIdeal.τ Cert.MemFwdBRefIdeal.sig) → Buf (Elt Ideal) ℓ) : Prop :=
  True

def Pre_AttnFwd16 (m : (ℓ : Loc Cert.AttnFwd16.nD Cert.AttnFwd16.τ Cert.AttnFwd16.sig) → Buf (Elt Bits) ℓ) : Prop :=
  True

def Pre_AttnFwd16Ideal (m : (ℓ : Loc Cert.AttnFwd16Ideal.nD Cert.AttnFwd16Ideal.τ Cert.AttnFwd16Ideal.sig) → Buf (Elt Ideal) ℓ) : Prop :=
  True

def Pre_AttnFwd16RefIdeal (m : (ℓ : Loc Cert.AttnFwd16RefIdeal.nD Cert.AttnFwd16RefIdeal.τ Cert.AttnFwd16RefIdeal.sig) → Buf (Elt Ideal) ℓ) : Prop :=
  True

def Pre_AttnFwd4 (m : (ℓ : Loc Cert.AttnFwd4.nD Cert.AttnFwd4.τ Cert.AttnFwd4.sig) → Buf (Elt Bits) ℓ) : Prop :=
  True

def Pre_AttnFwd4Ideal (m : (ℓ : Loc Cert.AttnFwd4Ideal.nD Cert.AttnFwd4Ideal.τ Cert.AttnFwd4Ideal.sig) → Buf (Elt Ideal) ℓ) : Prop :=
  True

def Pre_AttnFwd4RefIdeal (m : (ℓ : Loc Cert.AttnFwd4RefIdeal.nD Cert.AttnFwd4RefIdeal.τ Cert.AttnFwd4RefIdeal.sig) → Buf (Elt Ideal) ℓ) : Prop :=
  True

def Pre_AttnFwd1 (m : (ℓ : Loc Cert.AttnFwd1.nD Cert.AttnFwd1.τ Cert.AttnFwd1.sig) → Buf (Elt Bits) ℓ) : Prop :=
  True

def Pre_AttnFwd1Ideal (m : (ℓ : Loc Cert.AttnFwd1Ideal.nD Cert.AttnFwd1Ideal.τ Cert.AttnFwd1Ideal.sig) → Buf (Elt Ideal) ℓ) : Prop :=
  True

def Pre_AttnFwd1RefIdeal (m : (ℓ : Loc Cert.AttnFwd1RefIdeal.nD Cert.AttnFwd1RefIdeal.τ Cert.AttnFwd1RefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_Ff2Bwd [hFf2Bwd : Cert.Ff2Bwd.Facts] : Prop :=
  ∀ (m : (ℓ : Loc Cert.Ff2Bwd.nD Cert.Ff2Bwd.τ Cert.Ff2Bwd.sig) → Buf (Elt Bits) ℓ) (g : Dev Cert.Ff2Bwd.nD → PrngReg), Pre_Ff2Bwd m →
    θ_run (Cert.Ff2Bwd.defs (F := Bits)) (onTc (τ := Cert.Ff2Bwd.τ) (Cert.Ff2Bwd.main (F := Bits))) ⟨m, fun _ => 0, g⟩ (fun r => (∀ c : Dev Cert.Ff2Bwd.nD,
      r.2.mem ((c.tc : Thread Cert.Ff2Bwd.nD Cert.Ff2Bwd.τ).loc Cert.Ff2Bwd.main_arg0) = m ((c.tc : Thread Cert.Ff2Bwd.nD Cert.Ff2Bwd.τ).loc Cert.Ff2Bwd.main_arg0)
      ∧ r.2.mem ((c.tc : Thread Cert.Ff2Bwd.nD Cert.Ff2Bwd.τ).loc Cert.Ff2Bwd.main_arg1) = m ((c.tc : Thread Cert.Ff2Bwd.nD Cert.Ff2Bwd.τ).loc Cert.Ff2Bwd.main_arg1)
      ∧ r.2.mem ((c.tc : Thread Cert.Ff2Bwd.nD Cert.Ff2Bwd.τ).loc Cert.Ff2Bwd.main_arg2) = m ((c.tc : Thread Cert.Ff2Bwd.nD Cert.Ff2Bwd.τ).loc Cert.Ff2Bwd.main_arg2))
      ∧ r.2.sem = fun _ => 0)

def quiescent_Ff2BwdIdeal [hFf2BwdIdeal : Cert.Ff2BwdIdeal.Facts] : Prop :=
  ∀ (m : (ℓ : Loc Cert.Ff2BwdIdeal.nD Cert.Ff2BwdIdeal.τ Cert.Ff2BwdIdeal.sig) → Buf (Elt Ideal) ℓ) (g : Dev Cert.Ff2BwdIdeal.nD → PrngReg), Pre_Ff2BwdIdeal m →
    θ_run (Cert.Ff2BwdIdeal.defs (F := Ideal)) (onTc (τ := Cert.Ff2BwdIdeal.τ) (Cert.Ff2BwdIdeal.main (F := Ideal))) ⟨m, fun _ => 0, g⟩ (fun r => (∀ c : Dev Cert.Ff2BwdIdeal.nD,
      r.2.mem ((c.tc : Thread Cert.Ff2BwdIdeal.nD Cert.Ff2BwdIdeal.τ).loc Cert.Ff2BwdIdeal.main_arg0) = m ((c.tc : Thread Cert.Ff2BwdIdeal.nD Cert.Ff2BwdIdeal.τ).loc Cert.Ff2BwdIdeal.main_arg0)
      ∧ r.2.mem ((c.tc : Thread Cert.Ff2BwdIdeal.nD Cert.Ff2BwdIdeal.τ).loc Cert.Ff2BwdIdeal.main_arg1) = m ((c.tc : Thread Cert.Ff2BwdIdeal.nD Cert.Ff2BwdIdeal.τ).loc Cert.Ff2BwdIdeal.main_arg1)
      ∧ r.2.mem ((c.tc : Thread Cert.Ff2BwdIdeal.nD Cert.Ff2BwdIdeal.τ).loc Cert.Ff2BwdIdeal.main_arg2) = m ((c.tc : Thread Cert.Ff2BwdIdeal.nD Cert.Ff2BwdIdeal.τ).loc Cert.Ff2BwdIdeal.main_arg2))
      ∧ r.2.sem = fun _ => 0)

def quiescent_Ff2BwdRefIdeal [hFf2BwdRefIdeal : Cert.Ff2BwdRefIdeal.Facts] : Prop :=
  ∀ (m : (ℓ : Loc Cert.Ff2BwdRefIdeal.nD Cert.Ff2BwdRefIdeal.τ Cert.Ff2BwdRefIdeal.sig) → Buf (Elt Ideal) ℓ) (g : Dev Cert.Ff2BwdRefIdeal.nD → PrngReg), Pre_Ff2BwdRefIdeal m →
    θ_run (Cert.Ff2BwdRefIdeal.defs (F := Ideal)) (onTc (τ := Cert.Ff2BwdRefIdeal.τ) (Cert.Ff2BwdRefIdeal.main (F := Ideal))) ⟨m, fun _ => 0, g⟩ (fun r => (∀ c : Dev Cert.Ff2BwdRefIdeal.nD,
      r.2.mem ((c.tc : Thread Cert.Ff2BwdRefIdeal.nD Cert.Ff2BwdRefIdeal.τ).loc Cert.Ff2BwdRefIdeal.main_arg0) = m ((c.tc : Thread Cert.Ff2BwdRefIdeal.nD Cert.Ff2BwdRefIdeal.τ).loc Cert.Ff2BwdRefIdeal.main_arg0)
      ∧ r.2.mem ((c.tc : Thread Cert.Ff2BwdRefIdeal.nD Cert.Ff2BwdRefIdeal.τ).loc Cert.Ff2BwdRefIdeal.main_arg1) = m ((c.tc : Thread Cert.Ff2BwdRefIdeal.nD Cert.Ff2BwdRefIdeal.τ).loc Cert.Ff2BwdRefIdeal.main_arg1)
      ∧ r.2.mem ((c.tc : Thread Cert.Ff2BwdRefIdeal.nD Cert.Ff2BwdRefIdeal.τ).loc Cert.Ff2BwdRefIdeal.main_arg2) = m ((c.tc : Thread Cert.Ff2BwdRefIdeal.nD Cert.Ff2BwdRefIdeal.τ).loc Cert.Ff2BwdRefIdeal.main_arg2))
      ∧ r.2.sem = fun _ => 0)

def quiescent_GradFf2 [hGradFf2 : Cert.GradFf2.Facts] : Prop :=
  ∀ (m : (ℓ : Loc Cert.GradFf2.nD Cert.GradFf2.τ Cert.GradFf2.sig) → Buf (Elt Bits) ℓ) (g : Dev Cert.GradFf2.nD → PrngReg), Pre_GradFf2 m →
    θ_run (Cert.GradFf2.defs (F := Bits)) (onTc (τ := Cert.GradFf2.τ) (Cert.GradFf2.main (F := Bits))) ⟨m, fun _ => 0, g⟩ (fun r => (∀ c : Dev Cert.GradFf2.nD,
      r.2.mem ((c.tc : Thread Cert.GradFf2.nD Cert.GradFf2.τ).loc Cert.GradFf2.main_arg0) = m ((c.tc : Thread Cert.GradFf2.nD Cert.GradFf2.τ).loc Cert.GradFf2.main_arg0)
      ∧ r.2.mem ((c.tc : Thread Cert.GradFf2.nD Cert.GradFf2.τ).loc Cert.GradFf2.main_arg1) = m ((c.tc : Thread Cert.GradFf2.nD Cert.GradFf2.τ).loc Cert.GradFf2.main_arg1))
      ∧ r.2.sem = fun _ => 0)

def quiescent_GradFf2Ideal [hGradFf2Ideal : Cert.GradFf2Ideal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg), Pre_GradFf2Ideal m →
    θ_run (Cert.GradFf2Ideal.defs (F := Ideal)) (onTc (τ := Cert.GradFf2Ideal.τ) (Cert.GradFf2Ideal.main (F := Ideal))) ⟨m, fun _ => 0, g⟩ (fun r => (∀ c : Dev Cert.GradFf2Ideal.nD,
      r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
      ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ r.2.sem = fun _ => 0)

def quiescent_GradFf2RefIdeal [hGradFf2RefIdeal : Cert.GradFf2RefIdeal.Facts] : Prop :=
  ∀ (m : (ℓ : Loc Cert.GradFf2RefIdeal.nD Cert.GradFf2RefIdeal.τ Cert.GradFf2RefIdeal.sig) → Buf (Elt Ideal) ℓ) (g : Dev Cert.GradFf2RefIdeal.nD → PrngReg), Pre_GradFf2RefIdeal m →
    θ_run (Cert.GradFf2RefIdeal.defs (F := Ideal)) (onTc (τ := Cert.GradFf2RefIdeal.τ) (Cert.GradFf2RefIdeal.main (F := Ideal))) ⟨m, fun _ => 0, g⟩ (fun r => (∀ c : Dev Cert.GradFf2RefIdeal.nD,
      r.2.mem ((c.tc : Thread Cert.GradFf2RefIdeal.nD Cert.GradFf2RefIdeal.τ).loc Cert.GradFf2RefIdeal.main_arg0) = m ((c.tc : Thread Cert.GradFf2RefIdeal.nD Cert.GradFf2RefIdeal.τ).loc Cert.GradFf2RefIdeal.main_arg0)
      ∧ r.2.mem ((c.tc : Thread Cert.GradFf2RefIdeal.nD Cert.GradFf2RefIdeal.τ).loc Cert.GradFf2RefIdeal.main_arg1) = m ((c.tc : Thread Cert.GradFf2RefIdeal.nD Cert.GradFf2RefIdeal.τ).loc Cert.GradFf2RefIdeal.main_arg1))
      ∧ r.2.sem = fun _ => 0)

def quiescent_GradFf1 [hGradFf1 : Cert.GradFf1.Facts] : Prop :=
  ∀ (m : (ℓ : Loc Cert.GradFf1.nD Cert.GradFf1.τ Cert.GradFf1.sig) → Buf (Elt Bits) ℓ) (g : Dev Cert.GradFf1.nD → PrngReg), Pre_GradFf1 m →
    θ_run (Cert.GradFf1.defs (F := Bits)) (onTc (τ := Cert.GradFf1.τ) (Cert.GradFf1.main (F := Bits))) ⟨m, fun _ => 0, g⟩ (fun r => (∀ c : Dev Cert.GradFf1.nD,
      r.2.mem ((c.tc : Thread Cert.GradFf1.nD Cert.GradFf1.τ).loc Cert.GradFf1.main_arg0) = m ((c.tc : Thread Cert.GradFf1.nD Cert.GradFf1.τ).loc Cert.GradFf1.main_arg0)
      ∧ r.2.mem ((c.tc : Thread Cert.GradFf1.nD Cert.GradFf1.τ).loc Cert.GradFf1.main_arg1) = m ((c.tc : Thread Cert.GradFf1.nD Cert.GradFf1.τ).loc Cert.GradFf1.main_arg1))
      ∧ r.2.sem = fun _ => 0)

def quiescent_GradFf1Ideal [hGradFf1Ideal : Cert.GradFf1Ideal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg), Pre_GradFf1Ideal m →
    θ_run (Cert.GradFf1Ideal.defs (F := Ideal)) (onTc (τ := Cert.GradFf1Ideal.τ) (Cert.GradFf1Ideal.main (F := Ideal))) ⟨m, fun _ => 0, g⟩ (fun r => (∀ c : Dev Cert.GradFf1Ideal.nD,
      r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
      ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ r.2.sem = fun _ => 0)

def quiescent_GradFf1RefIdeal [hGradFf1RefIdeal : Cert.GradFf1RefIdeal.Facts] : Prop :=
  ∀ (m : (ℓ : Loc Cert.GradFf1RefIdeal.nD Cert.GradFf1RefIdeal.τ Cert.GradFf1RefIdeal.sig) → Buf (Elt Ideal) ℓ) (g : Dev Cert.GradFf1RefIdeal.nD → PrngReg), Pre_GradFf1RefIdeal m →
    θ_run (Cert.GradFf1RefIdeal.defs (F := Ideal)) (onTc (τ := Cert.GradFf1RefIdeal.τ) (Cert.GradFf1RefIdeal.main (F := Ideal))) ⟨m, fun _ => 0, g⟩ (fun r => (∀ c : Dev Cert.GradFf1RefIdeal.nD,
      r.2.mem ((c.tc : Thread Cert.GradFf1RefIdeal.nD Cert.GradFf1RefIdeal.τ).loc Cert.GradFf1RefIdeal.main_arg0) = m ((c.tc : Thread Cert.GradFf1RefIdeal.nD Cert.GradFf1RefIdeal.τ).loc Cert.GradFf1RefIdeal.main_arg0)
      ∧ r.2.mem ((c.tc : Thread Cert.GradFf1RefIdeal.nD Cert.GradFf1RefIdeal.τ).loc Cert.GradFf1RefIdeal.main_arg1) = m ((c.tc : Thread Cert.GradFf1RefIdeal.nD Cert.GradFf1RefIdeal.τ).loc Cert.GradFf1RefIdeal.main_arg1))
      ∧ r.2.sem = fun _ => 0)

def quiescent_Ff1Bwd [hFf1Bwd : Cert.Ff1Bwd.Facts] : Prop :=
  ∀ (m : (ℓ : Loc Cert.Ff1Bwd.nD Cert.Ff1Bwd.τ Cert.Ff1Bwd.sig) → Buf (Elt Bits) ℓ) (g : Dev Cert.Ff1Bwd.nD → PrngReg), Pre_Ff1Bwd m →
    θ_run (Cert.Ff1Bwd.defs (F := Bits)) (onTc (τ := Cert.Ff1Bwd.τ) (Cert.Ff1Bwd.main (F := Bits))) ⟨m, fun _ => 0, g⟩ (fun r => (∀ c : Dev Cert.Ff1Bwd.nD,
      r.2.mem ((c.tc : Thread Cert.Ff1Bwd.nD Cert.Ff1Bwd.τ).loc Cert.Ff1Bwd.main_arg0) = m ((c.tc : Thread Cert.Ff1Bwd.nD Cert.Ff1Bwd.τ).loc Cert.Ff1Bwd.main_arg0)
      ∧ r.2.mem ((c.tc : Thread Cert.Ff1Bwd.nD Cert.Ff1Bwd.τ).loc Cert.Ff1Bwd.main_arg1) = m ((c.tc : Thread Cert.Ff1Bwd.nD Cert.Ff1Bwd.τ).loc Cert.Ff1Bwd.main_arg1)
      ∧ r.2.mem ((c.tc : Thread Cert.Ff1Bwd.nD Cert.Ff1Bwd.τ).loc Cert.Ff1Bwd.main_arg2) = m ((c.tc : Thread Cert.Ff1Bwd.nD Cert.Ff1Bwd.τ).loc Cert.Ff1Bwd.main_arg2))
      ∧ r.2.sem = fun _ => 0)

def quiescent_Ff1BwdIdeal [hFf1BwdIdeal : Cert.Ff1BwdIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg), Pre_Ff1BwdIdeal m →
    θ_run (Cert.Ff1BwdIdeal.defs (F := Ideal)) (onTc (τ := Cert.Ff1BwdIdeal.τ) (Cert.Ff1BwdIdeal.main (F := Ideal))) ⟨m, fun _ => 0, g⟩ (fun r => (∀ c : Dev Cert.Ff1BwdIdeal.nD,
      r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
      ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
      ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2))
      ∧ r.2.sem = fun _ => 0)

def quiescent_Ff1BwdRefIdeal [hFf1BwdRefIdeal : Cert.Ff1BwdRefIdeal.Facts] : Prop :=
  ∀ (m : (ℓ : Loc Cert.Ff1BwdRefIdeal.nD Cert.Ff1BwdRefIdeal.τ Cert.Ff1BwdRefIdeal.sig) → Buf (Elt Ideal) ℓ) (g : Dev Cert.Ff1BwdRefIdeal.nD → PrngReg), Pre_Ff1BwdRefIdeal m →
    θ_run (Cert.Ff1BwdRefIdeal.defs (F := Ideal)) (onTc (τ := Cert.Ff1BwdRefIdeal.τ) (Cert.Ff1BwdRefIdeal.main (F := Ideal))) ⟨m, fun _ => 0, g⟩ (fun r => (∀ c : Dev Cert.Ff1BwdRefIdeal.nD,
      r.2.mem ((c.tc : Thread Cert.Ff1BwdRefIdeal.nD Cert.Ff1BwdRefIdeal.τ).loc Cert.Ff1BwdRefIdeal.main_arg0) = m ((c.tc : Thread Cert.Ff1BwdRefIdeal.nD Cert.Ff1BwdRefIdeal.τ).loc Cert.Ff1BwdRefIdeal.main_arg0)
      ∧ r.2.mem ((c.tc : Thread Cert.Ff1BwdRefIdeal.nD Cert.Ff1BwdRefIdeal.τ).loc Cert.Ff1BwdRefIdeal.main_arg1) = m ((c.tc : Thread Cert.Ff1BwdRefIdeal.nD Cert.Ff1BwdRefIdeal.τ).loc Cert.Ff1BwdRefIdeal.main_arg1)
      ∧ r.2.mem ((c.tc : Thread Cert.Ff1BwdRefIdeal.nD Cert.Ff1BwdRefIdeal.τ).loc Cert.Ff1BwdRefIdeal.main_arg2) = m ((c.tc : Thread Cert.Ff1BwdRefIdeal.nD Cert.Ff1BwdRefIdeal.τ).loc Cert.Ff1BwdRefIdeal.main_arg2))
      ∧ r.2.sem = fun _ => 0)

def quiescent_ProjInA [hProjInA : Cert.ProjInA.Facts] : Prop :=
  ∀ (m : (ℓ : Loc Cert.ProjInA.nD Cert.ProjInA.τ Cert.ProjInA.sig) → Buf (Elt Bits) ℓ) (g : Dev Cert.ProjInA.nD → PrngReg), Pre_ProjInA m →
    θ_run (Cert.ProjInA.defs (F := Bits)) (onTc (τ := Cert.ProjInA.τ) (Cert.ProjInA.main (F := Bits))) ⟨m, fun _ => 0, g⟩ (fun r => (∀ c : Dev Cert.ProjInA.nD,
      r.2.mem ((c.tc : Thread Cert.ProjInA.nD Cert.ProjInA.τ).loc Cert.ProjInA.main_arg0) = m ((c.tc : Thread Cert.ProjInA.nD Cert.ProjInA.τ).loc Cert.ProjInA.main_arg0)
      ∧ r.2.mem ((c.tc : Thread Cert.ProjInA.nD Cert.ProjInA.τ).loc Cert.ProjInA.main_arg1) = m ((c.tc : Thread Cert.ProjInA.nD Cert.ProjInA.τ).loc Cert.ProjInA.main_arg1))
      ∧ r.2.sem = fun _ => 0)

def quiescent_ProjInAIdeal [hProjInAIdeal : Cert.ProjInAIdeal.Facts] : Prop :=
  ∀ (m : (ℓ : Loc Cert.ProjInAIdeal.nD Cert.ProjInAIdeal.τ Cert.ProjInAIdeal.sig) → Buf (Elt Ideal) ℓ) (g : Dev Cert.ProjInAIdeal.nD → PrngReg), Pre_ProjInAIdeal m →
    θ_run (Cert.ProjInAIdeal.defs (F := Ideal)) (onTc (τ := Cert.ProjInAIdeal.τ) (Cert.ProjInAIdeal.main (F := Ideal))) ⟨m, fun _ => 0, g⟩ (fun r => (∀ c : Dev Cert.ProjInAIdeal.nD,
      r.2.mem ((c.tc : Thread Cert.ProjInAIdeal.nD Cert.ProjInAIdeal.τ).loc Cert.ProjInAIdeal.main_arg0) = m ((c.tc : Thread Cert.ProjInAIdeal.nD Cert.ProjInAIdeal.τ).loc Cert.ProjInAIdeal.main_arg0)
      ∧ r.2.mem ((c.tc : Thread Cert.ProjInAIdeal.nD Cert.ProjInAIdeal.τ).loc Cert.ProjInAIdeal.main_arg1) = m ((c.tc : Thread Cert.ProjInAIdeal.nD Cert.ProjInAIdeal.τ).loc Cert.ProjInAIdeal.main_arg1))
      ∧ r.2.sem = fun _ => 0)

def quiescent_ProjInARefIdeal [hProjInARefIdeal : Cert.ProjInARefIdeal.Facts] : Prop :=
  ∀ (m : (ℓ : Loc Cert.ProjInARefIdeal.nD Cert.ProjInARefIdeal.τ Cert.ProjInARefIdeal.sig) → Buf (Elt Ideal) ℓ) (g : Dev Cert.ProjInARefIdeal.nD → PrngReg), Pre_ProjInARefIdeal m →
    θ_run (Cert.ProjInARefIdeal.defs (F := Ideal)) (onTc (τ := Cert.ProjInARefIdeal.τ) (Cert.ProjInARefIdeal.main (F := Ideal))) ⟨m, fun _ => 0, g⟩ (fun r => (∀ c : Dev Cert.ProjInARefIdeal.nD,
      r.2.mem ((c.tc : Thread Cert.ProjInARefIdeal.nD Cert.ProjInARefIdeal.τ).loc Cert.ProjInARefIdeal.main_arg0) = m ((c.tc : Thread Cert.ProjInARefIdeal.nD Cert.ProjInARefIdeal.τ).loc Cert.ProjInARefIdeal.main_arg0)
      ∧ r.2.mem ((c.tc : Thread Cert.ProjInARefIdeal.nD Cert.ProjInARefIdeal.τ).loc Cert.ProjInARefIdeal.main_arg1) = m ((c.tc : Thread Cert.ProjInARefIdeal.nD Cert.ProjInARefIdeal.τ).loc Cert.ProjInARefIdeal.main_arg1))
      ∧ r.2.sem = fun _ => 0)

def quiescent_ProjInB [hProjInB : Cert.ProjInB.Facts] : Prop :=
  ∀ (m : (ℓ : Loc Cert.ProjInB.nD Cert.ProjInB.τ Cert.ProjInB.sig) → Buf (Elt Bits) ℓ) (g : Dev Cert.ProjInB.nD → PrngReg), Pre_ProjInB m →
    θ_run (Cert.ProjInB.defs (F := Bits)) (onTc (τ := Cert.ProjInB.τ) (Cert.ProjInB.main (F := Bits))) ⟨m, fun _ => 0, g⟩ (fun r => (∀ c : Dev Cert.ProjInB.nD,
      r.2.mem ((c.tc : Thread Cert.ProjInB.nD Cert.ProjInB.τ).loc Cert.ProjInB.main_arg0) = m ((c.tc : Thread Cert.ProjInB.nD Cert.ProjInB.τ).loc Cert.ProjInB.main_arg0)
      ∧ r.2.mem ((c.tc : Thread Cert.ProjInB.nD Cert.ProjInB.τ).loc Cert.ProjInB.main_arg1) = m ((c.tc : Thread Cert.ProjInB.nD Cert.ProjInB.τ).loc Cert.ProjInB.main_arg1))
      ∧ r.2.sem = fun _ => 0)

def quiescent_ProjInBIdeal [hProjInBIdeal : Cert.ProjInBIdeal.Facts] : Prop :=
  ∀ (m : (ℓ : Loc Cert.ProjInBIdeal.nD Cert.ProjInBIdeal.τ Cert.ProjInBIdeal.sig) → Buf (Elt Ideal) ℓ) (g : Dev Cert.ProjInBIdeal.nD → PrngReg), Pre_ProjInBIdeal m →
    θ_run (Cert.ProjInBIdeal.defs (F := Ideal)) (onTc (τ := Cert.ProjInBIdeal.τ) (Cert.ProjInBIdeal.main (F := Ideal))) ⟨m, fun _ => 0, g⟩ (fun r => (∀ c : Dev Cert.ProjInBIdeal.nD,
      r.2.mem ((c.tc : Thread Cert.ProjInBIdeal.nD Cert.ProjInBIdeal.τ).loc Cert.ProjInBIdeal.main_arg0) = m ((c.tc : Thread Cert.ProjInBIdeal.nD Cert.ProjInBIdeal.τ).loc Cert.ProjInBIdeal.main_arg0)
      ∧ r.2.mem ((c.tc : Thread Cert.ProjInBIdeal.nD Cert.ProjInBIdeal.τ).loc Cert.ProjInBIdeal.main_arg1) = m ((c.tc : Thread Cert.ProjInBIdeal.nD Cert.ProjInBIdeal.τ).loc Cert.ProjInBIdeal.main_arg1))
      ∧ r.2.sem = fun _ => 0)

def quiescent_ProjInBRefIdeal [hProjInBRefIdeal : Cert.ProjInBRefIdeal.Facts] : Prop :=
  ∀ (m : (ℓ : Loc Cert.ProjInBRefIdeal.nD Cert.ProjInBRefIdeal.τ Cert.ProjInBRefIdeal.sig) → Buf (Elt Ideal) ℓ) (g : Dev Cert.ProjInBRefIdeal.nD → PrngReg), Pre_ProjInBRefIdeal m →
    θ_run (Cert.ProjInBRefIdeal.defs (F := Ideal)) (onTc (τ := Cert.ProjInBRefIdeal.τ) (Cert.ProjInBRefIdeal.main (F := Ideal))) ⟨m, fun _ => 0, g⟩ (fun r => (∀ c : Dev Cert.ProjInBRefIdeal.nD,
      r.2.mem ((c.tc : Thread Cert.ProjInBRefIdeal.nD Cert.ProjInBRefIdeal.τ).loc Cert.ProjInBRefIdeal.main_arg0) = m ((c.tc : Thread Cert.ProjInBRefIdeal.nD Cert.ProjInBRefIdeal.τ).loc Cert.ProjInBRefIdeal.main_arg0)
      ∧ r.2.mem ((c.tc : Thread Cert.ProjInBRefIdeal.nD Cert.ProjInBRefIdeal.τ).loc Cert.ProjInBRefIdeal.main_arg1) = m ((c.tc : Thread Cert.ProjInBRefIdeal.nD Cert.ProjInBRefIdeal.τ).loc Cert.ProjInBRefIdeal.main_arg1))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_ProjOutBwd [hProjOutBwd : Cert.ProjOutBwd.Facts] : Prop :=
  ∀ (m : (ℓ : Loc Cert.ProjOutBwd.nD Cert.ProjOutBwd.τ Cert.ProjOutBwd.sig) → Buf (Elt Bits) ℓ) (g : Dev Cert.ProjOutBwd.nD → PrngReg), Pre_ProjOutBwd m →
    θ_run (Cert.ProjOutBwd.defs (F := Bits)) (onTc (τ := Cert.ProjOutBwd.τ) (Cert.ProjOutBwd.main (F := Bits))) ⟨m, fun _ => 0, g⟩ (fun r => (∀ c : Dev Cert.ProjOutBwd.nD,
      r.2.mem ((c.tc : Thread Cert.ProjOutBwd.nD Cert.ProjOutBwd.τ).loc Cert.ProjOutBwd.main_arg0) = m ((c.tc : Thread Cert.ProjOutBwd.nD Cert.ProjOutBwd.τ).loc Cert.ProjOutBwd.main_arg0)
      ∧ r.2.mem ((c.tc : Thread Cert.ProjOutBwd.nD Cert.ProjOutBwd.τ).loc Cert.ProjOutBwd.main_arg1) = m ((c.tc : Thread Cert.ProjOutBwd.nD Cert.ProjOutBwd.τ).loc Cert.ProjOutBwd.main_arg1))
      ∧ r.2.sem = fun _ => 0)

def quiescent_ProjOutBwdIdeal [hProjOutBwdIdeal : Cert.ProjOutBwdIdeal.Facts] : Prop :=
  ∀ (m : (ℓ : Loc Cert.ProjOutBwdIdeal.nD Cert.ProjOutBwdIdeal.τ Cert.ProjOutBwdIdeal.sig) → Buf (Elt Ideal) ℓ) (g : Dev Cert.ProjOutBwdIdeal.nD → PrngReg), Pre_ProjOutBwdIdeal m →
    θ_run (Cert.ProjOutBwdIdeal.defs (F := Ideal)) (onTc (τ := Cert.ProjOutBwdIdeal.τ) (Cert.ProjOutBwdIdeal.main (F := Ideal))) ⟨m, fun _ => 0, g⟩ (fun r => (∀ c : Dev Cert.ProjOutBwdIdeal.nD,
      r.2.mem ((c.tc : Thread Cert.ProjOutBwdIdeal.nD Cert.ProjOutBwdIdeal.τ).loc Cert.ProjOutBwdIdeal.main_arg0) = m ((c.tc : Thread Cert.ProjOutBwdIdeal.nD Cert.ProjOutBwdIdeal.τ).loc Cert.ProjOutBwdIdeal.main_arg0)
      ∧ r.2.mem ((c.tc : Thread Cert.ProjOutBwdIdeal.nD Cert.ProjOutBwdIdeal.τ).loc Cert.ProjOutBwdIdeal.main_arg1) = m ((c.tc : Thread Cert.ProjOutBwdIdeal.nD Cert.ProjOutBwdIdeal.τ).loc Cert.ProjOutBwdIdeal.main_arg1))
      ∧ r.2.sem = fun _ => 0)

def quiescent_ProjOutBwdRefIdeal [hProjOutBwdRefIdeal : Cert.ProjOutBwdRefIdeal.Facts] : Prop :=
  ∀ (m : (ℓ : Loc Cert.ProjOutBwdRefIdeal.nD Cert.ProjOutBwdRefIdeal.τ Cert.ProjOutBwdRefIdeal.sig) → Buf (Elt Ideal) ℓ) (g : Dev Cert.ProjOutBwdRefIdeal.nD → PrngReg), Pre_ProjOutBwdRefIdeal m →
    θ_run (Cert.ProjOutBwdRefIdeal.defs (F := Ideal)) (onTc (τ := Cert.ProjOutBwdRefIdeal.τ) (Cert.ProjOutBwdRefIdeal.main (F := Ideal))) ⟨m, fun _ => 0, g⟩ (fun r => (∀ c : Dev Cert.ProjOutBwdRefIdeal.nD,
      r.2.mem ((c.tc : Thread Cert.ProjOutBwdRefIdeal.nD Cert.ProjOutBwdRefIdeal.τ).loc Cert.ProjOutBwdRefIdeal.main_arg0) = m ((c.tc : Thread Cert.ProjOutBwdRefIdeal.nD Cert.ProjOutBwdRefIdeal.τ).loc Cert.ProjOutBwdRefIdeal.main_arg0)
      ∧ r.2.mem ((c.tc : Thread Cert.ProjOutBwdRefIdeal.nD Cert.ProjOutBwdRefIdeal.τ).loc Cert.ProjOutBwdRefIdeal.main_arg1) = m ((c.tc : Thread Cert.ProjOutBwdRefIdeal.nD Cert.ProjOutBwdRefIdeal.τ).loc Cert.ProjOutBwdRefIdeal.main_arg1))
      ∧ r.2.sem = fun _ => 0)

def quiescent_GradKv [hGradKv : Cert.GradKv.Facts] : Prop :=
  ∀ (m : (ℓ : Loc Cert.GradKv.nD Cert.GradKv.τ Cert.GradKv.sig) → Buf (Elt Bits) ℓ) (g : Dev Cert.GradKv.nD → PrngReg), Pre_GradKv m →
    θ_run (Cert.GradKv.defs (F := Bits)) (onTc (τ := Cert.GradKv.τ) (Cert.GradKv.main (F := Bits))) ⟨m, fun _ => 0, g⟩ (fun r => (∀ c : Dev Cert.GradKv.nD,
      r.2.mem ((c.tc : Thread Cert.GradKv.nD Cert.GradKv.τ).loc Cert.GradKv.main_arg0) = m ((c.tc : Thread Cert.GradKv.nD Cert.GradKv.τ).loc Cert.GradKv.main_arg0)
      ∧ r.2.mem ((c.tc : Thread Cert.GradKv.nD Cert.GradKv.τ).loc Cert.GradKv.main_arg1) = m ((c.tc : Thread Cert.GradKv.nD Cert.GradKv.τ).loc Cert.GradKv.main_arg1))
      ∧ r.2.sem = fun _ => 0)

def quiescent_GradKvIdeal [hGradKvIdeal : Cert.GradKvIdeal.Facts] : Prop :=
  ∀ (m : (ℓ : Loc Cert.GradKvIdeal.nD Cert.GradKvIdeal.τ Cert.GradKvIdeal.sig) → Buf (Elt Ideal) ℓ) (g : Dev Cert.GradKvIdeal.nD → PrngReg), Pre_GradKvIdeal m →
    θ_run (Cert.GradKvIdeal.defs (F := Ideal)) (onTc (τ := Cert.GradKvIdeal.τ) (Cert.GradKvIdeal.main (F := Ideal))) ⟨m, fun _ => 0, g⟩ (fun r => (∀ c : Dev Cert.GradKvIdeal.nD,
      r.2.mem ((c.tc : Thread Cert.GradKvIdeal.nD Cert.GradKvIdeal.τ).loc Cert.GradKvIdeal.main_arg0) = m ((c.tc : Thread Cert.GradKvIdeal.nD Cert.GradKvIdeal.τ).loc Cert.GradKvIdeal.main_arg0)
      ∧ r.2.mem ((c.tc : Thread Cert.GradKvIdeal.nD Cert.GradKvIdeal.τ).loc Cert.GradKvIdeal.main_arg1) = m ((c.tc : Thread Cert.GradKvIdeal.nD Cert.GradKvIdeal.τ).loc Cert.GradKvIdeal.main_arg1))
      ∧ r.2.sem = fun _ => 0)

def quiescent_GradKvRefIdeal [hGradKvRefIdeal : Cert.GradKvRefIdeal.Facts] : Prop :=
  ∀ (m : (ℓ : Loc Cert.GradKvRefIdeal.nD Cert.GradKvRefIdeal.τ Cert.GradKvRefIdeal.sig) → Buf (Elt Ideal) ℓ) (g : Dev Cert.GradKvRefIdeal.nD → PrngReg), Pre_GradKvRefIdeal m →
    θ_run (Cert.GradKvRefIdeal.defs (F := Ideal)) (onTc (τ := Cert.GradKvRefIdeal.τ) (Cert.GradKvRefIdeal.main (F := Ideal))) ⟨m, fun _ => 0, g⟩ (fun r => (∀ c : Dev Cert.GradKvRefIdeal.nD,
      r.2.mem ((c.tc : Thread Cert.GradKvRefIdeal.nD Cert.GradKvRefIdeal.τ).loc Cert.GradKvRefIdeal.main_arg0) = m ((c.tc : Thread Cert.GradKvRefIdeal.nD Cert.GradKvRefIdeal.τ).loc Cert.GradKvRefIdeal.main_arg0)
      ∧ r.2.mem ((c.tc : Thread Cert.GradKvRefIdeal.nD Cert.GradKvRefIdeal.τ).loc Cert.GradKvRefIdeal.main_arg1) = m ((c.tc : Thread Cert.GradKvRefIdeal.nD Cert.GradKvRefIdeal.τ).loc Cert.GradKvRefIdeal.main_arg1))
      ∧ r.2.sem = fun _ => 0)

def quiescent_GradInA [hGradInA : Cert.GradInA.Facts] : Prop :=
  ∀ (m : (ℓ : Loc Cert.GradInA.nD Cert.GradInA.τ Cert.GradInA.sig) → Buf (Elt Bits) ℓ) (g : Dev Cert.GradInA.nD → PrngReg), Pre_GradInA m →
    θ_run (Cert.GradInA.defs (F := Bits)) (onTc (τ := Cert.GradInA.τ) (Cert.GradInA.main (F := Bits))) ⟨m, fun _ => 0, g⟩ (fun r => (∀ c : Dev Cert.GradInA.nD,
      r.2.mem ((c.tc : Thread Cert.GradInA.nD Cert.GradInA.τ).loc Cert.GradInA.main_arg0) = m ((c.tc : Thread Cert.GradInA.nD Cert.GradInA.τ).loc Cert.GradInA.main_arg0)
      ∧ r.2.mem ((c.tc : Thread Cert.GradInA.nD Cert.GradInA.τ).loc Cert.GradInA.main_arg1) = m ((c.tc : Thread Cert.GradInA.nD Cert.GradInA.τ).loc Cert.GradInA.main_arg1))
      ∧ r.2.sem = fun _ => 0)

def quiescent_GradInAIdeal [hGradInAIdeal : Cert.GradInAIdeal.Facts] : Prop :=
  ∀ (m : (ℓ : Loc Cert.GradInAIdeal.nD Cert.GradInAIdeal.τ Cert.GradInAIdeal.sig) → Buf (Elt Ideal) ℓ) (g : Dev Cert.GradInAIdeal.nD → PrngReg), Pre_GradInAIdeal m →
    θ_run (Cert.GradInAIdeal.defs (F := Ideal)) (onTc (τ := Cert.GradInAIdeal.τ) (Cert.GradInAIdeal.main (F := Ideal))) ⟨m, fun _ => 0, g⟩ (fun r => (∀ c : Dev Cert.GradInAIdeal.nD,
      r.2.mem ((c.tc : Thread Cert.GradInAIdeal.nD Cert.GradInAIdeal.τ).loc Cert.GradInAIdeal.main_arg0) = m ((c.tc : Thread Cert.GradInAIdeal.nD Cert.GradInAIdeal.τ).loc Cert.GradInAIdeal.main_arg0)
      ∧ r.2.mem ((c.tc : Thread Cert.GradInAIdeal.nD Cert.GradInAIdeal.τ).loc Cert.GradInAIdeal.main_arg1) = m ((c.tc : Thread Cert.GradInAIdeal.nD Cert.GradInAIdeal.τ).loc Cert.GradInAIdeal.main_arg1))
      ∧ r.2.sem = fun _ => 0)

def quiescent_GradInARefIdeal [hGradInARefIdeal : Cert.GradInARefIdeal.Facts] : Prop :=
  ∀ (m : (ℓ : Loc Cert.GradInARefIdeal.nD Cert.GradInARefIdeal.τ Cert.GradInARefIdeal.sig) → Buf (Elt Ideal) ℓ) (g : Dev Cert.GradInARefIdeal.nD → PrngReg), Pre_GradInARefIdeal m →
    θ_run (Cert.GradInARefIdeal.defs (F := Ideal)) (onTc (τ := Cert.GradInARefIdeal.τ) (Cert.GradInARefIdeal.main (F := Ideal))) ⟨m, fun _ => 0, g⟩ (fun r => (∀ c : Dev Cert.GradInARefIdeal.nD,
      r.2.mem ((c.tc : Thread Cert.GradInARefIdeal.nD Cert.GradInARefIdeal.τ).loc Cert.GradInARefIdeal.main_arg0) = m ((c.tc : Thread Cert.GradInARefIdeal.nD Cert.GradInARefIdeal.τ).loc Cert.GradInARefIdeal.main_arg0)
      ∧ r.2.mem ((c.tc : Thread Cert.GradInARefIdeal.nD Cert.GradInARefIdeal.τ).loc Cert.GradInARefIdeal.main_arg1) = m ((c.tc : Thread Cert.GradInARefIdeal.nD Cert.GradInARefIdeal.τ).loc Cert.GradInARefIdeal.main_arg1))
      ∧ r.2.sem = fun _ => 0)

def quiescent_GradInB [hGradInB : Cert.GradInB.Facts] : Prop :=
  ∀ (m : (ℓ : Loc Cert.GradInB.nD Cert.GradInB.τ Cert.GradInB.sig) → Buf (Elt Bits) ℓ) (g : Dev Cert.GradInB.nD → PrngReg), Pre_GradInB m →
    θ_run (Cert.GradInB.defs (F := Bits)) (onTc (τ := Cert.GradInB.τ) (Cert.GradInB.main (F := Bits))) ⟨m, fun _ => 0, g⟩ (fun r => (∀ c : Dev Cert.GradInB.nD,
      r.2.mem ((c.tc : Thread Cert.GradInB.nD Cert.GradInB.τ).loc Cert.GradInB.main_arg0) = m ((c.tc : Thread Cert.GradInB.nD Cert.GradInB.τ).loc Cert.GradInB.main_arg0)
      ∧ r.2.mem ((c.tc : Thread Cert.GradInB.nD Cert.GradInB.τ).loc Cert.GradInB.main_arg1) = m ((c.tc : Thread Cert.GradInB.nD Cert.GradInB.τ).loc Cert.GradInB.main_arg1))
      ∧ r.2.sem = fun _ => 0)

def quiescent_GradInBIdeal [hGradInBIdeal : Cert.GradInBIdeal.Facts] : Prop :=
  ∀ (m : (ℓ : Loc Cert.GradInBIdeal.nD Cert.GradInBIdeal.τ Cert.GradInBIdeal.sig) → Buf (Elt Ideal) ℓ) (g : Dev Cert.GradInBIdeal.nD → PrngReg), Pre_GradInBIdeal m →
    θ_run (Cert.GradInBIdeal.defs (F := Ideal)) (onTc (τ := Cert.GradInBIdeal.τ) (Cert.GradInBIdeal.main (F := Ideal))) ⟨m, fun _ => 0, g⟩ (fun r => (∀ c : Dev Cert.GradInBIdeal.nD,
      r.2.mem ((c.tc : Thread Cert.GradInBIdeal.nD Cert.GradInBIdeal.τ).loc Cert.GradInBIdeal.main_arg0) = m ((c.tc : Thread Cert.GradInBIdeal.nD Cert.GradInBIdeal.τ).loc Cert.GradInBIdeal.main_arg0)
      ∧ r.2.mem ((c.tc : Thread Cert.GradInBIdeal.nD Cert.GradInBIdeal.τ).loc Cert.GradInBIdeal.main_arg1) = m ((c.tc : Thread Cert.GradInBIdeal.nD Cert.GradInBIdeal.τ).loc Cert.GradInBIdeal.main_arg1))
      ∧ r.2.sem = fun _ => 0)

def quiescent_GradInBRefIdeal [hGradInBRefIdeal : Cert.GradInBRefIdeal.Facts] : Prop :=
  ∀ (m : (ℓ : Loc Cert.GradInBRefIdeal.nD Cert.GradInBRefIdeal.τ Cert.GradInBRefIdeal.sig) → Buf (Elt Ideal) ℓ) (g : Dev Cert.GradInBRefIdeal.nD → PrngReg), Pre_GradInBRefIdeal m →
    θ_run (Cert.GradInBRefIdeal.defs (F := Ideal)) (onTc (τ := Cert.GradInBRefIdeal.τ) (Cert.GradInBRefIdeal.main (F := Ideal))) ⟨m, fun _ => 0, g⟩ (fun r => (∀ c : Dev Cert.GradInBRefIdeal.nD,
      r.2.mem ((c.tc : Thread Cert.GradInBRefIdeal.nD Cert.GradInBRefIdeal.τ).loc Cert.GradInBRefIdeal.main_arg0) = m ((c.tc : Thread Cert.GradInBRefIdeal.nD Cert.GradInBRefIdeal.τ).loc Cert.GradInBRefIdeal.main_arg0)
      ∧ r.2.mem ((c.tc : Thread Cert.GradInBRefIdeal.nD Cert.GradInBRefIdeal.τ).loc Cert.GradInBRefIdeal.main_arg1) = m ((c.tc : Thread Cert.GradInBRefIdeal.nD Cert.GradInBRefIdeal.τ).loc Cert.GradInBRefIdeal.main_arg1))
      ∧ r.2.sem = fun _ => 0)

def quiescent_ProjInBwdA [hProjInBwdA : Cert.ProjInBwdA.Facts] : Prop :=
  ∀ (m : (ℓ : Loc Cert.ProjInBwdA.nD Cert.ProjInBwdA.τ Cert.ProjInBwdA.sig) → Buf (Elt Bits) ℓ) (g : Dev Cert.ProjInBwdA.nD → PrngReg), Pre_ProjInBwdA m →
    θ_run (Cert.ProjInBwdA.defs (F := Bits)) (onTc (τ := Cert.ProjInBwdA.τ) (Cert.ProjInBwdA.main (F := Bits))) ⟨m, fun _ => 0, g⟩ (fun r => (∀ c : Dev Cert.ProjInBwdA.nD,
      r.2.mem ((c.tc : Thread Cert.ProjInBwdA.nD Cert.ProjInBwdA.τ).loc Cert.ProjInBwdA.main_arg0) = m ((c.tc : Thread Cert.ProjInBwdA.nD Cert.ProjInBwdA.τ).loc Cert.ProjInBwdA.main_arg0)
      ∧ r.2.mem ((c.tc : Thread Cert.ProjInBwdA.nD Cert.ProjInBwdA.τ).loc Cert.ProjInBwdA.main_arg1) = m ((c.tc : Thread Cert.ProjInBwdA.nD Cert.ProjInBwdA.τ).loc Cert.ProjInBwdA.main_arg1)
      ∧ r.2.mem ((c.tc : Thread Cert.ProjInBwdA.nD Cert.ProjInBwdA.τ).loc Cert.ProjInBwdA.main_arg2) = m ((c.tc : Thread Cert.ProjInBwdA.nD Cert.ProjInBwdA.τ).loc Cert.ProjInBwdA.main_arg2))
      ∧ r.2.sem = fun _ => 0)

def quiescent_ProjInBwdAIdeal [hProjInBwdAIdeal : Cert.ProjInBwdAIdeal.Facts] : Prop :=
  ∀ (m : (ℓ : Loc Cert.ProjInBwdAIdeal.nD Cert.ProjInBwdAIdeal.τ Cert.ProjInBwdAIdeal.sig) → Buf (Elt Ideal) ℓ) (g : Dev Cert.ProjInBwdAIdeal.nD → PrngReg), Pre_ProjInBwdAIdeal m →
    θ_run (Cert.ProjInBwdAIdeal.defs (F := Ideal)) (onTc (τ := Cert.ProjInBwdAIdeal.τ) (Cert.ProjInBwdAIdeal.main (F := Ideal))) ⟨m, fun _ => 0, g⟩ (fun r => (∀ c : Dev Cert.ProjInBwdAIdeal.nD,
      r.2.mem ((c.tc : Thread Cert.ProjInBwdAIdeal.nD Cert.ProjInBwdAIdeal.τ).loc Cert.ProjInBwdAIdeal.main_arg0) = m ((c.tc : Thread Cert.ProjInBwdAIdeal.nD Cert.ProjInBwdAIdeal.τ).loc Cert.ProjInBwdAIdeal.main_arg0)
      ∧ r.2.mem ((c.tc : Thread Cert.ProjInBwdAIdeal.nD Cert.ProjInBwdAIdeal.τ).loc Cert.ProjInBwdAIdeal.main_arg1) = m ((c.tc : Thread Cert.ProjInBwdAIdeal.nD Cert.ProjInBwdAIdeal.τ).loc Cert.ProjInBwdAIdeal.main_arg1)
      ∧ r.2.mem ((c.tc : Thread Cert.ProjInBwdAIdeal.nD Cert.ProjInBwdAIdeal.τ).loc Cert.ProjInBwdAIdeal.main_arg2) = m ((c.tc : Thread Cert.ProjInBwdAIdeal.nD Cert.ProjInBwdAIdeal.τ).loc Cert.ProjInBwdAIdeal.main_arg2))
      ∧ r.2.sem = fun _ => 0)

def quiescent_ProjInBwdARefIdeal [hProjInBwdARefIdeal : Cert.ProjInBwdARefIdeal.Facts] : Prop :=
  ∀ (m : (ℓ : Loc Cert.ProjInBwdARefIdeal.nD Cert.ProjInBwdARefIdeal.τ Cert.ProjInBwdARefIdeal.sig) → Buf (Elt Ideal) ℓ) (g : Dev Cert.ProjInBwdARefIdeal.nD → PrngReg), Pre_ProjInBwdARefIdeal m →
    θ_run (Cert.ProjInBwdARefIdeal.defs (F := Ideal)) (onTc (τ := Cert.ProjInBwdARefIdeal.τ) (Cert.ProjInBwdARefIdeal.main (F := Ideal))) ⟨m, fun _ => 0, g⟩ (fun r => (∀ c : Dev Cert.ProjInBwdARefIdeal.nD,
      r.2.mem ((c.tc : Thread Cert.ProjInBwdARefIdeal.nD Cert.ProjInBwdARefIdeal.τ).loc Cert.ProjInBwdARefIdeal.main_arg0) = m ((c.tc : Thread Cert.ProjInBwdARefIdeal.nD Cert.ProjInBwdARefIdeal.τ).loc Cert.ProjInBwdARefIdeal.main_arg0)
      ∧ r.2.mem ((c.tc : Thread Cert.ProjInBwdARefIdeal.nD Cert.ProjInBwdARefIdeal.τ).loc Cert.ProjInBwdARefIdeal.main_arg1) = m ((c.tc : Thread Cert.ProjInBwdARefIdeal.nD Cert.ProjInBwdARefIdeal.τ).loc Cert.ProjInBwdARefIdeal.main_arg1)
      ∧ r.2.mem ((c.tc : Thread Cert.ProjInBwdARefIdeal.nD Cert.ProjInBwdARefIdeal.τ).loc Cert.ProjInBwdARefIdeal.main_arg2) = m ((c.tc : Thread Cert.ProjInBwdARefIdeal.nD Cert.ProjInBwdARefIdeal.τ).loc Cert.ProjInBwdARefIdeal.main_arg2))
      ∧ r.2.sem = fun _ => 0)

def quiescent_ProjInBwdB [hProjInBwdB : Cert.ProjInBwdB.Facts] : Prop :=
  ∀ (m : (ℓ : Loc Cert.ProjInBwdB.nD Cert.ProjInBwdB.τ Cert.ProjInBwdB.sig) → Buf (Elt Bits) ℓ) (g : Dev Cert.ProjInBwdB.nD → PrngReg), Pre_ProjInBwdB m →
    θ_run (Cert.ProjInBwdB.defs (F := Bits)) (onTc (τ := Cert.ProjInBwdB.τ) (Cert.ProjInBwdB.main (F := Bits))) ⟨m, fun _ => 0, g⟩ (fun r => (∀ c : Dev Cert.ProjInBwdB.nD,
      r.2.mem ((c.tc : Thread Cert.ProjInBwdB.nD Cert.ProjInBwdB.τ).loc Cert.ProjInBwdB.main_arg0) = m ((c.tc : Thread Cert.ProjInBwdB.nD Cert.ProjInBwdB.τ).loc Cert.ProjInBwdB.main_arg0)
      ∧ r.2.mem ((c.tc : Thread Cert.ProjInBwdB.nD Cert.ProjInBwdB.τ).loc Cert.ProjInBwdB.main_arg1) = m ((c.tc : Thread Cert.ProjInBwdB.nD Cert.ProjInBwdB.τ).loc Cert.ProjInBwdB.main_arg1)
      ∧ r.2.mem ((c.tc : Thread Cert.ProjInBwdB.nD Cert.ProjInBwdB.τ).loc Cert.ProjInBwdB.main_arg2) = m ((c.tc : Thread Cert.ProjInBwdB.nD Cert.ProjInBwdB.τ).loc Cert.ProjInBwdB.main_arg2))
      ∧ r.2.sem = fun _ => 0)

def quiescent_ProjInBwdBIdeal [hProjInBwdBIdeal : Cert.ProjInBwdBIdeal.Facts] : Prop :=
  ∀ (m : (ℓ : Loc Cert.ProjInBwdBIdeal.nD Cert.ProjInBwdBIdeal.τ Cert.ProjInBwdBIdeal.sig) → Buf (Elt Ideal) ℓ) (g : Dev Cert.ProjInBwdBIdeal.nD → PrngReg), Pre_ProjInBwdBIdeal m →
    θ_run (Cert.ProjInBwdBIdeal.defs (F := Ideal)) (onTc (τ := Cert.ProjInBwdBIdeal.τ) (Cert.ProjInBwdBIdeal.main (F := Ideal))) ⟨m, fun _ => 0, g⟩ (fun r => (∀ c : Dev Cert.ProjInBwdBIdeal.nD,
      r.2.mem ((c.tc : Thread Cert.ProjInBwdBIdeal.nD Cert.ProjInBwdBIdeal.τ).loc Cert.ProjInBwdBIdeal.main_arg0) = m ((c.tc : Thread Cert.ProjInBwdBIdeal.nD Cert.ProjInBwdBIdeal.τ).loc Cert.ProjInBwdBIdeal.main_arg0)
      ∧ r.2.mem ((c.tc : Thread Cert.ProjInBwdBIdeal.nD Cert.ProjInBwdBIdeal.τ).loc Cert.ProjInBwdBIdeal.main_arg1) = m ((c.tc : Thread Cert.ProjInBwdBIdeal.nD Cert.ProjInBwdBIdeal.τ).loc Cert.ProjInBwdBIdeal.main_arg1)
      ∧ r.2.mem ((c.tc : Thread Cert.ProjInBwdBIdeal.nD Cert.ProjInBwdBIdeal.τ).loc Cert.ProjInBwdBIdeal.main_arg2) = m ((c.tc : Thread Cert.ProjInBwdBIdeal.nD Cert.ProjInBwdBIdeal.τ).loc Cert.ProjInBwdBIdeal.main_arg2))
      ∧ r.2.sem = fun _ => 0)

def quiescent_ProjInBwdBRefIdeal [hProjInBwdBRefIdeal : Cert.ProjInBwdBRefIdeal.Facts] : Prop :=
  ∀ (m : (ℓ : Loc Cert.ProjInBwdBRefIdeal.nD Cert.ProjInBwdBRefIdeal.τ Cert.ProjInBwdBRefIdeal.sig) → Buf (Elt Ideal) ℓ) (g : Dev Cert.ProjInBwdBRefIdeal.nD → PrngReg), Pre_ProjInBwdBRefIdeal m →
    θ_run (Cert.ProjInBwdBRefIdeal.defs (F := Ideal)) (onTc (τ := Cert.ProjInBwdBRefIdeal.τ) (Cert.ProjInBwdBRefIdeal.main (F := Ideal))) ⟨m, fun _ => 0, g⟩ (fun r => (∀ c : Dev Cert.ProjInBwdBRefIdeal.nD,
      r.2.mem ((c.tc : Thread Cert.ProjInBwdBRefIdeal.nD Cert.ProjInBwdBRefIdeal.τ).loc Cert.ProjInBwdBRefIdeal.main_arg0) = m ((c.tc : Thread Cert.ProjInBwdBRefIdeal.nD Cert.ProjInBwdBRefIdeal.τ).loc Cert.ProjInBwdBRefIdeal.main_arg0)
      ∧ r.2.mem ((c.tc : Thread Cert.ProjInBwdBRefIdeal.nD Cert.ProjInBwdBRefIdeal.τ).loc Cert.ProjInBwdBRefIdeal.main_arg1) = m ((c.tc : Thread Cert.ProjInBwdBRefIdeal.nD Cert.ProjInBwdBRefIdeal.τ).loc Cert.ProjInBwdBRefIdeal.main_arg1)
      ∧ r.2.mem ((c.tc : Thread Cert.ProjInBwdBRefIdeal.nD Cert.ProjInBwdBRefIdeal.τ).loc Cert.ProjInBwdBRefIdeal.main_arg2) = m ((c.tc : Thread Cert.ProjInBwdBRefIdeal.nD Cert.ProjInBwdBRefIdeal.τ).loc Cert.ProjInBwdBRefIdeal.main_arg2))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_gradient_finite [hLnBwdIdeal : Cert.LnBwdIdeal.Facts] [hPre_gradient_finite : Cert.Pre_gradient_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_gradient_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_gradient_finite [hLnBwdRefIdeal : Cert.LnBwdRefIdeal.Facts] [hPre_gradient_finite : Cert.Pre_gradient_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_gradient_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3))
      ∧ r.2.sem = fun _ => 0)

def quiescent_AdamFfRefIdeal [hAdamFfRefIdeal : Cert.AdamFfRefIdeal.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3))
      ∧ r.2.sem = fun _ => 0)

def quiescent_AdamInA [hAdamInA : Cert.AdamInA.Facts] : Prop :=
  ∀ (m : (ℓ : Loc Cert.AdamInA.nD Cert.AdamInA.τ Cert.AdamInA.sig) → Buf (Elt Bits) ℓ) (g : Dev Cert.AdamInA.nD → PrngReg), Pre_AdamInA m →
    θ_run (Cert.AdamInA.defs (F := Bits)) (onTc (τ := Cert.AdamInA.τ) (Cert.AdamInA.main (F := Bits))) ⟨m, fun _ => 0, g⟩ (fun r => (∀ c : Dev Cert.AdamInA.nD,
      r.2.mem ((c.tc : Thread Cert.AdamInA.nD Cert.AdamInA.τ).loc Cert.AdamInA.main_arg0) = m ((c.tc : Thread Cert.AdamInA.nD Cert.AdamInA.τ).loc Cert.AdamInA.main_arg0)
      ∧ r.2.mem ((c.tc : Thread Cert.AdamInA.nD Cert.AdamInA.τ).loc Cert.AdamInA.main_arg1) = m ((c.tc : Thread Cert.AdamInA.nD Cert.AdamInA.τ).loc Cert.AdamInA.main_arg1)
      ∧ r.2.mem ((c.tc : Thread Cert.AdamInA.nD Cert.AdamInA.τ).loc Cert.AdamInA.main_arg2) = m ((c.tc : Thread Cert.AdamInA.nD Cert.AdamInA.τ).loc Cert.AdamInA.main_arg2)
      ∧ r.2.mem ((c.tc : Thread Cert.AdamInA.nD Cert.AdamInA.τ).loc Cert.AdamInA.main_arg3) = m ((c.tc : Thread Cert.AdamInA.nD Cert.AdamInA.τ).loc Cert.AdamInA.main_arg3))
      ∧ r.2.sem = fun _ => 0)

def quiescent_AdamInAIdeal [hAdamInAIdeal : Cert.AdamInAIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg), Pre_AdamInAIdeal m →
    θ_run (Cert.AdamInAIdeal.defs (F := Ideal)) (onTc (τ := Cert.AdamInAIdeal.τ) (Cert.AdamInAIdeal.main (F := Ideal))) ⟨m, fun _ => 0, g⟩ (fun r => (∀ c : Dev Cert.AdamInAIdeal.nD,
      r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
      ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
      ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
      ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ r.2.sem = fun _ => 0)

def quiescent_AdamInARefIdeal [hAdamInARefIdeal : Cert.AdamInARefIdeal.Facts] : Prop :=
  ∀ (m : (ℓ : Loc Cert.AdamInARefIdeal.nD Cert.AdamInARefIdeal.τ Cert.AdamInARefIdeal.sig) → Buf (Elt Ideal) ℓ) (g : Dev Cert.AdamInARefIdeal.nD → PrngReg), Pre_AdamInARefIdeal m →
    θ_run (Cert.AdamInARefIdeal.defs (F := Ideal)) (onTc (τ := Cert.AdamInARefIdeal.τ) (Cert.AdamInARefIdeal.main (F := Ideal))) ⟨m, fun _ => 0, g⟩ (fun r => (∀ c : Dev Cert.AdamInARefIdeal.nD,
      r.2.mem ((c.tc : Thread Cert.AdamInARefIdeal.nD Cert.AdamInARefIdeal.τ).loc Cert.AdamInARefIdeal.main_arg0) = m ((c.tc : Thread Cert.AdamInARefIdeal.nD Cert.AdamInARefIdeal.τ).loc Cert.AdamInARefIdeal.main_arg0)
      ∧ r.2.mem ((c.tc : Thread Cert.AdamInARefIdeal.nD Cert.AdamInARefIdeal.τ).loc Cert.AdamInARefIdeal.main_arg1) = m ((c.tc : Thread Cert.AdamInARefIdeal.nD Cert.AdamInARefIdeal.τ).loc Cert.AdamInARefIdeal.main_arg1)
      ∧ r.2.mem ((c.tc : Thread Cert.AdamInARefIdeal.nD Cert.AdamInARefIdeal.τ).loc Cert.AdamInARefIdeal.main_arg2) = m ((c.tc : Thread Cert.AdamInARefIdeal.nD Cert.AdamInARefIdeal.τ).loc Cert.AdamInARefIdeal.main_arg2)
      ∧ r.2.mem ((c.tc : Thread Cert.AdamInARefIdeal.nD Cert.AdamInARefIdeal.τ).loc Cert.AdamInARefIdeal.main_arg3) = m ((c.tc : Thread Cert.AdamInARefIdeal.nD Cert.AdamInARefIdeal.τ).loc Cert.AdamInARefIdeal.main_arg3))
      ∧ r.2.sem = fun _ => 0)

def quiescent_AdamInB [hAdamInB : Cert.AdamInB.Facts] : Prop :=
  ∀ (m : (ℓ : Loc Cert.AdamInB.nD Cert.AdamInB.τ Cert.AdamInB.sig) → Buf (Elt Bits) ℓ) (g : Dev Cert.AdamInB.nD → PrngReg), Pre_AdamInB m →
    θ_run (Cert.AdamInB.defs (F := Bits)) (onTc (τ := Cert.AdamInB.τ) (Cert.AdamInB.main (F := Bits))) ⟨m, fun _ => 0, g⟩ (fun r => (∀ c : Dev Cert.AdamInB.nD,
      r.2.mem ((c.tc : Thread Cert.AdamInB.nD Cert.AdamInB.τ).loc Cert.AdamInB.main_arg0) = m ((c.tc : Thread Cert.AdamInB.nD Cert.AdamInB.τ).loc Cert.AdamInB.main_arg0)
      ∧ r.2.mem ((c.tc : Thread Cert.AdamInB.nD Cert.AdamInB.τ).loc Cert.AdamInB.main_arg1) = m ((c.tc : Thread Cert.AdamInB.nD Cert.AdamInB.τ).loc Cert.AdamInB.main_arg1)
      ∧ r.2.mem ((c.tc : Thread Cert.AdamInB.nD Cert.AdamInB.τ).loc Cert.AdamInB.main_arg2) = m ((c.tc : Thread Cert.AdamInB.nD Cert.AdamInB.τ).loc Cert.AdamInB.main_arg2)
      ∧ r.2.mem ((c.tc : Thread Cert.AdamInB.nD Cert.AdamInB.τ).loc Cert.AdamInB.main_arg3) = m ((c.tc : Thread Cert.AdamInB.nD Cert.AdamInB.τ).loc Cert.AdamInB.main_arg3))
      ∧ r.2.sem = fun _ => 0)

def quiescent_AdamInBIdeal [hAdamInBIdeal : Cert.AdamInBIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg), Pre_AdamInBIdeal m →
    θ_run (Cert.AdamInBIdeal.defs (F := Ideal)) (onTc (τ := Cert.AdamInBIdeal.τ) (Cert.AdamInBIdeal.main (F := Ideal))) ⟨m, fun _ => 0, g⟩ (fun r => (∀ c : Dev Cert.AdamInBIdeal.nD,
      r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
      ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
      ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
      ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ r.2.sem = fun _ => 0)

def quiescent_AdamInBRefIdeal [hAdamInBRefIdeal : Cert.AdamInBRefIdeal.Facts] : Prop :=
  ∀ (m : (ℓ : Loc Cert.AdamInBRefIdeal.nD Cert.AdamInBRefIdeal.τ Cert.AdamInBRefIdeal.sig) → Buf (Elt Ideal) ℓ) (g : Dev Cert.AdamInBRefIdeal.nD → PrngReg), Pre_AdamInBRefIdeal m →
    θ_run (Cert.AdamInBRefIdeal.defs (F := Ideal)) (onTc (τ := Cert.AdamInBRefIdeal.τ) (Cert.AdamInBRefIdeal.main (F := Ideal))) ⟨m, fun _ => 0, g⟩ (fun r => (∀ c : Dev Cert.AdamInBRefIdeal.nD,
      r.2.mem ((c.tc : Thread Cert.AdamInBRefIdeal.nD Cert.AdamInBRefIdeal.τ).loc Cert.AdamInBRefIdeal.main_arg0) = m ((c.tc : Thread Cert.AdamInBRefIdeal.nD Cert.AdamInBRefIdeal.τ).loc Cert.AdamInBRefIdeal.main_arg0)
      ∧ r.2.mem ((c.tc : Thread Cert.AdamInBRefIdeal.nD Cert.AdamInBRefIdeal.τ).loc Cert.AdamInBRefIdeal.main_arg1) = m ((c.tc : Thread Cert.AdamInBRefIdeal.nD Cert.AdamInBRefIdeal.τ).loc Cert.AdamInBRefIdeal.main_arg1)
      ∧ r.2.mem ((c.tc : Thread Cert.AdamInBRefIdeal.nD Cert.AdamInBRefIdeal.τ).loc Cert.AdamInBRefIdeal.main_arg2) = m ((c.tc : Thread Cert.AdamInBRefIdeal.nD Cert.AdamInBRefIdeal.τ).loc Cert.AdamInBRefIdeal.main_arg2)
      ∧ r.2.mem ((c.tc : Thread Cert.AdamInBRefIdeal.nD Cert.AdamInBRefIdeal.τ).loc Cert.AdamInBRefIdeal.main_arg3) = m ((c.tc : Thread Cert.AdamInBRefIdeal.nD Cert.AdamInBRefIdeal.τ).loc Cert.AdamInBRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_MemBwdB [hMemBwdB : Cert.MemBwdB.Facts] : Prop :=
  ∀ (m : (ℓ : Loc Cert.MemBwdB.nD Cert.MemBwdB.τ Cert.MemBwdB.sig) → Buf (Elt Bits) ℓ) (g : Dev Cert.MemBwdB.nD → PrngReg), Pre_MemBwdB m →
    θ_run (Cert.MemBwdB.defs (F := Bits)) (onTc (τ := Cert.MemBwdB.τ) (Cert.MemBwdB.main (F := Bits))) ⟨m, fun _ => 0, g⟩ (fun r => (∀ c : Dev Cert.MemBwdB.nD,
      r.2.mem ((c.tc : Thread Cert.MemBwdB.nD Cert.MemBwdB.τ).loc Cert.MemBwdB.main_arg0) = m ((c.tc : Thread Cert.MemBwdB.nD Cert.MemBwdB.τ).loc Cert.MemBwdB.main_arg0)
      ∧ r.2.mem ((c.tc : Thread Cert.MemBwdB.nD Cert.MemBwdB.τ).loc Cert.MemBwdB.main_arg1) = m ((c.tc : Thread Cert.MemBwdB.nD Cert.MemBwdB.τ).loc Cert.MemBwdB.main_arg1)
      ∧ r.2.mem ((c.tc : Thread Cert.MemBwdB.nD Cert.MemBwdB.τ).loc Cert.MemBwdB.main_arg2) = m ((c.tc : Thread Cert.MemBwdB.nD Cert.MemBwdB.τ).loc Cert.MemBwdB.main_arg2))
      ∧ r.2.sem = fun _ => 0)

def quiescent_MemBwdBIdeal [hMemBwdBIdeal : Cert.MemBwdBIdeal.Facts] : Prop :=
  ∀ (m : (ℓ : Loc Cert.MemBwdBIdeal.nD Cert.MemBwdBIdeal.τ Cert.MemBwdBIdeal.sig) → Buf (Elt Ideal) ℓ) (g : Dev Cert.MemBwdBIdeal.nD → PrngReg), Pre_MemBwdBIdeal m →
    θ_run (Cert.MemBwdBIdeal.defs (F := Ideal)) (onTc (τ := Cert.MemBwdBIdeal.τ) (Cert.MemBwdBIdeal.main (F := Ideal))) ⟨m, fun _ => 0, g⟩ (fun r => (∀ c : Dev Cert.MemBwdBIdeal.nD,
      r.2.mem ((c.tc : Thread Cert.MemBwdBIdeal.nD Cert.MemBwdBIdeal.τ).loc Cert.MemBwdBIdeal.main_arg0) = m ((c.tc : Thread Cert.MemBwdBIdeal.nD Cert.MemBwdBIdeal.τ).loc Cert.MemBwdBIdeal.main_arg0)
      ∧ r.2.mem ((c.tc : Thread Cert.MemBwdBIdeal.nD Cert.MemBwdBIdeal.τ).loc Cert.MemBwdBIdeal.main_arg1) = m ((c.tc : Thread Cert.MemBwdBIdeal.nD Cert.MemBwdBIdeal.τ).loc Cert.MemBwdBIdeal.main_arg1)
      ∧ r.2.mem ((c.tc : Thread Cert.MemBwdBIdeal.nD Cert.MemBwdBIdeal.τ).loc Cert.MemBwdBIdeal.main_arg2) = m ((c.tc : Thread Cert.MemBwdBIdeal.nD Cert.MemBwdBIdeal.τ).loc Cert.MemBwdBIdeal.main_arg2))
      ∧ r.2.sem = fun _ => 0)

def quiescent_MemBwdBIdeal_pre_scores_finite_b [hMemBwdBIdeal : Cert.MemBwdBIdeal.Facts] [hPre_scores_finite_b : Cert.Pre_scores_finite_b.Facts] : Prop :=
  ∀ (m : (ℓ : Loc Cert.MemBwdBIdeal.nD Cert.MemBwdBIdeal.τ Cert.MemBwdBIdeal.sig) → Buf (Elt Ideal) ℓ) (g : Dev Cert.MemBwdBIdeal.nD → PrngReg), Pre_MemBwdBIdeal_scores_finite_b m →
    θ_run (Cert.MemBwdBIdeal.defs (F := Ideal)) (onTc (τ := Cert.MemBwdBIdeal.τ) (Cert.MemBwdBIdeal.main (F := Ideal))) ⟨m, fun _ => 0, g⟩ (fun r => (∀ c : Dev Cert.MemBwdBIdeal.nD,
      r.2.mem ((c.tc : Thread Cert.MemBwdBIdeal.nD Cert.MemBwdBIdeal.τ).loc Cert.MemBwdBIdeal.main_arg0) = m ((c.tc : Thread Cert.MemBwdBIdeal.nD Cert.MemBwdBIdeal.τ).loc Cert.MemBwdBIdeal.main_arg0)
      ∧ r.2.mem ((c.tc : Thread Cert.MemBwdBIdeal.nD Cert.MemBwdBIdeal.τ).loc Cert.MemBwdBIdeal.main_arg1) = m ((c.tc : Thread Cert.MemBwdBIdeal.nD Cert.MemBwdBIdeal.τ).loc Cert.MemBwdBIdeal.main_arg1)
      ∧ r.2.mem ((c.tc : Thread Cert.MemBwdBIdeal.nD Cert.MemBwdBIdeal.τ).loc Cert.MemBwdBIdeal.main_arg2) = m ((c.tc : Thread Cert.MemBwdBIdeal.nD Cert.MemBwdBIdeal.τ).loc Cert.MemBwdBIdeal.main_arg2))
      ∧ r.2.sem = fun _ => 0)

def quiescent_MemBwdBRefIdeal [hMemBwdBRefIdeal : Cert.MemBwdBRefIdeal.Facts] : Prop :=
  ∀ (m : (ℓ : Loc Cert.MemBwdBRefIdeal.nD Cert.MemBwdBRefIdeal.τ Cert.MemBwdBRefIdeal.sig) → Buf (Elt Ideal) ℓ) (g : Dev Cert.MemBwdBRefIdeal.nD → PrngReg), Pre_MemBwdBRefIdeal m →
    θ_run (Cert.MemBwdBRefIdeal.defs (F := Ideal)) (onTc (τ := Cert.MemBwdBRefIdeal.τ) (Cert.MemBwdBRefIdeal.main (F := Ideal))) ⟨m, fun _ => 0, g⟩ (fun r => (∀ c : Dev Cert.MemBwdBRefIdeal.nD,
      r.2.mem ((c.tc : Thread Cert.MemBwdBRefIdeal.nD Cert.MemBwdBRefIdeal.τ).loc Cert.MemBwdBRefIdeal.main_arg0) = m ((c.tc : Thread Cert.MemBwdBRefIdeal.nD Cert.MemBwdBRefIdeal.τ).loc Cert.MemBwdBRefIdeal.main_arg0)
      ∧ r.2.mem ((c.tc : Thread Cert.MemBwdBRefIdeal.nD Cert.MemBwdBRefIdeal.τ).loc Cert.MemBwdBRefIdeal.main_arg1) = m ((c.tc : Thread Cert.MemBwdBRefIdeal.nD Cert.MemBwdBRefIdeal.τ).loc Cert.MemBwdBRefIdeal.main_arg1)
      ∧ r.2.mem ((c.tc : Thread Cert.MemBwdBRefIdeal.nD Cert.MemBwdBRefIdeal.τ).loc Cert.MemBwdBRefIdeal.main_arg2) = m ((c.tc : Thread Cert.MemBwdBRefIdeal.nD Cert.MemBwdBRefIdeal.τ).loc Cert.MemBwdBRefIdeal.main_arg2))
      ∧ r.2.sem = fun _ => 0)

def quiescent_MemBwdBRefIdeal_pre_scores_finite_b [hMemBwdBRefIdeal : Cert.MemBwdBRefIdeal.Facts] [hPre_scores_finite_b : Cert.Pre_scores_finite_b.Facts] : Prop :=
  ∀ (m : (ℓ : Loc Cert.MemBwdBRefIdeal.nD Cert.MemBwdBRefIdeal.τ Cert.MemBwdBRefIdeal.sig) → Buf (Elt Ideal) ℓ) (g : Dev Cert.MemBwdBRefIdeal.nD → PrngReg), Pre_MemBwdBRefIdeal_scores_finite_b m →
    θ_run (Cert.MemBwdBRefIdeal.defs (F := Ideal)) (onTc (τ := Cert.MemBwdBRefIdeal.τ) (Cert.MemBwdBRefIdeal.main (F := Ideal))) ⟨m, fun _ => 0, g⟩ (fun r => (∀ c : Dev Cert.MemBwdBRefIdeal.nD,
      r.2.mem ((c.tc : Thread Cert.MemBwdBRefIdeal.nD Cert.MemBwdBRefIdeal.τ).loc Cert.MemBwdBRefIdeal.main_arg0) = m ((c.tc : Thread Cert.MemBwdBRefIdeal.nD Cert.MemBwdBRefIdeal.τ).loc Cert.MemBwdBRefIdeal.main_arg0)
      ∧ r.2.mem ((c.tc : Thread Cert.MemBwdBRefIdeal.nD Cert.MemBwdBRefIdeal.τ).loc Cert.MemBwdBRefIdeal.main_arg1) = m ((c.tc : Thread Cert.MemBwdBRefIdeal.nD Cert.MemBwdBRefIdeal.τ).loc Cert.MemBwdBRefIdeal.main_arg1)
      ∧ r.2.mem ((c.tc : Thread Cert.MemBwdBRefIdeal.nD Cert.MemBwdBRefIdeal.τ).loc Cert.MemBwdBRefIdeal.main_arg2) = m ((c.tc : Thread Cert.MemBwdBRefIdeal.nD Cert.MemBwdBRefIdeal.τ).loc Cert.MemBwdBRefIdeal.main_arg2))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2))
      ∧ r.2.sem = fun _ => 0)

def quiescent_MemFwdB [hMemFwdB : Cert.MemFwdB.Facts] : Prop :=
  ∀ (m : (ℓ : Loc Cert.MemFwdB.nD Cert.MemFwdB.τ Cert.MemFwdB.sig) → Buf (Elt Bits) ℓ) (g : Dev Cert.MemFwdB.nD → PrngReg), Pre_MemFwdB m →
    θ_run (Cert.MemFwdB.defs (F := Bits)) (onTc (τ := Cert.MemFwdB.τ) (Cert.MemFwdB.main (F := Bits))) ⟨m, fun _ => 0, g⟩ (fun r => (∀ c : Dev Cert.MemFwdB.nD,
      r.2.mem ((c.tc : Thread Cert.MemFwdB.nD Cert.MemFwdB.τ).loc Cert.MemFwdB.main_arg0) = m ((c.tc : Thread Cert.MemFwdB.nD Cert.MemFwdB.τ).loc Cert.MemFwdB.main_arg0)
      ∧ r.2.mem ((c.tc : Thread Cert.MemFwdB.nD Cert.MemFwdB.τ).loc Cert.MemFwdB.main_arg1) = m ((c.tc : Thread Cert.MemFwdB.nD Cert.MemFwdB.τ).loc Cert.MemFwdB.main_arg1)
      ∧ r.2.mem ((c.tc : Thread Cert.MemFwdB.nD Cert.MemFwdB.τ).loc Cert.MemFwdB.main_arg2) = m ((c.tc : Thread Cert.MemFwdB.nD Cert.MemFwdB.τ).loc Cert.MemFwdB.main_arg2))
      ∧ r.2.sem = fun _ => 0)

def quiescent_MemFwdBIdeal [hMemFwdBIdeal : Cert.MemFwdBIdeal.Facts] : Prop :=
  ∀ (m : (ℓ : Loc Cert.MemFwdBIdeal.nD Cert.MemFwdBIdeal.τ Cert.MemFwdBIdeal.sig) → Buf (Elt Ideal) ℓ) (g : Dev Cert.MemFwdBIdeal.nD → PrngReg), Pre_MemFwdBIdeal m →
    θ_run (Cert.MemFwdBIdeal.defs (F := Ideal)) (onTc (τ := Cert.MemFwdBIdeal.τ) (Cert.MemFwdBIdeal.main (F := Ideal))) ⟨m, fun _ => 0, g⟩ (fun r => (∀ c : Dev Cert.MemFwdBIdeal.nD,
      r.2.mem ((c.tc : Thread Cert.MemFwdBIdeal.nD Cert.MemFwdBIdeal.τ).loc Cert.MemFwdBIdeal.main_arg0) = m ((c.tc : Thread Cert.MemFwdBIdeal.nD Cert.MemFwdBIdeal.τ).loc Cert.MemFwdBIdeal.main_arg0)
      ∧ r.2.mem ((c.tc : Thread Cert.MemFwdBIdeal.nD Cert.MemFwdBIdeal.τ).loc Cert.MemFwdBIdeal.main_arg1) = m ((c.tc : Thread Cert.MemFwdBIdeal.nD Cert.MemFwdBIdeal.τ).loc Cert.MemFwdBIdeal.main_arg1)
      ∧ r.2.mem ((c.tc : Thread Cert.MemFwdBIdeal.nD Cert.MemFwdBIdeal.τ).loc Cert.MemFwdBIdeal.main_arg2) = m ((c.tc : Thread Cert.MemFwdBIdeal.nD Cert.MemFwdBIdeal.τ).loc Cert.MemFwdBIdeal.main_arg2))
      ∧ r.2.sem = fun _ => 0)

def quiescent_MemFwdBRefIdeal [hMemFwdBRefIdeal : Cert.MemFwdBRefIdeal.Facts] : Prop :=
  ∀ (m : (ℓ : Loc Cert.MemFwdBRefIdeal.nD Cert.MemFwdBRefIdeal.τ Cert.MemFwdBRefIdeal.sig) → Buf (Elt Ideal) ℓ) (g : Dev Cert.MemFwdBRefIdeal.nD → PrngReg), Pre_MemFwdBRefIdeal m →
    θ_run (Cert.MemFwdBRefIdeal.defs (F := Ideal)) (onTc (τ := Cert.MemFwdBRefIdeal.τ) (Cert.MemFwdBRefIdeal.main (F := Ideal))) ⟨m, fun _ => 0, g⟩ (fun r => (∀ c : Dev Cert.MemFwdBRefIdeal.nD,
      r.2.mem ((c.tc : Thread Cert.MemFwdBRefIdeal.nD Cert.MemFwdBRefIdeal.τ).loc Cert.MemFwdBRefIdeal.main_arg0) = m ((c.tc : Thread Cert.MemFwdBRefIdeal.nD Cert.MemFwdBRefIdeal.τ).loc Cert.MemFwdBRefIdeal.main_arg0)
      ∧ r.2.mem ((c.tc : Thread Cert.MemFwdBRefIdeal.nD Cert.MemFwdBRefIdeal.τ).loc Cert.MemFwdBRefIdeal.main_arg1) = m ((c.tc : Thread Cert.MemFwdBRefIdeal.nD Cert.MemFwdBRefIdeal.τ).loc Cert.MemFwdBRefIdeal.main_arg1)
      ∧ r.2.mem ((c.tc : Thread Cert.MemFwdBRefIdeal.nD Cert.MemFwdBRefIdeal.τ).loc Cert.MemFwdBRefIdeal.main_arg2) = m ((c.tc : Thread Cert.MemFwdBRefIdeal.nD Cert.MemFwdBRefIdeal.τ).loc Cert.MemFwdBRefIdeal.main_arg2))
      ∧ r.2.sem = fun _ => 0)

def quiescent_AttnFwd16 [hAttnFwd16 : Cert.AttnFwd16.Facts] : Prop :=
  ∀ (m : (ℓ : Loc Cert.AttnFwd16.nD Cert.AttnFwd16.τ Cert.AttnFwd16.sig) → Buf (Elt Bits) ℓ) (g : Dev Cert.AttnFwd16.nD → PrngReg), Pre_AttnFwd16 m →
    θ_run (Cert.AttnFwd16.defs (F := Bits)) (onTc (τ := Cert.AttnFwd16.τ) (Cert.AttnFwd16.main (F := Bits))) ⟨m, fun _ => 0, g⟩ (fun r => (∀ c : Dev Cert.AttnFwd16.nD,
      r.2.mem ((c.tc : Thread Cert.AttnFwd16.nD Cert.AttnFwd16.τ).loc Cert.AttnFwd16.main_arg0) = m ((c.tc : Thread Cert.AttnFwd16.nD Cert.AttnFwd16.τ).loc Cert.AttnFwd16.main_arg0))
      ∧ r.2.sem = fun _ => 0)

def quiescent_AttnFwd16Ideal [hAttnFwd16Ideal : Cert.AttnFwd16Ideal.Facts] : Prop :=
  ∀ (m : (ℓ : Loc Cert.AttnFwd16Ideal.nD Cert.AttnFwd16Ideal.τ Cert.AttnFwd16Ideal.sig) → Buf (Elt Ideal) ℓ) (g : Dev Cert.AttnFwd16Ideal.nD → PrngReg), Pre_AttnFwd16Ideal m →
    θ_run (Cert.AttnFwd16Ideal.defs (F := Ideal)) (onTc (τ := Cert.AttnFwd16Ideal.τ) (Cert.AttnFwd16Ideal.main (F := Ideal))) ⟨m, fun _ => 0, g⟩ (fun r => (∀ c : Dev Cert.AttnFwd16Ideal.nD,
      r.2.mem ((c.tc : Thread Cert.AttnFwd16Ideal.nD Cert.AttnFwd16Ideal.τ).loc Cert.AttnFwd16Ideal.main_arg0) = m ((c.tc : Thread Cert.AttnFwd16Ideal.nD Cert.AttnFwd16Ideal.τ).loc Cert.AttnFwd16Ideal.main_arg0))
      ∧ r.2.sem = fun _ => 0)

def quiescent_AttnFwd16RefIdeal [hAttnFwd16RefIdeal : Cert.AttnFwd16RefIdeal.Facts] : Prop :=
  ∀ (m : (ℓ : Loc Cert.AttnFwd16RefIdeal.nD Cert.AttnFwd16RefIdeal.τ Cert.AttnFwd16RefIdeal.sig) → Buf (Elt Ideal) ℓ) (g : Dev Cert.AttnFwd16RefIdeal.nD → PrngReg), Pre_AttnFwd16RefIdeal m →
    θ_run (Cert.AttnFwd16RefIdeal.defs (F := Ideal)) (onTc (τ := Cert.AttnFwd16RefIdeal.τ) (Cert.AttnFwd16RefIdeal.main (F := Ideal))) ⟨m, fun _ => 0, g⟩ (fun r => (∀ c : Dev Cert.AttnFwd16RefIdeal.nD,
      r.2.mem ((c.tc : Thread Cert.AttnFwd16RefIdeal.nD Cert.AttnFwd16RefIdeal.τ).loc Cert.AttnFwd16RefIdeal.main_arg0) = m ((c.tc : Thread Cert.AttnFwd16RefIdeal.nD Cert.AttnFwd16RefIdeal.τ).loc Cert.AttnFwd16RefIdeal.main_arg0))
      ∧ r.2.sem = fun _ => 0)

def quiescent_AttnFwd4 [hAttnFwd4 : Cert.AttnFwd4.Facts] : Prop :=
  ∀ (m : (ℓ : Loc Cert.AttnFwd4.nD Cert.AttnFwd4.τ Cert.AttnFwd4.sig) → Buf (Elt Bits) ℓ) (g : Dev Cert.AttnFwd4.nD → PrngReg), Pre_AttnFwd4 m →
    θ_run (Cert.AttnFwd4.defs (F := Bits)) (onTc (τ := Cert.AttnFwd4.τ) (Cert.AttnFwd4.main (F := Bits))) ⟨m, fun _ => 0, g⟩ (fun r => (∀ c : Dev Cert.AttnFwd4.nD,
      r.2.mem ((c.tc : Thread Cert.AttnFwd4.nD Cert.AttnFwd4.τ).loc Cert.AttnFwd4.main_arg0) = m ((c.tc : Thread Cert.AttnFwd4.nD Cert.AttnFwd4.τ).loc Cert.AttnFwd4.main_arg0))
      ∧ r.2.sem = fun _ => 0)

def quiescent_AttnFwd4Ideal [hAttnFwd4Ideal : Cert.AttnFwd4Ideal.Facts] : Prop :=
  ∀ (m : (ℓ : Loc Cert.AttnFwd4Ideal.nD Cert.AttnFwd4Ideal.τ Cert.AttnFwd4Ideal.sig) → Buf (Elt Ideal) ℓ) (g : Dev Cert.AttnFwd4Ideal.nD → PrngReg), Pre_AttnFwd4Ideal m →
    θ_run (Cert.AttnFwd4Ideal.defs (F := Ideal)) (onTc (τ := Cert.AttnFwd4Ideal.τ) (Cert.AttnFwd4Ideal.main (F := Ideal))) ⟨m, fun _ => 0, g⟩ (fun r => (∀ c : Dev Cert.AttnFwd4Ideal.nD,
      r.2.mem ((c.tc : Thread Cert.AttnFwd4Ideal.nD Cert.AttnFwd4Ideal.τ).loc Cert.AttnFwd4Ideal.main_arg0) = m ((c.tc : Thread Cert.AttnFwd4Ideal.nD Cert.AttnFwd4Ideal.τ).loc Cert.AttnFwd4Ideal.main_arg0))
      ∧ r.2.sem = fun _ => 0)

def quiescent_AttnFwd4RefIdeal [hAttnFwd4RefIdeal : Cert.AttnFwd4RefIdeal.Facts] : Prop :=
  ∀ (m : (ℓ : Loc Cert.AttnFwd4RefIdeal.nD Cert.AttnFwd4RefIdeal.τ Cert.AttnFwd4RefIdeal.sig) → Buf (Elt Ideal) ℓ) (g : Dev Cert.AttnFwd4RefIdeal.nD → PrngReg), Pre_AttnFwd4RefIdeal m →
    θ_run (Cert.AttnFwd4RefIdeal.defs (F := Ideal)) (onTc (τ := Cert.AttnFwd4RefIdeal.τ) (Cert.AttnFwd4RefIdeal.main (F := Ideal))) ⟨m, fun _ => 0, g⟩ (fun r => (∀ c : Dev Cert.AttnFwd4RefIdeal.nD,
      r.2.mem ((c.tc : Thread Cert.AttnFwd4RefIdeal.nD Cert.AttnFwd4RefIdeal.τ).loc Cert.AttnFwd4RefIdeal.main_arg0) = m ((c.tc : Thread Cert.AttnFwd4RefIdeal.nD Cert.AttnFwd4RefIdeal.τ).loc Cert.AttnFwd4RefIdeal.main_arg0))
      ∧ r.2.sem = fun _ => 0)

def quiescent_AttnFwd1 [hAttnFwd1 : Cert.AttnFwd1.Facts] : Prop :=
  ∀ (m : (ℓ : Loc Cert.AttnFwd1.nD Cert.AttnFwd1.τ Cert.AttnFwd1.sig) → Buf (Elt Bits) ℓ) (g : Dev Cert.AttnFwd1.nD → PrngReg), Pre_AttnFwd1 m →
    θ_run (Cert.AttnFwd1.defs (F := Bits)) (onTc (τ := Cert.AttnFwd1.τ) (Cert.AttnFwd1.main (F := Bits))) ⟨m, fun _ => 0, g⟩ (fun r => (∀ c : Dev Cert.AttnFwd1.nD,
      r.2.mem ((c.tc : Thread Cert.AttnFwd1.nD Cert.AttnFwd1.τ).loc Cert.AttnFwd1.main_arg0) = m ((c.tc : Thread Cert.AttnFwd1.nD Cert.AttnFwd1.τ).loc Cert.AttnFwd1.main_arg0))
      ∧ r.2.sem = fun _ => 0)

def quiescent_AttnFwd1Ideal [hAttnFwd1Ideal : Cert.AttnFwd1Ideal.Facts] : Prop :=
  ∀ (m : (ℓ : Loc Cert.AttnFwd1Ideal.nD Cert.AttnFwd1Ideal.τ Cert.AttnFwd1Ideal.sig) → Buf (Elt Ideal) ℓ) (g : Dev Cert.AttnFwd1Ideal.nD → PrngReg), Pre_AttnFwd1Ideal m →
    θ_run (Cert.AttnFwd1Ideal.defs (F := Ideal)) (onTc (τ := Cert.AttnFwd1Ideal.τ) (Cert.AttnFwd1Ideal.main (F := Ideal))) ⟨m, fun _ => 0, g⟩ (fun r => (∀ c : Dev Cert.AttnFwd1Ideal.nD,
      r.2.mem ((c.tc : Thread Cert.AttnFwd1Ideal.nD Cert.AttnFwd1Ideal.τ).loc Cert.AttnFwd1Ideal.main_arg0) = m ((c.tc : Thread Cert.AttnFwd1Ideal.nD Cert.AttnFwd1Ideal.τ).loc Cert.AttnFwd1Ideal.main_arg0))
      ∧ r.2.sem = fun _ => 0)

def quiescent_AttnFwd1RefIdeal [hAttnFwd1RefIdeal : Cert.AttnFwd1RefIdeal.Facts] : Prop :=
  ∀ (m : (ℓ : Loc Cert.AttnFwd1RefIdeal.nD Cert.AttnFwd1RefIdeal.τ Cert.AttnFwd1RefIdeal.sig) → Buf (Elt Ideal) ℓ) (g : Dev Cert.AttnFwd1RefIdeal.nD → PrngReg), Pre_AttnFwd1RefIdeal m →
    θ_run (Cert.AttnFwd1RefIdeal.defs (F := Ideal)) (onTc (τ := Cert.AttnFwd1RefIdeal.τ) (Cert.AttnFwd1RefIdeal.main (F := Ideal))) ⟨m, fun _ => 0, g⟩ (fun r => (∀ c : Dev Cert.AttnFwd1RefIdeal.nD,
      r.2.mem ((c.tc : Thread Cert.AttnFwd1RefIdeal.nD Cert.AttnFwd1RefIdeal.τ).loc Cert.AttnFwd1RefIdeal.main_arg0) = m ((c.tc : Thread Cert.AttnFwd1RefIdeal.nD Cert.AttnFwd1RefIdeal.τ).loc Cert.AttnFwd1RefIdeal.main_arg0))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v4) = v0 c
          ∧ r.2.mem ((c.tc : Thread Cert.Ff1RefIdeal.nD Cert.Ff1RefIdeal.τ).loc Cert.Ff1RefIdeal.main_v7) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v3) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_Ff2Bwd_Ff2BwdIdeal : Prop :=
  True

def algebraic_Ff2BwdIdeal_Ff2BwdRefIdeal [hFf2BwdIdeal : Cert.Ff2BwdIdeal.Facts] [hFf2BwdRefIdeal : Cert.Ff2BwdRefIdeal.Facts] : Prop :=
  ∀ (m : (ℓ : Loc Cert.Ff2BwdIdeal.nD Cert.Ff2BwdIdeal.τ Cert.Ff2BwdIdeal.sig) → Buf (Elt Ideal) ℓ) (g : Dev Cert.Ff2BwdIdeal.nD → PrngReg)
    (m' : (ℓ : Loc Cert.Ff2BwdRefIdeal.nD Cert.Ff2BwdRefIdeal.τ Cert.Ff2BwdRefIdeal.sig) → Buf (Elt Ideal) ℓ) (g' : Dev Cert.Ff2BwdRefIdeal.nD → PrngReg), Pre_Ff2BwdIdeal m →
    (∀ c : Dev Cert.Ff2BwdIdeal.nD,
      m' ((c.tc : Thread Cert.Ff2BwdRefIdeal.nD Cert.Ff2BwdRefIdeal.τ).loc Cert.Ff2BwdRefIdeal.main_arg0) = m ((c.tc : Thread Cert.Ff2BwdIdeal.nD Cert.Ff2BwdIdeal.τ).loc Cert.Ff2BwdIdeal.main_arg0)
      ∧ m' ((c.tc : Thread Cert.Ff2BwdRefIdeal.nD Cert.Ff2BwdRefIdeal.τ).loc Cert.Ff2BwdRefIdeal.main_arg1) = m ((c.tc : Thread Cert.Ff2BwdIdeal.nD Cert.Ff2BwdIdeal.τ).loc Cert.Ff2BwdIdeal.main_arg1)
      ∧ m' ((c.tc : Thread Cert.Ff2BwdRefIdeal.nD Cert.Ff2BwdRefIdeal.τ).loc Cert.Ff2BwdRefIdeal.main_arg2) = m ((c.tc : Thread Cert.Ff2BwdIdeal.nD Cert.Ff2BwdIdeal.τ).loc Cert.Ff2BwdIdeal.main_arg2)) →
    ∃ (v0 : (c : Dev Cert.Ff2BwdIdeal.nD) → Buf (Elt Ideal) ((c.tc : Thread Cert.Ff2BwdIdeal.nD Cert.Ff2BwdIdeal.τ).loc Cert.Ff2BwdIdeal.main_v0)),
      θ_run (Cert.Ff2BwdIdeal.defs (F := Ideal)) (onTc (τ := Cert.Ff2BwdIdeal.τ) (Cert.Ff2BwdIdeal.main (F := Ideal))) ⟨m, fun _ => 0, g⟩ (fun r => ∀ c : Dev Cert.Ff2BwdIdeal.nD,
          r.2.mem ((c.tc : Thread Cert.Ff2BwdIdeal.nD Cert.Ff2BwdIdeal.τ).loc Cert.Ff2BwdIdeal.main_v0) = v0 c
          ∧ r.2.mem ((c.tc : Thread Cert.Ff2BwdIdeal.nD Cert.Ff2BwdIdeal.τ).loc Cert.Ff2BwdIdeal.main_arg0) = m ((c.tc : Thread Cert.Ff2BwdIdeal.nD Cert.Ff2BwdIdeal.τ).loc Cert.Ff2BwdIdeal.main_arg0)
          ∧ r.2.mem ((c.tc : Thread Cert.Ff2BwdIdeal.nD Cert.Ff2BwdIdeal.τ).loc Cert.Ff2BwdIdeal.main_arg1) = m ((c.tc : Thread Cert.Ff2BwdIdeal.nD Cert.Ff2BwdIdeal.τ).loc Cert.Ff2BwdIdeal.main_arg1)
          ∧ r.2.mem ((c.tc : Thread Cert.Ff2BwdIdeal.nD Cert.Ff2BwdIdeal.τ).loc Cert.Ff2BwdIdeal.main_arg2) = m ((c.tc : Thread Cert.Ff2BwdIdeal.nD Cert.Ff2BwdIdeal.τ).loc Cert.Ff2BwdIdeal.main_arg2))
      ∧ θ_run (Cert.Ff2BwdRefIdeal.defs (F := Ideal)) (onTc (τ := Cert.Ff2BwdRefIdeal.τ) (Cert.Ff2BwdRefIdeal.main (F := Ideal))) ⟨m', fun _ => 0, g'⟩ (fun r => ∀ c : Dev Cert.Ff2BwdRefIdeal.nD,
          r.2.mem ((c.tc : Thread Cert.Ff2BwdRefIdeal.nD Cert.Ff2BwdRefIdeal.τ).loc Cert.Ff2BwdRefIdeal.main_v15) = v0 c
          ∧ r.2.mem ((c.tc : Thread Cert.Ff2BwdRefIdeal.nD Cert.Ff2BwdRefIdeal.τ).loc Cert.Ff2BwdRefIdeal.main_arg0) = m' ((c.tc : Thread Cert.Ff2BwdRefIdeal.nD Cert.Ff2BwdRefIdeal.τ).loc Cert.Ff2BwdRefIdeal.main_arg0)
          ∧ r.2.mem ((c.tc : Thread Cert.Ff2BwdRefIdeal.nD Cert.Ff2BwdRefIdeal.τ).loc Cert.Ff2BwdRefIdeal.main_arg1) = m' ((c.tc : Thread Cert.Ff2BwdRefIdeal.nD Cert.Ff2BwdRefIdeal.τ).loc Cert.Ff2BwdRefIdeal.main_arg1)
          ∧ r.2.mem ((c.tc : Thread Cert.Ff2BwdRefIdeal.nD Cert.Ff2BwdRefIdeal.τ).loc Cert.Ff2BwdRefIdeal.main_arg2) = m' ((c.tc : Thread Cert.Ff2BwdRefIdeal.nD Cert.Ff2BwdRefIdeal.τ).loc Cert.Ff2BwdRefIdeal.main_arg2))

def preserves_GradFf2_GradFf2Ideal : Prop :=
  True

def algebraic_GradFf2Ideal_GradFf2RefIdeal [hGradFf2Ideal : Cert.GradFf2Ideal.Facts] [hGradFf2RefIdeal : Cert.GradFf2RefIdeal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg)
    (m' : (ℓ : Loc Cert.GradFf2RefIdeal.nD Cert.GradFf2RefIdeal.τ Cert.GradFf2RefIdeal.sig) → Buf (Elt Ideal) ℓ) (g' : Dev Cert.GradFf2RefIdeal.nD → PrngReg), Pre_GradFf2Ideal m →
    (∀ c : Dev Cert.GradFf2Ideal.nD,
      m' ((c.tc : Thread Cert.GradFf2RefIdeal.nD Cert.GradFf2RefIdeal.τ).loc Cert.GradFf2RefIdeal.main_arg0) = m ((c.tc : Thread Cert.GradFf2Ideal.nD Cert.GradFf2Ideal.τ).loc Cert.GradFf2Ideal.main_arg0)
      ∧ m' ((c.tc : Thread Cert.GradFf2RefIdeal.nD Cert.GradFf2RefIdeal.τ).loc Cert.GradFf2RefIdeal.main_arg1) = m ((c.tc : Thread Cert.GradFf2Ideal.nD Cert.GradFf2Ideal.τ).loc Cert.GradFf2Ideal.main_arg1)) →
    ∃ (v0 : (c : Dev Cert.GradFf2Ideal.nD) → Buf (Elt Ideal) ((c.tc : Thread Cert.GradFf2Ideal.nD Cert.GradFf2Ideal.τ).loc Cert.GradFf2Ideal.main_v0)),
      θ_run (Cert.GradFf2Ideal.defs (F := Ideal)) (onTc (τ := Cert.GradFf2Ideal.τ) (Cert.GradFf2Ideal.main (F := Ideal))) ⟨m, fun _ => 0, g⟩ (fun r => ∀ c : Dev Cert.GradFf2Ideal.nD,
          r.2.mem ((c.tc : Thread Cert.GradFf2Ideal.nD Cert.GradFf2Ideal.τ).loc Cert.GradFf2Ideal.main_v0) = v0 c
          ∧ r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
          ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ θ_run (Cert.GradFf2RefIdeal.defs (F := Ideal)) (onTc (τ := Cert.GradFf2RefIdeal.τ) (Cert.GradFf2RefIdeal.main (F := Ideal))) ⟨m', fun _ => 0, g'⟩ (fun r => ∀ c : Dev Cert.GradFf2RefIdeal.nD,
          r.2.mem ((c.tc : Thread Cert.GradFf2RefIdeal.nD Cert.GradFf2RefIdeal.τ).loc Cert.GradFf2RefIdeal.main_v7) = v0 c
          ∧ r.2.mem ((c.tc : Thread Cert.GradFf2RefIdeal.nD Cert.GradFf2RefIdeal.τ).loc Cert.GradFf2RefIdeal.main_arg0) = m' ((c.tc : Thread Cert.GradFf2RefIdeal.nD Cert.GradFf2RefIdeal.τ).loc Cert.GradFf2RefIdeal.main_arg0)
          ∧ r.2.mem ((c.tc : Thread Cert.GradFf2RefIdeal.nD Cert.GradFf2RefIdeal.τ).loc Cert.GradFf2RefIdeal.main_arg1) = m' ((c.tc : Thread Cert.GradFf2RefIdeal.nD Cert.GradFf2RefIdeal.τ).loc Cert.GradFf2RefIdeal.main_arg1))

def preserves_GradFf1_GradFf1Ideal : Prop :=
  True

def algebraic_GradFf1Ideal_GradFf1RefIdeal [hGradFf1Ideal : Cert.GradFf1Ideal.Facts] [hGradFf1RefIdeal : Cert.GradFf1RefIdeal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg)
    (m' : (ℓ : Loc Cert.GradFf1RefIdeal.nD Cert.GradFf1RefIdeal.τ Cert.GradFf1RefIdeal.sig) → Buf (Elt Ideal) ℓ) (g' : Dev Cert.GradFf1RefIdeal.nD → PrngReg), Pre_GradFf1Ideal m →
    (∀ c : Dev Cert.GradFf1Ideal.nD,
      m' ((c.tc : Thread Cert.GradFf1RefIdeal.nD Cert.GradFf1RefIdeal.τ).loc Cert.GradFf1RefIdeal.main_arg0) = m ((c.tc : Thread Cert.GradFf1Ideal.nD Cert.GradFf1Ideal.τ).loc Cert.GradFf1Ideal.main_arg0)
      ∧ m' ((c.tc : Thread Cert.GradFf1RefIdeal.nD Cert.GradFf1RefIdeal.τ).loc Cert.GradFf1RefIdeal.main_arg1) = m ((c.tc : Thread Cert.GradFf1Ideal.nD Cert.GradFf1Ideal.τ).loc Cert.GradFf1Ideal.main_arg1)) →
    ∃ (v0 : (c : Dev Cert.GradFf1Ideal.nD) → Buf (Elt Ideal) ((c.tc : Thread Cert.GradFf1Ideal.nD Cert.GradFf1Ideal.τ).loc Cert.GradFf1Ideal.main_v0)),
      θ_run (Cert.GradFf1Ideal.defs (F := Ideal)) (onTc (τ := Cert.GradFf1Ideal.τ) (Cert.GradFf1Ideal.main (F := Ideal))) ⟨m, fun _ => 0, g⟩ (fun r => ∀ c : Dev Cert.GradFf1Ideal.nD,
          r.2.mem ((c.tc : Thread Cert.GradFf1Ideal.nD Cert.GradFf1Ideal.τ).loc Cert.GradFf1Ideal.main_v0) = v0 c
          ∧ r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
          ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ θ_run (Cert.GradFf1RefIdeal.defs (F := Ideal)) (onTc (τ := Cert.GradFf1RefIdeal.τ) (Cert.GradFf1RefIdeal.main (F := Ideal))) ⟨m', fun _ => 0, g'⟩ (fun r => ∀ c : Dev Cert.GradFf1RefIdeal.nD,
          r.2.mem ((c.tc : Thread Cert.GradFf1RefIdeal.nD Cert.GradFf1RefIdeal.τ).loc Cert.GradFf1RefIdeal.main_v8) = v0 c
          ∧ r.2.mem ((c.tc : Thread Cert.GradFf1RefIdeal.nD Cert.GradFf1RefIdeal.τ).loc Cert.GradFf1RefIdeal.main_arg0) = m' ((c.tc : Thread Cert.GradFf1RefIdeal.nD Cert.GradFf1RefIdeal.τ).loc Cert.GradFf1RefIdeal.main_arg0)
          ∧ r.2.mem ((c.tc : Thread Cert.GradFf1RefIdeal.nD Cert.GradFf1RefIdeal.τ).loc Cert.GradFf1RefIdeal.main_arg1) = m' ((c.tc : Thread Cert.GradFf1RefIdeal.nD Cert.GradFf1RefIdeal.τ).loc Cert.GradFf1RefIdeal.main_arg1))

def preserves_Ff1Bwd_Ff1BwdIdeal : Prop :=
  True

def algebraic_Ff1BwdIdeal_Ff1BwdRefIdeal [hFf1BwdIdeal : Cert.Ff1BwdIdeal.Facts] [hFf1BwdRefIdeal : Cert.Ff1BwdRefIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg)
    (m' : (ℓ : Loc Cert.Ff1BwdRefIdeal.nD Cert.Ff1BwdRefIdeal.τ Cert.Ff1BwdRefIdeal.sig) → Buf (Elt Ideal) ℓ) (g' : Dev Cert.Ff1BwdRefIdeal.nD → PrngReg), Pre_Ff1BwdIdeal m →
    (∀ c : Dev Cert.Ff1BwdIdeal.nD,
      m' ((c.tc : Thread Cert.Ff1BwdRefIdeal.nD Cert.Ff1BwdRefIdeal.τ).loc Cert.Ff1BwdRefIdeal.main_arg0) = m ((c.tc : Thread Cert.Ff1BwdIdeal.nD Cert.Ff1BwdIdeal.τ).loc Cert.Ff1BwdIdeal.main_arg0)
      ∧ m' ((c.tc : Thread Cert.Ff1BwdRefIdeal.nD Cert.Ff1BwdRefIdeal.τ).loc Cert.Ff1BwdRefIdeal.main_arg1) = m ((c.tc : Thread Cert.Ff1BwdIdeal.nD Cert.Ff1BwdIdeal.τ).loc Cert.Ff1BwdIdeal.main_arg1)
      ∧ m' ((c.tc : Thread Cert.Ff1BwdRefIdeal.nD Cert.Ff1BwdRefIdeal.τ).loc Cert.Ff1BwdRefIdeal.main_arg2) = m ((c.tc : Thread Cert.Ff1BwdIdeal.nD Cert.Ff1BwdIdeal.τ).loc Cert.Ff1BwdIdeal.main_arg2)) →
    ∃ (v0 : (c : Dev Cert.Ff1BwdIdeal.nD) → Buf (Elt Ideal) ((c.tc : Thread Cert.Ff1BwdIdeal.nD Cert.Ff1BwdIdeal.τ).loc Cert.Ff1BwdIdeal.main_v0)),
      θ_run (Cert.Ff1BwdIdeal.defs (F := Ideal)) (onTc (τ := Cert.Ff1BwdIdeal.τ) (Cert.Ff1BwdIdeal.main (F := Ideal))) ⟨m, fun _ => 0, g⟩ (fun r => ∀ c : Dev Cert.Ff1BwdIdeal.nD,
          r.2.mem ((c.tc : Thread Cert.Ff1BwdIdeal.nD Cert.Ff1BwdIdeal.τ).loc Cert.Ff1BwdIdeal.main_v0) = v0 c
          ∧ r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
          ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
          ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2))
      ∧ θ_run (Cert.Ff1BwdRefIdeal.defs (F := Ideal)) (onTc (τ := Cert.Ff1BwdRefIdeal.τ) (Cert.Ff1BwdRefIdeal.main (F := Ideal))) ⟨m', fun _ => 0, g'⟩ (fun r => ∀ c : Dev Cert.Ff1BwdRefIdeal.nD,
          r.2.mem ((c.tc : Thread Cert.Ff1BwdRefIdeal.nD Cert.Ff1BwdRefIdeal.τ).loc Cert.Ff1BwdRefIdeal.main_v7) = v0 c
          ∧ r.2.mem ((c.tc : Thread Cert.Ff1BwdRefIdeal.nD Cert.Ff1BwdRefIdeal.τ).loc Cert.Ff1BwdRefIdeal.main_arg0) = m' ((c.tc : Thread Cert.Ff1BwdRefIdeal.nD Cert.Ff1BwdRefIdeal.τ).loc Cert.Ff1BwdRefIdeal.main_arg0)
          ∧ r.2.mem ((c.tc : Thread Cert.Ff1BwdRefIdeal.nD Cert.Ff1BwdRefIdeal.τ).loc Cert.Ff1BwdRefIdeal.main_arg1) = m' ((c.tc : Thread Cert.Ff1BwdRefIdeal.nD Cert.Ff1BwdRefIdeal.τ).loc Cert.Ff1BwdRefIdeal.main_arg1)
          ∧ r.2.mem ((c.tc : Thread Cert.Ff1BwdRefIdeal.nD Cert.Ff1BwdRefIdeal.τ).loc Cert.Ff1BwdRefIdeal.main_arg2) = m' ((c.tc : Thread Cert.Ff1BwdRefIdeal.nD Cert.Ff1BwdRefIdeal.τ).loc Cert.Ff1BwdRefIdeal.main_arg2))

def preserves_ProjInA_ProjInAIdeal : Prop :=
  True

def algebraic_ProjInAIdeal_ProjInARefIdeal [hProjInAIdeal : Cert.ProjInAIdeal.Facts] [hProjInARefIdeal : Cert.ProjInARefIdeal.Facts] : Prop :=
  ∀ (m : (ℓ : Loc Cert.ProjInAIdeal.nD Cert.ProjInAIdeal.τ Cert.ProjInAIdeal.sig) → Buf (Elt Ideal) ℓ) (g : Dev Cert.ProjInAIdeal.nD → PrngReg)
    (m' : (ℓ : Loc Cert.ProjInARefIdeal.nD Cert.ProjInARefIdeal.τ Cert.ProjInARefIdeal.sig) → Buf (Elt Ideal) ℓ) (g' : Dev Cert.ProjInARefIdeal.nD → PrngReg), Pre_ProjInAIdeal m →
    (∀ c : Dev Cert.ProjInAIdeal.nD,
      m' ((c.tc : Thread Cert.ProjInARefIdeal.nD Cert.ProjInARefIdeal.τ).loc Cert.ProjInARefIdeal.main_arg0) = m ((c.tc : Thread Cert.ProjInAIdeal.nD Cert.ProjInAIdeal.τ).loc Cert.ProjInAIdeal.main_arg0)
      ∧ m' ((c.tc : Thread Cert.ProjInARefIdeal.nD Cert.ProjInARefIdeal.τ).loc Cert.ProjInARefIdeal.main_arg1) = m ((c.tc : Thread Cert.ProjInAIdeal.nD Cert.ProjInAIdeal.τ).loc Cert.ProjInAIdeal.main_arg1)) →
    ∃ (v0 : (c : Dev Cert.ProjInAIdeal.nD) → Buf (Elt Ideal) ((c.tc : Thread Cert.ProjInAIdeal.nD Cert.ProjInAIdeal.τ).loc Cert.ProjInAIdeal.main_v0)),
      θ_run (Cert.ProjInAIdeal.defs (F := Ideal)) (onTc (τ := Cert.ProjInAIdeal.τ) (Cert.ProjInAIdeal.main (F := Ideal))) ⟨m, fun _ => 0, g⟩ (fun r => ∀ c : Dev Cert.ProjInAIdeal.nD,
          r.2.mem ((c.tc : Thread Cert.ProjInAIdeal.nD Cert.ProjInAIdeal.τ).loc Cert.ProjInAIdeal.main_v0) = v0 c
          ∧ r.2.mem ((c.tc : Thread Cert.ProjInAIdeal.nD Cert.ProjInAIdeal.τ).loc Cert.ProjInAIdeal.main_arg0) = m ((c.tc : Thread Cert.ProjInAIdeal.nD Cert.ProjInAIdeal.τ).loc Cert.ProjInAIdeal.main_arg0)
          ∧ r.2.mem ((c.tc : Thread Cert.ProjInAIdeal.nD Cert.ProjInAIdeal.τ).loc Cert.ProjInAIdeal.main_arg1) = m ((c.tc : Thread Cert.ProjInAIdeal.nD Cert.ProjInAIdeal.τ).loc Cert.ProjInAIdeal.main_arg1))
      ∧ θ_run (Cert.ProjInARefIdeal.defs (F := Ideal)) (onTc (τ := Cert.ProjInARefIdeal.τ) (Cert.ProjInARefIdeal.main (F := Ideal))) ⟨m', fun _ => 0, g'⟩ (fun r => ∀ c : Dev Cert.ProjInARefIdeal.nD,
          r.2.mem ((c.tc : Thread Cert.ProjInARefIdeal.nD Cert.ProjInARefIdeal.τ).loc Cert.ProjInARefIdeal.main_v5) = v0 c
          ∧ r.2.mem ((c.tc : Thread Cert.ProjInARefIdeal.nD Cert.ProjInARefIdeal.τ).loc Cert.ProjInARefIdeal.main_arg0) = m' ((c.tc : Thread Cert.ProjInARefIdeal.nD Cert.ProjInARefIdeal.τ).loc Cert.ProjInARefIdeal.main_arg0)
          ∧ r.2.mem ((c.tc : Thread Cert.ProjInARefIdeal.nD Cert.ProjInARefIdeal.τ).loc Cert.ProjInARefIdeal.main_arg1) = m' ((c.tc : Thread Cert.ProjInARefIdeal.nD Cert.ProjInARefIdeal.τ).loc Cert.ProjInARefIdeal.main_arg1))

def preserves_ProjInB_ProjInBIdeal : Prop :=
  True

def algebraic_ProjInBIdeal_ProjInBRefIdeal [hProjInBIdeal : Cert.ProjInBIdeal.Facts] [hProjInBRefIdeal : Cert.ProjInBRefIdeal.Facts] : Prop :=
  ∀ (m : (ℓ : Loc Cert.ProjInBIdeal.nD Cert.ProjInBIdeal.τ Cert.ProjInBIdeal.sig) → Buf (Elt Ideal) ℓ) (g : Dev Cert.ProjInBIdeal.nD → PrngReg)
    (m' : (ℓ : Loc Cert.ProjInBRefIdeal.nD Cert.ProjInBRefIdeal.τ Cert.ProjInBRefIdeal.sig) → Buf (Elt Ideal) ℓ) (g' : Dev Cert.ProjInBRefIdeal.nD → PrngReg), Pre_ProjInBIdeal m →
    (∀ c : Dev Cert.ProjInBIdeal.nD,
      m' ((c.tc : Thread Cert.ProjInBRefIdeal.nD Cert.ProjInBRefIdeal.τ).loc Cert.ProjInBRefIdeal.main_arg0) = m ((c.tc : Thread Cert.ProjInBIdeal.nD Cert.ProjInBIdeal.τ).loc Cert.ProjInBIdeal.main_arg0)
      ∧ m' ((c.tc : Thread Cert.ProjInBRefIdeal.nD Cert.ProjInBRefIdeal.τ).loc Cert.ProjInBRefIdeal.main_arg1) = m ((c.tc : Thread Cert.ProjInBIdeal.nD Cert.ProjInBIdeal.τ).loc Cert.ProjInBIdeal.main_arg1)) →
    ∃ (v0 : (c : Dev Cert.ProjInBIdeal.nD) → Buf (Elt Ideal) ((c.tc : Thread Cert.ProjInBIdeal.nD Cert.ProjInBIdeal.τ).loc Cert.ProjInBIdeal.main_v0)),
      θ_run (Cert.ProjInBIdeal.defs (F := Ideal)) (onTc (τ := Cert.ProjInBIdeal.τ) (Cert.ProjInBIdeal.main (F := Ideal))) ⟨m, fun _ => 0, g⟩ (fun r => ∀ c : Dev Cert.ProjInBIdeal.nD,
          r.2.mem ((c.tc : Thread Cert.ProjInBIdeal.nD Cert.ProjInBIdeal.τ).loc Cert.ProjInBIdeal.main_v0) = v0 c
          ∧ r.2.mem ((c.tc : Thread Cert.ProjInBIdeal.nD Cert.ProjInBIdeal.τ).loc Cert.ProjInBIdeal.main_arg0) = m ((c.tc : Thread Cert.ProjInBIdeal.nD Cert.ProjInBIdeal.τ).loc Cert.ProjInBIdeal.main_arg0)
          ∧ r.2.mem ((c.tc : Thread Cert.ProjInBIdeal.nD Cert.ProjInBIdeal.τ).loc Cert.ProjInBIdeal.main_arg1) = m ((c.tc : Thread Cert.ProjInBIdeal.nD Cert.ProjInBIdeal.τ).loc Cert.ProjInBIdeal.main_arg1))
      ∧ θ_run (Cert.ProjInBRefIdeal.defs (F := Ideal)) (onTc (τ := Cert.ProjInBRefIdeal.τ) (Cert.ProjInBRefIdeal.main (F := Ideal))) ⟨m', fun _ => 0, g'⟩ (fun r => ∀ c : Dev Cert.ProjInBRefIdeal.nD,
          r.2.mem ((c.tc : Thread Cert.ProjInBRefIdeal.nD Cert.ProjInBRefIdeal.τ).loc Cert.ProjInBRefIdeal.main_v4) = v0 c
          ∧ r.2.mem ((c.tc : Thread Cert.ProjInBRefIdeal.nD Cert.ProjInBRefIdeal.τ).loc Cert.ProjInBRefIdeal.main_arg0) = m' ((c.tc : Thread Cert.ProjInBRefIdeal.nD Cert.ProjInBRefIdeal.τ).loc Cert.ProjInBRefIdeal.main_arg0)
          ∧ r.2.mem ((c.tc : Thread Cert.ProjInBRefIdeal.nD Cert.ProjInBRefIdeal.τ).loc Cert.ProjInBRefIdeal.main_arg1) = m' ((c.tc : Thread Cert.ProjInBRefIdeal.nD Cert.ProjInBRefIdeal.τ).loc Cert.ProjInBRefIdeal.main_arg1))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)) →
    ∃ (v0 : (c : Dev Cert.ProjKvIdeal.nD) → Buf (Elt Ideal) ((c.tc : Thread Cert.ProjKvIdeal.nD Cert.ProjKvIdeal.τ).loc Cert.ProjKvIdeal.main_v0)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v0) = v0 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v4) = v0 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v4) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v8) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_ProjOutBwd_ProjOutBwdIdeal : Prop :=
  True

def algebraic_ProjOutBwdIdeal_ProjOutBwdRefIdeal [hProjOutBwdIdeal : Cert.ProjOutBwdIdeal.Facts] [hProjOutBwdRefIdeal : Cert.ProjOutBwdRefIdeal.Facts] : Prop :=
  ∀ (m : (ℓ : Loc Cert.ProjOutBwdIdeal.nD Cert.ProjOutBwdIdeal.τ Cert.ProjOutBwdIdeal.sig) → Buf (Elt Ideal) ℓ) (g : Dev Cert.ProjOutBwdIdeal.nD → PrngReg)
    (m' : (ℓ : Loc Cert.ProjOutBwdRefIdeal.nD Cert.ProjOutBwdRefIdeal.τ Cert.ProjOutBwdRefIdeal.sig) → Buf (Elt Ideal) ℓ) (g' : Dev Cert.ProjOutBwdRefIdeal.nD → PrngReg), Pre_ProjOutBwdIdeal m →
    (∀ c : Dev Cert.ProjOutBwdIdeal.nD,
      m' ((c.tc : Thread Cert.ProjOutBwdRefIdeal.nD Cert.ProjOutBwdRefIdeal.τ).loc Cert.ProjOutBwdRefIdeal.main_arg0) = m ((c.tc : Thread Cert.ProjOutBwdIdeal.nD Cert.ProjOutBwdIdeal.τ).loc Cert.ProjOutBwdIdeal.main_arg0)
      ∧ m' ((c.tc : Thread Cert.ProjOutBwdRefIdeal.nD Cert.ProjOutBwdRefIdeal.τ).loc Cert.ProjOutBwdRefIdeal.main_arg1) = m ((c.tc : Thread Cert.ProjOutBwdIdeal.nD Cert.ProjOutBwdIdeal.τ).loc Cert.ProjOutBwdIdeal.main_arg1)) →
    ∃ (v0 : (c : Dev Cert.ProjOutBwdIdeal.nD) → Buf (Elt Ideal) ((c.tc : Thread Cert.ProjOutBwdIdeal.nD Cert.ProjOutBwdIdeal.τ).loc Cert.ProjOutBwdIdeal.main_v0)),
      θ_run (Cert.ProjOutBwdIdeal.defs (F := Ideal)) (onTc (τ := Cert.ProjOutBwdIdeal.τ) (Cert.ProjOutBwdIdeal.main (F := Ideal))) ⟨m, fun _ => 0, g⟩ (fun r => ∀ c : Dev Cert.ProjOutBwdIdeal.nD,
          r.2.mem ((c.tc : Thread Cert.ProjOutBwdIdeal.nD Cert.ProjOutBwdIdeal.τ).loc Cert.ProjOutBwdIdeal.main_v0) = v0 c
          ∧ r.2.mem ((c.tc : Thread Cert.ProjOutBwdIdeal.nD Cert.ProjOutBwdIdeal.τ).loc Cert.ProjOutBwdIdeal.main_arg0) = m ((c.tc : Thread Cert.ProjOutBwdIdeal.nD Cert.ProjOutBwdIdeal.τ).loc Cert.ProjOutBwdIdeal.main_arg0)
          ∧ r.2.mem ((c.tc : Thread Cert.ProjOutBwdIdeal.nD Cert.ProjOutBwdIdeal.τ).loc Cert.ProjOutBwdIdeal.main_arg1) = m ((c.tc : Thread Cert.ProjOutBwdIdeal.nD Cert.ProjOutBwdIdeal.τ).loc Cert.ProjOutBwdIdeal.main_arg1))
      ∧ θ_run (Cert.ProjOutBwdRefIdeal.defs (F := Ideal)) (onTc (τ := Cert.ProjOutBwdRefIdeal.τ) (Cert.ProjOutBwdRefIdeal.main (F := Ideal))) ⟨m', fun _ => 0, g'⟩ (fun r => ∀ c : Dev Cert.ProjOutBwdRefIdeal.nD,
          r.2.mem ((c.tc : Thread Cert.ProjOutBwdRefIdeal.nD Cert.ProjOutBwdRefIdeal.τ).loc Cert.ProjOutBwdRefIdeal.main_v6) = v0 c
          ∧ r.2.mem ((c.tc : Thread Cert.ProjOutBwdRefIdeal.nD Cert.ProjOutBwdRefIdeal.τ).loc Cert.ProjOutBwdRefIdeal.main_arg0) = m' ((c.tc : Thread Cert.ProjOutBwdRefIdeal.nD Cert.ProjOutBwdRefIdeal.τ).loc Cert.ProjOutBwdRefIdeal.main_arg0)
          ∧ r.2.mem ((c.tc : Thread Cert.ProjOutBwdRefIdeal.nD Cert.ProjOutBwdRefIdeal.τ).loc Cert.ProjOutBwdRefIdeal.main_arg1) = m' ((c.tc : Thread Cert.ProjOutBwdRefIdeal.nD Cert.ProjOutBwdRefIdeal.τ).loc Cert.ProjOutBwdRefIdeal.main_arg1))

def preserves_GradKv_GradKvIdeal : Prop :=
  True

def algebraic_GradKvIdeal_GradKvRefIdeal [hGradKvIdeal : Cert.GradKvIdeal.Facts] [hGradKvRefIdeal : Cert.GradKvRefIdeal.Facts] : Prop :=
  ∀ (m : (ℓ : Loc Cert.GradKvIdeal.nD Cert.GradKvIdeal.τ Cert.GradKvIdeal.sig) → Buf (Elt Ideal) ℓ) (g : Dev Cert.GradKvIdeal.nD → PrngReg)
    (m' : (ℓ : Loc Cert.GradKvRefIdeal.nD Cert.GradKvRefIdeal.τ Cert.GradKvRefIdeal.sig) → Buf (Elt Ideal) ℓ) (g' : Dev Cert.GradKvRefIdeal.nD → PrngReg), Pre_GradKvIdeal m →
    (∀ c : Dev Cert.GradKvIdeal.nD,
      m' ((c.tc : Thread Cert.GradKvRefIdeal.nD Cert.GradKvRefIdeal.τ).loc Cert.GradKvRefIdeal.main_arg0) = m ((c.tc : Thread Cert.GradKvIdeal.nD Cert.GradKvIdeal.τ).loc Cert.GradKvIdeal.main_arg0)
      ∧ m' ((c.tc : Thread Cert.GradKvRefIdeal.nD Cert.GradKvRefIdeal.τ).loc Cert.GradKvRefIdeal.main_arg1) = m ((c.tc : Thread Cert.GradKvIdeal.nD Cert.GradKvIdeal.τ).loc Cert.GradKvIdeal.main_arg1)) →
    ∃ (v0 : (c : Dev Cert.GradKvIdeal.nD) → Buf (Elt Ideal) ((c.tc : Thread Cert.GradKvIdeal.nD Cert.GradKvIdeal.τ).loc Cert.GradKvIdeal.main_v0)),
      θ_run (Cert.GradKvIdeal.defs (F := Ideal)) (onTc (τ := Cert.GradKvIdeal.τ) (Cert.GradKvIdeal.main (F := Ideal))) ⟨m, fun _ => 0, g⟩ (fun r => ∀ c : Dev Cert.GradKvIdeal.nD,
          r.2.mem ((c.tc : Thread Cert.GradKvIdeal.nD Cert.GradKvIdeal.τ).loc Cert.GradKvIdeal.main_v0) = v0 c
          ∧ r.2.mem ((c.tc : Thread Cert.GradKvIdeal.nD Cert.GradKvIdeal.τ).loc Cert.GradKvIdeal.main_arg0) = m ((c.tc : Thread Cert.GradKvIdeal.nD Cert.GradKvIdeal.τ).loc Cert.GradKvIdeal.main_arg0)
          ∧ r.2.mem ((c.tc : Thread Cert.GradKvIdeal.nD Cert.GradKvIdeal.τ).loc Cert.GradKvIdeal.main_arg1) = m ((c.tc : Thread Cert.GradKvIdeal.nD Cert.GradKvIdeal.τ).loc Cert.GradKvIdeal.main_arg1))
      ∧ θ_run (Cert.GradKvRefIdeal.defs (F := Ideal)) (onTc (τ := Cert.GradKvRefIdeal.τ) (Cert.GradKvRefIdeal.main (F := Ideal))) ⟨m', fun _ => 0, g'⟩ (fun r => ∀ c : Dev Cert.GradKvRefIdeal.nD,
          r.2.mem ((c.tc : Thread Cert.GradKvRefIdeal.nD Cert.GradKvRefIdeal.τ).loc Cert.GradKvRefIdeal.main_v7) = v0 c
          ∧ r.2.mem ((c.tc : Thread Cert.GradKvRefIdeal.nD Cert.GradKvRefIdeal.τ).loc Cert.GradKvRefIdeal.main_arg0) = m' ((c.tc : Thread Cert.GradKvRefIdeal.nD Cert.GradKvRefIdeal.τ).loc Cert.GradKvRefIdeal.main_arg0)
          ∧ r.2.mem ((c.tc : Thread Cert.GradKvRefIdeal.nD Cert.GradKvRefIdeal.τ).loc Cert.GradKvRefIdeal.main_arg1) = m' ((c.tc : Thread Cert.GradKvRefIdeal.nD Cert.GradKvRefIdeal.τ).loc Cert.GradKvRefIdeal.main_arg1))

def preserves_GradInA_GradInAIdeal : Prop :=
  True

def algebraic_GradInAIdeal_GradInARefIdeal [hGradInAIdeal : Cert.GradInAIdeal.Facts] [hGradInARefIdeal : Cert.GradInARefIdeal.Facts] : Prop :=
  ∀ (m : (ℓ : Loc Cert.GradInAIdeal.nD Cert.GradInAIdeal.τ Cert.GradInAIdeal.sig) → Buf (Elt Ideal) ℓ) (g : Dev Cert.GradInAIdeal.nD → PrngReg)
    (m' : (ℓ : Loc Cert.GradInARefIdeal.nD Cert.GradInARefIdeal.τ Cert.GradInARefIdeal.sig) → Buf (Elt Ideal) ℓ) (g' : Dev Cert.GradInARefIdeal.nD → PrngReg), Pre_GradInAIdeal m →
    (∀ c : Dev Cert.GradInAIdeal.nD,
      m' ((c.tc : Thread Cert.GradInARefIdeal.nD Cert.GradInARefIdeal.τ).loc Cert.GradInARefIdeal.main_arg0) = m ((c.tc : Thread Cert.GradInAIdeal.nD Cert.GradInAIdeal.τ).loc Cert.GradInAIdeal.main_arg0)
      ∧ m' ((c.tc : Thread Cert.GradInARefIdeal.nD Cert.GradInARefIdeal.τ).loc Cert.GradInARefIdeal.main_arg1) = m ((c.tc : Thread Cert.GradInAIdeal.nD Cert.GradInAIdeal.τ).loc Cert.GradInAIdeal.main_arg1)) →
    ∃ (v0 : (c : Dev Cert.GradInAIdeal.nD) → Buf (Elt Ideal) ((c.tc : Thread Cert.GradInAIdeal.nD Cert.GradInAIdeal.τ).loc Cert.GradInAIdeal.main_v0)),
      θ_run (Cert.GradInAIdeal.defs (F := Ideal)) (onTc (τ := Cert.GradInAIdeal.τ) (Cert.GradInAIdeal.main (F := Ideal))) ⟨m, fun _ => 0, g⟩ (fun r => ∀ c : Dev Cert.GradInAIdeal.nD,
          r.2.mem ((c.tc : Thread Cert.GradInAIdeal.nD Cert.GradInAIdeal.τ).loc Cert.GradInAIdeal.main_v0) = v0 c
          ∧ r.2.mem ((c.tc : Thread Cert.GradInAIdeal.nD Cert.GradInAIdeal.τ).loc Cert.GradInAIdeal.main_arg0) = m ((c.tc : Thread Cert.GradInAIdeal.nD Cert.GradInAIdeal.τ).loc Cert.GradInAIdeal.main_arg0)
          ∧ r.2.mem ((c.tc : Thread Cert.GradInAIdeal.nD Cert.GradInAIdeal.τ).loc Cert.GradInAIdeal.main_arg1) = m ((c.tc : Thread Cert.GradInAIdeal.nD Cert.GradInAIdeal.τ).loc Cert.GradInAIdeal.main_arg1))
      ∧ θ_run (Cert.GradInARefIdeal.defs (F := Ideal)) (onTc (τ := Cert.GradInARefIdeal.τ) (Cert.GradInARefIdeal.main (F := Ideal))) ⟨m', fun _ => 0, g'⟩ (fun r => ∀ c : Dev Cert.GradInARefIdeal.nD,
          r.2.mem ((c.tc : Thread Cert.GradInARefIdeal.nD Cert.GradInARefIdeal.τ).loc Cert.GradInARefIdeal.main_v8) = v0 c
          ∧ r.2.mem ((c.tc : Thread Cert.GradInARefIdeal.nD Cert.GradInARefIdeal.τ).loc Cert.GradInARefIdeal.main_arg0) = m' ((c.tc : Thread Cert.GradInARefIdeal.nD Cert.GradInARefIdeal.τ).loc Cert.GradInARefIdeal.main_arg0)
          ∧ r.2.mem ((c.tc : Thread Cert.GradInARefIdeal.nD Cert.GradInARefIdeal.τ).loc Cert.GradInARefIdeal.main_arg1) = m' ((c.tc : Thread Cert.GradInARefIdeal.nD Cert.GradInARefIdeal.τ).loc Cert.GradInARefIdeal.main_arg1))

def preserves_GradInB_GradInBIdeal : Prop :=
  True

def algebraic_GradInBIdeal_GradInBRefIdeal [hGradInBIdeal : Cert.GradInBIdeal.Facts] [hGradInBRefIdeal : Cert.GradInBRefIdeal.Facts] : Prop :=
  ∀ (m : (ℓ : Loc Cert.GradInBIdeal.nD Cert.GradInBIdeal.τ Cert.GradInBIdeal.sig) → Buf (Elt Ideal) ℓ) (g : Dev Cert.GradInBIdeal.nD → PrngReg)
    (m' : (ℓ : Loc Cert.GradInBRefIdeal.nD Cert.GradInBRefIdeal.τ Cert.GradInBRefIdeal.sig) → Buf (Elt Ideal) ℓ) (g' : Dev Cert.GradInBRefIdeal.nD → PrngReg), Pre_GradInBIdeal m →
    (∀ c : Dev Cert.GradInBIdeal.nD,
      m' ((c.tc : Thread Cert.GradInBRefIdeal.nD Cert.GradInBRefIdeal.τ).loc Cert.GradInBRefIdeal.main_arg0) = m ((c.tc : Thread Cert.GradInBIdeal.nD Cert.GradInBIdeal.τ).loc Cert.GradInBIdeal.main_arg0)
      ∧ m' ((c.tc : Thread Cert.GradInBRefIdeal.nD Cert.GradInBRefIdeal.τ).loc Cert.GradInBRefIdeal.main_arg1) = m ((c.tc : Thread Cert.GradInBIdeal.nD Cert.GradInBIdeal.τ).loc Cert.GradInBIdeal.main_arg1)) →
    ∃ (v0 : (c : Dev Cert.GradInBIdeal.nD) → Buf (Elt Ideal) ((c.tc : Thread Cert.GradInBIdeal.nD Cert.GradInBIdeal.τ).loc Cert.GradInBIdeal.main_v0)),
      θ_run (Cert.GradInBIdeal.defs (F := Ideal)) (onTc (τ := Cert.GradInBIdeal.τ) (Cert.GradInBIdeal.main (F := Ideal))) ⟨m, fun _ => 0, g⟩ (fun r => ∀ c : Dev Cert.GradInBIdeal.nD,
          r.2.mem ((c.tc : Thread Cert.GradInBIdeal.nD Cert.GradInBIdeal.τ).loc Cert.GradInBIdeal.main_v0) = v0 c
          ∧ r.2.mem ((c.tc : Thread Cert.GradInBIdeal.nD Cert.GradInBIdeal.τ).loc Cert.GradInBIdeal.main_arg0) = m ((c.tc : Thread Cert.GradInBIdeal.nD Cert.GradInBIdeal.τ).loc Cert.GradInBIdeal.main_arg0)
          ∧ r.2.mem ((c.tc : Thread Cert.GradInBIdeal.nD Cert.GradInBIdeal.τ).loc Cert.GradInBIdeal.main_arg1) = m ((c.tc : Thread Cert.GradInBIdeal.nD Cert.GradInBIdeal.τ).loc Cert.GradInBIdeal.main_arg1))
      ∧ θ_run (Cert.GradInBRefIdeal.defs (F := Ideal)) (onTc (τ := Cert.GradInBRefIdeal.τ) (Cert.GradInBRefIdeal.main (F := Ideal))) ⟨m', fun _ => 0, g'⟩ (fun r => ∀ c : Dev Cert.GradInBRefIdeal.nD,
          r.2.mem ((c.tc : Thread Cert.GradInBRefIdeal.nD Cert.GradInBRefIdeal.τ).loc Cert.GradInBRefIdeal.main_v8) = v0 c
          ∧ r.2.mem ((c.tc : Thread Cert.GradInBRefIdeal.nD Cert.GradInBRefIdeal.τ).loc Cert.GradInBRefIdeal.main_arg0) = m' ((c.tc : Thread Cert.GradInBRefIdeal.nD Cert.GradInBRefIdeal.τ).loc Cert.GradInBRefIdeal.main_arg0)
          ∧ r.2.mem ((c.tc : Thread Cert.GradInBRefIdeal.nD Cert.GradInBRefIdeal.τ).loc Cert.GradInBRefIdeal.main_arg1) = m' ((c.tc : Thread Cert.GradInBRefIdeal.nD Cert.GradInBRefIdeal.τ).loc Cert.GradInBRefIdeal.main_arg1))

def preserves_ProjInBwdA_ProjInBwdAIdeal : Prop :=
  True

def algebraic_ProjInBwdAIdeal_ProjInBwdARefIdeal [hProjInBwdAIdeal : Cert.ProjInBwdAIdeal.Facts] [hProjInBwdARefIdeal : Cert.ProjInBwdARefIdeal.Facts] : Prop :=
  ∀ (m : (ℓ : Loc Cert.ProjInBwdAIdeal.nD Cert.ProjInBwdAIdeal.τ Cert.ProjInBwdAIdeal.sig) → Buf (Elt Ideal) ℓ) (g : Dev Cert.ProjInBwdAIdeal.nD → PrngReg)
    (m' : (ℓ : Loc Cert.ProjInBwdARefIdeal.nD Cert.ProjInBwdARefIdeal.τ Cert.ProjInBwdARefIdeal.sig) → Buf (Elt Ideal) ℓ) (g' : Dev Cert.ProjInBwdARefIdeal.nD → PrngReg), Pre_ProjInBwdAIdeal m →
    (∀ c : Dev Cert.ProjInBwdAIdeal.nD,
      m' ((c.tc : Thread Cert.ProjInBwdARefIdeal.nD Cert.ProjInBwdARefIdeal.τ).loc Cert.ProjInBwdARefIdeal.main_arg0) = m ((c.tc : Thread Cert.ProjInBwdAIdeal.nD Cert.ProjInBwdAIdeal.τ).loc Cert.ProjInBwdAIdeal.main_arg0)
      ∧ m' ((c.tc : Thread Cert.ProjInBwdARefIdeal.nD Cert.ProjInBwdARefIdeal.τ).loc Cert.ProjInBwdARefIdeal.main_arg1) = m ((c.tc : Thread Cert.ProjInBwdAIdeal.nD Cert.ProjInBwdAIdeal.τ).loc Cert.ProjInBwdAIdeal.main_arg1)
      ∧ m' ((c.tc : Thread Cert.ProjInBwdARefIdeal.nD Cert.ProjInBwdARefIdeal.τ).loc Cert.ProjInBwdARefIdeal.main_arg2) = m ((c.tc : Thread Cert.ProjInBwdAIdeal.nD Cert.ProjInBwdAIdeal.τ).loc Cert.ProjInBwdAIdeal.main_arg2)) →
    ∃ (v0 : (c : Dev Cert.ProjInBwdAIdeal.nD) → Buf (Elt Ideal) ((c.tc : Thread Cert.ProjInBwdAIdeal.nD Cert.ProjInBwdAIdeal.τ).loc Cert.ProjInBwdAIdeal.main_v0)),
      θ_run (Cert.ProjInBwdAIdeal.defs (F := Ideal)) (onTc (τ := Cert.ProjInBwdAIdeal.τ) (Cert.ProjInBwdAIdeal.main (F := Ideal))) ⟨m, fun _ => 0, g⟩ (fun r => ∀ c : Dev Cert.ProjInBwdAIdeal.nD,
          r.2.mem ((c.tc : Thread Cert.ProjInBwdAIdeal.nD Cert.ProjInBwdAIdeal.τ).loc Cert.ProjInBwdAIdeal.main_v0) = v0 c
          ∧ r.2.mem ((c.tc : Thread Cert.ProjInBwdAIdeal.nD Cert.ProjInBwdAIdeal.τ).loc Cert.ProjInBwdAIdeal.main_arg0) = m ((c.tc : Thread Cert.ProjInBwdAIdeal.nD Cert.ProjInBwdAIdeal.τ).loc Cert.ProjInBwdAIdeal.main_arg0)
          ∧ r.2.mem ((c.tc : Thread Cert.ProjInBwdAIdeal.nD Cert.ProjInBwdAIdeal.τ).loc Cert.ProjInBwdAIdeal.main_arg1) = m ((c.tc : Thread Cert.ProjInBwdAIdeal.nD Cert.ProjInBwdAIdeal.τ).loc Cert.ProjInBwdAIdeal.main_arg1)
          ∧ r.2.mem ((c.tc : Thread Cert.ProjInBwdAIdeal.nD Cert.ProjInBwdAIdeal.τ).loc Cert.ProjInBwdAIdeal.main_arg2) = m ((c.tc : Thread Cert.ProjInBwdAIdeal.nD Cert.ProjInBwdAIdeal.τ).loc Cert.ProjInBwdAIdeal.main_arg2))
      ∧ θ_run (Cert.ProjInBwdARefIdeal.defs (F := Ideal)) (onTc (τ := Cert.ProjInBwdARefIdeal.τ) (Cert.ProjInBwdARefIdeal.main (F := Ideal))) ⟨m', fun _ => 0, g'⟩ (fun r => ∀ c : Dev Cert.ProjInBwdARefIdeal.nD,
          r.2.mem ((c.tc : Thread Cert.ProjInBwdARefIdeal.nD Cert.ProjInBwdARefIdeal.τ).loc Cert.ProjInBwdARefIdeal.main_v7) = v0 c
          ∧ r.2.mem ((c.tc : Thread Cert.ProjInBwdARefIdeal.nD Cert.ProjInBwdARefIdeal.τ).loc Cert.ProjInBwdARefIdeal.main_arg0) = m' ((c.tc : Thread Cert.ProjInBwdARefIdeal.nD Cert.ProjInBwdARefIdeal.τ).loc Cert.ProjInBwdARefIdeal.main_arg0)
          ∧ r.2.mem ((c.tc : Thread Cert.ProjInBwdARefIdeal.nD Cert.ProjInBwdARefIdeal.τ).loc Cert.ProjInBwdARefIdeal.main_arg1) = m' ((c.tc : Thread Cert.ProjInBwdARefIdeal.nD Cert.ProjInBwdARefIdeal.τ).loc Cert.ProjInBwdARefIdeal.main_arg1)
          ∧ r.2.mem ((c.tc : Thread Cert.ProjInBwdARefIdeal.nD Cert.ProjInBwdARefIdeal.τ).loc Cert.ProjInBwdARefIdeal.main_arg2) = m' ((c.tc : Thread Cert.ProjInBwdARefIdeal.nD Cert.ProjInBwdARefIdeal.τ).loc Cert.ProjInBwdARefIdeal.main_arg2))

def preserves_ProjInBwdB_ProjInBwdBIdeal : Prop :=
  True

def algebraic_ProjInBwdBIdeal_ProjInBwdBRefIdeal [hProjInBwdBIdeal : Cert.ProjInBwdBIdeal.Facts] [hProjInBwdBRefIdeal : Cert.ProjInBwdBRefIdeal.Facts] : Prop :=
  ∀ (m : (ℓ : Loc Cert.ProjInBwdBIdeal.nD Cert.ProjInBwdBIdeal.τ Cert.ProjInBwdBIdeal.sig) → Buf (Elt Ideal) ℓ) (g : Dev Cert.ProjInBwdBIdeal.nD → PrngReg)
    (m' : (ℓ : Loc Cert.ProjInBwdBRefIdeal.nD Cert.ProjInBwdBRefIdeal.τ Cert.ProjInBwdBRefIdeal.sig) → Buf (Elt Ideal) ℓ) (g' : Dev Cert.ProjInBwdBRefIdeal.nD → PrngReg), Pre_ProjInBwdBIdeal m →
    (∀ c : Dev Cert.ProjInBwdBIdeal.nD,
      m' ((c.tc : Thread Cert.ProjInBwdBRefIdeal.nD Cert.ProjInBwdBRefIdeal.τ).loc Cert.ProjInBwdBRefIdeal.main_arg0) = m ((c.tc : Thread Cert.ProjInBwdBIdeal.nD Cert.ProjInBwdBIdeal.τ).loc Cert.ProjInBwdBIdeal.main_arg0)
      ∧ m' ((c.tc : Thread Cert.ProjInBwdBRefIdeal.nD Cert.ProjInBwdBRefIdeal.τ).loc Cert.ProjInBwdBRefIdeal.main_arg1) = m ((c.tc : Thread Cert.ProjInBwdBIdeal.nD Cert.ProjInBwdBIdeal.τ).loc Cert.ProjInBwdBIdeal.main_arg1)
      ∧ m' ((c.tc : Thread Cert.ProjInBwdBRefIdeal.nD Cert.ProjInBwdBRefIdeal.τ).loc Cert.ProjInBwdBRefIdeal.main_arg2) = m ((c.tc : Thread Cert.ProjInBwdBIdeal.nD Cert.ProjInBwdBIdeal.τ).loc Cert.ProjInBwdBIdeal.main_arg2)) →
    ∃ (v0 : (c : Dev Cert.ProjInBwdBIdeal.nD) → Buf (Elt Ideal) ((c.tc : Thread Cert.ProjInBwdBIdeal.nD Cert.ProjInBwdBIdeal.τ).loc Cert.ProjInBwdBIdeal.main_v0)),
      θ_run (Cert.ProjInBwdBIdeal.defs (F := Ideal)) (onTc (τ := Cert.ProjInBwdBIdeal.τ) (Cert.ProjInBwdBIdeal.main (F := Ideal))) ⟨m, fun _ => 0, g⟩ (fun r => ∀ c : Dev Cert.ProjInBwdBIdeal.nD,
          r.2.mem ((c.tc : Thread Cert.ProjInBwdBIdeal.nD Cert.ProjInBwdBIdeal.τ).loc Cert.ProjInBwdBIdeal.main_v0) = v0 c
          ∧ r.2.mem ((c.tc : Thread Cert.ProjInBwdBIdeal.nD Cert.ProjInBwdBIdeal.τ).loc Cert.ProjInBwdBIdeal.main_arg0) = m ((c.tc : Thread Cert.ProjInBwdBIdeal.nD Cert.ProjInBwdBIdeal.τ).loc Cert.ProjInBwdBIdeal.main_arg0)
          ∧ r.2.mem ((c.tc : Thread Cert.ProjInBwdBIdeal.nD Cert.ProjInBwdBIdeal.τ).loc Cert.ProjInBwdBIdeal.main_arg1) = m ((c.tc : Thread Cert.ProjInBwdBIdeal.nD Cert.ProjInBwdBIdeal.τ).loc Cert.ProjInBwdBIdeal.main_arg1)
          ∧ r.2.mem ((c.tc : Thread Cert.ProjInBwdBIdeal.nD Cert.ProjInBwdBIdeal.τ).loc Cert.ProjInBwdBIdeal.main_arg2) = m ((c.tc : Thread Cert.ProjInBwdBIdeal.nD Cert.ProjInBwdBIdeal.τ).loc Cert.ProjInBwdBIdeal.main_arg2))
      ∧ θ_run (Cert.ProjInBwdBRefIdeal.defs (F := Ideal)) (onTc (τ := Cert.ProjInBwdBRefIdeal.τ) (Cert.ProjInBwdBRefIdeal.main (F := Ideal))) ⟨m', fun _ => 0, g'⟩ (fun r => ∀ c : Dev Cert.ProjInBwdBRefIdeal.nD,
          r.2.mem ((c.tc : Thread Cert.ProjInBwdBRefIdeal.nD Cert.ProjInBwdBRefIdeal.τ).loc Cert.ProjInBwdBRefIdeal.main_v7) = v0 c
          ∧ r.2.mem ((c.tc : Thread Cert.ProjInBwdBRefIdeal.nD Cert.ProjInBwdBRefIdeal.τ).loc Cert.ProjInBwdBRefIdeal.main_arg0) = m' ((c.tc : Thread Cert.ProjInBwdBRefIdeal.nD Cert.ProjInBwdBRefIdeal.τ).loc Cert.ProjInBwdBRefIdeal.main_arg0)
          ∧ r.2.mem ((c.tc : Thread Cert.ProjInBwdBRefIdeal.nD Cert.ProjInBwdBRefIdeal.τ).loc Cert.ProjInBwdBRefIdeal.main_arg1) = m' ((c.tc : Thread Cert.ProjInBwdBRefIdeal.nD Cert.ProjInBwdBRefIdeal.τ).loc Cert.ProjInBwdBRefIdeal.main_arg1)
          ∧ r.2.mem ((c.tc : Thread Cert.ProjInBwdBRefIdeal.nD Cert.ProjInBwdBRefIdeal.τ).loc Cert.ProjInBwdBRefIdeal.main_arg2) = m' ((c.tc : Thread Cert.ProjInBwdBRefIdeal.nD Cert.ProjInBwdBRefIdeal.τ).loc Cert.ProjInBwdBRefIdeal.main_arg2))

def preserves_LnBwd_LnBwdIdeal : Prop :=
  True

def algebraic_LnBwdIdeal_LnBwdRefIdeal_pre_gradient_finite [hLnBwdIdeal : Cert.LnBwdIdeal.Facts] [hLnBwdRefIdeal : Cert.LnBwdRefIdeal.Facts] [hPre_gradient_finite : Cert.Pre_gradient_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_gradient_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v69) = v0 c
          ∧ r.2.mem ((c.tc : Thread Cert.LnBwdRefIdeal.nD Cert.LnBwdRefIdeal.τ).loc Cert.LnBwdRefIdeal.main_v68) = v1 c
          ∧ r.2.mem ((c.tc : Thread Cert.LnBwdRefIdeal.nD Cert.LnBwdRefIdeal.τ).loc Cert.LnBwdRefIdeal.main_v70) = v2 c
          ∧ r.2.mem ((c.tc : Thread Cert.LnBwdRefIdeal.nD Cert.LnBwdRefIdeal.τ).loc Cert.LnBwdRefIdeal.main_v71) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v2_0)) (v1 : (c : Dev Cert.LnFwdIdeal.nD) → Buf (Elt Ideal) ((c.tc : Thread Cert.LnFwdIdeal.nD Cert.LnFwdIdeal.τ).loc Cert.LnFwdIdeal.main_v2_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v2_0) = v0 c
          ∧ r.2.mem ((c.tc : Thread Cert.LnFwdIdeal.nD Cert.LnFwdIdeal.τ).loc Cert.LnFwdIdeal.main_v2_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v26) = v0 c
          ∧ r.2.mem ((c.tc : Thread Cert.LnFwdRefIdeal.nD Cert.LnFwdRefIdeal.τ).loc Cert.LnFwdRefIdeal.main_v27) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v18) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AdamFf_AdamFfIdeal : Prop :=
  True

def algebraic_AdamFfIdeal_AdamFfRefIdeal [hAdamFfIdeal : Cert.AdamFfIdeal.Facts] [hAdamFfRefIdeal : Cert.AdamFfRefIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfRefIdeal.nD Cert.AdamFfRefIdeal.τ Cert.AdamFfRefIdeal.sig) → Buf (Elt Ideal) ℓ) (g' : Dev Cert.AdamFfRefIdeal.nD → PrngReg), Pre_AdamFfIdeal m →
    (∀ c : Dev Cert.AdamFfIdeal.nD,
      m' ((c.tc : Thread Cert.AdamFfRefIdeal.nD Cert.AdamFfRefIdeal.τ).loc Cert.AdamFfRefIdeal.main_arg0) = m ((c.tc : Thread Cert.AdamFfIdeal.nD Cert.AdamFfIdeal.τ).loc Cert.AdamFfIdeal.main_arg0)
      ∧ m' ((c.tc : Thread Cert.AdamFfRefIdeal.nD Cert.AdamFfRefIdeal.τ).loc Cert.AdamFfRefIdeal.main_arg1) = m ((c.tc : Thread Cert.AdamFfIdeal.nD Cert.AdamFfIdeal.τ).loc Cert.AdamFfIdeal.main_arg1)
      ∧ m' ((c.tc : Thread Cert.AdamFfRefIdeal.nD Cert.AdamFfRefIdeal.τ).loc Cert.AdamFfRefIdeal.main_arg2) = m ((c.tc : Thread Cert.AdamFfIdeal.nD Cert.AdamFfIdeal.τ).loc Cert.AdamFfIdeal.main_arg2)
      ∧ m' ((c.tc : Thread Cert.AdamFfRefIdeal.nD Cert.AdamFfRefIdeal.τ).loc Cert.AdamFfRefIdeal.main_arg3) = m ((c.tc : Thread Cert.AdamFfIdeal.nD Cert.AdamFfIdeal.τ).loc Cert.AdamFfIdeal.main_arg3)) →
    ∃ (v0 : (c : Dev Cert.AdamFfIdeal.nD) → Buf (Elt Ideal) ((c.tc : Thread Cert.AdamFfIdeal.nD Cert.AdamFfIdeal.τ).loc Cert.AdamFfIdeal.main_v0_0)) (v1 : (c : Dev Cert.AdamFfIdeal.nD) → Buf (Elt Ideal) ((c.tc : Thread Cert.AdamFfIdeal.nD Cert.AdamFfIdeal.τ).loc Cert.AdamFfIdeal.main_v0_1)) (v2 : (c : Dev Cert.AdamFfIdeal.nD) → Buf (Elt Ideal) ((c.tc : Thread Cert.AdamFfIdeal.nD Cert.AdamFfIdeal.τ).loc Cert.AdamFfIdeal.main_v0_2)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v0_0) = v0 c
          ∧ r.2.mem ((c.tc : Thread Cert.AdamFfIdeal.nD Cert.AdamFfIdeal.τ).loc Cert.AdamFfIdeal.main_v0_1) = v1 c
          ∧ r.2.mem ((c.tc : Thread Cert.AdamFfIdeal.nD Cert.AdamFfIdeal.τ).loc Cert.AdamFfIdeal.main_v0_2) = v2 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3))
      ∧ θ_run (Cert.AdamFfRefIdeal.defs (F := Ideal)) (onTc (τ := Cert.AdamFfRefIdeal.τ) (Cert.AdamFfRefIdeal.main (F := Ideal))) ⟨m', fun _ => 0, g'⟩ (fun r => ∀ c : Dev Cert.AdamFfRefIdeal.nD,
          r.2.mem ((c.tc : Thread Cert.AdamFfRefIdeal.nD Cert.AdamFfRefIdeal.τ).loc Cert.AdamFfRefIdeal.main_v23) = v0 c
          ∧ r.2.mem ((c.tc : Thread Cert.AdamFfRefIdeal.nD Cert.AdamFfRefIdeal.τ).loc Cert.AdamFfRefIdeal.main_v4) = v1 c
          ∧ r.2.mem ((c.tc : Thread Cert.AdamFfRefIdeal.nD Cert.AdamFfRefIdeal.τ).loc Cert.AdamFfRefIdeal.main_v10) = v2 c
          ∧ r.2.mem ((c.tc : Thread Cert.AdamFfRefIdeal.nD Cert.AdamFfRefIdeal.τ).loc Cert.AdamFfRefIdeal.main_arg0) = m' ((c.tc : Thread Cert.AdamFfRefIdeal.nD Cert.AdamFfRefIdeal.τ).loc Cert.AdamFfRefIdeal.main_arg0)
          ∧ r.2.mem ((c.tc : Thread Cert.AdamFfRefIdeal.nD Cert.AdamFfRefIdeal.τ).loc Cert.AdamFfRefIdeal.main_arg1) = m' ((c.tc : Thread Cert.AdamFfRefIdeal.nD Cert.AdamFfRefIdeal.τ).loc Cert.AdamFfRefIdeal.main_arg1)
          ∧ r.2.mem ((c.tc : Thread Cert.AdamFfRefIdeal.nD Cert.AdamFfRefIdeal.τ).loc Cert.AdamFfRefIdeal.main_arg2) = m' ((c.tc : Thread Cert.AdamFfRefIdeal.nD Cert.AdamFfRefIdeal.τ).loc Cert.AdamFfRefIdeal.main_arg2)
          ∧ r.2.mem ((c.tc : Thread Cert.AdamFfRefIdeal.nD Cert.AdamFfRefIdeal.τ).loc Cert.AdamFfRefIdeal.main_arg3) = m' ((c.tc : Thread Cert.AdamFfRefIdeal.nD Cert.AdamFfRefIdeal.τ).loc Cert.AdamFfRefIdeal.main_arg3))

def preserves_AdamInA_AdamInAIdeal : Prop :=
  True

def algebraic_AdamInAIdeal_AdamInARefIdeal [hAdamInAIdeal : Cert.AdamInAIdeal.Facts] [hAdamInARefIdeal : Cert.AdamInARefIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg)
    (m' : (ℓ : Loc Cert.AdamInARefIdeal.nD Cert.AdamInARefIdeal.τ Cert.AdamInARefIdeal.sig) → Buf (Elt Ideal) ℓ) (g' : Dev Cert.AdamInARefIdeal.nD → PrngReg), Pre_AdamInAIdeal m →
    (∀ c : Dev Cert.AdamInAIdeal.nD,
      m' ((c.tc : Thread Cert.AdamInARefIdeal.nD Cert.AdamInARefIdeal.τ).loc Cert.AdamInARefIdeal.main_arg0) = m ((c.tc : Thread Cert.AdamInAIdeal.nD Cert.AdamInAIdeal.τ).loc Cert.AdamInAIdeal.main_arg0)
      ∧ m' ((c.tc : Thread Cert.AdamInARefIdeal.nD Cert.AdamInARefIdeal.τ).loc Cert.AdamInARefIdeal.main_arg1) = m ((c.tc : Thread Cert.AdamInAIdeal.nD Cert.AdamInAIdeal.τ).loc Cert.AdamInAIdeal.main_arg1)
      ∧ m' ((c.tc : Thread Cert.AdamInARefIdeal.nD Cert.AdamInARefIdeal.τ).loc Cert.AdamInARefIdeal.main_arg2) = m ((c.tc : Thread Cert.AdamInAIdeal.nD Cert.AdamInAIdeal.τ).loc Cert.AdamInAIdeal.main_arg2)
      ∧ m' ((c.tc : Thread Cert.AdamInARefIdeal.nD Cert.AdamInARefIdeal.τ).loc Cert.AdamInARefIdeal.main_arg3) = m ((c.tc : Thread Cert.AdamInAIdeal.nD Cert.AdamInAIdeal.τ).loc Cert.AdamInAIdeal.main_arg3)) →
    ∃ (v0 : (c : Dev Cert.AdamInAIdeal.nD) → Buf (Elt Ideal) ((c.tc : Thread Cert.AdamInAIdeal.nD Cert.AdamInAIdeal.τ).loc Cert.AdamInAIdeal.main_v0_0)) (v1 : (c : Dev Cert.AdamInAIdeal.nD) → Buf (Elt Ideal) ((c.tc : Thread Cert.AdamInAIdeal.nD Cert.AdamInAIdeal.τ).loc Cert.AdamInAIdeal.main_v0_1)) (v2 : (c : Dev Cert.AdamInAIdeal.nD) → Buf (Elt Ideal) ((c.tc : Thread Cert.AdamInAIdeal.nD Cert.AdamInAIdeal.τ).loc Cert.AdamInAIdeal.main_v0_2)),
      θ_run (Cert.AdamInAIdeal.defs (F := Ideal)) (onTc (τ := Cert.AdamInAIdeal.τ) (Cert.AdamInAIdeal.main (F := Ideal))) ⟨m, fun _ => 0, g⟩ (fun r => ∀ c : Dev Cert.AdamInAIdeal.nD,
          r.2.mem ((c.tc : Thread Cert.AdamInAIdeal.nD Cert.AdamInAIdeal.τ).loc Cert.AdamInAIdeal.main_v0_0) = v0 c
          ∧ r.2.mem ((c.tc : Thread Cert.AdamInAIdeal.nD Cert.AdamInAIdeal.τ).loc Cert.AdamInAIdeal.main_v0_1) = v1 c
          ∧ r.2.mem ((c.tc : Thread Cert.AdamInAIdeal.nD Cert.AdamInAIdeal.τ).loc Cert.AdamInAIdeal.main_v0_2) = v2 c
          ∧ r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
          ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
          ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
          ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ θ_run (Cert.AdamInARefIdeal.defs (F := Ideal)) (onTc (τ := Cert.AdamInARefIdeal.τ) (Cert.AdamInARefIdeal.main (F := Ideal))) ⟨m', fun _ => 0, g'⟩ (fun r => ∀ c : Dev Cert.AdamInARefIdeal.nD,
          r.2.mem ((c.tc : Thread Cert.AdamInARefIdeal.nD Cert.AdamInARefIdeal.τ).loc Cert.AdamInARefIdeal.main_v23) = v0 c
          ∧ r.2.mem ((c.tc : Thread Cert.AdamInARefIdeal.nD Cert.AdamInARefIdeal.τ).loc Cert.AdamInARefIdeal.main_v4) = v1 c
          ∧ r.2.mem ((c.tc : Thread Cert.AdamInARefIdeal.nD Cert.AdamInARefIdeal.τ).loc Cert.AdamInARefIdeal.main_v10) = v2 c
          ∧ r.2.mem ((c.tc : Thread Cert.AdamInARefIdeal.nD Cert.AdamInARefIdeal.τ).loc Cert.AdamInARefIdeal.main_arg0) = m' ((c.tc : Thread Cert.AdamInARefIdeal.nD Cert.AdamInARefIdeal.τ).loc Cert.AdamInARefIdeal.main_arg0)
          ∧ r.2.mem ((c.tc : Thread Cert.AdamInARefIdeal.nD Cert.AdamInARefIdeal.τ).loc Cert.AdamInARefIdeal.main_arg1) = m' ((c.tc : Thread Cert.AdamInARefIdeal.nD Cert.AdamInARefIdeal.τ).loc Cert.AdamInARefIdeal.main_arg1)
          ∧ r.2.mem ((c.tc : Thread Cert.AdamInARefIdeal.nD Cert.AdamInARefIdeal.τ).loc Cert.AdamInARefIdeal.main_arg2) = m' ((c.tc : Thread Cert.AdamInARefIdeal.nD Cert.AdamInARefIdeal.τ).loc Cert.AdamInARefIdeal.main_arg2)
          ∧ r.2.mem ((c.tc : Thread Cert.AdamInARefIdeal.nD Cert.AdamInARefIdeal.τ).loc Cert.AdamInARefIdeal.main_arg3) = m' ((c.tc : Thread Cert.AdamInARefIdeal.nD Cert.AdamInARefIdeal.τ).loc Cert.AdamInARefIdeal.main_arg3))

def preserves_AdamInB_AdamInBIdeal : Prop :=
  True

def algebraic_AdamInBIdeal_AdamInBRefIdeal [hAdamInBIdeal : Cert.AdamInBIdeal.Facts] [hAdamInBRefIdeal : Cert.AdamInBRefIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg)
    (m' : (ℓ : Loc Cert.AdamInBRefIdeal.nD Cert.AdamInBRefIdeal.τ Cert.AdamInBRefIdeal.sig) → Buf (Elt Ideal) ℓ) (g' : Dev Cert.AdamInBRefIdeal.nD → PrngReg), Pre_AdamInBIdeal m →
    (∀ c : Dev Cert.AdamInBIdeal.nD,
      m' ((c.tc : Thread Cert.AdamInBRefIdeal.nD Cert.AdamInBRefIdeal.τ).loc Cert.AdamInBRefIdeal.main_arg0) = m ((c.tc : Thread Cert.AdamInBIdeal.nD Cert.AdamInBIdeal.τ).loc Cert.AdamInBIdeal.main_arg0)
      ∧ m' ((c.tc : Thread Cert.AdamInBRefIdeal.nD Cert.AdamInBRefIdeal.τ).loc Cert.AdamInBRefIdeal.main_arg1) = m ((c.tc : Thread Cert.AdamInBIdeal.nD Cert.AdamInBIdeal.τ).loc Cert.AdamInBIdeal.main_arg1)
      ∧ m' ((c.tc : Thread Cert.AdamInBRefIdeal.nD Cert.AdamInBRefIdeal.τ).loc Cert.AdamInBRefIdeal.main_arg2) = m ((c.tc : Thread Cert.AdamInBIdeal.nD Cert.AdamInBIdeal.τ).loc Cert.AdamInBIdeal.main_arg2)
      ∧ m' ((c.tc : Thread Cert.AdamInBRefIdeal.nD Cert.AdamInBRefIdeal.τ).loc Cert.AdamInBRefIdeal.main_arg3) = m ((c.tc : Thread Cert.AdamInBIdeal.nD Cert.AdamInBIdeal.τ).loc Cert.AdamInBIdeal.main_arg3)) →
    ∃ (v0 : (c : Dev Cert.AdamInBIdeal.nD) → Buf (Elt Ideal) ((c.tc : Thread Cert.AdamInBIdeal.nD Cert.AdamInBIdeal.τ).loc Cert.AdamInBIdeal.main_v0_0)) (v1 : (c : Dev Cert.AdamInBIdeal.nD) → Buf (Elt Ideal) ((c.tc : Thread Cert.AdamInBIdeal.nD Cert.AdamInBIdeal.τ).loc Cert.AdamInBIdeal.main_v0_1)) (v2 : (c : Dev Cert.AdamInBIdeal.nD) → Buf (Elt Ideal) ((c.tc : Thread Cert.AdamInBIdeal.nD Cert.AdamInBIdeal.τ).loc Cert.AdamInBIdeal.main_v0_2)),
      θ_run (Cert.AdamInBIdeal.defs (F := Ideal)) (onTc (τ := Cert.AdamInBIdeal.τ) (Cert.AdamInBIdeal.main (F := Ideal))) ⟨m, fun _ => 0, g⟩ (fun r => ∀ c : Dev Cert.AdamInBIdeal.nD,
          r.2.mem ((c.tc : Thread Cert.AdamInBIdeal.nD Cert.AdamInBIdeal.τ).loc Cert.AdamInBIdeal.main_v0_0) = v0 c
          ∧ r.2.mem ((c.tc : Thread Cert.AdamInBIdeal.nD Cert.AdamInBIdeal.τ).loc Cert.AdamInBIdeal.main_v0_1) = v1 c
          ∧ r.2.mem ((c.tc : Thread Cert.AdamInBIdeal.nD Cert.AdamInBIdeal.τ).loc Cert.AdamInBIdeal.main_v0_2) = v2 c
          ∧ r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
          ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
          ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
          ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ θ_run (Cert.AdamInBRefIdeal.defs (F := Ideal)) (onTc (τ := Cert.AdamInBRefIdeal.τ) (Cert.AdamInBRefIdeal.main (F := Ideal))) ⟨m', fun _ => 0, g'⟩ (fun r => ∀ c : Dev Cert.AdamInBRefIdeal.nD,
          r.2.mem ((c.tc : Thread Cert.AdamInBRefIdeal.nD Cert.AdamInBRefIdeal.τ).loc Cert.AdamInBRefIdeal.main_v23) = v0 c
          ∧ r.2.mem ((c.tc : Thread Cert.AdamInBRefIdeal.nD Cert.AdamInBRefIdeal.τ).loc Cert.AdamInBRefIdeal.main_v4) = v1 c
          ∧ r.2.mem ((c.tc : Thread Cert.AdamInBRefIdeal.nD Cert.AdamInBRefIdeal.τ).loc Cert.AdamInBRefIdeal.main_v10) = v2 c
          ∧ r.2.mem ((c.tc : Thread Cert.AdamInBRefIdeal.nD Cert.AdamInBRefIdeal.τ).loc Cert.AdamInBRefIdeal.main_arg0) = m' ((c.tc : Thread Cert.AdamInBRefIdeal.nD Cert.AdamInBRefIdeal.τ).loc Cert.AdamInBRefIdeal.main_arg0)
          ∧ r.2.mem ((c.tc : Thread Cert.AdamInBRefIdeal.nD Cert.AdamInBRefIdeal.τ).loc Cert.AdamInBRefIdeal.main_arg1) = m' ((c.tc : Thread Cert.AdamInBRefIdeal.nD Cert.AdamInBRefIdeal.τ).loc Cert.AdamInBRefIdeal.main_arg1)
          ∧ r.2.mem ((c.tc : Thread Cert.AdamInBRefIdeal.nD Cert.AdamInBRefIdeal.τ).loc Cert.AdamInBRefIdeal.main_arg2) = m' ((c.tc : Thread Cert.AdamInBRefIdeal.nD Cert.AdamInBRefIdeal.τ).loc Cert.AdamInBRefIdeal.main_arg2)
          ∧ r.2.mem ((c.tc : Thread Cert.AdamInBRefIdeal.nD Cert.AdamInBRefIdeal.τ).loc Cert.AdamInBRefIdeal.main_arg3) = m' ((c.tc : Thread Cert.AdamInBRefIdeal.nD Cert.AdamInBRefIdeal.τ).loc Cert.AdamInBRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_MemBwdB_MemBwdBIdeal : Prop :=
  True

def algebraic_MemBwdBIdeal_MemBwdBRefIdeal_pre_scores_finite_b [hMemBwdBIdeal : Cert.MemBwdBIdeal.Facts] [hMemBwdBRefIdeal : Cert.MemBwdBRefIdeal.Facts] [hPre_scores_finite_b : Cert.Pre_scores_finite_b.Facts] : Prop :=
  ∀ (m : (ℓ : Loc Cert.MemBwdBIdeal.nD Cert.MemBwdBIdeal.τ Cert.MemBwdBIdeal.sig) → Buf (Elt Ideal) ℓ) (g : Dev Cert.MemBwdBIdeal.nD → PrngReg)
    (m' : (ℓ : Loc Cert.MemBwdBRefIdeal.nD Cert.MemBwdBRefIdeal.τ Cert.MemBwdBRefIdeal.sig) → Buf (Elt Ideal) ℓ) (g' : Dev Cert.MemBwdBRefIdeal.nD → PrngReg), Pre_MemBwdBIdeal_scores_finite_b m →
    (∀ c : Dev Cert.MemBwdBIdeal.nD,
      m' ((c.tc : Thread Cert.MemBwdBRefIdeal.nD Cert.MemBwdBRefIdeal.τ).loc Cert.MemBwdBRefIdeal.main_arg0) = m ((c.tc : Thread Cert.MemBwdBIdeal.nD Cert.MemBwdBIdeal.τ).loc Cert.MemBwdBIdeal.main_arg0)
      ∧ m' ((c.tc : Thread Cert.MemBwdBRefIdeal.nD Cert.MemBwdBRefIdeal.τ).loc Cert.MemBwdBRefIdeal.main_arg1) = m ((c.tc : Thread Cert.MemBwdBIdeal.nD Cert.MemBwdBIdeal.τ).loc Cert.MemBwdBIdeal.main_arg1)
      ∧ m' ((c.tc : Thread Cert.MemBwdBRefIdeal.nD Cert.MemBwdBRefIdeal.τ).loc Cert.MemBwdBRefIdeal.main_arg2) = m ((c.tc : Thread Cert.MemBwdBIdeal.nD Cert.MemBwdBIdeal.τ).loc Cert.MemBwdBIdeal.main_arg2)) →
    ∃ (v0 : (c : Dev Cert.MemBwdBIdeal.nD) → Buf (Elt Ideal) ((c.tc : Thread Cert.MemBwdBIdeal.nD Cert.MemBwdBIdeal.τ).loc Cert.MemBwdBIdeal.main_v0_0)) (v1 : (c : Dev Cert.MemBwdBIdeal.nD) → Buf (Elt Ideal) ((c.tc : Thread Cert.MemBwdBIdeal.nD Cert.MemBwdBIdeal.τ).loc Cert.MemBwdBIdeal.main_v0_1)),
      θ_run (Cert.MemBwdBIdeal.defs (F := Ideal)) (onTc (τ := Cert.MemBwdBIdeal.τ) (Cert.MemBwdBIdeal.main (F := Ideal))) ⟨m, fun _ => 0, g⟩ (fun r => ∀ c : Dev Cert.MemBwdBIdeal.nD,
          r.2.mem ((c.tc : Thread Cert.MemBwdBIdeal.nD Cert.MemBwdBIdeal.τ).loc Cert.MemBwdBIdeal.main_v0_0) = v0 c
          ∧ r.2.mem ((c.tc : Thread Cert.MemBwdBIdeal.nD Cert.MemBwdBIdeal.τ).loc Cert.MemBwdBIdeal.main_v0_1) = v1 c
          ∧ r.2.mem ((c.tc : Thread Cert.MemBwdBIdeal.nD Cert.MemBwdBIdeal.τ).loc Cert.MemBwdBIdeal.main_arg0) = m ((c.tc : Thread Cert.MemBwdBIdeal.nD Cert.MemBwdBIdeal.τ).loc Cert.MemBwdBIdeal.main_arg0)
          ∧ r.2.mem ((c.tc : Thread Cert.MemBwdBIdeal.nD Cert.MemBwdBIdeal.τ).loc Cert.MemBwdBIdeal.main_arg1) = m ((c.tc : Thread Cert.MemBwdBIdeal.nD Cert.MemBwdBIdeal.τ).loc Cert.MemBwdBIdeal.main_arg1)
          ∧ r.2.mem ((c.tc : Thread Cert.MemBwdBIdeal.nD Cert.MemBwdBIdeal.τ).loc Cert.MemBwdBIdeal.main_arg2) = m ((c.tc : Thread Cert.MemBwdBIdeal.nD Cert.MemBwdBIdeal.τ).loc Cert.MemBwdBIdeal.main_arg2))
      ∧ θ_run (Cert.MemBwdBRefIdeal.defs (F := Ideal)) (onTc (τ := Cert.MemBwdBRefIdeal.τ) (Cert.MemBwdBRefIdeal.main (F := Ideal))) ⟨m', fun _ => 0, g'⟩ (fun r => ∀ c : Dev Cert.MemBwdBRefIdeal.nD,
          r.2.mem ((c.tc : Thread Cert.MemBwdBRefIdeal.nD Cert.MemBwdBRefIdeal.τ).loc Cert.MemBwdBRefIdeal.main_v78) = v0 c
          ∧ r.2.mem ((c.tc : Thread Cert.MemBwdBRefIdeal.nD Cert.MemBwdBRefIdeal.τ).loc Cert.MemBwdBRefIdeal.main_v79) = v1 c
          ∧ r.2.mem ((c.tc : Thread Cert.MemBwdBRefIdeal.nD Cert.MemBwdBRefIdeal.τ).loc Cert.MemBwdBRefIdeal.main_arg0) = m' ((c.tc : Thread Cert.MemBwdBRefIdeal.nD Cert.MemBwdBRefIdeal.τ).loc Cert.MemBwdBRefIdeal.main_arg0)
          ∧ r.2.mem ((c.tc : Thread Cert.MemBwdBRefIdeal.nD Cert.MemBwdBRefIdeal.τ).loc Cert.MemBwdBRefIdeal.main_arg1) = m' ((c.tc : Thread Cert.MemBwdBRefIdeal.nD Cert.MemBwdBRefIdeal.τ).loc Cert.MemBwdBRefIdeal.main_arg1)
          ∧ r.2.mem ((c.tc : Thread Cert.MemBwdBRefIdeal.nD Cert.MemBwdBRefIdeal.τ).loc Cert.MemBwdBRefIdeal.main_arg2) = m' ((c.tc : Thread Cert.MemBwdBRefIdeal.nD Cert.MemBwdBRefIdeal.τ).loc Cert.MemBwdBRefIdeal.main_arg2))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v30) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2))

def preserves_MemFwdB_MemFwdBIdeal : Prop :=
  True

def algebraic_MemFwdBIdeal_MemFwdBRefIdeal [hMemFwdBIdeal : Cert.MemFwdBIdeal.Facts] [hMemFwdBRefIdeal : Cert.MemFwdBRefIdeal.Facts] : Prop :=
  ∀ (m : (ℓ : Loc Cert.MemFwdBIdeal.nD Cert.MemFwdBIdeal.τ Cert.MemFwdBIdeal.sig) → Buf (Elt Ideal) ℓ) (g : Dev Cert.MemFwdBIdeal.nD → PrngReg)
    (m' : (ℓ : Loc Cert.MemFwdBRefIdeal.nD Cert.MemFwdBRefIdeal.τ Cert.MemFwdBRefIdeal.sig) → Buf (Elt Ideal) ℓ) (g' : Dev Cert.MemFwdBRefIdeal.nD → PrngReg), Pre_MemFwdBIdeal m →
    (∀ c : Dev Cert.MemFwdBIdeal.nD,
      m' ((c.tc : Thread Cert.MemFwdBRefIdeal.nD Cert.MemFwdBRefIdeal.τ).loc Cert.MemFwdBRefIdeal.main_arg0) = m ((c.tc : Thread Cert.MemFwdBIdeal.nD Cert.MemFwdBIdeal.τ).loc Cert.MemFwdBIdeal.main_arg0)
      ∧ m' ((c.tc : Thread Cert.MemFwdBRefIdeal.nD Cert.MemFwdBRefIdeal.τ).loc Cert.MemFwdBRefIdeal.main_arg1) = m ((c.tc : Thread Cert.MemFwdBIdeal.nD Cert.MemFwdBIdeal.τ).loc Cert.MemFwdBIdeal.main_arg1)
      ∧ m' ((c.tc : Thread Cert.MemFwdBRefIdeal.nD Cert.MemFwdBRefIdeal.τ).loc Cert.MemFwdBRefIdeal.main_arg2) = m ((c.tc : Thread Cert.MemFwdBIdeal.nD Cert.MemFwdBIdeal.τ).loc Cert.MemFwdBIdeal.main_arg2)) →
    ∃ (v0 : (c : Dev Cert.MemFwdBIdeal.nD) → Buf (Elt Ideal) ((c.tc : Thread Cert.MemFwdBIdeal.nD Cert.MemFwdBIdeal.τ).loc Cert.MemFwdBIdeal.main_v0)),
      θ_run (Cert.MemFwdBIdeal.defs (F := Ideal)) (onTc (τ := Cert.MemFwdBIdeal.τ) (Cert.MemFwdBIdeal.main (F := Ideal))) ⟨m, fun _ => 0, g⟩ (fun r => ∀ c : Dev Cert.MemFwdBIdeal.nD,
          r.2.mem ((c.tc : Thread Cert.MemFwdBIdeal.nD Cert.MemFwdBIdeal.τ).loc Cert.MemFwdBIdeal.main_v0) = v0 c
          ∧ r.2.mem ((c.tc : Thread Cert.MemFwdBIdeal.nD Cert.MemFwdBIdeal.τ).loc Cert.MemFwdBIdeal.main_arg0) = m ((c.tc : Thread Cert.MemFwdBIdeal.nD Cert.MemFwdBIdeal.τ).loc Cert.MemFwdBIdeal.main_arg0)
          ∧ r.2.mem ((c.tc : Thread Cert.MemFwdBIdeal.nD Cert.MemFwdBIdeal.τ).loc Cert.MemFwdBIdeal.main_arg1) = m ((c.tc : Thread Cert.MemFwdBIdeal.nD Cert.MemFwdBIdeal.τ).loc Cert.MemFwdBIdeal.main_arg1)
          ∧ r.2.mem ((c.tc : Thread Cert.MemFwdBIdeal.nD Cert.MemFwdBIdeal.τ).loc Cert.MemFwdBIdeal.main_arg2) = m ((c.tc : Thread Cert.MemFwdBIdeal.nD Cert.MemFwdBIdeal.τ).loc Cert.MemFwdBIdeal.main_arg2))
      ∧ θ_run (Cert.MemFwdBRefIdeal.defs (F := Ideal)) (onTc (τ := Cert.MemFwdBRefIdeal.τ) (Cert.MemFwdBRefIdeal.main (F := Ideal))) ⟨m', fun _ => 0, g'⟩ (fun r => ∀ c : Dev Cert.MemFwdBRefIdeal.nD,
          r.2.mem ((c.tc : Thread Cert.MemFwdBRefIdeal.nD Cert.MemFwdBRefIdeal.τ).loc Cert.MemFwdBRefIdeal.main_v29) = v0 c
          ∧ r.2.mem ((c.tc : Thread Cert.MemFwdBRefIdeal.nD Cert.MemFwdBRefIdeal.τ).loc Cert.MemFwdBRefIdeal.main_arg0) = m' ((c.tc : Thread Cert.MemFwdBRefIdeal.nD Cert.MemFwdBRefIdeal.τ).loc Cert.MemFwdBRefIdeal.main_arg0)
          ∧ r.2.mem ((c.tc : Thread Cert.MemFwdBRefIdeal.nD Cert.MemFwdBRefIdeal.τ).loc Cert.MemFwdBRefIdeal.main_arg1) = m' ((c.tc : Thread Cert.MemFwdBRefIdeal.nD Cert.MemFwdBRefIdeal.τ).loc Cert.MemFwdBRefIdeal.main_arg1)
          ∧ r.2.mem ((c.tc : Thread Cert.MemFwdBRefIdeal.nD Cert.MemFwdBRefIdeal.τ).loc Cert.MemFwdBRefIdeal.main_arg2) = m' ((c.tc : Thread Cert.MemFwdBRefIdeal.nD Cert.MemFwdBRefIdeal.τ).loc Cert.MemFwdBRefIdeal.main_arg2))

def preserves_AttnFwd16_AttnFwd16Ideal : Prop :=
  IdealRules.named_const.Statement Cert.AttnFwd16Ideal.κ "neg" .f32 0xF149F2CA#32 ⊥

def algebraic_AttnFwd16Ideal_AttnFwd16RefIdeal [hAttnFwd16Ideal : Cert.AttnFwd16Ideal.Facts] [hAttnFwd16RefIdeal : Cert.AttnFwd16RefIdeal.Facts] : Prop :=
  ∀ (m : (ℓ : Loc Cert.AttnFwd16Ideal.nD Cert.AttnFwd16Ideal.τ Cert.AttnFwd16Ideal.sig) → Buf (Elt Ideal) ℓ) (g : Dev Cert.AttnFwd16Ideal.nD → PrngReg)
    (m' : (ℓ : Loc Cert.AttnFwd16RefIdeal.nD Cert.AttnFwd16RefIdeal.τ Cert.AttnFwd16RefIdeal.sig) → Buf (Elt Ideal) ℓ) (g' : Dev Cert.AttnFwd16RefIdeal.nD → PrngReg), Pre_AttnFwd16Ideal m →
    (∀ c : Dev Cert.AttnFwd16Ideal.nD,
      m' ((c.tc : Thread Cert.AttnFwd16RefIdeal.nD Cert.AttnFwd16RefIdeal.τ).loc Cert.AttnFwd16RefIdeal.main_arg0) = m ((c.tc : Thread Cert.AttnFwd16Ideal.nD Cert.AttnFwd16Ideal.τ).loc Cert.AttnFwd16Ideal.main_arg0)) →
    ∃ (v0 : (c : Dev Cert.AttnFwd16Ideal.nD) → Buf (Elt Ideal) ((c.tc : Thread Cert.AttnFwd16Ideal.nD Cert.AttnFwd16Ideal.τ).loc Cert.AttnFwd16Ideal.main_v1_0)) (v1 : (c : Dev Cert.AttnFwd16Ideal.nD) → Buf (Elt Ideal) ((c.tc : Thread Cert.AttnFwd16Ideal.nD Cert.AttnFwd16Ideal.τ).loc Cert.AttnFwd16Ideal.main_v1_1)),
      θ_run (Cert.AttnFwd16Ideal.defs (F := Ideal)) (onTc (τ := Cert.AttnFwd16Ideal.τ) (Cert.AttnFwd16Ideal.main (F := Ideal))) ⟨m, fun _ => 0, g⟩ (fun r => ∀ c : Dev Cert.AttnFwd16Ideal.nD,
          r.2.mem ((c.tc : Thread Cert.AttnFwd16Ideal.nD Cert.AttnFwd16Ideal.τ).loc Cert.AttnFwd16Ideal.main_v1_0) = v0 c
          ∧ r.2.mem ((c.tc : Thread Cert.AttnFwd16Ideal.nD Cert.AttnFwd16Ideal.τ).loc Cert.AttnFwd16Ideal.main_v1_1) = v1 c
          ∧ r.2.mem ((c.tc : Thread Cert.AttnFwd16Ideal.nD Cert.AttnFwd16Ideal.τ).loc Cert.AttnFwd16Ideal.main_arg0) = m ((c.tc : Thread Cert.AttnFwd16Ideal.nD Cert.AttnFwd16Ideal.τ).loc Cert.AttnFwd16Ideal.main_arg0))
      ∧ θ_run (Cert.AttnFwd16RefIdeal.defs (F := Ideal)) (onTc (τ := Cert.AttnFwd16RefIdeal.τ) (Cert.AttnFwd16RefIdeal.main (F := Ideal))) ⟨m', fun _ => 0, g'⟩ (fun r => ∀ c : Dev Cert.AttnFwd16RefIdeal.nD,
          r.2.mem ((c.tc : Thread Cert.AttnFwd16RefIdeal.nD Cert.AttnFwd16RefIdeal.τ).loc Cert.AttnFwd16RefIdeal.main_v81) = v0 c
          ∧ r.2.mem ((c.tc : Thread Cert.AttnFwd16RefIdeal.nD Cert.AttnFwd16RefIdeal.τ).loc Cert.AttnFwd16RefIdeal.main_v84) = v1 c
          ∧ r.2.mem ((c.tc : Thread Cert.AttnFwd16RefIdeal.nD Cert.AttnFwd16RefIdeal.τ).loc Cert.AttnFwd16RefIdeal.main_arg0) = m' ((c.tc : Thread Cert.AttnFwd16RefIdeal.nD Cert.AttnFwd16RefIdeal.τ).loc Cert.AttnFwd16RefIdeal.main_arg0))

def preserves_AttnFwd4_AttnFwd4Ideal : Prop :=
  IdealRules.named_const.Statement Cert.AttnFwd4Ideal.κ "neg" .f32 0xF149F2CA#32 ⊥

def algebraic_AttnFwd4Ideal_AttnFwd4RefIdeal [hAttnFwd4Ideal : Cert.AttnFwd4Ideal.Facts] [hAttnFwd4RefIdeal : Cert.AttnFwd4RefIdeal.Facts] : Prop :=
  ∀ (m : (ℓ : Loc Cert.AttnFwd4Ideal.nD Cert.AttnFwd4Ideal.τ Cert.AttnFwd4Ideal.sig) → Buf (Elt Ideal) ℓ) (g : Dev Cert.AttnFwd4Ideal.nD → PrngReg)
    (m' : (ℓ : Loc Cert.AttnFwd4RefIdeal.nD Cert.AttnFwd4RefIdeal.τ Cert.AttnFwd4RefIdeal.sig) → Buf (Elt Ideal) ℓ) (g' : Dev Cert.AttnFwd4RefIdeal.nD → PrngReg), Pre_AttnFwd4Ideal m →
    (∀ c : Dev Cert.AttnFwd4Ideal.nD,
      m' ((c.tc : Thread Cert.AttnFwd4RefIdeal.nD Cert.AttnFwd4RefIdeal.τ).loc Cert.AttnFwd4RefIdeal.main_arg0) = m ((c.tc : Thread Cert.AttnFwd4Ideal.nD Cert.AttnFwd4Ideal.τ).loc Cert.AttnFwd4Ideal.main_arg0)) →
    ∃ (v0 : (c : Dev Cert.AttnFwd4Ideal.nD) → Buf (Elt Ideal) ((c.tc : Thread Cert.AttnFwd4Ideal.nD Cert.AttnFwd4Ideal.τ).loc Cert.AttnFwd4Ideal.main_v1_0)) (v1 : (c : Dev Cert.AttnFwd4Ideal.nD) → Buf (Elt Ideal) ((c.tc : Thread Cert.AttnFwd4Ideal.nD Cert.AttnFwd4Ideal.τ).loc Cert.AttnFwd4Ideal.main_v1_1)),
      θ_run (Cert.AttnFwd4Ideal.defs (F := Ideal)) (onTc (τ := Cert.AttnFwd4Ideal.τ) (Cert.AttnFwd4Ideal.main (F := Ideal))) ⟨m, fun _ => 0, g⟩ (fun r => ∀ c : Dev Cert.AttnFwd4Ideal.nD,
          r.2.mem ((c.tc : Thread Cert.AttnFwd4Ideal.nD Cert.AttnFwd4Ideal.τ).loc Cert.AttnFwd4Ideal.main_v1_0) = v0 c
          ∧ r.2.mem ((c.tc : Thread Cert.AttnFwd4Ideal.nD Cert.AttnFwd4Ideal.τ).loc Cert.AttnFwd4Ideal.main_v1_1) = v1 c
          ∧ r.2.mem ((c.tc : Thread Cert.AttnFwd4Ideal.nD Cert.AttnFwd4Ideal.τ).loc Cert.AttnFwd4Ideal.main_arg0) = m ((c.tc : Thread Cert.AttnFwd4Ideal.nD Cert.AttnFwd4Ideal.τ).loc Cert.AttnFwd4Ideal.main_arg0))
      ∧ θ_run (Cert.AttnFwd4RefIdeal.defs (F := Ideal)) (onTc (τ := Cert.AttnFwd4RefIdeal.τ) (Cert.AttnFwd4RefIdeal.main (F := Ideal))) ⟨m', fun _ => 0, g'⟩ (fun r => ∀ c : Dev Cert.AttnFwd4RefIdeal.nD,
          r.2.mem ((c.tc : Thread Cert.AttnFwd4RefIdeal.nD Cert.AttnFwd4RefIdeal.τ).loc Cert.AttnFwd4RefIdeal.main_v81) = v0 c
          ∧ r.2.mem ((c.tc : Thread Cert.AttnFwd4RefIdeal.nD Cert.AttnFwd4RefIdeal.τ).loc Cert.AttnFwd4RefIdeal.main_v84) = v1 c
          ∧ r.2.mem ((c.tc : Thread Cert.AttnFwd4RefIdeal.nD Cert.AttnFwd4RefIdeal.τ).loc Cert.AttnFwd4RefIdeal.main_arg0) = m' ((c.tc : Thread Cert.AttnFwd4RefIdeal.nD Cert.AttnFwd4RefIdeal.τ).loc Cert.AttnFwd4RefIdeal.main_arg0))

def preserves_AttnFwd1_AttnFwd1Ideal : Prop :=
  IdealRules.named_const.Statement Cert.AttnFwd1Ideal.κ "neg" .f32 0xF149F2CA#32 ⊥

def algebraic_AttnFwd1Ideal_AttnFwd1RefIdeal [hAttnFwd1Ideal : Cert.AttnFwd1Ideal.Facts] [hAttnFwd1RefIdeal : Cert.AttnFwd1RefIdeal.Facts] : Prop :=
  ∀ (m : (ℓ : Loc Cert.AttnFwd1Ideal.nD Cert.AttnFwd1Ideal.τ Cert.AttnFwd1Ideal.sig) → Buf (Elt Ideal) ℓ) (g : Dev Cert.AttnFwd1Ideal.nD → PrngReg)
    (m' : (ℓ : Loc Cert.AttnFwd1RefIdeal.nD Cert.AttnFwd1RefIdeal.τ Cert.AttnFwd1RefIdeal.sig) → Buf (Elt Ideal) ℓ) (g' : Dev Cert.AttnFwd1RefIdeal.nD → PrngReg), Pre_AttnFwd1Ideal m →
    (∀ c : Dev Cert.AttnFwd1Ideal.nD,
      m' ((c.tc : Thread Cert.AttnFwd1RefIdeal.nD Cert.AttnFwd1RefIdeal.τ).loc Cert.AttnFwd1RefIdeal.main_arg0) = m ((c.tc : Thread Cert.AttnFwd1Ideal.nD Cert.AttnFwd1Ideal.τ).loc Cert.AttnFwd1Ideal.main_arg0)) →
    ∃ (v0 : (c : Dev Cert.AttnFwd1Ideal.nD) → Buf (Elt Ideal) ((c.tc : Thread Cert.AttnFwd1Ideal.nD Cert.AttnFwd1Ideal.τ).loc Cert.AttnFwd1Ideal.main_v0_0)) (v1 : (c : Dev Cert.AttnFwd1Ideal.nD) → Buf (Elt Ideal) ((c.tc : Thread Cert.AttnFwd1Ideal.nD Cert.AttnFwd1Ideal.τ).loc Cert.AttnFwd1Ideal.main_v0_1)),
      θ_run (Cert.AttnFwd1Ideal.defs (F := Ideal)) (onTc (τ := Cert.AttnFwd1Ideal.τ) (Cert.AttnFwd1Ideal.main (F := Ideal))) ⟨m, fun _ => 0, g⟩ (fun r => ∀ c : Dev Cert.AttnFwd1Ideal.nD,
          r.2.mem ((c.tc : Thread Cert.AttnFwd1Ideal.nD Cert.AttnFwd1Ideal.τ).loc Cert.AttnFwd1Ideal.main_v0_0) = v0 c
          ∧ r.2.mem ((c.tc : Thread Cert.AttnFwd1Ideal.nD Cert.AttnFwd1Ideal.τ).loc Cert.AttnFwd1Ideal.main_v0_1) = v1 c
          ∧ r.2.mem ((c.tc : Thread Cert.AttnFwd1Ideal.nD Cert.AttnFwd1Ideal.τ).loc Cert.AttnFwd1Ideal.main_arg0) = m ((c.tc : Thread Cert.AttnFwd1Ideal.nD Cert.AttnFwd1Ideal.τ).loc Cert.AttnFwd1Ideal.main_arg0))
      ∧ θ_run (Cert.AttnFwd1RefIdeal.defs (F := Ideal)) (onTc (τ := Cert.AttnFwd1RefIdeal.τ) (Cert.AttnFwd1RefIdeal.main (F := Ideal))) ⟨m', fun _ => 0, g'⟩ (fun r => ∀ c : Dev Cert.AttnFwd1RefIdeal.nD,
          r.2.mem ((c.tc : Thread Cert.AttnFwd1RefIdeal.nD Cert.AttnFwd1RefIdeal.τ).loc Cert.AttnFwd1RefIdeal.main_v83) = v0 c
          ∧ r.2.mem ((c.tc : Thread Cert.AttnFwd1RefIdeal.nD Cert.AttnFwd1RefIdeal.τ).loc Cert.AttnFwd1RefIdeal.main_v86) = v1 c
          ∧ r.2.mem ((c.tc : Thread Cert.AttnFwd1RefIdeal.nD Cert.AttnFwd1RefIdeal.τ).loc Cert.AttnFwd1RefIdeal.main_arg0) = m' ((c.tc : Thread Cert.AttnFwd1RefIdeal.nD Cert.AttnFwd1RefIdeal.τ).loc Cert.AttnFwd1RefIdeal.main_arg0))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hFf2Bwd : Cert.Ff2Bwd.Facts) (hFf2BwdIdeal : Cert.Ff2BwdIdeal.Facts) (hFf2BwdRefIdeal : Cert.Ff2BwdRefIdeal.Facts) (hGradFf2 : Cert.GradFf2.Facts) (hGradFf2Ideal : Cert.GradFf2Ideal.Facts) (hGradFf2RefIdeal : Cert.GradFf2RefIdeal.Facts) (hGradFf1 : Cert.GradFf1.Facts) (hGradFf1Ideal : Cert.GradFf1Ideal.Facts) (hGradFf1RefIdeal : Cert.GradFf1RefIdeal.Facts) (hFf1Bwd : Cert.Ff1Bwd.Facts) (hFf1BwdIdeal : Cert.Ff1BwdIdeal.Facts) (hFf1BwdRefIdeal : Cert.Ff1BwdRefIdeal.Facts) (hProjInA : Cert.ProjInA.Facts) (hProjInAIdeal : Cert.ProjInAIdeal.Facts) (hProjInARefIdeal : Cert.ProjInARefIdeal.Facts) (hProjInB : Cert.ProjInB.Facts) (hProjInBIdeal : Cert.ProjInBIdeal.Facts) (hProjInBRefIdeal : Cert.ProjInBRefIdeal.Facts) (hProjKv : Cert.ProjKv.Facts) (hProjKvIdeal : Cert.ProjKvIdeal.Facts) (hProjKvRefIdeal : Cert.ProjKvRefIdeal.Facts) (hProjOut : Cert.ProjOut.Facts) (hProjOutIdeal : Cert.ProjOutIdeal.Facts) (hProjOutRefIdeal : Cert.ProjOutRefIdeal.Facts) (hGradOut : Cert.GradOut.Facts) (hGradOutIdeal : Cert.GradOutIdeal.Facts) (hGradOutRefIdeal : Cert.GradOutRefIdeal.Facts) (hProjOutBwd : Cert.ProjOutBwd.Facts) (hProjOutBwdIdeal : Cert.ProjOutBwdIdeal.Facts) (hProjOutBwdRefIdeal : Cert.ProjOutBwdRefIdeal.Facts) (hGradKv : Cert.GradKv.Facts) (hGradKvIdeal : Cert.GradKvIdeal.Facts) (hGradKvRefIdeal : Cert.GradKvRefIdeal.Facts) (hGradInA : Cert.GradInA.Facts) (hGradInAIdeal : Cert.GradInAIdeal.Facts) (hGradInARefIdeal : Cert.GradInARefIdeal.Facts) (hGradInB : Cert.GradInB.Facts) (hGradInBIdeal : Cert.GradInBIdeal.Facts) (hGradInBRefIdeal : Cert.GradInBRefIdeal.Facts) (hProjInBwdA : Cert.ProjInBwdA.Facts) (hProjInBwdAIdeal : Cert.ProjInBwdAIdeal.Facts) (hProjInBwdARefIdeal : Cert.ProjInBwdARefIdeal.Facts) (hProjInBwdB : Cert.ProjInBwdB.Facts) (hProjInBwdBIdeal : Cert.ProjInBwdBIdeal.Facts) (hProjInBwdBRefIdeal : Cert.ProjInBwdBRefIdeal.Facts) (hLnBwd : Cert.LnBwd.Facts) (hLnBwdIdeal : Cert.LnBwdIdeal.Facts) (hLnBwdRefIdeal : Cert.LnBwdRefIdeal.Facts) (hLnFwd : Cert.LnFwd.Facts) (hLnFwdIdeal : Cert.LnFwdIdeal.Facts) (hLnFwdRefIdeal : Cert.LnFwdRefIdeal.Facts) (hLossHead : Cert.LossHead.Facts) (hLossHeadIdeal : Cert.LossHeadIdeal.Facts) (hLossHeadRefIdeal : Cert.LossHeadRefIdeal.Facts) (hAdamFf : Cert.AdamFf.Facts) (hAdamFfIdeal : Cert.AdamFfIdeal.Facts) (hAdamFfRefIdeal : Cert.AdamFfRefIdeal.Facts) (hAdamInA : Cert.AdamInA.Facts) (hAdamInAIdeal : Cert.AdamInAIdeal.Facts) (hAdamInARefIdeal : Cert.AdamInARefIdeal.Facts) (hAdamInB : Cert.AdamInB.Facts) (hAdamInBIdeal : Cert.AdamInBIdeal.Facts) (hAdamInBRefIdeal : Cert.AdamInBRefIdeal.Facts) (hAdamKv : Cert.AdamKv.Facts) (hAdamKvIdeal : Cert.AdamKvIdeal.Facts) (hAdamKvRefIdeal : Cert.AdamKvRefIdeal.Facts) (hAdamOut : Cert.AdamOut.Facts) (hAdamOutIdeal : Cert.AdamOutIdeal.Facts) (hAdamOutRefIdeal : Cert.AdamOutRefIdeal.Facts) (hMemBwdB : Cert.MemBwdB.Facts) (hMemBwdBIdeal : Cert.MemBwdBIdeal.Facts) (hMemBwdBRefIdeal : Cert.MemBwdBRefIdeal.Facts) (hMemFwd : Cert.MemFwd.Facts) (hMemFwdIdeal : Cert.MemFwdIdeal.Facts) (hMemFwdRefIdeal : Cert.MemFwdRefIdeal.Facts) (hMemFwdB : Cert.MemFwdB.Facts) (hMemFwdBIdeal : Cert.MemFwdBIdeal.Facts) (hMemFwdBRefIdeal : Cert.MemFwdBRefIdeal.Facts) (hAttnFwd16 : Cert.AttnFwd16.Facts) (hAttnFwd16Ideal : Cert.AttnFwd16Ideal.Facts) (hAttnFwd16RefIdeal : Cert.AttnFwd16RefIdeal.Facts) (hAttnFwd4 : Cert.AttnFwd4.Facts) (hAttnFwd4Ideal : Cert.AttnFwd4Ideal.Facts) (hAttnFwd4RefIdeal : Cert.AttnFwd4RefIdeal.Facts) (hAttnFwd1 : Cert.AttnFwd1.Facts) (hAttnFwd1Ideal : Cert.AttnFwd1Ideal.Facts) (hAttnFwd1RefIdeal : Cert.AttnFwd1RefIdeal.Facts) (hAdamSmall : Cert.AdamSmall.Facts) (hAdamSmallIdeal : Cert.AdamSmallIdeal.Facts) (hAdamSmallRefIdeal : Cert.AdamSmallRefIdeal.Facts) (hPre_scores_finite : Cert.Pre_scores_finite.Facts) (hPre_gradient_finite : Cert.Pre_gradient_finite.Facts) (hPre_scores_finite_b : Cert.Pre_scores_finite_b.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Ff2Bwd (hFf2Bwd := hFf2Bwd)
    ∧ quiescent_Ff2BwdIdeal (hFf2BwdIdeal := hFf2BwdIdeal)
    ∧ quiescent_Ff2BwdRefIdeal (hFf2BwdRefIdeal := hFf2BwdRefIdeal)
    ∧ quiescent_GradFf2 (hGradFf2 := hGradFf2)
    ∧ quiescent_GradFf2Ideal (hGradFf2Ideal := hGradFf2Ideal)
    ∧ quiescent_GradFf2RefIdeal (hGradFf2RefIdeal := hGradFf2RefIdeal)
    ∧ quiescent_GradFf1 (hGradFf1 := hGradFf1)
    ∧ quiescent_GradFf1Ideal (hGradFf1Ideal := hGradFf1Ideal)
    ∧ quiescent_GradFf1RefIdeal (hGradFf1RefIdeal := hGradFf1RefIdeal)
    ∧ quiescent_Ff1Bwd (hFf1Bwd := hFf1Bwd)
    ∧ quiescent_Ff1BwdIdeal (hFf1BwdIdeal := hFf1BwdIdeal)
    ∧ quiescent_Ff1BwdRefIdeal (hFf1BwdRefIdeal := hFf1BwdRefIdeal)
    ∧ quiescent_ProjInA (hProjInA := hProjInA)
    ∧ quiescent_ProjInAIdeal (hProjInAIdeal := hProjInAIdeal)
    ∧ quiescent_ProjInARefIdeal (hProjInARefIdeal := hProjInARefIdeal)
    ∧ quiescent_ProjInB (hProjInB := hProjInB)
    ∧ quiescent_ProjInBIdeal (hProjInBIdeal := hProjInBIdeal)
    ∧ quiescent_ProjInBRefIdeal (hProjInBRefIdeal := hProjInBRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_ProjOutBwd (hProjOutBwd := hProjOutBwd)
    ∧ quiescent_ProjOutBwdIdeal (hProjOutBwdIdeal := hProjOutBwdIdeal)
    ∧ quiescent_ProjOutBwdRefIdeal (hProjOutBwdRefIdeal := hProjOutBwdRefIdeal)
    ∧ quiescent_GradKv (hGradKv := hGradKv)
    ∧ quiescent_GradKvIdeal (hGradKvIdeal := hGradKvIdeal)
    ∧ quiescent_GradKvRefIdeal (hGradKvRefIdeal := hGradKvRefIdeal)
    ∧ quiescent_GradInA (hGradInA := hGradInA)
    ∧ quiescent_GradInAIdeal (hGradInAIdeal := hGradInAIdeal)
    ∧ quiescent_GradInARefIdeal (hGradInARefIdeal := hGradInARefIdeal)
    ∧ quiescent_GradInB (hGradInB := hGradInB)
    ∧ quiescent_GradInBIdeal (hGradInBIdeal := hGradInBIdeal)
    ∧ quiescent_GradInBRefIdeal (hGradInBRefIdeal := hGradInBRefIdeal)
    ∧ quiescent_ProjInBwdA (hProjInBwdA := hProjInBwdA)
    ∧ quiescent_ProjInBwdAIdeal (hProjInBwdAIdeal := hProjInBwdAIdeal)
    ∧ quiescent_ProjInBwdARefIdeal (hProjInBwdARefIdeal := hProjInBwdARefIdeal)
    ∧ quiescent_ProjInBwdB (hProjInBwdB := hProjInBwdB)
    ∧ quiescent_ProjInBwdBIdeal (hProjInBwdBIdeal := hProjInBwdBIdeal)
    ∧ quiescent_ProjInBwdBRefIdeal (hProjInBwdBRefIdeal := hProjInBwdBRefIdeal)
    ∧ quiescent_LnBwd (hLnBwd := hLnBwd)
    ∧ quiescent_LnBwdIdeal (hLnBwdIdeal := hLnBwdIdeal)
    ∧ quiescent_LnBwdIdeal_pre_gradient_finite (hLnBwdIdeal := hLnBwdIdeal) (hPre_gradient_finite := hPre_gradient_finite)
    ∧ quiescent_LnBwdRefIdeal (hLnBwdRefIdeal := hLnBwdRefIdeal)
    ∧ quiescent_LnBwdRefIdeal_pre_gradient_finite (hLnBwdRefIdeal := hLnBwdRefIdeal) (hPre_gradient_finite := hPre_gradient_finite)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamFf (hAdamFf := hAdamFf)
    ∧ quiescent_AdamFfIdeal (hAdamFfIdeal := hAdamFfIdeal)
    ∧ quiescent_AdamFfRefIdeal (hAdamFfRefIdeal := hAdamFfRefIdeal)
    ∧ quiescent_AdamInA (hAdamInA := hAdamInA)
    ∧ quiescent_AdamInAIdeal (hAdamInAIdeal := hAdamInAIdeal)
    ∧ quiescent_AdamInARefIdeal (hAdamInARefIdeal := hAdamInARefIdeal)
    ∧ quiescent_AdamInB (hAdamInB := hAdamInB)
    ∧ quiescent_AdamInBIdeal (hAdamInBIdeal := hAdamInBIdeal)
    ∧ quiescent_AdamInBRefIdeal (hAdamInBRefIdeal := hAdamInBRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_MemBwdB (hMemBwdB := hMemBwdB)
    ∧ quiescent_MemBwdBIdeal (hMemBwdBIdeal := hMemBwdBIdeal)
    ∧ quiescent_MemBwdBIdeal_pre_scores_finite_b (hMemBwdBIdeal := hMemBwdBIdeal) (hPre_scores_finite_b := hPre_scores_finite_b)
    ∧ quiescent_MemBwdBRefIdeal (hMemBwdBRefIdeal := hMemBwdBRefIdeal)
    ∧ quiescent_MemBwdBRefIdeal_pre_scores_finite_b (hMemBwdBRefIdeal := hMemBwdBRefIdeal) (hPre_scores_finite_b := hPre_scores_finite_b)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_MemFwdB (hMemFwdB := hMemFwdB)
    ∧ quiescent_MemFwdBIdeal (hMemFwdBIdeal := hMemFwdBIdeal)
    ∧ quiescent_MemFwdBRefIdeal (hMemFwdBRefIdeal := hMemFwdBRefIdeal)
    ∧ quiescent_AttnFwd16 (hAttnFwd16 := hAttnFwd16)
    ∧ quiescent_AttnFwd16Ideal (hAttnFwd16Ideal := hAttnFwd16Ideal)
    ∧ quiescent_AttnFwd16RefIdeal (hAttnFwd16RefIdeal := hAttnFwd16RefIdeal)
    ∧ quiescent_AttnFwd4 (hAttnFwd4 := hAttnFwd4)
    ∧ quiescent_AttnFwd4Ideal (hAttnFwd4Ideal := hAttnFwd4Ideal)
    ∧ quiescent_AttnFwd4RefIdeal (hAttnFwd4RefIdeal := hAttnFwd4RefIdeal)
    ∧ quiescent_AttnFwd1 (hAttnFwd1 := hAttnFwd1)
    ∧ quiescent_AttnFwd1Ideal (hAttnFwd1Ideal := hAttnFwd1Ideal)
    ∧ quiescent_AttnFwd1RefIdeal (hAttnFwd1RefIdeal := hAttnFwd1RefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_Ff2Bwd_Ff2BwdIdeal
    ∧ algebraic_Ff2BwdIdeal_Ff2BwdRefIdeal (hFf2BwdIdeal := hFf2BwdIdeal) (hFf2BwdRefIdeal := hFf2BwdRefIdeal)
    ∧ preserves_GradFf2_GradFf2Ideal
    ∧ algebraic_GradFf2Ideal_GradFf2RefIdeal (hGradFf2Ideal := hGradFf2Ideal) (hGradFf2RefIdeal := hGradFf2RefIdeal)
    ∧ preserves_GradFf1_GradFf1Ideal
    ∧ algebraic_GradFf1Ideal_GradFf1RefIdeal (hGradFf1Ideal := hGradFf1Ideal) (hGradFf1RefIdeal := hGradFf1RefIdeal)
    ∧ preserves_Ff1Bwd_Ff1BwdIdeal
    ∧ algebraic_Ff1BwdIdeal_Ff1BwdRefIdeal (hFf1BwdIdeal := hFf1BwdIdeal) (hFf1BwdRefIdeal := hFf1BwdRefIdeal)
    ∧ preserves_ProjInA_ProjInAIdeal
    ∧ algebraic_ProjInAIdeal_ProjInARefIdeal (hProjInAIdeal := hProjInAIdeal) (hProjInARefIdeal := hProjInARefIdeal)
    ∧ preserves_ProjInB_ProjInBIdeal
    ∧ algebraic_ProjInBIdeal_ProjInBRefIdeal (hProjInBIdeal := hProjInBIdeal) (hProjInBRefIdeal := hProjInBRefIdeal)
    ∧ preserves_ProjKv_ProjKvIdeal
    ∧ algebraic_ProjKvIdeal_ProjKvRefIdeal (hProjKvIdeal := hProjKvIdeal) (hProjKvRefIdeal := hProjKvRefIdeal)
    ∧ preserves_ProjOut_ProjOutIdeal
    ∧ algebraic_ProjOutIdeal_ProjOutRefIdeal (hProjOutIdeal := hProjOutIdeal) (hProjOutRefIdeal := hProjOutRefIdeal)
    ∧ preserves_GradOut_GradOutIdeal
    ∧ algebraic_GradOutIdeal_GradOutRefIdeal (hGradOutIdeal := hGradOutIdeal) (hGradOutRefIdeal := hGradOutRefIdeal)
    ∧ preserves_ProjOutBwd_ProjOutBwdIdeal
    ∧ algebraic_ProjOutBwdIdeal_ProjOutBwdRefIdeal (hProjOutBwdIdeal := hProjOutBwdIdeal) (hProjOutBwdRefIdeal := hProjOutBwdRefIdeal)
    ∧ preserves_GradKv_GradKvIdeal
    ∧ algebraic_GradKvIdeal_GradKvRefIdeal (hGradKvIdeal := hGradKvIdeal) (hGradKvRefIdeal := hGradKvRefIdeal)
    ∧ preserves_GradInA_GradInAIdeal
    ∧ algebraic_GradInAIdeal_GradInARefIdeal (hGradInAIdeal := hGradInAIdeal) (hGradInARefIdeal := hGradInARefIdeal)
    ∧ preserves_GradInB_GradInBIdeal
    ∧ algebraic_GradInBIdeal_GradInBRefIdeal (hGradInBIdeal := hGradInBIdeal) (hGradInBRefIdeal := hGradInBRefIdeal)
    ∧ preserves_ProjInBwdA_ProjInBwdAIdeal
    ∧ algebraic_ProjInBwdAIdeal_ProjInBwdARefIdeal (hProjInBwdAIdeal := hProjInBwdAIdeal) (hProjInBwdARefIdeal := hProjInBwdARefIdeal)
    ∧ preserves_ProjInBwdB_ProjInBwdBIdeal
    ∧ algebraic_ProjInBwdBIdeal_ProjInBwdBRefIdeal (hProjInBwdBIdeal := hProjInBwdBIdeal) (hProjInBwdBRefIdeal := hProjInBwdBRefIdeal)
    ∧ preserves_LnBwd_LnBwdIdeal
    ∧ algebraic_LnBwdIdeal_LnBwdRefIdeal_pre_gradient_finite (hLnBwdIdeal := hLnBwdIdeal) (hLnBwdRefIdeal := hLnBwdRefIdeal) (hPre_gradient_finite := hPre_gradient_finite)
    ∧ preserves_LnFwd_LnFwdIdeal
    ∧ algebraic_LnFwdIdeal_LnFwdRefIdeal (hLnFwdIdeal := hLnFwdIdeal) (hLnFwdRefIdeal := hLnFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamFf_AdamFfIdeal
    ∧ algebraic_AdamFfIdeal_AdamFfRefIdeal (hAdamFfIdeal := hAdamFfIdeal) (hAdamFfRefIdeal := hAdamFfRefIdeal)
    ∧ preserves_AdamInA_AdamInAIdeal
    ∧ algebraic_AdamInAIdeal_AdamInARefIdeal (hAdamInAIdeal := hAdamInAIdeal) (hAdamInARefIdeal := hAdamInARefIdeal)
    ∧ preserves_AdamInB_AdamInBIdeal
    ∧ algebraic_AdamInBIdeal_AdamInBRefIdeal (hAdamInBIdeal := hAdamInBIdeal) (hAdamInBRefIdeal := hAdamInBRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_MemBwdB_MemBwdBIdeal
    ∧ algebraic_MemBwdBIdeal_MemBwdBRefIdeal_pre_scores_finite_b (hMemBwdBIdeal := hMemBwdBIdeal) (hMemBwdBRefIdeal := hMemBwdBRefIdeal) (hPre_scores_finite_b := hPre_scores_finite_b)
    ∧ preserves_MemFwd_MemFwdIdeal
    ∧ algebraic_MemFwdIdeal_MemFwdRefIdeal (hMemFwdIdeal := hMemFwdIdeal) (hMemFwdRefIdeal := hMemFwdRefIdeal)
    ∧ preserves_MemFwdB_MemFwdBIdeal
    ∧ algebraic_MemFwdBIdeal_MemFwdBRefIdeal (hMemFwdBIdeal := hMemFwdBIdeal) (hMemFwdBRefIdeal := hMemFwdBRefIdeal)
    ∧ preserves_AttnFwd16_AttnFwd16Ideal
    ∧ algebraic_AttnFwd16Ideal_AttnFwd16RefIdeal (hAttnFwd16Ideal := hAttnFwd16Ideal) (hAttnFwd16RefIdeal := hAttnFwd16RefIdeal)
    ∧ preserves_AttnFwd4_AttnFwd4Ideal
    ∧ algebraic_AttnFwd4Ideal_AttnFwd4RefIdeal (hAttnFwd4Ideal := hAttnFwd4Ideal) (hAttnFwd4RefIdeal := hAttnFwd4RefIdeal)
    ∧ preserves_AttnFwd1_AttnFwd1Ideal
    ∧ algebraic_AttnFwd1Ideal_AttnFwd1RefIdeal (hAttnFwd1Ideal := hAttnFwd1Ideal) (hAttnFwd1RefIdeal := hAttnFwd1RefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_gradient_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S4096x2048 .f32) (main_arg2 : FVec F S4096x2048 .f32) (main_arg3 : FVec F S2048 .f32) : IVec S4096x2048 1 × IVec S2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg3
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  (main_v2, main_v5)
-- ==== Pre_scores_finite.lean ====
abbrev S4096x9728 : Shape := ⟨2, ![4096, 9728]⟩
abbrev S256x1024 : Shape := ⟨2, ![256, 1024]⟩
abbrev S4096x1536 : Shape := ⟨2, ![4096, 1536]⟩
abbrev S4096x512 : Shape := ⟨2, ![4096, 512]⟩
abbrev S_ : Shape := ⟨0, ![]⟩
abbrev S256x512 : Shape := ⟨2, ![256, 512]⟩

class Facts : Prop where
  slices_S4096x9728_S4096x512_0_9216 : S4096x9728.Slices ![0, 9216] S4096x512
  bitsLt_bf16_f32 : FTy.bits .bf16 < FTy.bits .f32
  bcast_S_S4096x512 : S_.BroadcastsInDim S4096x512 (![] : Fin 0 → Fin S4096x512.rank)
  slices_S256x1024_S256x512_0_0 : S256x1024.Slices ![0, 0] S256x512
  bcast_S_S256x512 : S_.BroadcastsInDim S256x512 (![] : Fin 0 → Fin S256x512.rank)

variable [Facts]

def fn {F : FTy → Type} [FloatOps F] (main_arg0 : FVec F S4096x9728 .bf16) (main_arg1 : FVec F S256x1024 .bf16) (main_arg2 : FVec F S4096x1536 .f32) : IVec S4096x512 1 × IVec S256x512 1 :=
  let main_v0 : FVec F S4096x512 .bf16 := (extractStridedSlice S4096x512 ![0, 9216] · slices_S4096x9728_S4096x512_0_9216) main_arg0
  let main_v1 : FVec F S4096x512 .f32 := (extf .f32 · bitsLt_bf16_f32) main_v0
  let main_v2 : FVec F S4096x512 .f32 := Host.absf main_v1
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_v5 : FVec F S256x512 .bf16 := (extractStridedSlice S256x512 ![0, 0] · slices_S256x1024_S256x512_0_0) main_arg1
  let main_v6 : FVec F S256x512 .f32 := (extf .f32 · bitsLt_bf16_f32) main_v5
  let main_v7 : FVec F S256x512 .f32 := Host.absf main_v6
  let main_cst_0 : FVec F S_ .f32 := constant S_ .f32 0x7F800000#32
  let main_v8 : FVec F S256x512 .f32 := broadcastInDim S256x512 ![] bcast_S_S256x512 main_cst_0
  let main_v9 : IVec S256x512 1 := cmpf .olt main_v7 main_v8
  (main_v4, main_v9)
-- ==== Pre_scores_finite_b.lean ====
abbrev S4096x2560 : Shape := ⟨2, ![4096, 2560]⟩
abbrev S256x1024 : Shape := ⟨2, ![256, 1024]⟩
abbrev S4096x1536 : Shape := ⟨2, ![4096, 1536]⟩
abbrev S4096x512 : Shape := ⟨2, ![4096, 512]⟩
abbrev S_ : Shape := ⟨0, ![]⟩
abbrev S256x512 : Shape := ⟨2, ![256, 512]⟩

class Facts : Prop where
  slices_S4096x2560_S4096x512_0_2048 : S4096x2560.Slices ![0, 2048] S4096x512
  bcast_S_S4096x512 : S_.BroadcastsInDim S4096x512 (![] : Fin 0 → Fin S4096x512.rank)
  slices_S256x1024_S256x512_0_0 : S256x1024.Slices ![0, 0] S256x512
  bitsLt_bf16_f32 : FTy.bits .bf16 < FTy.bits .f32
  bcast_S_S256x512 : S_.BroadcastsInDim S256x512 (![] : Fin 0 → Fin S256x512.rank)

variable [Facts]

def fn {F : FTy → Type} [FloatOps F] (main_arg0 : FVec F S4096x2560 .f32) (main_arg1 : FVec F S256x1024 .bf16) (main_arg2 : FVec F S4096x1536 .f32) : IVec S4096x512 1 × IVec S256x512 1 :=
  let main_v0 : FVec F S4096x512 .f32 := (extractStridedSlice S4096x512 ![0, 2048] · slices_S4096x2560_S4096x512_0_2048) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S256x512 .bf16 := (extractStridedSlice S256x512 ![0, 0] · slices_S256x1024_S256x512_0_0) main_arg1
  let main_v5 : FVec F S256x512 .f32 := (extf .f32 · bitsLt_bf16_f32) main_v4
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  (main_v3, main_v8)
-- ==== Kernel.lean ====
abbrev S4096x9728 : Shape := ⟨2, ![4096, 9728]⟩
abbrev S256x1024 : Shape := ⟨2, ![256, 1024]⟩
abbrev S4096x1536 : Shape := ⟨2, ![4096, 1536]⟩
abbrev S4096x512 : Shape := ⟨2, ![4096, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x9728, .bf16⟩
  | .hbm, ⟨1, _⟩ => ⟨S256x1024, .bf16⟩
  | .hbm, ⟨2, _⟩ => ⟨S4096x1536, .f32⟩
  | .hbm, ⟨3, _⟩ => ⟨S4096x512, .bf16⟩
  | .hbm, ⟨4, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x9728 : Shape := ⟨2, ![4096, 9728]⟩
abbrev S256x1024 : Shape := ⟨2, ![256, 1024]⟩
abbrev S4096x1536 : Shape := ⟨2, ![4096, 1536]⟩
abbrev S4096x512 : Shape := ⟨2, ![4096, 512]⟩
abbrev S1x4096x512 : Shape := ⟨3, ![1, 4096, 512]⟩
abbrev S1x256x1024 : Shape := ⟨3, ![1, 256, 1024]⟩
abbrev S1x4096x4x128 : Shape := ⟨4, ![1, 4096, 4, 128]⟩
abbrev S1x256x2x4x128 : Shape := ⟨5, ![1, 256, 2, 4, 128]⟩
abbrev S1x256x1x4x128 : Shape := ⟨5, ![1, 256, 1, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩

abbrev nBuf : Space → Nat
  | .hbm => 100
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S256x1024, .bf16⟩
  | .hbm, ⟨2, _⟩ => ⟨S4096x1536, .f32⟩
  | .hbm, ⟨3, _⟩ => ⟨S4096x512, .bf16⟩
  | .hbm, ⟨4, _⟩ => ⟨S1x4096x512, .bf16⟩
  | .hbm, ⟨5, _⟩ => ⟨S1x4096x512, .f32⟩
  | .hbm, ⟨6, _⟩ => ⟨S4096x512, .f32⟩
  | .hbm, ⟨7, _⟩ => ⟨S1x4096x512, .f32⟩
  | .hbm, ⟨8, _⟩ => ⟨S1x256x1024, .bf16⟩
  | .hbm, ⟨9, _⟩ => ⟨S1x256x1024, .f32⟩
  | .hbm, ⟨10, _⟩ => ⟨S1x4096x4x128, .f32⟩
  | .hbm, ⟨11, _⟩ => ⟨S1x256x2x4x128, .f32⟩
  | .hbm, ⟨12, _⟩ => ⟨S1x256x1x4x128, .f32⟩
  | .hbm, ⟨13, _⟩ => ⟨S1x256x4x128, .f32⟩
  | .hbm, ⟨14, _⟩ => ⟨S1x256x1x4x128, .f32⟩
  | .hbm, ⟨15, _⟩ => ⟨S1x256x4x128, .f32⟩
  | .hbm, ⟨16, _⟩ => ⟨S1x4x4096x256, .f32⟩
  | .hbm, ⟨17, _⟩ => ⟨S_, .f32⟩
  | .hbm, ⟨18, _⟩ => ⟨S1x4x4096x256, .f32⟩
  | .hbm, ⟨19, _⟩ => ⟨S1x4x4096x256, .f32⟩
  | .hbm, ⟨20, _⟩ => ⟨S_, .f32⟩
  | .hbm, ⟨21, _⟩ => ⟨S1x4x4096, .f32⟩
  | .hbm, ⟨22, _⟩ => ⟨S1x4x4096x1, .f32⟩
  | .hbm, ⟨23, _⟩ => ⟨S1x4x4096x256, .f32⟩
  | .hbm, ⟨24, _⟩ => ⟨S1x4x4096x256, .i1⟩
  | .hbm, ⟨25, _⟩ => ⟨S1x4x4096x256, .f32⟩
  | .hbm, ⟨26, _⟩ => ⟨S_, .f32⟩
  | .hbm, ⟨27, _⟩ => ⟨S1x4x4096, .f32⟩
  | .hbm, ⟨28, _⟩ => ⟨S_, .f32⟩
  | .hbm, ⟨29, _⟩ => ⟨S1x4x4096, .f32⟩
  | .hbm, ⟨30, _⟩ => ⟨S1x4x4096, .f32⟩
  | .hbm, ⟨31, _⟩ => ⟨S_, .f32⟩
  | .hbm, ⟨32, _⟩ => ⟨S1x4x4096, .f32⟩
  | .hbm, ⟨33, _⟩ => ⟨S1x4x4096, .i1⟩
  | .hbm, ⟨34, _⟩ => ⟨S_, .f32⟩
  | .hbm, ⟨35, _⟩ => ⟨S1x4x4096, .f32⟩
  | .hbm, ⟨36, _⟩ => ⟨S1x4x4096, .i1⟩
  | .hbm, ⟨37, _⟩ => ⟨S_, .f32⟩
  | .hbm, ⟨38, _⟩ => ⟨S1x4x4096, .f32⟩
  | .hbm, ⟨39, _⟩ => ⟨S_, .f32⟩
  | .hbm, ⟨40, _⟩ => ⟨S1x4x4096, .f32⟩
  | .hbm, ⟨41, _⟩ => ⟨S_, .f32⟩
  | .hbm, ⟨42, _⟩ => ⟨S1x4x4096, .f32⟩
  | .hbm, ⟨43, _⟩ => ⟨S1x4x4096, .f32⟩
  | .hbm, ⟨44, _⟩ => ⟨S1x4x4096, .f32⟩
  | .hbm, ⟨45, _⟩ => ⟨S1x4x4096x1, .f32⟩
  | .hbm, ⟨46, _⟩ => ⟨S1x4x4096x256, .f32⟩
  | .hbm, ⟨47, _⟩ => ⟨S1x4x4096x256, .f32⟩
  | .hbm, ⟨48, _⟩ => ⟨S1x4x4096x256, .f32⟩
  | .hbm, ⟨49, _⟩ => ⟨S_, .f32⟩
  | .hbm, ⟨50, _⟩ => ⟨S1x4x4096, .f32⟩
  | .hbm, ⟨51, _⟩ => ⟨S1x4x4096x1, .f32⟩
  | .hbm, ⟨52, _⟩ => ⟨S1x4x4096x256, .f32⟩
  | .hbm, ⟨53, _⟩ => ⟨S1x4x4096x256, .f32⟩
  | .hbm, ⟨54, _⟩ => ⟨S1x4x4096x1, .f32⟩
  | .hbm, ⟨55, _⟩ => ⟨S_, .f32⟩
  | .hbm, ⟨56, _⟩ => ⟨S1x4x4096x1, .f32⟩
  | .hbm, ⟨57, _⟩ => ⟨S1x4x4096x1, .f32⟩
  | .hbm, ⟨58, _⟩ => ⟨S1x4x128x4096, .f32⟩
  | .hbm, ⟨59, _⟩ => ⟨S1x4096x4x128, .f32⟩
  | .hbm, ⟨60, _⟩ => ⟨S1x4096x512, .f32⟩
  | .hbm, ⟨61, _⟩ => ⟨S1x4096x4x128, .f32⟩
  | .hbm, ⟨62, _⟩ => ⟨S1x4x128x4096, .f32⟩
  | .hbm, ⟨63, _⟩ => ⟨S1x4x4096x256, .f32⟩
  | .hbm, ⟨64, _⟩ => ⟨S1x4x128x256, .f32⟩
  | .hbm, ⟨65, _⟩ => ⟨S1x256x4x128, .f32⟩
  | .hbm, ⟨66, _⟩ => ⟨S1x4x4096x256, .f32⟩
  | .hbm, ⟨67, _⟩ => ⟨S1x4x4096x256, .f32⟩
  | .hbm, ⟨68, _⟩ => ⟨S1x4x4096x256, .f32⟩
  | .hbm, ⟨69, _⟩ => ⟨S_, .f32⟩
  | .hbm, ⟨70, _⟩ => ⟨S1x4x4096, .f32⟩
  | .hbm, ⟨71, _⟩ => ⟨S1x4x4096x1, .f32⟩
  | .hbm, ⟨72, _⟩ => ⟨S1x4x4096x1, .f32⟩
  | .hbm, ⟨73, _⟩ => ⟨S1x4x4096x256, .f32⟩
  | .hbm, ⟨74, _⟩ => ⟨S1x4x4096x256, .f32⟩
  | .hbm, ⟨75, _⟩ => ⟨S_, .f32⟩
  | .hbm, ⟨76, _⟩ => ⟨S4x4096, .f32⟩
  | .hbm, ⟨77, _⟩ => ⟨S1x4x4096, .f32⟩
  | .hbm, ⟨78, _⟩ => ⟨S1x4x4096x256, .f32⟩
  | .hbm, ⟨79, _⟩ => ⟨S1x4x4096x256, .f32⟩
  | .hbm, ⟨80, _⟩ => ⟨S1x4x4096x256, .f32⟩
  | .hbm, ⟨81, _⟩ => ⟨S_, .f32⟩
  | .hbm, ⟨82, _⟩ => ⟨S1x4x4096x256, .f32⟩
  | .hbm, ⟨83, _⟩ => ⟨S1x4x4096x256, .f32⟩
  | .hbm, ⟨84, _⟩ => ⟨S1x4x256x128, .f32⟩
  | .hbm, ⟨85, _⟩ => ⟨S1x256x4x128, .f32⟩
  | .hbm, ⟨86, _⟩ => ⟨S1x4x4096x128, .f32⟩
  | .hbm, ⟨87, _⟩ => ⟨S1x4096x4x128, .f32⟩
  | .hbm, ⟨88, _⟩ => ⟨S1x256x1x4x128, .f32⟩
  | .hbm, ⟨89, _⟩ => ⟨S_, .f32⟩
  | .hbm, ⟨90, _⟩ => ⟨S1x256x2x4x128, .f32⟩
  | .hbm, ⟨91, _⟩ => ⟨S1x256x1x4x128, .f32⟩
  | .hbm, ⟨92, _⟩ => ⟨S_, .f32⟩
  | .hbm, ⟨93, _⟩ => ⟨S1x256x2x4x128, .f32⟩
  | .hbm, ⟨94, _⟩ => ⟨S1x256x2x4x128, .f32⟩
  | .hbm, ⟨95, _⟩ => ⟨S1x256x1024, .f32⟩
  | .hbm, ⟨96, _⟩ => ⟨S1x4096x512, .f32⟩
  | .hbm, ⟨97, _⟩ => ⟨S4096x512, .f32⟩
  | .hbm, ⟨98, _⟩ => ⟨S4096x512, .bf16⟩
  | .hbm, ⟨99, _⟩ => ⟨S256x1024, .f32⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩
abbrev main_cst_14 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Ff1.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 2, 1], ![false, false, false, false]⟩

def k0_cond2 (i : grid0.Coords) : BitVec 1 :=
  let arg3 : BitVec 32 := BitVec.ofNat 32 (i 3).val
  let c0_i32_9 : BitVec 32 := 0#32
  let v12 : BitVec 1 := Scalar.cmpi .eq arg3 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Ff1RefIdeal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ff2.lean ====
abbrev S4096x8192 : Shape := ⟨2, ![4096, 8192]⟩
abbrev S1x8192x2048 : Shape := ⟨3, ![1, 8192, 2048]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S1x8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 2, 4], ![false, false, false, false]⟩

def k0_cond2 (i : grid0.Coords) : BitVec 1 :=
  let arg3 : BitVec 32 := BitVec.ofNat 32 (i 3).val
  let c3_i32 : BitVec 32 := 3#32
  let v12 : BitVec 1 := Scalar.cmpi .eq arg3 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Ff2RefIdeal.lean ====
abbrev S4096x8192 : Shape := ⟨2, ![4096, 8192]⟩
abbrev S1x8192x2048 : Shape := ⟨3, ![1, 8192, 2048]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1x8192x2048, .bf16⟩
  | .hbm, ⟨2, _⟩ => ⟨S4096x8192, .f32⟩
  | .hbm, ⟨3, _⟩ => ⟨S8192x2048, .bf16⟩
  | .hbm, ⟨4, _⟩ => ⟨S8192x2048, .f32⟩
  | .hbm, ⟨5, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ff2Bwd.lean ====
abbrev S4096x2048 : Shape := ⟨2, ![4096, 2048]⟩
abbrev S1x8192x2048 : Shape := ⟨3, ![1, 8192, 2048]⟩
abbrev S4096x8192 : Shape := ⟨2, ![4096, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1x8192x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 8, 1, 1], ![false, false, false, false]⟩

def k0_cond2 (i : grid0.Coords) : BitVec 1 :=
  let arg2 : BitVec 32 := BitVec.ofNat 32 (i 2).val
  let c0_i32_10 : BitVec 32 := 0#32
  let v14 : BitVec 1 := Scalar.cmpi .eq arg2 c0_i32_10
  let arg3 : BitVec 32 := BitVec.ofNat 32 (i 3).val
  let c0_i32_11 : BitVec 32 := 0#32
  let v15 : BitVec 1 := Scalar.cmpi .eq arg3 c0_i32_11
  let v16 : BitVec 1 := Scalar.andi v14 v15
  let v17 : BitVec 32 := Scalar.extui v16
  let c0_i32_12 : BitVec 32 := 0#32
  let v18 : BitVec 1 := Scalar.cmpi .ne v17 c0_i32_12
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== Ff2BwdRefIdeal.lean ====
abbrev S4096x2048 : Shape := ⟨2, ![4096, 2048]⟩
abbrev S1x8192x2048 : Shape := ⟨3, ![1, 8192, 2048]⟩
abbrev S4096x8192 : Shape := ⟨2, ![4096, 8192]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x8192x2048, .bf16⟩
  | .hbm, ⟨2, _⟩ => ⟨S4096x8192, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== GradFf2.lean ====
abbrev S4096x8192 : Shape := ⟨2, ![4096, 8192]⟩
abbrev S4096x2048 : Shape := ⟨2, ![4096, 2048]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 2], ![false, false, false, false]⟩

def k0_cond2 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradFf2RefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S1x8192x2048 : Shape := ⟨3, ![1, 8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S4096x2048, .f32⟩
  | .hbm, ⟨4, _⟩ => ⟨S_, .f32⟩
  | .hbm, ⟨5, _⟩ => ⟨S8192x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S1x8192x2048, .f32⟩
  | .hbm, ⟨10, _⟩ => ⟨S1x8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradFf1.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 2, 2], ![false, false, false, false]⟩

def k0_cond2 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradFf1RefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ff1Bwd.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 2, 4, 1], ![false, false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let arg3 : BitVec 32 := BitVec.ofNat 32 (i 3).val
  let c0_i32_10 : BitVec 32 := 0#32
  let v15 : BitVec 1 := Scalar.cmpi .eq arg3 c0_i32_10
  let v16 : BitVec 1 := Scalar.andi v14 v15
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== Ff1BwdRefIdeal.lean ====
abbrev S4096x8192 : Shape := ⟨2, ![4096, 8192]⟩
abbrev S4x2048x2048 : Shape := ⟨3, ![4, 2048, 2048]⟩
abbrev S4096x2048 : Shape := ⟨2, ![4096, 2048]⟩
abbrev S2048x4x2048 : Shape := ⟨3, ![2048, 4, 2048]⟩
abbrev S2048x8192 : Shape := ⟨2, ![2048, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S_, .f32⟩
  | .hbm, ⟨7, _⟩ => ⟨S4096x2048, .f32⟩
  | .hbm, ⟨8, _⟩ => ⟨S4096x8192, .f32⟩
  | .hbm, ⟨9, _⟩ => ⟨S4096x8192, .f32⟩
  | .hbm, ⟨10, _⟩ => ⟨S4096x2048, .f32⟩
  | .hbm, ⟨11, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ProjInA.lean ====
abbrev S4096x2048 : Shape := ⟨2, ![4096, 2048]⟩
abbrev S4x2048x2432 : Shape := ⟨3, ![4, 2048, 2432]⟩
abbrev S4096x9728 : Shape := ⟨2, ![4096, 9728]⟩
abbrev S512x2048 : Shape := ⟨2, ![512, 2048]⟩
abbrev S1x2048x2432 : Shape := ⟨3, ![1, 2048, 2432]⟩
abbrev S512x2432 : Shape := ⟨2, ![512, 2432]⟩
abbrev S2048x2432 : Shape := ⟨2, ![2048, 2432]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x2432, .bf16⟩
  | .hbm, ⟨2, _⟩ => ⟨S4096x9728, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2432, .bf16⟩
  | .local _ .vmem, ⟨3, _⟩ => ⟨S1x2048x2432, .bf16⟩
  | .local _ .vmem, ⟨4, _⟩ => ⟨S512x2432, .bf16⟩
  | .local _ .vmem, ⟨5, _⟩ => ⟨S512x2432, .bf16⟩
  | .local _ .vmem, ⟨6, _⟩ => ⟨S512x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def k0_cond2 (i : grid0.Coords) : BitVec 1 :=
  let arg3 : BitVec 32 := BitVec.ofNat 32 (i 3).val
  let c0_i32_9 : BitVec 32 := 0#32
  let v12 : BitVec 1 := Scalar.cmpi .eq arg3 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjInARefIdeal.lean ====
abbrev S4096x2048 : Shape := ⟨2, ![4096, 2048]⟩
abbrev S4x2048x2432 : Shape := ⟨3, ![4, 2048, 2432]⟩
abbrev S2048x4x2432 : Shape := ⟨3, ![2048, 4, 2432]⟩
abbrev S2048x9728 : Shape := ⟨2, ![2048, 9728]⟩
abbrev S4096x9728 : Shape := ⟨2, ![4096, 9728]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2432, .bf16⟩
  | .hbm, ⟨2, _⟩ => ⟨S4096x2048, .f32⟩
  | .hbm, ⟨3, _⟩ => ⟨S2048x4x2432, .bf16⟩
  | .hbm, ⟨4, _⟩ => ⟨S2048x9728, .bf16⟩
  | .hbm, ⟨5, _⟩ => ⟨S2048x9728, .f32⟩
  | .hbm, ⟨6, _⟩ => ⟨S4096x9728, .f32⟩
  | .hbm, ⟨7, _⟩ => ⟨S4096x9728, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjInB.lean ====
abbrev S4096x2048 : Shape := ⟨2, ![4096, 2048]⟩
abbrev S4x2048x640 : Shape := ⟨3, ![4, 2048, 640]⟩
abbrev S4096x2560 : Shape := ⟨2, ![4096, 2560]⟩
abbrev S1024x2048 : Shape := ⟨2, ![1024, 2048]⟩
abbrev S1x2048x640 : Shape := ⟨3, ![1, 2048, 640]⟩
abbrev S1024x640 : Shape := ⟨2, ![1024, 640]⟩
abbrev S2048x640 : Shape := ⟨2, ![2048, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x640, .bf16⟩
  | .hbm, ⟨2, _⟩ => ⟨S4096x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def k0_cond2 (i : grid0.Coords) : BitVec 1 :=
  let arg3 : BitVec 32 := BitVec.ofNat 32 (i 3).val
  let c0_i32_9 : BitVec 32 := 0#32
  let v12 : BitVec 1 := Scalar.cmpi .eq arg3 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjInBRefIdeal.lean ====
abbrev S4096x2048 : Shape := ⟨2, ![4096, 2048]⟩
abbrev S4x2048x640 : Shape := ⟨3, ![4, 2048, 640]⟩
abbrev S2048x4x640 : Shape := ⟨3, ![2048, 4, 640]⟩
abbrev S2048x2560 : Shape := ⟨2, ![2048, 2560]⟩
abbrev S4096x2560 : Shape := ⟨2, ![4096, 2560]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x640, .bf16⟩
  | .hbm, ⟨2, _⟩ => ⟨S4096x2048, .f32⟩
  | .hbm, ⟨3, _⟩ => ⟨S2048x4x640, .bf16⟩
  | .hbm, ⟨4, _⟩ => ⟨S2048x2560, .bf16⟩
  | .hbm, ⟨5, _⟩ => ⟨S2048x2560, .f32⟩
  | .hbm, ⟨6, _⟩ => ⟨S4096x2560, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjKv.lean ====
abbrev S256x2048 : Shape := ⟨2, ![256, 2048]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .bf16⟩
  | .hbm, ⟨1, _⟩ => ⟨S1x2048x1024, .bf16⟩
  | .hbm, ⟨2, _⟩ => ⟨S256x1024, .bf16⟩
  | .local _ .vmem, ⟨0, _⟩ => ⟨S256x2048, .bf16⟩
  | .local _ .vmem, ⟨1, _⟩ => ⟨S1x2048x1024, .bf16⟩
  | .local _ .vmem, ⟨2, _⟩ => ⟨S256x1024, .bf16⟩
  | .local _ .vmem, ⟨3, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def k0_cond2 (i : grid0.Coords) : BitVec 1 :=
  let arg3 : BitVec 32 := BitVec.ofNat 32 (i 3).val
  let c0_i32_9 : BitVec 32 := 0#32
  let v12 : BitVec 1 := Scalar.cmpi .eq arg3 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== ProjKvRefIdeal.lean ====
abbrev S256x2048 : Shape := ⟨2, ![256, 2048]⟩
abbrev S1x2048x1024 : Shape := ⟨3, ![1, 2048, 1024]⟩
abbrev S2048x1024 : Shape := ⟨2, ![2048, 1024]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S1x2048x1024, .bf16⟩
  | .hbm, ⟨2, _⟩ => ⟨S256x2048, .f32⟩
  | .hbm, ⟨3, _⟩ => ⟨S2048x1024, .bf16⟩
  | .hbm, ⟨4, _⟩ => ⟨S2048x1024, .f32⟩
  | .hbm, ⟨5, _⟩ => ⟨S256x1024, .f32⟩
  | .hbm, ⟨6, _⟩ => ⟨S256x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjOut.lean ====
abbrev S4096x1536 : Shape := ⟨2, ![4096, 1536]⟩
abbrev S4x1536x512 : Shape := ⟨3, ![4, 1536, 512]⟩
abbrev S4096x2048 : Shape := ⟨2, ![4096, 2048]⟩
abbrev S1024x1536 : Shape := ⟨2, ![1024, 1536]⟩
abbrev S1x1536x512 : Shape := ⟨3, ![1, 1536, 512]⟩
abbrev S1024x512 : Shape := ⟨2, ![1024, 512]⟩
abbrev S1536x512 : Shape := ⟨2, ![1536, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4x1536x512, .bf16⟩
  | .hbm, ⟨2, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1536x512, .bf16⟩
  | .local _ .vmem, ⟨3, _⟩ => ⟨S1x1536x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def k0_cond2 (i : grid0.Coords) : BitVec 1 :=
  let arg3 : BitVec 32 := BitVec.ofNat 32 (i 3).val
  let c0_i32_9 : BitVec 32 := 0#32
  let v12 : BitVec 1 := Scalar.cmpi .eq arg3 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjOutRefIdeal.lean ====
abbrev S4096x1536 : Shape := ⟨2, ![4096, 1536]⟩
abbrev S4x1536x512 : Shape := ⟨3, ![4, 1536, 512]⟩
abbrev S1536x4x512 : Shape := ⟨3, ![1536, 4, 512]⟩
abbrev S1536x2048 : Shape := ⟨2, ![1536, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4x1536x512, .bf16⟩
  | .hbm, ⟨2, _⟩ => ⟨S4096x1536, .f32⟩
  | .hbm, ⟨3, _⟩ => ⟨S1536x4x512, .bf16⟩
  | .hbm, ⟨4, _⟩ => ⟨S1536x2048, .bf16⟩
  | .hbm, ⟨5, _⟩ => ⟨S1536x2048, .f32⟩
  | .hbm, ⟨6, _⟩ => ⟨S4096x2048, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradOut.lean ====
abbrev S4096x1536 : Shape := ⟨2, ![4096, 1536]⟩
abbrev S4096x2048 : Shape := ⟨2, ![4096, 2048]⟩
abbrev S4x1536x512 : Shape := ⟨3, ![4, 1536, 512]⟩
abbrev S2048x1536 : Shape := ⟨2, ![2048, 1536]⟩
abbrev S2048x512 : Shape := ⟨2, ![2048, 512]⟩
abbrev S1x1536x512 : Shape := ⟨3, ![1, 1536, 512]⟩
abbrev S1536x512 : Shape := ⟨2, ![1536, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x2048, .bf16⟩
  | .hbm, ⟨2, _⟩ => ⟨S4x1536x512, .bf16⟩
  | .local _ .vmem, ⟨0, _⟩ => ⟨S2048x1536, .bf16⟩
  | .local _ .vmem, ⟨1, _⟩ => ⟨S2048x1536, .bf16⟩
  | .local _ .vmem, ⟨2, _⟩ => ⟨S2048x512, .bf16⟩
  | .local _ .vmem, ⟨3, _⟩ => ⟨S2048x512, .bf16⟩
  | .local _ .vmem, ⟨4, _⟩ => ⟨S1x1536x512, .bf16⟩
  | .local _ .vmem, ⟨5, _⟩ => ⟨S1x1536x512, .bf16⟩
  | .local _ .vmem, ⟨6, _⟩ => ⟨S1536x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 2], ![false, false, false, false]⟩

def k0_cond2 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradOutRefIdeal.lean ====
abbrev S4096x1536 : Shape := ⟨2, ![4096, 1536]⟩
abbrev S4096x2048 : Shape := ⟨2, ![4096, 2048]⟩
abbrev S_ : Shape := ⟨0, ![]⟩
abbrev S1536x2048 : Shape := ⟨2, ![1536, 2048]⟩
abbrev S2048x1536 : Shape := ⟨2, ![2048, 1536]⟩
abbrev S1536x4x512 : Shape := ⟨3, ![1536, 4, 512]⟩
abbrev S4x1536x512 : Shape := ⟨3, ![4, 1536, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x2048, .bf16⟩
  | .hbm, ⟨2, _⟩ => ⟨S4096x1536, .f32⟩
  | .hbm, ⟨3, _⟩ => ⟨S4096x2048, .f32⟩
  | .hbm, ⟨4, _⟩ => ⟨S_, .f32⟩
  | .hbm, ⟨5, _⟩ => ⟨S1536x2048, .f32⟩
  | .hbm, ⟨6, _⟩ => ⟨S4096x2048, .f32⟩
  | .hbm, ⟨7, _⟩ => ⟨S2048x1536, .f32⟩
  | .hbm, ⟨8, _⟩ => ⟨S1536x2048, .f32⟩
  | .hbm, ⟨9, _⟩ => ⟨S1536x4x512, .f32⟩
  | .hbm, ⟨10, _⟩ => ⟨S4x1536x512, .f32⟩
  | .hbm, ⟨11, _⟩ => ⟨S4x1536x512, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjOutBwd.lean ====
abbrev S4096x2048 : Shape := ⟨2, ![4096, 2048]⟩
abbrev S4x1536x512 : Shape := ⟨3, ![4, 1536, 512]⟩
abbrev S4096x1536 : Shape := ⟨2, ![4096, 1536]⟩
abbrev S1024x512 : Shape := ⟨2, ![1024, 512]⟩
abbrev S1x1536x512 : Shape := ⟨3, ![1, 1536, 512]⟩
abbrev S1024x1536 : Shape := ⟨2, ![1024, 1536]⟩
abbrev S1536x512 : Shape := ⟨2, ![1536, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x1536x512, .bf16⟩
  | .hbm, ⟨2, _⟩ => ⟨S4096x1536, .f32⟩
  | .local _ .vmem, ⟨0, _⟩ => ⟨S1024x512, .bf16⟩
  | .local _ .vmem, ⟨1, _⟩ => ⟨S1024x512, .bf16⟩
  | .local _ .vmem, ⟨2, _⟩ => ⟨S1x1536x512, .bf16⟩
  | .local _ .vmem, ⟨3, _⟩ => ⟨S1x1536x512, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 4, 1], ![false, false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let arg3 : BitVec 32 := BitVec.ofNat 32 (i 3).val
  let c0_i32_10 : BitVec 32 := 0#32
  let v15 : BitVec 1 := Scalar.cmpi .eq arg3 c0_i32_10
  let v16 : BitVec 1 := Scalar.andi v14 v15
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== ProjOutBwdRefIdeal.lean ====
abbrev S4096x2048 : Shape := ⟨2, ![4096, 2048]⟩
abbrev S4x1536x512 : Shape := ⟨3, ![4, 1536, 512]⟩
abbrev S1536x4x512 : Shape := ⟨3, ![1536, 4, 512]⟩
abbrev S1536x2048 : Shape := ⟨2, ![1536, 2048]⟩
abbrev S_ : Shape := ⟨0, ![]⟩
abbrev S4096x1536 : Shape := ⟨2, ![4096, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1536x512, .bf16⟩
  | .hbm, ⟨2, _⟩ => ⟨S1536x4x512, .bf16⟩
  | .hbm, ⟨3, _⟩ => ⟨S1536x2048, .bf16⟩
  | .hbm, ⟨4, _⟩ => ⟨S1536x2048, .f32⟩
  | .hbm, ⟨5, _⟩ => ⟨S_, .f32⟩
  | .hbm, ⟨6, _⟩ => ⟨S4096x1536, .f32⟩
  | .hbm, ⟨7, _⟩ => ⟨S4096x2048, .f32⟩
  | .hbm, ⟨8, _⟩ => ⟨S4096x2048, .f32⟩
  | .hbm, ⟨9, _⟩ => ⟨S4096x1536, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradKv.lean ====
abbrev S256x2048 : Shape := ⟨2, ![256, 2048]⟩
abbrev S256x1024 : Shape := ⟨2, ![256, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S1x2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def k0_cond2 (i : grid0.Coords) : BitVec 1 :=
  let arg3 : BitVec 32 := BitVec.ofNat 32 (i 3).val
  let c0_i32_8 : BitVec 32 := 0#32
  let v11 : BitVec 1 := Scalar.cmpi .eq arg3 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradKvRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S256x2048, .f32⟩
  | .hbm, ⟨3, _⟩ => ⟨S256x1024, .f32⟩
  | .hbm, ⟨4, _⟩ => ⟨S_, .f32⟩
  | .hbm, ⟨5, _⟩ => ⟨S2048x1024, .f32⟩
  | .hbm, ⟨6, _⟩ => ⟨S256x1024, .f32⟩
  | .hbm, ⟨7, _⟩ => ⟨S1024x2048, .f32⟩
  | .hbm, ⟨8, _⟩ => ⟨S2048x1024, .f32⟩
  | .hbm, ⟨9, _⟩ => ⟨S1x2048x1024, .f32⟩
  | .hbm, ⟨10, _⟩ => ⟨S1x2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradInA.lean ====
abbrev S4096x2048 : Shape := ⟨2, ![4096, 2048]⟩
abbrev S4096x9728 : Shape := ⟨2, ![4096, 9728]⟩
abbrev S4x2048x2432 : Shape := ⟨3, ![4, 2048, 2432]⟩
abbrev S2048x512 : Shape := ⟨2, ![2048, 512]⟩
abbrev S2048x2432 : Shape := ⟨2, ![2048, 2432]⟩
abbrev S1x512x2432 : Shape := ⟨3, ![1, 512, 2432]⟩
abbrev S512x2432 : Shape := ⟨2, ![512, 2432]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x9728, .bf16⟩
  | .hbm, ⟨2, _⟩ => ⟨S4x2048x2432, .bf16⟩
  | .local _ .vmem, ⟨0, _⟩ => ⟨S2048x512, .bf16⟩
  | .local _ .vmem, ⟨1, _⟩ => ⟨S2048x512, .bf16⟩
  | .local _ .vmem, ⟨2, _⟩ => ⟨S2048x2432, .bf16⟩
  | .local _ .vmem, ⟨3, _⟩ => ⟨S2048x2432, .bf16⟩
  | .local _ .vmem, ⟨4, _⟩ => ⟨S1x512x2432, .bf16⟩
  | .local _ .vmem, ⟨5, _⟩ => ⟨S1x512x2432, .bf16⟩
  | .local _ .vmem, ⟨6, _⟩ => ⟨S512x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 2], ![false, false, false, false]⟩

def k0_cond2 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradInARefIdeal.lean ====
abbrev S4096x2048 : Shape := ⟨2, ![4096, 2048]⟩
abbrev S4096x9728 : Shape := ⟨2, ![4096, 9728]⟩
abbrev S_ : Shape := ⟨0, ![]⟩
abbrev S2048x9728 : Shape := ⟨2, ![2048, 9728]⟩
abbrev S9728x2048 : Shape := ⟨2, ![9728, 2048]⟩
abbrev S2048x4x2432 : Shape := ⟨3, ![2048, 4, 2432]⟩
abbrev S4x2048x2432 : Shape := ⟨3, ![4, 2048, 2432]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x9728, .bf16⟩
  | .hbm, ⟨2, _⟩ => ⟨S4096x2048, .f32⟩
  | .hbm, ⟨3, _⟩ => ⟨S4096x9728, .f32⟩
  | .hbm, ⟨4, _⟩ => ⟨S_, .f32⟩
  | .hbm, ⟨5, _⟩ => ⟨S2048x9728, .f32⟩
  | .hbm, ⟨6, _⟩ => ⟨S4096x9728, .f32⟩
  | .hbm, ⟨7, _⟩ => ⟨S9728x2048, .f32⟩
  | .hbm, ⟨8, _⟩ => ⟨S2048x9728, .f32⟩
  | .hbm, ⟨9, _⟩ => ⟨S2048x4x2432, .f32⟩
  | .hbm, ⟨10, _⟩ => ⟨S4x2048x2432, .f32⟩
  | .hbm, ⟨11, _⟩ => ⟨S4x2048x2432, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradInB.lean ====
abbrev S4096x2048 : Shape := ⟨2, ![4096, 2048]⟩
abbrev S4096x2560 : Shape := ⟨2, ![4096, 2560]⟩
abbrev S4x2048x640 : Shape := ⟨3, ![4, 2048, 640]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2560, .bf16⟩
  | .hbm, ⟨2, _⟩ => ⟨S4x2048x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 2], ![false, false, false, false]⟩

def k0_cond2 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradInBRefIdeal.lean ====
abbrev S4096x2048 : Shape := ⟨2, ![4096, 2048]⟩
abbrev S4096x2560 : Shape := ⟨2, ![4096, 2560]⟩
abbrev S_ : Shape := ⟨0, ![]⟩
abbrev S2048x2560 : Shape := ⟨2, ![2048, 2560]⟩
abbrev S2560x2048 : Shape := ⟨2, ![2560, 2048]⟩
abbrev S2048x4x640 : Shape := ⟨3, ![2048, 4, 640]⟩
abbrev S4x2048x640 : Shape := ⟨3, ![4, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2560, .bf16⟩
  | .hbm, ⟨2, _⟩ => ⟨S4096x2048, .f32⟩
  | .hbm, ⟨3, _⟩ => ⟨S4096x2560, .f32⟩
  | .hbm, ⟨4, _⟩ => ⟨S_, .f32⟩
  | .hbm, ⟨5, _⟩ => ⟨S2048x2560, .f32⟩
  | .hbm, ⟨6, _⟩ => ⟨S4096x2560, .f32⟩
  | .hbm, ⟨7, _⟩ => ⟨S2560x2048, .f32⟩
  | .hbm, ⟨8, _⟩ => ⟨S2048x2560, .f32⟩
  | .hbm, ⟨9, _⟩ => ⟨S2048x4x640, .f32⟩
  | .hbm, ⟨10, _⟩ => ⟨S4x2048x640, .f32⟩
  | .hbm, ⟨11, _⟩ => ⟨S4x2048x640, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjInBwdA.lean ====
abbrev S4096x9728 : Shape := ⟨2, ![4096, 9728]⟩
abbrev S4x2048x2432 : Shape := ⟨3, ![4, 2048, 2432]⟩
abbrev S4096x2048 : Shape := ⟨2, ![4096, 2048]⟩
abbrev S1024x2432 : Shape := ⟨2, ![1024, 2432]⟩
abbrev S1x1024x2432 : Shape := ⟨3, ![1, 1024, 2432]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x9728, .bf16⟩
  | .hbm, ⟨1, _⟩ => ⟨S4x2048x2432, .bf16⟩
  | .hbm, ⟨2, _⟩ => ⟨S4096x2048, .f32⟩
  | .hbm, ⟨3, _⟩ => ⟨S4096x2048, .f32⟩
  | .local _ .vmem, ⟨0, _⟩ => ⟨S1024x2432, .bf16⟩
  | .local _ .vmem, ⟨1, _⟩ => ⟨S1024x2432, .bf16⟩
  | .local _ .vmem, ⟨2, _⟩ => ⟨S1x1024x2432, .bf16⟩
  | .local _ .vmem, ⟨3, _⟩ => ⟨S1x1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 2, 4, 1], ![false, false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let arg3 : BitVec 32 := BitVec.ofNat 32 (i 3).val
  let c0_i32_10 : BitVec 32 := 0#32
  let v15 : BitVec 1 := Scalar.cmpi .eq arg3 c0_i32_10
  let v16 : BitVec 1 := Scalar.andi v14 v15
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== ProjInBwdARefIdeal.lean ====
abbrev S4096x9728 : Shape := ⟨2, ![4096, 9728]⟩
abbrev S4x2048x2432 : Shape := ⟨3, ![4, 2048, 2432]⟩
abbrev S4096x2048 : Shape := ⟨2, ![4096, 2048]⟩
abbrev S2048x4x2432 : Shape := ⟨3, ![2048, 4, 2432]⟩
abbrev S2048x9728 : Shape := ⟨2, ![2048, 9728]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S4x2048x2432, .bf16⟩
  | .hbm, ⟨2, _⟩ => ⟨S4096x2048, .f32⟩
  | .hbm, ⟨3, _⟩ => ⟨S2048x4x2432, .bf16⟩
  | .hbm, ⟨4, _⟩ => ⟨S2048x9728, .bf16⟩
  | .hbm, ⟨5, _⟩ => ⟨S2048x9728, .f32⟩
  | .hbm, ⟨6, _⟩ => ⟨S_, .f32⟩
  | .hbm, ⟨7, _⟩ => ⟨S4096x2048, .f32⟩
  | .hbm, ⟨8, _⟩ => ⟨S4096x9728, .f32⟩
  | .hbm, ⟨9, _⟩ => ⟨S4096x9728, .f32⟩
  | .hbm, ⟨10, _⟩ => ⟨S4096x2048, .f32⟩
  | .hbm, ⟨11, _⟩ => ⟨S4096x2048, .f32⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ProjInBwdB.lean ====
abbrev S4096x2560 : Shape := ⟨2, ![4096, 2560]⟩
abbrev S4x2048x640 : Shape := ⟨3, ![4, 2048, 640]⟩
abbrev S4096x2048 : Shape := ⟨2, ![4096, 2048]⟩
abbrev S1024x640 : Shape := ⟨2, ![1024, 640]⟩
abbrev S1x1024x640 : Shape := ⟨3, ![1, 1024, 640]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2560, .bf16⟩
  | .hbm, ⟨1, _⟩ => ⟨S4x2048x640, .bf16⟩
  | .hbm, ⟨2, _⟩ => ⟨S4096x2048, .f32⟩
  | .hbm, ⟨3, _⟩ => ⟨S4096x2048, .f32⟩
  | .local _ .vmem, ⟨0, _⟩ => ⟨S1024x640, .bf16⟩
  | .local _ .vmem, ⟨1, _⟩ => ⟨S1024x640, .bf16⟩
  | .local _ .vmem, ⟨2, _⟩ => ⟨S1x1024x640, .bf16⟩
  | .local _ .vmem, ⟨3, _⟩ => ⟨S1x1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 2, 4, 1], ![false, false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let arg3 : BitVec 32 := BitVec.ofNat 32 (i 3).val
  let c0_i32_10 : BitVec 32 := 0#32
  let v15 : BitVec 1 := Scalar.cmpi .eq arg3 c0_i32_10
  let v16 : BitVec 1 := Scalar.andi v14 v15
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== ProjInBwdBRefIdeal.lean ====
abbrev S4096x2560 : Shape := ⟨2, ![4096, 2560]⟩
abbrev S4x2048x640 : Shape := ⟨3, ![4, 2048, 640]⟩
abbrev S4096x2048 : Shape := ⟨2, ![4096, 2048]⟩
abbrev S2048x4x640 : Shape := ⟨3, ![2048, 4, 640]⟩
abbrev S2048x2560 : Shape := ⟨2, ![2048, 2560]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4x2048x640, .bf16⟩
  | .hbm, ⟨2, _⟩ => ⟨S4096x2048, .f32⟩
  | .hbm, ⟨3, _⟩ => ⟨S2048x4x640, .bf16⟩
  | .hbm, ⟨4, _⟩ => ⟨S2048x2560, .bf16⟩
  | .hbm, ⟨5, _⟩ => ⟨S2048x2560, .f32⟩
  | .hbm, ⟨6, _⟩ => ⟨S_, .f32⟩
  | .hbm, ⟨7, _⟩ => ⟨S4096x2048, .f32⟩
  | .hbm, ⟨8, _⟩ => ⟨S4096x2560, .f32⟩
  | .hbm, ⟨9, _⟩ => ⟨S4096x2560, .f32⟩
  | .hbm, ⟨10, _⟩ => ⟨S4096x2048, .f32⟩
  | .hbm, ⟨11, _⟩ => ⟨S4096x2048, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== LnBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .bf16⟩
  | .hbm, ⟨6, _⟩ => ⟨S4096x2048, .f32⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S_, .f32⟩
  | .hbm, ⟨51, _⟩ => ⟨S2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x1, .f32⟩
  | .hbm, ⟨67, _⟩ => ⟨S4096x2048, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x2048, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x2048, .f32⟩
  | .hbm, ⟨90, _⟩ => ⟨S4096x2048, .f32⟩
  | .hbm, ⟨91, _⟩ => ⟨S_, .f32⟩
  | .hbm, ⟨92, _⟩ => ⟨S4096x2048, .f32⟩
  | .hbm, ⟨93, _⟩ => ⟨S4096x2048, .f32⟩
  | .hbm, ⟨94, _⟩ => ⟨S4096x2048, .bf16⟩
  | .hbm, ⟨95, _⟩ => ⟨S1x2048, .f32⟩
  | .hbm, ⟨96, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_19 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== LnFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== LossHead.lean ====
abbrev S4096x2048 : Shape := ⟨2, ![4096, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S_, .f32⟩
  | .hbm, ⟨29, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== AdamFf.lean ====
abbrev S8192x2048 : Shape := ⟨2, ![8192, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfRefIdeal.lean ====
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInA.lean ====
abbrev S4096x2432 : Shape := ⟨2, ![4096, 2432]⟩
abbrev S64x2432 : Shape := ⟨2, ![64, 2432]⟩

abbrev nBuf : Space → Nat
  | .hbm => 7
  | .vmem => 14
  | .smem => 0
  | _ => 0

abbrev bufTy : (tb : Table) → Fin (tcTables nBuf tb) → BufTy
  | .hbm, ⟨0, _⟩ => ⟨S4096x2432, .f32⟩
  | .hbm, ⟨1, _⟩ => ⟨S4096x2432, .f32⟩
  | .hbm, ⟨2, _⟩ => ⟨S4096x2432, .f32⟩
  | .hbm, ⟨3, _⟩ => ⟨S4096x2432, .f32⟩
  | .hbm, ⟨4, _⟩ => ⟨S4096x2432, .f32⟩
  | .hbm, ⟨5, _⟩ => ⟨S4096x2432, .f32⟩
  | .hbm, ⟨6, _⟩ => ⟨S4096x2432, .f32⟩
  | .local _ .vmem, ⟨0, _⟩ => ⟨S64x2432, .f32⟩
  | .local _ .vmem, ⟨1, _⟩ => ⟨S64x2432, .f32⟩
  | .local _ .vmem, ⟨2, _⟩ => ⟨S64x2432, .f32⟩
  | .local _ .vmem, ⟨3, _⟩ => ⟨S64x2432, .f32⟩
  | .local _ .vmem, ⟨4, _⟩ => ⟨S64x2432, .f32⟩
  | .local _ .vmem, ⟨5, _⟩ => ⟨S64x2432, .f32⟩
  | .local _ .vmem, ⟨6, _⟩ => ⟨S64x2432, .f32⟩
  | .local _ .vmem, ⟨7, _⟩ => ⟨S64x2432, .f32⟩
  | .local _ .vmem, ⟨8, _⟩ => ⟨S64x2432, .f32⟩
  | .local _ .vmem, ⟨9, _⟩ => ⟨S64x2432, .f32⟩
  | .local _ .vmem, ⟨10, _⟩ => ⟨S64x2432, .f32⟩
  | .local _ .vmem, ⟨11, _⟩ => ⟨S64x2432, .f32⟩
  | .local _ .vmem, ⟨12, _⟩ => ⟨S64x2432, .f32⟩
  | .local _ .vmem, ⟨13, _⟩ => ⟨S64x2432, .f32⟩
  | _, _ => ⟨S4096x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInARefIdeal.lean ====
abbrev S4096x2432 : Shape := ⟨2, ![4096, 2432]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2432, .f32⟩
  | .hbm, ⟨1, _⟩ => ⟨S4096x2432, .f32⟩
  | .hbm, ⟨2, _⟩ => ⟨S4096x2432, .f32⟩
  | .hbm, ⟨3, _⟩ => ⟨S4096x2432, .f32⟩
  | .hbm, ⟨4, _⟩ => ⟨S_, .f32⟩
  | .hbm, ⟨5, _⟩ => ⟨S4096x2432, .f32⟩
  | .hbm, ⟨6, _⟩ => ⟨S4096x2432, .f32⟩
  | .hbm, ⟨7, _⟩ => ⟨S_, .f32⟩
  | .hbm, ⟨8, _⟩ => ⟨S4096x2432, .f32⟩
  | .hbm, ⟨9, _⟩ => ⟨S4096x2432, .f32⟩
  | .hbm, ⟨10, _⟩ => ⟨S4096x2432, .f32⟩
  | .hbm, ⟨11, _⟩ => ⟨S_, .f32⟩
  | .hbm, ⟨12, _⟩ => ⟨S4096x2432, .f32⟩
  | .hbm, ⟨13, _⟩ => ⟨S4096x2432, .f32⟩
  | .hbm, ⟨14, _⟩ => ⟨S4096x2432, .f32⟩
  | .hbm, ⟨15, _⟩ => ⟨S_, .f32⟩
  | .hbm, ⟨16, _⟩ => ⟨S4096x2432, .f32⟩
  | .hbm, ⟨17, _⟩ => ⟨S4096x2432, .f32⟩
  | .hbm, ⟨18, _⟩ => ⟨S4096x2432, .f32⟩
  | .hbm, ⟨19, _⟩ => ⟨S_, .f32⟩
  | .hbm, ⟨20, _⟩ => ⟨S4096x2432, .f32⟩
  | .hbm, ⟨21, _⟩ => ⟨S4096x2432, .f32⟩
  | .hbm, ⟨22, _⟩ => ⟨S_, .f32⟩
  | .hbm, ⟨23, _⟩ => ⟨S4096x2432, .f32⟩
  | .hbm, ⟨24, _⟩ => ⟨S4096x2432, .f32⟩
  | .hbm, ⟨25, _⟩ => ⟨S4096x2432, .f32⟩
  | .hbm, ⟨26, _⟩ => ⟨S_, .f32⟩
  | .hbm, ⟨27, _⟩ => ⟨S4096x2432, .f32⟩
  | .hbm, ⟨28, _⟩ => ⟨S4096x2432, .f32⟩
  | .hbm, ⟨29, _⟩ => ⟨S4096x2432, .f32⟩
  | .hbm, ⟨30, _⟩ => ⟨S_, .f32⟩
  | .hbm, ⟨31, _⟩ => ⟨S4096x2432, .f32⟩
  | .hbm, ⟨32, _⟩ => ⟨S4096x2432, .f32⟩
  | .hbm, ⟨33, _⟩ => ⟨S4096x2432, .f32⟩
  | .hbm, ⟨34, _⟩ => ⟨S_, .f32⟩
  | .hbm, ⟨35, _⟩ => ⟨S4096x2432, .f32⟩
  | .hbm, ⟨36, _⟩ => ⟨S4096x2432, .f32⟩
  | _, _ => ⟨S4096x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInB.lean ====
abbrev S4096x640 : Shape := ⟨2, ![4096, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S4096x640, .f32⟩
  | .hbm, ⟨1, _⟩ => ⟨S4096x640, .f32⟩
  | .hbm, ⟨2, _⟩ => ⟨S4096x640, .f32⟩
  | .hbm, ⟨3, _⟩ => ⟨S4096x640, .f32⟩
  | .hbm, ⟨4, _⟩ => ⟨S4096x640, .f32⟩
  | .hbm, ⟨5, _⟩ => ⟨S4096x640, .f32⟩
  | .hbm, ⟨6, _⟩ => ⟨S4096x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInBRefIdeal.lean ====
abbrev S4096x640 : Shape := ⟨2, ![4096, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x640, .f32⟩
  | .hbm, ⟨1, _⟩ => ⟨S4096x640, .f32⟩
  | .hbm, ⟨2, _⟩ => ⟨S4096x640, .f32⟩
  | .hbm, ⟨3, _⟩ => ⟨S4096x640, .f32⟩
  | .hbm, ⟨4, _⟩ => ⟨S_, .f32⟩
  | .hbm, ⟨5, _⟩ => ⟨S4096x640, .f32⟩
  | .hbm, ⟨6, _⟩ => ⟨S4096x640, .f32⟩
  | .hbm, ⟨7, _⟩ => ⟨S_, .f32⟩
  | .hbm, ⟨8, _⟩ => ⟨S4096x640, .f32⟩
  | .hbm, ⟨9, _⟩ => ⟨S4096x640, .f32⟩
  | .hbm, ⟨10, _⟩ => ⟨S4096x640, .f32⟩
  | .hbm, ⟨11, _⟩ => ⟨S_, .f32⟩
  | .hbm, ⟨12, _⟩ => ⟨S4096x640, .f32⟩
  | .hbm, ⟨13, _⟩ => ⟨S4096x640, .f32⟩
  | .hbm, ⟨14, _⟩ => ⟨S4096x640, .f32⟩
  | .hbm, ⟨15, _⟩ => ⟨S_, .f32⟩
  | .hbm, ⟨16, _⟩ => ⟨S4096x640, .f32⟩
  | .hbm, ⟨17, _⟩ => ⟨S4096x640, .f32⟩
  | .hbm, ⟨18, _⟩ => ⟨S4096x640, .f32⟩
  | .hbm, ⟨19, _⟩ => ⟨S_, .f32⟩
  | .hbm, ⟨20, _⟩ => ⟨S4096x640, .f32⟩
  | .hbm, ⟨21, _⟩ => ⟨S4096x640, .f32⟩
  | .hbm, ⟨22, _⟩ => ⟨S_, .f32⟩
  | .hbm, ⟨23, _⟩ => ⟨S4096x640, .f32⟩
  | .hbm, ⟨24, _⟩ => ⟨S4096x640, .f32⟩
  | .hbm, ⟨25, _⟩ => ⟨S4096x640, .f32⟩
  | .hbm, ⟨26, _⟩ => ⟨S_, .f32⟩
  | .hbm, ⟨27, _⟩ => ⟨S4096x640, .f32⟩
  | .hbm, ⟨28, _⟩ => ⟨S4096x640, .f32⟩
  | .hbm, ⟨29, _⟩ => ⟨S4096x640, .f32⟩
  | .hbm, ⟨30, _⟩ => ⟨S_, .f32⟩
  | .hbm, ⟨31, _⟩ => ⟨S4096x640, .f32⟩
  | .hbm, ⟨32, _⟩ => ⟨S4096x640, .f32⟩
  | .hbm, ⟨33, _⟩ => ⟨S4096x640, .f32⟩
  | .hbm, ⟨34, _⟩ => ⟨S_, .f32⟩
  | .hbm, ⟨35, _⟩ => ⟨S4096x640, .f32⟩
  | .hbm, ⟨36, _⟩ => ⟨S4096x640, .f32⟩
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S6144x512 : Shape := ⟨2, ![6144, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S6144x512, .f32⟩
  | .hbm, ⟨1, _⟩ => ⟨S6144x512, .f32⟩
  | .hbm, ⟨2, _⟩ => ⟨S6144x512, .f32⟩
  | .hbm, ⟨3, _⟩ => ⟨S6144x512, .f32⟩
  | .hbm, ⟨4, _⟩ => ⟨S6144x512, .f32⟩
  | .hbm, ⟨5, _⟩ => ⟨S6144x512, .f32⟩
  | .hbm, ⟨6, _⟩ => ⟨S6144x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S6144x512 : Shape := ⟨2, ![6144, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S6144x512, .f32⟩
  | .hbm, ⟨2, _⟩ => ⟨S6144x512, .f32⟩
  | .hbm, ⟨3, _⟩ => ⟨S6144x512, .f32⟩
  | .hbm, ⟨4, _⟩ => ⟨S_, .f32⟩
  | .hbm, ⟨5, _⟩ => ⟨S6144x512, .f32⟩
  | .hbm, ⟨6, _⟩ => ⟨S6144x512, .f32⟩
  | .hbm, ⟨7, _⟩ => ⟨S_, .f32⟩
  | .hbm, ⟨8, _⟩ => ⟨S6144x512, .f32⟩
  | .hbm, ⟨9, _⟩ => ⟨S6144x512, .f32⟩
  | .hbm, ⟨10, _⟩ => ⟨S6144x512, .f32⟩
  | .hbm, ⟨11, _⟩ => ⟨S_, .f32⟩
  | .hbm, ⟨12, _⟩ => ⟨S6144x512, .f32⟩
  | .hbm, ⟨13, _⟩ => ⟨S6144x512, .f32⟩
  | .hbm, ⟨14, _⟩ => ⟨S6144x512, .f32⟩
  | .hbm, ⟨15, _⟩ => ⟨S_, .f32⟩
  | .hbm, ⟨16, _⟩ => ⟨S6144x512, .f32⟩
  | .hbm, ⟨17, _⟩ => ⟨S6144x512, .f32⟩
  | .hbm, ⟨18, _⟩ => ⟨S6144x512, .f32⟩
  | .hbm, ⟨19, _⟩ => ⟨S_, .f32⟩
  | .hbm, ⟨20, _⟩ => ⟨S6144x512, .f32⟩
  | .hbm, ⟨21, _⟩ => ⟨S6144x512, .f32⟩
  | .hbm, ⟨22, _⟩ => ⟨S_, .f32⟩
  | .hbm, ⟨23, _⟩ => ⟨S6144x512, .f32⟩
  | .hbm, ⟨24, _⟩ => ⟨S6144x512, .f32⟩
  | .hbm, ⟨25, _⟩ => ⟨S6144x512, .f32⟩
  | .hbm, ⟨26, _⟩ => ⟨S_, .f32⟩
  | .hbm, ⟨27, _⟩ => ⟨S6144x512, .f32⟩
  | .hbm, ⟨28, _⟩ => ⟨S6144x512, .f32⟩
  | .hbm, ⟨29, _⟩ => ⟨S6144x512, .f32⟩
  | .hbm, ⟨30, _⟩ => ⟨S_, .f32⟩
  | .hbm, ⟨31, _⟩ => ⟨S6144x512, .f32⟩
  | .hbm, ⟨32, _⟩ => ⟨S6144x512, .f32⟩
  | .hbm, ⟨33, _⟩ => ⟨S6144x512, .f32⟩
  | .hbm, ⟨34, _⟩ => ⟨S_, .f32⟩
  | .hbm, ⟨35, _⟩ => ⟨S6144x512, .f32⟩
  | .hbm, ⟨36, _⟩ => ⟨S6144x512, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MemBwdB.lean ====
abbrev S4096x2560 : Shape := ⟨2, ![4096, 2560]⟩
abbrev S256x1024 : Shape := ⟨2, ![256, 1024]⟩
abbrev S4096x1536 : Shape := ⟨2, ![4096, 1536]⟩
abbrev S4096x512 : Shape := ⟨2, ![4096, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2560, .f32⟩
  | .hbm, ⟨1, _⟩ => ⟨S256x1024, .bf16⟩
  | .hbm, ⟨2, _⟩ => ⟨S4096x1536, .f32⟩
  | .hbm, ⟨3, _⟩ => ⟨S4096x512, .bf16⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemBwdBRefIdeal.lean ====
abbrev S4096x2560 : Shape := ⟨2, ![4096, 2560]⟩
abbrev S256x1024 : Shape := ⟨2, ![256, 1024]⟩
abbrev S4096x1536 : Shape := ⟨2, ![4096, 1536]⟩
abbrev S4096x512 : Shape := ⟨2, ![4096, 512]⟩
abbrev S1x4096x512 : Shape := ⟨3, ![1, 4096, 512]⟩
abbrev S1x256x1024 : Shape := ⟨3, ![1, 256, 1024]⟩
abbrev S1x4096x4x128 : Shape := ⟨4, ![1, 4096, 4, 128]⟩
abbrev S1x256x2x4x128 : Shape := ⟨5, ![1, 256, 2, 4, 128]⟩
abbrev S1x256x1x4x128 : Shape := ⟨5, ![1, 256, 1, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S1x4x128x256 : Shape := ⟨4, ![1, 4, 128, 256]⟩
abbrev S4x4096 : Shape := ⟨2, ![4, 4096]⟩
abbrev S1x4x256x128 : Shape := ⟨4, ![1, 4, 256, 128]⟩
abbrev S1x4x4096x128 : Shape := ⟨4, ![1, 4, 4096, 128]⟩

abbrev nBuf : Space → Nat
  | .hbm => 99
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S256x1024, .bf16⟩
  | .hbm, ⟨2, _⟩ => ⟨S4096x1536, .f32⟩
  | .hbm, ⟨3, _⟩ => ⟨S4096x512, .f32⟩
  | .hbm, ⟨4, _⟩ => ⟨S1x4096x512, .f32⟩
  | .hbm, ⟨5, _⟩ => ⟨S4096x512, .f32⟩
  | .hbm, ⟨6, _⟩ => ⟨S1x4096x512, .f32⟩
  | .hbm, ⟨7, _⟩ => ⟨S1x256x1024, .bf16⟩
  | .hbm, ⟨8, _⟩ => ⟨S1x256x1024, .f32⟩
  | .hbm, ⟨9, _⟩ => ⟨S1x4096x4x128, .f32⟩
  | .hbm, ⟨10, _⟩ => ⟨S1x256x2x4x128, .f32⟩
  | .hbm, ⟨11, _⟩ => ⟨S1x256x1x4x128, .f32⟩
  | .hbm, ⟨12, _⟩ => ⟨S1x256x4x128, .f32⟩
  | .hbm, ⟨13, _⟩ => ⟨S1x256x1x4x128, .f32⟩
  | .hbm, ⟨14, _⟩ => ⟨S1x256x4x128, .f32⟩
  | .hbm, ⟨15, _⟩ => ⟨S1x4x4096x256, .f32⟩
  | .hbm, ⟨16, _⟩ => ⟨S_, .f32⟩
  | .hbm, ⟨17, _⟩ => ⟨S1x4x4096x256, .f32⟩
  | .hbm, ⟨18, _⟩ => ⟨S1x4x4096x256, .f32⟩
  | .hbm, ⟨19, _⟩ => ⟨S_, .f32⟩
  | .hbm, ⟨20, _⟩ => ⟨S1x4x4096, .f32⟩
  | .hbm, ⟨21, _⟩ => ⟨S1x4x4096x1, .f32⟩
  | .hbm, ⟨22, _⟩ => ⟨S1x4x4096x256, .f32⟩
  | .hbm, ⟨23, _⟩ => ⟨S1x4x4096x256, .i1⟩
  | .hbm, ⟨24, _⟩ => ⟨S1x4x4096x256, .f32⟩
  | .hbm, ⟨25, _⟩ => ⟨S_, .f32⟩
  | .hbm, ⟨26, _⟩ => ⟨S1x4x4096, .f32⟩
  | .hbm, ⟨27, _⟩ => ⟨S_, .f32⟩
  | .hbm, ⟨28, _⟩ => ⟨S1x4x4096, .f32⟩
  | .hbm, ⟨29, _⟩ => ⟨S1x4x4096, .f32⟩
  | .hbm, ⟨30, _⟩ => ⟨S_, .f32⟩
  | .hbm, ⟨31, _⟩ => ⟨S1x4x4096, .f32⟩
  | .hbm, ⟨32, _⟩ => ⟨S1x4x4096, .i1⟩
  | .hbm, ⟨33, _⟩ => ⟨S_, .f32⟩
  | .hbm, ⟨34, _⟩ => ⟨S1x4x4096, .f32⟩
  | .hbm, ⟨35, _⟩ => ⟨S1x4x4096, .i1⟩
  | .hbm, ⟨36, _⟩ => ⟨S_, .f32⟩
  | .hbm, ⟨37, _⟩ => ⟨S1x4x4096, .f32⟩
  | .hbm, ⟨38, _⟩ => ⟨S_, .f32⟩
  | .hbm, ⟨39, _⟩ => ⟨S1x4x4096, .f32⟩
  | .hbm, ⟨40, _⟩ => ⟨S_, .f32⟩
  | .hbm, ⟨41, _⟩ => ⟨S1x4x4096, .f32⟩
  | .hbm, ⟨42, _⟩ => ⟨S1x4x4096, .f32⟩
  | .hbm, ⟨43, _⟩ => ⟨S1x4x4096, .f32⟩
  | .hbm, ⟨44, _⟩ => ⟨S1x4x4096x1, .f32⟩
  | .hbm, ⟨45, _⟩ => ⟨S1x4x4096x256, .f32⟩
  | .hbm, ⟨46, _⟩ => ⟨S1x4x4096x256, .f32⟩
  | .hbm, ⟨47, _⟩ => ⟨S1x4x4096x256, .f32⟩
  | .hbm, ⟨48, _⟩ => ⟨S_, .f32⟩
  | .hbm, ⟨49, _⟩ => ⟨S1x4x4096, .f32⟩
  | .hbm, ⟨50, _⟩ => ⟨S1x4x4096x1, .f32⟩
  | .hbm, ⟨51, _⟩ => ⟨S1x4x4096x256, .f32⟩
  | .hbm, ⟨52, _⟩ => ⟨S1x4x4096x256, .f32⟩
  | .hbm, ⟨53, _⟩ => ⟨S1x4x4096x1, .f32⟩
  | .hbm, ⟨54, _⟩ => ⟨S_, .f32⟩
  | .hbm, ⟨55, _⟩ => ⟨S1x4x4096x1, .f32⟩
  | .hbm, ⟨56, _⟩ => ⟨S1x4x4096x1, .f32⟩
  | .hbm, ⟨57, _⟩ => ⟨S1x4x128x4096, .f32⟩
  | .hbm, ⟨58, _⟩ => ⟨S1x4096x4x128, .f32⟩
  | .hbm, ⟨59, _⟩ => ⟨S1x4096x512, .f32⟩
  | .hbm, ⟨60, _⟩ => ⟨S1x4096x4x128, .f32⟩
  | .hbm, ⟨61, _⟩ => ⟨S1x4x128x4096, .f32⟩
  | .hbm, ⟨62, _⟩ => ⟨S1x4x4096x256, .f32⟩
  | .hbm, ⟨63, _⟩ => ⟨S1x4x128x256, .f32⟩
  | .hbm, ⟨64, _⟩ => ⟨S1x256x4x128, .f32⟩
  | .hbm, ⟨65, _⟩ => ⟨S1x4x4096x256, .f32⟩
  | .hbm, ⟨66, _⟩ => ⟨S1x4x4096x256, .f32⟩
  | .hbm, ⟨67, _⟩ => ⟨S1x4x4096x256, .f32⟩
  | .hbm, ⟨68, _⟩ => ⟨S_, .f32⟩
  | .hbm, ⟨69, _⟩ => ⟨S1x4x4096, .f32⟩
  | .hbm, ⟨70, _⟩ => ⟨S1x4x4096x1, .f32⟩
  | .hbm, ⟨71, _⟩ => ⟨S1x4x4096x1, .f32⟩
  | .hbm, ⟨72, _⟩ => ⟨S1x4x4096x256, .f32⟩
  | .hbm, ⟨73, _⟩ => ⟨S1x4x4096x256, .f32⟩
  | .hbm, ⟨74, _⟩ => ⟨S_, .f32⟩
  | .hbm, ⟨75, _⟩ => ⟨S4x4096, .f32⟩
  | .hbm, ⟨76, _⟩ => ⟨S1x4x4096, .f32⟩
  | .hbm, ⟨77, _⟩ => ⟨S1x4x4096x256, .f32⟩
  | .hbm, ⟨78, _⟩ => ⟨S1x4x4096x256, .f32⟩
  | .hbm, ⟨79, _⟩ => ⟨S1x4x4096x256, .f32⟩
  | .hbm, ⟨80, _⟩ => ⟨S_, .f32⟩
  | .hbm, ⟨81, _⟩ => ⟨S1x4x4096x256, .f32⟩
  | .hbm, ⟨82, _⟩ => ⟨S1x4x4096x256, .f32⟩
  | .hbm, ⟨83, _⟩ => ⟨S1x4x256x128, .f32⟩
  | .hbm, ⟨84, _⟩ => ⟨S1x256x4x128, .f32⟩
  | .hbm, ⟨85, _⟩ => ⟨S1x4x4096x128, .f32⟩
  | .hbm, ⟨86, _⟩ => ⟨S1x4096x4x128, .f32⟩
  | .hbm, ⟨87, _⟩ => ⟨S1x256x1x4x128, .f32⟩
  | .hbm, ⟨88, _⟩ => ⟨S_, .f32⟩
  | .hbm, ⟨89, _⟩ => ⟨S1x256x2x4x128, .f32⟩
  | .hbm, ⟨90, _⟩ => ⟨S1x256x1x4x128, .f32⟩
  | .hbm, ⟨91, _⟩ => ⟨S_, .f32⟩
  | .hbm, ⟨92, _⟩ => ⟨S1x256x2x4x128, .f32⟩
  | .hbm, ⟨93, _⟩ => ⟨S1x256x2x4x128, .f32⟩
  | .hbm, ⟨94, _⟩ => ⟨S1x256x1024, .f32⟩
  | .hbm, ⟨95, _⟩ => ⟨S1x4096x512, .f32⟩
  | .hbm, ⟨96, _⟩ => ⟨S4096x512, .f32⟩
  | .hbm, ⟨97, _⟩ => ⟨S4096x512, .bf16⟩
  | .hbm, ⟨98, _⟩ => ⟨S256x1024, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_13 : Ref sig .tc := ⟨.hbm, 88, rfl⟩
abbrev main_v71 : Ref sig .tc := ⟨.hbm, 89, rfl⟩
abbrev main_v72 : Ref sig .tc := ⟨.hbm, 90, rfl⟩
abbrev main_cst_14 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== MemFwd.lean ====
abbrev S4096x9728 : Shape := ⟨2, ![4096, 9728]⟩
abbrev S256x1024 : Shape := ⟨2, ![256, 1024]⟩
abbrev S4096x1024 : Shape := ⟨2, ![4096, 1024]⟩
abbrev S4096x1536 : Shape := ⟨2, ![4096, 1536]⟩
abbrev S512x512 : Shape := ⟨2, ![512, 512]⟩
abbrev S512x1024 : Shape := ⟨2, ![512, 1024]⟩
abbrev S512x1536 : Shape := ⟨2, ![512, 1536]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x9728, .bf16⟩
  | .hbm, ⟨1, _⟩ => ⟨S256x1024, .bf16⟩
  | .hbm, ⟨2, _⟩ => ⟨S4096x1024, .f32⟩
  | .hbm, ⟨3, _⟩ => ⟨S4096x1536, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | .local _ .vmem, ⟨5, _⟩ => ⟨S512x1536, .bf16⟩
  | .local _ .vmem, ⟨6, _⟩ => ⟨S512x1536, .bf16⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemFwdRefIdeal.lean ====
abbrev S4096x9728 : Shape := ⟨2, ![4096, 9728]⟩
abbrev S256x1024 : Shape := ⟨2, ![256, 1024]⟩
abbrev S4096x1024 : Shape := ⟨2, ![4096, 1024]⟩
abbrev S4096x512 : Shape := ⟨2, ![4096, 512]⟩
abbrev S1x4096x512 : Shape := ⟨3, ![1, 4096, 512]⟩
abbrev S1x256x1024 : Shape := ⟨3, ![1, 256, 1024]⟩
abbrev S1x4096x4x128 : Shape := ⟨4, ![1, 4096, 4, 128]⟩
abbrev S1x256x2x4x128 : Shape := ⟨5, ![1, 256, 2, 4, 128]⟩
abbrev S1x256x1x4x128 : Shape := ⟨5, ![1, 256, 1, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S4096x1536 : Shape := ⟨2, ![4096, 1536]⟩

abbrev nBuf : Space → Nat
  | .hbm => 38
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S256x1024, .bf16⟩
  | .hbm, ⟨2, _⟩ => ⟨S4096x1024, .f32⟩
  | .hbm, ⟨3, _⟩ => ⟨S4096x512, .bf16⟩
  | .hbm, ⟨4, _⟩ => ⟨S1x4096x512, .bf16⟩
  | .hbm, ⟨5, _⟩ => ⟨S1x4096x512, .f32⟩
  | .hbm, ⟨6, _⟩ => ⟨S1x256x1024, .bf16⟩
  | .hbm, ⟨7, _⟩ => ⟨S1x256x1024, .f32⟩
  | .hbm, ⟨8, _⟩ => ⟨S1x4096x4x128, .f32⟩
  | .hbm, ⟨9, _⟩ => ⟨S1x256x2x4x128, .f32⟩
  | .hbm, ⟨10, _⟩ => ⟨S1x256x1x4x128, .f32⟩
  | .hbm, ⟨11, _⟩ => ⟨S1x256x4x128, .f32⟩
  | .hbm, ⟨12, _⟩ => ⟨S1x256x1x4x128, .f32⟩
  | .hbm, ⟨13, _⟩ => ⟨S1x256x4x128, .f32⟩
  | .hbm, ⟨14, _⟩ => ⟨S1x4x4096x256, .f32⟩
  | .hbm, ⟨15, _⟩ => ⟨S_, .f32⟩
  | .hbm, ⟨16, _⟩ => ⟨S1x4x4096x256, .f32⟩
  | .hbm, ⟨17, _⟩ => ⟨S1x4x4096x256, .f32⟩
  | .hbm, ⟨18, _⟩ => ⟨S_, .f32⟩
  | .hbm, ⟨19, _⟩ => ⟨S1x4x4096, .f32⟩
  | .hbm, ⟨20, _⟩ => ⟨S_, .f32⟩
  | .hbm, ⟨21, _⟩ => ⟨S1x4x4096, .f32⟩
  | .hbm, ⟨22, _⟩ => ⟨S1x4x4096, .f32⟩
  | .hbm, ⟨23, _⟩ => ⟨S1x4x4096x1, .f32⟩
  | .hbm, ⟨24, _⟩ => ⟨S1x4x4096x256, .f32⟩
  | .hbm, ⟨25, _⟩ => ⟨S1x4x4096x256, .f32⟩
  | .hbm, ⟨26, _⟩ => ⟨S1x4x4096x256, .f32⟩
  | .hbm, ⟨27, _⟩ => ⟨S_, .f32⟩
  | .hbm, ⟨28, _⟩ => ⟨S1x4x4096, .f32⟩
  | .hbm, ⟨29, _⟩ => ⟨S1x4x4096x1, .f32⟩
  | .hbm, ⟨30, _⟩ => ⟨S1x4x4096x256, .f32⟩
  | .hbm, ⟨31, _⟩ => ⟨S1x4x4096x256, .f32⟩
  | .hbm, ⟨32, _⟩ => ⟨S1x4x128x4096, .f32⟩
  | .hbm, ⟨33, _⟩ => ⟨S1x4096x4x128, .f32⟩
  | .hbm, ⟨34, _⟩ => ⟨S1x4096x512, .f32⟩
  | .hbm, ⟨35, _⟩ => ⟨S4096x512, .f32⟩
  | .hbm, ⟨36, _⟩ => ⟨S4096x1536, .f32⟩
  | .hbm, ⟨37, _⟩ => ⟨S4096x1536, .bf16⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== MemFwdB.lean ====
abbrev S4096x2560 : Shape := ⟨2, ![4096, 2560]⟩
abbrev S256x1024 : Shape := ⟨2, ![256, 1024]⟩
abbrev S4096x1024 : Shape := ⟨2, ![4096, 1024]⟩
abbrev S4096x1536 : Shape := ⟨2, ![4096, 1536]⟩
abbrev S512x512 : Shape := ⟨2, ![512, 512]⟩
abbrev S512x1024 : Shape := ⟨2, ![512, 1024]⟩
abbrev S512x1536 : Shape := ⟨2, ![512, 1536]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2560, .f32⟩
  | .hbm, ⟨1, _⟩ => ⟨S256x1024, .bf16⟩
  | .hbm, ⟨2, _⟩ => ⟨S4096x1024, .f32⟩
  | .hbm, ⟨3, _⟩ => ⟨S4096x1536, .bf16⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | .local _ .vmem, ⟨5, _⟩ => ⟨S512x1536, .bf16⟩
  | .local _ .vmem, ⟨6, _⟩ => ⟨S512x1536, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemFwdBRefIdeal.lean ====
abbrev S4096x2560 : Shape := ⟨2, ![4096, 2560]⟩
abbrev S256x1024 : Shape := ⟨2, ![256, 1024]⟩
abbrev S4096x1024 : Shape := ⟨2, ![4096, 1024]⟩
abbrev S4096x512 : Shape := ⟨2, ![4096, 512]⟩
abbrev S1x4096x512 : Shape := ⟨3, ![1, 4096, 512]⟩
abbrev S1x256x1024 : Shape := ⟨3, ![1, 256, 1024]⟩
abbrev S1x4096x4x128 : Shape := ⟨4, ![1, 4096, 4, 128]⟩
abbrev S1x256x2x4x128 : Shape := ⟨5, ![1, 256, 2, 4, 128]⟩
abbrev S1x256x1x4x128 : Shape := ⟨5, ![1, 256, 1, 4, 128]⟩
abbrev S1x256x4x128 : Shape := ⟨4, ![1, 256, 4, 128]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x128x4096 : Shape := ⟨4, ![1, 4, 128, 4096]⟩
abbrev S4096x1536 : Shape := ⟨2, ![4096, 1536]⟩

abbrev nBuf : Space → Nat
  | .hbm => 37
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S256x1024, .bf16⟩
  | .hbm, ⟨2, _⟩ => ⟨S4096x1024, .f32⟩
  | .hbm, ⟨3, _⟩ => ⟨S4096x512, .f32⟩
  | .hbm, ⟨4, _⟩ => ⟨S1x4096x512, .f32⟩
  | .hbm, ⟨5, _⟩ => ⟨S1x256x1024, .bf16⟩
  | .hbm, ⟨6, _⟩ => ⟨S1x256x1024, .f32⟩
  | .hbm, ⟨7, _⟩ => ⟨S1x4096x4x128, .f32⟩
  | .hbm, ⟨8, _⟩ => ⟨S1x256x2x4x128, .f32⟩
  | .hbm, ⟨9, _⟩ => ⟨S1x256x1x4x128, .f32⟩
  | .hbm, ⟨10, _⟩ => ⟨S1x256x4x128, .f32⟩
  | .hbm, ⟨11, _⟩ => ⟨S1x256x1x4x128, .f32⟩
  | .hbm, ⟨12, _⟩ => ⟨S1x256x4x128, .f32⟩
  | .hbm, ⟨13, _⟩ => ⟨S1x4x4096x256, .f32⟩
  | .hbm, ⟨14, _⟩ => ⟨S_, .f32⟩
  | .hbm, ⟨15, _⟩ => ⟨S1x4x4096x256, .f32⟩
  | .hbm, ⟨16, _⟩ => ⟨S1x4x4096x256, .f32⟩
  | .hbm, ⟨17, _⟩ => ⟨S_, .f32⟩
  | .hbm, ⟨18, _⟩ => ⟨S1x4x4096, .f32⟩
  | .hbm, ⟨19, _⟩ => ⟨S_, .f32⟩
  | .hbm, ⟨20, _⟩ => ⟨S1x4x4096, .f32⟩
  | .hbm, ⟨21, _⟩ => ⟨S1x4x4096, .f32⟩
  | .hbm, ⟨22, _⟩ => ⟨S1x4x4096x1, .f32⟩
  | .hbm, ⟨23, _⟩ => ⟨S1x4x4096x256, .f32⟩
  | .hbm, ⟨24, _⟩ => ⟨S1x4x4096x256, .f32⟩
  | .hbm, ⟨25, _⟩ => ⟨S1x4x4096x256, .f32⟩
  | .hbm, ⟨26, _⟩ => ⟨S_, .f32⟩
  | .hbm, ⟨27, _⟩ => ⟨S1x4x4096, .f32⟩
  | .hbm, ⟨28, _⟩ => ⟨S1x4x4096x1, .f32⟩
  | .hbm, ⟨29, _⟩ => ⟨S1x4x4096x256, .f32⟩
  | .hbm, ⟨30, _⟩ => ⟨S1x4x4096x256, .f32⟩
  | .hbm, ⟨31, _⟩ => ⟨S1x4x128x4096, .f32⟩
  | .hbm, ⟨32, _⟩ => ⟨S1x4096x4x128, .f32⟩
  | .hbm, ⟨33, _⟩ => ⟨S1x4096x512, .f32⟩
  | .hbm, ⟨34, _⟩ => ⟨S4096x512, .f32⟩
  | .hbm, ⟨35, _⟩ => ⟨S4096x1536, .f32⟩
  | .hbm, ⟨36, _⟩ => ⟨S4096x1536, .bf16⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== AttnFwd16.lean ====
abbrev S4096x3072 : Shape := ⟨2, ![4096, 3072]⟩
abbrev S256x49152 : Shape := ⟨2, ![256, 49152]⟩
abbrev S256x16384 : Shape := ⟨2, ![256, 16384]⟩
abbrev S256x512 : Shape := ⟨2, ![256, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S4096x3072, .bf16⟩
  | .hbm, ⟨1, _⟩ => ⟨S256x49152, .bf16⟩
  | .hbm, ⟨2, _⟩ => ⟨S256x16384, .f32⟩
  | .hbm, ⟨3, _⟩ => ⟨S256x16384, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S128x512, .bf16⟩
  | .local _ .vmem, ⟨5, _⟩ => ⟨S128x512, .bf16⟩
  | .local _ .vmem, ⟨6, _⟩ => ⟨S256x512, .bf16⟩
  | .local _ .vmem, ⟨7, _⟩ => ⟨S256x512, .bf16⟩
  | .local _ .vmem, ⟨8, _⟩ => ⟨S128x512, .bf16⟩
  | .local _ .vmem, ⟨9, _⟩ => ⟨S128x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let c0_i32 : BitVec 32 := 0#32
  let v1 : BitVec 32 := Scalar.addi v0 c0_i32
  let c0_i32_0 : BitVec 32 := 0#32
  let v2 : BitVec 32 := Scalar.addi v1 c0_i32_0
  let v3 : BitVec 32 := Scalar.addi v2 arg2
  let c0_i32_1 : BitVec 32 := 0#32
  ![arg1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let c0_i32 : BitVec 32 := 0#32
  let v1 : BitVec 32 := Scalar.addi v0 c0_i32
  let c2_i32 : BitVec 32 := 2#32
  let v2 : BitVec 32 := Scalar.addi v1 c2_i32
  let v3 : BitVec 32 := Scalar.addi v2 arg2
  let c0_i32_0 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.muli arg0 c6_i32
  let c0_i32_0 : BitVec 32 := 0#32
  let v4 : BitVec 32 := Scalar.addi v3 c0_i32_0
  let c2_i32_1 : BitVec 32 := 2#32
  let v5 : BitVec 32 := Scalar.addi v4 c2_i32_1
  let v6 : BitVec 32 := Scalar.addi v5 arg2
  let c0_i32_2 : BitVec 32 := 0#32
  ![v2.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let c0_i32 : BitVec 32 := 0#32
  let v1 : BitVec 32 := Scalar.addi v0 c0_i32
  let c4_i32 : BitVec 32 := 4#32
  let v2 : BitVec 32 := Scalar.addi v1 c4_i32
  let v3 : BitVec 32 := Scalar.addi v2 arg2
  let c0_i32_0 : BitVec 32 := 0#32
  ![arg1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.muli arg0 c6_i32
  let c0_i32_0 : BitVec 32 := 0#32
  let v4 : BitVec 32 := Scalar.addi v3 c0_i32_0
  let c4_i32 : BitVec 32 := 4#32
  let v5 : BitVec 32 := Scalar.addi v4 c4_i32
  let v6 : BitVec 32 := Scalar.addi v5 arg2
  let c0_i32_1 : BitVec 32 := 0#32
  ![v2.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnFwd16Ideal.lean ====
variable {F : FTy → Type} [FloatOps F] [Named F]
def κ : String → Option EReal := fun
  | "neg" => some ⊥
  | _ => none
-- ==== AttnFwd16RefIdeal.lean ====
abbrev S4096x3072 : Shape := ⟨2, ![4096, 3072]⟩
abbrev S1x4096x3x8x128 : Shape := ⟨5, ![1, 4096, 3, 8, 128]⟩
abbrev S1x4096x1x8x128 : Shape := ⟨5, ![1, 4096, 1, 8, 128]⟩
abbrev S1x4096x8x128 : Shape := ⟨4, ![1, 4096, 8, 128]⟩
abbrev S1x256x16x8x128 : Shape := ⟨5, ![1, 256, 16, 8, 128]⟩
abbrev S1x16x256x8x128 : Shape := ⟨5, ![1, 16, 256, 8, 128]⟩
abbrev S_ : Shape := ⟨0, ![]⟩
abbrev S1x16x2x128x8x128 : Shape := ⟨6, ![1, 16, 2, 128, 8, 128]⟩
abbrev S1x16x1x128x8x128 : Shape := ⟨6, ![1, 16, 1, 128, 8, 128]⟩
abbrev S1x16x2x256x8x128 : Shape := ⟨6, ![1, 16, 2, 256, 8, 128]⟩
abbrev S1x16x2x8x128x256 : Shape := ⟨6, ![1, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S1x1x2x1x128x256 : Shape := ⟨6, ![1, 1, 2, 1, 128, 256]⟩
abbrev S1x16x2x8x128 : Shape := ⟨5, ![1, 16, 2, 8, 128]⟩
abbrev S1x16x2x8x128x1 : Shape := ⟨6, ![1, 16, 2, 8, 128, 1]⟩
abbrev S1x16x2x8x128x128 : Shape := ⟨6, ![1, 16, 2, 8, 128, 128]⟩
abbrev S1x16x2x128x8x1 : Shape := ⟨6, ![1, 16, 2, 128, 8, 1]⟩
abbrev S1x16x2x128x8 : Shape := ⟨5, ![1, 16, 2, 128, 8]⟩
abbrev S1x16x256x8 : Shape := ⟨4, ![1, 16, 256, 8]⟩
abbrev S1x256x16x8 : Shape := ⟨4, ![1, 256, 16, 8]⟩
abbrev S1x4096x8 : Shape := ⟨3, ![1, 4096, 8]⟩
abbrev S256x16384 : Shape := ⟨2, ![256, 16384]⟩
abbrev S1x4096x8x1 : Shape := ⟨4, ![1, 4096, 8, 1]⟩

abbrev nBuf : Space → Nat
  | .hbm => 108
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1x4096x3x8x128, .bf16⟩
  | .hbm, ⟨2, _⟩ => ⟨S1x4096x3x8x128, .f32⟩
  | .hbm, ⟨3, _⟩ => ⟨S1x4096x1x8x128, .f32⟩
  | .hbm, ⟨4, _⟩ => ⟨S1x4096x8x128, .f32⟩
  | .hbm, ⟨5, _⟩ => ⟨S1x4096x1x8x128, .f32⟩
  | .hbm, ⟨6, _⟩ => ⟨S1x4096x8x128, .f32⟩
  | .hbm, ⟨7, _⟩ => ⟨S1x4096x1x8x128, .f32⟩
  | .hbm, ⟨8, _⟩ => ⟨S1x4096x8x128, .f32⟩
  | .hbm, ⟨9, _⟩ => ⟨S1x256x16x8x128, .f32⟩
  | .hbm, ⟨10, _⟩ => ⟨S1x16x256x8x128, .f32⟩
  | .hbm, ⟨11, _⟩ => ⟨S_, .i32⟩
  | .hbm, ⟨12, _⟩ => ⟨S_, .f32⟩
  | .hbm, ⟨13, _⟩ => ⟨S1x16x256x8x128, .f32⟩
  | .hbm, ⟨14, _⟩ => ⟨S1x16x2x128x8x128, .f32⟩
  | .hbm, ⟨15, _⟩ => ⟨S1x256x16x8x128, .f32⟩
  | .hbm, ⟨16, _⟩ => ⟨S1x16x256x8x128, .f32⟩
  | .hbm, ⟨17, _⟩ => ⟨S_, .i32⟩
  | .hbm, ⟨18, _⟩ => ⟨S_, .f32⟩
  | .hbm, ⟨19, _⟩ => ⟨S1x16x256x8x128, .f32⟩
  | .hbm, ⟨20, _⟩ => ⟨S1x16x2x128x8x128, .f32⟩
  | .hbm, ⟨21, _⟩ => ⟨S1x256x16x8x128, .f32⟩
  | .hbm, ⟨22, _⟩ => ⟨S1x16x256x8x128, .f32⟩
  | .hbm, ⟨23, _⟩ => ⟨S_, .i32⟩
  | .hbm, ⟨24, _⟩ => ⟨S_, .f32⟩
  | .hbm, ⟨25, _⟩ => ⟨S1x16x256x8x128, .f32⟩
  | .hbm, ⟨26, _⟩ => ⟨S1x16x2x128x8x128, .f32⟩
  | .hbm, ⟨27, _⟩ => ⟨S1x16x1x128x8x128, .f32⟩
  | .hbm, ⟨28, _⟩ => ⟨S_, .i32⟩
  | .hbm, ⟨29, _⟩ => ⟨S_, .f32⟩
  | .hbm, ⟨30, _⟩ => ⟨S1x16x2x128x8x128, .f32⟩
  | .hbm, ⟨31, _⟩ => ⟨S1x16x2x256x8x128, .f32⟩
  | .hbm, ⟨32, _⟩ => ⟨S1x16x1x128x8x128, .f32⟩
  | .hbm, ⟨33, _⟩ => ⟨S_, .i32⟩
  | .hbm, ⟨34, _⟩ => ⟨S_, .f32⟩
  | .hbm, ⟨35, _⟩ => ⟨S1x16x2x128x8x128, .f32⟩
  | .hbm, ⟨36, _⟩ => ⟨S1x16x2x256x8x128, .f32⟩
  | .hbm, ⟨37, _⟩ => ⟨S1x16x2x8x128x256, .f32⟩
  | .hbm, ⟨38, _⟩ => ⟨S_, .f32⟩
  | .hbm, ⟨39, _⟩ => ⟨S1x16x2x8x128x256, .f32⟩
  | .hbm, ⟨40, _⟩ => ⟨S1x16x2x8x128x256, .f32⟩
  | .hbm, ⟨41, _⟩ => ⟨S128, .i32⟩
  | .hbm, ⟨42, _⟩ => ⟨S128x1, .i32⟩
  | .hbm, ⟨43, _⟩ => ⟨S256, .i32⟩
  | .hbm, ⟨44, _⟩ => ⟨S1x256, .i32⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x256, .i32⟩
  | .hbm, ⟨49, _⟩ => ⟨S128x256, .i32⟩
  | .hbm, ⟨50, _⟩ => ⟨S128x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x256, .i1⟩
  | .hbm, ⟨58, _⟩ => ⟨S2, .i32⟩
  | .hbm, ⟨59, _⟩ => ⟨S_, .i32⟩
  | .hbm, ⟨60, _⟩ => ⟨S2, .i32⟩
  | .hbm, ⟨61, _⟩ => ⟨S2, .i1⟩
  | .hbm, ⟨62, _⟩ => ⟨S2x1x1, .i1⟩
  | .hbm, ⟨63, _⟩ => ⟨S_, .i32⟩
  | .hbm, ⟨64, _⟩ => ⟨S1x256, .i32⟩
  | .hbm, ⟨65, _⟩ => ⟨S1x256, .i1⟩
  | .hbm, ⟨66, _⟩ => ⟨S1x1x256, .i1⟩
  | .hbm, ⟨67, _⟩ => ⟨S2x1x256, .i1⟩
  | .hbm, ⟨68, _⟩ => ⟨S2x1x256, .i1⟩
  | .hbm, ⟨69, _⟩ => ⟨S2x1x256, .i1⟩
  | .hbm, ⟨70, _⟩ => ⟨S1x128x256, .i1⟩
  | .hbm, ⟨71, _⟩ => ⟨S2x128x256, .i1⟩
  | .hbm, ⟨72, _⟩ => ⟨S2x128x256, .i1⟩
  | .hbm, ⟨73, _⟩ => ⟨S2x128x256, .i1⟩
  | .hbm, ⟨74, _⟩ => ⟨S1x1x2x1x128x256, .i1⟩
  | .hbm, ⟨75, _⟩ => ⟨S_, .f32⟩
  | .hbm, ⟨76, _⟩ => ⟨S_, .f32⟩
  | .hbm, ⟨77, _⟩ => ⟨S1x16x2x8x128x256, .i1⟩
  | .hbm, ⟨78, _⟩ => ⟨S1x16x2x8x128x256, .f32⟩
  | .hbm, ⟨79, _⟩ => ⟨S1x16x2x8x128x256, .f32⟩
  | .hbm, ⟨80, _⟩ => ⟨S_, .f32⟩
  | .hbm, ⟨81, _⟩ => ⟨S1x16x2x8x128, .f32⟩
  | .hbm, ⟨82, _⟩ => ⟨S1x16x2x8x128x1, .f32⟩
  | .hbm, ⟨83, _⟩ => ⟨S1x16x2x8x128x256, .f32⟩
  | .hbm, ⟨84, _⟩ => ⟨S1x16x2x8x128x256, .f32⟩
  | .hbm, ⟨85, _⟩ => ⟨S1x16x2x8x128x256, .f32⟩
  | .hbm, ⟨86, _⟩ => ⟨S_, .f32⟩
  | .hbm, ⟨87, _⟩ => ⟨S1x16x2x8x128, .f32⟩
  | .hbm, ⟨88, _⟩ => ⟨S1x16x2x8x128x1, .f32⟩
  | .hbm, ⟨89, _⟩ => ⟨S1x16x2x8x128x128, .f32⟩
  | .hbm, ⟨90, _⟩ => ⟨S1x16x2x128x8x128, .f32⟩
  | .hbm, ⟨91, _⟩ => ⟨S1x16x2x128x8x1, .f32⟩
  | .hbm, ⟨92, _⟩ => ⟨S1x16x2x128x8x128, .f32⟩
  | .hbm, ⟨93, _⟩ => ⟨S1x16x2x128x8x128, .f32⟩
  | .hbm, ⟨94, _⟩ => ⟨S1x16x2x8x128x1, .f32⟩
  | .hbm, ⟨95, _⟩ => ⟨S1x16x2x8x128x1, .f32⟩
  | .hbm, ⟨96, _⟩ => ⟨S1x16x2x8x128, .f32⟩
  | .hbm, ⟨97, _⟩ => ⟨S1x16x2x128x8, .f32⟩
  | .hbm, ⟨98, _⟩ => ⟨S1x16x256x8x128, .f32⟩
  | .hbm, ⟨99, _⟩ => ⟨S1x256x16x8x128, .f32⟩
  | .hbm, ⟨100, _⟩ => ⟨S1x4096x8x128, .f32⟩
  | .hbm, ⟨101, _⟩ => ⟨S1x16x256x8, .f32⟩
  | .hbm, ⟨102, _⟩ => ⟨S1x256x16x8, .f32⟩
  | .hbm, ⟨103, _⟩ => ⟨S1x4096x8, .f32⟩
  | .hbm, ⟨104, _⟩ => ⟨S256x16384, .f32⟩
  | .hbm, ⟨105, _⟩ => ⟨S1x4096x8x1, .f32⟩
  | .hbm, ⟨106, _⟩ => ⟨S1x4096x8x128, .f32⟩
  | .hbm, ⟨107, _⟩ => ⟨S256x16384, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_call0_v0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_call2_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_call3_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call4_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== AttnFwd4.lean ====
abbrev S4096x3072 : Shape := ⟨2, ![4096, 3072]⟩
abbrev S1024x12288 : Shape := ⟨2, ![1024, 12288]⟩
abbrev S1024x4096 : Shape := ⟨2, ![1024, 4096]⟩
abbrev S512x512 : Shape := ⟨2, ![512, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S4096x3072, .bf16⟩
  | .hbm, ⟨1, _⟩ => ⟨S1024x12288, .bf16⟩
  | .hbm, ⟨2, _⟩ => ⟨S1024x4096, .f32⟩
  | .hbm, ⟨3, _⟩ => ⟨S1024x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let c0_i32 : BitVec 32 := 0#32
  let v1 : BitVec 32 := Scalar.addi v0 c0_i32
  let c0_i32_0 : BitVec 32 := 0#32
  let v2 : BitVec 32 := Scalar.addi v1 c0_i32_0
  let v3 : BitVec 32 := Scalar.addi v2 arg2
  let c0_i32_1 : BitVec 32 := 0#32
  ![arg1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let c0_i32 : BitVec 32 := 0#32
  let v1 : BitVec 32 := Scalar.addi v0 c0_i32
  let c2_i32 : BitVec 32 := 2#32
  let v2 : BitVec 32 := Scalar.addi v1 c2_i32
  let v3 : BitVec 32 := Scalar.addi v2 arg2
  let c0_i32_0 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.muli arg0 c6_i32
  let c0_i32_0 : BitVec 32 := 0#32
  let v4 : BitVec 32 := Scalar.addi v3 c0_i32_0
  let c2_i32 : BitVec 32 := 2#32
  let v5 : BitVec 32 := Scalar.addi v4 c2_i32
  let v6 : BitVec 32 := Scalar.addi v5 arg2
  let c0_i32_1 : BitVec 32 := 0#32
  ![v2.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let c0_i32 : BitVec 32 := 0#32
  let v1 : BitVec 32 := Scalar.addi v0 c0_i32
  let c4_i32 : BitVec 32 := 4#32
  let v2 : BitVec 32 := Scalar.addi v1 c4_i32
  let v3 : BitVec 32 := Scalar.addi v2 arg2
  let c0_i32_0 : BitVec 32 := 0#32
  ![arg1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.muli arg0 c6_i32
  let c0_i32_0 : BitVec 32 := 0#32
  let v4 : BitVec 32 := Scalar.addi v3 c0_i32_0
  let c4_i32_1 : BitVec 32 := 4#32
  let v5 : BitVec 32 := Scalar.addi v4 c4_i32_1
  let v6 : BitVec 32 := Scalar.addi v5 arg2
  let c0_i32_2 : BitVec 32 := 0#32
  ![v2.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnFwd4Ideal.lean ====
variable {F : FTy → Type} [FloatOps F] [Named F]
def κ : String → Option EReal := fun
  | "neg" => some ⊥
  | _ => none
-- ==== AttnFwd4RefIdeal.lean ====
abbrev S4096x3072 : Shape := ⟨2, ![4096, 3072]⟩
abbrev S1x4096x3x8x128 : Shape := ⟨5, ![1, 4096, 3, 8, 128]⟩
abbrev S1x4096x1x8x128 : Shape := ⟨5, ![1, 4096, 1, 8, 128]⟩
abbrev S1x4096x8x128 : Shape := ⟨4, ![1, 4096, 8, 128]⟩
abbrev S1x1024x4x8x128 : Shape := ⟨5, ![1, 1024, 4, 8, 128]⟩
abbrev S1x4x1024x8x128 : Shape := ⟨5, ![1, 4, 1024, 8, 128]⟩
abbrev S_ : Shape := ⟨0, ![]⟩
abbrev S1x4x8x128x8x128 : Shape := ⟨6, ![1, 4, 8, 128, 8, 128]⟩
abbrev S1x4x7x128x8x128 : Shape := ⟨6, ![1, 4, 7, 128, 8, 128]⟩
abbrev S1x4x8x256x8x128 : Shape := ⟨6, ![1, 4, 8, 256, 8, 128]⟩
abbrev S1x4x8x8x128x256 : Shape := ⟨6, ![1, 4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x1x8x1x128x256 : Shape := ⟨6, ![1, 1, 8, 1, 128, 256]⟩
abbrev S1x4x8x8x128 : Shape := ⟨5, ![1, 4, 8, 8, 128]⟩
abbrev S1x4x8x8x128x1 : Shape := ⟨6, ![1, 4, 8, 8, 128, 1]⟩
abbrev S1x4x8x8x128x128 : Shape := ⟨6, ![1, 4, 8, 8, 128, 128]⟩
abbrev S1x4x8x128x8x1 : Shape := ⟨6, ![1, 4, 8, 128, 8, 1]⟩
abbrev S1x4x8x128x8 : Shape := ⟨5, ![1, 4, 8, 128, 8]⟩
abbrev S1x4x1024x8 : Shape := ⟨4, ![1, 4, 1024, 8]⟩
abbrev S1x1024x4x8 : Shape := ⟨4, ![1, 1024, 4, 8]⟩
abbrev S1x4096x8 : Shape := ⟨3, ![1, 4096, 8]⟩
abbrev S1024x4096 : Shape := ⟨2, ![1024, 4096]⟩
abbrev S1x4096x8x1 : Shape := ⟨4, ![1, 4096, 8, 1]⟩

abbrev nBuf : Space → Nat
  | .hbm => 108
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1x4096x3x8x128, .bf16⟩
  | .hbm, ⟨2, _⟩ => ⟨S1x4096x3x8x128, .f32⟩
  | .hbm, ⟨3, _⟩ => ⟨S1x4096x1x8x128, .f32⟩
  | .hbm, ⟨4, _⟩ => ⟨S1x4096x8x128, .f32⟩
  | .hbm, ⟨5, _⟩ => ⟨S1x4096x1x8x128, .f32⟩
  | .hbm, ⟨6, _⟩ => ⟨S1x4096x8x128, .f32⟩
  | .hbm, ⟨7, _⟩ => ⟨S1x4096x1x8x128, .f32⟩
  | .hbm, ⟨8, _⟩ => ⟨S1x4096x8x128, .f32⟩
  | .hbm, ⟨9, _⟩ => ⟨S1x1024x4x8x128, .f32⟩
  | .hbm, ⟨10, _⟩ => ⟨S1x4x1024x8x128, .f32⟩
  | .hbm, ⟨11, _⟩ => ⟨S_, .i32⟩
  | .hbm, ⟨12, _⟩ => ⟨S_, .f32⟩
  | .hbm, ⟨13, _⟩ => ⟨S1x4x1024x8x128, .f32⟩
  | .hbm, ⟨14, _⟩ => ⟨S1x4x8x128x8x128, .f32⟩
  | .hbm, ⟨15, _⟩ => ⟨S1x1024x4x8x128, .f32⟩
  | .hbm, ⟨16, _⟩ => ⟨S1x4x1024x8x128, .f32⟩
  | .hbm, ⟨17, _⟩ => ⟨S_, .i32⟩
  | .hbm, ⟨18, _⟩ => ⟨S_, .f32⟩
  | .hbm, ⟨19, _⟩ => ⟨S1x4x1024x8x128, .f32⟩
  | .hbm, ⟨20, _⟩ => ⟨S1x4x8x128x8x128, .f32⟩
  | .hbm, ⟨21, _⟩ => ⟨S1x1024x4x8x128, .f32⟩
  | .hbm, ⟨22, _⟩ => ⟨S1x4x1024x8x128, .f32⟩
  | .hbm, ⟨23, _⟩ => ⟨S_, .i32⟩
  | .hbm, ⟨24, _⟩ => ⟨S_, .f32⟩
  | .hbm, ⟨25, _⟩ => ⟨S1x4x1024x8x128, .f32⟩
  | .hbm, ⟨26, _⟩ => ⟨S1x4x8x128x8x128, .f32⟩
  | .hbm, ⟨27, _⟩ => ⟨S1x4x7x128x8x128, .f32⟩
  | .hbm, ⟨28, _⟩ => ⟨S_, .i32⟩
  | .hbm, ⟨29, _⟩ => ⟨S_, .f32⟩
  | .hbm, ⟨30, _⟩ => ⟨S1x4x8x128x8x128, .f32⟩
  | .hbm, ⟨31, _⟩ => ⟨S1x4x8x256x8x128, .f32⟩
  | .hbm, ⟨32, _⟩ => ⟨S1x4x7x128x8x128, .f32⟩
  | .hbm, ⟨33, _⟩ => ⟨S_, .i32⟩
  | .hbm, ⟨34, _⟩ => ⟨S_, .f32⟩
  | .hbm, ⟨35, _⟩ => ⟨S1x4x8x128x8x128, .f32⟩
  | .hbm, ⟨36, _⟩ => ⟨S1x4x8x256x8x128, .f32⟩
  | .hbm, ⟨37, _⟩ => ⟨S1x4x8x8x128x256, .f32⟩
  | .hbm, ⟨38, _⟩ => ⟨S_, .f32⟩
  | .hbm, ⟨39, _⟩ => ⟨S1x4x8x8x128x256, .f32⟩
  | .hbm, ⟨40, _⟩ => ⟨S1x4x8x8x128x256, .f32⟩
  | .hbm, ⟨41, _⟩ => ⟨S128, .i32⟩
  | .hbm, ⟨42, _⟩ => ⟨S128x1, .i32⟩
  | .hbm, ⟨43, _⟩ => ⟨S256, .i32⟩
  | .hbm, ⟨44, _⟩ => ⟨S1x256, .i32⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x256, .i32⟩
  | .hbm, ⟨49, _⟩ => ⟨S128x256, .i32⟩
  | .hbm, ⟨50, _⟩ => ⟨S128x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x256, .i1⟩
  | .hbm, ⟨58, _⟩ => ⟨S8, .i32⟩
  | .hbm, ⟨59, _⟩ => ⟨S_, .i32⟩
  | .hbm, ⟨60, _⟩ => ⟨S8, .i32⟩
  | .hbm, ⟨61, _⟩ => ⟨S8, .i1⟩
  | .hbm, ⟨62, _⟩ => ⟨S8x1x1, .i1⟩
  | .hbm, ⟨63, _⟩ => ⟨S_, .i32⟩
  | .hbm, ⟨64, _⟩ => ⟨S1x256, .i32⟩
  | .hbm, ⟨65, _⟩ => ⟨S1x256, .i1⟩
  | .hbm, ⟨66, _⟩ => ⟨S1x1x256, .i1⟩
  | .hbm, ⟨67, _⟩ => ⟨S8x1x256, .i1⟩
  | .hbm, ⟨68, _⟩ => ⟨S8x1x256, .i1⟩
  | .hbm, ⟨69, _⟩ => ⟨S8x1x256, .i1⟩
  | .hbm, ⟨70, _⟩ => ⟨S1x128x256, .i1⟩
  | .hbm, ⟨71, _⟩ => ⟨S8x128x256, .i1⟩
  | .hbm, ⟨72, _⟩ => ⟨S8x128x256, .i1⟩
  | .hbm, ⟨73, _⟩ => ⟨S8x128x256, .i1⟩
  | .hbm, ⟨74, _⟩ => ⟨S1x1x8x1x128x256, .i1⟩
  | .hbm, ⟨75, _⟩ => ⟨S_, .f32⟩
  | .hbm, ⟨76, _⟩ => ⟨S_, .f32⟩
  | .hbm, ⟨77, _⟩ => ⟨S1x4x8x8x128x256, .i1⟩
  | .hbm, ⟨78, _⟩ => ⟨S1x4x8x8x128x256, .f32⟩
  | .hbm, ⟨79, _⟩ => ⟨S1x4x8x8x128x256, .f32⟩
  | .hbm, ⟨80, _⟩ => ⟨S_, .f32⟩
  | .hbm, ⟨81, _⟩ => ⟨S1x4x8x8x128, .f32⟩
  | .hbm, ⟨82, _⟩ => ⟨S1x4x8x8x128x1, .f32⟩
  | .hbm, ⟨83, _⟩ => ⟨S1x4x8x8x128x256, .f32⟩
  | .hbm, ⟨84, _⟩ => ⟨S1x4x8x8x128x256, .f32⟩
  | .hbm, ⟨85, _⟩ => ⟨S1x4x8x8x128x256, .f32⟩
  | .hbm, ⟨86, _⟩ => ⟨S_, .f32⟩
  | .hbm, ⟨87, _⟩ => ⟨S1x4x8x8x128, .f32⟩
  | .hbm, ⟨88, _⟩ => ⟨S1x4x8x8x128x1, .f32⟩
  | .hbm, ⟨89, _⟩ => ⟨S1x4x8x8x128x128, .f32⟩
  | .hbm, ⟨90, _⟩ => ⟨S1x4x8x128x8x128, .f32⟩
  | .hbm, ⟨91, _⟩ => ⟨S1x4x8x128x8x1, .f32⟩
  | .hbm, ⟨92, _⟩ => ⟨S1x4x8x128x8x128, .f32⟩
  | .hbm, ⟨93, _⟩ => ⟨S1x4x8x128x8x128, .f32⟩
  | .hbm, ⟨94, _⟩ => ⟨S1x4x8x8x128x1, .f32⟩
  | .hbm, ⟨95, _⟩ => ⟨S1x4x8x8x128x1, .f32⟩
  | .hbm, ⟨96, _⟩ => ⟨S1x4x8x8x128, .f32⟩
  | .hbm, ⟨97, _⟩ => ⟨S1x4x8x128x8, .f32⟩
  | .hbm, ⟨98, _⟩ => ⟨S1x4x1024x8x128, .f32⟩
  | .hbm, ⟨99, _⟩ => ⟨S1x1024x4x8x128, .f32⟩
  | .hbm, ⟨100, _⟩ => ⟨S1x4096x8x128, .f32⟩
  | .hbm, ⟨101, _⟩ => ⟨S1x4x1024x8, .f32⟩
  | .hbm, ⟨102, _⟩ => ⟨S1x1024x4x8, .f32⟩
  | .hbm, ⟨103, _⟩ => ⟨S1x4096x8, .f32⟩
  | .hbm, ⟨104, _⟩ => ⟨S1024x4096, .f32⟩
  | .hbm, ⟨105, _⟩ => ⟨S1x4096x8x1, .f32⟩
  | .hbm, ⟨106, _⟩ => ⟨S1x4096x8x128, .f32⟩
  | .hbm, ⟨107, _⟩ => ⟨S1024x4096, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_c : Ref sig .tc := ⟨.hbm, 11, rfl⟩
abbrev main_call0_v0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_call2_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_call3_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call4_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== AttnFwd1.lean ====
abbrev S4096x9728 : Shape := ⟨2, ![4096, 9728]⟩
abbrev S4096x1024 : Shape := ⟨2, ![4096, 1024]⟩
abbrev S512x512 : Shape := ⟨2, ![512, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S4096x9728, .bf16⟩
  | .hbm, ⟨1, _⟩ => ⟨S4096x1024, .f32⟩
  | .hbm, ⟨2, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c19_i32 : BitVec 32 := 19#32
  let v0 : BitVec 32 := Scalar.muli arg0 c19_i32
  let c0_i32 : BitVec 32 := 0#32
  let v1 : BitVec 32 := Scalar.addi v0 c0_i32
  let c0_i32_0 : BitVec 32 := 0#32
  let v2 : BitVec 32 := Scalar.addi v1 c0_i32_0
  let v3 : BitVec 32 := Scalar.addi v2 arg2
  let c0_i32_1 : BitVec 32 := 0#32
  ![arg1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c19_i32 : BitVec 32 := 19#32
  let v0 : BitVec 32 := Scalar.muli arg0 c19_i32
  let c0_i32 : BitVec 32 := 0#32
  let v1 : BitVec 32 := Scalar.addi v0 c0_i32
  let c2_i32 : BitVec 32 := 2#32
  let v2 : BitVec 32 := Scalar.addi v1 c2_i32
  let v3 : BitVec 32 := Scalar.addi v2 arg2
  let c0_i32_0 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c19_i32 : BitVec 32 := 19#32
  let v3 : BitVec 32 := Scalar.muli arg0 c19_i32
  let c0_i32_0 : BitVec 32 := 0#32
  let v4 : BitVec 32 := Scalar.addi v3 c0_i32_0
  let c2_i32 : BitVec 32 := 2#32
  let v5 : BitVec 32 := Scalar.addi v4 c2_i32
  let v6 : BitVec 32 := Scalar.addi v5 arg2
  let c0_i32_1 : BitVec 32 := 0#32
  ![v2.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c19_i32 : BitVec 32 := 19#32
  let v0 : BitVec 32 := Scalar.muli arg0 c19_i32
  let c0_i32 : BitVec 32 := 0#32
  let v1 : BitVec 32 := Scalar.addi v0 c0_i32
  let c4_i32 : BitVec 32 := 4#32
  let v2 : BitVec 32 := Scalar.addi v1 c4_i32
  let v3 : BitVec 32 := Scalar.addi v2 arg2
  let c0_i32_0 : BitVec 32 := 0#32
  ![arg1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c19_i32 : BitVec 32 := 19#32
  let v3 : BitVec 32 := Scalar.muli arg0 c19_i32
  let c0_i32_0 : BitVec 32 := 0#32
  let v4 : BitVec 32 := Scalar.addi v3 c0_i32_0
  let c4_i32_1 : BitVec 32 := 4#32
  let v5 : BitVec 32 := Scalar.addi v4 c4_i32_1
  let v6 : BitVec 32 := Scalar.addi v5 arg2
  let c0_i32_2 : BitVec 32 := 0#32
  ![v2.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnFwd1Ideal.lean ====
variable {F : FTy → Type} [FloatOps F] [Named F]
def κ : String → Option EReal := fun
  | "neg" => some ⊥
  | _ => none
-- ==== AttnFwd1RefIdeal.lean ====
abbrev S4096x9728 : Shape := ⟨2, ![4096, 9728]⟩
abbrev S4096x3072 : Shape := ⟨2, ![4096, 3072]⟩
abbrev S1x4096x3072 : Shape := ⟨3, ![1, 4096, 3072]⟩
abbrev S1x4096x3x8x128 : Shape := ⟨5, ![1, 4096, 3, 8, 128]⟩
abbrev S1x4096x1x8x128 : Shape := ⟨5, ![1, 4096, 1, 8, 128]⟩
abbrev S1x4096x8x128 : Shape := ⟨4, ![1, 4096, 8, 128]⟩
abbrev S1x1x4096x8x128 : Shape := ⟨5, ![1, 1, 4096, 8, 128]⟩
abbrev S_ : Shape := ⟨0, ![]⟩
abbrev S1x1x32x128x8x128 : Shape := ⟨6, ![1, 1, 32, 128, 8, 128]⟩
abbrev S1x1x31x128x8x128 : Shape := ⟨6, ![1, 1, 31, 128, 8, 128]⟩
abbrev S1x1x32x256x8x128 : Shape := ⟨6, ![1, 1, 32, 256, 8, 128]⟩
abbrev S1x1x32x8x128x256 : Shape := ⟨6, ![1, 1, 32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x1x128x256 : Shape := ⟨6, ![1, 1, 32, 1, 128, 256]⟩
abbrev S1x1x32x8x128 : Shape := ⟨5, ![1, 1, 32, 8, 128]⟩
abbrev S1x1x32x8x128x1 : Shape := ⟨6, ![1, 1, 32, 8, 128, 1]⟩
abbrev S1x1x32x8x128x128 : Shape := ⟨6, ![1, 1, 32, 8, 128, 128]⟩
abbrev S1x1x32x128x8x1 : Shape := ⟨6, ![1, 1, 32, 128, 8, 1]⟩
abbrev S1x1x32x128x8 : Shape := ⟨5, ![1, 1, 32, 128, 8]⟩
abbrev S1x1x4096x8 : Shape := ⟨4, ![1, 1, 4096, 8]⟩
abbrev S1x4096x1x8 : Shape := ⟨4, ![1, 4096, 1, 8]⟩
abbrev S1x4096x8 : Shape := ⟨3, ![1, 4096, 8]⟩
abbrev S4096x1024 : Shape := ⟨2, ![4096, 1024]⟩
abbrev S1x4096x8x1 : Shape := ⟨4, ![1, 4096, 8, 1]⟩

abbrev nBuf : Space → Nat
  | .hbm => 110
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S4096x3072, .bf16⟩
  | .hbm, ⟨2, _⟩ => ⟨S1x4096x3072, .bf16⟩
  | .hbm, ⟨3, _⟩ => ⟨S1x4096x3x8x128, .bf16⟩
  | .hbm, ⟨4, _⟩ => ⟨S1x4096x3x8x128, .f32⟩
  | .hbm, ⟨5, _⟩ => ⟨S1x4096x1x8x128, .f32⟩
  | .hbm, ⟨6, _⟩ => ⟨S1x4096x8x128, .f32⟩
  | .hbm, ⟨7, _⟩ => ⟨S1x4096x1x8x128, .f32⟩
  | .hbm, ⟨8, _⟩ => ⟨S1x4096x8x128, .f32⟩
  | .hbm, ⟨9, _⟩ => ⟨S1x4096x1x8x128, .f32⟩
  | .hbm, ⟨10, _⟩ => ⟨S1x4096x8x128, .f32⟩
  | .hbm, ⟨11, _⟩ => ⟨S1x4096x1x8x128, .f32⟩
  | .hbm, ⟨12, _⟩ => ⟨S1x1x4096x8x128, .f32⟩
  | .hbm, ⟨13, _⟩ => ⟨S_, .i32⟩
  | .hbm, ⟨14, _⟩ => ⟨S_, .f32⟩
  | .hbm, ⟨15, _⟩ => ⟨S1x1x4096x8x128, .f32⟩
  | .hbm, ⟨16, _⟩ => ⟨S1x1x32x128x8x128, .f32⟩
  | .hbm, ⟨17, _⟩ => ⟨S1x4096x1x8x128, .f32⟩
  | .hbm, ⟨18, _⟩ => ⟨S1x1x4096x8x128, .f32⟩
  | .hbm, ⟨19, _⟩ => ⟨S_, .i32⟩
  | .hbm, ⟨20, _⟩ => ⟨S_, .f32⟩
  | .hbm, ⟨21, _⟩ => ⟨S1x1x4096x8x128, .f32⟩
  | .hbm, ⟨22, _⟩ => ⟨S1x1x32x128x8x128, .f32⟩
  | .hbm, ⟨23, _⟩ => ⟨S1x4096x1x8x128, .f32⟩
  | .hbm, ⟨24, _⟩ => ⟨S1x1x4096x8x128, .f32⟩
  | .hbm, ⟨25, _⟩ => ⟨S_, .i32⟩
  | .hbm, ⟨26, _⟩ => ⟨S_, .f32⟩
  | .hbm, ⟨27, _⟩ => ⟨S1x1x4096x8x128, .f32⟩
  | .hbm, ⟨28, _⟩ => ⟨S1x1x32x128x8x128, .f32⟩
  | .hbm, ⟨29, _⟩ => ⟨S1x1x31x128x8x128, .f32⟩
  | .hbm, ⟨30, _⟩ => ⟨S_, .i32⟩
  | .hbm, ⟨31, _⟩ => ⟨S_, .f32⟩
  | .hbm, ⟨32, _⟩ => ⟨S1x1x32x128x8x128, .f32⟩
  | .hbm, ⟨33, _⟩ => ⟨S1x1x32x256x8x128, .f32⟩
  | .hbm, ⟨34, _⟩ => ⟨S1x1x31x128x8x128, .f32⟩
  | .hbm, ⟨35, _⟩ => ⟨S_, .i32⟩
  | .hbm, ⟨36, _⟩ => ⟨S_, .f32⟩
  | .hbm, ⟨37, _⟩ => ⟨S1x1x32x128x8x128, .f32⟩
  | .hbm, ⟨38, _⟩ => ⟨S1x1x32x256x8x128, .f32⟩
  | .hbm, ⟨39, _⟩ => ⟨S1x1x32x8x128x256, .f32⟩
  | .hbm, ⟨40, _⟩ => ⟨S_, .f32⟩
  | .hbm, ⟨41, _⟩ => ⟨S1x1x32x8x128x256, .f32⟩
  | .hbm, ⟨42, _⟩ => ⟨S1x1x32x8x128x256, .f32⟩
  | .hbm, ⟨43, _⟩ => ⟨S128, .i32⟩
  | .hbm, ⟨44, _⟩ => ⟨S128x1, .i32⟩
  | .hbm, ⟨45, _⟩ => ⟨S256, .i32⟩
  | .hbm, ⟨46, _⟩ => ⟨S1x256, .i32⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S128x256, .i32⟩
  | .hbm, ⟨51, _⟩ => ⟨S128x256, .i32⟩
  | .hbm, ⟨52, _⟩ => ⟨S128x256, .i32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S128x256, .i1⟩
  | .hbm, ⟨60, _⟩ => ⟨S32, .i32⟩
  | .hbm, ⟨61, _⟩ => ⟨S_, .i32⟩
  | .hbm, ⟨62, _⟩ => ⟨S32, .i32⟩
  | .hbm, ⟨63, _⟩ => ⟨S32, .i1⟩
  | .hbm, ⟨64, _⟩ => ⟨S32x1x1, .i1⟩
  | .hbm, ⟨65, _⟩ => ⟨S_, .i32⟩
  | .hbm, ⟨66, _⟩ => ⟨S1x256, .i32⟩
  | .hbm, ⟨67, _⟩ => ⟨S1x256, .i1⟩
  | .hbm, ⟨68, _⟩ => ⟨S1x1x256, .i1⟩
  | .hbm, ⟨69, _⟩ => ⟨S32x1x256, .i1⟩
  | .hbm, ⟨70, _⟩ => ⟨S32x1x256, .i1⟩
  | .hbm, ⟨71, _⟩ => ⟨S32x1x256, .i1⟩
  | .hbm, ⟨72, _⟩ => ⟨S1x128x256, .i1⟩
  | .hbm, ⟨73, _⟩ => ⟨S32x128x256, .i1⟩
  | .hbm, ⟨74, _⟩ => ⟨S32x128x256, .i1⟩
  | .hbm, ⟨75, _⟩ => ⟨S32x128x256, .i1⟩
  | .hbm, ⟨76, _⟩ => ⟨S1x1x32x1x128x256, .i1⟩
  | .hbm, ⟨77, _⟩ => ⟨S_, .f32⟩
  | .hbm, ⟨78, _⟩ => ⟨S_, .f32⟩
  | .hbm, ⟨79, _⟩ => ⟨S1x1x32x8x128x256, .i1⟩
  | .hbm, ⟨80, _⟩ => ⟨S1x1x32x8x128x256, .f32⟩
  | .hbm, ⟨81, _⟩ => ⟨S1x1x32x8x128x256, .f32⟩
  | .hbm, ⟨82, _⟩ => ⟨S_, .f32⟩
  | .hbm, ⟨83, _⟩ => ⟨S1x1x32x8x128, .f32⟩
  | .hbm, ⟨84, _⟩ => ⟨S1x1x32x8x128x1, .f32⟩
  | .hbm, ⟨85, _⟩ => ⟨S1x1x32x8x128x256, .f32⟩
  | .hbm, ⟨86, _⟩ => ⟨S1x1x32x8x128x256, .f32⟩
  | .hbm, ⟨87, _⟩ => ⟨S1x1x32x8x128x256, .f32⟩
  | .hbm, ⟨88, _⟩ => ⟨S_, .f32⟩
  | .hbm, ⟨89, _⟩ => ⟨S1x1x32x8x128, .f32⟩
  | .hbm, ⟨90, _⟩ => ⟨S1x1x32x8x128x1, .f32⟩
  | .hbm, ⟨91, _⟩ => ⟨S1x1x32x8x128x128, .f32⟩
  | .hbm, ⟨92, _⟩ => ⟨S1x1x32x128x8x128, .f32⟩
  | .hbm, ⟨93, _⟩ => ⟨S1x1x32x128x8x1, .f32⟩
  | .hbm, ⟨94, _⟩ => ⟨S1x1x32x128x8x128, .f32⟩
  | .hbm, ⟨95, _⟩ => ⟨S1x1x32x128x8x128, .f32⟩
  | .hbm, ⟨96, _⟩ => ⟨S1x1x32x8x128x1, .f32⟩
  | .hbm, ⟨97, _⟩ => ⟨S1x1x32x8x128x1, .f32⟩
  | .hbm, ⟨98, _⟩ => ⟨S1x1x32x8x128, .f32⟩
  | .hbm, ⟨99, _⟩ => ⟨S1x1x32x128x8, .f32⟩
  | .hbm, ⟨100, _⟩ => ⟨S1x1x4096x8x128, .f32⟩
  | .hbm, ⟨101, _⟩ => ⟨S1x4096x1x8x128, .f32⟩
  | .hbm, ⟨102, _⟩ => ⟨S1x4096x8x128, .f32⟩
  | .hbm, ⟨103, _⟩ => ⟨S1x1x4096x8, .f32⟩
  | .hbm, ⟨104, _⟩ => ⟨S1x4096x1x8, .f32⟩
  | .hbm, ⟨105, _⟩ => ⟨S1x4096x8, .f32⟩
  | .hbm, ⟨106, _⟩ => ⟨S4096x1024, .f32⟩
  | .hbm, ⟨107, _⟩ => ⟨S1x4096x8x1, .f32⟩
  | .hbm, ⟨108, _⟩ => ⟨S1x4096x8x128, .f32⟩
  | .hbm, ⟨109, _⟩ => ⟨S4096x1024, .f32⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_call0_v0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_call1_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_call2_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_call3_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call4_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== AdamSmall.lean ====
abbrev S2328x128 : Shape := ⟨2, ![2328, 128]⟩
abbrev S776x128 : Shape := ⟨2, ![776, 128]⟩

abbrev nBuf : Space → Nat
  | .hbm => 7
  | .vmem => 14
  | .smem => 0
  | _ => 0

abbrev bufTy : (tb : Table) → Fin (tcTables nBuf tb) → BufTy
  | .hbm, ⟨0, _⟩ => ⟨S2328x128, .f32⟩
  | .hbm, ⟨1, _⟩ => ⟨S2328x128, .f32⟩
  | .hbm, ⟨2, _⟩ => ⟨S2328x128, .f32⟩
  | .hbm, ⟨3, _⟩ => ⟨S2328x128, .f32⟩
  | .hbm, ⟨4, _⟩ => ⟨S2328x128, .f32⟩
  | .hbm, ⟨5, _⟩ => ⟨S2328x128, .f32⟩
  | .hbm, ⟨6, _⟩ => ⟨S2328x128, .f32⟩
  | .local _ .vmem, ⟨0, _⟩ => ⟨S776x128, .f32⟩
  | .local _ .vmem, ⟨1, _⟩ => ⟨S776x128, .f32⟩
  | .local _ .vmem, ⟨2, _⟩ => ⟨S776x128, .f32⟩
  | .local _ .vmem, ⟨3, _⟩ => ⟨S776x128, .f32⟩
  | .local _ .vmem, ⟨4, _⟩ => ⟨S776x128, .f32⟩
  | .local _ .vmem, ⟨5, _⟩ => ⟨S776x128, .f32⟩
  | .local _ .vmem, ⟨6, _⟩ => ⟨S776x128, .f32⟩
  | .local _ .vmem, ⟨7, _⟩ => ⟨S776x128, .f32⟩
  | .local _ .vmem, ⟨8, _⟩ => ⟨S776x128, .f32⟩
  | .local _ .vmem, ⟨9, _⟩ => ⟨S776x128, .f32⟩
  | .local _ .vmem, ⟨10, _⟩ => ⟨S776x128, .f32⟩
  | .local _ .vmem, ⟨11, _⟩ => ⟨S776x128, .f32⟩
  | .local _ .vmem, ⟨12, _⟩ => ⟨S776x128, .f32⟩
  | .local _ .vmem, ⟨13, _⟩ => ⟨S776x128, .f32⟩
  | _, _ => ⟨S2328x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S776x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S776x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S776x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S776x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S776x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S776x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S776x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S2328x128 : Shape := ⟨2, ![2328, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2328x128, .f32⟩
  | .hbm, ⟨1, _⟩ => ⟨S2328x128, .f32⟩
  | .hbm, ⟨2, _⟩ => ⟨S2328x128, .f32⟩
  | .hbm, ⟨3, _⟩ => ⟨S2328x128, .f32⟩
  | .hbm, ⟨4, _⟩ => ⟨S_, .f32⟩
  | .hbm, ⟨5, _⟩ => ⟨S2328x128, .f32⟩
  | .hbm, ⟨6, _⟩ => ⟨S2328x128, .f32⟩
  | .hbm, ⟨7, _⟩ => ⟨S_, .f32⟩
  | .hbm, ⟨8, _⟩ => ⟨S2328x128, .f32⟩
  | .hbm, ⟨9, _⟩ => ⟨S2328x128, .f32⟩
  | .hbm, ⟨10, _⟩ => ⟨S2328x128, .f32⟩
  | .hbm, ⟨11, _⟩ => ⟨S_, .f32⟩
  | .hbm, ⟨12, _⟩ => ⟨S2328x128, .f32⟩
  | .hbm, ⟨13, _⟩ => ⟨S2328x128, .f32⟩
  | .hbm, ⟨14, _⟩ => ⟨S2328x128, .f32⟩
  | .hbm, ⟨15, _⟩ => ⟨S_, .f32⟩
  | .hbm, ⟨16, _⟩ => ⟨S2328x128, .f32⟩
  | .hbm, ⟨17, _⟩ => ⟨S2328x128, .f32⟩
  | .hbm, ⟨18, _⟩ => ⟨S2328x128, .f32⟩
  | .hbm, ⟨19, _⟩ => ⟨S_, .f32⟩
  | .hbm, ⟨20, _⟩ => ⟨S2328x128, .f32⟩
  | .hbm, ⟨21, _⟩ => ⟨S2328x128, .f32⟩
  | .hbm, ⟨22, _⟩ => ⟨S_, .f32⟩
  | .hbm, ⟨23, _⟩ => ⟨S2328x128, .f32⟩
  | .hbm, ⟨24, _⟩ => ⟨S2328x128, .f32⟩
  | .hbm, ⟨25, _⟩ => ⟨S2328x128, .f32⟩
  | .hbm, ⟨26, _⟩ => ⟨S_, .f32⟩
  | .hbm, ⟨27, _⟩ => ⟨S2328x128, .f32⟩
  | .hbm, ⟨28, _⟩ => ⟨S2328x128, .f32⟩
  | .hbm, ⟨29, _⟩ => ⟨S2328x128, .f32⟩
  | .hbm, ⟨30, _⟩ => ⟨S_, .f32⟩
  | .hbm, ⟨31, _⟩ => ⟨S2328x128, .f32⟩
  | .hbm, ⟨32, _⟩ => ⟨S2328x128, .f32⟩
  | .hbm, ⟨33, _⟩ => ⟨S2328x128, .f32⟩
  | .hbm, ⟨34, _⟩ => ⟨S_, .f32⟩
  | .hbm, ⟨35, _⟩ => ⟨S2328x128, .f32⟩
  | .hbm, ⟨36, _⟩ => ⟨S2328x128, .f32⟩
  | _, _ => ⟨S2328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Ff1Proof.lean ====
/- The first feed-forward product and its squared positive part. -/
module
public import Idealize.ShloMosaic.Lib.Pointwise
public import Idealize.ShloMosaic.Lib.Pipeline.ValueKit
public import proofs.«01_k».proof.Defs
public import proofs.«01_k».proof.Proof.Gen.Ff1.Frame
public import proofs.«01_k».proof.Proof.Gen.Ff1Ideal.Value
public import proofs.«01_k».proof.Proof.Gen.Ff1RefIdeal.Run
public import proofs.«01_k».proof.Proof.Gen.Ff1RefIdeal.Read
@[expose] public section
set_option maxRecDepth 16384
noncomputable section
namespace Cert.Ff1Proof
open Cert.Ff1Ideal Cert.Ff1Ideal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S1024x2048 .bf16) (x1 : Vec Ideal S1x2048x1024 .bf16) (y : S1024x1024.Idx) : EReal :=
  ∑ k : Fin 2048, x0 (ix2 (y 0) k) * x1 (ix3 0 k (y 1))

/-- One grid point adds its sum to what the block held. -/
theorem pay2_apply (a : Vec Ideal S1024x1024 .f32) (x0 : Vec Ideal S1024x2048 .bf16) (x1 : Vec Ideal S1x2048x1024 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- The finished sum's positive part, squared. -/
theorem pay3_apply (a : Vec Ideal S1024x1024 .f32) (y : S1024x1024.Idx) :
    k0_pay3 (F := Ideal) a y = max (a y) 0 * max (a y) 0 := by
  obtain ⟨r, d, rfl⟩ : ∃ (r : Fin 1024) (d : Fin 1024), y = ix2 r d := ⟨y 0, y 1, eq_ix2 y⟩
  pointwise [k0_pay3]

/-- Entry `y` of the product of `x` with `w`; the columns lie in four groups. -/
def prod (x : Vec Ideal S4096x2048 .bf16) (w : Vec Ideal S4x2048x2048 .bf16) (y : S4096x8192.Idx) : EReal :=
  ∑ k : Fin 2048, x (ix2 (y 0) k) * w (ix3 ⟨(y 1).val / 2048, by have := (y 1).isLt; simp at this; omega⟩ k ⟨(y 1).val % 2048, Nat.mod_lt _ (by decide)⟩)

/-- The first result: the products. -/
def pre (x : Vec Ideal S4096x2048 .bf16) (w : Vec Ideal S4x2048x2048 .bf16) : Vec Ideal S4096x8192 .f32 := prod x w

/-- The second result: the square of the products' positive part. -/
def hid (x : Vec Ideal S4096x2048 .bf16) (w : Vec Ideal S4x2048x2048 .bf16) : Vec Ideal S4096x8192 .bf16 :=
  fun y => max (prod x w y) 0 * max (prod x w y) 0

variable (m : (ℓ : Loc nD τ sig) → Buf (Elt Ideal) ℓ) (c : Dev nD)

/-- The arguments. -/
abbrev aX : Vec Ideal S4096x2048 .bf16 := m ((c.tc : Thread nD τ).loc main_arg0)
abbrev aW : Vec Ideal S4x2048x2048 .bf16 := m ((c.tc : Thread nD τ).loc main_arg1)

theorem idx0 : ∀ t : Fin cfg0.N, win0_0.index t = ![t.val / 8, 0] := by decide +kernel
theorem idx1 : ∀ t : Fin cfg0.N, win0_1.index t = ![t.val / 2 % 4, 0, t.val % 2] := by decide +kernel
theorem idx2 : ∀ t : Fin cfg0.N, win0_2.index t = ![t.val / 8, 2 * (t.val / 2 % 4) + t.val % 2] := by decide +kernel
theorem idx3 : ∀ t : Fin cfg0.N, win0_3.index t = ![t.val / 8, 2 * (t.val / 2 % 4) + t.val % 2] := by decide +kernel

theorem ltN (t : Fin cfg0.N) : t.val < 32 := lt_of_lt_of_eq t.isLt (show cfg0.N = 32 from N_0)

/-- A grid point's sum is the whole sum. -/
theorem sum_blk (t : Fin cfg0.N) (y : S1024x1024.Idx) : blk (iblk m c 0 t) (iblk m c 1 t) y = prod (aX m c) (aW m c) ((win0_2.blk t).view.emb y) := by
  have hN := ltN t
  unfold blk prod
  refine Finset.sum_congr rfl fun k _ => ?_
  congr 1 <;> blk_ext [iblk, V, idx0, idx1, idx2 t, idx3 t] <;> omega

theorem emb3 (t : Fin cfg0.N) (y : S1024x1024.Idx) : (win0_3.blk t).view.emb y = (win0_2.blk t).view.emb y := by
  blk_ext [idx2 t, idx3 t]

/-- What a grid point stores. -/
theorem out2 (t : Fin cfg0.N) (y : S1024x1024.Idx) :
    (outsAt0 m c t).1 y = (blk (iblk m c 0 t) (iblk m c 1 t) y : EReal) := by
  unfold outsAt0
  frame_out
  simp only [pay2_apply, pay1_apply, zero_add]

/-- What a grid point stores. -/
theorem out3 (t : Fin cfg0.N) (y : S1024x1024.Idx) :
    (outsAt0 m c t).2 y = (max (blk (iblk m c 0 t) (iblk m c 1 t) y) 0 * max (blk (iblk m c 0 t) (iblk m c 1 t) y) 0 : EReal) := by
  unfold outsAt0
  frame_out
  simp only [pay3_apply, pay2_apply, pay1_apply, zero_add]

/-- The first result array after the run. -/
theorem arr2 : (dats m 0 c).arrAt 2 cfg0.N = pre (aX m c) (aW m c) := by
  refine (dats m 0 c).arrAt_eq_of_covers 2 _ (by decide +kernel) fun t hf y => ?_
  blk_simp
  rw [after0_2, out2, sum_blk]
  unfold pre
  rfl

/-- The second result array after the run. -/
theorem arr3 : (dats m 0 c).arrAt 3 cfg0.N = hid (aX m c) (aW m c) := by
  refine (dats m 0 c).arrAt_eq_of_covers 3 _ (by decide +kernel) fun t hf y => ?_
  blk_simp
  rw [after0_3, out3, sum_blk, ← emb3]
  unfold hid
  rfl

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0_0) = pre (aX m c) (aW m c)
      ∧ r.2.mem ((c : Thread nD τ).loc main_v0_1) = hid (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2.1.trans (arr3 m c), (h c).2.2⟩) (Value.run_blocks m ρ)

section
open Cert.Ff1RefIdeal.Read

/-- The reference's first value is the same sum. -/
theorem ref_pre (x0 : Vec Ideal S4096x2048 .bf16) (x1 : Vec Ideal S4x2048x2048 .bf16) : val_main_v4 (F := Ideal) x0 x1 = pre x0 x1 := by
  funext y
  obtain ⟨r, d, rfl⟩ : ∃ r d, y = ix2 r d := ⟨_, _, eq_ix2 y⟩
  pointwise [val_main_v0, val_main_v1, val_main_v2, val_main_v3, val_main_v4]
  unfold pre prod
  rfl

theorem max_def (a b : Ideal .f32) : FloatOps.maximumf a b = max (show EReal from a) b := rfl

theorem mul_def (a b : Ideal .f32) : FloatOps.mulf a b = (show EReal from a) * b := rfl

/-- The reference's second value is the square of the sum's positive part. -/
theorem ref_hid (x0 : Vec Ideal S4096x2048 .bf16) (x1 : Vec Ideal S4x2048x2048 .bf16) : val_main_v7 (F := Ideal) x0 x1 = hid x0 x1 := by
  funext y
  have h0 : val_main_call0_v0 (F := Ideal) y = (0 : EReal) := by
    obtain ⟨r, d, rfl⟩ : ∃ r d, y = ix2 r d := ⟨_, _, eq_ix2 y⟩
    pointwise [val_main_call0_v0, val_main_call0_cst]
  rw [val_main_v7_apply, val_main_v6_apply, val_main_v5_apply, ref_pre, max_def, mul_def, h0]
  unfold hid pre
  rfl

end

/-- The reference runs, keeps its arguments and leaves every semaphore at zero. -/
theorem ref_frame : Cert.quiescent_Ff1RefIdeal := fun m ρ _ =>
  (θ_run Cert.Ff1RefIdeal.defs _ _).mono (fun r h => ⟨fun c => (h c).2.2, sem_eq_zero_of_no_sems (by decide) r.2⟩)
    (Cert.Ff1RefIdeal.Value.run (F := Ideal) m ρ)

/-- The kernel's results are the reference's. -/
theorem value : Cert.algebraic_Ff1Ideal_Ff1RefIdeal := fun m ρ m' ρ' _ hag =>
  ⟨fun c => pre (aX m c) (aW m c),
    fun c => hid (aX m c) (aW m c),
    run_kernel m ρ,
    (θ_run Cert.Ff1RefIdeal.defs _ _).mono (fun r h c => by
      obtain ⟨e0, e1⟩ := hag c
      refine ⟨(h c).1.trans ?_, (h c).2.1.trans ?_, (h c).2.2⟩
      · rw [Cert.Ff1RefIdeal.Read.val_main_v4_eq, e0, e1]
        exact ref_pre _ _
      · rw [Cert.Ff1RefIdeal.Read.val_main_v7_eq, e0, e1]
        exact ref_hid _ _)
      (Cert.Ff1RefIdeal.Value.run (F := Ideal) m' ρ')⟩

end Cert.Ff1Proof
end
-- ==== Proof.Ff2Proof.lean ====
/- The second feed-forward product. -/
module
public import Idealize.ShloMosaic.Lib.Pointwise
public import Idealize.ShloMosaic.Lib.Pipeline.ValueKit
public import proofs.«01_k».proof.Defs
public import proofs.«01_k».proof.Proof.Gen.Ff2.Frame
public import proofs.«01_k».proof.Proof.Gen.Ff2Ideal.Value
public import proofs.«01_k».proof.Proof.Gen.Ff2RefIdeal.Run
public import proofs.«01_k».proof.Proof.Gen.Ff2RefIdeal.Read
@[expose] public section
set_option maxRecDepth 16384
noncomputable section
namespace Cert.Ff2Proof
open Cert.Ff2Ideal Cert.Ff2Ideal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S1024x2048 .bf16) (x1 : Vec Ideal S1x2048x1024 .bf16) (y : S1024x1024.Idx) : EReal :=
  ∑ k : Fin 2048, x0 (ix2 (y 0) k) * x1 (ix3 0 k (y 1))

/-- One grid point adds its sum to what the block held. -/
theorem pay2_apply (a : Vec Ideal S1024x1024 .f32) (x0 : Vec Ideal S1024x2048 .bf16) (x1 : Vec Ideal S1x2048x1024 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- Entry `y` of the product of `x` with `w`. -/
def prod (x : Vec Ideal S4096x8192 .bf16) (w : Vec Ideal S1x8192x2048 .bf16) (y : S4096x2048.Idx) : EReal :=
  ∑ k : Fin 8192, x (ix2 (y 0) k) * w (ix3 ⟨(y 1).val / 2048, by have := (y 1).isLt; simp at this; omega⟩ k ⟨(y 1).val % 2048, Nat.mod_lt _ (by decide)⟩)

/-- The result the call leaves. -/
def res (x : Vec Ideal S4096x8192 .bf16) (w : Vec Ideal S1x8192x2048 .bf16) : Vec Ideal S4096x2048 .f32 := prod x w

variable (m : (ℓ : Loc nD τ sig) → Buf (Elt Ideal) ℓ) (c : Dev nD)

/-- The arguments. -/
abbrev aX : Vec Ideal S4096x8192 .bf16 := m ((c.tc : Thread nD τ).loc main_arg0)
abbrev aW : Vec Ideal S1x8192x2048 .bf16 := m ((c.tc : Thread nD τ).loc main_arg1)

theorem idx0 : ∀ t : Fin cfg0.N, win0_0.index t = ![t.val / 8, t.val % 4] := by decide +kernel
theorem idx1 : ∀ t : Fin cfg0.N, win0_1.index t = ![0, t.val % 4, t.val / 4 % 2] := by decide +kernel
theorem idx2 : ∀ t : Fin cfg0.N, win0_2.index t = ![t.val / 8, t.val / 4 % 2] := by decide +kernel

theorem ltN (t : Fin cfg0.N) : t.val < 32 := lt_of_lt_of_eq t.isLt (show cfg0.N = 32 from N_0)

/-- At the last point of a run of 4 the scratch holds the run's sums. -/
theorem acc (t : Fin cfg0.N) (h : t.val % 4 = 4 - 1) (y : S1024x1024.Idx) :
    (outsAt0 m c t.val t.isLt).2 y = (0 : EReal) + ∑ s : Fin 4,
      blk (iblk m c 0 ⟨4 * (t.val / 4) + s.val, Pipeline.run_point_lt_of_flush t h s⟩) (iblk m c 1 ⟨4 * (t.val / 4) + s.val, Pipeline.run_point_lt_of_flush t h s⟩) y :=
  Pipeline.eq_sum_fin_of_reset_step_apply_of_flush (M := EReal) (fun n h => (outsAt0 m c n h).2) 4 (fun _ => 0)
    (fun t y => blk (iblk m c 0 t) (iblk m c 1 t) y)
    (fun t h y => by
      rw [outsAt0_A m c t h (by omega)]
      frame_out
      rw [pay2_apply, pay1_apply])
    (fun t h y => by
      by_cases h' : t.val % 4 = 3
      · rw [outsAt0_C m c t h h']
        frame_out
        rw [pay2_apply]
        exact congrArg (fun z => z + blk (iblk m c 0 t) (iblk m c 1 t) y) (congrFun ((Memref.isWhole_whole cc0_scratch0).read_unread _) y)
      · rw [outsAt0_B m c t h h']
        frame_out
        rw [pay2_apply]
        exact congrArg (fun z => z + blk (iblk m c 0 t) (iblk m c 1 t) y) (congrFun ((Memref.isWhole_whole cc0_scratch0).read_unread _) y)) t h y

/-- What that point stores. -/
theorem out (t : Fin cfg0.N) (h : t.val % 4 = 3) (y : S1024x1024.Idx) :
    (outsAt0 m c t.val t.isLt).1 y = ((outsAt0 m c t.val t.isLt).2 y : EReal) := by
  rw [outsAt0_C m c t (by omega) h]
  frame_out

/-- The result array after the run. -/
theorem arr2 : (dats m 0 c).arrAt 2 cfg0.N = res (aX m c) (aW m c) := by
  refine (dats m 0 c).arrAt_eq_of_covers 2 _ (by decide +kernel) fun t hf y => ?_
  blk_simp
  have ht := (flush0_2 t).mp hf
  have hN := ltN t
  rw [after0_2, out m c t ht, acc m c t ht, zero_add]
  unfold res prod blk
  refine Fin.sum_mul_add_congr fun s k hk => ?_
  congr 1 <;> blk_ext [iblk, V, idx0, idx1, idx2 t] <;> omega

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.Ff2RefIdeal.Read

/-- The reference's value is the same. -/
theorem ref_res (x0 : Vec Ideal S4096x8192 .bf16) (x1 : Vec Ideal S1x8192x2048 .bf16) : val_main_v3 (F := Ideal) x0 x1 = res x0 x1 := by
  funext y
  obtain ⟨r, d, rfl⟩ : ∃ r d, y = ix2 r d := ⟨_, _, eq_ix2 y⟩
  pointwise [val_main_v0, val_main_v1, val_main_v2, val_main_v3]
  unfold res prod
  have hd : d.val < 2048 := d.isLt
  refine Finset.sum_congr rfl fun k _ => congrArg₂ (fun i j => x0 (ix2 r k) * x1 (ix3 i k j)) (Fin.ext ?_) (Fin.ext ?_) <;>
    simp only [ix2_0, ix2_1] <;> omega

end

/-- The reference runs, keeps its arguments and leaves every semaphore at zero. -/
theorem ref_frame : Cert.quiescent_Ff2RefIdeal := fun m ρ _ =>
  (θ_run Cert.Ff2RefIdeal.defs _ _).mono (fun r h => ⟨fun c => (h c).2, sem_eq_zero_of_no_sems (by decide) r.2⟩)
    (Cert.Ff2RefIdeal.Value.run (F := Ideal) m ρ)

/-- The kernel's results are the reference's. -/
theorem value : Cert.algebraic_Ff2Ideal_Ff2RefIdeal := fun m ρ m' ρ' _ hag =>
  ⟨fun c => res (aX m c) (aW m c),
    run_kernel m ρ,
    (θ_run Cert.Ff2RefIdeal.defs _ _).mono (fun r h c => by
      obtain ⟨e0, e1⟩ := hag c
      refine ⟨(h c).1.trans ?_, (h c).2⟩
      · rw [Cert.Ff2RefIdeal.Read.val_main_v3_eq, e0, e1]
        exact ref_res _ _)
      (Cert.Ff2RefIdeal.Value.run (F := Ideal) m' ρ')⟩

end Cert.Ff2Proof
end
-- ==== Proof.Ff2BwdProof.lean ====
/- The gradient before the activation: the gradient through the second product, times the derivative of the squared positive part. -/
module
public import Idealize.ShloMosaic.Lib.Pointwise
public import Idealize.ShloMosaic.Lib.Pipeline.ValueKit
public import proofs.«01_k».proof.Defs
public import proofs.«01_k».proof.Proof.Gen.Ff2Bwd.Frame
public import proofs.«01_k».proof.Proof.Gen.Ff2BwdIdeal.Value
public import proofs.«01_k».proof.Proof.Gen.Ff2BwdRefIdeal.Run
public import proofs.«01_k».proof.Proof.Gen.Ff2BwdRefIdeal.Read
@[expose] public section
set_option maxRecDepth 16384
noncomputable section
namespace Cert.Ff2BwdProof
open Cert.Ff2BwdIdeal Cert.Ff2BwdIdeal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S1024x2048 .bf16) (x1 : Vec Ideal S1x1024x2048 .bf16) (y : S1024x1024.Idx) : EReal :=
  ∑ k : Fin 2048, x0 (ix2 (y 0) k) * x1 (ix3 0 (y 1) k)

/-- One grid point adds its sum to what the block held. -/
theorem pay2_apply (a : Vec Ideal S1024x1024 .f32) (x0 : Vec Ideal S1024x2048 .bf16) (x1 : Vec Ideal S1x1024x2048 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- The literal 2.0. -/
abbrev two : EReal := Ideal.ofBits .f32 0x40000000#32

/-- The finished sum times twice the positive part of `e`. -/
theorem pay3_apply (a e : Vec Ideal S1024x1024 .f32) (y : S1024x1024.Idx) :
    k0_pay3 (F := Ideal) a e y = a y * (two * max (e y) 0) := by
  obtain ⟨r, d, rfl⟩ : ∃ (r : Fin 1024) (d : Fin 1024), y = ix2 r d := ⟨y 0, y 1, eq_ix2 y⟩
  pointwise [k0_pay3]

/-- Entry `y` of the product of `x` with `w` transposed. -/
def prod (x : Vec Ideal S4096x2048 .bf16) (w : Vec Ideal S1x8192x2048 .bf16) (y : S4096x8192.Idx) : EReal :=
  ∑ n : Fin 2048, x (ix2 (y 0) n) * w (ix3 ⟨n.val / 2048, by have := n.isLt; omega⟩ (y 1) ⟨n.val % 2048, Nat.mod_lt _ (by decide)⟩)

/-- The result: the products times twice the positive part of `e`. -/
def res (x : Vec Ideal S4096x2048 .bf16) (w : Vec Ideal S1x8192x2048 .bf16) (e : Vec Ideal S4096x8192 .f32) : Vec Ideal S4096x8192 .bf16 :=
  fun y => prod x w y * (two * max (e y) 0)

variable (m : (ℓ : Loc nD τ sig) → Buf (Elt Ideal) ℓ) (c : Dev nD)

/-- The arguments. -/
abbrev aX : Vec Ideal S4096x2048 .bf16 := m ((c.tc : Thread nD τ).loc main_arg0)
abbrev aW : Vec Ideal S1x8192x2048 .bf16 := m ((c.tc : Thread nD τ).loc main_arg1)
abbrev aE : Vec Ideal S4096x8192 .f32 := m ((c.tc : Thread nD τ).loc main_arg2)

theorem idx0 : ∀ t : Fin cfg0.N, win0_0.index t = ![t.val / 8, 0] := by decide +kernel
theorem idx1 : ∀ t : Fin cfg0.N, win0_1.index t = ![0, t.val % 8, 0] := by decide +kernel
theorem idx2 : ∀ t : Fin cfg0.N, win0_2.index t = ![t.val / 8, t.val % 8] := by decide +kernel
theorem idx3 : ∀ t : Fin cfg0.N, win0_3.index t = ![t.val / 8, t.val % 8] := by decide +kernel

theorem ltN (t : Fin cfg0.N) : t.val < 32 := lt_of_lt_of_eq t.isLt (show cfg0.N = 32 from N_0)

/-- A grid point's sum is the whole sum. -/
theorem sum_blk (t : Fin cfg0.N) (y : S1024x1024.Idx) : blk (iblk m c 0 t) (iblk m c 1 t) y = prod (aX m c) (aW m c) ((win0_3.blk t).view.emb y) := by
  have hN := ltN t
  unfold blk prod
  refine Finset.sum_congr rfl fun k _ => ?_
  congr 1 <;> blk_ext [iblk, V, idx0, idx1, idx2 t, idx3 t] <;> omega

/-- What a grid point stores. -/
theorem out3 (t : Fin cfg0.N) (y : S1024x1024.Idx) :
    (outsAt0 m c t) y = (blk (iblk m c 0 t) (iblk m c 1 t) y * (two * max (show EReal from iblk m c 2 t y) 0) : EReal) := by
  unfold outsAt0
  frame_out
  simp only [pay3_apply, pay2_apply, pay1_apply, zero_add]

/-- The result array after the run. -/
theorem arr3 : (dats m 0 c).arrAt 3 cfg0.N = res (aX m c) (aW m c) (aE m c) := by
  refine (dats m 0 c).arrAt_eq_of_covers 3 _ (by decide +kernel) fun t hf y => ?_
  have he : iblk m c 2 t y = aE m c ((win0_3.blk t).view.emb y) := by
    blk_ext [iblk, V, idx2 t, idx3 t]
  blk_simp
  rw [after0_3, out3, sum_blk, he]
  unfold res
  rfl

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c) (aE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

section
open Cert.Ff2BwdRefIdeal.Read

/-- The reference's value is the same. -/
theorem ref_res (x0 : Vec Ideal S4096x2048 .bf16) (x1 : Vec Ideal S1x8192x2048 .bf16) (x2 : Vec Ideal S4096x8192 .f32) : val_main_v15 (F := Ideal) x0 x1 x2 = res x0 x1 x2 := by
  funext y
  obtain ⟨r, d, rfl⟩ : ∃ r d, y = ix2 r d := ⟨_, _, eq_ix2 y⟩
  pointwise [val_main_v0, val_main_v1, val_main_call0_cst, val_main_call0_v0, val_main_v2, val_main_cst, val_main_v3, val_main_v4, val_main_cst_0, val_main_v5, val_main_v6, val_main_cst_1, val_main_v7, val_main_v8, val_main_v9, val_main_v10, val_main_v11, val_main_v12, val_main_cst_2, val_main_v13, val_main_v14, val_main_v15]
  unfold res prod
  have e : (∑ x, x0 (ix2 r x) * x1 (ix3 0 d x)) = prod x0 x1 (ix2 r d) := by
    unfold prod
    refine Finset.sum_congr rfl fun k _ => congrArg₂ (fun i j => x0 (ix2 r k) * x1 (ix3 i d j)) (Fin.ext ?_) (Fin.ext ?_) <;>
      simp only [ix2_0, ix2_1] <;> omega
  unfold prod at e
  rw [e]
  split_ifs with h
  · rfl
  · rw [max_eq_right (not_lt.mp h), mul_zero, mul_zero]

end

/-- The reference runs, keeps its arguments and leaves every semaphore at zero. -/
theorem ref_frame : Cert.quiescent_Ff2BwdRefIdeal := fun m ρ _ =>
  (θ_run Cert.Ff2BwdRefIdeal.defs _ _).mono (fun r h => ⟨fun c => (h c).2, sem_eq_zero_of_no_sems (by decide) r.2⟩)
    (Cert.Ff2BwdRefIdeal.Value.run (F := Ideal) m ρ)

/-- The kernel's results are the reference's. -/
theorem value : Cert.algebraic_Ff2BwdIdeal_Ff2BwdRefIdeal := fun m ρ m' ρ' _ hag =>
  ⟨fun c => res (aX m c) (aW m c) (aE m c),
    run_kernel m ρ,
    (θ_run Cert.Ff2BwdRefIdeal.defs _ _).mono (fun r h c => by
      obtain ⟨e0, e1, e2⟩ := hag c
      refine ⟨(h c).1.trans ?_, (h c).2⟩
      · rw [Cert.Ff2BwdRefIdeal.Read.val_main_v15_eq, e0, e1, e2]
        exact ref_res _ _ _)
      (Cert.Ff2BwdRefIdeal.Value.run (F := Ideal) m' ρ')⟩

end Cert.Ff2BwdProof
end
-- ==== Proof.GradFf2Proof.lean ====
/- The gradient of the second feed-forward weight: a product over the rows. -/
module
public import Idealize.ShloMosaic.Lib.Pointwise
public import Idealize.ShloMosaic.Lib.Pipeline.ValueKit
public import proofs.«01_k».proof.Defs
public import proofs.«01_k».proof.Proof.Gen.GradFf2.Frame
public import proofs.«01_k».proof.Proof.Gen.GradFf2Ideal.Value
public import proofs.«01_k».proof.Proof.Gen.GradFf2RefIdeal.Run
public import proofs.«01_k».proof.Proof.Gen.GradFf2RefIdeal.Read
@[expose] public section
set_option maxRecDepth 16384
noncomputable section
namespace Cert.GradFf2Proof
open Cert.GradFf2Ideal Cert.GradFf2Ideal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S2048x1024 .bf16) (x1 : Vec Ideal S2048x1024 .bf16) (y : S1024x1024.Idx) : EReal :=
  ∑ k : Fin 2048, x0 (ix2 k (y 0)) * x1 (ix2 k (y 1))

/-- One grid point adds its sum to what the block held. -/
theorem pay2_apply (a : Vec Ideal S1024x1024 .f32) (x0 : Vec Ideal S2048x1024 .bf16) (x1 : Vec Ideal S2048x1024 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- The finished sum is stored as it is. -/
theorem pay3_apply (a : Vec Ideal S1024x1024 .f32) (y : S1x1024x1024.Idx) :
    k0_pay3 (F := Ideal) a y = a (ix2 (y 1) (y 2)) := by
  obtain ⟨z, r, d, rfl⟩ : ∃ (z : Fin 1) (r : Fin 1024) (d : Fin 1024), y = ix3 z r d := ⟨y 0, y 1, y 2, eq_ix3 y⟩
  pointwise [k0_pay3]

/-- Entry `y` of the product of `x` transposed with `w`. -/
def prod (x : Vec Ideal S4096x8192 .bf16) (w : Vec Ideal S4096x2048 .bf16) (y : S1x8192x2048.Idx) : EReal :=
  ∑ t : Fin 4096, x (ix2 t (y 1)) * w (ix2 t ⟨(y 0).val * 2048 + (y 2).val, by have := (y 0).isLt; have := (y 2).isLt; simp at *; omega⟩)

/-- The result the call leaves. -/
def res (x : Vec Ideal S4096x8192 .bf16) (w : Vec Ideal S4096x2048 .bf16) : Vec Ideal S1x8192x2048 .bf16 := prod x w

variable (m : (ℓ : Loc nD τ sig) → Buf (Elt Ideal) ℓ) (c : Dev nD)

/-- The arguments. -/
abbrev aX : Vec Ideal S4096x8192 .bf16 := m ((c.tc : Thread nD τ).loc main_arg0)
abbrev aW : Vec Ideal S4096x2048 .bf16 := m ((c.tc : Thread nD τ).loc main_arg1)

theorem idx0 : ∀ t : Fin cfg0.N, win0_0.index t = ![t.val % 2, t.val / 4] := by decide +kernel
theorem idx1 : ∀ t : Fin cfg0.N, win0_1.index t = ![t.val % 2, t.val / 2 % 2] := by decide +kernel
theorem idx2 : ∀ t : Fin cfg0.N, win0_2.index t = ![0, t.val / 4, t.val / 2 % 2] := by decide +kernel

theorem ltN (t : Fin cfg0.N) : t.val < 32 := lt_of_lt_of_eq t.isLt (show cfg0.N = 32 from N_0)

/-- At the last point of a run of 2 the scratch holds the run's sums. -/
theorem acc (t : Fin cfg0.N) (h : t.val % 2 = 2 - 1) (y : S1024x1024.Idx) :
    (outsAt0 m c t.val t.isLt).2 y = (0 : EReal) + ∑ s : Fin 2,
      blk (iblk m c 0 ⟨2 * (t.val / 2) + s.val, Pipeline.run_point_lt_of_flush t h s⟩) (iblk m c 1 ⟨2 * (t.val / 2) + s.val, Pipeline.run_point_lt_of_flush t h s⟩) y :=
  Pipeline.eq_sum_fin_of_reset_step_apply_of_flush (M := EReal) (fun n h => (outsAt0 m c n h).2) 2 (fun _ => 0)
    (fun t y => blk (iblk m c 0 t) (iblk m c 1 t) y)
    (fun t h y => by
      rw [outsAt0_A m c t h (by omega)]
      frame_out
      rw [pay2_apply, pay1_apply])
    (fun t h y => by
      rw [outsAt0_B m c t h (by omega)]
      frame_out
      rw [pay2_apply]
      exact congrArg (fun z => z + blk (iblk m c 0 t) (iblk m c 1 t) y) (congrFun ((Memref.isWhole_whole cc0_scratch0).read_unread _) y)) t h y

/-- What that point stores. -/
theorem out (t : Fin cfg0.N) (h : t.val % 2 = 1) (y : S1x1024x1024.Idx) :
    (outsAt0 m c t.val t.isLt).1 y = ((outsAt0 m c t.val t.isLt).2 (ix2 (y 1) (y 2)) : EReal) := by
  rw [outsAt0_B m c t (by omega) h]
  frame_out
  rw [pay3_apply]

/-- The result array after the run. -/
theorem arr2 : (dats m 0 c).arrAt 2 cfg0.N = res (aX m c) (aW m c) := by
  refine (dats m 0 c).arrAt_eq_of_covers 2 _ (by decide +kernel) fun t hf y => ?_
  blk_simp
  have ht := (flush0_2 t).mp hf
  have hN := ltN t
  rw [after0_2, out m c t ht, acc m c t ht, zero_add]
  unfold res prod blk
  refine Fin.sum_mul_add_congr fun s k hk => ?_
  congr 1 <;> blk_ext [iblk, V, idx0, idx1, idx2 t] <;> omega

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.GradFf2RefIdeal.Read

/-- The reference's value is the same. -/
theorem ref_res (x0 : Vec Ideal S4096x8192 .bf16) (x1 : Vec Ideal S4096x2048 .bf16) : val_main_v7 (F := Ideal) x0 x1 = res x0 x1 := by
  funext y
  obtain ⟨z, r, d, rfl⟩ : ∃ z r d, y = ix3 z r d := ⟨_, _, _, eq_ix3 y⟩
  pointwise [val_main_v0, val_main_v1, val_main_cst, val_main_v2, val_main_v3, val_main_v4, val_main_v5, val_main_v6, val_main_v7]
  unfold res prod
  refine Finset.sum_congr rfl fun k _ => (mul_comm _ _).trans ?_
  refine congrArg (fun i => x0 (ix2 k r) * x1 (ix2 k i)) (Fin.ext ?_)
  have := z.isLt
  simp only [ix3_0, ix3_2]
  omega

end

/-- The reference runs, keeps its arguments and leaves every semaphore at zero. -/
theorem ref_frame : Cert.quiescent_GradFf2RefIdeal := fun m ρ _ =>
  (θ_run Cert.GradFf2RefIdeal.defs _ _).mono (fun r h => ⟨fun c => (h c).2, sem_eq_zero_of_no_sems (by decide) r.2⟩)
    (Cert.GradFf2RefIdeal.Value.run (F := Ideal) m ρ)

/-- The kernel's results are the reference's. -/
theorem value : Cert.algebraic_GradFf2Ideal_GradFf2RefIdeal := fun m ρ m' ρ' _ hag =>
  ⟨fun c => res (aX m c) (aW m c),
    run_kernel m ρ,
    (θ_run Cert.GradFf2RefIdeal.defs _ _).mono (fun r h c => by
      obtain ⟨e0, e1⟩ := hag c
      refine ⟨(h c).1.trans ?_, (h c).2⟩
      · rw [Cert.GradFf2RefIdeal.Read.val_main_v7_eq, e0, e1]
        exact ref_res _ _)
      (Cert.GradFf2RefIdeal.Value.run (F := Ideal) m' ρ')⟩

end Cert.GradFf2Proof
end
-- ==== Proof.GradFf1Proof.lean ====
/- The gradient of the first feed-forward weight: a product over the rows. -/
module
public import Idealize.ShloMosaic.Lib.Pointwise
public import Idealize.ShloMosaic.Lib.Pipeline.ValueKit
public import proofs.«01_k».proof.Defs
public import proofs.«01_k».proof.Proof.Gen.GradFf1.Frame
public import proofs.«01_k».proof.Proof.Gen.GradFf1Ideal.Value
public import proofs.«01_k».proof.Proof.Gen.GradFf1RefIdeal.Run
public import proofs.«01_k».proof.Proof.Gen.GradFf1RefIdeal.Read
@[expose] public section
set_option maxRecDepth 16384
noncomputable section
namespace Cert.GradFf1Proof
open Cert.GradFf1Ideal Cert.GradFf1Ideal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S2048x1024 .bf16) (x1 : Vec Ideal S2048x1024 .bf16) (y : S1024x1024.Idx) : EReal :=
  ∑ k : Fin 2048, x0 (ix2 k (y 0)) * x1 (ix2 k (y 1))

/-- One grid point adds its sum to what the block held. -/
theorem pay2_apply (a : Vec Ideal S1024x1024 .f32) (x0 : Vec Ideal S2048x1024 .bf16) (x1 : Vec Ideal S2048x1024 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- The finished sum is stored as it is. -/
theorem pay3_apply (a : Vec Ideal S1024x1024 .f32) (y : S1x1024x1024.Idx) :
    k0_pay3 (F := Ideal) a y = a (ix2 (y 1) (y 2)) := by
  obtain ⟨z, r, d, rfl⟩ : ∃ (z : Fin 1) (r : Fin 1024) (d : Fin 1024), y = ix3 z r d := ⟨y 0, y 1, y 2, eq_ix3 y⟩
  pointwise [k0_pay3]

/-- Entry `y` of the product of `x` transposed with `w`; the columns of `w` lie in four groups. -/
def prod (x : Vec Ideal S4096x2048 .bf16) (w : Vec Ideal S4096x8192 .bf16) (y : S4x2048x2048.Idx) : EReal :=
  ∑ t : Fin 4096, x (ix2 t (y 1)) * w (ix2 t ⟨(y 0).val * 2048 + (y 2).val, by have := (y 0).isLt; have := (y 2).isLt; simp at *; omega⟩)

/-- The result the call leaves. -/
def res (x : Vec Ideal S4096x2048 .bf16) (w : Vec Ideal S4096x8192 .bf16) : Vec Ideal S4x2048x2048 .bf16 := prod x w

variable (m : (ℓ : Loc nD τ sig) → Buf (Elt Ideal) ℓ) (c : Dev nD)

/-- The arguments. -/
abbrev aX : Vec Ideal S4096x2048 .bf16 := m ((c.tc : Thread nD τ).loc main_arg0)
abbrev aW : Vec Ideal S4096x8192 .bf16 := m ((c.tc : Thread nD τ).loc main_arg1)

theorem idx0 : ∀ t : Fin cfg0.N, win0_0.index t = ![t.val % 2, t.val / 4 % 2] := by decide +kernel
theorem idx1 : ∀ t : Fin cfg0.N, win0_1.index t = ![t.val % 2, 2 * (t.val / 8) + t.val / 2 % 2] := by decide +kernel
theorem idx2 : ∀ t : Fin cfg0.N, win0_2.index t = ![t.val / 8, t.val / 4 % 2, t.val / 2 % 2] := by decide +kernel

theorem ltN (t : Fin cfg0.N) : t.val < 32 := lt_of_lt_of_eq t.isLt (show cfg0.N = 32 from N_0)

/-- At the last point of a run of 2 the scratch holds the run's sums. -/
theorem acc (t : Fin cfg0.N) (h : t.val % 2 = 2 - 1) (y : S1024x1024.Idx) :
    (outsAt0 m c t.val t.isLt).2 y = (0 : EReal) + ∑ s : Fin 2,
      blk (iblk m c 0 ⟨2 * (t.val / 2) + s.val, Pipeline.run_point_lt_of_flush t h s⟩) (iblk m c 1 ⟨2 * (t.val / 2) + s.val, Pipeline.run_point_lt_of_flush t h s⟩) y :=
  Pipeline.eq_sum_fin_of_reset_step_apply_of_flush (M := EReal) (fun n h => (outsAt0 m c n h).2) 2 (fun _ => 0)
    (fun t y => blk (iblk m c 0 t) (iblk m c 1 t) y)
    (fun t h y => by
      rw [outsAt0_A m c t h (by omega)]
      frame_out
      rw [pay2_apply, pay1_apply])
    (fun t h y => by
      rw [outsAt0_B m c t h (by omega)]
      frame_out
      rw [pay2_apply]
      exact congrArg (fun z => z + blk (iblk m c 0 t) (iblk m c 1 t) y) (congrFun ((Memref.isWhole_whole cc0_scratch0).read_unread _) y)) t h y

/-- What that point stores. -/
theorem out (t : Fin cfg0.N) (h : t.val % 2 = 1) (y : S1x1024x1024.Idx) :
    (outsAt0 m c t.val t.isLt).1 y = ((outsAt0 m c t.val t.isLt).2 (ix2 (y 1) (y 2)) : EReal) := by
  rw [outsAt0_B m c t (by omega) h]
  frame_out
  rw [pay3_apply]

/-- The result array after the run. -/
theorem arr2 : (dats m 0 c).arrAt 2 cfg0.N = res (aX m c) (aW m c) := by
  refine (dats m 0 c).arrAt_eq_of_covers 2 _ (by decide +kernel) fun t hf y => ?_
  blk_simp
  have ht := (flush0_2 t).mp hf
  have hN := ltN t
  rw [after0_2, out m c t ht, acc m c t ht, zero_add]
  unfold res prod blk
  refine Fin.sum_mul_add_congr fun s k hk => ?_
  congr 1 <;> blk_ext [iblk, V, idx0, idx1, idx2 t] <;> omega

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.GradFf1RefIdeal.Read

/-- The reference's value is the same. -/
theorem ref_res (x0 : Vec Ideal S4096x2048 .bf16) (x1 : Vec Ideal S4096x8192 .bf16) : val_main_v8 (F := Ideal) x0 x1 = res x0 x1 := by
  funext y
  obtain ⟨z, r, d, rfl⟩ : ∃ z r d, y = ix3 z r d := ⟨_, _, _, eq_ix3 y⟩
  pointwise [val_main_v0, val_main_v1, val_main_cst, val_main_v2, val_main_v3, val_main_v4, val_main_v5, val_main_v6, val_main_v7, val_main_v8]
  unfold res prod
  exact Finset.sum_congr rfl fun k _ => mul_comm _ _

end

/-- The reference runs, keeps its arguments and leaves every semaphore at zero. -/
theorem ref_frame : Cert.quiescent_GradFf1RefIdeal := fun m ρ _ =>
  (θ_run Cert.GradFf1RefIdeal.defs _ _).mono (fun r h => ⟨fun c => (h c).2, sem_eq_zero_of_no_sems (by decide) r.2⟩)
    (Cert.GradFf1RefIdeal.Value.run (F := Ideal) m ρ)

/-- The kernel's results are the reference's. -/
theorem value : Cert.algebraic_GradFf1Ideal_GradFf1RefIdeal := fun m ρ m' ρ' _ hag =>
  ⟨fun c => res (aX m c) (aW m c),
    run_kernel m ρ,
    (θ_run Cert.GradFf1RefIdeal.defs _ _).mono (fun r h c => by
      obtain ⟨e0, e1⟩ := hag c
      refine ⟨(h c).1.trans ?_, (h c).2⟩
      · rw [Cert.GradFf1RefIdeal.Read.val_main_v8_eq, e0, e1]
        exact ref_res _ _)
      (Cert.GradFf1RefIdeal.Value.run (F := Ideal) m' ρ')⟩

end Cert.GradFf1Proof
end
-- ==== Proof.Ff1BwdProof.lean ====
/- The gradient before the feed-forward layer: the gradient through the first product, plus the residual. -/
module
public import Idealize.ShloMosaic.Lib.Pointwise
public import Idealize.ShloMosaic.Lib.Pipeline.ValueKit
public import proofs.«01_k».proof.Defs
public import proofs.«01_k».proof.Proof.Gen.Ff1Bwd.Frame
public import proofs.«01_k».proof.Proof.Gen.Ff1BwdIdeal.Value
public import proofs.«01_k».proof.Proof.Gen.Ff1BwdRefIdeal.Run
public import proofs.«01_k».proof.Proof.Gen.Ff1BwdRefIdeal.Read
@[expose] public section
set_option maxRecDepth 16384
noncomputable section
namespace Cert.Ff1BwdProof
open Cert.Ff1BwdIdeal Cert.Ff1BwdIdeal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S1024x2048 .bf16) (x1 : Vec Ideal S1x1024x2048 .bf16) (y : S1024x1024.Idx) : EReal :=
  ∑ k : Fin 2048, x0 (ix2 (y 0) k) * x1 (ix3 0 (y 1) k)

/-- One grid point adds its sum to what the block held. -/
theorem pay2_apply (a : Vec Ideal S1024x1024 .f32) (x0 : Vec Ideal S1024x2048 .bf16) (x1 : Vec Ideal S1x1024x2048 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- The finished sum plus `e`. -/
theorem pay3_apply (a e : Vec Ideal S1024x1024 .f32) (y : S1024x1024.Idx) : k0_pay3 (F := Ideal) a e y = a y + e y := by
  obtain ⟨r, d, rfl⟩ : ∃ (r : Fin 1024) (d : Fin 1024), y = ix2 r d := ⟨y 0, y 1, eq_ix2 y⟩
  pointwise [k0_pay3]

/-- Entry `y` of the product of `x` with `w` transposed; the columns lie in four groups. -/
def prod (x : Vec Ideal S4096x8192 .bf16) (w : Vec Ideal S4x2048x2048 .bf16) (y : S4096x2048.Idx) : EReal :=
  ∑ n : Fin 8192, x (ix2 (y 0) n) * w (ix3 ⟨n.val / 2048, by have := n.isLt; omega⟩ (y 1) ⟨n.val % 2048, Nat.mod_lt _ (by decide)⟩)

/-- The result: the products plus `e`. -/
def res (x : Vec Ideal S4096x8192 .bf16) (w : Vec Ideal S4x2048x2048 .bf16) (e : Vec Ideal S4096x2048 .f32) : Vec Ideal S4096x2048 .f32 :=
  fun y => prod x w y + e y

variable (m : (ℓ : Loc nD τ sig) → Buf (Elt Ideal) ℓ) (c : Dev nD)

/-- The arguments. -/
abbrev aX : Vec Ideal S4096x8192 .bf16 := m ((c.tc : Thread nD τ).loc main_arg0)
abbrev aW : Vec Ideal S4x2048x2048 .bf16 := m ((c.tc : Thread nD τ).loc main_arg1)
abbrev aE : Vec Ideal S4096x2048 .f32 := m ((c.tc : Thread nD τ).loc main_arg2)

theorem idx0 : ∀ t : Fin cfg0.N, win0_0.index t = ![t.val / 8, t.val % 4] := by decide +kernel
theorem idx1 : ∀ t : Fin cfg0.N, win0_1.index t = ![t.val % 4, t.val / 4 % 2, 0] := by decide +kernel
theorem idx2 : ∀ t : Fin cfg0.N, win0_2.index t = ![t.val / 8, t.val / 4 % 2] := by decide +kernel
theorem idx3 : ∀ t : Fin cfg0.N, win0_3.index t = ![t.val / 8, t.val / 4 % 2] := by decide +kernel

theorem ltN (t : Fin cfg0.N) : t.val < 32 := lt_of_lt_of_eq t.isLt (show cfg0.N = 32 from N_0)

/-- At the last point of a run of 4 the scratch holds the run's sums. -/
theorem acc (t : Fin cfg0.N) (h : t.val % 4 = 4 - 1) (y : S1024x1024.Idx) :
    (outsAt0 m c t.val t.isLt).2 y = (0 : EReal) + ∑ s : Fin 4,
      blk (iblk m c 0 ⟨4 * (t.val / 4) + s.val, Pipeline.run_point_lt_of_flush t h s⟩) (iblk m c 1 ⟨4 * (t.val / 4) + s.val, Pipeline.run_point_lt_of_flush t h s⟩) y :=
  Pipeline.eq_sum_fin_of_reset_step_apply_of_flush (M := EReal) (fun n h => (outsAt0 m c n h).2) 4 (fun _ => 0)
    (fun t y => blk (iblk m c 0 t) (iblk m c 1 t) y)
    (fun t h y => by
      rw [outsAt0_A m c t h (by omega)]
      frame_out
      rw [pay2_apply, pay1_apply])
    (fun t h y => by
      by_cases h' : t.val % 4 = 3
      · rw [outsAt0_C m c t h h']
        frame_out
        rw [pay2_apply]
        exact congrArg (fun z => z + blk (iblk m c 0 t) (iblk m c 1 t) y) (congrFun ((Memref.isWhole_whole cc0_scratch0).read_unread _) y)
      · rw [outsAt0_B m c t h h']
        frame_out
        rw [pay2_apply]
        exact congrArg (fun z => z + blk (iblk m c 0 t) (iblk m c 1 t) y) (congrFun ((Memref.isWhole_whole cc0_scratch0).read_unread _) y)) t h y

/-- What that point stores. -/
theorem out (t : Fin cfg0.N) (h : t.val % 4 = 3) (y : S1024x1024.Idx) :
    (outsAt0 m c t.val t.isLt).1 y = ((outsAt0 m c t.val t.isLt).2 y + iblk m c 2 t y : EReal) := by
  rw [outsAt0_C m c t (by omega) h]
  frame_out
  rw [pay3_apply]

/-- The result array after the run. -/
theorem arr3 : (dats m 0 c).arrAt 3 cfg0.N = res (aX m c) (aW m c) (aE m c) := by
  refine (dats m 0 c).arrAt_eq_of_covers 3 _ (by decide +kernel) fun t hf y => ?_
  blk_simp
  have ht := (flush0_3 t).mp hf
  have hN := ltN t
  rw [after0_3, out m c t ht, acc m c t ht, zero_add]
  unfold res prod blk
  refine congrArg₂ (fun a b : EReal => a + b) (Fin.sum_mul_add_congr fun s k hk => ?_) ?_
  · congr 1 <;> blk_ext [iblk, V, idx0, idx1, idx2 t, idx3 t] <;> omega
  · blk_ext [iblk, V, idx2 t, idx3 t]

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c) (aE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

section
open Cert.Ff1BwdRefIdeal.Read

/-- The reference's value is the same. -/
theorem ref_res (x0 : Vec Ideal S4096x8192 .bf16) (x1 : Vec Ideal S4x2048x2048 .bf16) (x2 : Vec Ideal S4096x2048 .f32) : val_main_v7 (F := Ideal) x0 x1 x2 = res x0 x1 x2 := by
  funext y
  obtain ⟨r, d, rfl⟩ : ∃ r d, y = ix2 r d := ⟨_, _, eq_ix2 y⟩
  pointwise [val_main_v0, val_main_v1, val_main_v2, val_main_cst, val_main_v3, val_main_v4, val_main_v5, val_main_v6, val_main_v7]
  unfold res prod
  rw [add_comm]
  rfl

end

/-- The reference runs, keeps its arguments and leaves every semaphore at zero. -/
theorem ref_frame : Cert.quiescent_Ff1BwdRefIdeal := fun m ρ _ =>
  (θ_run Cert.Ff1BwdRefIdeal.defs _ _).mono (fun r h => ⟨fun c => (h c).2, sem_eq_zero_of_no_sems (by decide) r.2⟩)
    (Cert.Ff1BwdRefIdeal.Value.run (F := Ideal) m ρ)

/-- The kernel's results are the reference's. -/
theorem value : Cert.algebraic_Ff1BwdIdeal_Ff1BwdRefIdeal := fun m ρ m' ρ' _ hag =>
  ⟨fun c => res (aX m c) (aW m c) (aE m c),
    run_kernel m ρ,
    (θ_run Cert.Ff1BwdRefIdeal.defs _ _).mono (fun r h c => by
      obtain ⟨e0, e1, e2⟩ := hag c
      refine ⟨(h c).1.trans ?_, (h c).2⟩
      · rw [Cert.Ff1BwdRefIdeal.Read.val_main_v7_eq, e0, e1, e2]
        exact ref_res _ _ _)
      (Cert.Ff1BwdRefIdeal.Value.run (F := Ideal) m' ρ')⟩

end Cert.Ff1BwdProof
end
-- ==== Proof.ProjInAProof.lean ====
/- The product into the dilated attention layer. -/
module
public import Idealize.ShloMosaic.Lib.Pointwise
public import Idealize.ShloMosaic.Lib.Pipeline.ValueKit
public import proofs.«01_k».proof.Defs
public import proofs.«01_k».proof.Proof.Gen.ProjInA.Frame
public import proofs.«01_k».proof.Proof.Gen.ProjInAIdeal.Value
public import proofs.«01_k».proof.Proof.Gen.ProjInARefIdeal.Run
public import proofs.«01_k».proof.Proof.Gen.ProjInARefIdeal.Read
@[expose] public section
set_option maxRecDepth 16384
noncomputable section
namespace Cert.ProjInAProof
open Cert.ProjInAIdeal Cert.ProjInAIdeal.Gen Idealize.ShloMosaic Idealize.ShloMosaic.TcCoe Idealize.SL.Sem
open Idealize.ShloMosaic.Pipeline (Dat)

/-- The kernel's sum starts at zero. -/
theorem pay1_apply (y : S512x2432.Idx) : k0_pay1 (F := Ideal) y = 0 := by
  pointwise [k0_pay1]

/-- The products one grid point sums for entry `y` of its block. -/
def blk (x0 : Vec Ideal S512x2048 .bf16) (x1 : Vec Ideal S1x2048x2432 .bf16) (y : S512x2432.Idx) : EReal :=
  ∑ k : Fin 2048, x0 (ix2 (y 0) k) * x1 (ix3 0 k (y 1))

/-- One grid point adds its sum to what the block held. -/
theorem pay2_apply (a : Vec Ideal S512x2432 .f32) (x0 : Vec Ideal S512x2048 .bf16) (x1 : Vec Ideal S1x2048x2432 .bf16) (y : S512x2432.Idx) :
    k0_pay2 (F := Ideal) a x0 x1 y = a y + blk x0 x1 y := by
  obtain ⟨r, d, rfl⟩ : ∃ (r : Fin 512) (d : Fin 2432), y = ix2 r d := ⟨y 0, y 1, eq_ix2 y⟩
  unfold blk
  pointwise [k0_pay2]

/-- The finished sum is stored as it is. -/
theorem pay3_apply (a : Vec Ideal S512x2432 .f32) (y : S512x2432.Idx) : k0_pay3 (F := Ideal) a y = a y := by
  obtain ⟨r, d, rfl⟩ : ∃ (r : Fin 512) (d : Fin 2432), y = ix2 r d := ⟨y 0, y 1, eq_ix2 y⟩
  pointwise [k0_pay3]

/-- Entry `y` of the product of `x` with `w`; the columns lie in four groups. -/
def prod (x : Vec Ideal S4096x2048 .bf16) (w : Vec Ideal S4x2048x2432 .bf16) (y : S4096x9728.Idx) : EReal :=
  ∑ k : Fin 2048, x (ix2 (y 0) k) * w (ix3 ⟨(y 1).val / 2432, by have := (y 1).isLt; simp at this; omega⟩ k ⟨(y 1).val % 2432, Nat.mod_lt _ (by decide)⟩)

/-- The result the call leaves. -/
def res (x : Vec Ideal S4096x2048 .bf16) (w : Vec Ideal S4x2048x2432 .bf16) : Vec Ideal S4096x9728 .bf16 := prod x w

variable (m : (ℓ : Loc nD τ sig) → Buf (Elt Ideal) ℓ) (c : Dev nD)

/-- The arguments. -/
abbrev aX : Vec Ideal S4096x2048 .bf16 := m ((c.tc : Thread nD τ).loc main_arg0)
abbrev aW : Vec Ideal S4x2048x2432 .bf16 := m ((c.tc : Thread nD τ).loc main_arg1)

theorem idx0 : ∀ t : Fin cfg0.N, win0_0.index t = ![t.val / 4, 0] := by decide +kernel
theorem idx1 : ∀ t : Fin cfg0.N, win0_1.index t = ![t.val % 4, 0, 0] := by decide +kernel
theorem idx2 : ∀ t : Fin cfg0.N, win0_2.index t = ![t.val / 4, t.val % 4] := by decide +kernel

theorem ltN (t : Fin cfg0.N) : t.val < 32 := lt_of_lt_of_eq t.isLt (show cfg0.N = 32 from N_0)

/-- A grid point's sum is the whole sum. -/
theorem sum_blk (t : Fin cfg0.N) (y : S512x2432.Idx) : blk (iblk m c 0 t) (iblk m c 1 t) y = prod (aX m c) (aW m c) ((win0_2.blk t).view.emb y) := by
  have hN := ltN t
  unfold blk prod
  refine Finset.sum_congr rfl fun k _ => ?_
  congr 1 <;> blk_ext [iblk, V, idx0, idx1, idx2 t] <;> omega

/-- What a grid point stores. -/
theorem out2 (t : Fin cfg0.N) (y : S512x2432.Idx) :
    (outsAt0 m c t) y = (blk (iblk m c 0 t) (iblk m c 1 t) y : EReal) := by
  unfold outsAt0
  frame_out
  simp only [pay3_apply, pay2_apply, pay1_apply, zero_add]

/-- The result array after the run. -/
theorem arr2 : (dats m 0 c).arrAt 2 cfg0.N = res (aX m c) (aW m c) := by
  refine (dats m 0 c).arrAt_eq_of_covers 2 _ (by decide +kernel) fun t hf y => ?_
  blk_simp
  rw [after0_2, out2, sum_blk]
  unfold res
  rfl

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.ProjInARefIdeal.Read

/-- The reference's value is the same. -/
theorem ref_res (x0 : Vec Ideal S4096x2048 .bf16) (x1 : Vec Ideal S4x2048x2432 .bf16) : val_main_v5 (F := Ideal) x0 x1 = res x0 x1 := by
  funext y
  obtain ⟨r, d, rfl⟩ : ∃ r d, y = ix2 r d := ⟨_, _, eq_ix2 y⟩
  pointwise [val_main_v0, val_main_v1, val_main_v2, val_main_v3, val_main_v4, val_main_v5]
  unfold res prod
  rfl

end

/-- The reference runs, keeps its arguments and leaves every semaphore at zero. -/
theorem ref_frame : Cert.quiescent_ProjInARefIdeal := fun m ρ _ =>
  (θ_run Cert.ProjInARefIdeal.defs _ _).mono (fun r h => ⟨fun c => (h c).2, sem_eq_zero_of_no_sems (by decide) r.2⟩)
    (Cert.ProjInARefIdeal.Value.run (F := Ideal) m ρ)

/-- The kernel's results are the reference's. -/
theorem value : Cert.algebraic_ProjInAIdeal_ProjInARefIdeal := fun m ρ m' ρ' _ hag =>
  ⟨fun c => res (aX m c) (aW m c),
    run_kernel m ρ,
    (θ_run Cert.ProjInARefIdeal.defs _ _).mono (fun r h c => by
      obtain ⟨e0, e1⟩ := hag c
      refine ⟨(h c).1.trans ?_, (h c).2⟩
      · rw [Cert.ProjInARefIdeal.Read.val_main_v5_eq, e0, e1]
        exact ref_res _ _)
      (Cert.ProjInARefIdeal.Value.run (F := Ideal) m' ρ')⟩

end Cert.ProjInAProof
end
-- ==== Proof.ProjInBProof.lean ====
/- The product into the gated layer. -/
module
public import Idealize.ShloMosaic.Lib.Pointwise
public import Idealize.ShloMosaic.Lib.Pipeline.ValueKit
public import proofs.«01_k».proof.Defs
public import proofs.«01_k».proof.Proof.Gen.ProjInB.Frame
public import proofs.«01_k».proof.Proof.Gen.ProjInBIdeal.Value
public import proofs.«01_k».proof.Proof.Gen.ProjInBRefIdeal.Run
public import proofs.«01_k».proof.Proof.Gen.ProjInBRefIdeal.Read
@[expose] public section
set_option maxRecDepth 16384
noncomputable section
namespace Cert.ProjInBProof
open Cert.ProjInBIdeal Cert.ProjInBIdeal.Gen Idealize.ShloMosaic Idealize.ShloMosaic.TcCoe Idealize.SL.Sem
open Idealize.ShloMosaic.Pipeline (Dat)

/-- The kernel's sum starts at zero. -/
theorem pay1_apply (y : S1024x640.Idx) : k0_pay1 (F := Ideal) y = 0 := by
  pointwise [k0_pay1]

/-- The products one grid point sums for entry `y` of its block. -/
def blk (x0 : Vec Ideal S1024x2048 .bf16) (x1 : Vec Ideal S1x2048x640 .bf16) (y : S1024x640.Idx) : EReal :=
  ∑ k : Fin 2048, x0 (ix2 (y 0) k) * x1 (ix3 0 k (y 1))

/-- One grid point adds its sum to what the block held. -/
theorem pay2_apply (a : Vec Ideal S1024x640 .f32) (x0 : Vec Ideal S1024x2048 .bf16) (x1 : Vec Ideal S1x2048x640 .bf16) (y : S1024x640.Idx) :
    k0_pay2 (F := Ideal) a x0 x1 y = a y + blk x0 x1 y := by
  obtain ⟨r, d, rfl⟩ : ∃ (r : Fin 1024) (d : Fin 640), y = ix2 r d := ⟨y 0, y 1, eq_ix2 y⟩
  unfold blk
  pointwise [k0_pay2]

/-- Entry `y` of the product of `x` with `w`; the columns lie in four groups. -/
def prod (x : Vec Ideal S4096x2048 .bf16) (w : Vec Ideal S4x2048x640 .bf16) (y : S4096x2560.Idx) : EReal :=
  ∑ k : Fin 2048, x (ix2 (y 0) k) * w (ix3 ⟨(y 1).val / 640, by have := (y 1).isLt; simp at this; omega⟩ k ⟨(y 1).val % 640, Nat.mod_lt _ (by decide)⟩)

/-- The result the call leaves. -/
def res (x : Vec Ideal S4096x2048 .bf16) (w : Vec Ideal S4x2048x640 .bf16) : Vec Ideal S4096x2560 .f32 := prod x w

variable (m : (ℓ : Loc nD τ sig) → Buf (Elt Ideal) ℓ) (c : Dev nD)

/-- The arguments. -/
abbrev aX : Vec Ideal S4096x2048 .bf16 := m ((c.tc : Thread nD τ).loc main_arg0)
abbrev aW : Vec Ideal S4x2048x640 .bf16 := m ((c.tc : Thread nD τ).loc main_arg1)

theorem idx0 : ∀ t : Fin cfg0.N, win0_0.index t = ![t.val / 4, 0] := by decide +kernel
theorem idx1 : ∀ t : Fin cfg0.N, win0_1.index t = ![t.val % 4, 0, 0] := by decide +kernel
theorem idx2 : ∀ t : Fin cfg0.N, win0_2.index t = ![t.val / 4, t.val % 4] := by decide +kernel

theorem ltN (t : Fin cfg0.N) : t.val < 16 := lt_of_lt_of_eq t.isLt (show cfg0.N = 16 from N_0)

/-- A grid point's sum is the whole sum. -/
theorem sum_blk (t : Fin cfg0.N) (y : S1024x640.Idx) : blk (iblk m c 0 t) (iblk m c 1 t) y = prod (aX m c) (aW m c) ((win0_2.blk t).view.emb y) := by
  have hN := ltN t
  unfold blk prod
  refine Finset.sum_congr rfl fun k _ => ?_
  congr 1 <;> blk_ext [iblk, V, idx0, idx1, idx2 t] <;> omega

/-- What a grid point stores. -/
theorem out2 (t : Fin cfg0.N) (y : S1024x640.Idx) :
    (outsAt0 m c t) y = (blk (iblk m c 0 t) (iblk m c 1 t) y : EReal) := by
  unfold outsAt0
  frame_out
  simp only [pay2_apply, pay1_apply, zero_add]

/-- The result array after the run. -/
theorem arr2 : (dats m 0 c).arrAt 2 cfg0.N = res (aX m c) (aW m c) := by
  refine (dats m 0 c).arrAt_eq_of_covers 2 _ (by decide +kernel) fun t hf y => ?_
  blk_simp
  rw [after0_2, out2, sum_blk]
  unfold res
  rfl

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.ProjInBRefIdeal.Read

/-- The reference's value is the same. -/
theorem ref_res (x0 : Vec Ideal S4096x2048 .bf16) (x1 : Vec Ideal S4x2048x640 .bf16) : val_main_v4 (F := Ideal) x0 x1 = res x0 x1 := by
  funext y
  obtain ⟨r, d, rfl⟩ : ∃ r d, y = ix2 r d := ⟨_, _, eq_ix2 y⟩
  pointwise [val_main_v0, val_main_v1, val_main_v2, val_main_v3, val_main_v4]
  unfold res prod
  rfl

end

/-- The reference runs, keeps its arguments and leaves every semaphore at zero. -/
theorem ref_frame : Cert.quiescent_ProjInBRefIdeal := fun m ρ _ =>
  (θ_run Cert.ProjInBRefIdeal.defs _ _).mono (fun r h => ⟨fun c => (h c).2, sem_eq_zero_of_no_sems (by decide) r.2⟩)
    (Cert.ProjInBRefIdeal.Value.run (F := Ideal) m ρ)

/-- The kernel's results are the reference's. -/
theorem value : Cert.algebraic_ProjInBIdeal_ProjInBRefIdeal := fun m ρ m' ρ' _ hag =>
  ⟨fun c => res (aX m c) (aW m c),
    run_kernel m ρ,
    (θ_run Cert.ProjInBRefIdeal.defs _ _).mono (fun r h c => by
      obtain ⟨e0, e1⟩ := hag c
      refine ⟨(h c).1.trans ?_, (h c).2⟩
      · rw [Cert.ProjInBRefIdeal.Read.val_main_v4_eq, e0, e1]
        exact ref_res _ _)
      (Cert.ProjInBRefIdeal.Value.run (F := Ideal) m' ρ')⟩

end Cert.ProjInBProof
end
-- ==== Proof.ProjKvProof.lean ====
/- The keys and values of the memory. -/
module
public import Idealize.ShloMosaic.Lib.Pointwise
public import Idealize.ShloMosaic.Lib.Pipeline.ValueKit
public import proofs.«01_k».proof.Defs
public import proofs.«01_k».proof.Proof.Gen.ProjKv.Frame
public import proofs.«01_k».proof.Proof.Gen.ProjKvIdeal.Value
public import proofs.«01_k».proof.Proof.Gen.ProjKvRefIdeal.Run
public import proofs.«01_k».proof.Proof.Gen.ProjKvRefIdeal.Read
@[expose] public section
set_option maxRecDepth 16384
noncomputable section
namespace Cert.ProjKvProof
open Cert.ProjKvIdeal Cert.ProjKvIdeal.Gen Idealize.ShloMosaic Idealize.ShloMosaic.TcCoe Idealize.SL.Sem
open Idealize.ShloMosaic.Pipeline (Dat)

/-- The kernel's sum starts at zero. -/
theorem pay1_apply (y : S256x1024.Idx) : k0_pay1 (F := Ideal) y = 0 := by
  pointwise [k0_pay1]

/-- The products one grid point sums for entry `y` of its block. -/
def blk (x0 : Vec Ideal S256x2048 .bf16) (x1 : Vec Ideal S1x2048x1024 .bf16) (y : S256x1024.Idx) : EReal :=
  ∑ k : Fin 2048, x0 (ix2 (y 0) k) * x1 (ix3 0 k (y 1))

/-- One grid point adds its sum to what the block held. -/
theorem pay2_apply (a : Vec Ideal S256x1024 .f32) (x0 : Vec Ideal S256x2048 .bf16) (x1 : Vec Ideal S1x2048x1024 .bf16) (y : S256x1024.Idx) :
    k0_pay2 (F := Ideal) a x0 x1 y = a y + blk x0 x1 y := by
  obtain ⟨r, d, rfl⟩ : ∃ (r : Fin 256) (d : Fin 1024), y = ix2 r d := ⟨y 0, y 1, eq_ix2 y⟩
  unfold blk
  pointwise [k0_pay2]

/-- The finished sum is stored as it is. -/
theorem pay3_apply (a : Vec Ideal S256x1024 .f32) (y : S256x1024.Idx) : k0_pay3 (F := Ideal) a y = a y := by
  obtain ⟨r, d, rfl⟩ : ∃ (r : Fin 256) (d : Fin 1024), y = ix2 r d := ⟨y 0, y 1, eq_ix2 y⟩
  pointwise [k0_pay3]

/-- Entry `y` of the product of `x` with `w`. -/
def prod (x : Vec Ideal S256x2048 .bf16) (w : Vec Ideal S1x2048x1024 .bf16) (y : S256x1024.Idx) : EReal :=
  ∑ k : Fin 2048, x (ix2 (y 0) k) * w (ix3 ⟨(y 1).val / 1024, by have := (y 1).isLt; simp at this; omega⟩ k ⟨(y 1).val % 1024, Nat.mod_lt _ (by decide)⟩)

/-- The result the call leaves. -/
def res (x : Vec Ideal S256x2048 .bf16) (w : Vec Ideal S1x2048x1024 .bf16) : Vec Ideal S256x1024 .bf16 := prod x w

variable (m : (ℓ : Loc nD τ sig) → Buf (Elt Ideal) ℓ) (c : Dev nD)

/-- The arguments. -/
abbrev aX : Vec Ideal S256x2048 .bf16 := m ((c.tc : Thread nD τ).loc main_arg0)
abbrev aW : Vec Ideal S1x2048x1024 .bf16 := m ((c.tc : Thread nD τ).loc main_arg1)

theorem idx0 : ∀ t : Fin cfg0.N, win0_0.index t = ![0, 0] := by decide +kernel
theorem idx1 : ∀ t : Fin cfg0.N, win0_1.index t = ![0, 0, 0] := by decide +kernel
theorem idx2 : ∀ t : Fin cfg0.N, win0_2.index t = ![0, 0] := by decide +kernel

theorem ltN (t : Fin cfg0.N) : t.val < 1 := lt_of_lt_of_eq t.isLt (show cfg0.N = 1 from N_0)

/-- A grid point's sum is the whole sum. -/
theorem sum_blk (t : Fin cfg0.N) (y : S256x1024.Idx) : blk (iblk m c 0 t) (iblk m c 1 t) y = prod (aX m c) (aW m c) ((win0_2.blk t).view.emb y) := by
  have hN := ltN t
  unfold blk prod
  refine Finset.sum_congr rfl fun k _ => ?_
  congr 1 <;> blk_ext [iblk, V, idx0, idx1, idx2 t] <;> omega

/-- What a grid point stores. -/
theorem out2 (t : Fin cfg0.N) (y : S256x1024.Idx) :
    (outsAt0 m c t) y = (blk (iblk m c 0 t) (iblk m c 1 t) y : EReal) := by
  unfold outsAt0
  frame_out
  simp only [pay3_apply, pay2_apply, pay1_apply, zero_add]

/-- The result array after the run. -/
theorem arr2 : (dats m 0 c).arrAt 2 cfg0.N = res (aX m c) (aW m c) := by
  refine (dats m 0 c).arrAt_eq_of_covers 2 _ (by decide +kernel) fun t hf y => ?_
  blk_simp
  rw [after0_2, out2, sum_blk]
  unfold res
  rfl

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.ProjKvRefIdeal.Read

/-- The reference's value is the same. -/
theorem ref_res (x0 : Vec Ideal S256x2048 .bf16) (x1 : Vec Ideal S1x2048x1024 .bf16) : val_main_v4 (F := Ideal) x0 x1 = res x0 x1 := by
  funext y
  obtain ⟨r, d, rfl⟩ : ∃ r d, y = ix2 r d := ⟨_, _, eq_ix2 y⟩
  pointwise [val_main_v0, val_main_v1, val_main_v2, val_main_v3, val_main_v4]
  unfold res prod
  have hd : d.val < 1024 := d.isLt
  refine Finset.sum_congr rfl fun k _ => congrArg₂ (fun i j => x0 (ix2 r k) * x1 (ix3 i k j)) (Fin.ext ?_) (Fin.ext ?_) <;>
    simp only [ix2_0, ix2_1] <;> omega

end

/-- The reference runs, keeps its arguments and leaves every semaphore at zero. -/
theorem ref_frame : Cert.quiescent_ProjKvRefIdeal := fun m ρ _ =>
  (θ_run Cert.ProjKvRefIdeal.defs _ _).mono (fun r h => ⟨fun c => (h c).2, sem_eq_zero_of_no_sems (by decide) r.2⟩)
    (Cert.ProjKvRefIdeal.Value.run (F := Ideal) m ρ)

/-- The kernel's results are the reference's. -/
theorem value : Cert.algebraic_ProjKvIdeal_ProjKvRefIdeal := fun m ρ m' ρ' _ hag =>
  ⟨fun c => res (aX m c) (aW m c),
    run_kernel m ρ,
    (θ_run Cert.ProjKvRefIdeal.defs _ _).mono (fun r h c => by
      obtain ⟨e0, e1⟩ := hag c
      refine ⟨(h c).1.trans ?_, (h c).2⟩
      · rw [Cert.ProjKvRefIdeal.Read.val_main_v4_eq, e0, e1]
        exact ref_res _ _)
      (Cert.ProjKvRefIdeal.Value.run (F := Ideal) m' ρ')⟩

end Cert.ProjKvProof
end
-- ==== Proof.ProjOutProof.lean ====
/- The product out of a mixing layer. -/
module
public import Idealize.ShloMosaic.Lib.Pointwise
public import Idealize.ShloMosaic.Lib.Pipeline.ValueKit
public import proofs.«01_k».proof.Defs
public import proofs.«01_k».proof.Proof.Gen.ProjOut.Frame
public import proofs.«01_k».proof.Proof.Gen.ProjOutIdeal.Value
public import proofs.«01_k».proof.Proof.Gen.ProjOutRefIdeal.Run
public import proofs.«01_k».proof.Proof.Gen.ProjOutRefIdeal.Read
@[expose] public section
set_option maxRecDepth 16384
noncomputable section
namespace Cert.ProjOutProof
open Cert.ProjOutIdeal Cert.ProjOutIdeal.Gen Idealize.ShloMosaic Idealize.ShloMosaic.TcCoe Idealize.SL.Sem
open Idealize.ShloMosaic.Pipeline (Dat)

/-- The kernel's sum starts at zero. -/
theorem pay1_apply (y : S1024x512.Idx) : k0_pay1 (F := Ideal) y = 0 := by
  pointwise [k0_pay1]

/-- The products one grid point sums for entry `y` of its block. -/
def blk (x0 : Vec Ideal S1024x1536 .bf16) (x1 : Vec Ideal S1x1536x512 .bf16) (y : S1024x512.Idx) : EReal :=
  ∑ k : Fin 1536, x0 (ix2 (y 0) k) * x1 (ix3 0 k (y 1))

/-- One grid point adds its sum to what the block held. -/
theorem pay2_apply (a : Vec Ideal S1024x512 .f32) (x0 : Vec Ideal S1024x1536 .bf16) (x1 : Vec Ideal S1x1536x512 .bf16) (y : S1024x512.Idx) :
    k0_pay2 (F := Ideal) a x0 x1 y = a y + blk x0 x1 y := by
  obtain ⟨r, d, rfl⟩ : ∃ (r : Fin 1024) (d : Fin 512), y = ix2 r d := ⟨y 0, y 1, eq_ix2 y⟩
  unfold blk
  pointwise [k0_pay2]

/-- Entry `y` of the product of `x` with `w`; the columns lie in four groups. -/
def prod (x : Vec Ideal S4096x1536 .bf16) (w : Vec Ideal S4x1536x512 .bf16) (y : S4096x2048.Idx) : EReal :=
  ∑ k : Fin 1536, x (ix2 (y 0) k) * w (ix3 ⟨(y 1).val / 512, by have := (y 1).isLt; simp at this; omega⟩ k ⟨(y 1).val % 512, Nat.mod_lt _ (by decide)⟩)

/-- The result the call leaves. -/
def res (x : Vec Ideal S4096x1536 .bf16) (w : Vec Ideal S4x1536x512 .bf16) : Vec Ideal S4096x2048 .f32 := prod x w

variable (m : (ℓ : Loc nD τ sig) → Buf (Elt Ideal) ℓ) (c : Dev nD)

/-- The arguments. -/
abbrev aX : Vec Ideal S4096x1536 .bf16 := m ((c.tc : Thread nD τ).loc main_arg0)
abbrev aW : Vec Ideal S4x1536x512 .bf16 := m ((c.tc : Thread nD τ).loc main_arg1)

theorem idx0 : ∀ t : Fin cfg0.N, win0_0.index t = ![t.val / 4, 0] := by decide +kernel
theorem idx1 : ∀ t : Fin cfg0.N, win0_1.index t = ![t.val % 4, 0, 0] := by decide +kernel
theorem idx2 : ∀ t : Fin cfg0.N, win0_2.index t = ![t.val / 4, t.val % 4] := by decide +kernel

theorem ltN (t : Fin cfg0.N) : t.val < 16 := lt_of_lt_of_eq t.isLt (show cfg0.N = 16 from N_0)

/-- A grid point's sum is the whole sum. -/
theorem sum_blk (t : Fin cfg0.N) (y : S1024x512.Idx) : blk (iblk m c 0 t) (iblk m c 1 t) y = prod (aX m c) (aW m c) ((win0_2.blk t).view.emb y) := by
  have hN := ltN t
  unfold blk prod
  refine Finset.sum_congr rfl fun k _ => ?_
  congr 1 <;> blk_ext [iblk, V, idx0, idx1, idx2 t] <;> omega

/-- What a grid point stores. -/
theorem out2 (t : Fin cfg0.N) (y : S1024x512.Idx) :
    (outsAt0 m c t) y = (blk (iblk m c 0 t) (iblk m c 1 t) y : EReal) := by
  unfold outsAt0
  frame_out
  simp only [pay2_apply, pay1_apply, zero_add]

/-- The result array after the run. -/
theorem arr2 : (dats m 0 c).arrAt 2 cfg0.N = res (aX m c) (aW m c) := by
  refine (dats m 0 c).arrAt_eq_of_covers 2 _ (by decide +kernel) fun t hf y => ?_
  blk_simp
  rw [after0_2, out2, sum_blk]
  unfold res
  rfl

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.ProjOutRefIdeal.Read

/-- The reference's value is the same. -/
theorem ref_res (x0 : Vec Ideal S4096x1536 .bf16) (x1 : Vec Ideal S4x1536x512 .bf16) : val_main_v4 (F := Ideal) x0 x1 = res x0 x1 := by
  funext y
  obtain ⟨r, d, rfl⟩ : ∃ r d, y = ix2 r d := ⟨_, _, eq_ix2 y⟩
  pointwise [val_main_v0, val_main_v1, val_main_v2, val_main_v3, val_main_v4]
  unfold res prod
  rfl

end

/-- The reference runs, keeps its arguments and leaves every semaphore at zero. -/
theorem ref_frame : Cert.quiescent_ProjOutRefIdeal := fun m ρ _ =>
  (θ_run Cert.ProjOutRefIdeal.defs _ _).mono (fun r h => ⟨fun c => (h c).2, sem_eq_zero_of_no_sems (by decide) r.2⟩)
    (Cert.ProjOutRefIdeal.Value.run (F := Ideal) m ρ)

/-- The kernel's results are the reference's. -/
theorem value : Cert.algebraic_ProjOutIdeal_ProjOutRefIdeal := fun m ρ m' ρ' _ hag =>
  ⟨fun c => res (aX m c) (aW m c),
    run_kernel m ρ,
    (θ_run Cert.ProjOutRefIdeal.defs _ _).mono (fun r h c => by
      obtain ⟨e0, e1⟩ := hag c
      refine ⟨(h c).1.trans ?_, (h c).2⟩
      · rw [Cert.ProjOutRefIdeal.Read.val_main_v4_eq, e0, e1]
        exact ref_res _ _)
      (Cert.ProjOutRefIdeal.Value.run (F := Ideal) m' ρ')⟩

end Cert.ProjOutProof
end
-- ==== Proof.GradOutProof.lean ====
/- The gradient of the weight out of a mixing layer: a product over the rows. -/
module
public import Idealize.ShloMosaic.Lib.Pointwise
public import Idealize.ShloMosaic.Lib.Pipeline.ValueKit
public import proofs.«01_k».proof.Defs
public import proofs.«01_k».proof.Proof.Gen.GradOut.Frame
public import proofs.«01_k».proof.Proof.Gen.GradOutIdeal.Value
public import proofs.«01_k».proof.Proof.Gen.GradOutRefIdeal.Run
public import proofs.«01_k».proof.Proof.Gen.GradOutRefIdeal.Read
@[expose] public section
set_option maxRecDepth 16384
noncomputable section
namespace Cert.GradOutProof
open Cert.GradOutIdeal Cert.GradOutIdeal.Gen Idealize.ShloMosaic Idealize.ShloMosaic.TcCoe Idealize.SL.Sem
open Idealize.ShloMosaic.Pipeline (Dat)

/-- The kernel's sum starts at zero. -/
theorem pay1_apply (y : S1536x512.Idx) : k0_pay1 (F := Ideal) y = 0 := by
  pointwise [k0_pay1]

/-- The products one grid point sums for entry `y` of its block. -/
def blk (x0 : Vec Ideal S2048x1536 .bf16) (x1 : Vec Ideal S2048x512 .bf16) (y : S1536x512.Idx) : EReal :=
  ∑ k : Fin 2048, x0 (ix2 k (y 0)) * x1 (ix2 k (y 1))

/-- One grid point adds its sum to what the block held. -/
theorem pay2_apply (a : Vec Ideal S1536x512 .f32) (x0 : Vec Ideal S2048x1536 .bf16) (x1 : Vec Ideal S2048x512 .bf16) (y : S1536x512.Idx) :
    k0_pay2 (F := Ideal) a x0 x1 y = a y + blk x0 x1 y := by
  obtain ⟨r, d, rfl⟩ : ∃ (r : Fin 1536) (d : Fin 512), y = ix2 r d := ⟨y 0, y 1, eq_ix2 y⟩
  unfold blk
  pointwise [k0_pay2]

/-- The finished sum is stored as it is. -/
theorem pay3_apply (a : Vec Ideal S1536x512 .f32) (y : S1x1536x512.Idx) :
    k0_pay3 (F := Ideal) a y = a (ix2 (y 1) (y 2)) := by
  obtain ⟨z, r, d, rfl⟩ : ∃ (z : Fin 1) (r : Fin 1536) (d : Fin 512), y = ix3 z r d := ⟨y 0, y 1, y 2, eq_ix3 y⟩
  pointwise [k0_pay3]

/-- Entry `y` of the product of `x` transposed with `w`; the columns of `w` lie in four groups. -/
def prod (x : Vec Ideal S4096x1536 .bf16) (w : Vec Ideal S4096x2048 .bf16) (y : S4x1536x512.Idx) : EReal :=
  ∑ t : Fin 4096, x (ix2 t (y 1)) * w (ix2 t ⟨(y 0).val * 512 + (y 2).val, by have := (y 0).isLt; have := (y 2).isLt; simp at *; omega⟩)

/-- The result the call leaves. -/
def res (x : Vec Ideal S4096x1536 .bf16) (w : Vec Ideal S4096x2048 .bf16) : Vec Ideal S4x1536x512 .bf16 := prod x w

variable (m : (ℓ : Loc nD τ sig) → Buf (Elt Ideal) ℓ) (c : Dev nD)

/-- The arguments. -/
abbrev aX : Vec Ideal S4096x1536 .bf16 := m ((c.tc : Thread nD τ).loc main_arg0)
abbrev aW : Vec Ideal S4096x2048 .bf16 := m ((c.tc : Thread nD τ).loc main_arg1)

theorem idx0 : ∀ t : Fin cfg0.N, win0_0.index t = ![t.val % 2, 0] := by decide +kernel
theorem idx1 : ∀ t : Fin cfg0.N, win0_1.index t = ![t.val % 2, t.val / 2] := by decide +kernel
theorem idx2 : ∀ t : Fin cfg0.N, win0_2.index t = ![t.val / 2, 0, 0] := by decide +kernel

theorem ltN (t : Fin cfg0.N) : t.val < 8 := lt_of_lt_of_eq t.isLt (show cfg0.N = 8 from N_0)

/-- At the last point of a run of 2 the scratch holds the run's sums. -/
theorem acc (t : Fin cfg0.N) (h : t.val % 2 = 2 - 1) (y : S1536x512.Idx) :
    (outsAt0 m c t.val t.isLt).2 y = (0 : EReal) + ∑ s : Fin 2,
      blk (iblk m c 0 ⟨2 * (t.val / 2) + s.val, Pipeline.run_point_lt_of_flush t h s⟩) (iblk m c 1 ⟨2 * (t.val / 2) + s.val, Pipeline.run_point_lt_of_flush t h s⟩) y :=
  Pipeline.eq_sum_fin_of_reset_step_apply_of_flush (M := EReal) (fun n h => (outsAt0 m c n h).2) 2 (fun _ => 0)
    (fun t y => blk (iblk m c 0 t) (iblk m c 1 t) y)
    (fun t h y => by
      rw [outsAt0_A m c t h (by omega)]
      frame_out
      rw [pay2_apply, pay1_apply])
    (fun t h y => by
      rw [outsAt0_B m c t h (by omega)]
      frame_out
      rw [pay2_apply]
      exact congrArg (fun z => z + blk (iblk m c 0 t) (iblk m c 1 t) y) (congrFun ((Memref.isWhole_whole cc0_scratch0).read_unread _) y)) t h y

/-- What that point stores. -/
theorem out (t : Fin cfg0.N) (h : t.val % 2 = 1) (y : S1x1536x512.Idx) :
    (outsAt0 m c t.val t.isLt).1 y = ((outsAt0 m c t.val t.isLt).2 (ix2 (y 1) (y 2)) : EReal) := by
  rw [outsAt0_B m c t (by omega) h]
  frame_out
  rw [pay3_apply]

/-- The result array after the run. -/
theorem arr2 : (dats m 0 c).arrAt 2 cfg0.N = res (aX m c) (aW m c) := by
  refine (dats m 0 c).arrAt_eq_of_covers 2 _ (by decide +kernel) fun t hf y => ?_
  blk_simp
  have ht := (flush0_2 t).mp hf
  have hN := ltN t
  rw [after0_2, out m c t ht, acc m c t ht, zero_add]
  unfold res prod blk
  refine Fin.sum_mul_add_congr fun s k hk => ?_
  congr 1 <;> blk_ext [iblk, V, idx0, idx1, idx2 t] <;> omega

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.GradOutRefIdeal.Read

/-- The reference's value is the same. -/
theorem ref_res (x0 : Vec Ideal S4096x1536 .bf16) (x1 : Vec Ideal S4096x2048 .bf16) : val_main_v8 (F := Ideal) x0 x1 = res x0 x1 := by
  funext y
  obtain ⟨z, r, d, rfl⟩ : ∃ z r d, y = ix3 z r d := ⟨_, _, _, eq_ix3 y⟩
  pointwise [val_main_v0, val_main_v1, val_main_cst, val_main_v2, val_main_v3, val_main_v4, val_main_v5, val_main_v6, val_main_v7, val_main_v8]
  unfold res prod
  exact Finset.sum_congr rfl fun k _ => mul_comm _ _

end

/-- The reference runs, keeps its arguments and leaves every semaphore at zero. -/
theorem ref_frame : Cert.quiescent_GradOutRefIdeal := fun m ρ _ =>
  (θ_run Cert.GradOutRefIdeal.defs _ _).mono (fun r h => ⟨fun c => (h c).2, sem_eq_zero_of_no_sems (by decide) r.2⟩)
    (Cert.GradOutRefIdeal.Value.run (F := Ideal) m ρ)

/-- The kernel's results are the reference's. -/
theorem value : Cert.algebraic_GradOutIdeal_GradOutRefIdeal := fun m ρ m' ρ' _ hag =>
  ⟨fun c => res (aX m c) (aW m c),
    run_kernel m ρ,
    (θ_run Cert.GradOutRefIdeal.defs _ _).mono (fun r h c => by
      obtain ⟨e0, e1⟩ := hag c
      refine ⟨(h c).1.trans ?_, (h c).2⟩
      · rw [Cert.GradOutRefIdeal.Read.val_main_v8_eq, e0, e1]
        exact ref_res _ _)
      (Cert.GradOutRefIdeal.Value.run (F := Ideal) m' ρ')⟩

end Cert.GradOutProof
end
-- ==== Proof.ProjOutBwdProof.lean ====
/- The gradient through the product out of a mixing layer. -/
module
public import Idealize.ShloMosaic.Lib.Pointwise
public import Idealize.ShloMosaic.Lib.Pipeline.ValueKit
public import proofs.«01_k».proof.Defs
public import proofs.«01_k».proof.Proof.Gen.ProjOutBwd.Frame
public import proofs.«01_k».proof.Proof.Gen.ProjOutBwdIdeal.Value
public import proofs.«01_k».proof.Proof.Gen.ProjOutBwdRefIdeal.Run
public import proofs.«01_k».proof.Proof.Gen.ProjOutBwdRefIdeal.Read
@[expose] public section
set_option maxRecDepth 16384
noncomputable section
namespace Cert.ProjOutBwdProof
open Cert.ProjOutBwdIdeal Cert.ProjOutBwdIdeal.Gen Idealize.ShloMosaic Idealize.ShloMosaic.TcCoe Idealize.SL.Sem
open Idealize.ShloMosaic.Pipeline (Dat)

/-- The kernel's sum starts at zero. -/
theorem pay1_apply (y : S1024x1536.Idx) : k0_pay1 (F := Ideal) y = 0 := by
  pointwise [k0_pay1]

/-- The products one grid point sums for entry `y` of its block. -/
def blk (x0 : Vec Ideal S1024x512 .bf16) (x1 : Vec Ideal S1x1536x512 .bf16) (y : S1024x1536.Idx) : EReal :=
  ∑ k : Fin 512, x0 (ix2 (y 0) k) * x1 (ix3 0 (y 1) k)

/-- One grid point adds its sum to what the block held. -/
theorem pay2_apply (a : Vec Ideal S1024x1536 .f32) (x0 : Vec Ideal S1024x512 .bf16) (x1 : Vec Ideal S1x1536x512 .bf16) (y : S1024x1536.Idx) :
    k0_pay2 (F := Ideal) a x0 x1 y = a y + blk x0 x1 y := by
  obtain ⟨r, d, rfl⟩ : ∃ (r : Fin 1024) (d : Fin 1536), y = ix2 r d := ⟨y 0, y 1, eq_ix2 y⟩
  unfold blk
  pointwise [k0_pay2]

/-- Entry `y` of the product of `x` with `w` transposed; the columns lie in four groups. -/
def prod (x : Vec Ideal S4096x2048 .bf16) (w : Vec Ideal S4x1536x512 .bf16) (y : S4096x1536.Idx) : EReal :=
  ∑ n : Fin 2048, x (ix2 (y 0) n) * w (ix3 ⟨n.val / 512, by have := n.isLt; omega⟩ (y 1) ⟨n.val % 512, Nat.mod_lt _ (by decide)⟩)

/-- The result the call leaves. -/
def res (x : Vec Ideal S4096x2048 .bf16) (w : Vec Ideal S4x1536x512 .bf16) : Vec Ideal S4096x1536 .f32 := prod x w

variable (m : (ℓ : Loc nD τ sig) → Buf (Elt Ideal) ℓ) (c : Dev nD)

/-- The arguments. -/
abbrev aX : Vec Ideal S4096x2048 .bf16 := m ((c.tc : Thread nD τ).loc main_arg0)
abbrev aW : Vec Ideal S4x1536x512 .bf16 := m ((c.tc : Thread nD τ).loc main_arg1)

theorem idx0 : ∀ t : Fin cfg0.N, win0_0.index t = ![t.val / 4, t.val % 4] := by decide +kernel
theorem idx1 : ∀ t : Fin cfg0.N, win0_1.index t = ![t.val % 4, 0, 0] := by decide +kernel
theorem idx2 : ∀ t : Fin cfg0.N, win0_2.index t = ![t.val / 4, 0] := by decide +kernel

theorem ltN (t : Fin cfg0.N) : t.val < 16 := lt_of_lt_of_eq t.isLt (show cfg0.N = 16 from N_0)

/-- At the last point of a run of 4 the scratch holds the run's sums. -/
theorem acc (t : Fin cfg0.N) (h : t.val % 4 = 4 - 1) (y : S1024x1536.Idx) :
    (outsAt0 m c t.val t.isLt).2 y = (0 : EReal) + ∑ s : Fin 4,
      blk (iblk m c 0 ⟨4 * (t.val / 4) + s.val, Pipeline.run_point_lt_of_flush t h s⟩) (iblk m c 1 ⟨4 * (t.val / 4) + s.val, Pipeline.run_point_lt_of_flush t h s⟩) y :=
  Pipeline.eq_sum_fin_of_reset_step_apply_of_flush (M := EReal) (fun n h => (outsAt0 m c n h).2) 4 (fun _ => 0)
    (fun t y => blk (iblk m c 0 t) (iblk m c 1 t) y)
    (fun t h y => by
      rw [outsAt0_A m c t h (by omega)]
      frame_out
      rw [pay2_apply, pay1_apply])
    (fun t h y => by
      by_cases h' : t.val % 4 = 3
      · rw [outsAt0_C m c t h h']
        frame_out
        rw [pay2_apply]
        exact congrArg (fun z => z + blk (iblk m c 0 t) (iblk m c 1 t) y) (congrFun ((Memref.isWhole_whole cc0_scratch0).read_unread _) y)
      · rw [outsAt0_B m c t h h']
        frame_out
        rw [pay2_apply]
        exact congrArg (fun z => z + blk (iblk m c 0 t) (iblk m c 1 t) y) (congrFun ((Memref.isWhole_whole cc0_scratch0).read_unread _) y)) t h y

/-- What that point stores. -/
theorem out (t : Fin cfg0.N) (h : t.val % 4 = 3) (y : S1024x1536.Idx) :
    (outsAt0 m c t.val t.isLt).1 y = ((outsAt0 m c t.val t.isLt).2 y : EReal) := by
  rw [outsAt0_C m c t (by omega) h]
  frame_out

/-- The result array after the run. -/
theorem arr2 : (dats m 0 c).arrAt 2 cfg0.N = res (aX m c) (aW m c) := by
  refine (dats m 0 c).arrAt_eq_of_covers 2 _ (by decide +kernel) fun t hf y => ?_
  blk_simp
  have ht := (flush0_2 t).mp hf
  have hN := ltN t
  rw [after0_2, out m c t ht, acc m c t ht, zero_add]
  unfold res prod blk
  refine Fin.sum_mul_add_congr fun s k hk => ?_
  congr 1 <;> blk_ext [iblk, V, idx0, idx1, idx2 t] <;> omega

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.ProjOutBwdRefIdeal.Read

/-- The reference's value is the same. -/
theorem ref_res (x0 : Vec Ideal S4096x2048 .bf16) (x1 : Vec Ideal S4x1536x512 .bf16) : val_main_v6 (F := Ideal) x0 x1 = res x0 x1 := by
  funext y
  obtain ⟨r, d, rfl⟩ : ∃ r d, y = ix2 r d := ⟨_, _, eq_ix2 y⟩
  pointwise [val_main_v0, val_main_v1, val_main_v2, val_main_cst, val_main_v3, val_main_v4, val_main_v5, val_main_v6]
  unfold res prod
  rfl

end

/-- The reference runs, keeps its arguments and leaves every semaphore at zero. -/
theorem ref_frame : Cert.quiescent_ProjOutBwdRefIdeal := fun m ρ _ =>
  (θ_run Cert.ProjOutBwdRefIdeal.defs _ _).mono (fun r h => ⟨fun c => (h c).2, sem_eq_zero_of_no_sems (by decide) r.2⟩)
    (Cert.ProjOutBwdRefIdeal.Value.run (F := Ideal) m ρ)

/-- The kernel's results are the reference's. -/
theorem value : Cert.algebraic_ProjOutBwdIdeal_ProjOutBwdRefIdeal := fun m ρ m' ρ' _ hag =>
  ⟨fun c => res (aX m c) (aW m c),
    run_kernel m ρ,
    (θ_run Cert.ProjOutBwdRefIdeal.defs _ _).mono (fun r h c => by
      obtain ⟨e0, e1⟩ := hag c
      refine ⟨(h c).1.trans ?_, (h c).2⟩
      · rw [Cert.ProjOutBwdRefIdeal.Read.val_main_v6_eq, e0, e1]
        exact ref_res _ _)
      (Cert.ProjOutBwdRefIdeal.Value.run (F := Ideal) m' ρ')⟩

end Cert.ProjOutBwdProof
end
-- ==== Proof.GradKvProof.lean ====
/- The gradient of the weight of the keys and values: a product over the rows. -/
module
public import Idealize.ShloMosaic.Lib.Pointwise
public import Idealize.ShloMosaic.Lib.Pipeline.ValueKit
public import proofs.«01_k».proof.Defs
public import proofs.«01_k».proof.Proof.Gen.GradKv.Frame
public import proofs.«01_k».proof.Proof.Gen.GradKvIdeal.Value
public import proofs.«01_k».proof.Proof.Gen.GradKvRefIdeal.Run
public import proofs.«01_k».proof.Proof.Gen.GradKvRefIdeal.Read
@[expose] public section
set_option maxRecDepth 16384
noncomputable section
namespace Cert.GradKvProof
open Cert.GradKvIdeal Cert.GradKvIdeal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S256x1024 .bf16) (x1 : Vec Ideal S256x1024 .bf16) (y : S1024x1024.Idx) : EReal :=
  ∑ k : Fin 256, x0 (ix2 k (y 0)) * x1 (ix2 k (y 1))

/-- One grid point adds its sum to what the block held. -/
theorem pay2_apply (a : Vec Ideal S1024x1024 .f32) (x0 : Vec Ideal S256x1024 .bf16) (x1 : Vec Ideal S256x1024 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- The finished sum is stored as it is. -/
theorem pay3_apply (a : Vec Ideal S1024x1024 .f32) (y : S1x1024x1024.Idx) :
    k0_pay3 (F := Ideal) a y = a (ix2 (y 1) (y 2)) := by
  obtain ⟨z, r, d, rfl⟩ : ∃ (z : Fin 1) (r : Fin 1024) (d : Fin 1024), y = ix3 z r d := ⟨y 0, y 1, y 2, eq_ix3 y⟩
  pointwise [k0_pay3]

/-- Entry `y` of the product of `x` transposed with `w`. -/
def prod (x : Vec Ideal S256x2048 .bf16) (w : Vec Ideal S256x1024 .bf16) (y : S1x2048x1024.Idx) : EReal :=
  ∑ t : Fin 256, x (ix2 t (y 1)) * w (ix2 t ⟨(y 0).val * 1024 + (y 2).val, by have := (y 0).isLt; have := (y 2).isLt; simp at *; omega⟩)

/-- The result the call leaves. -/
def res (x : Vec Ideal S256x2048 .bf16) (w : Vec Ideal S256x1024 .bf16) : Vec Ideal S1x2048x1024 .bf16 := prod x w

variable (m : (ℓ : Loc nD τ sig) → Buf (Elt Ideal) ℓ) (c : Dev nD)

/-- The arguments. -/
abbrev aX : Vec Ideal S256x2048 .bf16 := m ((c.tc : Thread nD τ).loc main_arg0)
abbrev aW : Vec Ideal S256x1024 .bf16 := m ((c.tc : Thread nD τ).loc main_arg1)

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![0, t.val, 0] := by decide +kernel

theorem ltN (t : Fin cfg0.N) : t.val < 2 := lt_of_lt_of_eq t.isLt (show cfg0.N = 2 from N_0)

/-- A grid point's sum is the whole sum. -/
theorem sum_blk (t : Fin cfg0.N) (y : S1x1024x1024.Idx) : blk (iblk m c 0 t) (iblk m c 1 t) (ix2 (y 1) (y 2)) = prod (aX m c) (aW m c) ((win0_2.blk t).view.emb y) := by
  have hN := ltN t
  unfold blk prod
  refine Finset.sum_congr rfl fun k _ => ?_
  congr 1 <;> blk_ext [iblk, V, idx0, idx1, idx2 t] <;> omega

/-- What a grid point stores. -/
theorem out2 (t : Fin cfg0.N) (y : S1x1024x1024.Idx) :
    (outsAt0 m c t) y = (blk (iblk m c 0 t) (iblk m c 1 t) (ix2 (y 1) (y 2)) : EReal) := by
  unfold outsAt0
  frame_out
  simp only [pay3_apply, pay2_apply, pay1_apply, zero_add]

/-- The result array after the run. -/
theorem arr2 : (dats m 0 c).arrAt 2 cfg0.N = res (aX m c) (aW m c) := by
  refine (dats m 0 c).arrAt_eq_of_covers 2 _ (by decide +kernel) fun t hf y => ?_
  blk_simp
  rw [after0_2, out2, sum_blk]
  unfold res
  rfl

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.GradKvRefIdeal.Read

/-- The reference's value is the same. -/
theorem ref_res (x0 : Vec Ideal S256x2048 .bf16) (x1 : Vec Ideal S256x1024 .bf16) : val_main_v7 (F := Ideal) x0 x1 = res x0 x1 := by
  funext y
  obtain ⟨z, r, d, rfl⟩ : ∃ z r d, y = ix3 z r d := ⟨_, _, _, eq_ix3 y⟩
  pointwise [val_main_v0, val_main_v1, val_main_cst, val_main_v2, val_main_v3, val_main_v4, val_main_v5, val_main_v6, val_main_v7]
  unfold res prod
  refine Finset.sum_congr rfl fun k _ => (mul_comm _ _).trans ?_
  refine congrArg (fun i => x0 (ix2 k r) * x1 (ix2 k i)) (Fin.ext ?_)
  have := z.isLt
  simp only [ix3_0, ix3_2]
  omega

end

/-- The reference runs, keeps its arguments and leaves every semaphore at zero. -/
theorem ref_frame : Cert.quiescent_GradKvRefIdeal := fun m ρ _ =>
  (θ_run Cert.GradKvRefIdeal.defs _ _).mono (fun r h => ⟨fun c => (h c).2, sem_eq_zero_of_no_sems (by decide) r.2⟩)
    (Cert.GradKvRefIdeal.Value.run (F := Ideal) m ρ)

/-- The kernel's results are the reference's. -/
theorem value : Cert.algebraic_GradKvIdeal_GradKvRefIdeal := fun m ρ m' ρ' _ hag =>
  ⟨fun c => res (aX m c) (aW m c),
    run_kernel m ρ,
    (θ_run Cert.GradKvRefIdeal.defs _ _).mono (fun r h c => by
      obtain ⟨e0, e1⟩ := hag c
      refine ⟨(h c).1.trans ?_, (h c).2⟩
      · rw [Cert.GradKvRefIdeal.Read.val_main_v7_eq, e0, e1]
        exact ref_res _ _)
      (Cert.GradKvRefIdeal.Value.run (F := Ideal) m' ρ')⟩

end Cert.GradKvProof
end
-- ==== Proof.GradInAProof.lean ====
/- The gradient of the weight into the dilated attention layer: a product over the rows. -/
module
public import Idealize.ShloMosaic.Lib.Pointwise
public import Idealize.ShloMosaic.Lib.Pipeline.ValueKit
public import proofs.«01_k».proof.Defs
public import proofs.«01_k».proof.Proof.Gen.GradInA.Frame
public import proofs.«01_k».proof.Proof.Gen.GradInAIdeal.Value
public import proofs.«01_k».proof.Proof.Gen.GradInARefIdeal.Run
public import proofs.«01_k».proof.Proof.Gen.GradInARefIdeal.Read
@[expose] public section
set_option maxRecDepth 16384
noncomputable section
namespace Cert.GradInAProof
open Cert.GradInAIdeal Cert.GradInAIdeal.Gen Idealize.ShloMosaic Idealize.ShloMosaic.TcCoe Idealize.SL.Sem
open Idealize.ShloMosaic.Pipeline (Dat)

/-- The kernel's sum starts at zero. -/
theorem pay1_apply (y : S512x2432.Idx) : k0_pay1 (F := Ideal) y = 0 := by
  pointwise [k0_pay1]

/-- The products one grid point sums for entry `y` of its block. -/
def blk (x0 : Vec Ideal S2048x512 .bf16) (x1 : Vec Ideal S2048x2432 .bf16) (y : S512x2432.Idx) : EReal :=
  ∑ k : Fin 2048, x0 (ix2 k (y 0)) * x1 (ix2 k (y 1))

/-- One grid point adds its sum to what the block held. -/
theorem pay2_apply (a : Vec Ideal S512x2432 .f32) (x0 : Vec Ideal S2048x512 .bf16) (x1 : Vec Ideal S2048x2432 .bf16) (y : S512x2432.Idx) :
    k0_pay2 (F := Ideal) a x0 x1 y = a y + blk x0 x1 y := by
  obtain ⟨r, d, rfl⟩ : ∃ (r : Fin 512) (d : Fin 2432), y = ix2 r d := ⟨y 0, y 1, eq_ix2 y⟩
  unfold blk
  pointwise [k0_pay2]

/-- The finished sum is stored as it is. -/
theorem pay3_apply (a : Vec Ideal S512x2432 .f32) (y : S1x512x2432.Idx) :
    k0_pay3 (F := Ideal) a y = a (ix2 (y 1) (y 2)) := by
  obtain ⟨z, r, d, rfl⟩ : ∃ (z : Fin 1) (r : Fin 512) (d : Fin 2432), y = ix3 z r d := ⟨y 0, y 1, y 2, eq_ix3 y⟩
  pointwise [k0_pay3]

/-- Entry `y` of the product of `x` transposed with `w`; the columns of `w` lie in four groups. -/
def prod (x : Vec Ideal S4096x2048 .bf16) (w : Vec Ideal S4096x9728 .bf16) (y : S4x2048x2432.Idx) : EReal :=
  ∑ t : Fin 4096, x (ix2 t (y 1)) * w (ix2 t ⟨(y 0).val * 2432 + (y 2).val, by have := (y 0).isLt; have := (y 2).isLt; simp at *; omega⟩)

/-- The result the call leaves. -/
def res (x : Vec Ideal S4096x2048 .bf16) (w : Vec Ideal S4096x9728 .bf16) : Vec Ideal S4x2048x2432 .bf16 := prod x w

variable (m : (ℓ : Loc nD τ sig) → Buf (Elt Ideal) ℓ) (c : Dev nD)

/-- The arguments. -/
abbrev aX : Vec Ideal S4096x2048 .bf16 := m ((c.tc : Thread nD τ).loc main_arg0)
abbrev aW : Vec Ideal S4096x9728 .bf16 := m ((c.tc : Thread nD τ).loc main_arg1)

theorem idx0 : ∀ t : Fin cfg0.N, win0_0.index t = ![t.val % 2, t.val / 2 % 4] := by decide +kernel
theorem idx1 : ∀ t : Fin cfg0.N, win0_1.index t = ![t.val % 2, t.val / 8] := by decide +kernel
theorem idx2 : ∀ t : Fin cfg0.N, win0_2.index t = ![t.val / 8, t.val / 2 % 4, 0] := by decide +kernel

theorem ltN (t : Fin cfg0.N) : t.val < 32 := lt_of_lt_of_eq t.isLt (show cfg0.N = 32 from N_0)

/-- At the last point of a run of 2 the scratch holds the run's sums. -/
theorem acc (t : Fin cfg0.N) (h : t.val % 2 = 2 - 1) (y : S512x2432.Idx) :
    (outsAt0 m c t.val t.isLt).2 y = (0 : EReal) + ∑ s : Fin 2,
      blk (iblk m c 0 ⟨2 * (t.val / 2) + s.val, Pipeline.run_point_lt_of_flush t h s⟩) (iblk m c 1 ⟨2 * (t.val / 2) + s.val, Pipeline.run_point_lt_of_flush t h s⟩) y :=
  Pipeline.eq_sum_fin_of_reset_step_apply_of_flush (M := EReal) (fun n h => (outsAt0 m c n h).2) 2 (fun _ => 0)
    (fun t y => blk (iblk m c 0 t) (iblk m c 1 t) y)
    (fun t h y => by
      rw [outsAt0_A m c t h (by omega)]
      frame_out
      rw [pay2_apply, pay1_apply])
    (fun t h y => by
      rw [outsAt0_B m c t h (by omega)]
      frame_out
      rw [pay2_apply]
      exact congrArg (fun z => z + blk (iblk m c 0 t) (iblk m c 1 t) y) (congrFun ((Memref.isWhole_whole cc0_scratch0).read_unread _) y)) t h y

/-- What that point stores. -/
theorem out (t : Fin cfg0.N) (h : t.val % 2 = 1) (y : S1x512x2432.Idx) :
    (outsAt0 m c t.val t.isLt).1 y = ((outsAt0 m c t.val t.isLt).2 (ix2 (y 1) (y 2)) : EReal) := by
  rw [outsAt0_B m c t (by omega) h]
  frame_out
  rw [pay3_apply]

/-- The result array after the run. -/
theorem arr2 : (dats m 0 c).arrAt 2 cfg0.N = res (aX m c) (aW m c) := by
  refine (dats m 0 c).arrAt_eq_of_covers 2 _ (by decide +kernel) fun t hf y => ?_
  blk_simp
  have ht := (flush0_2 t).mp hf
  have hN := ltN t
  rw [after0_2, out m c t ht, acc m c t ht, zero_add]
  unfold res prod blk
  refine Fin.sum_mul_add_congr fun s k hk => ?_
  congr 1 <;> blk_ext [iblk, V, idx0, idx1, idx2 t] <;> omega

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.GradInARefIdeal.Read

/-- The reference's value is the same. -/
theorem ref_res (x0 : Vec Ideal S4096x2048 .bf16) (x1 : Vec Ideal S4096x9728 .bf16) : val_main_v8 (F := Ideal) x0 x1 = res x0 x1 := by
  funext y
  obtain ⟨z, r, d, rfl⟩ : ∃ z r d, y = ix3 z r d := ⟨_, _, _, eq_ix3 y⟩
  pointwise [val_main_v0, val_main_v1, val_main_cst, val_main_v2, val_main_v3, val_main_v4, val_main_v5, val_main_v6, val_main_v7, val_main_v8]
  unfold res prod
  exact Finset.sum_congr rfl fun k _ => mul_comm _ _

end

/-- The reference runs, keeps its arguments and leaves every semaphore at zero. -/
theorem ref_frame : Cert.quiescent_GradInARefIdeal := fun m ρ _ =>
  (θ_run Cert.GradInARefIdeal.defs _ _).mono (fun r h => ⟨fun c => (h c).2, sem_eq_zero_of_no_sems (by decide) r.2⟩)
    (Cert.GradInARefIdeal.Value.run (F := Ideal) m ρ)

/-- The kernel's results are the reference's. -/
theorem value : Cert.algebraic_GradInAIdeal_GradInARefIdeal := fun m ρ m' ρ' _ hag =>
  ⟨fun c => res (aX m c) (aW m c),
    run_kernel m ρ,
    (θ_run Cert.GradInARefIdeal.defs _ _).mono (fun r h c => by
      obtain ⟨e0, e1⟩ := hag c
      refine ⟨(h c).1.trans ?_, (h c).2⟩
      · rw [Cert.GradInARefIdeal.Read.val_main_v8_eq, e0, e1]
        exact ref_res _ _)
      (Cert.GradInARefIdeal.Value.run (F := Ideal) m' ρ')⟩

end Cert.GradInAProof
end
-- ==== Proof.GradInBProof.lean ====
/- The gradient of the weight into the gated layer: a product over the rows. -/
module
public import Idealize.ShloMosaic.Lib.Pointwise
public import Idealize.ShloMosaic.Lib.Pipeline.ValueKit
public import proofs.«01_k».proof.Defs
public import proofs.«01_k».proof.Proof.Gen.GradInB.Frame
public import proofs.«01_k».proof.Proof.Gen.GradInBIdeal.Value
public import proofs.«01_k».proof.Proof.Gen.GradInBRefIdeal.Run
public import proofs.«01_k».proof.Proof.Gen.GradInBRefIdeal.Read
@[expose] public section
set_option maxRecDepth 16384
noncomputable section
namespace Cert.GradInBProof
open Cert.GradInBIdeal Cert.GradInBIdeal.Gen Idealize.ShloMosaic Idealize.ShloMosaic.TcCoe Idealize.SL.Sem
open Idealize.ShloMosaic.Pipeline (Dat)

/-- The kernel's sum starts at zero. -/
theorem pay1_apply (y : S1024x640.Idx) : k0_pay1 (F := Ideal) y = 0 := by
  pointwise [k0_pay1]

/-- The products one grid point sums for entry `y` of its block. -/
def blk (x0 : Vec Ideal S2048x1024 .bf16) (x1 : Vec Ideal S2048x640 .bf16) (y : S1024x640.Idx) : EReal :=
  ∑ k : Fin 2048, x0 (ix2 k (y 0)) * x1 (ix2 k (y 1))

/-- One grid point adds its sum to what the block held. -/
theorem pay2_apply (a : Vec Ideal S1024x640 .f32) (x0 : Vec Ideal S2048x1024 .bf16) (x1 : Vec Ideal S2048x640 .bf16) (y : S1024x640.Idx) :
    k0_pay2 (F := Ideal) a x0 x1 y = a y + blk x0 x1 y := by
  obtain ⟨r, d, rfl⟩ : ∃ (r : Fin 1024) (d : Fin 640), y = ix2 r d := ⟨y 0, y 1, eq_ix2 y⟩
  unfold blk
  pointwise [k0_pay2]

/-- The finished sum is stored as it is. -/
theorem pay3_apply (a : Vec Ideal S1024x640 .f32) (y : S1x1024x640.Idx) :
    k0_pay3 (F := Ideal) a y = a (ix2 (y 1) (y 2)) := by
  obtain ⟨z, r, d, rfl⟩ : ∃ (z : Fin 1) (r : Fin 1024) (d : Fin 640), y = ix3 z r d := ⟨y 0, y 1, y 2, eq_ix3 y⟩
  pointwise [k0_pay3]

/-- Entry `y` of the product of `x` transposed with `w`; the columns of `w` lie in four groups. -/
def prod (x : Vec Ideal S4096x2048 .bf16) (w : Vec Ideal S4096x2560 .bf16) (y : S4x2048x640.Idx) : EReal :=
  ∑ t : Fin 4096, x (ix2 t (y 1)) * w (ix2 t ⟨(y 0).val * 640 + (y 2).val, by have := (y 0).isLt; have := (y 2).isLt; simp at *; omega⟩)

/-- The result the call leaves. -/
def res (x : Vec Ideal S4096x2048 .bf16) (w : Vec Ideal S4096x2560 .bf16) : Vec Ideal S4x2048x640 .bf16 := prod x w

variable (m : (ℓ : Loc nD τ sig) → Buf (Elt Ideal) ℓ) (c : Dev nD)

/-- The arguments. -/
abbrev aX : Vec Ideal S4096x2048 .bf16 := m ((c.tc : Thread nD τ).loc main_arg0)
abbrev aW : Vec Ideal S4096x2560 .bf16 := m ((c.tc : Thread nD τ).loc main_arg1)

theorem idx0 : ∀ t : Fin cfg0.N, win0_0.index t = ![t.val % 2, t.val / 2 % 2] := by decide +kernel
theorem idx1 : ∀ t : Fin cfg0.N, win0_1.index t = ![t.val % 2, t.val / 4] := by decide +kernel
theorem idx2 : ∀ t : Fin cfg0.N, win0_2.index t = ![t.val / 4, t.val / 2 % 2, 0] := by decide +kernel

theorem ltN (t : Fin cfg0.N) : t.val < 16 := lt_of_lt_of_eq t.isLt (show cfg0.N = 16 from N_0)

/-- At the last point of a run of 2 the scratch holds the run's sums. -/
theorem acc (t : Fin cfg0.N) (h : t.val % 2 = 2 - 1) (y : S1024x640.Idx) :
    (outsAt0 m c t.val t.isLt).2 y = (0 : EReal) + ∑ s : Fin 2,
      blk (iblk m c 0 ⟨2 * (t.val / 2) + s.val, Pipeline.run_point_lt_of_flush t h s⟩) (iblk m c 1 ⟨2 * (t.val / 2) + s.val, Pipeline.run_point_lt_of_flush t h s⟩) y :=
  Pipeline.eq_sum_fin_of_reset_step_apply_of_flush (M := EReal) (fun n h => (outsAt0 m c n h).2) 2 (fun _ => 0)
    (fun t y => blk (iblk m c 0 t) (iblk m c 1 t) y)
    (fun t h y => by
      rw [outsAt0_A m c t h (by omega)]
      frame_out
      rw [pay2_apply, pay1_apply])
    (fun t h y => by
      rw [outsAt0_B m c t h (by omega)]
      frame_out
      rw [pay2_apply]
      exact congrArg (fun z => z + blk (iblk m c 0 t) (iblk m c 1 t) y) (congrFun ((Memref.isWhole_whole cc0_scratch0).read_unread _) y)) t h y

/-- What that point stores. -/
theorem out (t : Fin cfg0.N) (h : t.val % 2 = 1) (y : S1x1024x640.Idx) :
    (outsAt0 m c t.val t.isLt).1 y = ((outsAt0 m c t.val t.isLt).2 (ix2 (y 1) (y 2)) : EReal) := by
  rw [outsAt0_B m c t (by omega) h]
  frame_out
  rw [pay3_apply]

/-- The result array after the run. -/
theorem arr2 : (dats m 0 c).arrAt 2 cfg0.N = res (aX m c) (aW m c) := by
  refine (dats m 0 c).arrAt_eq_of_covers 2 _ (by decide +kernel) fun t hf y => ?_
  blk_simp
  have ht := (flush0_2 t).mp hf
  have hN := ltN t
  rw [after0_2, out m c t ht, acc m c t ht, zero_add]
  unfold res prod blk
  refine Fin.sum_mul_add_congr fun s k hk => ?_
  congr 1 <;> blk_ext [iblk, V, idx0, idx1, idx2 t] <;> omega

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

section
open Cert.GradInBRefIdeal.Read

/-- The reference's value is the same. -/
theorem ref_res (x0 : Vec Ideal S4096x2048 .bf16) (x1 : Vec Ideal S4096x2560 .bf16) : val_main_v8 (F := Ideal) x0 x1 = res x0 x1 := by
  funext y
  obtain ⟨z, r, d, rfl⟩ : ∃ z r d, y = ix3 z r d := ⟨_, _, _, eq_ix3 y⟩
  pointwise [val_main_v0, val_main_v1, val_main_cst, val_main_v2, val_main_v3, val_main_v4, val_main_v5, val_main_v6, val_main_v7, val_main_v8]
  unfold res prod
  exact Finset.sum_congr rfl fun k _ => mul_comm _ _

end

/-- The reference runs, keeps its arguments and leaves every semaphore at zero. -/
theorem ref_frame : Cert.quiescent_GradInBRefIdeal := fun m ρ _ =>
  (θ_run Cert.GradInBRefIdeal.defs _ _).mono (fun r h => ⟨fun c => (h c).2, sem_eq_zero_of_no_sems (by decide) r.2⟩)
    (Cert.GradInBRefIdeal.Value.run (F := Ideal) m ρ)

/-- The kernel's results are the reference's. -/
theorem value : Cert.algebraic_GradInBIdeal_GradInBRefIdeal := fun m ρ m' ρ' _ hag =>
  ⟨fun c => res (aX m c) (aW m c),
    run_kernel m ρ,
    (θ_run Cert.GradInBRefIdeal.defs _ _).mono (fun r h c => by
      obtain ⟨e0, e1⟩ := hag c
      refine ⟨(h c).1.trans ?_, (h c).2⟩
      · rw [Cert.GradInBRefIdeal.Read.val_main_v8_eq, e0, e1]
        exact ref_res _ _)
      (Cert.GradInBRefIdeal.Value.run (F := Ideal) m' ρ')⟩

end Cert.GradInBProof
end
-- ==== Proof.ProjInBwdAProof.lean ====
/- The gradient before the dilated attention layer: the gradient through its product, plus the residual. -/
module
public import Idealize.ShloMosaic.Lib.Pointwise
public import Idealize.ShloMosaic.Lib.Pipeline.ValueKit
public import proofs.«01_k».proof.Defs
public import proofs.«01_k».proof.Proof.Gen.ProjInBwdA.Frame
public import proofs.«01_k».proof.Proof.Gen.ProjInBwdAIdeal.Value
public import proofs.«01_k».proof.Proof.Gen.ProjInBwdARefIdeal.Run
public import proofs.«01_k».proof.Proof.Gen.ProjInBwdARefIdeal.Read
@[expose] public section
set_option maxRecDepth 16384
noncomputable section
namespace Cert.ProjInBwdAProof
open Cert.ProjInBwdAIdeal Cert.ProjInBwdAIdeal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S1024x2432 .bf16) (x1 : Vec Ideal S1x1024x2432 .bf16) (y : S1024x1024.Idx) : EReal :=
  ∑ k : Fin 2432, x0 (ix2 (y 0) k) * x1 (ix3 0 (y 1) k)

/-- One grid point adds its sum to what the block held. -/
theorem pay2_apply (a : Vec Ideal S1024x1024 .f32) (x0 : Vec Ideal S1024x2432 .bf16) (x1 : Vec Ideal S1x1024x2432 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- The finished sum plus `e`. -/
theorem pay3_apply (a e : Vec Ideal S1024x1024 .f32) (y : S1024x1024.Idx) : k0_pay3 (F := Ideal) a e y = a y + e y := by
  obtain ⟨r, d, rfl⟩ : ∃ (r : Fin 1024) (d : Fin 1024), y = ix2 r d := ⟨y 0, y 1, eq_ix2 y⟩
  pointwise [k0_pay3]

/-- Entry `y` of the product of `x` with `w` transposed; the columns lie in four groups. -/
def prod (x : Vec Ideal S4096x9728 .bf16) (w : Vec Ideal S4x2048x2432 .bf16) (y : S4096x2048.Idx) : EReal :=
  ∑ n : Fin 9728, x (ix2 (y 0) n) * w (ix3 ⟨n.val / 2432, by have := n.isLt; omega⟩ (y 1) ⟨n.val % 2432, Nat.mod_lt _ (by decide)⟩)

/-- The result: the products plus `e`. -/
def res (x : Vec Ideal S4096x9728 .bf16) (w : Vec Ideal S4x2048x2432 .bf16) (e : Vec Ideal S4096x2048 .f32) : Vec Ideal S4096x2048 .f32 :=
  fun y => prod x w y + e y

variable (m : (ℓ : Loc nD τ sig) → Buf (Elt Ideal) ℓ) (c : Dev nD)

/-- The arguments. -/
abbrev aX : Vec Ideal S4096x9728 .bf16 := m ((c.tc : Thread nD τ).loc main_arg0)
abbrev aW : Vec Ideal S4x2048x2432 .bf16 := m ((c.tc : Thread nD τ).loc main_arg1)
abbrev aE : Vec Ideal S4096x2048 .f32 := m ((c.tc : Thread nD τ).loc main_arg2)

theorem idx0 : ∀ t : Fin cfg0.N, win0_0.index t = ![t.val / 8, t.val % 4] := by decide +kernel
theorem idx1 : ∀ t : Fin cfg0.N, win0_1.index t = ![t.val % 4, t.val / 4 % 2, 0] := by decide +kernel
theorem idx2 : ∀ t : Fin cfg0.N, win0_2.index t = ![t.val / 8, t.val / 4 % 2] := by decide +kernel
theorem idx3 : ∀ t : Fin cfg0.N, win0_3.index t = ![t.val / 8, t.val / 4 % 2] := by decide +kernel

theorem ltN (t : Fin cfg0.N) : t.val < 32 := lt_of_lt_of_eq t.isLt (show cfg0.N = 32 from N_0)

/-- At the last point of a run of 4 the scratch holds the run's sums. -/
theorem acc (t : Fin cfg0.N) (h : t.val % 4 = 4 - 1) (y : S1024x1024.Idx) :
    (outsAt0 m c t.val t.isLt).2 y = (0 : EReal) + ∑ s : Fin 4,
      blk (iblk m c 0 ⟨4 * (t.val / 4) + s.val, Pipeline.run_point_lt_of_flush t h s⟩) (iblk m c 1 ⟨4 * (t.val / 4) + s.val, Pipeline.run_point_lt_of_flush t h s⟩) y :=
  Pipeline.eq_sum_fin_of_reset_step_apply_of_flush (M := EReal) (fun n h => (outsAt0 m c n h).2) 4 (fun _ => 0)
    (fun t y => blk (iblk m c 0 t) (iblk m c 1 t) y)
    (fun t h y => by
      rw [outsAt0_A m c t h (by omega)]
      frame_out
      rw [pay2_apply, pay1_apply])
    (fun t h y => by
      by_cases h' : t.val % 4 = 3
      · rw [outsAt0_C m c t h h']
        frame_out
        rw [pay2_apply]
        exact congrArg (fun z => z + blk (iblk m c 0 t) (iblk m c 1 t) y) (congrFun ((Memref.isWhole_whole cc0_scratch0).read_unread _) y)
      · rw [outsAt0_B m c t h h']
        frame_out
        rw [pay2_apply]
        exact congrArg (fun z => z + blk (iblk m c 0 t) (iblk m c 1 t) y) (congrFun ((Memref.isWhole_whole cc0_scratch0).read_unread _) y)) t h y

/-- What that point stores. -/
theorem out (t : Fin cfg0.N) (h : t.val % 4 = 3) (y : S1024x1024.Idx) :
    (outsAt0 m c t.val t.isLt).1 y = ((outsAt0 m c t.val t.isLt).2 y + iblk m c 2 t y : EReal) := by
  rw [outsAt0_C m c t (by omega) h]
  frame_out
  rw [pay3_apply]

/-- The result array after the run. -/
theorem arr3 : (dats m 0 c).arrAt 3 cfg0.N = res (aX m c) (aW m c) (aE m c) := by
  refine (dats m 0 c).arrAt_eq_of_covers 3 _ (by decide +kernel) fun t hf y => ?_
  blk_simp
  have ht := (flush0_3 t).mp hf
  have hN := ltN t
  rw [after0_3, out m c t ht, acc m c t ht, zero_add]
  unfold res prod blk
  refine congrArg₂ (fun a b : EReal => a + b) (Fin.sum_mul_add_congr fun s k hk => ?_) ?_
  · congr 1 <;> blk_ext [iblk, V, idx0, idx1, idx2 t, idx3 t] <;> omega
  · blk_ext [iblk, V, idx2 t, idx3 t]

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c) (aE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

section
open Cert.ProjInBwdARefIdeal.Read

/-- The reference's value is the same. -/
theorem ref_res (x0 : Vec Ideal S4096x9728 .bf16) (x1 : Vec Ideal S4x2048x2432 .bf16) (x2 : Vec Ideal S4096x2048 .f32) : val_main_v7 (F := Ideal) x0 x1 x2 = res x0 x1 x2 := by
  funext y
  obtain ⟨r, d, rfl⟩ : ∃ r d, y = ix2 r d := ⟨_, _, eq_ix2 y⟩
  pointwise [val_main_v0, val_main_v1, val_main_v2, val_main_cst, val_main_v3, val_main_v4, val_main_v5, val_main_v6, val_main_v7]
  unfold res prod
  rw [add_comm]
  rfl

end

/-- The reference runs, keeps its arguments and leaves every semaphore at zero. -/
theorem ref_frame : Cert.quiescent_ProjInBwdARefIdeal := fun m ρ _ =>
  (θ_run Cert.ProjInBwdARefIdeal.defs _ _).mono (fun r h => ⟨fun c => (h c).2, sem_eq_zero_of_no_sems (by decide) r.2⟩)
    (Cert.ProjInBwdARefIdeal.Value.run (F := Ideal) m ρ)

/-- The kernel's results are the reference's. -/
theorem value : Cert.algebraic_ProjInBwdAIdeal_ProjInBwdARefIdeal := fun m ρ m' ρ' _ hag =>
  ⟨fun c => res (aX m c) (aW m c) (aE m c),
    run_kernel m ρ,
    (θ_run Cert.ProjInBwdARefIdeal.defs _ _).mono (fun r h c => by
      obtain ⟨e0, e1, e2⟩ := hag c
      refine ⟨(h c).1.trans ?_, (h c).2⟩
      · rw [Cert.ProjInBwdARefIdeal.Read.val_main_v7_eq, e0, e1, e2]
        exact ref_res _ _ _)
      (Cert.ProjInBwdARefIdeal.Value.run (F := Ideal) m' ρ')⟩

end Cert.ProjInBwdAProof
end
-- ==== Proof.ProjInBwdBProof.lean ====
/- The gradient before the gated layer: the gradient through its product, plus the residual. -/
module
public import Idealize.ShloMosaic.Lib.Pointwise
public import Idealize.ShloMosaic.Lib.Pipeline.ValueKit
public import proofs.«01_k».proof.Defs
public import proofs.«01_k».proof.Proof.Gen.ProjInBwdB.Frame
public import proofs.«01_k».proof.Proof.Gen.ProjInBwdBIdeal.Value
public import proofs.«01_k».proof.Proof.Gen.ProjInBwdBRefIdeal.Run
public import proofs.«01_k».proof.Proof.Gen.ProjInBwdBRefIdeal.Read
@[expose] public section
set_option maxRecDepth 16384
noncomputable section
namespace Cert.ProjInBwdBProof
open Cert.ProjInBwdBIdeal Cert.ProjInBwdBIdeal.Gen Idealize.ShloMosaic Idealize.ShloMosaic.TcCoe Idealize.SL.Sem
open Idealize.ShloMosaic.Pipeline (Dat)

/-- The kernel's sum starts at zero. -/
theorem pay1_apply (y : S1024x1024.Idx) : k0_pay1 (F := Ideal) y = 0 := by
  pointwise [k0_pay1]

/-- The products one grid point sums for entry `y` of its block. -/
def blk (x0 : Vec Ideal S1024x640 .bf16) (x1 : Vec Ideal S1x1024x640 .bf16) (y : S1024x1024.Idx) : EReal :=
  ∑ k : Fin 640, x0 (ix2 (y 0) k) * x1 (ix3 0 (y 1) k)

/-- One grid point adds its sum to what the block held. -/
theorem pay2_apply (a : Vec Ideal S1024x1024 .f32) (x0 : Vec Ideal S1024x640 .bf16) (x1 : Vec Ideal S1x1024x640 .bf16) (y : S1024x1024.Idx) :
    k0_pay2 (F := Ideal) a x0 x1 y = a y + blk x0 x1 y := by
  obtain ⟨r, d, rfl⟩ : ∃ (r : Fin 1024) (d : Fin 1024), y = ix2 r d := ⟨y 0, y 1, eq_ix2 y⟩
  unfold blk
  pointwise [k0_pay2]

/-- The finished sum plus `e`. -/
theorem pay3_apply (a e : Vec Ideal S1024x1024 .f32) (y : S1024x1024.Idx) : k0_pay3 (F := Ideal) a e y = a y + e y := by
  obtain ⟨r, d, rfl⟩ : ∃ (r : Fin 1024) (d : Fin 1024), y = ix2 r d := ⟨y 0, y 1, eq_ix2 y⟩
  pointwise [k0_pay3]

/-- Entry `y` of the product of `x` with `w` transposed; the columns lie in four groups. -/
def prod (x : Vec Ideal S4096x2560 .bf16) (w : Vec Ideal S4x2048x640 .bf16) (y : S4096x2048.Idx) : EReal :=
  ∑ n : Fin 2560, x (ix2 (y 0) n) * w (ix3 ⟨n.val / 640, by have := n.isLt; omega⟩ (y 1) ⟨n.val % 640, Nat.mod_lt _ (by decide)⟩)

/-- The result: the products plus `e`. -/
def res (x : Vec Ideal S4096x2560 .bf16) (w : Vec Ideal S4x2048x640 .bf16) (e : Vec Ideal S4096x2048 .f32) : Vec Ideal S4096x2048 .f32 :=
  fun y => prod x w y + e y

variable (m : (ℓ : Loc nD τ sig) → Buf (Elt Ideal) ℓ) (c : Dev nD)

/-- The arguments. -/
abbrev aX : Vec Ideal S4096x2560 .bf16 := m ((c.tc : Thread nD τ).loc main_arg0)
abbrev aW : Vec Ideal S4x2048x640 .bf16 := m ((c.tc : Thread nD τ).loc main_arg1)
abbrev aE : Vec Ideal S4096x2048 .f32 := m ((c.tc : Thread nD τ).loc main_arg2)

theorem idx0 : ∀ t : Fin cfg0.N, win0_0.index t = ![t.val / 8, t.val % 4] := by decide +kernel
theorem idx1 : ∀ t : Fin cfg0.N, win0_1.index t = ![t.val % 4, t.val / 4 % 2, 0] := by decide +kernel
theorem idx2 : ∀ t : Fin cfg0.N, win0_2.index t = ![t.val / 8, t.val / 4 % 2] := by decide +kernel
theorem idx3 : ∀ t : Fin cfg0.N, win0_3.index t = ![t.val / 8, t.val / 4 % 2] := by decide +kernel

theorem ltN (t : Fin cfg0.N) : t.val < 32 := lt_of_lt_of_eq t.isLt (show cfg0.N = 32 from N_0)

/-- At the last point of a run of 4 the scratch holds the run's sums. -/
theorem acc (t : Fin cfg0.N) (h : t.val % 4 = 4 - 1) (y : S1024x1024.Idx) :
    (outsAt0 m c t.val t.isLt).2 y = (0 : EReal) + ∑ s : Fin 4,
      blk (iblk m c 0 ⟨4 * (t.val / 4) + s.val, Pipeline.run_point_lt_of_flush t h s⟩) (iblk m c 1 ⟨4 * (t.val / 4) + s.val, Pipeline.run_point_lt_of_flush t h s⟩) y :=
  Pipeline.eq_sum_fin_of_reset_step_apply_of_flush (M := EReal) (fun n h => (outsAt0 m c n h).2) 4 (fun _ => 0)
    (fun t y => blk (iblk m c 0 t) (iblk m c 1 t) y)
    (fun t h y => by
      rw [outsAt0_A m c t h (by omega)]
      frame_out
      rw [pay2_apply, pay1_apply])
    (fun t h y => by
      by_cases h' : t.val % 4 = 3
      · rw [outsAt0_C m c t h h']
        frame_out
        rw [pay2_apply]
        exact congrArg (fun z => z + blk (iblk m c 0 t) (iblk m c 1 t) y) (congrFun ((Memref.isWhole_whole cc0_scratch0).read_unread _) y)
      · rw [outsAt0_B m c t h h']
        frame_out
        rw [pay2_apply]
        exact congrArg (fun z => z + blk (iblk m c 0 t) (iblk m c 1 t) y) (congrFun ((Memref.isWhole_whole cc0_scratch0).read_unread _) y)) t h y

/-- What that point stores. -/
theorem out (t : Fin cfg0.N) (h : t.val % 4 = 3) (y : S1024x1024.Idx) :
    (outsAt0 m c t.val t.isLt).1 y = ((outsAt0 m c t.val t.isLt).2 y + iblk m c 2 t y : EReal) := by
  rw [outsAt0_C m c t (by omega) h]
  frame_out
  rw [pay3_apply]

/-- The result array after the run. -/
theorem arr3 : (dats m 0 c).arrAt 3 cfg0.N = res (aX m c) (aW m c) (aE m c) := by
  refine (dats m 0 c).arrAt_eq_of_covers 3 _ (by decide +kernel) fun t hf y => ?_
  blk_simp
  have ht := (flush0_3 t).mp hf
  have hN := ltN t
  rw [after0_3, out m c t ht, acc m c t ht, zero_add]
  unfold res prod blk
  refine congrArg₂ (fun a b : EReal => a + b) (Fin.sum_mul_add_congr fun s k hk => ?_) ?_
  · congr 1 <;> blk_ext [iblk, V, idx0, idx1, idx2 t, idx3 t] <;> omega
  · blk_ext [iblk, V, idx2 t, idx3 t]

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aX m c) (aW m c) (aE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

section
open Cert.ProjInBwdBRefIdeal.Read

/-- The reference's value is the same. -/
theorem ref_res (x0 : Vec Ideal S4096x2560 .bf16) (x1 : Vec Ideal S4x2048x640 .bf16) (x2 : Vec Ideal S4096x2048 .f32) : val_main_v7 (F := Ideal) x0 x1 x2 = res x0 x1 x2 := by
  funext y
  obtain ⟨r, d, rfl⟩ : ∃ r d, y = ix2 r d := ⟨_, _, eq_ix2 y⟩
  pointwise [val_main_v0, val_main_v1, val_main_v2, val_main_cst, val_main_v3, val_main_v4, val_main_v5, val_main_v6, val_main_v7]
  unfold res prod
  rw [add_comm]
  rfl

end

/-- The reference runs, keeps its arguments and leaves every semaphore at zero. -/
theorem ref_frame : Cert.quiescent_ProjInBwdBRefIdeal := fun m ρ _ =>
  (θ_run Cert.ProjInBwdBRefIdeal.defs _ _).mono (fun r h => ⟨fun c => (h c).2, sem_eq_zero_of_no_sems (by decide) r.2⟩)
    (Cert.ProjInBwdBRefIdeal.Value.run (F := Ideal) m ρ)

/-- The kernel's results are the reference's. -/
theorem value : Cert.algebraic_ProjInBwdBIdeal_ProjInBwdBRefIdeal := fun m ρ m' ρ' _ hag =>
  ⟨fun c => res (aX m c) (aW m c) (aE m c),
    run_kernel m ρ,
    (θ_run Cert.ProjInBwdBRefIdeal.defs _ _).mono (fun r h c => by
      obtain ⟨e0, e1, e2⟩ := hag c
      refine ⟨(h c).1.trans ?_, (h c).2⟩
      · rw [Cert.ProjInBwdBRefIdeal.Read.val_main_v7_eq, e0, e1, e2]
        exact ref_res _ _ _)
      (Cert.ProjInBwdBRefIdeal.Value.run (F := Ideal) m' ρ')⟩

end Cert.ProjInBwdBProof
end
-- ==== Proof.MemSpec.lean ====
/- The gradients of one head of the memory attention, row by row, as functions of extended reals. -/
module
public import Idealize.ShloMosaic.Lib.ValueIdx
import Idealize.ShloMosaic.Lib.IdealHost
@[expose] public section
set_option maxRecDepth 16384
noncomputable section
namespace Cert.Mem
open Idealize.ShloMosaic

/-- The scale of the scores: the literal both programs print for `128 ** -0.5`. -/
def kap : EReal := Ideal.ofBits .f32 0x3DB504F3#32

/-- The initial value of a maximum. -/
def ninf : EReal := Ideal.ofBits .f32 0xFF800000#32

/-- Scores of one query against the 256 keys. -/
def score (q : Fin 128 → EReal) (k : Fin 256 → Fin 128 → EReal) (j : Fin 256) : EReal := (∑ d, q d * k j d) * kap

/-- The maximum of a row of scores. -/
def rmax (s : Fin 256 → EReal) : EReal := Finset.univ.fold max ninf s

/-- The exponentials of a row of scores, shifted by its maximum. -/
def ex (s : Fin 256 → EReal) (j : Fin 256) : EReal := Ideal.exp (s j - rmax s)

/-- The softmax of a row of scores. -/
def prob (s : Fin 256 → EReal) (j : Fin 256) : EReal := Ideal.div (ex s j) (∑ j', ex s j')

/-- The gradient of the unscaled scores, from the gradient `dp` of the probabilities: the softmax's row correction. -/
def dscore (s dp : Fin 256 → EReal) (j : Fin 256) : EReal := prob s j * (dp j - ∑ j', prob s j' * dp j') * kap

/-- The same gradient as differentiating `e / z` and `z = ∑ e` one after the other writes it. -/
def dscoreR (s dp : Fin 256 → EReal) (j : Fin 256) : EReal :=
  (Ideal.div (dp j) (∑ j', ex s j')
    + -(∑ j', dp j' * Ideal.div 1 ((∑ j', ex s j') * (∑ j', ex s j')) * ex s j')) * ex s j * kap

/-! ### One row of the four heads -/

/-- Column `d` of head `h` among the 512 columns of the queries. -/
def col (h : Fin 4) (d : Fin 128) : Fin 512 := ⟨128 * h.val + d.val, by omega⟩
/-- Column `d` of head `h`'s key among the 1024 columns of keys and values. -/
def colK (h : Fin 4) (d : Fin 128) : Fin 1024 := ⟨128 * h.val + d.val, by omega⟩
/-- Column `d` of head `h`'s value among the 1024 columns of keys and values. -/
def colV (h : Fin 4) (d : Fin 128) : Fin 1024 := ⟨512 + (128 * h.val + d.val), by omega⟩

/-- Head `h`'s scores of the row `q` of queries. -/
def hscore (q : Fin 512 → EReal) (kv : Fin 256 → Fin 1024 → EReal) (h : Fin 4) : Fin 256 → EReal :=
  score (fun d => q (col h d)) fun j d => kv j (colK h d)

/-- The gradient of head `h`'s probabilities, from the row `o` of the output's gradient. -/
def hdp (kv : Fin 256 → Fin 1024 → EReal) (o : Fin 512 → EReal) (h : Fin 4) (j : Fin 256) : EReal :=
  ∑ d, o (col h d) * kv j (colV h d)

/-- The gradient of head `h`'s unscaled scores. -/
def hds (q : Fin 512 → EReal) (kv : Fin 256 → Fin 1024 → EReal) (o : Fin 512 → EReal) (h : Fin 4) : Fin 256 → EReal :=
  dscore (hscore q kv h) (hdp kv o h)

/-- The head a column of the queries belongs to. -/
def headOf (c : Fin 512) : Fin 4 := ⟨c.val / 128, by omega⟩

/-- The gradient of one row of queries. -/
def gq (q : Fin 512 → EReal) (kv : Fin 256 → Fin 1024 → EReal) (o : Fin 512 → EReal) (c : Fin 512) : EReal :=
  ∑ j, hds q kv o (headOf c) j * kv j ⟨c.val, by omega⟩

/-- What one row adds to the gradient of the keys and values: keys in the first 512 columns, values in the last. -/
def gkv (q : Fin 512 → EReal) (kv : Fin 256 → Fin 1024 → EReal) (o : Fin 512 → EReal) (j : Fin 256) (c : Fin 1024) : EReal :=
  if h : c.val < 512 then hds q kv o (headOf ⟨c.val, h⟩) j * q ⟨c.val, h⟩
  else prob (hscore q kv (headOf ⟨c.val - 512, by omega⟩)) j * o ⟨c.val - 512, by omega⟩

theorem headOf_col (h : Fin 4) (d : Fin 128) : headOf (col h d) = h := Fin.ext (by simp only [headOf, col]; omega)

theorem gq_col (q : Fin 512 → EReal) (kv : Fin 256 → Fin 1024 → EReal) (o : Fin 512 → EReal) (h : Fin 4) (d : Fin 128) :
    gq q kv o (col h d) = ∑ j, hds q kv o h j * kv j (colK h d) := by
  unfold gq; rw [headOf_col]; rfl

theorem gkv_colK (q : Fin 512 → EReal) (kv : Fin 256 → Fin 1024 → EReal) (o : Fin 512 → EReal) (j : Fin 256) (h : Fin 4)
    (d : Fin 128) : gkv q kv o j (colK h d) = hds q kv o h j * q (col h d) := by
  unfold gkv
  have hc : (colK h d).val < 512 := by simp only [colK]; omega
  rw [dif_pos hc, show (⟨(colK h d).val, hc⟩ : Fin 512) = col h d from rfl, headOf_col]

theorem gkv_colV (q : Fin 512 → EReal) (kv : Fin 256 → Fin 1024 → EReal) (o : Fin 512 → EReal) (j : Fin 256) (h : Fin 4)
    (d : Fin 128) : gkv q kv o j (colV h d) = prob (hscore q kv h) j * o (col h d) := by
  unfold gkv
  have hc : ¬ (colV h d).val < 512 := by simp only [colV]; omega
  rw [dif_neg hc, show (⟨(colV h d).val - 512, by omega⟩ : Fin 512) = col h d from
    Fin.ext (by simp only [colV, col]; omega), headOf_col]

theorem ninf_eq : ninf = ⊥ := by simp [ninf, Ideal.ofBits, Ideal.ieee]

theorem inf_eq : Ideal.ofBits .f32 0x7F800000#32 = ⊤ := by simp [Ideal.ofBits, Ideal.ieee]

/-- The scale is a real number. -/
theorem kap_real : ∃ r : ℝ, kap = (r : EReal) := by
  refine ⟨EReal.toReal kap, (EReal.coe_toReal ?_ ?_).symm⟩ <;>
    simp [kap, Ideal.ofBits, Ideal.ieee, -EReal.coe_mul]

/-- A finite sum of reals, summed as extended reals. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- A nonnegative real factor moves into a sum of two. -/
theorem mul_add_real (c : ℝ) (hc : 0 ≤ c) (x y : EReal) : (c : EReal) * (x + y) = (c : EReal) * x + (c : EReal) * y :=
  EReal.left_distrib_of_nonneg_of_ne_top (by exact_mod_cast hc) (EReal.coe_ne_top c) x y

/-- A finite sum of real numbers is real. -/
theorem sum_real {ι : Type} (t : Finset ι) (f : ι → EReal) (hf : ∀ i, ∃ r : ℝ, f i = (r : EReal)) :
    ∃ r : ℝ, ∑ i ∈ t, f i = (r : EReal) := by
  choose g hg using hf
  exact ⟨∑ i ∈ t, g i, by rw [coe_sum]; exact Finset.sum_congr rfl fun i _ => hg i⟩

/-- A score of real queries and keys is real. -/
theorem score_real (q : Fin 128 → EReal) (k : Fin 256 → Fin 128 → EReal) (hq : ∀ d, ∃ r : ℝ, q d = (r : EReal))
    (hk : ∀ j d, ∃ r : ℝ, k j d = (r : EReal)) (j : Fin 256) : ∃ r : ℝ, score q k j = (r : EReal) := by
  obtain ⟨κ, hκ⟩ := kap_real
  obtain ⟨a, ha⟩ := sum_real Finset.univ (fun d => q d * k j d) fun d => by
    obtain ⟨x, hx⟩ := hq d
    obtain ⟨y, hy⟩ := hk j d
    exact ⟨x * y, by rw [hx, hy, EReal.coe_mul]⟩
  exact ⟨a * κ, by unfold score; rw [ha, hκ, EReal.coe_mul]⟩

/-- The maximum of real scores is one of them. -/
theorem rmax_real (s : Fin 256 → EReal) (hs : ∀ j, ∃ r : ℝ, s j = (r : EReal)) : ∃ r : ℝ, rmax s = (r : EReal) := by
  have h : ∀ t : Finset (Fin 256), t.fold max ninf s = ⊥ ∨ ∃ j, t.fold max ninf s = s j := by
    intro t
    induction t using Finset.induction_on with
    | empty => exact Or.inl (by simp [ninf_eq])
    | insert a t ha ih =>
      rw [Finset.fold_insert ha]
      rcases ih with h | ⟨j, h⟩
      · exact Or.inr ⟨a, by rw [h]; exact max_eq_left bot_le⟩
      · rcases le_total (s a) (s j) with hle | hle
        · exact Or.inr ⟨j, by rw [h]; exact max_eq_right hle⟩
        · exact Or.inr ⟨a, by rw [h]; exact max_eq_left hle⟩
  rcases h Finset.univ with h | ⟨j, h⟩
  · exfalso
    have h0 : s 0 ≤ Finset.univ.fold max ninf s := by
      rw [Finset.le_fold_max]; exact Or.inr ⟨0, Finset.mem_univ _, le_rfl⟩
    rw [h] at h0
    obtain ⟨r, hr⟩ := hs 0
    rw [hr] at h0
    exact absurd h0 (by simp)
  · obtain ⟨r, hr⟩ := hs j
    exact ⟨r, by unfold rmax; rw [h, hr]⟩

/-- The exponentials of a row of real scores are positive reals. -/
theorem ex_pos (s : Fin 256 → EReal) (hs : ∀ j, ∃ r : ℝ, s j = (r : EReal)) (j : Fin 256) :
    ∃ r : ℝ, 0 < r ∧ ex s j = (r : EReal) := by
  obtain ⟨a, ha⟩ := hs j
  obtain ⟨b, hb⟩ := rmax_real s hs
  exact ⟨Real.exp (a - b), Real.exp_pos _, by unfold ex; rw [ha, hb, ← EReal.coe_sub]; rfl⟩

/-- A nonnegative real factor moves into a finite sum. -/
theorem mul_sum_real {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih => rw [Finset.sum_insert ha, Finset.sum_insert ha, mul_add_real _ hc, ih]

theorem div_real (x : EReal) (z : ℝ) (hz : 0 < z) : Ideal.div x (z : EReal) = x * ((z⁻¹ : ℝ) : EReal) := by
  unfold Ideal.div
  rw [if_neg (by exact_mod_cast hz.ne'), EReal.coe_inv]

/-- The two ways of writing the gradient agree on a row of real scores, whatever the gradient of the probabilities. -/
theorem dscoreR_eq (s dp : Fin 256 → EReal) (hs : ∀ j, ∃ r : ℝ, s j = (r : EReal)) (j : Fin 256) :
    dscoreR s dp j = dscore s dp j := by
  choose e he0 he using ex_pos s hs
  have hZ : ∑ j', ex s j' = ((∑ j', e j' : ℝ) : EReal) := by
    rw [coe_sum]; exact Finset.sum_congr rfl fun i _ => he i
  have hZ0 : 0 < ∑ j', e j' := Finset.sum_pos (fun i _ => he0 i) ⟨0, Finset.mem_univ _⟩
  unfold dscoreR dscore prob
  rw [hZ]
  generalize ∑ j', e j' = z at hZ0
  rw [← EReal.coe_mul, div_real _ _ hZ0]
  simp only [div_real _ _ hZ0, div_real _ _ (mul_pos hZ0 hZ0), he]
  have hz : (0 : ℝ) ≤ z⁻¹ := inv_nonneg.2 hZ0.le
  have hsum : ∑ j', dp j' * (1 * (((z * z)⁻¹ : ℝ) : EReal)) * (e j' : EReal)
      = ((z⁻¹ : ℝ) : EReal) * ∑ j', (e j' : EReal) * ((z⁻¹ : ℝ) : EReal) * dp j' := by
    rw [mul_sum_real _ _ hz]
    refine Finset.sum_congr rfl fun i _ => ?_
    rw [mul_inv, EReal.coe_mul, one_mul]
    ac_rfl
  rw [hsum, mul_comm (dp j), ← mul_neg, ← mul_add_real _ hz, ← sub_eq_add_neg]
  congr 1
  ac_rfl

end Cert.Mem
end
-- ==== Proof.LnSpec.lean ====
/- The gradient of one row of a layer norm, as functions of extended reals. -/
module
public import Idealize.ShloMosaic.Lib.ValueIdx
import Idealize.ShloMosaic.Lib.IdealHost
import proofs.«01_k».proof.Proof.MemSpec
@[expose] public section
set_option maxRecDepth 16384
noncomputable section
namespace Cert.Ln
open Idealize.ShloMosaic

/-- The number added to a variance: the literal both programs print for `1e-5`. -/
def eps : EReal := Ideal.ofBits .f32 0x3727C5AC#32

/-- The factor of the derivative of `w ^ (-1/2)`. -/
def mhalf : EReal := Ideal.ofBits .f32 0xBF000000#32

/-- The factor of the derivative of a square. -/
def two : EReal := Ideal.ofBits .f32 0x40000000#32

section
variable {n : ℕ} (N : EReal)

/-- The sum of a row over `N`. -/
def mean (z : Fin n → EReal) : EReal := Ideal.div (∑ j, z j) N

/-- A row less its mean. -/
def xc (z : Fin n → EReal) (j : Fin n) : EReal := z j - mean N z

/-- A row's variance with the small number added. -/
def var (z : Fin n → EReal) : EReal := Ideal.div (∑ j, xc N z j * xc N z j) N + eps

/-- One over the standard deviation. -/
def rstd (z : Fin n → EReal) : EReal := Ideal.rsqrt (var N z)

/-- The normalised row. -/
def xhat (z : Fin n → EReal) (j : Fin n) : EReal := xc N z j * rstd N z

/-- The gradient of the row `z` from the gradient `d` of the normalised row: what is left of `d` once its mean and its
component along the normalised row are taken away, over the standard deviation. -/
def grad (d z : Fin n → EReal) (j : Fin n) : EReal :=
  rstd N z * (d j - mean N d - xhat N z j * mean N fun k => d k * xhat N z k)

/-- The gradient through the variance alone, as differentiating `w ^ (-1/2)` and the mean of squares writes it. -/
def viaVar (d z : Fin n → EReal) (j : Fin n) : EReal :=
  Ideal.div ((∑ k, xc N z k * d k) * (mhalf * Ideal.div (rstd N z) (var N z))) N * (two * xc N z j)

/-- The gradient of the row as differentiating mean, variance and quotient one after the other writes it. -/
def gradR (d z : Fin n → EReal) (j : Fin n) : EReal :=
  d j * rstd N z + viaVar N d z j
    + Ideal.div ((∑ k, -(d k * rstd N z)) + ∑ k, -viaVar N d z k) N

end

theorem eps_real : ∃ e : ℝ, 0 < e ∧ eps = (e : EReal) := by
  refine ⟨(Ideal.ofBits .f32 0x3727C5AC#32 : EReal).toReal, ?_, (EReal.coe_toReal ?_ ?_).symm⟩ <;>
    simp [eps, Ideal.ofBits, Ideal.ieee, -EReal.coe_mul]

theorem mhalf_eq : mhalf = ((-(1 / 2) : ℝ) : EReal) := by
  simp [mhalf, Ideal.ofBits, Ideal.ieee, -EReal.coe_mul]; norm_num

theorem two_eq : two = ((2 : ℝ) : EReal) := by
  simp [two, Ideal.ofBits, Ideal.ieee, -EReal.coe_mul]; norm_num

theorem c2048_eq : Ideal.ofBits .f32 0x45000000#32 = ((2048 : ℝ) : EReal) := by
  simp [Ideal.ofBits, Ideal.ieee, -EReal.coe_mul]; norm_num

/-- The square of an extended real is not negative. -/
theorem sq_nonneg (x : EReal) : 0 ≤ x * x := by
  induction x with
  | bot => simp
  | top => simp
  | coe a => rw [← EReal.coe_mul]; exact_mod_cast mul_self_nonneg a

section
variable {n : ℕ} {N : ℝ}

/-- A row with an infinite entry has an infinite variance, so its normalised row is zero. -/
theorem rstd_zero (hN : 0 < N) (z : Fin n → EReal) (j : Fin n) (hj : z j = ⊤ ∨ z j = ⊥) :
    rstd (N : EReal) z = 0 ∧ var (N : EReal) z = ⊤ := by
  have hx : xc (N : EReal) z j * xc (N : EReal) z j = ⊤ := by
    unfold xc
    rcases hj with h | h <;> rw [h]
    · generalize mean (N : EReal) z = M
      induction M with
      | bot => simp
      | top => simp
      | coe a => simp
    · simp
  have hs : ∑ k, xc (N : EReal) z k * xc (N : EReal) z k = ⊤ := by
    rw [← top_le_iff, ← hx]
    exact Finset.single_le_sum (f := fun k => xc (N : EReal) z k * xc (N : EReal) z k) (fun k _ => sq_nonneg _) (Finset.mem_univ j)
  obtain ⟨e, _, he⟩ := eps_real
  have hv : var (N : EReal) z = ⊤ := by
    unfold var
    rw [hs, Mem.div_real _ _ hN, EReal.top_mul_coe_of_pos (inv_pos.2 hN), he]
    rfl
  exact ⟨by unfold rstd; rw [hv]; rfl, hv⟩

/-- On a row of reals: its differences from the mean are reals that sum to zero, and its deviation is a positive real. -/
theorem row_real (hn : (N : ℝ) = n) (hN : 0 < N) (z : Fin n → ℝ) :
    ∃ (a : Fin n → ℝ) (w : ℝ), 0 < w ∧ ∑ j, a j = 0 ∧ (∀ j, xc (N : EReal) (fun k => (z k : EReal)) j = (a j : EReal))
      ∧ var (N : EReal) (fun k => (z k : EReal)) = (w : EReal)
      ∧ rstd (N : EReal) (fun k => (z k : EReal)) = (((Real.sqrt w)⁻¹ : ℝ) : EReal) := by
  obtain ⟨e, he0, he⟩ := eps_real
  have hx : ∀ j, xc (N : EReal) (fun k => (z k : EReal)) j = ((z j - (∑ k, z k) * N⁻¹ : ℝ) : EReal) := fun j => by
    unfold xc mean
    rw [Mem.div_real _ _ hN, ← Mem.coe_sum, ← EReal.coe_mul, ← EReal.coe_sub]
  have hv : var (N : EReal) (fun k => (z k : EReal))
      = (((∑ j, (z j - (∑ k, z k) * N⁻¹) * (z j - (∑ k, z k) * N⁻¹)) * N⁻¹ + e : ℝ) : EReal) := by
    unfold var
    simp only [hx, ← EReal.coe_mul]
    rw [Mem.div_real _ _ hN, ← Mem.coe_sum, ← EReal.coe_mul, he, ← EReal.coe_add]
  have hw : 0 < (∑ j, (z j - (∑ k, z k) * N⁻¹) * (z j - (∑ k, z k) * N⁻¹)) * N⁻¹ + e :=
    add_pos_of_nonneg_of_pos (mul_nonneg (Finset.sum_nonneg fun _ _ => mul_self_nonneg _) (inv_nonneg.2 hN.le)) he0
  refine ⟨_, _, hw, ?_, hx, hv, ?_⟩
  · rw [Finset.sum_sub_distrib, Finset.sum_const, Finset.card_univ, Fintype.card_fin, nsmul_eq_mul, ← hn]
    field_simp
    ring
  · unfold rstd
    rw [hv]
    show (if _ < (0 : ℝ) then _ else if _ = (0 : ℝ) then _ else _) = _
    rw [if_neg hw.le.not_gt, if_neg hw.ne']

/-- The two ways of writing the gradient of a row agree, for a gradient of reals and whatever row. -/
theorem gradR_eq (hn : (N : ℝ) = n) (hN : 0 < N) (d z : Fin n → EReal) (hd : ∀ j, ∃ r : ℝ, d j = (r : EReal)) (j : Fin n) :
    gradR (N : EReal) d z j = grad (N : EReal) d z j := by
  by_cases hz : ∀ k, ∃ r : ℝ, z k = (r : EReal)
  · choose d' hd using hd
    choose z' hz using hz
    obtain rfl : d = fun k => (d' k : EReal) := funext hd
    obtain rfl : z = fun k => (z' k : EReal) := funext hz
    obtain ⟨a, w, hw, ha, hxc, hvar, hr⟩ := row_real hn hN z'
    obtain ⟨r, hrw⟩ : ∃ r, r = (Real.sqrt w)⁻¹ := ⟨_, rfl⟩
    have hw' : w⁻¹ = r * r := by rw [hrw, ← mul_inv, Real.mul_self_sqrt hw.le]
    have hT : ∑ k, d' k * a k = ∑ k, a k * d' k := Finset.sum_congr rfl fun k _ => mul_comm _ _
    unfold gradR grad viaVar xhat mean
    simp only [hxc, hvar, hr, ← hrw, mhalf_eq, two_eq, Mem.div_real _ _ hN, Mem.div_real _ _ hw, hw', ← EReal.coe_mul,
      ← EReal.coe_neg, ← Mem.coe_sum, ← EReal.coe_add, ← EReal.coe_sub]
    congr 1
    simp only [Finset.sum_neg_distrib, ← Finset.sum_mul, ← Finset.mul_sum, ha, ← mul_assoc, hT]
    ring
  · push Not at hz
    obtain ⟨k, hk⟩ := hz
    have hk' : z k = ⊤ ∨ z k = ⊥ := by
      generalize z k = y at hk
      induction y with
      | bot => exact Or.inr rfl
      | top => exact Or.inl rfl
      | coe b => exact absurd rfl (hk b)
    obtain ⟨h0, hv⟩ := rstd_zero hN z k hk'
    have hdiv : Ideal.div 0 ⊤ = 0 := by unfold Ideal.div; rw [if_neg (by simp), zero_mul]
    unfold gradR grad viaVar
    rw [h0, hv, hdiv]
    simp [Mem.div_real _ _ hN]

end

end Cert.Ln
end
-- ==== Proof.MemBlock.lean ====
/- One grid point of the kernel: what its stored tiles hold at an index. -/
module
public import proofs.«01_k».proof.Proof.Gen.KernelIdeal.Value
public import proofs.«01_k».proof.Proof.MemSpec
public import Idealize.ShloMosaic.Lib.ValueIdx
public import Idealize.ShloMosaic.Lib.Pointwise
public import Idealize.ShloMosaic.Lib.Pipeline.ReadBack
@[expose] public section
set_option maxRecDepth 16384
noncomputable section
namespace Cert.Mem
open Cert.KernelIdeal Cert.KernelIdeal.Gen Idealize.ShloMosaic Idealize.ShloMosaic.TcCoe Idealize.SL.Sem
open Idealize.ShloMosaic.Pipeline (Dat)

/-- Scores of row `r` of a tile of queries. -/
def tscore (q : Vec Ideal S512x128 .bf16) (k : Vec Ideal S256x128 .bf16) (r : Fin 512) : Fin 256 → EReal :=
  score (fun d => q (ix2 r d)) fun j d => k (ix2 j d)

/-- Gradient of the unscaled scores of row `r` of a tile of queries. -/
def tds (q : Vec Ideal S512x128 .bf16) (k v : Vec Ideal S256x128 .bf16) (o : Vec Ideal S512x128 .f32) (r : Fin 512) :
    Fin 256 → EReal :=
  dscore (tscore q k r) fun j => ∑ d, o (ix2 r d) * v (ix2 j d)

/-- The softmax of one head's scores. -/
theorem pay8_apply (q : Vec Ideal S512x128 .bf16) (k : Vec Ideal S256x128 .bf16) (r : Fin 512) (j : Fin 256) :
    k0_pay8 (F := Ideal) q k (ix2 r j) = prob (tscore q k r) j := by
  pointwise [k0_pay8]
  rfl

theorem pay9_apply (q : Vec Ideal S512x128 .bf16) (k v : Vec Ideal S256x128 .bf16) (o : Vec Ideal S512x128 .f32)
    (r : Fin 512) (j : Fin 256) :
    k0_pay9 (F := Ideal) q k v o (ix2 r j) = tds q k v o r j := by
  pointwise [k0_pay9]
  simp only [ix2_0, ix2_1, pay8_apply]
  rfl

theorem pay10_apply (q : Vec Ideal S512x128 .bf16) (k v : Vec Ideal S256x128 .bf16) (o : Vec Ideal S512x128 .f32)
    (r : Fin 512) (d : Fin 128) :
    k0_pay10 (F := Ideal) q k v o (ix2 r d) = ∑ j, tds q k v o r j * k (ix2 j d) := by
  pointwise [k0_pay10]
  simp only [ix2_0, ix2_1, pay9_apply]

theorem pay12_apply (q : Vec Ideal S512x128 .bf16) (k v : Vec Ideal S256x128 .bf16) (o : Vec Ideal S512x128 .f32)
    (a : Vec Ideal S256x128 .f32) (j : Fin 256) (d : Fin 128) :
    k0_pay12 (F := Ideal) q (k0_pay9 q k v o) a (ix2 j d) = a (ix2 j d) + ∑ r, tds q k v o r j * q (ix2 r d) := by
  pointwise [k0_pay12]
  simp only [ix2_0, ix2_1, pay9_apply]

theorem pay13_apply (q : Vec Ideal S512x128 .bf16) (k : Vec Ideal S256x128 .bf16) (o : Vec Ideal S512x128 .f32)
    (a : Vec Ideal S256x128 .f32) (j : Fin 256) (d : Fin 128) :
    k0_pay13 (F := Ideal) (k0_pay7 o) (k0_pay8 q k) a (ix2 j d)
      = a (ix2 j d) + ∑ r, prob (tscore q k r) j * o (ix2 r d) := by
  pointwise [k0_pay13]
  simp only [ix2_0, ix2_1, pay8_apply]
  rfl

/-- Row `r` of a two-axis array. -/
def row {a b : ℕ} (x : (⟨2, ![a, b]⟩ : Shape).Idx → EReal) (r : Fin a) : Fin b → EReal := fun c => x (ix2 r c)

/-- What one grid point adds to the gradient of the keys and values. -/
def blkKV (x0 : Vec Ideal S512x512 .bf16) (x1 : Vec Ideal S256x1024 .bf16) (x2 : Vec Ideal S512x512 .f32)
    (y : S256x1024.Idx) : EReal :=
  ∑ r, gkv (row x0 r) (row x1) (row x2 r) (y 0) (y 1)

/-- What one grid point writes of the gradient of the queries. -/
def blkQ (x0 : Vec Ideal S512x512 .bf16) (x1 : Vec Ideal S256x1024 .bf16) (x2 : Vec Ideal S512x512 .f32)
    (y : S512x512.Idx) : EReal :=
  gq (row x0 (y 0)) (row x1) (row x2 (y 0)) (y 1)

section
variable (x0 : Vec Ideal S512x512 .bf16) (x1 : Vec Ideal S256x1024 .bf16) (x2 : Vec Ideal S512x512 .f32)
variable (q : Vec Ideal S512x128 .bf16) (k v : Vec Ideal S256x128 .bf16) (o : Vec Ideal S512x128 .f32) (h : Fin 4)

/-- The four tiles are head `h`'s columns of the point's three blocks. -/
structure Tiles : Prop where
  q : ∀ r d, q (ix2 r d) = x0 (ix2 r (col h d))
  k : ∀ j d, k (ix2 j d) = x1 (ix2 j (colK h d))
  v : ∀ j d, v (ix2 j d) = x1 (ix2 j (colV h d))
  o : ∀ r d, o (ix2 r d) = x2 (ix2 r (col h d))

variable {x0 x1 x2 q k v o h}

theorem Tiles.tscore (T : Tiles x0 x1 x2 q k v o h) (r : Fin 512) : tscore q k r = hscore (row x0 r) (row x1) h := by
  unfold Mem.tscore hscore row
  simp only [T.q, T.k]

theorem Tiles.tds (T : Tiles x0 x1 x2 q k v o h) (r : Fin 512) : tds q k v o r = hds (row x0 r) (row x1) (row x2 r) h := by
  unfold Mem.tds hds
  rw [T.tscore]
  unfold hdp row
  simp only [T.o, T.v]

/-- Head `h`'s tile of the queries' gradient. -/
theorem Tiles.dq (T : Tiles x0 x1 x2 q k v o h) (x : S512x128.Idx) :
    k0_pay10 (F := Ideal) q k v o x = blkQ x0 x1 x2 (ix2 (x 0) (col h (x 1))) := by
  obtain ⟨r, d, rfl⟩ : ∃ (r : Fin 512) (d : Fin 128), x = ix2 r d := ⟨x 0, x 1, eq_ix2 x⟩
  rw [pay10_apply, T.tds]
  simp only [T.k, blkQ, ix2_0, ix2_1, gq_col]
  rfl

/-- Head `h`'s tile of the keys' gradient, added to what was there. -/
theorem Tiles.dk (T : Tiles x0 x1 x2 q k v o h) (a : Vec Ideal S256x128 .f32) (x : S256x128.Idx) :
    k0_pay12 (F := Ideal) q (k0_pay9 q k v o) a x = a x + blkKV x0 x1 x2 (ix2 (x 0) (colK h (x 1))) := by
  obtain ⟨r, d, rfl⟩ : ∃ (r : Fin 256) (d : Fin 128), x = ix2 r d := ⟨x 0, x 1, eq_ix2 x⟩
  rw [pay12_apply]
  simp only [T.tds, T.q, blkKV, ix2_0, ix2_1, gkv_colK]
  rfl

/-- Head `h`'s tile of the values' gradient, added to what was there. -/
theorem Tiles.dv (T : Tiles x0 x1 x2 q k v o h) (a : Vec Ideal S256x128 .f32) (x : S256x128.Idx) :
    k0_pay13 (F := Ideal) (k0_pay7 o) (k0_pay8 q k) a x = a x + blkKV x0 x1 x2 (ix2 (x 0) (colV h (x 1))) := by
  obtain ⟨r, d, rfl⟩ : ∃ (r : Fin 256) (d : Fin 128), x = ix2 r d := ⟨x 0, x 1, eq_ix2 x⟩
  rw [pay13_apply]
  simp only [T.tscore, T.o, blkKV, ix2_0, ix2_1, gkv_colV]
  rfl
end

end Cert.Mem
end
-- ==== Proof.MemPoint.lean ====
/- One grid point of the kernel: the blocks it leaves, as functions of the blocks it loads. -/
module
public import proofs.«01_k».proof.Proof.MemBlock
@[expose] public section
set_option maxRecDepth 16384
noncomputable section
namespace Cert.Mem
open Cert.KernelIdeal Cert.KernelIdeal.Gen Idealize.ShloMosaic Idealize.ShloMosaic.TcCoe Idealize.SL.Sem
open Idealize.ShloMosaic.Pipeline (Dat)

/-- Head `h`'s columns of the three blocks, as the kernel loads them. -/
theorem tiles_ld (x0 : Vec Ideal S512x512 .bf16) (x1 : Vec Ideal S256x1024 .bf16) (x2 : Vec Ideal S512x512 .f32) (h : Fin 4)
    {oq ok ov oo : ℕ} (iq : ∀ a, (![0, oq] : Fin 2 → ℕ) a + S512x128.size a ≤ S512x512.size a)
    (ik : ∀ a, (![0, ok] : Fin 2 → ℕ) a + S256x128.size a ≤ S256x1024.size a)
    (iv : ∀ a, (![0, ov] : Fin 2 → ℕ) a + S256x128.size a ≤ S256x1024.size a)
    (io : ∀ a, (![0, oo] : Fin 2 → ℕ) a + S512x128.size a ≤ S512x512.size a)
    (hq : oq = 128 * h.val) (hk : ok = 128 * h.val) (hv : ov = 512 + 128 * h.val) (ho : oo = 128 * h.val) :
    Tiles x0 x1 x2 (View.ld x0 (Rect.unit ![0, oq] S512x128.size iq)) (View.ld x1 (Rect.unit ![0, ok] S256x128.size ik))
      (View.ld x1 (Rect.unit ![0, ov] S256x128.size iv)) (View.ld x2 (Rect.unit ![0, oo] S512x128.size io)) h where
  q r d := congrArg x0 (funext fun a => Fin.ext (by fin_cases a <;> simp [Rect.emb, Rect.unit, col, hq]))
  k j d := congrArg x1 (funext fun a => Fin.ext (by fin_cases a <;> simp [Rect.emb, Rect.unit, colK, hk]))
  v j d := congrArg x1 (funext fun a => Fin.ext (by fin_cases a <;> simp [Rect.emb, Rect.unit, colV, hv, add_assoc]))
  o r d := congrArg x2 (funext fun a => Fin.ext (by fin_cases a <;> simp [Rect.emb, Rect.unit, col, ho]))

theorem pay11_apply (a : Vec Ideal S256x128 .f32) (x : S256x128.Idx) : k0_pay11 (F := Ideal) a x = a x := by
  obtain ⟨r, d, rfl⟩ : ∃ (r : Fin 256) (d : Fin 128), x = ix2 r d := ⟨x 0, x 1, eq_ix2 x⟩
  pointwise [k0_pay11]

/-- Before the first point's additions the block is zero. -/
theorem pay6_apply (x : S256x1024.Idx) : k0_pay6 (F := Ideal) x = 0 := by
  pointwise [k0_pay6]

/-- The zeros stored before the first point's additions. -/
abbrev zeroKV : Vec Ideal S256x1024 .f32 := k0_pay6 (F := Ideal)

theorem pay6_ld (r : Rect S256x1024) (x : r.shape.Idx) : View.ld zeroKV r x = (0 : EReal) := pay6_apply _

section
variable {x0 : Vec Ideal S512x512 .bf16} {x1 : Vec Ideal S256x1024 .bf16} {x2 : Vec Ideal S512x512 .f32}
variable {q : Vec Ideal S512x128 .bf16} {k v : Vec Ideal S256x128 .bf16} {o : Vec Ideal S512x128 .f32} {h : Fin 4}

theorem Tiles.dk_at (T : Tiles x0 x1 x2 q k v o h) (a : Vec Ideal S256x128 .f32) {x : S256x128.Idx} {b : EReal}
    (hb : a x = b) {y : S256x1024.Idx} (hy : ix2 (x 0) (colK h (x 1)) = y) :
    k0_pay12 (F := Ideal) q (k0_pay9 q k v o) (k0_pay11 a) x = b + blkKV x0 x1 x2 y :=
  (T.dk _ x).trans (congrArg₂ (fun u z => u + blkKV x0 x1 x2 z) ((pay11_apply a x).trans hb) hy)

theorem Tiles.dv_at (T : Tiles x0 x1 x2 q k v o h) (a : Vec Ideal S256x128 .f32) {x : S256x128.Idx} {b : EReal}
    (hb : a x = b) {y : S256x1024.Idx} (hy : ix2 (x 0) (colV h (x 1)) = y) :
    k0_pay13 (F := Ideal) (k0_pay7 o) (k0_pay8 q k) a x = b + blkKV x0 x1 x2 y :=
  (T.dv _ x).trans (congrArg₂ (fun u z => u + blkKV x0 x1 x2 z) hb hy)
end

/-- Where a tile of whole rows starting at column `off` puts its index `x`. -/
theorem emb_rows {n w off : ℕ} (inb : ∀ a, (![0, off] : Fin 2 → ℕ) a + (![n, 128] : Fin 2 → ℕ) a ≤ (![n, w] : Fin 2 → ℕ) a)
    (x : (⟨2, ![n, 128]⟩ : Shape).Idx) (c : Fin w) (hc : c.val = off + (x 1).val) :
    (ix2 (x 0) c : (⟨2, ![n, w]⟩ : Shape).Idx) = (Rect.unit (s := ⟨2, ![n, w]⟩) ![0, off] ![n, 128] inb).emb x := by
  refine funext fun a => Fin.ext ?_
  fin_cases a
  · simp [Rect.emb, Rect.unit]
  · simpa [Rect.emb, Rect.unit] using hc

/-- At a later point the block of the keys' and values' gradient is what the point before left and this point's addition. -/
theorem out_B_4 (c : Dev nD) (i : grid0.Coords) (arg1 : Memref sig .tc .vmem S512x512 .bf16) (harg1 : arg1.IsWhole)
    (arg2 : Memref sig .tc .vmem S256x1024 .bf16) (harg2 : arg2.IsWhole) (arg3 : Memref sig .tc .vmem S512x512 .f32)
    (harg3 : arg3.IsWhole) (arg4 : Memref sig .tc .vmem S512x512 .bf16) (harg4 : arg4.IsWhole)
    (arg5 : Memref sig .tc .vmem S256x1024 .f32) (harg5 : arg5.IsWhole)
    (hc0 : ¬cond0_0 i)
    (x0 : Vec Ideal S512x512 .bf16) (x1 : Vec Ideal S256x1024 .bf16) (x2 : Vec Ideal S512x512 .f32) (xo4 : Vec Ideal S256x1024 .f32) (y : S256x1024.Idx) :
    out0_B_4 c i arg1 harg1 arg2 harg2 arg3 harg3 arg4 harg4 arg5 harg5 hc0 x0 x1 x2 xo4 y
      = xo4 y + blkKV x0 x1 x2 y := by
  unfold out0_B_4
  rw [View.read_writes_eq_canon _ _ _ (cover0_B_4 c i arg1 harg1 arg2 harg2 arg3 harg3 arg4 harg4 arg5 harg5 hc0 x0 x1 x2 xo4)]
  refine View.canon_apply_of_pieces (fun y => xo4 y + blkKV x0 x1 x2 y) _ ?_ y
    (cover0_B_4 c i arg1 harg1 arg2 harg2 arg3 harg3 arg4 harg4 arg5 harg5 hc0 x0 x1 x2 xo4 y)
  refine View.PiecesOf.mem (G := fun y => xo4 y + blkKV x0 x1 x2 y) ?_
  unfold kernelRun0_B; dsimp only
  sl_unfold_words
  simp only [View.readAt_eq_ld, harg1.read_unread, harg2.read_unread, harg3.read_unread, harg5.read_unread]
  refine ⟨fun x => ?_, fun x => ?_, fun x => ?_, fun x => ?_, fun x => ?_, fun x => ?_, fun x => ?_, fun x => ?_, trivial⟩
  · exact (tiles_ld x0 x1 x2 3 inb_S512x512_S512x128_0_384 inb_S256x1024_S256x128_0_384 inb_S256x1024_S256x128_0_896 inb_S512x512_S512x128_0_384 rfl rfl rfl rfl).dv_at (View.ld xo4 (Rect.unit ![0, 896] S256x128.size inb_S256x1024_S256x128_0_896)) rfl
      (emb_rows inb_S256x1024_S256x128_0_896 x (colV 3 (x 1)) (by simp only [colV]; rw [← Nat.add_assoc]; rfl))
  · exact (tiles_ld x0 x1 x2 3 inb_S512x512_S512x128_0_384 inb_S256x1024_S256x128_0_384 inb_S256x1024_S256x128_0_896 inb_S512x512_S512x128_0_384 rfl rfl rfl rfl).dk_at (View.ld xo4 (Rect.unit ![0, 384] S256x128.size inb_S256x1024_S256x128_0_384)) rfl
      (emb_rows inb_S256x1024_S256x128_0_384 x (colK 3 (x 1)) rfl)
  · exact (tiles_ld x0 x1 x2 2 inb_S512x512_S512x128_0_256 inb_S256x1024_S256x128_0_256 inb_S256x1024_S256x128_0_768 inb_S512x512_S512x128_0_256 rfl rfl rfl rfl).dv_at (View.ld xo4 (Rect.unit ![0, 768] S256x128.size inb_S256x1024_S256x128_0_768)) rfl
      (emb_rows inb_S256x1024_S256x128_0_768 x (colV 2 (x 1)) (by simp only [colV]; rw [← Nat.add_assoc]; rfl))
  · exact (tiles_ld x0 x1 x2 2 inb_S512x512_S512x128_0_256 inb_S256x1024_S256x128_0_256 inb_S256x1024_S256x128_0_768 inb_S512x512_S512x128_0_256 rfl rfl rfl rfl).dk_at (View.ld xo4 (Rect.unit ![0, 256] S256x128.size inb_S256x1024_S256x128_0_256)) rfl
      (emb_rows inb_S256x1024_S256x128_0_256 x (colK 2 (x 1)) rfl)
  · exact (tiles_ld x0 x1 x2 1 inb_S512x512_S512x128_0_128 inb_S256x1024_S256x128_0_128 inb_S256x1024_S256x128_0_640 inb_S512x512_S512x128_0_128 rfl rfl rfl rfl).dv_at (View.ld xo4 (Rect.unit ![0, 640] S256x128.size inb_S256x1024_S256x128_0_640)) rfl
      (emb_rows inb_S256x1024_S256x128_0_640 x (colV 1 (x 1)) (by simp only [colV]; rw [← Nat.add_assoc]; rfl))
  · exact (tiles_ld x0 x1 x2 1 inb_S512x512_S512x128_0_128 inb_S256x1024_S256x128_0_128 inb_S256x1024_S256x128_0_640 inb_S512x512_S512x128_0_128 rfl rfl rfl rfl).dk_at (View.ld xo4 (Rect.unit ![0, 128] S256x128.size inb_S256x1024_S256x128_0_128)) rfl
      (emb_rows inb_S256x1024_S256x128_0_128 x (colK 1 (x 1)) rfl)
  · exact (tiles_ld x0 x1 x2 0 inb_S512x512_S512x128_0_0 inb_S256x1024_S256x128_0_0 inb_S256x1024_S256x128_0_512 inb_S512x512_S512x128_0_0 rfl rfl rfl rfl).dv_at (View.ld xo4 (Rect.unit ![0, 512] S256x128.size inb_S256x1024_S256x128_0_512)) rfl
      (emb_rows inb_S256x1024_S256x128_0_512 x (colV 0 (x 1)) (by simp only [colV]; rw [← Nat.add_assoc]; rfl))
  · exact (tiles_ld x0 x1 x2 0 inb_S512x512_S512x128_0_0 inb_S256x1024_S256x128_0_0 inb_S256x1024_S256x128_0_512 inb_S512x512_S512x128_0_0 rfl rfl rfl rfl).dk_at (View.ld xo4 (Rect.unit ![0, 0] S256x128.size inb_S256x1024_S256x128_0_0)) rfl
      (emb_rows inb_S256x1024_S256x128_0_0 x (colK 0 (x 1)) rfl)

/-- The block of the queries' gradient a point leaves. -/
theorem out_B_3 (c : Dev nD) (i : grid0.Coords) (arg1 : Memref sig .tc .vmem S512x512 .bf16) (harg1 : arg1.IsWhole)
    (arg2 : Memref sig .tc .vmem S256x1024 .bf16) (harg2 : arg2.IsWhole) (arg3 : Memref sig .tc .vmem S512x512 .f32)
    (harg3 : arg3.IsWhole) (arg4 : Memref sig .tc .vmem S512x512 .bf16) (harg4 : arg4.IsWhole)
    (arg5 : Memref sig .tc .vmem S256x1024 .f32) (harg5 : arg5.IsWhole)
    (hc0 : ¬cond0_0 i)
    (x0 : Vec Ideal S512x512 .bf16) (x1 : Vec Ideal S256x1024 .bf16) (x2 : Vec Ideal S512x512 .f32) (xo4 : Vec Ideal S256x1024 .f32) (y : S512x512.Idx) :
    out0_B_3 c i arg1 harg1 arg2 harg2 arg3 harg3 arg4 harg4 arg5 harg5 hc0 x0 x1 x2 xo4 y = blkQ x0 x1 x2 y := by
  unfold out0_B_3
  rw [View.read_writes_eq_canon _ _ _ (cover0_B_3 c i arg1 harg1 arg2 harg2 arg3 harg3 arg4 harg4 arg5 harg5 hc0 x0 x1 x2 xo4)]
  refine View.canon_apply_of_pieces (blkQ x0 x1 x2) _ ?_ y (cover0_B_3 c i arg1 harg1 arg2 harg2 arg3 harg3 arg4 harg4 arg5 harg5 hc0 x0 x1 x2 xo4 y)
  refine View.PiecesOf.mem (Val := Elt Ideal) (s := S512x512) (e := .bf16) (G := blkQ x0 x1 x2) ?_
  unfold kernelRun0_B; dsimp only
  sl_unfold_words
  simp only [View.readAt_eq_ld, harg1.read_unread, harg2.read_unread, harg3.read_unread]
  refine ⟨fun x => ?_, fun x => ?_, fun x => ?_, fun x => ?_, trivial⟩
  · exact ((tiles_ld x0 x1 x2 3 inb_S512x512_S512x128_0_384 inb_S256x1024_S256x128_0_384 inb_S256x1024_S256x128_0_896 inb_S512x512_S512x128_0_384 rfl rfl rfl rfl).dq x).trans
      (congrArg (blkQ x0 x1 x2) (emb_rows inb_S512x512_S512x128_0_384 x (col 3 (x 1)) rfl))
  · exact ((tiles_ld x0 x1 x2 2 inb_S512x512_S512x128_0_256 inb_S256x1024_S256x128_0_256 inb_S256x1024_S256x128_0_768 inb_S512x512_S512x128_0_256 rfl rfl rfl rfl).dq x).trans
      (congrArg (blkQ x0 x1 x2) (emb_rows inb_S512x512_S512x128_0_256 x (col 2 (x 1)) rfl))
  · exact ((tiles_ld x0 x1 x2 1 inb_S512x512_S512x128_0_128 inb_S256x1024_S256x128_0_128 inb_S256x1024_S256x128_0_640 inb_S512x512_S512x128_0_128 rfl rfl rfl rfl).dq x).trans
      (congrArg (blkQ x0 x1 x2) (emb_rows inb_S512x512_S512x128_0_128 x (col 1 (x 1)) rfl))
  · exact ((tiles_ld x0 x1 x2 0 inb_S512x512_S512x128_0_0 inb_S256x1024_S256x128_0_0 inb_S256x1024_S256x128_0_512 inb_S512x512_S512x128_0_0 rfl rfl rfl rfl).dq x).trans
      (congrArg (blkQ x0 x1 x2) (emb_rows inb_S512x512_S512x128_0_0 x (col 0 (x 1)) rfl))

/-- The block of the queries' gradient a point leaves. -/
theorem out_A_3 (c : Dev nD) (i : grid0.Coords) (arg1 : Memref sig .tc .vmem S512x512 .bf16) (harg1 : arg1.IsWhole)
    (arg2 : Memref sig .tc .vmem S256x1024 .bf16) (harg2 : arg2.IsWhole) (arg3 : Memref sig .tc .vmem S512x512 .f32)
    (harg3 : arg3.IsWhole) (arg4 : Memref sig .tc .vmem S512x512 .bf16) (harg4 : arg4.IsWhole)
    (arg5 : Memref sig .tc .vmem S256x1024 .f32) (harg5 : arg5.IsWhole)
    (hc0 : cond0_0 i)
    (x0 : Vec Ideal S512x512 .bf16) (x1 : Vec Ideal S256x1024 .bf16) (x2 : Vec Ideal S512x512 .f32) (y : S512x512.Idx) :
    out0_A_3 c i arg1 harg1 arg2 harg2 arg3 harg3 arg4 harg4 arg5 harg5 hc0 x0 x1 x2 y = blkQ x0 x1 x2 y := by
  unfold out0_A_3
  rw [View.read_writes_eq_canon _ _ _ (cover0_A_3 c i arg1 harg1 arg2 harg2 arg3 harg3 arg4 harg4 arg5 harg5 hc0 x0 x1 x2)]
  refine View.canon_apply_of_pieces (blkQ x0 x1 x2) _ ?_ y (cover0_A_3 c i arg1 harg1 arg2 harg2 arg3 harg3 arg4 harg4 arg5 harg5 hc0 x0 x1 x2 y)
  refine View.PiecesOf.mem (Val := Elt Ideal) (s := S512x512) (e := .bf16) (G := blkQ x0 x1 x2) ?_
  unfold kernelRun0_A; dsimp only
  sl_unfold_words
  simp only [View.readAt_eq_ld, harg1.read_unread, harg2.read_unread, harg3.read_unread]
  refine ⟨fun x => ?_, fun x => ?_, fun x => ?_, fun x => ?_, trivial⟩
  · exact ((tiles_ld x0 x1 x2 3 inb_S512x512_S512x128_0_384 inb_S256x1024_S256x128_0_384 inb_S256x1024_S256x128_0_896 inb_S512x512_S512x128_0_384 rfl rfl rfl rfl).dq x).trans
      (congrArg (blkQ x0 x1 x2) (emb_rows inb_S512x512_S512x128_0_384 x (col 3 (x 1)) rfl))
  · exact ((tiles_ld x0 x1 x2 2 inb_S512x512_S512x128_0_256 inb_S256x1024_S256x128_0_256 inb_S256x1024_S256x128_0_768 inb_S512x512_S512x128_0_256 rfl rfl rfl rfl).dq x).trans
      (congrArg (blkQ x0 x1 x2) (emb_rows inb_S512x512_S512x128_0_256 x (col 2 (x 1)) rfl))
  · exact ((tiles_ld x0 x1 x2 1 inb_S512x512_S512x128_0_128 inb_S256x1024_S256x128_0_128 inb_S256x1024_S256x128_0_640 inb_S512x512_S512x128_0_128 rfl rfl rfl rfl).dq x).trans
      (congrArg (blkQ x0 x1 x2) (emb_rows inb_S512x512_S512x128_0_128 x (col 1 (x 1)) rfl))
  · exact ((tiles_ld x0 x1 x2 0 inb_S512x512_S512x128_0_0 inb_S256x1024_S256x128_0_0 inb_S256x1024_S256x128_0_512 inb_S512x512_S512x128_0_0 rfl rfl rfl rfl).dq x).trans
      (congrArg (blkQ x0 x1 x2) (emb_rows inb_S512x512_S512x128_0_0 x (col 0 (x 1)) rfl))

/-- At the first point the block of the keys' and values' gradient is this point's addition to zero. -/
theorem out_A_4 (c : Dev nD) (i : grid0.Coords) (arg1 : Memref sig .tc .vmem S512x512 .bf16) (harg1 : arg1.IsWhole)
    (arg2 : Memref sig .tc .vmem S256x1024 .bf16) (harg2 : arg2.IsWhole) (arg3 : Memref sig .tc .vmem S512x512 .f32)
    (harg3 : arg3.IsWhole) (arg4 : Memref sig .tc .vmem S512x512 .bf16) (harg4 : arg4.IsWhole)
    (arg5 : Memref sig .tc .vmem S256x1024 .f32) (harg5 : arg5.IsWhole)
    (hc0 : cond0_0 i)
    (x0 : Vec Ideal S512x512 .bf16) (x1 : Vec Ideal S256x1024 .bf16) (x2 : Vec Ideal S512x512 .f32) (y : S256x1024.Idx) :
    out0_A_4 c i arg1 harg1 arg2 harg2 arg3 harg3 arg4 harg4 arg5 harg5 hc0 x0 x1 x2 y = 0 + blkKV x0 x1 x2 y := by
  unfold out0_A_4
  rw [View.read_writes_eq_canon _ _ _ (cover0_A_4 c i arg1 harg1 arg2 harg2 arg3 harg3 arg4 harg4 arg5 harg5 hc0 x0 x1 x2)]
  unfold kernelRun0_A; dsimp only
  sl_unfold_words
  simp (disch := decide) only [↓ View.readCov_skip, ↓ View.readCov_cons_toLoadRect, ↓ View.readCov_fill,
    View.readAt_eq_ld, harg1.read_unread, harg2.read_unread, harg3.read_unread, harg5.read_unread]
  refine View.canon_append_of_piecesOf (Val := Elt Ideal) (s := S256x1024) (e := .f32)
    (fun y => (0 : EReal) + blkKV x0 x1 x2 y) [_] [_, _, _, _, _, _, _, _] ?_ y ?_
  rotate_left
  · exact View.cover_of_tiledL (s := S256x1024) _ S256x128.size (by sl_kernel_rfl) y
  refine ⟨fun x => ?_, fun x => ?_, fun x => ?_, fun x => ?_, fun x => ?_, fun x => ?_, fun x => ?_, fun x => ?_, trivial⟩
  · exact (tiles_ld x0 x1 x2 3 inb_S512x512_S512x128_0_384 inb_S256x1024_S256x128_0_384 inb_S256x1024_S256x128_0_896 inb_S512x512_S512x128_0_384 rfl rfl rfl rfl).dv_at (View.ld zeroKV (Rect.unit ![0, 896] S256x128.size inb_S256x1024_S256x128_0_896)) (pay6_ld _ x)
      (emb_rows inb_S256x1024_S256x128_0_896 x (colV 3 (x 1)) (by simp only [colV]; rw [← Nat.add_assoc]; rfl))
  · exact (tiles_ld x0 x1 x2 3 inb_S512x512_S512x128_0_384 inb_S256x1024_S256x128_0_384 inb_S256x1024_S256x128_0_896 inb_S512x512_S512x128_0_384 rfl rfl rfl rfl).dk_at (View.ld zeroKV (Rect.unit ![0, 384] S256x128.size inb_S256x1024_S256x128_0_384)) (pay6_ld _ x)
      (emb_rows inb_S256x1024_S256x128_0_384 x (colK 3 (x 1)) rfl)
  · exact (tiles_ld x0 x1 x2 2 inb_S512x512_S512x128_0_256 inb_S256x1024_S256x128_0_256 inb_S256x1024_S256x128_0_768 inb_S512x512_S512x128_0_256 rfl rfl rfl rfl).dv_at (View.ld zeroKV (Rect.unit ![0, 768] S256x128.size inb_S256x1024_S256x128_0_768)) (pay6_ld _ x)
      (emb_rows inb_S256x1024_S256x128_0_768 x (colV 2 (x 1)) (by simp only [colV]; rw [← Nat.add_assoc]; rfl))
  · exact (tiles_ld x0 x1 x2 2 inb_S512x512_S512x128_0_256 inb_S256x1024_S256x128_0_256 inb_S256x1024_S256x128_0_768 inb_S512x512_S512x128_0_256 rfl rfl rfl rfl).dk_at (View.ld zeroKV (Rect.unit ![0, 256] S256x128.size inb_S256x1024_S256x128_0_256)) (pay6_ld _ x)
      (emb_rows inb_S256x1024_S256x128_0_256 x (colK 2 (x 1)) rfl)
  · exact (tiles_ld x0 x1 x2 1 inb_S512x512_S512x128_0_128 inb_S256x1024_S256x128_0_128 inb_S256x1024_S256x128_0_640 inb_S512x512_S512x128_0_128 rfl rfl rfl rfl).dv_at (View.ld zeroKV (Rect.unit ![0, 640] S256x128.size inb_S256x1024_S256x128_0_640)) (pay6_ld _ x)
      (emb_rows inb_S256x1024_S256x128_0_640 x (colV 1 (x 1)) (by simp only [colV]; rw [← Nat.add_assoc]; rfl))
  · exact (tiles_ld x0 x1 x2 1 inb_S512x512_S512x128_0_128 inb_S256x1024_S256x128_0_128 inb_S256x1024_S256x128_0_640 inb_S512x512_S512x128_0_128 rfl rfl rfl rfl).dk_at (View.ld zeroKV (Rect.unit ![0, 128] S256x128.size inb_S256x1024_S256x128_0_128)) (pay6_ld _ x)
      (emb_rows inb_S256x1024_S256x128_0_128 x (colK 1 (x 1)) rfl)
  · exact (tiles_ld x0 x1 x2 0 inb_S512x512_S512x128_0_0 inb_S256x1024_S256x128_0_0 inb_S256x1024_S256x128_0_512 inb_S512x512_S512x128_0_0 rfl rfl rfl rfl).dv_at (View.ld zeroKV (Rect.unit ![0, 512] S256x128.size inb_S256x1024_S256x128_0_512)) (pay6_ld _ x)
      (emb_rows inb_S256x1024_S256x128_0_512 x (colV 0 (x 1)) (by simp only [colV]; rw [← Nat.add_assoc]; rfl))
  · exact (tiles_ld x0 x1 x2 0 inb_S512x512_S512x128_0_0 inb_S256x1024_S256x128_0_0 inb_S256x1024_S256x128_0_512 inb_S512x512_S512x128_0_0 rfl rfl rfl rfl).dk_at (View.ld zeroKV (Rect.unit ![0, 0] S256x128.size inb_S256x1024_S256x128_0_0)) (pay6_ld _ x)
      (emb_rows inb_S256x1024_S256x128_0_0 x (colK 0 (x 1)) rfl)

end Cert.Mem
end
-- ==== Proof.MemValue.lean ====
/- The kernel's two result arrays, as functions of its three arguments. -/
module
public import proofs.«01_k».proof.Proof.MemPoint
public import Idealize.ShloMosaic.Lib.Pipeline.ValueKit
@[expose] public section
set_option maxRecDepth 16384
noncomputable section
namespace Cert.Mem
open Cert.KernelIdeal Cert.KernelIdeal.Gen Idealize.ShloMosaic Idealize.ShloMosaic.TcCoe Idealize.SL.Sem
open Idealize.ShloMosaic.Pipeline (Dat)

/-- Row `r` of the queries: columns 9216 to 9727 of `P`. -/
def qrow (P : Vec Ideal S4096x9728 .bf16) (r : Fin 4096) (c : Fin 512) : EReal := P (ix2 r ⟨9216 + c.val, by omega⟩)

/-- Row `r` of the output's gradient: columns 1024 to 1535 of `dcat`. -/
def orow (D : Vec Ideal S4096x1536 .f32) (r : Fin 4096) (c : Fin 512) : EReal := D (ix2 r ⟨1024 + c.val, by omega⟩)

/-- The gradient of the queries. -/
def gradQ (P : Vec Ideal S4096x9728 .bf16) (KV : Vec Ideal S256x1024 .bf16) (D : Vec Ideal S4096x1536 .f32) :
    Vec Ideal S4096x512 .bf16 :=
  fun y => gq (qrow P (y 0)) (row KV) (orow D (y 0)) (y 1)

/-- The gradient of the keys and values: the sum over all rows. -/
def gradKV (P : Vec Ideal S4096x9728 .bf16) (KV : Vec Ideal S256x1024 .bf16) (D : Vec Ideal S4096x1536 .f32) :
    Vec Ideal S256x1024 .f32 :=
  fun y => ∑ r, gkv (qrow P r) (row KV) (orow D r) (y 0) (y 1)

variable (m : (ℓ : Loc nD τ sig) → Buf (Elt Ideal) ℓ) (c : Dev nD)

/-- The three arguments. -/
abbrev aP : Vec Ideal S4096x9728 .bf16 := m ((c.tc : Thread nD τ).loc main_arg0)
abbrev aKV : Vec Ideal S256x1024 .bf16 := m ((c.tc : Thread nD τ).loc main_arg1)
abbrev aD : Vec Ideal S4096x1536 .f32 := m ((c.tc : Thread nD τ).loc main_arg2)

theorem idx0 : ∀ t : Fin cfg0.N, win0_0.index t = ![t.val, 18] := by decide +kernel
theorem idx1 : ∀ t : Fin cfg0.N, win0_1.index t = ![0, 0] := by decide +kernel
theorem idx2 : ∀ t : Fin cfg0.N, win0_2.index t = ![t.val, 2] := by decide +kernel
theorem idx3 : ∀ t : Fin cfg0.N, win0_3.index t = ![t.val, 0] := by decide +kernel
theorem idx4 : ∀ t : Fin cfg0.N, win0_4.index t = ![0, 0] := by decide +kernel

theorem lt8 (t : Fin cfg0.N) : t.val < 8 := lt_of_lt_of_eq t.isLt (show cfg0.N = 8 from N_0)

/-- Row `r` of grid point `t`'s blocks in the whole arrays. -/
def rowOf (t : Fin cfg0.N) (r : Fin 512) : Fin 4096 := ⟨t.val * 512 + r.val, by have := lt8 t; omega⟩

theorem row0 (t : Fin cfg0.N) (r : Fin 512) : row (iblk m c 0 t) r = qrow (aP m c) (rowOf t r) := by
  funext d
  unfold row qrow rowOf
  blk_ext [iblk, V, idx0 t]

theorem row1 (t : Fin cfg0.N) : row (iblk m c 1 t) = row (aKV m c) := by
  funext j d
  unfold row
  blk_ext [iblk, V, idx1 t]

theorem row2 (t : Fin cfg0.N) (r : Fin 512) : row (iblk m c 2 t) r = orow (aD m c) (rowOf t r) := by
  funext d
  unfold row orow rowOf
  blk_ext [iblk, V, idx2 t]

/-- What grid point `n` adds to the gradient of the keys and values. -/
def addKV (n : ℕ) (y : S256x1024.Idx) : EReal :=
  if h : n < cfg0.N then blkKV (iblk m c 0 ⟨n, h⟩) (iblk m c 1 ⟨n, h⟩) (iblk m c 2 ⟨n, h⟩) y else 0

theorem acc_A (t : Fin cfg0.N) (h : t.val % 8 = 0) (y : S256x1024.Idx) :
    (outsAt0 m c t.val t.isLt).2 y = (0 : EReal) + addKV m c t.val y := by
  rw [outsAt0_A m c t h]
  refine (out_A_4 c (grid0.coords t) (ms0_0 t) (hs0_0 t) (ms0_1 t) (hs0_1 t) (ms0_2 t) (hs0_2 t) (ms0_3 t) (hs0_3 t)
        (ms0_4 t) (hs0_4 t) ((hcond0_0 t).mpr h) _ _ _ y).trans ?_
  unfold addKV
  rw [dif_pos t.isLt]

theorem acc_B (t : Fin cfg0.N) (h : ¬t.val % 8 = 0) (y : S256x1024.Idx) :
    (outsAt0 m c t.val t.isLt).2 y
      = (outsAt0 m c (t.val - 1) (Nat.lt_of_le_of_lt (Nat.sub_le _ _) t.isLt)).2 y + addKV m c t.val y := by
  rw [outsAt0_B m c t h]
  refine (out_B_4 c (grid0.coords t) (ms0_0 t) (hs0_0 t) (ms0_1 t) (hs0_1 t) (ms0_2 t) (hs0_2 t) (ms0_3 t) (hs0_3 t)
        (ms0_4 t) (hs0_4 t) (fun h' => h ((hcond0_0 t).mp h')) _ _ _ _ y).trans ?_
  unfold addKV
  rw [dif_pos t.isLt]

/-- After the last point the block holds the sum of all points' additions. -/
theorem acc_last (t : Fin cfg0.N) (h : t.val % 8 = 7) (y : S256x1024.Idx) :
    (outsAt0 m c t.val t.isLt).2 y = (0 : EReal) + ∑ k ∈ Finset.range 8, addKV m c k y :=
  Pipeline.eq_sum_of_reset_step_apply_single_of_mod (M := EReal) (fun n h => (outsAt0 m c n h).2) 8 (fun _ => 0) (addKV m c)
    (acc_A m c) (acc_B m c) (le_of_eq (show cfg0.N = 8 from N_0)) t h y

theorem sum_addKV (y : S256x1024.Idx) :
    ∑ k ∈ Finset.range 8, addKV m c k y = gradKV (aP m c) (aKV m c) (aD m c) y := by
  have h8 : cfg0.N = 8 := N_0
  have hb : ∀ t : Fin cfg0.N, addKV m c t.val y
      = ∑ r : Fin 512, gkv (qrow (aP m c) (rowOf t r)) (row (aKV m c)) (orow (aD m c) (rowOf t r)) (y 0) (y 1) := by
    intro t
    unfold addKV blkKV
    rw [dif_pos t.isLt]
    refine Finset.sum_congr rfl fun r _ => ?_
    rw [row0, row1, row2]
  rw [← h8, Finset.sum_range]
  simp only [hb]
  unfold gradKV
  rw [← Finset.sum_product', Finset.univ_product_univ]
  refine Fintype.sum_equiv ((Equiv.prodCongr (finCongr h8) (Equiv.refl (Fin 512))).trans finProdFinEquiv) _ _ fun x => ?_
  have : rowOf x.1 x.2 = ((Equiv.prodCongr (finCongr h8) (Equiv.refl (Fin 512))).trans finProdFinEquiv) x := by
    refine Fin.ext ?_
    simp [rowOf, finProdFinEquiv]
    omega
  rw [this]

theorem emb3 (t : Fin cfg0.N) (y : S512x512.Idx) : (win0_3.blk t).view.emb y = ix2 (rowOf t (y 0)) (y 1) := by
  unfold rowOf
  blk_ext [idx3 t]

theorem emb4 (t : Fin cfg0.N) (y : S256x1024.Idx) : (win0_4.blk t).view.emb y = y := by
  blk_ext [idx4 t]

/-- The block of the queries' gradient that point `t` leaves. -/
theorem out3 (t : Fin cfg0.N) (y : S512x512.Idx) :
    (outsAt0 m c t.val t.isLt).1 y = gradQ (aP m c) (aKV m c) (aD m c) (ix2 (rowOf t (y 0)) (y 1)) := by
  have h : (outsAt0 m c t.val t.isLt).1 y = blkQ (iblk m c 0 t) (iblk m c 1 t) (iblk m c 2 t) y := by
    by_cases h0 : t.val % 8 = 0
    · rw [outsAt0_A m c t h0]
      exact out_A_3 c (grid0.coords t) (ms0_0 t) (hs0_0 t) (ms0_1 t) (hs0_1 t) (ms0_2 t) (hs0_2 t) (ms0_3 t) (hs0_3 t)
        (ms0_4 t) (hs0_4 t) ((hcond0_0 t).mpr h0) _ _ _ y
    · rw [outsAt0_B m c t h0]
      exact out_B_3 c (grid0.coords t) (ms0_0 t) (hs0_0 t) (ms0_1 t) (hs0_1 t) (ms0_2 t) (hs0_2 t) (ms0_3 t) (hs0_3 t)
        (ms0_4 t) (hs0_4 t) (fun h' => h0 ((hcond0_0 t).mp h')) _ _ _
        (outsAt0 m c (t.val - 1) (Nat.lt_of_le_of_lt (Nat.sub_le _ _) t.isLt)).2 y
  rw [h]
  obtain ⟨r, d, rfl⟩ : ∃ (r d : Fin 512), y = ix2 r d := ⟨y 0, y 1, eq_ix2 y⟩
  unfold blkQ gradQ
  simp only [ix2_0, ix2_1]
  rw [row0, row1, row2]

/-- The kernel's first result: the gradient of the queries. -/
theorem arr3 : (dats m 0 c).arrAt 3 cfg0.N = gradQ (aP m c) (aKV m c) (aD m c) := by
  refine (dats m 0 c).arrAt_eq_of_covers 3 _ (by decide +kernel) fun t hf y => ?_
  blk_simp
  rw [after0_3]
  exact (out3 m c t y).trans (congrArg (gradQ (aP m c) (aKV m c) (aD m c)) (emb3 t y).symm)

/-- The kernel's second result: the gradient of the keys and values. -/
theorem arr4 : (dats m 0 c).arrAt 4 cfg0.N = gradKV (aP m c) (aKV m c) (aD m c) := by
  refine (dats m 0 c).arrAt_eq_of_covers 4 _ (by decide +kernel) fun t hf y => ?_
  blk_simp
  rw [after0_4]
  have h := acc_last m c t ((flush0_4 t).mp hf) y
  rw [sum_addKV, zero_add] at h
  exact h.trans (congrArg (gradKV (aP m c) (aKV m c) (aD m c)) (emb4 t y).symm)

/-- The run of the kernel: both results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0_0) = gradQ (aP m c) (aKV m c) (aD m c)
      ∧ r.2.mem ((c : Thread nD τ).loc main_v0_1) = gradKV (aP m c) (aKV m c) (aD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2.1.trans (arr4 m c), (h c).2.2⟩)
    (Value.run_blocks m ρ)

end Cert.Mem
end
-- ==== Proof.MemRef.lean ====
/- The reference's two result arrays, read at an index. -/
module
public import proofs.«01_k».proof.Proof.MemValue
public import proofs.«01_k».proof.Proof.Gen.ReferenceIdeal.Read
public import Idealize.ShloMosaic.Lib.ValueIdx
public import Idealize.ShloMosaic.Lib.Pointwise
@[expose] public section
set_option maxRecDepth 16384
noncomputable section
namespace Cert.MemRef
open Cert.Mem Cert.ReferenceIdeal Cert.ReferenceIdeal.Read Idealize.ShloMosaic Idealize.ShloMosaic.TcCoe Idealize.SL.Sem

variable (x0 : Vec Ideal S4096x9728 .bf16) (x1 : Vec Ideal S256x1024 .bf16) (x2 : Vec Ideal S4096x1536 .f32)

/-- The queries, by head. -/
theorem q_at (r : Fin 4096) (h : Fin 4) (d : Fin 128) : val_main_v7 (F := Ideal) x0 (ix4 0 r h d) = qrow x0 r (col h d) := by
  pointwise [val_main_v7, val_main_v2, val_main_v1, val_main_v0]
  unfold qrow col
  exact congrArg x0 (congrArg (ix2 r) (Fin.ext (by simp only []; omega)))

/-- The keys, by head. -/
theorem k_at (j : Fin 256) (h : Fin 4) (d : Fin 128) : val_main_v10 (F := Ideal) x1 (ix4 0 j h d) = row x1 j (colK h d) := by
  pointwise [val_main_v10, val_main_v9, val_main_v8, val_main_v6, val_main_v5]
  unfold row colK
  exact congrArg x1 (congrArg (ix2 j) (Fin.ext (by simp only []; omega)))

/-- The values, by head. -/
theorem v_at (j : Fin 256) (h : Fin 4) (d : Fin 128) : val_main_v12 (F := Ideal) x1 (ix4 0 j h d) = row x1 j (colV h d) := by
  pointwise [val_main_v12, val_main_v11, val_main_v8, val_main_v6, val_main_v5]
  unfold row colV
  exact congrArg x1 (congrArg (ix2 j) (Fin.ext (by simp only []; omega)))

/-- The gradient of the output, by head. -/
theorem o_at (r : Fin 4096) (h : Fin 4) (d : Fin 128) : val_main_v48 (F := Ideal) x2 (ix4 0 h d r) = orow x2 r (col h d) := by
  pointwise [val_main_v48, val_main_v47, val_main_v4, val_main_v3]
  unfold orow col
  exact congrArg x2 (congrArg (ix2 r) (Fin.ext (by simp only []; omega)))

/-- The scores. -/
theorem s_at (h : Fin 4) (r : Fin 4096) (j : Fin 256) :
    val_main_v15 (F := Ideal) x0 x1 (ix4 0 h r j) = hscore (qrow x0 r) (row x1) h j := by
  pointwise [val_main_v15, val_main_v13, val_main_v14, val_main_cst]
  simp only [q_at, k_at]
  unfold hscore score kap
  with_reducible rfl

/-- The larger of two numbers, as the host writes it. -/
theorem max_at (a b : EReal) : FloatOps.maximumf (F := Ideal) (φ := .f32) a b = max a b := rfl

/-- The maximum over the keys. -/
theorem m16 (h : Fin 4) (r : Fin 4096) :
    val_main_v16 (F := Ideal) x0 x1 (ix3 0 h r) = Finset.univ.fold max ninf fun j => val_main_v15 (F := Ideal) x0 x1 (ix4 0 h r j) := by
  pointwise [val_main_v16, val_main_cst_0]
  unfold ninf
  with_reducible rfl

/-- Its initial value, once more. -/
theorem m22 (h : Fin 4) (r : Fin 4096) :
    val_main_v22 (F := Ideal) (ix3 0 h r) = ninf := by
  pointwise [val_main_v22, val_main_cst_2]
  unfold ninf
  with_reducible rfl

/-- The maximum of a row of scores. -/
theorem m_at (h : Fin 4) (r : Fin 4096) :
    val_main_v23 (F := Ideal) x0 x1 (ix3 0 h r) = rmax (hscore (qrow x0 r) (row x1) h) := by
  refine (val_main_v23_apply x0 x1 _).trans ?_
  rw [m16, m22, max_at, ninf_eq]
  simp only [s_at]
  unfold rmax
  rw [ninf_eq]
  exact max_eq_right bot_le

/-- The exponentials. -/
theorem e_at (h : Fin 4) (r : Fin 4096) (j : Fin 256) :
    val_main_v36 (F := Ideal) x0 x1 (ix4 0 h r j) = ex (hscore (qrow x0 r) (row x1) h) j := by
  pointwise [val_main_v36, val_main_v35, val_main_v34, val_main_v33]
  simp only [s_at, m_at]
  unfold ex
  with_reducible rfl

/-- Their sum. -/
theorem z_at (h : Fin 4) (r : Fin 4096) :
    val_main_v38 (F := Ideal) x0 x1 (ix4 0 h r 0) = ∑ j, ex (hscore (qrow x0 r) (row x1) h) j := by
  pointwise [val_main_v38, val_main_v37, val_main_cst_8]
  simp only [e_at]
  try exact zero_add _

/-- The probabilities. -/
theorem p_at (h : Fin 4) (r : Fin 4096) (j : Fin 256) :
    val_main_v40 (F := Ideal) x0 x1 (ix4 0 h r j) = prob (hscore (qrow x0 r) (row x1) h) j := by
  pointwise [val_main_v40, val_main_v39]
  simp only [e_at, z_at]
  unfold prob
  with_reducible rfl

/-- The gradient of the probabilities. -/
theorem dp_at (h : Fin 4) (r : Fin 4096) (j : Fin 256) :
    val_main_v49 (F := Ideal) x1 x2 (ix4 0 h r j) = hdp (row x1) (orow x2 r) h j := by
  pointwise [val_main_v49]
  simp only [o_at, v_at]
  unfold hdp
  with_reducible rfl

/-- The sum over two axes, of which one has one entry and the other is the first, of one entry too. -/
theorem sum_unit (x : S1x4x4096x1.Idx → EReal) (hr : S1x4x4096x1.ReducesTo [0, 3] S4x4096) (h : Fin 4) (r : Fin 4096) :
    Ideal.hostReduceAdd hr x 0 (ix2 h r) = x (ix4 0 h r 0) := by
  have h0 : ∀ i : S1x4x4096x1.Idx, (hr.drop i 0).val = (i 1).val := fun i => rfl
  have h1 : ∀ i : S1x4x4096x1.Idx, (hr.drop i 1).val = (i 2).val := fun i => rfl
  unfold Ideal.hostReduceAdd
  rw [zero_add, Finset.sum_eq_single (ix4 0 h r 0)]
  · intro b hb hne
    exfalso; apply hne
    have hd := (Finset.mem_filter.1 hb).2
    have e0 : (b 1).val = h.val := (h0 b).symm.trans (congrArg (fun i : S4x4096.Idx => (i 0).val) hd)
    have e1 : (b 2).val = r.val := (h1 b).symm.trans (congrArg (fun i : S4x4096.Idx => (i 1).val) hd)
    funext a
    match a with
    | 0 => exact Fin.ext (Nat.lt_one_iff.1 (b 0).isLt)
    | 1 => exact Fin.ext e0
    | 2 => exact Fin.ext e1
    | 3 => exact Fin.ext (Nat.lt_one_iff.1 (b 3).isLt)
  · intro hn
    exfalso; apply hn
    refine Finset.mem_filter.2 ⟨Finset.mem_univ _, ?_⟩
    funext a
    match a with
    | 0 => exact Fin.ext (h0 _)
    | 1 => exact Fin.ext (h1 _)

/-- The gradient of the reciprocal of the sum, once over its unit axes. -/
theorem w_at (h : Fin 4) (r : Fin 4096) :
    val_main_v60 (F := Ideal) x0 x1 x2 (ix2 h r)
      = -(∑ j, hdp (row x1) (orow x2 r) h j
          * Ideal.div 1 ((∑ j', ex (hscore (qrow x0 r) (row x1) h) j') * (∑ j', ex (hscore (qrow x0 r) (row x1) h) j'))
          * ex (hscore (qrow x0 r) (row x1) h) j) := by
  pointwise [val_main_v60, val_main_cst_11]
  refine (sum_unit _ _ h r).trans ?_
  pointwise [val_main_v57, val_main_v56, val_main_v55, val_main_v54, val_main_v53, val_main_v52, val_main_v43, val_main_v42,
    val_main_v41, val_main_cst_9, val_main_cst_10]
  simp only [e_at, z_at, dp_at]

/-- The gradient of the unscaled scores. -/
theorem ds_at (h : Fin 4) (r : Fin 4096) (j : Fin 256) :
    val_main_v66 (F := Ideal) x0 x1 x2 (ix4 0 h r j)
      = dscoreR (hscore (qrow x0 r) (row x1) h) (hdp (row x1) (orow x2 r) h) j := by
  pointwise [val_main_v66, val_main_v65, val_main_cst_12, val_main_v64, val_main_v63, val_main_v62, val_main_v61, val_main_v59,
    val_main_v58]
  simp only [e_at, z_at, dp_at, w_at]
  unfold dscoreR kap
  with_reducible rfl

/-- The gradient of the values, by head. -/
theorem dv_at (j : Fin 256) (h : Fin 4) (d : Fin 128) :
    val_main_v51 (F := Ideal) x0 x1 x2 (ix4 0 j h d)
      = ∑ r, prob (hscore (qrow x0 r) (row x1) h) j * orow x2 r (col h d) := by
  pointwise [val_main_v51, val_main_v50]
  simp only [p_at, o_at]
  exact Finset.sum_congr rfl fun r _ => mul_comm _ _

/-- The gradient of the keys, by head. -/
theorem dk_at (j : Fin 256) (h : Fin 4) (d : Fin 128) :
    val_main_v68 (F := Ideal) x0 x1 x2 (ix4 0 j h d)
      = ∑ r, dscoreR (hscore (qrow x0 r) (row x1) h) (hdp (row x1) (orow x2 r) h) j * qrow x0 r (col h d) := by
  pointwise [val_main_v68, val_main_v67]
  simp only [ds_at, q_at]

/-- The gradient of the queries, by head. -/
theorem dq_at (r : Fin 4096) (h : Fin 4) (d : Fin 128) :
    val_main_v70 (F := Ideal) x0 x1 x2 (ix4 0 r h d)
      = ∑ j, dscoreR (hscore (qrow x0 r) (row x1) h) (hdp (row x1) (orow x2 r) h) j * row x1 j (colK h d) := by
  pointwise [val_main_v70, val_main_v69]
  simp only [ds_at, k_at]

/-- The first result. -/
theorem v79_at (r : Fin 4096) (c : Fin 512) :
    val_main_v79 (F := Ideal) x0 x1 x2 (ix2 r c)
      = val_main_v70 (F := Ideal) x0 x1 x2 (ix4 0 r (headOf c) ⟨c.val % 128, Nat.mod_lt _ (by omega)⟩) := by
  pointwise [val_main_v79, val_main_v78, val_main_v77]
  unfold headOf
  with_reducible rfl

/-- The gradient of keys and values side by side: its half of the keys. -/
theorem v75_K (j : Fin 256) (h : Fin 4) (d : Fin 128) :
    val_main_v75 (F := Ideal) x0 x1 x2 (ix5 0 j 0 h d) = val_main_v68 (F := Ideal) x0 x1 x2 (ix4 0 j h d) := by
  pointwise [val_main_v75, val_main_v72, val_main_v74, val_main_cst_13, val_main_cst_14, val_main_v71, val_main_v73]

/-- Its half of the values. -/
theorem v75_V (j : Fin 256) (h : Fin 4) (d : Fin 128) :
    val_main_v75 (F := Ideal) x0 x1 x2 (ix5 0 j 1 h d) = val_main_v51 (F := Ideal) x0 x1 x2 (ix4 0 j h d) := by
  pointwise [val_main_v75, val_main_v72, val_main_v74, val_main_cst_13, val_main_cst_14, val_main_v71, val_main_v73]

theorem v80_K (j : Fin 256) (h : Fin 4) (d : Fin 128) :
    val_main_v80 (F := Ideal) x0 x1 x2 (ix2 j (colK h d)) = val_main_v68 (F := Ideal) x0 x1 x2 (ix4 0 j h d) := by
  pointwise [val_main_v80, val_main_v76]
  rw [← v75_K]
  unfold colK
  congr 2 <;> exact Fin.ext (by simp only []; omega)

theorem v80_V (j : Fin 256) (h : Fin 4) (d : Fin 128) :
    val_main_v80 (F := Ideal) x0 x1 x2 (ix2 j (colV h d)) = val_main_v51 (F := Ideal) x0 x1 x2 (ix4 0 j h d) := by
  pointwise [val_main_v80, val_main_v76]
  rw [← v75_V]
  unfold colV
  congr 2 <;> exact Fin.ext (by simp only []; omega)

/-- The queries and the keys are real numbers. -/
structure RealQK : Prop where
  q : ∀ r c, ∃ t : ℝ, qrow x0 r c = (t : EReal)
  k : ∀ j h d, ∃ t : ℝ, row x1 j (colK h d) = (t : EReal)

variable {x0 x1}

/-- The gradient of the scores as the kernel computes it. -/
theorem hds_eq (H : RealQK x0 x1) (r : Fin 4096) (h : Fin 4) (j : Fin 256) :
    dscoreR (hscore (qrow x0 r) (row x1) h) (hdp (row x1) (orow x2 r) h) j = hds (qrow x0 r) (row x1) (orow x2 r) h j :=
  dscoreR_eq _ _ (score_real _ _ (fun _ => H.q _ _) fun _ _ => H.k _ _ _) j

/-- A column of the queries is one of its head. -/
theorem col_split (c : Fin 512) : c = col (headOf c) ⟨c.val % 128, Nat.mod_lt _ (by omega)⟩ :=
  Fin.ext (by simp only [col, headOf]; omega)

/-- The reference's first result is the gradient of the queries. -/
theorem v79_eq (H : RealQK x0 x1) : val_main_v79 (F := Ideal) x0 x1 x2 = gradQ x0 x1 x2 := by
  funext y
  obtain ⟨r, c, rfl⟩ : ∃ r c, y = ix2 r c := ⟨_, _, eq_ix2 y⟩
  rw [v79_at, dq_at]
  simp only [hds_eq x2 H]
  refine (gq_col _ _ _ _ _).symm.trans ?_
  rw [← col_split]
  rfl

/-- The reference's second result is the gradient of the keys and values. -/
theorem v80_eq (H : RealQK x0 x1) : val_main_v80 (F := Ideal) x0 x1 x2 = gradKV x0 x1 x2 := by
  funext y
  obtain ⟨j, c, rfl⟩ : ∃ j c, y = ix2 j c := ⟨_, _, eq_ix2 y⟩
  by_cases hc : c.val < 512
  · obtain ⟨h, d, rfl⟩ : ∃ h d, c = colK h d :=
      ⟨⟨c.val / 128, by omega⟩, ⟨c.val % 128, Nat.mod_lt _ (by omega)⟩, Fin.ext (by simp only [colK]; omega)⟩
    rw [v80_K, dk_at]
    simp only [hds_eq x2 H]
    exact Finset.sum_congr rfl fun r _ => (gkv_colK _ _ _ _ _ _).symm
  · obtain ⟨h, d, rfl⟩ : ∃ h d, c = colV h d :=
      ⟨⟨(c.val - 512) / 128, by omega⟩, ⟨(c.val - 512) % 128, Nat.mod_lt _ (by omega)⟩, Fin.ext (by simp only [colV]; omega)⟩
    rw [v80_V, dv_at]
    exact Finset.sum_congr rfl fun r _ => (gkv_colV _ _ _ _ _ _).symm

end Cert.MemRef
end
-- ==== Proof.MemPre.lean ====
/- The precondition's facts, and what the precondition says of the entries. -/
module
public import proofs.«01_k».proof.Defs
public import proofs.«01_k».proof.Proof.MemRef
public import Idealize.ShloMosaic.Lib.Decide
@[expose] public section
set_option maxRecDepth 16384
noncomputable section
namespace Cert.MemPre
open Cert.Mem Idealize.ShloMosaic

/-- The shape relations the predicate's operations take. -/
instance facts : Cert.Pre_scores_finite.Facts where
  slices_S4096x9728_S4096x512_0_9216 := by decide
  bitsLt_bf16_f32 := by decide
  bcast_S_S4096x512 := by decide
  slices_S256x1024_S256x512_0_0 := by decide
  bcast_S_S256x512 := by decide

/-- A number whose absolute value compares below infinity is real. -/
theorem real_of_abs_lt (x : EReal) (h : BitVec.ofBool (decide (max x (-x) < Ideal.ofBits .f32 0x7F800000#32)) = 1#1) :
    ∃ t : ℝ, x = (t : EReal) := by
  rw [inf_eq] at h
  have h' : max x (-x) < ⊤ := by
    by_contra hn
    rw [decide_eq_false hn] at h
    exact absurd h (by decide)
  rw [max_lt_iff] at h'
  refine ⟨x.toReal, (EReal.coe_toReal h'.1.ne fun hb => ?_).symm⟩
  rw [hb] at h'
  exact absurd h'.2 (by simp)

open Cert.Pre_scores_finite in
/-- Under the precondition queries and keys are real numbers. -/
theorem realQK (x0 : Vec Ideal S4096x9728 .bf16) (x1 : Vec Ideal S256x1024 .bf16) (x2 : Vec Ideal S4096x1536 .f32)
    (h0 : (fn (F := Ideal) x0 x1 x2).1 = fun _ => 1#1) (h1 : (fn (F := Ideal) x0 x1 x2).2 = fun _ => 1#1) :
    Cert.MemRef.RealQK x0 x1 := by
  constructor
  · intro r c
    have h := congrFun h0 (ix2 r c)
    pointwise [fn] at h
    exact real_of_abs_lt _ h
  · intro j h d
    have h := congrFun h1 (ix2 j ⟨128 * h.val + d.val, by omega⟩)
    pointwise [fn] at h
    exact real_of_abs_lt _ h

end Cert.MemPre
end
-- ==== Proof.LnBwdProof.lean ====
/- The gradient of the scaled residual's layer norm, its gain and its bias. -/
module
public import Idealize.ShloMosaic.Lib.Pointwise
public import Idealize.ShloMosaic.Lib.Pipeline.ValueKit
public import proofs.«01_k».proof.Defs
public import proofs.«01_k».proof.Proof.LnSpec
public import proofs.«01_k».proof.Proof.MemPre
public import proofs.«01_k».proof.Proof.Gen.LnBwd.Frame
public import proofs.«01_k».proof.Proof.Gen.LnBwdIdeal.Value
public import proofs.«01_k».proof.Proof.Gen.LnBwdRefIdeal.Run
public import proofs.«01_k».proof.Proof.Gen.LnBwdRefIdeal.Read
@[expose] public section
set_option maxRecDepth 16384
noncomputable section
namespace Cert.LnBwdProof
open Cert.LnBwdIdeal Cert.LnBwdIdeal.Gen Idealize.ShloMosaic Idealize.ShloMosaic.TcCoe Idealize.SL.Sem
open Idealize.ShloMosaic.Pipeline (Dat)

/-- The scale of the residual: the literal both programs print. -/
def alpha : EReal := Ideal.ofBits .f32 0x3FD744FD#32

/-- The length of a row: the literal both programs print. -/
def len : EReal := Ideal.ofBits .f32 0x45000000#32

/-- The row the layer norm takes: the scaled residual plus the branch. -/
def zrow (x y : Fin 2048 → EReal) (j : Fin 2048) : EReal := alpha * x j + y j

theorem pay8_apply (x y : Vec Ideal S512x2048 .f32) (r : Fin 512) (j : Fin 2048) :
    k0_pay8 (F := Ideal) x y (ix2 r j) = Ln.xc len (zrow (fun k => x (ix2 r k)) fun k => y (ix2 r k)) j := by
  unfold Ln.xc Ln.mean zrow alpha len
  pointwise [k0_pay8]

theorem pay9_apply (x y : Vec Ideal S512x2048 .f32) (r : Fin 512) (z : Fin 1) :
    k0_pay9 (F := Ideal) x y (ix2 r z) = Ln.rstd len (zrow (fun k => x (ix2 r k)) fun k => y (ix2 r k)) := by
  unfold Ln.rstd Ln.var
  simp only [← pay8_apply]
  unfold len Ln.eps
  pointwise [k0_pay9]

theorem pay10_apply (x y : Vec Ideal S512x2048 .f32) (r : Fin 512) (j : Fin 2048) :
    k0_pay10 (F := Ideal) x y (ix2 r j) = Ln.xhat len (zrow (fun k => x (ix2 r k)) fun k => y (ix2 r k)) j := by
  unfold Ln.xhat
  rw [← pay8_apply, ← pay9_apply x y r 0]
  pointwise [k0_pay10]

theorem pay11_apply (x y d : Vec Ideal S512x2048 .f32) (g : Vec Ideal S1x2048 .f32) (r : Fin 512) (j : Fin 2048) :
    k0_pay1 (F := Ideal) (k0_pay11 (F := Ideal) x y d g) (k0_pay12 (F := Ideal) x y) (ix2 r j)
      = Ln.grad len (fun k => d (ix2 r k) * g (ix2 0 k)) (zrow (fun k => x (ix2 r k)) fun k => y (ix2 r k)) j := by
  unfold Ln.grad Ln.mean
  rw [← pay9_apply x y r 0]
  simp only [← pay10_apply]
  unfold len
  pointwise [k0_pay1, k0_pay11, k0_pay12]

theorem pay2_apply (a b : Vec Ideal S512x2048 .f32) (i : S512x2048.Idx) :
    k0_pay2 (F := Ideal) a b i = k0_pay1 (F := Ideal) a b i := by
  obtain ⟨r, d, rfl⟩ : ∃ (r : Fin 512) (d : Fin 2048), i = ix2 r d := ⟨i 0, i 1, eq_ix2 i⟩
  pointwise [k0_pay2]

theorem pay3_apply (a b : Vec Ideal S512x2048 .f32) (i : S512x2048.Idx) :
    k0_pay3 (F := Ideal) a b i = alpha * k0_pay1 (F := Ideal) a b i := by
  obtain ⟨r, d, rfl⟩ : ∃ (r : Fin 512) (d : Fin 2048), i = ix2 r d := ⟨i 0, i 1, eq_ix2 i⟩
  unfold alpha
  pointwise [k0_pay3]

theorem pay4_apply (i : S1x2048.Idx) : k0_pay4 (F := Ideal) i = 0 := by pointwise [k0_pay4]

theorem pay5_apply (i : S1x2048.Idx) : k0_pay5 (F := Ideal) i = 0 := by pointwise [k0_pay5]

/-- What a block of rows adds to the gain's gradient. -/
def blkG (d x y : Vec Ideal S512x2048 .f32) (j : Fin 2048) : EReal :=
  ∑ r : Fin 512, d (ix2 r j) * Ln.xhat len (zrow (fun k => x (ix2 r k)) fun k => y (ix2 r k)) j

/-- What a block of rows adds to the bias's gradient. -/
def blkB (d : Vec Ideal S512x2048 .f32) (j : Fin 2048) : EReal := ∑ r : Fin 512, d (ix2 r j)

theorem pay6_apply (x y d : Vec Ideal S512x2048 .f32) (p : Vec Ideal S1x2048 .f32) (r : Fin 1) (j : Fin 2048) :
    k0_pay6 (F := Ideal) (k0_pay10 (F := Ideal) x y) d p (ix2 r j) = p (ix2 r j) + blkG d x y j := by
  unfold blkG
  simp only [← pay10_apply]
  pointwise [k0_pay6]

theorem pay7_apply (d : Vec Ideal S512x2048 .f32) (p : Vec Ideal S1x2048 .f32) (r : Fin 1) (j : Fin 2048) :
    k0_pay7 (F := Ideal) d p (ix2 r j) = p (ix2 r j) + blkB d j := by
  unfold blkB
  pointwise [k0_pay7]

/-- The gradient of the layer norm's argument. -/
def resZ (d x y : Vec Ideal S4096x2048 .f32) (g : Vec Ideal S2048 .f32) : Vec Ideal S4096x2048 .f32 := fun i =>
  Ln.grad len (fun k => d (ix2 (i 0) k) * g (ix1 k)) (zrow (fun k => x (ix2 (i 0) k)) fun k => y (ix2 (i 0) k)) (i 1)

/-- The branch's gradient. -/
def resY (d x y : Vec Ideal S4096x2048 .f32) (g : Vec Ideal S2048 .f32) : Vec Ideal S4096x2048 .bf16 := resZ d x y g

/-- The residual's gradient. -/
def resX (d x y : Vec Ideal S4096x2048 .f32) (g : Vec Ideal S2048 .f32) : Vec Ideal S4096x2048 .f32 := fun i =>
  alpha * resZ d x y g i

/-- The gain's gradient. -/
def resG (d x y : Vec Ideal S4096x2048 .f32) : Vec Ideal S1x2048 .f32 := fun i =>
  ∑ r : Fin 4096, d (ix2 r (i 1)) * Ln.xhat len (zrow (fun k => x (ix2 r k)) fun k => y (ix2 r k)) (i 1)

/-- The bias's gradient. -/
def resB (d : Vec Ideal S4096x2048 .f32) : Vec Ideal S1x2048 .f32 := fun i => ∑ r : Fin 4096, d (ix2 r (i 1))

variable (m : (ℓ : Loc nD τ sig) → Buf (Elt Ideal) ℓ) (c : Dev nD)

/-- The arguments. -/
abbrev aD : Vec Ideal S4096x2048 .f32 := m ((c.tc : Thread nD τ).loc main_arg0)
abbrev aX : Vec Ideal S4096x2048 .f32 := m ((c.tc : Thread nD τ).loc main_arg1)
abbrev aY : Vec Ideal S4096x2048 .f32 := m ((c.tc : Thread nD τ).loc main_arg2)
abbrev aG : Vec Ideal S2048 .f32 := m ((c.tc : Thread nD τ).loc main_arg3)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel
theorem idx7 : ∀ t : Fin cfg0.N, win0_7.index t = ![0, 0] := by decide +kernel

theorem ltN (t : Fin cfg0.N) : t.val < 8 := lt_of_lt_of_eq t.isLt (show cfg0.N = 8 from N_0)

/-- Row `r` of grid point `t`'s blocks in the whole arrays. -/
def rowOf (t : Fin cfg0.N) (r : Fin 512) : Fin 4096 := ⟨t.val * 512 + r.val, by have := ltN t; omega⟩

theorem blk0 (t : Fin cfg0.N) (r : Fin 512) (j : Fin 2048) : iblk m c 0 t (ix2 r j) = aD m c (ix2 (rowOf t r) j) := by
  unfold rowOf
  blk_ext [iblk, V, idx0 t]

theorem blk1 (t : Fin cfg0.N) (r : Fin 512) (j : Fin 2048) : iblk m c 1 t (ix2 r j) = aX m c (ix2 (rowOf t r) j) := by
  unfold rowOf
  blk_ext [iblk, V, idx1 t]

theorem blk2 (t : Fin cfg0.N) (r : Fin 512) (j : Fin 2048) : iblk m c 2 t (ix2 r j) = aY m c (ix2 (rowOf t r) j) := by
  unfold rowOf
  blk_ext [iblk, V, idx2 t]

/-- The gain reaches the call as one row. -/
theorem entryG : V m c main_v0 = shapeCast S1x2048 (aG m c) shapeCasts_S2048_S1x2048 := by
  entry_read
  rfl

theorem castG (g : Vec Ideal S2048 .f32) (j : Fin 2048) : shapeCast S1x2048 g shapeCasts_S2048_S1x2048 (ix2 0 j) = g (ix1 j) :=
  shapeCast_apply g shapeCasts_S2048_S1x2048 (ix2 0 j) (ix1 j) (by
    rewrite [Shape.rowMajor_val_one, Shape.rowMajor_val_two]; show j.val = 0 * 2048 + j.val; omega)

theorem blk3 (t : Fin cfg0.N) (j : Fin 2048) : iblk m c 3 t (ix2 0 j) = aG m c (ix1 j) := by
  have h : iblk m c 3 t (ix2 0 j) = V m c main_v0 (ix2 0 j) := by
    unfold iblk
    generalize V m c = f
    blk_ext [idx3 t]
  rw [h, entryG]
  exact castG _ j

/-- The gain's gradient, summed over a run of 8. -/
theorem accG (t : Fin cfg0.N) (h : t.val % 8 = 8 - 1) (y : S1x2048.Idx) :
    (outsAt0 m c t.val t.isLt).2.2.1 y = (0 : EReal) + ∑ s : Fin 8,
      blkG (iblk m c 0 ⟨8 * (t.val / 8) + s.val, Pipeline.run_point_lt_of_flush t h s⟩) (iblk m c 1 ⟨8 * (t.val / 8) + s.val, Pipeline.run_point_lt_of_flush t h s⟩)
        (iblk m c 2 ⟨8 * (t.val / 8) + s.val, Pipeline.run_point_lt_of_flush t h s⟩) (y 1) :=
  Pipeline.eq_sum_fin_of_reset_step_apply_of_flush (M := EReal) (fun n h => (outsAt0 m c n h).2.2.1) 8 (fun _ => 0)
    (fun t y => blkG (iblk m c 0 t) (iblk m c 1 t) (iblk m c 2 t) (y 1))
    (fun t h y => by
      obtain ⟨r, j, rfl⟩ : ∃ (r : Fin 1) (j : Fin 2048), y = ix2 r j := ⟨y 0, y 1, eq_ix2 y⟩
      rw [outsAt0_A m c t h]
      frame_out
      rw [pay6_apply, pay4_apply]
      rfl)
    (fun t h y => by
      obtain ⟨r, j, rfl⟩ : ∃ (r : Fin 1) (j : Fin 2048), y = ix2 r j := ⟨y 0, y 1, eq_ix2 y⟩
      rw [outsAt0_B m c t h]
      frame_out
      rw [pay6_apply]
      rfl) t h y

/-- The bias's gradient, summed over a run of 8. -/
theorem accB (t : Fin cfg0.N) (h : t.val % 8 = 8 - 1) (y : S1x2048.Idx) :
    (outsAt0 m c t.val t.isLt).2.2.2 y = (0 : EReal) + ∑ s : Fin 8,
      blkB (iblk m c 0 ⟨8 * (t.val / 8) + s.val, Pipeline.run_point_lt_of_flush t h s⟩) (y 1) :=
  Pipeline.eq_sum_fin_of_reset_step_apply_of_flush (M := EReal) (fun n h => (outsAt0 m c n h).2.2.2) 8 (fun _ => 0)
    (fun t y => blkB (iblk m c 0 t) (y 1))
    (fun t h y => by
      obtain ⟨r, j, rfl⟩ : ∃ (r : Fin 1) (j : Fin 2048), y = ix2 r j := ⟨y 0, y 1, eq_ix2 y⟩
      rw [outsAt0_A m c t h]
      frame_out
      rw [pay7_apply, pay5_apply]
      rfl)
    (fun t h y => by
      obtain ⟨r, j, rfl⟩ : ∃ (r : Fin 1) (j : Fin 2048), y = ix2 r j := ⟨y 0, y 1, eq_ix2 y⟩
      rw [outsAt0_B m c t h]
      frame_out
      rw [pay7_apply]
      rfl) t h y

theorem emb (t : Fin cfg0.N) (y : S512x2048.Idx) : (win0_4.blk t).view.emb y = ix2 (rowOf t (y 0)) (y 1) := by
  unfold rowOf
  blk_ext [idx4 t]

theorem emb5 (t : Fin cfg0.N) (y : S512x2048.Idx) : (win0_5.blk t).view.emb y = ix2 (rowOf t (y 0)) (y 1) := by
  unfold rowOf
  blk_ext [idx5 t]

theorem emb6 (t : Fin cfg0.N) (y : S1x2048.Idx) : (win0_6.blk t).view.emb y = y := by
  blk_ext [idx6 t]

theorem emb7 (t : Fin cfg0.N) (y : S1x2048.Idx) : (win0_7.blk t).view.emb y = y := by
  blk_ext [idx7 t]

/-- The block a point computes. -/
theorem point (t : Fin cfg0.N) (y : S512x2048.Idx) :
    k0_pay1 (F := Ideal) (k0_pay11 (F := Ideal) (iblk m c 1 t) (iblk m c 2 t) (iblk m c 0 t) (iblk m c 3 t)) (k0_pay12 (F := Ideal) (iblk m c 1 t) (iblk m c 2 t)) y
      = resZ (aD m c) (aX m c) (aY m c) (aG m c) (ix2 (rowOf t (y 0)) (y 1)) := by
  obtain ⟨r, j, rfl⟩ : ∃ (r : Fin 512) (j : Fin 2048), y = ix2 r j := ⟨y 0, y 1, eq_ix2 y⟩
  rw [pay11_apply]
  unfold resZ
  simp only [blk0, blk1, blk2, blk3, ix2_0, ix2_1]

theorem out4 (t : Fin cfg0.N) (y : S512x2048.Idx) :
    (outsAt0 m c t.val t.isLt).1 y = resZ (aD m c) (aX m c) (aY m c) (aG m c) (ix2 (rowOf t (y 0)) (y 1)) := by
  rw [← point]
  by_cases h : t.val % 8 = 0
  · rw [outsAt0_A m c t h]
    frame_out
    rw [pay2_apply]
  · rw [outsAt0_B m c t h]
    frame_out
    rw [pay2_apply]

theorem out5 (t : Fin cfg0.N) (y : S512x2048.Idx) :
    (outsAt0 m c t.val t.isLt).2.1 y = resX (aD m c) (aX m c) (aY m c) (aG m c) (ix2 (rowOf t (y 0)) (y 1)) := by
  unfold resX
  rw [← point]
  by_cases h : t.val % 8 = 0
  · rw [outsAt0_A m c t h]
    frame_out
    rw [pay3_apply]
  · rw [outsAt0_B m c t h]
    frame_out
    rw [pay3_apply]

theorem arr4 : (dats m 0 c).arrAt 4 cfg0.N = resY (aD m c) (aX m c) (aY m c) (aG m c) := by
  refine (dats m 0 c).arrAt_eq_of_covers 4 _ (by decide +kernel) fun t hf y => ?_
  blk_simp
  rw [after0_4]
  exact (out4 m c t y).trans (congrArg (resZ (aD m c) (aX m c) (aY m c) (aG m c)) (emb t y).symm)

theorem arr5 : (dats m 0 c).arrAt 5 cfg0.N = resX (aD m c) (aX m c) (aY m c) (aG m c) := by
  refine (dats m 0 c).arrAt_eq_of_covers 5 _ (by decide +kernel) fun t hf y => ?_
  blk_simp
  rw [after0_5]
  exact (out5 m c t y).trans (congrArg (resX (aD m c) (aX m c) (aY m c) (aG m c)) (emb5 t y).symm)

theorem arr6 : (dats m 0 c).arrAt 6 cfg0.N = resG (aD m c) (aX m c) (aY m c) := by
  refine (dats m 0 c).arrAt_eq_of_covers 6 _ (by decide +kernel) fun t hf y => ?_
  blk_simp
  have ht := (flush0_6 t).mp hf
  have hN := ltN t
  rw [after0_6]
  refine (accG m c t ht y).trans (Eq.trans ?_ (congrArg (resG (aD m c) (aX m c) (aY m c)) (emb6 t y).symm))
  rw [zero_add]
  obtain ⟨z, j, rfl⟩ : ∃ (z : Fin 1) (j : Fin 2048), y = ix2 z j := ⟨y 0, y 1, eq_ix2 y⟩
  unfold resG blkG
  refine Fin.sum_mul_add_congr fun s k hk => ?_
  simp only [ix2_1, blk0, blk1, blk2]
  rw [show rowOf ⟨8 * (t.val / 8) + s.val, Pipeline.run_point_lt_of_flush t ht s⟩ k = ⟨_, hk⟩ from Fin.ext (by simp only [rowOf]; omega)]

theorem arr7 : (dats m 0 c).arrAt 7 cfg0.N = resB (aD m c) := by
  refine (dats m 0 c).arrAt_eq_of_covers 7 _ (by decide +kernel) fun t hf y => ?_
  blk_simp
  have ht := (flush0_7 t).mp hf
  have hN := ltN t
  rw [after0_7]
  refine (accB m c t ht y).trans (Eq.trans ?_ (congrArg (resB (aD m c)) (emb7 t y).symm))
  rw [zero_add]
  obtain ⟨z, j, rfl⟩ : ∃ (z : Fin 1) (j : Fin 2048), y = ix2 z j := ⟨y 0, y 1, eq_ix2 y⟩
  unfold resB blkB
  refine Fin.sum_mul_add_congr fun s k hk => ?_
  simp only [ix2_1, blk0]
  rw [show rowOf ⟨8 * (t.val / 8) + s.val, Pipeline.run_point_lt_of_flush t ht s⟩ k = ⟨_, hk⟩ from Fin.ext (by simp only [rowOf]; omega)]

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v1_0) = resY (aD m c) (aX m c) (aY m c) (aG m c)
      ∧ r.2.mem ((c : Thread nD τ).loc main_v1_1) = resX (aD m c) (aX m c) (aY m c) (aG m c)
      ∧ r.2.mem ((c : Thread nD τ).loc main_v1_2) = resG (aD m c) (aX m c) (aY m c)
      ∧ r.2.mem ((c : Thread nD τ).loc main_v1_3) = resB (aD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2.1.trans (arr6 m c),
    (h c).2.2.2.1.trans (arr7 m c), (h c).2.2.2.2⟩) (Value.run_blocks m ρ)

section
open Cert.LnBwdRefIdeal.Read
variable (x0 x1 x2 : Vec Ideal S4096x2048 .f32) (x3 : Vec Ideal S2048 .f32)

/-- Row `r` of the reference's layer norm argument. -/
abbrev zr (r : Fin 4096) : Fin 2048 → EReal := zrow (fun k => x1 (ix2 r k)) fun k => x2 (ix2 r k)

theorem v9_apply (r : Fin 4096) (j : Fin 2048) : val_main_v9 (F := Ideal) x1 x2 (ix2 r j) = Ln.xc len (zr x1 x2 r) j := by
  unfold Ln.xc Ln.mean zr zrow alpha len
  pointwise [val_main_v1, val_main_cst_0, val_main_v2, val_main_v3, val_main_v4, val_main_cst_1, val_main_v5, val_main_v6,
    val_main_cst_2, val_main_v7, val_main_v8, val_main_v9]

theorem v18_apply (r : Fin 4096) (j : Fin 2048) : val_main_v18 (F := Ideal) x1 x2 (ix2 r j) = Ln.xc len (zr x1 x2 r) j :=
  v9_apply x1 x2 r j

theorem v20_apply (r : Fin 4096) (z : Fin 1) : val_main_v20 (F := Ideal) x1 x2 (ix2 r z) = Ln.var len (zr x1 x2 r) := by
  unfold Ln.var
  simp only [← v9_apply]
  unfold Ln.eps len
  pointwise [val_main_v10, val_main_v13, val_main_cst_4, val_main_v14, val_main_v15, val_main_cst_5, val_main_v16, val_main_v19,
    val_main_cst_6, val_main_v20]

theorem v21_apply (r : Fin 4096) (z : Fin 1) : val_main_v21 (F := Ideal) x1 x2 (ix2 r z) = Ln.rstd len (zr x1 x2 r) :=
  congrArg Ideal.rsqrt (v20_apply x1 x2 r z)

theorem v26_apply (r : Fin 4096) (j : Fin 2048) : val_main_v26 (F := Ideal) x1 x2 (ix2 r j) = Ln.xhat len (zr x1 x2 r) j := by
  unfold Ln.xhat
  rw [← v18_apply, ← v21_apply x1 x2 r 0]
  pointwise [val_main_v26, val_main_v25]

/-- Row `r` of the normalised row's gradient. -/
abbrev dr (r : Fin 4096) (k : Fin 2048) : EReal := x0 (ix2 r k) * x3 (ix1 k)

theorem v41_apply (r : Fin 4096) (j : Fin 2048) : val_main_v41 (F := Ideal) x0 x3 (ix2 r j) = dr x0 x3 r j := by
  unfold dr
  pointwise [val_main_v41, val_main_v33, val_main_v40, val_main_v27]

theorem v41_row (r : Fin 4096) : dr x0 x3 r = fun k => val_main_v41 (F := Ideal) x0 x3 (ix2 r k) :=
  funext fun k => (v41_apply x0 x3 r k).symm

theorem v56_apply (r : Fin 4096) (j : Fin 2048) :
    val_main_v56 (F := Ideal) x0 x1 x2 x3 (ix2 r j) = Ln.viaVar len (dr x0 x3 r) (zr x1 x2 r) j := by
  unfold Ln.viaVar
  rw [v41_row]
  simp only [← v20_apply x1 x2 r 0, ← v21_apply x1 x2 r 0]
  rw [← v9_apply]
  simp only [← v18_apply]
  unfold len Ln.two Ln.mhalf
  pointwise [val_main_v56, val_main_v12, val_main_v11, val_main_cst_3, val_main_v55, val_main_v54, val_main_cst_15, val_main_v53,
    val_main_v52, val_main_cst_14, val_main_v48, val_main_v24, val_main_v23, val_main_cst_7, val_main_v22, val_main_v45,
    val_main_v44, val_main_cst_12, val_main_v43]
  rw [Fin.sum_univ_one]

theorem v66_apply (r : Fin 4096) (j : Fin 2048) :
    val_main_v66 (F := Ideal) x0 x1 x2 x3 (ix2 r j) = Ln.gradR len (dr x0 x3 r) (zr x1 x2 r) j := by
  unfold Ln.gradR
  simp only [← v21_apply x1 x2 r 0, ← v56_apply]
  rw [v41_row]
  unfold len
  pointwise [val_main_v66, val_main_v65, val_main_v64, val_main_cst_18, val_main_v63, val_main_v62, val_main_cst_17, val_main_v61,
    val_main_v60, val_main_v59, val_main_v58, val_main_cst_16, val_main_v57, val_main_v51, val_main_v50, val_main_cst_13,
    val_main_v49, val_main_v47, val_main_v46]
  rw [Fin.sum_univ_one]

/-- Real gradients and gains give the reference the kernel's gradient. -/
theorem ref_Z (h0 : ∀ r k, ∃ t : ℝ, x0 (ix2 r k) = (t : EReal)) (h3 : ∀ k, ∃ t : ℝ, x3 (ix1 k) = (t : EReal)) :
    val_main_v66 (F := Ideal) x0 x1 x2 x3 = resZ x0 x1 x2 x3 := by
  funext i
  obtain ⟨r, j, rfl⟩ : ∃ r j, i = ix2 r j := ⟨_, _, eq_ix2 i⟩
  rw [v66_apply]
  unfold resZ len
  rw [Ln.c2048_eq]
  exact Ln.gradR_eq (by norm_num) (by norm_num) _ _ (fun k => by
    obtain ⟨a, ha⟩ := h0 r k
    obtain ⟨b, hb⟩ := h3 k
    exact ⟨a * b, by unfold dr; rw [ha, hb, EReal.coe_mul]⟩) j

theorem ref_Y : val_main_v69 (F := Ideal) x0 x1 x2 x3 = val_main_v66 (F := Ideal) x0 x1 x2 x3 := rfl

theorem ref_X (h : val_main_v66 (F := Ideal) x0 x1 x2 x3 = resZ x0 x1 x2 x3) : val_main_v68 (F := Ideal) x0 x1 x2 x3 = resX x0 x1 x2 x3 := by
  funext i
  unfold resX
  rw [← h]
  obtain ⟨r, j, rfl⟩ : ∃ r j, i = ix2 r j := ⟨_, _, eq_ix2 i⟩
  unfold alpha
  pointwise [val_main_v68, val_main_v67, val_main_cst_19]

theorem ref_G : val_main_v70 (F := Ideal) x0 x1 x2 = resG x0 x1 x2 := by
  funext i
  obtain ⟨r, j, rfl⟩ : ∃ r j, i = ix2 r j := ⟨_, _, eq_ix2 i⟩
  show _ = ∑ r : Fin 4096, x0 (ix2 r j) * Ln.xhat len (zr x1 x2 r) j
  simp only [← v26_apply]
  pointwise [val_main_v70, val_main_v42, val_main_cst_11, val_main_v39, val_main_v38, val_main_cst_10, val_main_v37, val_main_v33]
  rw [Fin.sum_univ_one]
  exact Finset.sum_congr rfl fun k _ => mul_comm (_ : EReal) _

theorem ref_B : val_main_v71 (F := Ideal) x0 = resB x0 := by
  funext i
  obtain ⟨r, j, rfl⟩ : ∃ r j, i = ix2 r j := ⟨_, _, eq_ix2 i⟩
  show _ = ∑ r : Fin 4096, x0 (ix2 r j)
  pointwise [val_main_v71, val_main_v36, val_main_cst_9, val_main_v35, val_main_v34, val_main_cst_8]
  rw [Fin.sum_univ_one]

end

/-- The shape relations the predicate's operations take. -/
instance pre_facts : Cert.Pre_gradient_finite.Facts where
  bcast_S_S4096x2048 := by decide
  bcast_S_S2048 := by decide

/-- Under the precondition the gradient and the gain are real numbers. -/
theorem real_of_pre (x0 x1 x2 : Vec Ideal S4096x2048 .f32) (x3 : Vec Ideal S2048 .f32)
    (h0 : (Cert.Pre_gradient_finite.fn (F := Ideal) x0 x1 x2 x3).1 = fun _ => 1#1) (h1 : (Cert.Pre_gradient_finite.fn (F := Ideal) x0 x1 x2 x3).2 = fun _ => 1#1) :
    (∀ r k, ∃ t : ℝ, x0 (ix2 r k) = (t : EReal)) ∧ ∀ k, ∃ t : ℝ, x3 (ix1 k) = (t : EReal) := by
  constructor
  · intro r c
    have h := congrFun h0 (ix2 r c)
    pointwise [Cert.Pre_gradient_finite.fn] at h
    exact Cert.MemPre.real_of_abs_lt _ h
  · intro k
    have h := congrFun h1 (ix1 k)
    pointwise [Cert.Pre_gradient_finite.fn] at h
    exact Cert.MemPre.real_of_abs_lt _ h

/-- The reference runs, keeps its arguments and leaves every semaphore at zero. -/
theorem ref_frame : Cert.quiescent_LnBwdRefIdeal := fun m ρ _ =>
  (θ_run Cert.LnBwdRefIdeal.defs _ _).mono (fun r h => ⟨fun c => (h c).2.2.2.2, sem_eq_zero_of_no_sems (by decide) r.2⟩)
    (Cert.LnBwdRefIdeal.Value.run (F := Ideal) m ρ)

/-- The kernel's results are the reference's. -/
theorem value : Cert.algebraic_LnBwdIdeal_LnBwdRefIdeal_pre_gradient_finite := fun m ρ m' ρ' hp hag =>
  ⟨fun c => resY (aD m c) (aX m c) (aY m c) (aG m c), fun c => resX (aD m c) (aX m c) (aY m c) (aG m c),
    fun c => resG (aD m c) (aX m c) (aY m c), fun c => resB (aD m c),
    run_kernel m ρ,
    (θ_run Cert.LnBwdRefIdeal.defs _ _).mono (fun r h c => by
      obtain ⟨e0, e1, e2, e3⟩ := hag c
      have hr := real_of_pre _ _ _ _ (hp c).1 (hp c).2
      have hz := ref_Z _ (aX m c) (aY m c) _ hr.1 hr.2
      refine ⟨(h c).1.trans ?_, (h c).2.1.trans ?_, (h c).2.2.1.trans ?_, (h c).2.2.2.1.trans ?_, (h c).2.2.2.2⟩
      · rw [Cert.LnBwdRefIdeal.Read.val_main_v69_eq, e0, e1, e2, e3]
        exact (ref_Y _ _ _ _).trans hz
      · rw [Cert.LnBwdRefIdeal.Read.val_main_v68_eq, e0, e1, e2, e3]
        exact ref_X _ _ _ _ hz
      · rw [Cert.LnBwdRefIdeal.Read.val_main_v70_eq, e0, e1, e2]
        exact ref_G _ _ _
      · rw [Cert.LnBwdRefIdeal.Read.val_main_v71_eq, e0]
        exact ref_B _)
      (Cert.LnBwdRefIdeal.Value.run (F := Ideal) m' ρ')⟩

end Cert.LnBwdProof
end
-- ==== Proof.LnFwdProof.lean ====
/- The layer norm of the scaled residual. -/
module
public import Idealize.ShloMosaic.Lib.Pointwise
public import Idealize.ShloMosaic.Lib.Pipeline.ValueKit
public import proofs.«01_k».proof.Defs
public import proofs.«01_k».proof.Proof.LnSpec
public import proofs.«01_k».proof.Proof.Gen.LnFwd.Frame
public import proofs.«01_k».proof.Proof.Gen.LnFwdIdeal.Value
public import proofs.«01_k».proof.Proof.Gen.LnFwdRefIdeal.Run
public import proofs.«01_k».proof.Proof.Gen.LnFwdRefIdeal.Read
@[expose] public section
set_option maxRecDepth 16384
noncomputable section
namespace Cert.LnFwdProof
open Cert.LnFwdIdeal Cert.LnFwdIdeal.Gen Idealize.ShloMosaic Idealize.ShloMosaic.TcCoe Idealize.SL.Sem
open Idealize.ShloMosaic.Pipeline (Dat)

/-- The scale of the residual: the literal both programs print. -/
def alpha : EReal := Ideal.ofBits .f32 0x3FD744FD#32

/-- The length of a row: the literal both programs print. -/
def len : EReal := Ideal.ofBits .f32 0x45000000#32

/-- The row the layer norm takes: the scaled residual plus the branch. -/
def zrow (x y : Fin 2048 → EReal) (j : Fin 2048) : EReal := alpha * x j + y j

/-- A layer norm's row: normalised, scaled by the gain and shifted by the bias. -/
def norm (x y : Fin 2048 → EReal) (g b : Fin 2048 → EReal) (j : Fin 2048) : EReal := Ln.xhat len (zrow x y) j * g j + b j

theorem pay1_apply (x y : Vec Ideal S512x2048 .f32) (g b : Vec Ideal S1x2048 .f32) (r : Fin 512) (j : Fin 2048) :
    k0_pay1 (F := Ideal) x y g b (ix2 r j)
      = norm (fun k => x (ix2 r k)) (fun k => y (ix2 r k)) (fun k => g (ix2 0 k)) (fun k => b (ix2 0 k)) j := by
  unfold norm Ln.xhat Ln.rstd Ln.var Ln.xc Ln.mean zrow alpha len Ln.eps
  pointwise [k0_pay1]

theorem pay2_apply (x y : Vec Ideal S512x2048 .f32) (g b : Vec Ideal S1x2048 .f32) (i : S512x2048.Idx) :
    k0_pay2 (F := Ideal) x y g b i = k0_pay1 (F := Ideal) x y g b i := rfl

/-- The result. -/
def res (x y : Vec Ideal S4096x2048 .f32) (g b : Vec Ideal S2048 .f32) : Vec Ideal S4096x2048 .f32 := fun i =>
  norm (fun k => x (ix2 (i 0) k)) (fun k => y (ix2 (i 0) k)) (fun k => g (ix1 k)) (fun k => b (ix1 k)) (i 1)

/-- The result rounded for the products. -/
def res' (x y : Vec Ideal S4096x2048 .f32) (g b : Vec Ideal S2048 .f32) : Vec Ideal S4096x2048 .bf16 := res x y g b

variable (m : (ℓ : Loc nD τ sig) → Buf (Elt Ideal) ℓ) (c : Dev nD)

/-- The arguments. -/
abbrev aX : Vec Ideal S4096x2048 .f32 := m ((c.tc : Thread nD τ).loc main_arg0)
abbrev aY : Vec Ideal S4096x2048 .f32 := m ((c.tc : Thread nD τ).loc main_arg1)
abbrev aG : Vec Ideal S2048 .f32 := m ((c.tc : Thread nD τ).loc main_arg2)
abbrev aB : Vec Ideal S2048 .f32 := m ((c.tc : Thread nD τ).loc main_arg3)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel

theorem ltN (t : Fin cfg0.N) : t.val < 8 := lt_of_lt_of_eq t.isLt (show cfg0.N = 8 from N_0)

/-- Row `r` of grid point `t`'s blocks in the whole arrays. -/
def rowOf (t : Fin cfg0.N) (r : Fin 512) : Fin 4096 := ⟨t.val * 512 + r.val, by have := ltN t; omega⟩

theorem blk0 (t : Fin cfg0.N) (r : Fin 512) (j : Fin 2048) : iblk m c 0 t (ix2 r j) = aX m c (ix2 (rowOf t r) j) := by
  unfold rowOf
  blk_ext [iblk, V, idx0 t]

theorem blk1 (t : Fin cfg0.N) (r : Fin 512) (j : Fin 2048) : iblk m c 1 t (ix2 r j) = aY m c (ix2 (rowOf t r) j) := by
  unfold rowOf
  blk_ext [iblk, V, idx1 t]

/-- A vector reaches the call as one row. -/
theorem castG (g : Vec Ideal S2048 .f32) (j : Fin 2048) : shapeCast S1x2048 g shapeCasts_S2048_S1x2048 (ix2 0 j) = g (ix1 j) :=
  shapeCast_apply g shapeCasts_S2048_S1x2048 (ix2 0 j) (ix1 j) (by
    rewrite [Shape.rowMajor_val_one, Shape.rowMajor_val_two]; show j.val = 0 * 2048 + j.val; omega)

theorem entryG : V m c main_v0 = shapeCast S1x2048 (aG m c) shapeCasts_S2048_S1x2048 := by
  entry_read
  rfl

theorem entryB : V m c main_v1 = shapeCast S1x2048 (aB m c) shapeCasts_S2048_S1x2048 := by
  entry_read
  rfl

theorem blk2 (t : Fin cfg0.N) (j : Fin 2048) : iblk m c 2 t (ix2 0 j) = aG m c (ix1 j) := by
  have h : iblk m c 2 t (ix2 0 j) = V m c main_v0 (ix2 0 j) := by
    unfold iblk
    generalize V m c = f
    blk_ext [idx2 t]
  rw [h, entryG]
  exact castG _ j

theorem blk3 (t : Fin cfg0.N) (j : Fin 2048) : iblk m c 3 t (ix2 0 j) = aB m c (ix1 j) := by
  have h : iblk m c 3 t (ix2 0 j) = V m c main_v1 (ix2 0 j) := by
    unfold iblk
    generalize V m c = f
    blk_ext [idx3 t]
  rw [h, entryB]
  exact castG _ j

theorem emb4 (t : Fin cfg0.N) (y : S512x2048.Idx) : (win0_4.blk t).view.emb y = ix2 (rowOf t (y 0)) (y 1) := by
  unfold rowOf
  blk_ext [idx4 t]

theorem emb5 (t : Fin cfg0.N) (y : S512x2048.Idx) : (win0_5.blk t).view.emb y = ix2 (rowOf t (y 0)) (y 1) := by
  unfold rowOf
  blk_ext [idx5 t]

/-- The block a point computes. -/
theorem point (t : Fin cfg0.N) (y : S512x2048.Idx) :
    k0_pay1 (F := Ideal) (iblk m c 0 t) (iblk m c 1 t) (iblk m c 2 t) (iblk m c 3 t) y
      = res (aX m c) (aY m c) (aG m c) (aB m c) (ix2 (rowOf t (y 0)) (y 1)) := by
  obtain ⟨r, j, rfl⟩ : ∃ (r : Fin 512) (j : Fin 2048), y = ix2 r j := ⟨y 0, y 1, eq_ix2 y⟩
  rw [pay1_apply]
  unfold res
  simp only [blk0, blk1, blk2, blk3, ix2_0, ix2_1]

theorem arr4 : (dats m 0 c).arrAt 4 cfg0.N = res (aX m c) (aY m c) (aG m c) (aB m c) := by
  refine (dats m 0 c).arrAt_eq_of_covers 4 _ (by decide +kernel) fun t hf y => ?_
  blk_simp
  rw [after0_4]
  refine Eq.trans ?_ ((point m c t y).trans (congrArg (res (aX m c) (aY m c) (aG m c) (aB m c)) (emb4 t y).symm))
  frame_out

theorem arr5 : (dats m 0 c).arrAt 5 cfg0.N = res' (aX m c) (aY m c) (aG m c) (aB m c) := by
  refine (dats m 0 c).arrAt_eq_of_covers 5 _ (by decide +kernel) fun t hf y => ?_
  blk_simp
  rw [after0_5]
  refine Eq.trans ?_ ((point m c t y).trans (congrArg (res (aX m c) (aY m c) (aG m c) (aB m c)) (emb5 t y).symm))
  frame_out
  rw [pay2_apply]

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v2_0) = res (aX m c) (aY m c) (aG m c) (aB m c)
      ∧ r.2.mem ((c : Thread nD τ).loc main_v2_1) = res' (aX m c) (aY m c) (aG m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2⟩) (Value.run_blocks m ρ)

section
open Cert.LnFwdRefIdeal.Read
variable (x0 x1 : Vec Ideal S4096x2048 .f32) (x2 x3 : Vec Ideal S2048 .f32)

/-- The reference's value is the same. -/
theorem ref_res : val_main_v26 (F := Ideal) x0 x1 x2 x3 = res x0 x1 x2 x3 := by
  funext i
  obtain ⟨r, j, rfl⟩ : ∃ r j, i = ix2 r j := ⟨_, _, eq_ix2 i⟩
  unfold res norm Ln.xhat Ln.rstd Ln.var Ln.xc Ln.mean zrow alpha len Ln.eps
  pointwise [val_main_cst, val_main_v0, val_main_v1, val_main_v2, val_main_cst_0, val_main_v3, val_main_v4, val_main_cst_1,
    val_main_v5, val_main_v6, val_main_v7, val_main_v8, val_main_v9, val_main_cst_2, val_main_v10, val_main_v11, val_main_cst_3,
    val_main_v12, val_main_v13, val_main_v14, val_main_v15, val_main_cst_4, val_main_v16, val_main_v17, val_main_v18,
    val_main_v19, val_main_v20, val_main_v21, val_main_v22, val_main_v23, val_main_v24, val_main_v25, val_main_v26]

theorem ref_res' : val_main_v27 (F := Ideal) x0 x1 x2 x3 = res' x0 x1 x2 x3 := ref_res x0 x1 x2 x3

end

/-- The reference runs, keeps its arguments and leaves every semaphore at zero. -/
theorem ref_frame : Cert.quiescent_LnFwdRefIdeal := fun m ρ _ =>
  (θ_run Cert.LnFwdRefIdeal.defs _ _).mono (fun r h => ⟨fun c => (h c).2.2, sem_eq_zero_of_no_sems (by decide) r.2⟩)
    (Cert.LnFwdRefIdeal.Value.run (F := Ideal) m ρ)

/-- The kernel's results are the reference's. -/
theorem value : Cert.algebraic_LnFwdIdeal_LnFwdRefIdeal := fun m ρ m' ρ' _ hag =>
  ⟨fun c => res (aX m c) (aY m c) (aG m c) (aB m c), fun c => res' (aX m c) (aY m c) (aG m c) (aB m c),
    run_kernel m ρ,
    (θ_run Cert.LnFwdRefIdeal.defs _ _).mono (fun r h c => by
      obtain ⟨e0, e1, e2, e3⟩ := hag c
      refine ⟨(h c).1.trans ?_, (h c).2.1.trans ?_, (h c).2.2⟩
      · rw [Cert.LnFwdRefIdeal.Read.val_main_v26_eq, e0, e1, e2, e3]
        exact ref_res _ _ _ _
      · rw [Cert.LnFwdRefIdeal.Read.val_main_v27_eq, e0, e1, e2, e3]
        exact ref_res' _ _ _ _)
      (Cert.LnFwdRefIdeal.Value.run (F := Ideal) m' ρ')⟩

end Cert.LnFwdProof
end
-- ==== Proof.LossHeadProof.lean ====
/- The loss and the gradient of the residual that leaves the last layer. -/
module
public import Idealize.ShloMosaic.Lib.Pointwise
public import Idealize.ShloMosaic.Lib.Pipeline.ValueKit
public import proofs.«01_k».proof.Defs
public import proofs.«01_k».proof.Proof.LnSpec
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
import proofs.«01_k».proof.Proof.MemSpec
@[expose] public section
set_option maxRecDepth 16384
noncomputable section
namespace Cert.LossHeadProof
open Cert.LossHeadIdeal Cert.LossHeadIdeal.Gen Idealize.ShloMosaic Idealize.ShloMosaic.TcCoe Idealize.SL.Sem
open Idealize.ShloMosaic.Pipeline (Dat)

/-- One over the length of a row: the literal the kernel prints. -/
def invLen : EReal := Ideal.ofBits .f32 0x3A000000#32

/-- What a block of rows adds to the sum of squares. -/
def blk (x y : Vec Ideal S256x2048 .f32) : EReal :=
  ∑ r : Fin 256, ∑ j : Fin 2048, (x (ix2 r j) - y (ix2 r j)) * (x (ix2 r j) - y (ix2 r j))

theorem pay2_apply (x y : Vec Ideal S256x2048 .f32) (r : Fin 256) (j : Fin 2048) :
    k0_pay2 (F := Ideal) x y (ix2 r j) = (x (ix2 r j) - y (ix2 r j)) * invLen := by
  unfold invLen
  pointwise [k0_pay2, k0_pay1]

theorem pay3_apply (i : S8x128.Idx) : k0_pay3 (F := Ideal) i = 0 := by pointwise [k0_pay3]

theorem pay4_apply (x y : Vec Ideal S256x2048 .f32) (p : Vec Ideal S8x128 .f32) (i : S8x128.Idx) :
    k0_pay4 (F := Ideal) x y p i = p i + blk x y := by
  obtain ⟨r, j, rfl⟩ : ∃ (r : Fin 8) (j : Fin 128), i = ix2 r j := ⟨i 0, i 1, eq_ix2 i⟩
  unfold blk
  pointwise [k0_pay4, k0_pay1]

/-- The gradient: the difference over the length of a row. -/
def resG (x y : Vec Ideal S4096x2048 .f32) : Vec Ideal S4096x2048 .f32 := fun i => (x i - y i) * invLen

/-- The sum of squares, in every entry. -/
def resL (x y : Vec Ideal S4096x2048 .f32) : Vec Ideal S8x128 .f32 := fun _ =>
  ∑ r : Fin 4096, ∑ j : Fin 2048, (x (ix2 r j) - y (ix2 r j)) * (x (ix2 r j) - y (ix2 r j))

variable (m : (ℓ : Loc nD τ sig) → Buf (Elt Ideal) ℓ) (c : Dev nD)

/-- The arguments. -/
abbrev aX : Vec Ideal S4096x2048 .f32 := m ((c.tc : Thread nD τ).loc main_arg0)
abbrev aY : Vec Ideal S4096x2048 .f32 := m ((c.tc : Thread nD τ).loc main_arg1)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel

theorem ltN (t : Fin cfg0.N) : t.val < 16 := lt_of_lt_of_eq t.isLt (show cfg0.N = 16 from N_0)

/-- Row `r` of grid point `t`'s blocks in the whole arrays. -/
def rowOf (t : Fin cfg0.N) (r : Fin 256) : Fin 4096 := ⟨t.val * 256 + r.val, by have := ltN t; omega⟩

theorem blk0 (t : Fin cfg0.N) (r : Fin 256) (j : Fin 2048) : iblk m c 0 t (ix2 r j) = aX m c (ix2 (rowOf t r) j) := by
  unfold rowOf
  blk_ext [iblk, V, idx0 t]

theorem blk1 (t : Fin cfg0.N) (r : Fin 256) (j : Fin 2048) : iblk m c 1 t (ix2 r j) = aY m c (ix2 (rowOf t r) j) := by
  unfold rowOf
  blk_ext [iblk, V, idx1 t]

/-- The sum of squares over a run of 16. -/
theorem acc (t : Fin cfg0.N) (h : t.val % 16 = 16 - 1) (y : S8x128.Idx) :
    (outsAt0 m c t.val t.isLt).2 y = (0 : EReal) + ∑ s : Fin 16,
      blk (iblk m c 0 ⟨16 * (t.val / 16) + s.val, Pipeline.run_point_lt_of_flush t h s⟩) (iblk m c 1 ⟨16 * (t.val / 16) + s.val, Pipeline.run_point_lt_of_flush t h s⟩) :=
  Pipeline.eq_sum_fin_of_reset_step_apply_of_flush (M := EReal) (fun n h => (outsAt0 m c n h).2) 16 (fun _ => 0)
    (fun t _ => blk (iblk m c 0 t) (iblk m c 1 t))
    (fun t h y => by
      rw [outsAt0_A m c t h]
      frame_out
      rw [pay4_apply, pay3_apply])
    (fun t h y => by
      rw [outsAt0_B m c t h]
      frame_out
      rw [pay4_apply]) t h y

theorem emb2 (t : Fin cfg0.N) (y : S256x2048.Idx) : (win0_2.blk t).view.emb y = ix2 (rowOf t (y 0)) (y 1) := by
  unfold rowOf
  blk_ext [idx2 t]

theorem out2 (t : Fin cfg0.N) (y : S256x2048.Idx) :
    (outsAt0 m c t.val t.isLt).1 y = resG (aX m c) (aY m c) (ix2 (rowOf t (y 0)) (y 1)) := by
  obtain ⟨r, j, rfl⟩ : ∃ (r : Fin 256) (j : Fin 2048), y = ix2 r j := ⟨y 0, y 1, eq_ix2 y⟩
  unfold resG
  by_cases h : t.val % 16 = 0
  · rw [outsAt0_A m c t h]
    frame_out
    rw [pay2_apply, blk0, blk1]
    rfl
  · rw [outsAt0_B m c t h]
    frame_out
    rw [pay2_apply, blk0, blk1]
    rfl

theorem arr2 : (dats m 0 c).arrAt 2 cfg0.N = resG (aX m c) (aY m c) := by
  refine (dats m 0 c).arrAt_eq_of_covers 2 _ (by decide +kernel) fun t hf y => ?_
  blk_simp
  rw [after0_2]
  exact (out2 m c t y).trans (congrArg (resG (aX m c) (aY m c)) (emb2 t y).symm)

theorem arr3 : (dats m 0 c).arrAt 3 cfg0.N = resL (aX m c) (aY m c) := by
  refine (dats m 0 c).arrAt_eq_of_covers 3 _ (by decide +kernel) fun t hf y => ?_
  blk_simp
  have ht := (flush0_3 t).mp hf
  have hN := ltN t
  rw [after0_3]
  refine (acc m c t ht y).trans ?_
  rw [zero_add]
  unfold resL blk
  refine Fin.sum_mul_add_congr fun s k hk => ?_
  simp only [blk0, blk1]
  rw [show rowOf ⟨16 * (t.val / 16) + s.val, Pipeline.run_point_lt_of_flush t ht s⟩ k = ⟨_, hk⟩ from Fin.ext (by simp only [rowOf]; omega)]

/-- The run of the kernel: its results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0_0) = resG (aX m c) (aY m c)
      ∧ r.2.mem ((c : Thread nD τ).loc main_v0_1) = resL (aX m c) (aY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2.1.trans (arr3 m c), (h c).2.2⟩) (Value.run_blocks m ρ)

theorem half_eq : Ideal.ofBits .f32 0x3F000000#32 = ((1 / 2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem invLen_eq : invLen = ((1 / 2048 : ℝ) : EReal) := by
  simp [invLen, Ideal.ofBits, Ideal.ieee, -EReal.coe_mul]; norm_num

/-- Half of twice the difference, over the length of a row. -/
theorem scale_eq (x : EReal) :
    Ideal.div (Ideal.ofBits .f32 0x3F000000#32 * Ideal.ofBits .f32 0x3F800000#32) (Ideal.ofBits .f32 0x45000000#32)
      * (Ideal.ofBits .f32 0x40000000#32 * x) = x * invLen := by
  have h2 : Ideal.ofBits .f32 0x40000000#32 = ((2 : ℝ) : EReal) := Ln.two_eq
  rw [half_eq, one_eq, Ln.c2048_eq, Mem.div_real _ _ (by norm_num), h2, invLen_eq, ← mul_assoc, mul_comm x]
  congr 1
  simp only [← EReal.coe_mul]
  norm_num

/-- An entry of the array is a row and a column. -/
def pairs : Fin 4096 × Fin 2048 ≃ S4096x2048.Idx where
  toFun p := ix2 p.1 p.2
  invFun i := (i 0, i 1)
  left_inv _ := rfl
  right_inv i := (eq_ix2 i).symm

section
open Cert.LossHeadRefIdeal.Read
variable (x0 x1 : Vec Ideal S4096x2048 .f32)

theorem ref_G : val_main_v14 (F := Ideal) x0 x1 = resG x0 x1 := by
  funext i
  obtain ⟨r, j, rfl⟩ : ∃ r j, i = ix2 r j := ⟨_, _, eq_ix2 i⟩
  unfold resG
  rw [← scale_eq]
  pointwise [val_main_v0, val_main_cst, val_main_v2, val_main_v3, val_main_cst_4, val_main_cst_5, val_main_v9, val_main_v10,
    val_main_cst_6, val_main_v11, val_main_v12, val_main_v13, val_main_v14]

theorem ref_L : val_main_v18 (F := Ideal) x0 x1 = resL x0 x1 := by
  funext i
  rw [val_main_v18_apply, val_main_v17_apply]
  unfold resL
  rw [show val_main_cst_7 (F := Ideal) (Shape.Idx.first Cert.LossHeadRefIdeal.Gen.facts.h_S_) = 0 by pointwise [val_main_cst_7]]
  rw [zero_add, ← Finset.sum_product', Finset.univ_product_univ]
  refine (Fintype.sum_equiv pairs _ _ fun p => ?_).symm
  obtain ⟨r, j⟩ := p
  show _ = val_main_v16 (F := Ideal) x0 x1 (ix2 r j)
  pointwise [val_main_v15, val_main_v16]

end

/-- The reference runs, keeps its arguments and leaves every semaphore at zero. -/
theorem ref_frame : Cert.quiescent_LossHeadRefIdeal := fun m ρ _ =>
  (θ_run Cert.LossHeadRefIdeal.defs _ _).mono (fun r h => ⟨fun c => (h c).2.2, sem_eq_zero_of_no_sems (by decide) r.2⟩)
    (Cert.LossHeadRefIdeal.Value.run (F := Ideal) m ρ)

/-- The kernel's results are the reference's. -/
theorem value : Cert.algebraic_LossHeadIdeal_LossHeadRefIdeal := fun m ρ m' ρ' _ hag =>
  ⟨fun c => resG (aX m c) (aY m c), fun c => resL (aX m c) (aY m c),
    run_kernel m ρ,
    (θ_run Cert.LossHeadRefIdeal.defs _ _).mono (fun r h c => by
      obtain ⟨e0, e1⟩ := hag c
      refine ⟨(h c).1.trans ?_, (h c).2.1.trans ?_, (h c).2.2⟩
      · rw [Cert.LossHeadRefIdeal.Read.val_main_v14_eq, e0, e1]
        exact ref_G _ _
      · rw [Cert.LossHeadRefIdeal.Read.val_main_v18_eq, e0, e1]
        exact ref_L _ _)
      (Cert.LossHeadRefIdeal.Value.run (F := Ideal) m' ρ')⟩

end Cert.LossHeadProof
end
-- ==== Proof.AdamFfProof.lean ====
/- The optimiser's step on the feed-forward weights. -/
module
public import Idealize.ShloMosaic.Lib.Pointwise
public import proofs.«01_k».proof.Defs
public import proofs.«01_k».proof.Proof.Gen.AdamFf.Frame
public import proofs.«01_k».proof.Proof.Gen.AdamFfIdeal.Value
public import proofs.«01_k».proof.Proof.Gen.AdamFfRefIdeal.Run
public import proofs.«01_k».proof.Proof.Gen.AdamFfRefIdeal.Read
@[expose] public section
set_option maxRecDepth 16384
noncomputable section
namespace Cert.AdamFfProof
open Cert.AdamFfIdeal Cert.AdamFfIdeal.Gen Idealize.ShloMosaic Idealize.ShloMosaic.TcCoe Idealize.SL.Sem

section
open Cert.AdamFfRefIdeal.Read

/-- The reference's step, entry by entry, is the kernel's. -/
theorem ref_step (w g a v : (⟨S8192x2048, .f32⟩ : BufTy).Contents (Elt Ideal)) :
    val_main_v23 (F := Ideal) w g a v = Value.G4 (F := Ideal) g a v w := by
  funext y
  obtain ⟨r, d, rfl⟩ : ∃ r d, y = ix2 r d := ⟨_, _, eq_ix2 y⟩
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3, val_main_v11,
    val_main_v12, val_main_cst_4, val_main_v13, val_main_v14, val_main_v15, val_main_cst_5, val_main_v16, val_main_v17,
    val_main_v18, val_main_cst_6, val_main_v19, val_main_v20, val_main_v21, val_main_cst_7, val_main_v22, val_main_v23]

/-- The reference's first moment is the kernel's. -/
theorem ref_first (g a : (⟨S8192x2048, .f32⟩ : BufTy).Contents (Elt Ideal)) : val_main_v4 (F := Ideal) g a = Value.G5 (F := Ideal) g a := by
  funext y
  obtain ⟨r, d, rfl⟩ : ∃ r d, y = ix2 r d := ⟨_, _, eq_ix2 y⟩
  pointwise [val_main_cst, val_main_v0, val_main_v1, val_main_cst_0, val_main_v2, val_main_v3, val_main_v4]

/-- The reference's second moment is the kernel's. -/
theorem ref_second (g v : (⟨S8192x2048, .f32⟩ : BufTy).Contents (Elt Ideal)) : val_main_v10 (F := Ideal) g v = Value.G6 (F := Ideal) g v := by
  funext y
  obtain ⟨r, d, rfl⟩ : ∃ r d, y = ix2 r d := ⟨_, _, eq_ix2 y⟩
  pointwise [val_main_cst_1, val_main_v5, val_main_v6, val_main_v7, val_main_cst_2, val_main_v8, val_main_v9, val_main_v10]

end

/-- The reference runs, keeps its arguments and leaves every semaphore at zero. -/
theorem ref_frame : Cert.quiescent_AdamFfRefIdeal := fun m ρ _ =>
  (θ_run Cert.AdamFfRefIdeal.defs _ _).mono (fun r h => ⟨fun c => (h c).2.2.2, sem_eq_zero_of_no_sems (by decide) r.2⟩)
    (Cert.AdamFfRefIdeal.Value.run (F := Ideal) m ρ)

/-- The kernel's results are the reference's. -/
theorem value : Cert.algebraic_AdamFfIdeal_AdamFfRefIdeal := fun m ρ m' ρ' _ hag =>
  ⟨_, _, _, Value.run (F := Ideal) m ρ,
    (θ_run Cert.AdamFfRefIdeal.defs _ _).mono (fun r h c => by
      obtain ⟨e0, e1, e2, e3⟩ := hag c
      refine ⟨(h c).1.trans ?_, (h c).2.1.trans ?_, (h c).2.2.1.trans ?_, (h c).2.2.2⟩
      · rw [Cert.AdamFfRefIdeal.Read.val_main_v23_eq, e0, e1, e2, e3]
        exact ref_step _ _ _ _
      · rw [Cert.AdamFfRefIdeal.Read.val_main_v4_eq, e1, e2]
        exact ref_first _ _
      · rw [Cert.AdamFfRefIdeal.Read.val_main_v10_eq, e1, e3]
        exact ref_second _ _)
      (Cert.AdamFfRefIdeal.Value.run (F := Ideal) m' ρ')⟩

end Cert.AdamFfProof
end
-- ==== Proof.AdamInAProof.lean ====
/- The optimiser's step on the weights into the dilated attention layer. -/
module
public import Idealize.ShloMosaic.Lib.Pointwise
public import proofs.«01_k».proof.Defs
public import proofs.«01_k».proof.Proof.Gen.AdamInA.Frame
public import proofs.«01_k».proof.Proof.Gen.AdamInAIdeal.Value
public import proofs.«01_k».proof.Proof.Gen.AdamInARefIdeal.Run
public import proofs.«01_k».proof.Proof.Gen.AdamInARefIdeal.Read
@[expose] public section
set_option maxRecDepth 16384
noncomputable section
namespace Cert.AdamInAProof
open Cert.AdamInAIdeal Cert.AdamInAIdeal.Gen Idealize.ShloMosaic Idealize.ShloMosaic.TcCoe Idealize.SL.Sem

section
open Cert.AdamInARefIdeal.Read

/-- The reference's step, entry by entry, is the kernel's. -/
theorem ref_step (w g a v : (⟨S4096x2432, .f32⟩ : BufTy).Contents (Elt Ideal)) :
    val_main_v23 (F := Ideal) w g a v = Value.G4 (F := Ideal) g a v w := by
  funext y
  obtain ⟨r, d, rfl⟩ : ∃ r d, y = ix2 r d := ⟨_, _, eq_ix2 y⟩
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3, val_main_v11,
    val_main_v12, val_main_cst_4, val_main_v13, val_main_v14, val_main_v15, val_main_cst_5, val_main_v16, val_main_v17,
    val_main_v18, val_main_cst_6, val_main_v19, val_main_v20, val_main_v21, val_main_cst_7, val_main_v22, val_main_v23]

/-- The reference's first moment is the kernel's. -/
theorem ref_first (g a : (⟨S4096x2432, .f32⟩ : BufTy).Contents (Elt Ideal)) : val_main_v4 (F := Ideal) g a = Value.G5 (F := Ideal) g a := by
  funext y
  obtain ⟨r, d, rfl⟩ : ∃ r d, y = ix2 r d := ⟨_, _, eq_ix2 y⟩
  pointwise [val_main_cst, val_main_v0, val_main_v1, val_main_cst_0, val_main_v2, val_main_v3, val_main_v4]

/-- The reference's second moment is the kernel's. -/
theorem ref_second (g v : (⟨S4096x2432, .f32⟩ : BufTy).Contents (Elt Ideal)) : val_main_v10 (F := Ideal) g v = Value.G6 (F := Ideal) g v := by
  funext y
  obtain ⟨r, d, rfl⟩ : ∃ r d, y = ix2 r d := ⟨_, _, eq_ix2 y⟩
  pointwise [val_main_cst_1, val_main_v5, val_main_v6, val_main_v7, val_main_cst_2, val_main_v8, val_main_v9, val_main_v10]

end

/-- The reference runs, keeps its arguments and leaves every semaphore at zero. -/
theorem ref_frame : Cert.quiescent_AdamInARefIdeal := fun m ρ _ =>
  (θ_run Cert.AdamInARefIdeal.defs _ _).mono (fun r h => ⟨fun c => (h c).2.2.2, sem_eq_zero_of_no_sems (by decide) r.2⟩)
    (Cert.AdamInARefIdeal.Value.run (F := Ideal) m ρ)

/-- The kernel's results are the reference's. -/
theorem value : Cert.algebraic_AdamInAIdeal_AdamInARefIdeal := fun m ρ m' ρ' _ hag =>
  ⟨_, _, _, Value.run (F := Ideal) m ρ,
    (θ_run Cert.AdamInARefIdeal.defs _ _).mono (fun r h c => by
      obtain ⟨e0, e1, e2, e3⟩ := hag c
      refine ⟨(h c).1.trans ?_, (h c).2.1.trans ?_, (h c).2.2.1.trans ?_, (h c).2.2.2⟩
      · rw [Cert.AdamInARefIdeal.Read.val_main_v23_eq, e0, e1, e2, e3]
        exact ref_step _ _ _ _
      · rw [Cert.AdamInARefIdeal.Read.val_main_v4_eq, e1, e2]
        exact ref_first _ _
      · rw [Cert.AdamInARefIdeal.Read.val_main_v10_eq, e1, e3]
        exact ref_second _ _)
      (Cert.AdamInARefIdeal.Value.run (F := Ideal) m' ρ')⟩

end Cert.AdamInAProof
end
-- ==== Proof.AdamInBProof.lean ====
/- The optimiser's step on the weights into the spatial gating layer. -/
module
public import Idealize.ShloMosaic.Lib.Pointwise
public import proofs.«01_k».proof.Defs
public import proofs.«01_k».proof.Proof.Gen.AdamInB.Frame
public import proofs.«01_k».proof.Proof.Gen.AdamInBIdeal.Value
public import proofs.«01_k».proof.Proof.Gen.AdamInBRefIdeal.Run
public import proofs.«01_k».proof.Proof.Gen.AdamInBRefIdeal.Read
@[expose] public section
set_option maxRecDepth 16384
noncomputable section
namespace Cert.AdamInBProof
open Cert.AdamInBIdeal Cert.AdamInBIdeal.Gen Idealize.ShloMosaic Idealize.ShloMosaic.TcCoe Idealize.SL.Sem

section
open Cert.AdamInBRefIdeal.Read

/-- The reference's step, entry by entry, is the kernel's. -/
theorem ref_step (w g a v : (⟨S4096x640, .f32⟩ : BufTy).Contents (Elt Ideal)) :
    val_main_v23 (F := Ideal) w g a v = Value.G4 (F := Ideal) g a v w := by
  funext y
  obtain ⟨r, d, rfl⟩ : ∃ r d, y = ix2 r d := ⟨_, _, eq_ix2 y⟩
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3, val_main_v11,
    val_main_v12, val_main_cst_4, val_main_v13, val_main_v14, val_main_v15, val_main_cst_5, val_main_v16, val_main_v17,
    val_main_v18, val_main_cst_6, val_main_v19, val_main_v20, val_main_v21, val_main_cst_7, val_main_v22, val_main_v23]

/-- The reference's first moment is the kernel's. -/
theorem ref_first (g a : (⟨S4096x640, .f32⟩ : BufTy).Contents (Elt Ideal)) : val_main_v4 (F := Ideal) g a = Value.G5 (F := Ideal) g a := by
  funext y
  obtain ⟨r, d, rfl⟩ : ∃ r d, y = ix2 r d := ⟨_, _, eq_ix2 y⟩
  pointwise [val_main_cst, val_main_v0, val_main_v1, val_main_cst_0, val_main_v2, val_main_v3, val_main_v4]

/-- The reference's second moment is the kernel's. -/
theorem ref_second (g v : (⟨S4096x640, .f32⟩ : BufTy).Contents (Elt Ideal)) : val_main_v10 (F := Ideal) g v = Value.G6 (F := Ideal) g v := by
  funext y
  obtain ⟨r, d, rfl⟩ : ∃ r d, y = ix2 r d := ⟨_, _, eq_ix2 y⟩
  pointwise [val_main_cst_1, val_main_v5, val_main_v6, val_main_v7, val_main_cst_2, val_main_v8, val_main_v9, val_main_v10]

end

/-- The reference runs, keeps its arguments and leaves every semaphore at zero. -/
theorem ref_frame : Cert.quiescent_AdamInBRefIdeal := fun m ρ _ =>
  (θ_run Cert.AdamInBRefIdeal.defs _ _).mono (fun r h => ⟨fun c => (h c).2.2.2, sem_eq_zero_of_no_sems (by decide) r.2⟩)
    (Cert.AdamInBRefIdeal.Value.run (F := Ideal) m ρ)

/-- The kernel's results are the reference's. -/
theorem value : Cert.algebraic_AdamInBIdeal_AdamInBRefIdeal := fun m ρ m' ρ' _ hag =>
  ⟨_, _, _, Value.run (F := Ideal) m ρ,
    (θ_run Cert.AdamInBRefIdeal.defs _ _).mono (fun r h c => by
      obtain ⟨e0, e1, e2, e3⟩ := hag c
      refine ⟨(h c).1.trans ?_, (h c).2.1.trans ?_, (h c).2.2.1.trans ?_, (h c).2.2.2⟩
      · rw [Cert.AdamInBRefIdeal.Read.val_main_v23_eq, e0, e1, e2, e3]
        exact ref_step _ _ _ _
      · rw [Cert.AdamInBRefIdeal.Read.val_main_v4_eq, e1, e2]
        exact ref_first _ _
      · rw [Cert.AdamInBRefIdeal.Read.val_main_v10_eq, e1, e3]
        exact ref_second _ _)
      (Cert.AdamInBRefIdeal.Value.run (F := Ideal) m' ρ')⟩

end Cert.AdamInBProof
end
-- ==== Proof.AdamKvProof.lean ====
/- The optimiser's step on the memory keys and values' weights. -/
module
public import Idealize.ShloMosaic.Lib.Pointwise
public import proofs.«01_k».proof.Defs
public import proofs.«01_k».proof.Proof.Gen.AdamKv.Frame
public import proofs.«01_k».proof.Proof.Gen.AdamKvIdeal.Value
public import proofs.«01_k».proof.Proof.Gen.AdamKvRefIdeal.Run
public import proofs.«01_k».proof.Proof.Gen.AdamKvRefIdeal.Read
@[expose] public section
set_option maxRecDepth 16384
noncomputable section
namespace Cert.AdamKvProof
open Cert.AdamKvIdeal Cert.AdamKvIdeal.Gen Idealize.ShloMosaic Idealize.ShloMosaic.TcCoe Idealize.SL.Sem

section
open Cert.AdamKvRefIdeal.Read

/-- The reference's step, entry by entry, is the kernel's. -/
theorem ref_step (w g a v : (⟨S2048x1024, .f32⟩ : BufTy).Contents (Elt Ideal)) :
    val_main_v23 (F := Ideal) w g a v = Value.G4 (F := Ideal) g a v w := by
  funext y
  obtain ⟨r, d, rfl⟩ : ∃ r d, y = ix2 r d := ⟨_, _, eq_ix2 y⟩
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3, val_main_v11,
    val_main_v12, val_main_cst_4, val_main_v13, val_main_v14, val_main_v15, val_main_cst_5, val_main_v16, val_main_v17,
    val_main_v18, val_main_cst_6, val_main_v19, val_main_v20, val_main_v21, val_main_cst_7, val_main_v22, val_main_v23]

/-- The reference's first moment is the kernel's. -/
theorem ref_first (g a : (⟨S2048x1024, .f32⟩ : BufTy).Contents (Elt Ideal)) : val_main_v4 (F := Ideal) g a = Value.G5 (F := Ideal) g a := by
  funext y
  obtain ⟨r, d, rfl⟩ : ∃ r d, y = ix2 r d := ⟨_, _, eq_ix2 y⟩
  pointwise [val_main_cst, val_main_v0, val_main_v1, val_main_cst_0, val_main_v2, val_main_v3, val_main_v4]

/-- The reference's second moment is the kernel's. -/
theorem ref_second (g v : (⟨S2048x1024, .f32⟩ : BufTy).Contents (Elt Ideal)) : val_main_v10 (F := Ideal) g v = Value.G6 (F := Ideal) g v := by
  funext y
  obtain ⟨r, d, rfl⟩ : ∃ r d, y = ix2 r d := ⟨_, _, eq_ix2 y⟩
  pointwise [val_main_cst_1, val_main_v5, val_main_v6, val_main_v7, val_main_cst_2, val_main_v8, val_main_v9, val_main_v10]

end

/-- The reference runs, keeps its arguments and leaves every semaphore at zero. -/
theorem ref_frame : Cert.quiescent_AdamKvRefIdeal := fun m ρ _ =>
  (θ_run Cert.AdamKvRefIdeal.defs _ _).mono (fun r h => ⟨fun c => (h c).2.2.2, sem_eq_zero_of_no_sems (by decide) r.2⟩)
    (Cert.AdamKvRefIdeal.Value.run (F := Ideal) m ρ)

/-- The kernel's results are the reference's. -/
theorem value : Cert.algebraic_AdamKvIdeal_AdamKvRefIdeal := fun m ρ m' ρ' _ hag =>
  ⟨_, _, _, Value.run (F := Ideal) m ρ,
    (θ_run Cert.AdamKvRefIdeal.defs _ _).mono (fun r h c => by
      obtain ⟨e0, e1, e2, e3⟩ := hag c
      refine ⟨(h c).1.trans ?_, (h c).2.1.trans ?_, (h c).2.2.1.trans ?_, (h c).2.2.2⟩
      · rw [Cert.AdamKvRefIdeal.Read.val_main_v23_eq, e0, e1, e2, e3]
        exact ref_step _ _ _ _
      · rw [Cert.AdamKvRefIdeal.Read.val_main_v4_eq, e1, e2]
        exact ref_first _ _
      · rw [Cert.AdamKvRefIdeal.Read.val_main_v10_eq, e1, e3]
        exact ref_second _ _)
      (Cert.AdamKvRefIdeal.Value.run (F := Ideal) m' ρ')⟩

end Cert.AdamKvProof
end
-- ==== Proof.AdamOutProof.lean ====
/- The optimiser's step on the weights out of the mixing layers. -/
module
public import Idealize.ShloMosaic.Lib.Pointwise
public import proofs.«01_k».proof.Defs
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
@[expose] public section
set_option maxRecDepth 16384
noncomputable section
namespace Cert.AdamOutProof
open Cert.AdamOutIdeal Cert.AdamOutIdeal.Gen Idealize.ShloMosaic Idealize.ShloMosaic.TcCoe Idealize.SL.Sem

section
open Cert.AdamOutRefIdeal.Read

/-- The reference's step, entry by entry, is the kernel's. -/
theorem ref_step (w g a v : (⟨S6144x512, .f32⟩ : BufTy).Contents (Elt Ideal)) :
    val_main_v23 (F := Ideal) w g a v = Value.G4 (F := Ideal) g a v w := by
  funext y
  obtain ⟨r, d, rfl⟩ : ∃ r d, y = ix2 r d := ⟨_, _, eq_ix2 y⟩
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3, val_main_v11,
    val_main_v12, val_main_cst_4, val_main_v13, val_main_v14, val_main_v15, val_main_cst_5, val_main_v16, val_main_v17,
    val_main_v18, val_main_cst_6, val_main_v19, val_main_v20, val_main_v21, val_main_cst_7, val_main_v22, val_main_v23]

/-- The reference's first moment is the kernel's. -/
theorem ref_first (g a : (⟨S6144x512, .f32⟩ : BufTy).Contents (Elt Ideal)) : val_main_v4 (F := Ideal) g a = Value.G5 (F := Ideal) g a := by
  funext y
  obtain ⟨r, d, rfl⟩ : ∃ r d, y = ix2 r d := ⟨_, _, eq_ix2 y⟩
  pointwise [val_main_cst, val_main_v0, val_main_v1, val_main_cst_0, val_main_v2, val_main_v3, val_main_v4]

/-- The reference's second moment is the kernel's. -/
theorem ref_second (g v : (⟨S6144x512, .f32⟩ : BufTy).Contents (Elt Ideal)) : val_main_v10 (F := Ideal) g v = Value.G6 (F := Ideal) g v := by
  funext y
  obtain ⟨r, d, rfl⟩ : ∃ r d, y = ix2 r d := ⟨_, _, eq_ix2 y⟩
  pointwise [val_main_cst_1, val_main_v5, val_main_v6, val_main_v7, val_main_cst_2, val_main_v8, val_main_v9, val_main_v10]

end

/-- The reference runs, keeps its arguments and leaves every semaphore at zero. -/
theorem ref_frame : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

/-- The kernel's results are the reference's. -/
theorem value : Cert.algebraic_AdamOutIdeal_AdamOutRefIdeal := fun m ρ m' ρ' _ hag =>
  ⟨_, _, _, Value.run (F := Ideal) m ρ,
    (θ_run Cert.AdamOutRefIdeal.defs _ _).mono (fun r h c => by
      obtain ⟨e0, e1, e2, e3⟩ := hag c
      refine ⟨(h c).1.trans ?_, (h c).2.1.trans ?_, (h c).2.2.1.trans ?_, (h c).2.2.2⟩
      · rw [Cert.AdamOutRefIdeal.Read.val_main_v23_eq, e0, e1, e2, e3]
        exact ref_step _ _ _ _
      · rw [Cert.AdamOutRefIdeal.Read.val_main_v4_eq, e1, e2]
        exact ref_first _ _
      · rw [Cert.AdamOutRefIdeal.Read.val_main_v10_eq, e1, e3]
        exact ref_second _ _)
      (Cert.AdamOutRefIdeal.Value.run (F := Ideal) m' ρ')⟩

end Cert.AdamOutProof
end
-- ==== Proof.MemBBlock.lean ====
/- One grid point of the kernel: what its stored tiles hold at an index. -/
module
public import proofs.«01_k».proof.Proof.Gen.MemBwdBIdeal.Value
public import proofs.«01_k».proof.Proof.MemSpec
public import Idealize.ShloMosaic.Lib.ValueIdx
public import Idealize.ShloMosaic.Lib.Pointwise
public import Idealize.ShloMosaic.Lib.Pipeline.ReadBack
@[expose] public section
set_option maxRecDepth 16384
noncomputable section
namespace Cert.MemB
open Cert.Mem Cert.MemBwdBIdeal Cert.MemBwdBIdeal.Gen Idealize.ShloMosaic Idealize.ShloMosaic.TcCoe Idealize.SL.Sem
open Idealize.ShloMosaic.Pipeline (Dat)

/-- Scores of row `r` of a tile of queries. -/
def tscore (q : Vec Ideal S512x128 .f32) (k : Vec Ideal S256x128 .bf16) (r : Fin 512) : Fin 256 → EReal :=
  score (fun d => q (ix2 r d)) fun j d => k (ix2 j d)

/-- Gradient of the unscaled scores of row `r` of a tile of queries. -/
def tds (q : Vec Ideal S512x128 .f32) (k v : Vec Ideal S256x128 .bf16) (o : Vec Ideal S512x128 .f32) (r : Fin 512) :
    Fin 256 → EReal :=
  dscore (tscore q k r) fun j => ∑ d, o (ix2 r d) * v (ix2 j d)

/-- The softmax of one head's scores. -/
theorem pay4_apply (q : Vec Ideal S512x128 .f32) (k : Vec Ideal S256x128 .bf16) (r : Fin 512) (j : Fin 256) :
    k0_pay4 (F := Ideal) q k (ix2 r j) = prob (tscore q k r) j := by
  pointwise [k0_pay4, k0_pay2]
  rfl

theorem pay5_apply (q : Vec Ideal S512x128 .f32) (k v : Vec Ideal S256x128 .bf16) (o : Vec Ideal S512x128 .f32)
    (r : Fin 512) (j : Fin 256) :
    k0_pay5 (F := Ideal) q k v o (ix2 r j) = tds q k v o r j := by
  pointwise [k0_pay5, k0_pay2, k0_pay3]
  simp only [ix2_0, ix2_1, pay4_apply]
  rfl

theorem pay6_apply (q : Vec Ideal S512x128 .f32) (k v : Vec Ideal S256x128 .bf16) (o : Vec Ideal S512x128 .f32)
    (r : Fin 512) (d : Fin 128) :
    k0_pay6 (F := Ideal) q k v o (ix2 r d) = ∑ j, tds q k v o r j * k (ix2 j d) := by
  pointwise [k0_pay6]
  simp only [ix2_0, ix2_1, pay5_apply]

theorem pay7_apply (q : Vec Ideal S512x128 .f32) (k v : Vec Ideal S256x128 .bf16) (o : Vec Ideal S512x128 .f32)
    (a : Vec Ideal S256x128 .f32) (j : Fin 256) (d : Fin 128) :
    k0_pay7 (F := Ideal) (k0_pay2 q) (k0_pay5 q k v o) a (ix2 j d) = a (ix2 j d) + ∑ r, tds q k v o r j * q (ix2 r d) := by
  pointwise [k0_pay7, k0_pay2]
  simp only [ix2_0, ix2_1, pay5_apply]

theorem pay8_apply (q : Vec Ideal S512x128 .f32) (k : Vec Ideal S256x128 .bf16) (o : Vec Ideal S512x128 .f32)
    (a : Vec Ideal S256x128 .f32) (j : Fin 256) (d : Fin 128) :
    k0_pay8 (F := Ideal) (k0_pay3 o) (k0_pay4 q k) a (ix2 j d)
      = a (ix2 j d) + ∑ r, prob (tscore q k r) j * o (ix2 r d) := by
  pointwise [k0_pay8, k0_pay3]
  simp only [ix2_0, ix2_1, pay4_apply]

/-- Row `r` of a two-axis array. -/
def row {a b : ℕ} (x : (⟨2, ![a, b]⟩ : Shape).Idx → EReal) (r : Fin a) : Fin b → EReal := fun c => x (ix2 r c)

/-- What one grid point adds to the gradient of the keys and values. -/
def blkKV (x0 : Vec Ideal S512x512 .f32) (x1 : Vec Ideal S256x1024 .bf16) (x2 : Vec Ideal S512x512 .f32)
    (y : S256x1024.Idx) : EReal :=
  ∑ r, gkv (row x0 r) (row x1) (row x2 r) (y 0) (y 1)

/-- What one grid point writes of the gradient of the queries. -/
def blkQ (x0 : Vec Ideal S512x512 .f32) (x1 : Vec Ideal S256x1024 .bf16) (x2 : Vec Ideal S512x512 .f32)
    (y : S512x512.Idx) : EReal :=
  gq (row x0 (y 0)) (row x1) (row x2 (y 0)) (y 1)

section
variable (x0 : Vec Ideal S512x512 .f32) (x1 : Vec Ideal S256x1024 .bf16) (x2 : Vec Ideal S512x512 .f32)
variable (q : Vec Ideal S512x128 .f32) (k v : Vec Ideal S256x128 .bf16) (o : Vec Ideal S512x128 .f32) (h : Fin 4)

/-- The four tiles are head `h`'s columns of the point's three blocks. -/
structure Tiles : Prop where
  q : ∀ r d, q (ix2 r d) = x0 (ix2 r (col h d))
  k : ∀ j d, k (ix2 j d) = x1 (ix2 j (colK h d))
  v : ∀ j d, v (ix2 j d) = x1 (ix2 j (colV h d))
  o : ∀ r d, o (ix2 r d) = x2 (ix2 r (col h d))

variable {x0 x1 x2 q k v o h}

theorem Tiles.tscore (T : Tiles x0 x1 x2 q k v o h) (r : Fin 512) : tscore q k r = hscore (row x0 r) (row x1) h := by
  unfold MemB.tscore hscore row
  simp only [T.q, T.k]

theorem Tiles.tds (T : Tiles x0 x1 x2 q k v o h) (r : Fin 512) : tds q k v o r = hds (row x0 r) (row x1) (row x2 r) h := by
  unfold MemB.tds hds
  rw [T.tscore]
  unfold hdp row
  simp only [T.o, T.v]

/-- Head `h`'s tile of the queries' gradient. -/
theorem Tiles.dq (T : Tiles x0 x1 x2 q k v o h) (x : S512x128.Idx) :
    k0_pay6 (F := Ideal) q k v o x = blkQ x0 x1 x2 (ix2 (x 0) (col h (x 1))) := by
  obtain ⟨r, d, rfl⟩ : ∃ (r : Fin 512) (d : Fin 128), x = ix2 r d := ⟨x 0, x 1, eq_ix2 x⟩
  rw [pay6_apply, T.tds]
  simp only [T.k, blkQ, ix2_0, ix2_1, gq_col]
  rfl

/-- Head `h`'s tile of the keys' gradient, added to what was there. -/
theorem Tiles.dk (T : Tiles x0 x1 x2 q k v o h) (a : Vec Ideal S256x128 .f32) (x : S256x128.Idx) :
    k0_pay7 (F := Ideal) (k0_pay2 q) (k0_pay5 q k v o) a x = a x + blkKV x0 x1 x2 (ix2 (x 0) (colK h (x 1))) := by
  obtain ⟨r, d, rfl⟩ : ∃ (r : Fin 256) (d : Fin 128), x = ix2 r d := ⟨x 0, x 1, eq_ix2 x⟩
  rw [pay7_apply]
  simp only [T.tds, T.q, blkKV, ix2_0, ix2_1, gkv_colK]
  rfl

/-- Head `h`'s tile of the values' gradient, added to what was there. -/
theorem Tiles.dv (T : Tiles x0 x1 x2 q k v o h) (a : Vec Ideal S256x128 .f32) (x : S256x128.Idx) :
    k0_pay8 (F := Ideal) (k0_pay3 o) (k0_pay4 q k) a x = a x + blkKV x0 x1 x2 (ix2 (x 0) (colV h (x 1))) := by
  obtain ⟨r, d, rfl⟩ : ∃ (r : Fin 256) (d : Fin 128), x = ix2 r d := ⟨x 0, x 1, eq_ix2 x⟩
  rw [pay8_apply]
  simp only [T.tscore, T.o, blkKV, ix2_0, ix2_1, gkv_colV]
  rfl
end

end Cert.MemB
end
-- ==== Proof.MemBPoint.lean ====
/- One grid point of the kernel: the blocks it leaves, as functions of the blocks it loads. -/
module
public import proofs.«01_k».proof.Proof.MemBBlock
@[expose] public section
set_option maxRecDepth 16384
noncomputable section
namespace Cert.MemB
open Cert.Mem Cert.MemBwdBIdeal Cert.MemBwdBIdeal.Gen Idealize.ShloMosaic Idealize.ShloMosaic.TcCoe Idealize.SL.Sem
open Idealize.ShloMosaic.Pipeline (Dat)

/-- Head `h`'s columns of the three blocks, as the kernel loads them. -/
theorem tiles_ld (x0 : Vec Ideal S512x512 .f32) (x1 : Vec Ideal S256x1024 .bf16) (x2 : Vec Ideal S512x512 .f32) (h : Fin 4)
    {oq ok ov oo : ℕ} (iq : ∀ a, (![0, oq] : Fin 2 → ℕ) a + S512x128.size a ≤ S512x512.size a)
    (ik : ∀ a, (![0, ok] : Fin 2 → ℕ) a + S256x128.size a ≤ S256x1024.size a)
    (iv : ∀ a, (![0, ov] : Fin 2 → ℕ) a + S256x128.size a ≤ S256x1024.size a)
    (io : ∀ a, (![0, oo] : Fin 2 → ℕ) a + S512x128.size a ≤ S512x512.size a)
    (hq : oq = 128 * h.val) (hk : ok = 128 * h.val) (hv : ov = 512 + 128 * h.val) (ho : oo = 128 * h.val) :
    Tiles x0 x1 x2 (View.ld x0 (Rect.unit ![0, oq] S512x128.size iq)) (View.ld x1 (Rect.unit ![0, ok] S256x128.size ik))
      (View.ld x1 (Rect.unit ![0, ov] S256x128.size iv)) (View.ld x2 (Rect.unit ![0, oo] S512x128.size io)) h where
  q r d := congrArg x0 (funext fun a => Fin.ext (by fin_cases a <;> simp [Rect.emb, Rect.unit, col, hq]))
  k j d := congrArg x1 (funext fun a => Fin.ext (by fin_cases a <;> simp [Rect.emb, Rect.unit, colK, hk]))
  v j d := congrArg x1 (funext fun a => Fin.ext (by fin_cases a <;> simp [Rect.emb, Rect.unit, colV, hv, add_assoc]))
  o r d := congrArg x2 (funext fun a => Fin.ext (by fin_cases a <;> simp [Rect.emb, Rect.unit, col, ho]))

/-- Before the first point's additions the block is zero. -/
theorem pay1_apply (x : S256x1024.Idx) : k0_pay1 (F := Ideal) x = 0 := by
  pointwise [k0_pay1]

/-- The zeros stored before the first point's additions. -/
abbrev zeroKV : Vec Ideal S256x1024 .f32 := k0_pay1 (F := Ideal)

theorem pay1_ld (r : Rect S256x1024) (x : r.shape.Idx) : View.ld zeroKV r x = (0 : EReal) := pay1_apply _

section
variable {x0 : Vec Ideal S512x512 .f32} {x1 : Vec Ideal S256x1024 .bf16} {x2 : Vec Ideal S512x512 .f32}
variable {q : Vec Ideal S512x128 .f32} {k v : Vec Ideal S256x128 .bf16} {o : Vec Ideal S512x128 .f32} {h : Fin 4}

theorem Tiles.dk_at (T : Tiles x0 x1 x2 q k v o h) (a : Vec Ideal S256x128 .f32) {x : S256x128.Idx} {b : EReal}
    (hb : a x = b) {y : S256x1024.Idx} (hy : ix2 (x 0) (colK h (x 1)) = y) :
    k0_pay7 (F := Ideal) (k0_pay2 q) (k0_pay5 q k v o) a x = b + blkKV x0 x1 x2 y :=
  (T.dk _ x).trans (congrArg₂ (fun u z => u + blkKV x0 x1 x2 z) hb hy)

theorem Tiles.dv_at (T : Tiles x0 x1 x2 q k v o h) (a : Vec Ideal S256x128 .f32) {x : S256x128.Idx} {b : EReal}
    (hb : a x = b) {y : S256x1024.Idx} (hy : ix2 (x 0) (colV h (x 1)) = y) :
    k0_pay8 (F := Ideal) (k0_pay3 o) (k0_pay4 q k) a x = b + blkKV x0 x1 x2 y :=
  (T.dv _ x).trans (congrArg₂ (fun u z => u + blkKV x0 x1 x2 z) hb hy)
end

/-- Where a tile of whole rows starting at column `off` puts its index `x`. -/
theorem emb_rows {n w off : ℕ} (inb : ∀ a, (![0, off] : Fin 2 → ℕ) a + (![n, 128] : Fin 2 → ℕ) a ≤ (![n, w] : Fin 2 → ℕ) a)
    (x : (⟨2, ![n, 128]⟩ : Shape).Idx) (c : Fin w) (hc : c.val = off + (x 1).val) :
    (ix2 (x 0) c : (⟨2, ![n, w]⟩ : Shape).Idx) = (Rect.unit (s := ⟨2, ![n, w]⟩) ![0, off] ![n, 128] inb).emb x := by
  refine funext fun a => Fin.ext ?_
  fin_cases a
  · simp [Rect.emb, Rect.unit]
  · simpa [Rect.emb, Rect.unit] using hc

/-- At a later point the block of the keys' and values' gradient is what the point before left and this point's addition. -/
theorem out_B_4 (c : Dev nD) (i : grid0.Coords) (arg1 : Memref sig .tc .vmem S512x512 .f32) (harg1 : arg1.IsWhole)
    (arg2 : Memref sig .tc .vmem S256x1024 .bf16) (harg2 : arg2.IsWhole) (arg3 : Memref sig .tc .vmem S512x512 .f32)
    (harg3 : arg3.IsWhole) (arg4 : Memref sig .tc .vmem S512x512 .bf16) (harg4 : arg4.IsWhole)
    (arg5 : Memref sig .tc .vmem S256x1024 .f32) (harg5 : arg5.IsWhole)
    (hc0 : ¬cond0_0 i)
    (x0 : Vec Ideal S512x512 .f32) (x1 : Vec Ideal S256x1024 .bf16) (x2 : Vec Ideal S512x512 .f32) (xo4 : Vec Ideal S256x1024 .f32) (y : S256x1024.Idx) :
    out0_B_4 c i arg1 harg1 arg2 harg2 arg3 harg3 arg4 harg4 arg5 harg5 hc0 x0 x1 x2 xo4 y
      = xo4 y + blkKV x0 x1 x2 y := by
  unfold out0_B_4
  rw [View.read_writes_eq_canon _ _ _ (cover0_B_4 c i arg1 harg1 arg2 harg2 arg3 harg3 arg4 harg4 arg5 harg5 hc0 x0 x1 x2 xo4)]
  refine View.canon_apply_of_pieces (fun y => xo4 y + blkKV x0 x1 x2 y) _ ?_ y
    (cover0_B_4 c i arg1 harg1 arg2 harg2 arg3 harg3 arg4 harg4 arg5 harg5 hc0 x0 x1 x2 xo4 y)
  refine View.PiecesOf.mem (G := fun y => xo4 y + blkKV x0 x1 x2 y) ?_
  unfold kernelRun0_B; dsimp only
  sl_unfold_words
  simp only [View.readAt_eq_ld, harg1.read_unread, harg2.read_unread, harg3.read_unread, harg5.read_unread]
  refine ⟨fun x => ?_, fun x => ?_, fun x => ?_, fun x => ?_, fun x => ?_, fun x => ?_, fun x => ?_, fun x => ?_, trivial⟩
  · exact (tiles_ld x0 x1 x2 3 inb_S512x512_S512x128_0_384 inb_S256x1024_S256x128_0_384 inb_S256x1024_S256x128_0_896 inb_S512x512_S512x128_0_384 rfl rfl rfl rfl).dv_at (View.ld xo4 (Rect.unit ![0, 896] S256x128.size inb_S256x1024_S256x128_0_896)) rfl
      (emb_rows inb_S256x1024_S256x128_0_896 x (colV 3 (x 1)) (by simp only [colV]; rw [← Nat.add_assoc]; rfl))
  · exact (tiles_ld x0 x1 x2 3 inb_S512x512_S512x128_0_384 inb_S256x1024_S256x128_0_384 inb_S256x1024_S256x128_0_896 inb_S512x512_S512x128_0_384 rfl rfl rfl rfl).dk_at (View.ld xo4 (Rect.unit ![0, 384] S256x128.size inb_S256x1024_S256x128_0_384)) rfl
      (emb_rows inb_S256x1024_S256x128_0_384 x (colK 3 (x 1)) rfl)
  · exact (tiles_ld x0 x1 x2 2 inb_S512x512_S512x128_0_256 inb_S256x1024_S256x128_0_256 inb_S256x1024_S256x128_0_768 inb_S512x512_S512x128_0_256 rfl rfl rfl rfl).dv_at (View.ld xo4 (Rect.unit ![0, 768] S256x128.size inb_S256x1024_S256x128_0_768)) rfl
      (emb_rows inb_S256x1024_S256x128_0_768 x (colV 2 (x 1)) (by simp only [colV]; rw [← Nat.add_assoc]; rfl))
  · exact (tiles_ld x0 x1 x2 2 inb_S512x512_S512x128_0_256 inb_S256x1024_S256x128_0_256 inb_S256x1024_S256x128_0_768 inb_S512x512_S512x128_0_256 rfl rfl rfl rfl).dk_at (View.ld xo4 (Rect.unit ![0, 256] S256x128.size inb_S256x1024_S256x128_0_256)) rfl
      (emb_rows inb_S256x1024_S256x128_0_256 x (colK 2 (x 1)) rfl)
  · exact (tiles_ld x0 x1 x2 1 inb_S512x512_S512x128_0_128 inb_S256x1024_S256x128_0_128 inb_S256x1024_S256x128_0_640 inb_S512x512_S512x128_0_128 rfl rfl rfl rfl).dv_at (View.ld xo4 (Rect.unit ![0, 640] S256x128.size inb_S256x1024_S256x128_0_640)) rfl
      (emb_rows inb_S256x1024_S256x128_0_640 x (colV 1 (x 1)) (by simp only [colV]; rw [← Nat.add_assoc]; rfl))
  · exact (tiles_ld x0 x1 x2 1 inb_S512x512_S512x128_0_128 inb_S256x1024_S256x128_0_128 inb_S256x1024_S256x128_0_640 inb_S512x512_S512x128_0_128 rfl rfl rfl rfl).dk_at (View.ld xo4 (Rect.unit ![0, 128] S256x128.size inb_S256x1024_S256x128_0_128)) rfl
      (emb_rows inb_S256x1024_S256x128_0_128 x (colK 1 (x 1)) rfl)
  · exact (tiles_ld x0 x1 x2 0 inb_S512x512_S512x128_0_0 inb_S256x1024_S256x128_0_0 inb_S256x1024_S256x128_0_512 inb_S512x512_S512x128_0_0 rfl rfl rfl rfl).dv_at (View.ld xo4 (Rect.unit ![0, 512] S256x128.size inb_S256x1024_S256x128_0_512)) rfl
      (emb_rows inb_S256x1024_S256x128_0_512 x (colV 0 (x 1)) (by simp only [colV]; rw [← Nat.add_assoc]; rfl))
  · exact (tiles_ld x0 x1 x2 0 inb_S512x512_S512x128_0_0 inb_S256x1024_S256x128_0_0 inb_S256x1024_S256x128_0_512 inb_S512x512_S512x128_0_0 rfl rfl rfl rfl).dk_at (View.ld xo4 (Rect.unit ![0, 0] S256x128.size inb_S256x1024_S256x128_0_0)) rfl
      (emb_rows inb_S256x1024_S256x128_0_0 x (colK 0 (x 1)) rfl)

/-- The block of the queries' gradient a point leaves. -/
theorem out_B_3 (c : Dev nD) (i : grid0.Coords) (arg1 : Memref sig .tc .vmem S512x512 .f32) (harg1 : arg1.IsWhole)
    (arg2 : Memref sig .tc .vmem S256x1024 .bf16) (harg2 : arg2.IsWhole) (arg3 : Memref sig .tc .vmem S512x512 .f32)
    (harg3 : arg3.IsWhole) (arg4 : Memref sig .tc .vmem S512x512 .bf16) (harg4 : arg4.IsWhole)
    (arg5 : Memref sig .tc .vmem S256x1024 .f32) (harg5 : arg5.IsWhole)
    (hc0 : ¬cond0_0 i)
    (x0 : Vec Ideal S512x512 .f32) (x1 : Vec Ideal S256x1024 .bf16) (x2 : Vec Ideal S512x512 .f32) (xo4 : Vec Ideal S256x1024 .f32) (y : S512x512.Idx) :
    out0_B_3 c i arg1 harg1 arg2 harg2 arg3 harg3 arg4 harg4 arg5 harg5 hc0 x0 x1 x2 xo4 y = blkQ x0 x1 x2 y := by
  unfold out0_B_3
  rw [View.read_writes_eq_canon _ _ _ (cover0_B_3 c i arg1 harg1 arg2 harg2 arg3 harg3 arg4 harg4 arg5 harg5 hc0 x0 x1 x2 xo4)]
  refine View.canon_apply_of_pieces (blkQ x0 x1 x2) _ ?_ y (cover0_B_3 c i arg1 harg1 arg2 harg2 arg3 harg3 arg4 harg4 arg5 harg5 hc0 x0 x1 x2 xo4 y)
  refine View.PiecesOf.mem (Val := Elt Ideal) (s := S512x512) (e := .bf16) (G := blkQ x0 x1 x2) ?_
  unfold kernelRun0_B; dsimp only
  sl_unfold_words
  simp only [View.readAt_eq_ld, harg1.read_unread, harg2.read_unread, harg3.read_unread]
  refine ⟨fun x => ?_, fun x => ?_, fun x => ?_, fun x => ?_, trivial⟩
  · exact ((tiles_ld x0 x1 x2 3 inb_S512x512_S512x128_0_384 inb_S256x1024_S256x128_0_384 inb_S256x1024_S256x128_0_896 inb_S512x512_S512x128_0_384 rfl rfl rfl rfl).dq x).trans
      (congrArg (blkQ x0 x1 x2) (emb_rows inb_S512x512_S512x128_0_384 x (col 3 (x 1)) rfl))
  · exact ((tiles_ld x0 x1 x2 2 inb_S512x512_S512x128_0_256 inb_S256x1024_S256x128_0_256 inb_S256x1024_S256x128_0_768 inb_S512x512_S512x128_0_256 rfl rfl rfl rfl).dq x).trans
      (congrArg (blkQ x0 x1 x2) (emb_rows inb_S512x512_S512x128_0_256 x (col 2 (x 1)) rfl))
  · exact ((tiles_ld x0 x1 x2 1 inb_S512x512_S512x128_0_128 inb_S256x1024_S256x128_0_128 inb_S256x1024_S256x128_0_640 inb_S512x512_S512x128_0_128 rfl rfl rfl rfl).dq x).trans
      (congrArg (blkQ x0 x1 x2) (emb_rows inb_S512x512_S512x128_0_128 x (col 1 (x 1)) rfl))
  · exact ((tiles_ld x0 x1 x2 0 inb_S512x512_S512x128_0_0 inb_S256x1024_S256x128_0_0 inb_S256x1024_S256x128_0_512 inb_S512x512_S512x128_0_0 rfl rfl rfl rfl).dq x).trans
      (congrArg (blkQ x0 x1 x2) (emb_rows inb_S512x512_S512x128_0_0 x (col 0 (x 1)) rfl))

/-- The block of the queries' gradient a point leaves. -/
theorem out_A_3 (c : Dev nD) (i : grid0.Coords) (arg1 : Memref sig .tc .vmem S512x512 .f32) (harg1 : arg1.IsWhole)
    (arg2 : Memref sig .tc .vmem S256x1024 .bf16) (harg2 : arg2.IsWhole) (arg3 : Memref sig .tc .vmem S512x512 .f32)
    (harg3 : arg3.IsWhole) (arg4 : Memref sig .tc .vmem S512x512 .bf16) (harg4 : arg4.IsWhole)
    (arg5 : Memref sig .tc .vmem S256x1024 .f32) (harg5 : arg5.IsWhole)
    (hc0 : cond0_0 i)
    (x0 : Vec Ideal S512x512 .f32) (x1 : Vec Ideal S256x1024 .bf16) (x2 : Vec Ideal S512x512 .f32) (y : S512x512.Idx) :
    out0_A_3 c i arg1 harg1 arg2 harg2 arg3 harg3 arg4 harg4 arg5 harg5 hc0 x0 x1 x2 y = blkQ x0 x1 x2 y := by
  unfold out0_A_3
  rw [View.read_writes_eq_canon _ _ _ (cover0_A_3 c i arg1 harg1 arg2 harg2 arg3 harg3 arg4 harg4 arg5 harg5 hc0 x0 x1 x2)]
  refine View.canon_apply_of_pieces (blkQ x0 x1 x2) _ ?_ y (cover0_A_3 c i arg1 harg1 arg2 harg2 arg3 harg3 arg4 harg4 arg5 harg5 hc0 x0 x1 x2 y)
  refine View.PiecesOf.mem (Val := Elt Ideal) (s := S512x512) (e := .bf16) (G := blkQ x0 x1 x2) ?_
  unfold kernelRun0_A; dsimp only
  sl_unfold_words
  simp only [View.readAt_eq_ld, harg1.read_unread, harg2.read_unread, harg3.read_unread]
  refine ⟨fun x => ?_, fun x => ?_, fun x => ?_, fun x => ?_, trivial⟩
  · exact ((tiles_ld x0 x1 x2 3 inb_S512x512_S512x128_0_384 inb_S256x1024_S256x128_0_384 inb_S256x1024_S256x128_0_896 inb_S512x512_S512x128_0_384 rfl rfl rfl rfl).dq x).trans
      (congrArg (blkQ x0 x1 x2) (emb_rows inb_S512x512_S512x128_0_384 x (col 3 (x 1)) rfl))
  · exact ((tiles_ld x0 x1 x2 2 inb_S512x512_S512x128_0_256 inb_S256x1024_S256x128_0_256 inb_S256x1024_S256x128_0_768 inb_S512x512_S512x128_0_256 rfl rfl rfl rfl).dq x).trans
      (congrArg (blkQ x0 x1 x2) (emb_rows inb_S512x512_S512x128_0_256 x (col 2 (x 1)) rfl))
  · exact ((tiles_ld x0 x1 x2 1 inb_S512x512_S512x128_0_128 inb_S256x1024_S256x128_0_128 inb_S256x1024_S256x128_0_640 inb_S512x512_S512x128_0_128 rfl rfl rfl rfl).dq x).trans
      (congrArg (blkQ x0 x1 x2) (emb_rows inb_S512x512_S512x128_0_128 x (col 1 (x 1)) rfl))
  · exact ((tiles_ld x0 x1 x2 0 inb_S512x512_S512x128_0_0 inb_S256x1024_S256x128_0_0 inb_S256x1024_S256x128_0_512 inb_S512x512_S512x128_0_0 rfl rfl rfl rfl).dq x).trans
      (congrArg (blkQ x0 x1 x2) (emb_rows inb_S512x512_S512x128_0_0 x (col 0 (x 1)) rfl))

/-- At the first point the block of the keys' and values' gradient is this point's addition to zero. -/
theorem out_A_4 (c : Dev nD) (i : grid0.Coords) (arg1 : Memref sig .tc .vmem S512x512 .f32) (harg1 : arg1.IsWhole)
    (arg2 : Memref sig .tc .vmem S256x1024 .bf16) (harg2 : arg2.IsWhole) (arg3 : Memref sig .tc .vmem S512x512 .f32)
    (harg3 : arg3.IsWhole) (arg4 : Memref sig .tc .vmem S512x512 .bf16) (harg4 : arg4.IsWhole)
    (arg5 : Memref sig .tc .vmem S256x1024 .f32) (harg5 : arg5.IsWhole)
    (hc0 : cond0_0 i)
    (x0 : Vec Ideal S512x512 .f32) (x1 : Vec Ideal S256x1024 .bf16) (x2 : Vec Ideal S512x512 .f32) (y : S256x1024.Idx) :
    out0_A_4 c i arg1 harg1 arg2 harg2 arg3 harg3 arg4 harg4 arg5 harg5 hc0 x0 x1 x2 y = 0 + blkKV x0 x1 x2 y := by
  unfold out0_A_4
  rw [View.read_writes_eq_canon _ _ _ (cover0_A_4 c i arg1 harg1 arg2 harg2 arg3 harg3 arg4 harg4 arg5 harg5 hc0 x0 x1 x2)]
  unfold kernelRun0_A; dsimp only
  sl_unfold_words
  simp (disch := decide) only [↓ View.readCov_skip, ↓ View.readCov_cons_toLoadRect, ↓ View.readCov_fill,
    View.readAt_eq_ld, harg1.read_unread, harg2.read_unread, harg3.read_unread, harg5.read_unread]
  refine View.canon_append_of_piecesOf (Val := Elt Ideal) (s := S256x1024) (e := .f32)
    (fun y => (0 : EReal) + blkKV x0 x1 x2 y) [_] [_, _, _, _, _, _, _, _] ?_ y ?_
  rotate_left
  · exact View.cover_of_tiledL (s := S256x1024) _ S256x128.size (by sl_kernel_rfl) y
  refine ⟨fun x => ?_, fun x => ?_, fun x => ?_, fun x => ?_, fun x => ?_, fun x => ?_, fun x => ?_, fun x => ?_, trivial⟩
  · exact (tiles_ld x0 x1 x2 3 inb_S512x512_S512x128_0_384 inb_S256x1024_S256x128_0_384 inb_S256x1024_S256x128_0_896 inb_S512x512_S512x128_0_384 rfl rfl rfl rfl).dv_at (View.ld zeroKV (Rect.unit ![0, 896] S256x128.size inb_S256x1024_S256x128_0_896)) (pay1_ld _ x)
      (emb_rows inb_S256x1024_S256x128_0_896 x (colV 3 (x 1)) (by simp only [colV]; rw [← Nat.add_assoc]; rfl))
  · exact (tiles_ld x0 x1 x2 3 inb_S512x512_S512x128_0_384 inb_S256x1024_S256x128_0_384 inb_S256x1024_S256x128_0_896 inb_S512x512_S512x128_0_384 rfl rfl rfl rfl).dk_at (View.ld zeroKV (Rect.unit ![0, 384] S256x128.size inb_S256x1024_S256x128_0_384)) (pay1_ld _ x)
      (emb_rows inb_S256x1024_S256x128_0_384 x (colK 3 (x 1)) rfl)
  · exact (tiles_ld x0 x1 x2 2 inb_S512x512_S512x128_0_256 inb_S256x1024_S256x128_0_256 inb_S256x1024_S256x128_0_768 inb_S512x512_S512x128_0_256 rfl rfl rfl rfl).dv_at (View.ld zeroKV (Rect.unit ![0, 768] S256x128.size inb_S256x1024_S256x128_0_768)) (pay1_ld _ x)
      (emb_rows inb_S256x1024_S256x128_0_768 x (colV 2 (x 1)) (by simp only [colV]; rw [← Nat.add_assoc]; rfl))
  · exact (tiles_ld x0 x1 x2 2 inb_S512x512_S512x128_0_256 inb_S256x1024_S256x128_0_256 inb_S256x1024_S256x128_0_768 inb_S512x512_S512x128_0_256 rfl rfl rfl rfl).dk_at (View.ld zeroKV (Rect.unit ![0, 256] S256x128.size inb_S256x1024_S256x128_0_256)) (pay1_ld _ x)
      (emb_rows inb_S256x1024_S256x128_0_256 x (colK 2 (x 1)) rfl)
  · exact (tiles_ld x0 x1 x2 1 inb_S512x512_S512x128_0_128 inb_S256x1024_S256x128_0_128 inb_S256x1024_S256x128_0_640 inb_S512x512_S512x128_0_128 rfl rfl rfl rfl).dv_at (View.ld zeroKV (Rect.unit ![0, 640] S256x128.size inb_S256x1024_S256x128_0_640)) (pay1_ld _ x)
      (emb_rows inb_S256x1024_S256x128_0_640 x (colV 1 (x 1)) (by simp only [colV]; rw [← Nat.add_assoc]; rfl))
  · exact (tiles_ld x0 x1 x2 1 inb_S512x512_S512x128_0_128 inb_S256x1024_S256x128_0_128 inb_S256x1024_S256x128_0_640 inb_S512x512_S512x128_0_128 rfl rfl rfl rfl).dk_at (View.ld zeroKV (Rect.unit ![0, 128] S256x128.size inb_S256x1024_S256x128_0_128)) (pay1_ld _ x)
      (emb_rows inb_S256x1024_S256x128_0_128 x (colK 1 (x 1)) rfl)
  · exact (tiles_ld x0 x1 x2 0 inb_S512x512_S512x128_0_0 inb_S256x1024_S256x128_0_0 inb_S256x1024_S256x128_0_512 inb_S512x512_S512x128_0_0 rfl rfl rfl rfl).dv_at (View.ld zeroKV (Rect.unit ![0, 512] S256x128.size inb_S256x1024_S256x128_0_512)) (pay1_ld _ x)
      (emb_rows inb_S256x1024_S256x128_0_512 x (colV 0 (x 1)) (by simp only [colV]; rw [← Nat.add_assoc]; rfl))
  · exact (tiles_ld x0 x1 x2 0 inb_S512x512_S512x128_0_0 inb_S256x1024_S256x128_0_0 inb_S256x1024_S256x128_0_512 inb_S512x512_S512x128_0_0 rfl rfl rfl rfl).dk_at (View.ld zeroKV (Rect.unit ![0, 0] S256x128.size inb_S256x1024_S256x128_0_0)) (pay1_ld _ x)
      (emb_rows inb_S256x1024_S256x128_0_0 x (colK 0 (x 1)) rfl)

end Cert.MemB
end
-- ==== Proof.MemBValue.lean ====
/- The kernel's two result arrays, as functions of its three arguments. -/
module
public import proofs.«01_k».proof.Proof.MemBPoint
public import Idealize.ShloMosaic.Lib.Pipeline.ValueKit
@[expose] public section
set_option maxRecDepth 16384
noncomputable section
namespace Cert.MemB
open Cert.Mem Cert.MemBwdBIdeal Cert.MemBwdBIdeal.Gen Idealize.ShloMosaic Idealize.ShloMosaic.TcCoe Idealize.SL.Sem
open Idealize.ShloMosaic.Pipeline (Dat)

/-- Row `r` of the queries: columns 2048 to 2559 of `P`. -/
def qrow (P : Vec Ideal S4096x2560 .f32) (r : Fin 4096) (c : Fin 512) : EReal := P (ix2 r ⟨2048 + c.val, by omega⟩)

/-- Row `r` of the output's gradient: columns 1024 to 1535 of `dcat`. -/
def orow (D : Vec Ideal S4096x1536 .f32) (r : Fin 4096) (c : Fin 512) : EReal := D (ix2 r ⟨1024 + c.val, by omega⟩)

/-- The gradient of the queries. -/
def gradQ (P : Vec Ideal S4096x2560 .f32) (KV : Vec Ideal S256x1024 .bf16) (D : Vec Ideal S4096x1536 .f32) :
    Vec Ideal S4096x512 .bf16 :=
  fun y => gq (qrow P (y 0)) (row KV) (orow D (y 0)) (y 1)

/-- The gradient of the keys and values: the sum over all rows. -/
def gradKV (P : Vec Ideal S4096x2560 .f32) (KV : Vec Ideal S256x1024 .bf16) (D : Vec Ideal S4096x1536 .f32) :
    Vec Ideal S256x1024 .f32 :=
  fun y => ∑ r, gkv (qrow P r) (row KV) (orow D r) (y 0) (y 1)

variable (m : (ℓ : Loc nD τ sig) → Buf (Elt Ideal) ℓ) (c : Dev nD)

/-- The three arguments. -/
abbrev aP : Vec Ideal S4096x2560 .f32 := m ((c.tc : Thread nD τ).loc main_arg0)
abbrev aKV : Vec Ideal S256x1024 .bf16 := m ((c.tc : Thread nD τ).loc main_arg1)
abbrev aD : Vec Ideal S4096x1536 .f32 := m ((c.tc : Thread nD τ).loc main_arg2)

theorem idx0 : ∀ t : Fin cfg0.N, win0_0.index t = ![t.val, 4] := by decide +kernel
theorem idx1 : ∀ t : Fin cfg0.N, win0_1.index t = ![0, 0] := by decide +kernel
theorem idx2 : ∀ t : Fin cfg0.N, win0_2.index t = ![t.val, 2] := by decide +kernel
theorem idx3 : ∀ t : Fin cfg0.N, win0_3.index t = ![t.val, 0] := by decide +kernel
theorem idx4 : ∀ t : Fin cfg0.N, win0_4.index t = ![0, 0] := by decide +kernel

theorem lt8 (t : Fin cfg0.N) : t.val < 8 := lt_of_lt_of_eq t.isLt (show cfg0.N = 8 from N_0)

/-- Row `r` of grid point `t`'s blocks in the whole arrays. -/
def rowOf (t : Fin cfg0.N) (r : Fin 512) : Fin 4096 := ⟨t.val * 512 + r.val, by have := lt8 t; omega⟩

theorem row0 (t : Fin cfg0.N) (r : Fin 512) : row (iblk m c 0 t) r = qrow (aP m c) (rowOf t r) := by
  funext d
  unfold row qrow rowOf
  blk_ext [iblk, V, idx0 t]

theorem row1 (t : Fin cfg0.N) : row (iblk m c 1 t) = row (aKV m c) := by
  funext j d
  unfold row
  blk_ext [iblk, V, idx1 t]

theorem row2 (t : Fin cfg0.N) (r : Fin 512) : row (iblk m c 2 t) r = orow (aD m c) (rowOf t r) := by
  funext d
  unfold row orow rowOf
  blk_ext [iblk, V, idx2 t]

/-- What grid point `n` adds to the gradient of the keys and values. -/
def addKV (n : ℕ) (y : S256x1024.Idx) : EReal :=
  if h : n < cfg0.N then blkKV (iblk m c 0 ⟨n, h⟩) (iblk m c 1 ⟨n, h⟩) (iblk m c 2 ⟨n, h⟩) y else 0

theorem acc_A (t : Fin cfg0.N) (h : t.val % 8 = 0) (y : S256x1024.Idx) :
    (outsAt0 m c t.val t.isLt).2 y = (0 : EReal) + addKV m c t.val y := by
  rw [outsAt0_A m c t h]
  refine (out_A_4 c (grid0.coords t) (ms0_0 t) (hs0_0 t) (ms0_1 t) (hs0_1 t) (ms0_2 t) (hs0_2 t) (ms0_3 t) (hs0_3 t)
        (ms0_4 t) (hs0_4 t) ((hcond0_0 t).mpr h) _ _ _ y).trans ?_
  unfold addKV
  rw [dif_pos t.isLt]

theorem acc_B (t : Fin cfg0.N) (h : ¬t.val % 8 = 0) (y : S256x1024.Idx) :
    (outsAt0 m c t.val t.isLt).2 y
      = (outsAt0 m c (t.val - 1) (Nat.lt_of_le_of_lt (Nat.sub_le _ _) t.isLt)).2 y + addKV m c t.val y := by
  rw [outsAt0_B m c t h]
  refine (out_B_4 c (grid0.coords t) (ms0_0 t) (hs0_0 t) (ms0_1 t) (hs0_1 t) (ms0_2 t) (hs0_2 t) (ms0_3 t) (hs0_3 t)
        (ms0_4 t) (hs0_4 t) (fun h' => h ((hcond0_0 t).mp h')) _ _ _ _ y).trans ?_
  unfold addKV
  rw [dif_pos t.isLt]

/-- After the last point the block holds the sum of all points' additions. -/
theorem acc_last (t : Fin cfg0.N) (h : t.val % 8 = 7) (y : S256x1024.Idx) :
    (outsAt0 m c t.val t.isLt).2 y = (0 : EReal) + ∑ k ∈ Finset.range 8, addKV m c k y :=
  Pipeline.eq_sum_of_reset_step_apply_single_of_mod (M := EReal) (fun n h => (outsAt0 m c n h).2) 8 (fun _ => 0) (addKV m c)
    (acc_A m c) (acc_B m c) (le_of_eq (show cfg0.N = 8 from N_0)) t h y

theorem sum_addKV (y : S256x1024.Idx) :
    ∑ k ∈ Finset.range 8, addKV m c k y = gradKV (aP m c) (aKV m c) (aD m c) y := by
  have h8 : cfg0.N = 8 := N_0
  have hb : ∀ t : Fin cfg0.N, addKV m c t.val y
      = ∑ r : Fin 512, gkv (qrow (aP m c) (rowOf t r)) (row (aKV m c)) (orow (aD m c) (rowOf t r)) (y 0) (y 1) := by
    intro t
    unfold addKV blkKV
    rw [dif_pos t.isLt]
    refine Finset.sum_congr rfl fun r _ => ?_
    rw [row0, row1, row2]
  rw [← h8, Finset.sum_range]
  simp only [hb]
  unfold gradKV
  rw [← Finset.sum_product', Finset.univ_product_univ]
  refine Fintype.sum_equiv ((Equiv.prodCongr (finCongr h8) (Equiv.refl (Fin 512))).trans finProdFinEquiv) _ _ fun x => ?_
  have : rowOf x.1 x.2 = ((Equiv.prodCongr (finCongr h8) (Equiv.refl (Fin 512))).trans finProdFinEquiv) x := by
    refine Fin.ext ?_
    simp [rowOf, finProdFinEquiv]
    omega
  rw [this]

theorem emb3 (t : Fin cfg0.N) (y : S512x512.Idx) : (win0_3.blk t).view.emb y = ix2 (rowOf t (y 0)) (y 1) := by
  unfold rowOf
  blk_ext [idx3 t]

theorem emb4 (t : Fin cfg0.N) (y : S256x1024.Idx) : (win0_4.blk t).view.emb y = y := by
  blk_ext [idx4 t]

/-- The block of the queries' gradient that point `t` leaves. -/
theorem out3 (t : Fin cfg0.N) (y : S512x512.Idx) :
    (outsAt0 m c t.val t.isLt).1 y = gradQ (aP m c) (aKV m c) (aD m c) (ix2 (rowOf t (y 0)) (y 1)) := by
  have h : (outsAt0 m c t.val t.isLt).1 y = blkQ (iblk m c 0 t) (iblk m c 1 t) (iblk m c 2 t) y := by
    by_cases h0 : t.val % 8 = 0
    · rw [outsAt0_A m c t h0]
      exact out_A_3 c (grid0.coords t) (ms0_0 t) (hs0_0 t) (ms0_1 t) (hs0_1 t) (ms0_2 t) (hs0_2 t) (ms0_3 t) (hs0_3 t)
        (ms0_4 t) (hs0_4 t) ((hcond0_0 t).mpr h0) _ _ _ y
    · rw [outsAt0_B m c t h0]
      exact out_B_3 c (grid0.coords t) (ms0_0 t) (hs0_0 t) (ms0_1 t) (hs0_1 t) (ms0_2 t) (hs0_2 t) (ms0_3 t) (hs0_3 t)
        (ms0_4 t) (hs0_4 t) (fun h' => h0 ((hcond0_0 t).mp h')) _ _ _
        (outsAt0 m c (t.val - 1) (Nat.lt_of_le_of_lt (Nat.sub_le _ _) t.isLt)).2 y
  rw [h]
  obtain ⟨r, d, rfl⟩ : ∃ (r d : Fin 512), y = ix2 r d := ⟨y 0, y 1, eq_ix2 y⟩
  unfold blkQ gradQ
  simp only [ix2_0, ix2_1]
  rw [row0, row1, row2]

/-- The kernel's first result: the gradient of the queries. -/
theorem arr3 : (dats m 0 c).arrAt 3 cfg0.N = gradQ (aP m c) (aKV m c) (aD m c) := by
  refine (dats m 0 c).arrAt_eq_of_covers 3 _ (by decide +kernel) fun t hf y => ?_
  blk_simp
  rw [after0_3]
  exact (out3 m c t y).trans (congrArg (gradQ (aP m c) (aKV m c) (aD m c)) (emb3 t y).symm)

/-- The kernel's second result: the gradient of the keys and values. -/
theorem arr4 : (dats m 0 c).arrAt 4 cfg0.N = gradKV (aP m c) (aKV m c) (aD m c) := by
  refine (dats m 0 c).arrAt_eq_of_covers 4 _ (by decide +kernel) fun t hf y => ?_
  blk_simp
  rw [after0_4]
  have h := acc_last m c t ((flush0_4 t).mp hf) y
  rw [sum_addKV, zero_add] at h
  exact h.trans (congrArg (gradKV (aP m c) (aKV m c) (aD m c)) (emb4 t y).symm)

/-- The run of the kernel: both results named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0_0) = gradQ (aP m c) (aKV m c) (aD m c)
      ∧ r.2.mem ((c : Thread nD τ).loc main_v0_1) = gradKV (aP m c) (aKV m c) (aD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2.1.trans (arr4 m c), (h c).2.2⟩)
    (Value.run_blocks m ρ)

end Cert.MemB
end
-- ==== Proof.MemBRef.lean ====
/- The reference's two result arrays, read at an index. -/
module
public import proofs.«01_k».proof.Proof.MemBValue
public import proofs.«01_k».proof.Proof.Gen.MemBwdBRefIdeal.Read
public import Idealize.ShloMosaic.Lib.ValueIdx
public import Idealize.ShloMosaic.Lib.Pointwise
@[expose] public section
set_option maxRecDepth 16384
noncomputable section
namespace Cert.MemBRef
open Cert.Mem Cert.MemB Cert.MemBwdBRefIdeal Cert.MemBwdBRefIdeal.Read Idealize.ShloMosaic Idealize.ShloMosaic.TcCoe Idealize.SL.Sem

variable (x0 : Vec Ideal S4096x2560 .f32) (x1 : Vec Ideal S256x1024 .bf16) (x2 : Vec Ideal S4096x1536 .f32)

/-- The queries, by head. -/
theorem q_at (r : Fin 4096) (h : Fin 4) (d : Fin 128) : val_main_v6 (F := Ideal) x0 (ix4 0 r h d) = qrow x0 r (col h d) := by
  pointwise [val_main_v6, val_main_v1, val_main_v0]
  unfold qrow col
  exact congrArg x0 (congrArg (ix2 r) (Fin.ext (by simp only []; omega)))

/-- The keys, by head. -/
theorem k_at (j : Fin 256) (h : Fin 4) (d : Fin 128) : val_main_v9 (F := Ideal) x1 (ix4 0 j h d) = row x1 j (colK h d) := by
  pointwise [val_main_v9, val_main_v8, val_main_v7, val_main_v5, val_main_v4]
  unfold row colK
  exact congrArg x1 (congrArg (ix2 j) (Fin.ext (by simp only []; omega)))

/-- The values, by head. -/
theorem v_at (j : Fin 256) (h : Fin 4) (d : Fin 128) : val_main_v11 (F := Ideal) x1 (ix4 0 j h d) = row x1 j (colV h d) := by
  pointwise [val_main_v11, val_main_v10, val_main_v7, val_main_v5, val_main_v4]
  unfold row colV
  exact congrArg x1 (congrArg (ix2 j) (Fin.ext (by simp only []; omega)))

/-- The gradient of the output, by head. -/
theorem o_at (r : Fin 4096) (h : Fin 4) (d : Fin 128) : val_main_v47 (F := Ideal) x2 (ix4 0 h d r) = orow x2 r (col h d) := by
  pointwise [val_main_v47, val_main_v46, val_main_v3, val_main_v2]
  unfold orow col
  exact congrArg x2 (congrArg (ix2 r) (Fin.ext (by simp only []; omega)))

/-- The scores. -/
theorem s_at (h : Fin 4) (r : Fin 4096) (j : Fin 256) :
    val_main_v14 (F := Ideal) x0 x1 (ix4 0 h r j) = hscore (qrow x0 r) (row x1) h j := by
  pointwise [val_main_v14, val_main_v12, val_main_v13, val_main_cst]
  simp only [q_at, k_at]
  unfold hscore score kap
  with_reducible rfl

/-- The larger of two numbers, as the host writes it. -/
theorem max_at (a b : EReal) : FloatOps.maximumf (F := Ideal) (φ := .f32) a b = max a b := rfl

/-- The maximum over the keys. -/
theorem m16 (h : Fin 4) (r : Fin 4096) :
    val_main_v15 (F := Ideal) x0 x1 (ix3 0 h r) = Finset.univ.fold max ninf fun j => val_main_v14 (F := Ideal) x0 x1 (ix4 0 h r j) := by
  pointwise [val_main_v15, val_main_cst_0]
  unfold ninf
  with_reducible rfl

/-- Its initial value, once more. -/
theorem m22 (h : Fin 4) (r : Fin 4096) :
    val_main_v21 (F := Ideal) (ix3 0 h r) = ninf := by
  pointwise [val_main_v21, val_main_cst_2]
  unfold ninf
  with_reducible rfl

/-- The maximum of a row of scores. -/
theorem m_at (h : Fin 4) (r : Fin 4096) :
    val_main_v22 (F := Ideal) x0 x1 (ix3 0 h r) = rmax (hscore (qrow x0 r) (row x1) h) := by
  refine (val_main_v22_apply x0 x1 _).trans ?_
  rw [m16, m22, max_at, ninf_eq]
  simp only [s_at]
  unfold rmax
  rw [ninf_eq]
  exact max_eq_right bot_le

/-- The exponentials. -/
theorem e_at (h : Fin 4) (r : Fin 4096) (j : Fin 256) :
    val_main_v35 (F := Ideal) x0 x1 (ix4 0 h r j) = ex (hscore (qrow x0 r) (row x1) h) j := by
  pointwise [val_main_v35, val_main_v34, val_main_v33, val_main_v32]
  simp only [s_at, m_at]
  unfold ex
  with_reducible rfl

/-- Their sum. -/
theorem z_at (h : Fin 4) (r : Fin 4096) :
    val_main_v37 (F := Ideal) x0 x1 (ix4 0 h r 0) = ∑ j, ex (hscore (qrow x0 r) (row x1) h) j := by
  pointwise [val_main_v37, val_main_v36, val_main_cst_8]
  simp only [e_at]
  try exact zero_add _

/-- The probabilities. -/
theorem p_at (h : Fin 4) (r : Fin 4096) (j : Fin 256) :
    val_main_v39 (F := Ideal) x0 x1 (ix4 0 h r j) = prob (hscore (qrow x0 r) (row x1) h) j := by
  pointwise [val_main_v39, val_main_v38]
  simp only [e_at, z_at]
  unfold prob
  with_reducible rfl

/-- The gradient of the probabilities. -/
theorem dp_at (h : Fin 4) (r : Fin 4096) (j : Fin 256) :
    val_main_v48 (F := Ideal) x1 x2 (ix4 0 h r j) = hdp (row x1) (orow x2 r) h j := by
  pointwise [val_main_v48]
  simp only [o_at, v_at]
  unfold hdp
  with_reducible rfl

/-- The sum over two axes, of which one has one entry and the other is the first, of one entry too. -/
theorem sum_unit (x : S1x4x4096x1.Idx → EReal) (hr : S1x4x4096x1.ReducesTo [0, 3] S4x4096) (h : Fin 4) (r : Fin 4096) :
    Ideal.hostReduceAdd hr x 0 (ix2 h r) = x (ix4 0 h r 0) := by
  have h0 : ∀ i : S1x4x4096x1.Idx, (hr.drop i 0).val = (i 1).val := fun i => rfl
  have h1 : ∀ i : S1x4x4096x1.Idx, (hr.drop i 1).val = (i 2).val := fun i => rfl
  unfold Ideal.hostReduceAdd
  rw [zero_add, Finset.sum_eq_single (ix4 0 h r 0)]
  · intro b hb hne
    exfalso; apply hne
    have hd := (Finset.mem_filter.1 hb).2
    have e0 : (b 1).val = h.val := (h0 b).symm.trans (congrArg (fun i : S4x4096.Idx => (i 0).val) hd)
    have e1 : (b 2).val = r.val := (h1 b).symm.trans (congrArg (fun i : S4x4096.Idx => (i 1).val) hd)
    funext a
    match a with
    | 0 => exact Fin.ext (Nat.lt_one_iff.1 (b 0).isLt)
    | 1 => exact Fin.ext e0
    | 2 => exact Fin.ext e1
    | 3 => exact Fin.ext (Nat.lt_one_iff.1 (b 3).isLt)
  · intro hn
    exfalso; apply hn
    refine Finset.mem_filter.2 ⟨Finset.mem_univ _, ?_⟩
    funext a
    match a with
    | 0 => exact Fin.ext (h0 _)
    | 1 => exact Fin.ext (h1 _)

/-- The gradient of the reciprocal of the sum, once over its unit axes. -/
theorem w_at (h : Fin 4) (r : Fin 4096) :
    val_main_v59 (F := Ideal) x0 x1 x2 (ix2 h r)
      = -(∑ j, hdp (row x1) (orow x2 r) h j
          * Ideal.div 1 ((∑ j', ex (hscore (qrow x0 r) (row x1) h) j') * (∑ j', ex (hscore (qrow x0 r) (row x1) h) j'))
          * ex (hscore (qrow x0 r) (row x1) h) j) := by
  pointwise [val_main_v59, val_main_cst_11]
  refine (sum_unit _ _ h r).trans ?_
  pointwise [val_main_v56, val_main_v55, val_main_v54, val_main_v53, val_main_v52, val_main_v51, val_main_v42, val_main_v41,
    val_main_v40, val_main_cst_9, val_main_cst_10]
  simp only [e_at, z_at, dp_at]

/-- The gradient of the unscaled scores. -/
theorem ds_at (h : Fin 4) (r : Fin 4096) (j : Fin 256) :
    val_main_v65 (F := Ideal) x0 x1 x2 (ix4 0 h r j)
      = dscoreR (hscore (qrow x0 r) (row x1) h) (hdp (row x1) (orow x2 r) h) j := by
  pointwise [val_main_v65, val_main_v64, val_main_cst_12, val_main_v63, val_main_v62, val_main_v61, val_main_v60, val_main_v58,
    val_main_v57]
  simp only [e_at, z_at, dp_at, w_at]
  unfold dscoreR kap
  with_reducible rfl

/-- The gradient of the values, by head. -/
theorem dv_at (j : Fin 256) (h : Fin 4) (d : Fin 128) :
    val_main_v50 (F := Ideal) x0 x1 x2 (ix4 0 j h d)
      = ∑ r, prob (hscore (qrow x0 r) (row x1) h) j * orow x2 r (col h d) := by
  pointwise [val_main_v50, val_main_v49]
  simp only [p_at, o_at]
  exact Finset.sum_congr rfl fun r _ => mul_comm _ _

/-- The gradient of the keys, by head. -/
theorem dk_at (j : Fin 256) (h : Fin 4) (d : Fin 128) :
    val_main_v67 (F := Ideal) x0 x1 x2 (ix4 0 j h d)
      = ∑ r, dscoreR (hscore (qrow x0 r) (row x1) h) (hdp (row x1) (orow x2 r) h) j * qrow x0 r (col h d) := by
  pointwise [val_main_v67, val_main_v66]
  simp only [ds_at, q_at]

/-- The gradient of the queries, by head. -/
theorem dq_at (r : Fin 4096) (h : Fin 4) (d : Fin 128) :
    val_main_v69 (F := Ideal) x0 x1 x2 (ix4 0 r h d)
      = ∑ j, dscoreR (hscore (qrow x0 r) (row x1) h) (hdp (row x1) (orow x2 r) h) j * row x1 j (colK h d) := by
  pointwise [val_main_v69, val_main_v68]
  simp only [ds_at, k_at]

/-- The first result. -/
theorem v79_at (r : Fin 4096) (c : Fin 512) :
    val_main_v78 (F := Ideal) x0 x1 x2 (ix2 r c)
      = val_main_v69 (F := Ideal) x0 x1 x2 (ix4 0 r (headOf c) ⟨c.val % 128, Nat.mod_lt _ (by omega)⟩) := by
  pointwise [val_main_v78, val_main_v77, val_main_v76]
  unfold headOf
  with_reducible rfl

/-- The gradient of keys and values side by side: its half of the keys. -/
theorem v75_K (j : Fin 256) (h : Fin 4) (d : Fin 128) :
    val_main_v74 (F := Ideal) x0 x1 x2 (ix5 0 j 0 h d) = val_main_v67 (F := Ideal) x0 x1 x2 (ix4 0 j h d) := by
  pointwise [val_main_v74, val_main_v71, val_main_v73, val_main_cst_13, val_main_cst_14, val_main_v70, val_main_v72]

/-- Its half of the values. -/
theorem v75_V (j : Fin 256) (h : Fin 4) (d : Fin 128) :
    val_main_v74 (F := Ideal) x0 x1 x2 (ix5 0 j 1 h d) = val_main_v50 (F := Ideal) x0 x1 x2 (ix4 0 j h d) := by
  pointwise [val_main_v74, val_main_v71, val_main_v73, val_main_cst_13, val_main_cst_14, val_main_v70, val_main_v72]

theorem v79_K (j : Fin 256) (h : Fin 4) (d : Fin 128) :
    val_main_v79 (F := Ideal) x0 x1 x2 (ix2 j (colK h d)) = val_main_v67 (F := Ideal) x0 x1 x2 (ix4 0 j h d) := by
  pointwise [val_main_v79, val_main_v75]
  rw [← v75_K]
  unfold colK
  congr 2 <;> exact Fin.ext (by simp only []; omega)

theorem v79_V (j : Fin 256) (h : Fin 4) (d : Fin 128) :
    val_main_v79 (F := Ideal) x0 x1 x2 (ix2 j (colV h d)) = val_main_v50 (F := Ideal) x0 x1 x2 (ix4 0 j h d) := by
  pointwise [val_main_v79, val_main_v75]
  rw [← v75_V]
  unfold colV
  congr 2 <;> exact Fin.ext (by simp only []; omega)

/-- The queries and the keys are real numbers. -/
structure RealQK : Prop where
  q : ∀ r c, ∃ t : ℝ, qrow x0 r c = (t : EReal)
  k : ∀ j h d, ∃ t : ℝ, row x1 j (colK h d) = (t : EReal)

variable {x0 x1}

/-- The gradient of the scores as the kernel computes it. -/
theorem hds_eq (H : RealQK x0 x1) (r : Fin 4096) (h : Fin 4) (j : Fin 256) :
    dscoreR (hscore (qrow x0 r) (row x1) h) (hdp (row x1) (orow x2 r) h) j = hds (qrow x0 r) (row x1) (orow x2 r) h j :=
  dscoreR_eq _ _ (score_real _ _ (fun _ => H.q _ _) fun _ _ => H.k _ _ _) j

/-- A column of the queries is one of its head. -/
theorem col_split (c : Fin 512) : c = col (headOf c) ⟨c.val % 128, Nat.mod_lt _ (by omega)⟩ :=
  Fin.ext (by simp only [col, headOf]; omega)

/-- The reference's first result is the gradient of the queries. -/
theorem v78_eq (H : RealQK x0 x1) : val_main_v78 (F := Ideal) x0 x1 x2 = gradQ x0 x1 x2 := by
  funext y
  obtain ⟨r, c, rfl⟩ : ∃ r c, y = ix2 r c := ⟨_, _, eq_ix2 y⟩
  rw [v79_at, dq_at]
  simp only [hds_eq x2 H]
  refine (gq_col _ _ _ _ _).symm.trans ?_
  rw [← col_split]
  rfl

/-- The reference's second result is the gradient of the keys and values. -/
theorem v79_eq (H : RealQK x0 x1) : val_main_v79 (F := Ideal) x0 x1 x2 = gradKV x0 x1 x2 := by
  funext y
  obtain ⟨j, c, rfl⟩ : ∃ j c, y = ix2 j c := ⟨_, _, eq_ix2 y⟩
  by_cases hc : c.val < 512
  · obtain ⟨h, d, rfl⟩ : ∃ h d, c = colK h d :=
      ⟨⟨c.val / 128, by omega⟩, ⟨c.val % 128, Nat.mod_lt _ (by omega)⟩, Fin.ext (by simp only [colK]; omega)⟩
    rw [v79_K, dk_at]
    simp only [hds_eq x2 H]
    exact Finset.sum_congr rfl fun r _ => (gkv_colK _ _ _ _ _ _).symm
  · obtain ⟨h, d, rfl⟩ : ∃ h d, c = colV h d :=
      ⟨⟨(c.val - 512) / 128, by omega⟩, ⟨(c.val - 512) % 128, Nat.mod_lt _ (by omega)⟩, Fin.ext (by simp only [colV]; omega)⟩
    rw [v79_V, dv_at]
    exact Finset.sum_congr rfl fun r _ => (gkv_colV _ _ _ _ _ _).symm

end Cert.MemBRef
end
-- ==== Proof.MemBPre.lean ====
/- The precondition's facts, and what the precondition says of the entries. -/
module
public import proofs.«01_k».proof.Defs
public import proofs.«01_k».proof.Proof.MemBRef
public import proofs.«01_k».proof.Proof.MemPre
public import Idealize.ShloMosaic.Lib.Decide
@[expose] public section
set_option maxRecDepth 16384
noncomputable section
namespace Cert.MemBPre
open Idealize.ShloMosaic

/-- The shape relations the predicate's operations take. -/
instance facts : Cert.Pre_scores_finite_b.Facts where
  slices_S4096x2560_S4096x512_0_2048 := by decide
  bitsLt_bf16_f32 := by decide
  bcast_S_S4096x512 := by decide
  slices_S256x1024_S256x512_0_0 := by decide
  bcast_S_S256x512 := by decide

open Cert.Pre_scores_finite_b in
/-- Under the precondition queries and keys are real numbers. -/
theorem realQK (x0 : Vec Ideal S4096x2560 .f32) (x1 : Vec Ideal S256x1024 .bf16) (x2 : Vec Ideal S4096x1536 .f32)
    (h0 : (fn (F := Ideal) x0 x1 x2).1 = fun _ => 1#1) (h1 : (fn (F := Ideal) x0 x1 x2).2 = fun _ => 1#1) :
    Cert.MemBRef.RealQK x0 x1 := by
  constructor
  · intro r c
    have h := congrFun h0 (ix2 r c)
    pointwise [fn] at h
    exact Cert.MemPre.real_of_abs_lt _ h
  · intro j h d
    have h := congrFun h1 (ix2 j ⟨128 * h.val + d.val, by omega⟩)
    pointwise [fn] at h
    exact Cert.MemPre.real_of_abs_lt _ h

end Cert.MemBPre
end
-- ==== Proof.MemBwdBProof.lean ====
/- The gradients of the shared memory's second read: the kernel's results and the reference's. -/
module
public import proofs.«01_k».proof.Defs
public import proofs.«01_k».proof.Proof.MemBValue
public import proofs.«01_k».proof.Proof.MemBRef
public import proofs.«01_k».proof.Proof.MemBPre
@[expose] public section
noncomputable section
namespace Cert.MemBwdBProof
open Idealize.ShloMosaic Idealize.SL.Sem

/-- The reference runs, keeps its arguments and leaves every semaphore at zero. -/
theorem ref_frame : Cert.quiescent_MemBwdBRefIdeal := fun m ρ _ =>
  (θ_run Cert.MemBwdBRefIdeal.defs _ _).mono (fun r h => ⟨fun c => (h c).2.2, sem_eq_zero_of_no_sems (by decide) r.2⟩)
    (Cert.MemBwdBRefIdeal.Value.run (F := Ideal) m ρ)

/-- The kernel's two gradients are the reference's: both are `gradQ` and `gradKV` of the arguments. -/
theorem value : Cert.algebraic_MemBwdBIdeal_MemBwdBRefIdeal_pre_scores_finite_b := fun m ρ m' ρ' hp hag =>
  ⟨fun c => Cert.MemB.gradQ (Cert.MemB.aP m c) (Cert.MemB.aKV m c) (Cert.MemB.aD m c),
    fun c => Cert.MemB.gradKV (Cert.MemB.aP m c) (Cert.MemB.aKV m c) (Cert.MemB.aD m c),
    Cert.MemB.run_kernel m ρ,
    (θ_run Cert.MemBwdBRefIdeal.defs _ _).mono (fun r h c => by
      have H := Cert.MemBPre.realQK _ _ _ (hp c).1 (hp c).2
      obtain ⟨e0, e1, e2⟩ := hag c
      refine ⟨(h c).1.trans ?_, (h c).2.1.trans ?_, (h c).2.2⟩
      · rw [Cert.MemBwdBRefIdeal.Read.val_main_v78_eq, e0, e1, e2]
        exact Cert.MemBRef.v78_eq _ H
      · rw [Cert.MemBwdBRefIdeal.Read.val_main_v79_eq, e0, e1, e2]
        exact Cert.MemBRef.v79_eq _ H)
      (Cert.MemBwdBRefIdeal.Value.run (F := Ideal) m' ρ')⟩

end Cert.MemBwdBProof
end
-- ==== Proof.MemFwdSpec.lean ====
/- One row of the memory's read: four heads of attention to 256 keys, after the columns that are passed on. -/
module
public import proofs.«01_k».proof.Proof.MemSpec
@[expose] public section
noncomputable section
namespace Cert.MemRead
open Cert.Mem Idealize.ShloMosaic

/-- Column `d` of head `h` among the 1536 columns of the result. -/
def colO (h : Fin 4) (d : Fin 128) : Fin 1536 := ⟨1024 + (128 * h.val + d.val), by omega⟩
/-- Column `d` that is passed on, among the 1536 columns of the result. -/
def colM (d : Fin 1024) : Fin 1536 := ⟨d.val, by omega⟩

/-- One row of the result: the row `mx` as it is, then each head's values weighted by the softmax of its scores. -/
def fwd (q : Fin 512 → EReal) (kv : Fin 256 → Fin 1024 → EReal) (mx : Fin 1024 → EReal) (c : Fin 1536) : EReal :=
  if h : c.val < 1024 then mx ⟨c.val, h⟩
  else ∑ j, prob (hscore q kv ⟨(c.val - 1024) / 128, by omega⟩) j
    * kv j (colV ⟨(c.val - 1024) / 128, by omega⟩ ⟨(c.val - 1024) % 128, by omega⟩)

variable (q : Fin 512 → EReal) (kv : Fin 256 → Fin 1024 → EReal) (mx : Fin 1024 → EReal)

theorem fwd_colM (d : Fin 1024) : fwd q kv mx (colM d) = mx d := by
  unfold fwd
  rw [dif_pos (show (colM d).val < 1024 from d.isLt)]
  rfl

theorem fwd_colO (h : Fin 4) (d : Fin 128) : fwd q kv mx (colO h d) = ∑ j, prob (hscore q kv h) j * kv j (colV h d) := by
  unfold fwd
  have hc : ¬(colO h d).val < 1024 := by simp only [colO]; omega
  have e1 : (⟨((colO h d).val - 1024) / 128, by have := (colO h d).isLt; omega⟩ : Fin 4) = h := Fin.ext (by simp only [colO]; omega)
  have e2 : (⟨((colO h d).val - 1024) % 128, by omega⟩ : Fin 128) = d := Fin.ext (by simp only [colO]; omega)
  rw [dif_neg hc]
  simp only [e1, e2]

end Cert.MemRead
end
-- ==== Proof.MemFwdProof.lean ====
/- One read of the shared memory, by the projection of the longer half: the kernel's result and the reference's. -/
module
public import proofs.«01_k».proof.Proof.Gen.MemFwdIdeal.Value
public import proofs.«01_k».proof.Proof.Gen.MemFwdRefIdeal.Read
public import proofs.«01_k».proof.Proof.MemFwdSpec
public import proofs.«01_k».proof.Defs
public import Idealize.ShloMosaic.Lib.Pipeline.ValueKit
public import Idealize.ShloMosaic.Lib.Pipeline.ReadBack
public import Idealize.ShloMosaic.Lib.ValueIdx
public import Idealize.ShloMosaic.Lib.Pointwise
@[expose] public section
set_option maxRecDepth 16384
noncomputable section
namespace Cert.MemFwdProof
open Cert.Mem Cert.MemRead Cert.MemFwdIdeal Cert.MemFwdIdeal.Gen Idealize.ShloMosaic Idealize.ShloMosaic.TcCoe Idealize.SL.Sem
open Idealize.ShloMosaic.Pipeline (Dat)

/-! ### One head of one block of rows -/

/-- The weighted sum of a tile of values, weighted by the softmax of a row's scores. -/
def tile (q : Vec Ideal S512x128 .bf16) (k v : Vec Ideal S256x128 .bf16) (r : Fin 512) (d : Fin 128) : EReal :=
  ∑ j, prob (score (fun d => q (ix2 r d)) fun j d => k (ix2 j d)) j * v (ix2 j d)

section
variable (q : Vec Ideal S512x128 .bf16) (k v : Vec Ideal S256x128 .bf16) (r : Fin 512) (d : Fin 128)

theorem head0 : k0_pay3 (F := Ideal) q k v (ix2 r d) = tile q k v r d := by
  pointwise [k0_pay3]
  rfl

theorem head1 : k0_pay5 (F := Ideal) (k0_pay4 q k) v (ix2 r d) = tile q k v r d := by
  pointwise [k0_pay5, k0_pay4]
  rfl

theorem head2 : k0_pay6 (F := Ideal) q k v (ix2 r d) = tile q k v r d := by
  pointwise [k0_pay6]
  rfl

theorem head3 : k0_pay1 (F := Ideal) (k0_pay7 q k) v (ix2 r d) = tile q k v r d := by
  pointwise [k0_pay1, k0_pay7]
  rfl

theorem mixed (x : Vec Ideal S512x1024 .f32) (r : Fin 512) (j : Fin 1024) : k0_pay2 (F := Ideal) x (ix2 r j) = x (ix2 r j) := by
  pointwise [k0_pay2]
end

/-- What one grid point writes. -/
def blkO (x0 : Vec Ideal S512x512 .bf16) (x1 : Vec Ideal S256x1024 .bf16) (x2 : Vec Ideal S512x1024 .f32) (y : S512x1536.Idx) : EReal :=
  fwd (fun c => x0 (ix2 (y 0) c)) (fun j c => x1 (ix2 j c)) (fun c => x2 (ix2 (y 0) c)) (y 1)

/-- Head `h`'s tile of the point's blocks is head `h`'s part of what the point writes. -/
theorem tile_ld (x0 : Vec Ideal S512x512 .bf16) (x1 : Vec Ideal S256x1024 .bf16) (x2 : Vec Ideal S512x1024 .f32) (h : Fin 4)
    {oq ok ov : ℕ} (iq : ∀ a, (![0, oq] : Fin 2 → ℕ) a + S512x128.size a ≤ S512x512.size a)
    (ik : ∀ a, (![0, ok] : Fin 2 → ℕ) a + S256x128.size a ≤ S256x1024.size a)
    (iv : ∀ a, (![0, ov] : Fin 2 → ℕ) a + S256x128.size a ≤ S256x1024.size a)
    (hq : oq = 128 * h.val) (hk : ok = 128 * h.val) (hv : ov = 512 + 128 * h.val) (r : Fin 512) (d : Fin 128) :
    tile (View.ld x0 (Rect.unit ![0, oq] S512x128.size iq)) (View.ld x1 (Rect.unit ![0, ok] S256x128.size ik))
      (View.ld x1 (Rect.unit ![0, ov] S256x128.size iv)) r d = blkO x0 x1 x2 (ix2 r (colO h d)) := by
  have e0 : ∀ d, View.ld x0 (Rect.unit ![0, oq] S512x128.size iq) (ix2 r d) = x0 (ix2 r (col h d)) := fun d =>
    congrArg x0 (funext fun a => Fin.ext (by fin_cases a <;> simp [Rect.emb, Rect.unit, col, hq]))
  have e1 : ∀ j d, View.ld x1 (Rect.unit ![0, ok] S256x128.size ik) (ix2 j d) = x1 (ix2 j (colK h d)) := fun j d =>
    congrArg x1 (funext fun a => Fin.ext (by fin_cases a <;> simp [Rect.emb, Rect.unit, colK, hk]))
  have e2 : ∀ j d, View.ld x1 (Rect.unit ![0, ov] S256x128.size iv) (ix2 j d) = x1 (ix2 j (colV h d)) := fun j d =>
    congrArg x1 (funext fun a => Fin.ext (by fin_cases a <;> simp [Rect.emb, Rect.unit, colV, hv, add_assoc]))
  unfold tile blkO
  simp only [e0, e1, e2, ix2_0, ix2_1]
  rw [fwd_colO]
  rfl

/-- Where a tile of whole rows starting at column `off` puts its index `x`. -/
theorem emb_rows {n w v off : ℕ} (inb : ∀ a, (![0, off] : Fin 2 → ℕ) a + (![n, v] : Fin 2 → ℕ) a ≤ (![n, w] : Fin 2 → ℕ) a)
    (r : Fin n) (d : Fin v) (c : Fin w) (hc : c.val = off + d.val) :
    (ix2 r c : (⟨2, ![n, w]⟩ : Shape).Idx) = (Rect.unit (s := ⟨2, ![n, w]⟩) ![0, off] ![n, v] inb).emb (ix2 r d) := by
  refine funext fun a => Fin.ext ?_
  fin_cases a
  · simp [Rect.emb, Rect.unit]
  · simpa [Rect.emb, Rect.unit] using hc

/-- The whole block a point leaves: four heads and the columns that are passed on. -/
theorem out_A (c : Dev nD) (i : grid0.Coords) (arg1 : Memref sig .tc .vmem S512x512 .bf16) (harg1 : arg1.IsWhole)
    (arg2 : Memref sig .tc .vmem S256x1024 .bf16) (harg2 : arg2.IsWhole) (arg3 : Memref sig .tc .vmem S512x1024 .f32)
    (harg3 : arg3.IsWhole) (arg4 : Memref sig .tc .vmem S512x1536 .bf16) (harg4 : arg4.IsWhole)
    (x0 : Vec Ideal S512x512 .bf16) (x1 : Vec Ideal S256x1024 .bf16) (x2 : Vec Ideal S512x1024 .f32) (y : S512x1536.Idx) :
    out0_A_3 c i arg1 harg1 arg2 harg2 arg3 harg3 arg4 harg4 x0 x1 x2 y = blkO x0 x1 x2 y := by
  unfold out0_A_3
  rw [View.read_writes_eq_canon _ _ _ (cover0_A_3 c i arg1 harg1 arg2 harg2 arg3 harg3 arg4 harg4 x0 x1 x2)]
  refine View.canon_apply_of_pieces (blkO x0 x1 x2) _ ?_ y (cover0_A_3 c i arg1 harg1 arg2 harg2 arg3 harg3 arg4 harg4 x0 x1 x2 y)
  refine View.PiecesOf.mem (Val := Elt Ideal) (s := S512x1536) (e := .bf16) (G := blkO x0 x1 x2) ?_
  unfold kernelRun0_A; dsimp only
  sl_unfold_words
  simp only [View.readAt_eq_ld, harg1.read_unread, harg2.read_unread, harg3.read_unread]
  refine ⟨fun x => ?_, fun x => ?_, fun x => ?_, fun x => ?_, fun x => ?_, trivial⟩
  · obtain ⟨r, d, rfl⟩ : ∃ (r : Fin 512) (d : Fin 128), x = ix2 r d := ⟨x 0, x 1, eq_ix2 x⟩
    exact ((head3 _ _ _ r d).trans (tile_ld x0 x1 x2 3 inb_S512x512_S512x128_0_384 inb_S256x1024_S256x128_0_384 inb_S256x1024_S256x128_0_896 rfl rfl rfl r d)).trans
      (congrArg (blkO x0 x1 x2) (emb_rows inb_S512x1536_S512x128_0_1408 r d (colO 3 d) (by simp only [colO]; rw [← Nat.add_assoc]; rfl)))
  · obtain ⟨r, d, rfl⟩ : ∃ (r : Fin 512) (d : Fin 128), x = ix2 r d := ⟨x 0, x 1, eq_ix2 x⟩
    exact ((head2 _ _ _ r d).trans (tile_ld x0 x1 x2 2 inb_S512x512_S512x128_0_256 inb_S256x1024_S256x128_0_256 inb_S256x1024_S256x128_0_768 rfl rfl rfl r d)).trans
      (congrArg (blkO x0 x1 x2) (emb_rows inb_S512x1536_S512x128_0_1280 r d (colO 2 d) (by simp only [colO]; rw [← Nat.add_assoc]; rfl)))
  · obtain ⟨r, d, rfl⟩ : ∃ (r : Fin 512) (d : Fin 128), x = ix2 r d := ⟨x 0, x 1, eq_ix2 x⟩
    exact ((head1 _ _ _ r d).trans (tile_ld x0 x1 x2 1 inb_S512x512_S512x128_0_128 inb_S256x1024_S256x128_0_128 inb_S256x1024_S256x128_0_640 rfl rfl rfl r d)).trans
      (congrArg (blkO x0 x1 x2) (emb_rows inb_S512x1536_S512x128_0_1152 r d (colO 1 d) (by simp only [colO]; rw [← Nat.add_assoc]; rfl)))
  · obtain ⟨r, d, rfl⟩ : ∃ (r : Fin 512) (d : Fin 128), x = ix2 r d := ⟨x 0, x 1, eq_ix2 x⟩
    exact ((head0 _ _ _ r d).trans (tile_ld x0 x1 x2 0 inb_S512x512_S512x128_0_0 inb_S256x1024_S256x128_0_0 inb_S256x1024_S256x128_0_512 rfl rfl rfl r d)).trans
      (congrArg (blkO x0 x1 x2) (emb_rows inb_S512x1536_S512x128_0_1024 r d (colO 0 d) (by simp only [colO]; rw [← Nat.add_assoc]; rfl)))
  · obtain ⟨r, d, rfl⟩ : ∃ (r : Fin 512) (d : Fin 1024), x = ix2 r d := ⟨x 0, x 1, eq_ix2 x⟩
    refine (mixed _ r d).trans (Eq.trans ?_ (congrArg (blkO x0 x1 x2) (emb_rows inb_S512x1536_S512x1024_0_0 r d (colM d) (by simp only [colM]; omega))))
    unfold blkO
    simp only [ix2_0, ix2_1]
    rw [fwd_colM]
    exact congrArg x2 (emb_rows inb_S512x1024_S512x1024_0_0 r d d (by omega)).symm

/-! ### The kernel's result -/

/-- Row `r` of the queries: columns 9216 to 9727 of `P`. -/
def qrow (P : Vec Ideal S4096x9728 .bf16) (r : Fin 4096) (c : Fin 512) : EReal := P (ix2 r ⟨9216 + c.val, by omega⟩)

/-- The result: the columns passed on, then the four heads' reads of the memory. -/
def res (P : Vec Ideal S4096x9728 .bf16) (KV : Vec Ideal S256x1024 .bf16) (M : Vec Ideal S4096x1024 .f32) : Vec Ideal S4096x1536 .bf16 :=
  fun y => fwd (qrow P (y 0)) (fun j c => KV (ix2 j c)) (fun c => M (ix2 (y 0) c)) (y 1)

variable (m : (ℓ : Loc nD τ sig) → Buf (Elt Ideal) ℓ) (c : Dev nD)

/-- The three arguments. -/
abbrev aP : Vec Ideal S4096x9728 .bf16 := m ((c.tc : Thread nD τ).loc main_arg0)
abbrev aKV : Vec Ideal S256x1024 .bf16 := m ((c.tc : Thread nD τ).loc main_arg1)
abbrev aM : Vec Ideal S4096x1024 .f32 := m ((c.tc : Thread nD τ).loc main_arg2)

theorem idx0 : ∀ t : Fin cfg0.N, win0_0.index t = ![t.val, 18] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

theorem lt8 (t : Fin cfg0.N) : t.val < 8 := lt_of_lt_of_eq t.isLt (show cfg0.N = 8 from N_0)

/-- Row `r` of grid point `t`'s blocks in the whole arrays. -/
def rowOf (t : Fin cfg0.N) (r : Fin 512) : Fin 4096 := ⟨t.val * 512 + r.val, by have := lt8 t; omega⟩

theorem blk0 (t : Fin cfg0.N) (r d : Fin 512) : iblk m c 0 t (ix2 r d : S512x512.Idx) = qrow (aP m c) (rowOf t r) d := by
  unfold qrow rowOf
  blk_ext [iblk, V, idx0 t]

theorem blk1 (t : Fin cfg0.N) (j : Fin 256) (d : Fin 1024) : iblk m c 1 t (ix2 j d : S256x1024.Idx) = aKV m c (ix2 j d) := by
  blk_ext [iblk, V, idx1 t]

theorem blk2 (t : Fin cfg0.N) (r : Fin 512) (d : Fin 1024) : iblk m c 2 t (ix2 r d : S512x1024.Idx) = aM m c (ix2 (rowOf t r) d) := by
  unfold rowOf
  blk_ext [iblk, V, idx2 t]

theorem emb3 (t : Fin cfg0.N) (y : S512x1536.Idx) : (win0_3.blk t).view.emb y = ix2 (rowOf t (y 0)) (y 1) := by
  unfold rowOf
  blk_ext [idx3 t]

/-- The block a point computes. -/
theorem point (t : Fin cfg0.N) (y : S512x1536.Idx) :
    outsAt0 m c t y = res (aP m c) (aKV m c) (aM m c) (ix2 (rowOf t (y 0)) (y 1)) := by
  unfold outsAt0
  refine (out_A c (grid0.coords t) (ms0_0 t) (hs0_0 t) (ms0_1 t) (hs0_1 t) (ms0_2 t) (hs0_2 t) (ms0_3 t) (hs0_3 t) _ _ _ y).trans ?_
  obtain ⟨r, j, rfl⟩ : ∃ (r : Fin 512) (j : Fin 1536), y = ix2 r j := ⟨y 0, y 1, eq_ix2 y⟩
  unfold blkO res
  simp only [blk0, blk1, blk2, ix2_0, ix2_1]

theorem arr3 : (dats m 0 c).arrAt 3 cfg0.N = res (aP m c) (aKV m c) (aM m c) := by
  refine (dats m 0 c).arrAt_eq_of_covers 3 _ (by decide +kernel) fun t hf y => ?_
  blk_simp
  rw [after0_3]
  exact (point m c t y).trans (congrArg (res (aP m c) (aKV m c) (aM m c)) (emb3 t y).symm)

/-- The run of the kernel: its result named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aP m c) (aKV m c) (aM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

/-! ### The reference's result -/

section
open Cert.MemFwdRefIdeal.Read
variable (x0 : Vec Ideal S4096x9728 .bf16) (x1 : Vec Ideal S256x1024 .bf16) (x2 : Vec Ideal S4096x1024 .f32)

/-- The memory's row, as a function of its index and column. -/
abbrev mem (x1 : Vec Ideal S256x1024 .bf16) : Fin 256 → Fin 1024 → EReal := fun j c => x1 (ix2 j c)

/-- The queries, by head. -/
theorem q_at (r : Fin 4096) (h : Fin 4) (d : Fin 128) : val_main_v5 (F := Ideal) x0 (ix4 0 r h d) = qrow x0 r (col h d) := by
  pointwise [val_main_v5, val_main_v2, val_main_v1, val_main_v0]
  unfold qrow col
  exact congrArg x0 (congrArg (ix2 r) (Fin.ext (by simp only []; omega)))

/-- The keys, by head. -/
theorem k_at (j : Fin 256) (h : Fin 4) (d : Fin 128) : val_main_v8 (F := Ideal) x1 (ix4 0 j h d) = x1 (ix2 j (colK h d)) := by
  pointwise [val_main_v8, val_main_v7, val_main_v6, val_main_v4, val_main_v3]
  unfold colK
  exact congrArg x1 (congrArg (ix2 j) (Fin.ext (by simp only []; omega)))

/-- The values, by head. -/
theorem v_at (j : Fin 256) (h : Fin 4) (d : Fin 128) : val_main_v10 (F := Ideal) x1 (ix4 0 j h d) = x1 (ix2 j (colV h d)) := by
  pointwise [val_main_v10, val_main_v9, val_main_v6, val_main_v4, val_main_v3]
  unfold colV
  exact congrArg x1 (congrArg (ix2 j) (Fin.ext (by simp only []; omega)))

/-- The scores. -/
theorem s_at (h : Fin 4) (r : Fin 4096) (j : Fin 256) :
    val_main_v13 (F := Ideal) x0 x1 (ix4 0 h r j) = hscore (qrow x0 r) (mem x1) h j := by
  pointwise [val_main_v13, val_main_v11, val_main_v12, val_main_cst]
  simp only [q_at, k_at]
  unfold hscore score kap
  with_reducible rfl

/-- The larger of two numbers, as the host writes it. -/
theorem max_at (a b : EReal) : FloatOps.maximumf (F := Ideal) (φ := .f32) a b = max a b := rfl

/-- The maximum over the keys. -/
theorem mx_at (h : Fin 4) (r : Fin 4096) :
    val_main_v14 (F := Ideal) x0 x1 (ix3 0 h r) = Finset.univ.fold max ninf fun j => val_main_v13 (F := Ideal) x0 x1 (ix4 0 h r j) := by
  pointwise [val_main_v14, val_main_cst_0]
  unfold ninf
  with_reducible rfl

/-- Its initial value, once more. -/
theorem mi_at (h : Fin 4) (r : Fin 4096) : val_main_v15 (F := Ideal) (ix3 0 h r) = ninf := by
  pointwise [val_main_v15, val_main_cst_1]
  unfold ninf
  with_reducible rfl

/-- The maximum of a row of scores. -/
theorem m_at (h : Fin 4) (r : Fin 4096) :
    val_main_v16 (F := Ideal) x0 x1 (ix3 0 h r) = rmax (hscore (qrow x0 r) (mem x1) h) := by
  refine (val_main_v16_apply x0 x1 _).trans ?_
  rw [mi_at, mx_at, max_at, ninf_eq]
  simp only [s_at]
  unfold rmax
  rw [ninf_eq]
  exact max_eq_right bot_le

/-- The exponentials. -/
theorem e_at (h : Fin 4) (r : Fin 4096) (j : Fin 256) :
    val_main_v20 (F := Ideal) x0 x1 (ix4 0 h r j) = ex (hscore (qrow x0 r) (mem x1) h) j := by
  pointwise [val_main_v20, val_main_v19, val_main_v18, val_main_v17]
  simp only [s_at, m_at]
  unfold ex
  with_reducible rfl

/-- Their sum. -/
theorem z_at (h : Fin 4) (r : Fin 4096) :
    val_main_v22 (F := Ideal) x0 x1 (ix4 0 h r 0) = ∑ j, ex (hscore (qrow x0 r) (mem x1) h) j := by
  pointwise [val_main_v22, val_main_v21, val_main_cst_2]
  simp only [e_at]
  try exact zero_add _

/-- The probabilities. -/
theorem p_at (h : Fin 4) (r : Fin 4096) (j : Fin 256) :
    val_main_v24 (F := Ideal) x0 x1 (ix4 0 h r j) = prob (hscore (qrow x0 r) (mem x1) h) j := by
  pointwise [val_main_v24, val_main_v23]
  simp only [e_at, z_at]
  unfold prob
  with_reducible rfl

/-- One head's weighted sum of the values. -/
theorem a_at (h : Fin 4) (r : Fin 4096) (d : Fin 128) :
    val_main_v25 (F := Ideal) x0 x1 (ix4 0 h d r) = ∑ j, x1 (ix2 j (colV h d)) * prob (hscore (qrow x0 r) (mem x1) h) j := by
  pointwise [val_main_v25]
  simp only [p_at, v_at]

/-- The four heads side by side. -/
theorem o_at (r : Fin 4096) (c : Fin 512) :
    val_main_v28 (F := Ideal) x0 x1 (ix2 r c) = val_main_v25 (F := Ideal) x0 x1 (ix4 0 ⟨c.val / 128, by omega⟩ ⟨c.val % 128, by omega⟩ r) := by
  pointwise [val_main_v28, val_main_v27, val_main_v26]

/-- The reference's value is the same. -/
theorem ref_res : val_main_v30 (F := Ideal) x0 x1 x2 = res x0 x1 x2 := by
  funext i
  obtain ⟨r, j, rfl⟩ : ∃ (r : Fin 4096) (j : Fin 1536), i = ix2 r j := ⟨i 0, i 1, eq_ix2 i⟩
  pointwise [val_main_v30, val_main_v29]
  unfold res
  simp only [ix2_0, ix2_1]
  by_cases hj : j.val < 1024
  · rw [dif_pos hj]
    have e : j = colM ⟨j.val, hj⟩ := rfl
    exact ((congrArg (fwd (qrow x0 r) (fun j c => x1 (ix2 j c)) fun c => x2 (ix2 r c)) e).trans (fwd_colM _ _ _ _)).symm
  · rw [dif_neg hj, o_at, a_at]
    have e : j = colO ⟨(j.val - 1024) / 128, by omega⟩ ⟨(j.val - 1024) % 128, by omega⟩ := Fin.ext (by simp only [colO]; omega)
    refine Eq.trans ?_ ((congrArg (fwd _ _ _) e).trans (fwd_colO _ _ _ _ _)).symm
    exact Finset.sum_congr rfl fun k _ => mul_comm _ _

end

/-- The reference runs, keeps its arguments and leaves every semaphore at zero. -/
theorem ref_frame : Cert.quiescent_MemFwdRefIdeal := fun m ρ _ =>
  (θ_run Cert.MemFwdRefIdeal.defs _ _).mono (fun r h => ⟨fun c => (h c).2, sem_eq_zero_of_no_sems (by decide) r.2⟩)
    (Cert.MemFwdRefIdeal.Value.run (F := Ideal) m ρ)

/-- The kernel's result is the reference's. -/
theorem value : Cert.algebraic_MemFwdIdeal_MemFwdRefIdeal := fun m ρ m' ρ' _ hag =>
  ⟨fun c => res (aP m c) (aKV m c) (aM m c), run_kernel m ρ,
    (θ_run Cert.MemFwdRefIdeal.defs _ _).mono (fun r h c => by
      obtain ⟨e0, e1, e2⟩ := hag c
      refine ⟨(h c).1.trans ?_, (h c).2⟩
      rw [Cert.MemFwdRefIdeal.Read.val_main_v30_eq, e0, e1, e2]
      exact ref_res _ _ _)
      (Cert.MemFwdRefIdeal.Value.run (F := Ideal) m' ρ')⟩

end Cert.MemFwdProof
end
-- ==== Proof.MemFwdBProof.lean ====
/- One read of the shared memory, by the projection of the shorter half: the kernel's result and the reference's. -/
module
public import proofs.«01_k».proof.Proof.Gen.MemFwdBIdeal.Value
public import proofs.«01_k».proof.Proof.Gen.MemFwdBRefIdeal.Read
public import proofs.«01_k».proof.Proof.MemFwdSpec
public import proofs.«01_k».proof.Defs
public import Idealize.ShloMosaic.Lib.Pipeline.ValueKit
public import Idealize.ShloMosaic.Lib.Pipeline.ReadBack
public import Idealize.ShloMosaic.Lib.ValueIdx
public import Idealize.ShloMosaic.Lib.Pointwise
@[expose] public section
set_option maxRecDepth 16384
noncomputable section
namespace Cert.MemFwdBProof
open Cert.Mem Cert.MemRead Cert.MemFwdBIdeal Cert.MemFwdBIdeal.Gen Idealize.ShloMosaic Idealize.ShloMosaic.TcCoe Idealize.SL.Sem
open Idealize.ShloMosaic.Pipeline (Dat)

/-! ### One head of one block of rows -/

/-- The weighted sum of a tile of values, weighted by the softmax of a row's scores. -/
def tile (q : Vec Ideal S512x128 .f32) (k v : Vec Ideal S256x128 .bf16) (r : Fin 512) (d : Fin 128) : EReal :=
  ∑ j, prob (score (fun d => q (ix2 r d)) fun j d => k (ix2 j d)) j * v (ix2 j d)

section
variable (q : Vec Ideal S512x128 .f32) (k v : Vec Ideal S256x128 .bf16) (r : Fin 512) (d : Fin 128)

theorem head0 : k0_pay3 (F := Ideal) q k v (ix2 r d) = tile q k v r d := by
  pointwise [k0_pay3]
  rfl

theorem head1 : k0_pay5 (F := Ideal) (k0_pay4 q k) v (ix2 r d) = tile q k v r d := by
  pointwise [k0_pay5, k0_pay4]
  rfl

theorem head2 : k0_pay6 (F := Ideal) q k v (ix2 r d) = tile q k v r d := by
  pointwise [k0_pay6]
  rfl

theorem head3 : k0_pay1 (F := Ideal) (k0_pay7 q k) v (ix2 r d) = tile q k v r d := by
  pointwise [k0_pay1, k0_pay7]
  rfl

theorem mixed (x : Vec Ideal S512x1024 .f32) (r : Fin 512) (j : Fin 1024) : k0_pay2 (F := Ideal) x (ix2 r j) = x (ix2 r j) := by
  pointwise [k0_pay2]
end

/-- What one grid point writes. -/
def blkO (x0 : Vec Ideal S512x512 .f32) (x1 : Vec Ideal S256x1024 .bf16) (x2 : Vec Ideal S512x1024 .f32) (y : S512x1536.Idx) : EReal :=
  fwd (fun c => x0 (ix2 (y 0) c)) (fun j c => x1 (ix2 j c)) (fun c => x2 (ix2 (y 0) c)) (y 1)

/-- Head `h`'s tile of the point's blocks is head `h`'s part of what the point writes. -/
theorem tile_ld (x0 : Vec Ideal S512x512 .f32) (x1 : Vec Ideal S256x1024 .bf16) (x2 : Vec Ideal S512x1024 .f32) (h : Fin 4)
    {oq ok ov : ℕ} (iq : ∀ a, (![0, oq] : Fin 2 → ℕ) a + S512x128.size a ≤ S512x512.size a)
    (ik : ∀ a, (![0, ok] : Fin 2 → ℕ) a + S256x128.size a ≤ S256x1024.size a)
    (iv : ∀ a, (![0, ov] : Fin 2 → ℕ) a + S256x128.size a ≤ S256x1024.size a)
    (hq : oq = 128 * h.val) (hk : ok = 128 * h.val) (hv : ov = 512 + 128 * h.val) (r : Fin 512) (d : Fin 128) :
    tile (View.ld x0 (Rect.unit ![0, oq] S512x128.size iq)) (View.ld x1 (Rect.unit ![0, ok] S256x128.size ik))
      (View.ld x1 (Rect.unit ![0, ov] S256x128.size iv)) r d = blkO x0 x1 x2 (ix2 r (colO h d)) := by
  have e0 : ∀ d, View.ld x0 (Rect.unit ![0, oq] S512x128.size iq) (ix2 r d) = x0 (ix2 r (col h d)) := fun d =>
    congrArg x0 (funext fun a => Fin.ext (by fin_cases a <;> simp [Rect.emb, Rect.unit, col, hq]))
  have e1 : ∀ j d, View.ld x1 (Rect.unit ![0, ok] S256x128.size ik) (ix2 j d) = x1 (ix2 j (colK h d)) := fun j d =>
    congrArg x1 (funext fun a => Fin.ext (by fin_cases a <;> simp [Rect.emb, Rect.unit, colK, hk]))
  have e2 : ∀ j d, View.ld x1 (Rect.unit ![0, ov] S256x128.size iv) (ix2 j d) = x1 (ix2 j (colV h d)) := fun j d =>
    congrArg x1 (funext fun a => Fin.ext (by fin_cases a <;> simp [Rect.emb, Rect.unit, colV, hv, add_assoc]))
  unfold tile blkO
  simp only [e0, e1, e2, ix2_0, ix2_1]
  rw [fwd_colO]
  rfl

/-- Where a tile of whole rows starting at column `off` puts its index `x`. -/
theorem emb_rows {n w v off : ℕ} (inb : ∀ a, (![0, off] : Fin 2 → ℕ) a + (![n, v] : Fin 2 → ℕ) a ≤ (![n, w] : Fin 2 → ℕ) a)
    (r : Fin n) (d : Fin v) (c : Fin w) (hc : c.val = off + d.val) :
    (ix2 r c : (⟨2, ![n, w]⟩ : Shape).Idx) = (Rect.unit (s := ⟨2, ![n, w]⟩) ![0, off] ![n, v] inb).emb (ix2 r d) := by
  refine funext fun a => Fin.ext ?_
  fin_cases a
  · simp [Rect.emb, Rect.unit]
  · simpa [Rect.emb, Rect.unit] using hc

/-- The whole block a point leaves: four heads and the columns that are passed on. -/
theorem out_A (c : Dev nD) (i : grid0.Coords) (arg1 : Memref sig .tc .vmem S512x512 .f32) (harg1 : arg1.IsWhole)
    (arg2 : Memref sig .tc .vmem S256x1024 .bf16) (harg2 : arg2.IsWhole) (arg3 : Memref sig .tc .vmem S512x1024 .f32)
    (harg3 : arg3.IsWhole) (arg4 : Memref sig .tc .vmem S512x1536 .bf16) (harg4 : arg4.IsWhole)
    (x0 : Vec Ideal S512x512 .f32) (x1 : Vec Ideal S256x1024 .bf16) (x2 : Vec Ideal S512x1024 .f32) (y : S512x1536.Idx) :
    out0_A_3 c i arg1 harg1 arg2 harg2 arg3 harg3 arg4 harg4 x0 x1 x2 y = blkO x0 x1 x2 y := by
  unfold out0_A_3
  rw [View.read_writes_eq_canon _ _ _ (cover0_A_3 c i arg1 harg1 arg2 harg2 arg3 harg3 arg4 harg4 x0 x1 x2)]
  refine View.canon_apply_of_pieces (blkO x0 x1 x2) _ ?_ y (cover0_A_3 c i arg1 harg1 arg2 harg2 arg3 harg3 arg4 harg4 x0 x1 x2 y)
  refine View.PiecesOf.mem (Val := Elt Ideal) (s := S512x1536) (e := .bf16) (G := blkO x0 x1 x2) ?_
  unfold kernelRun0_A; dsimp only
  sl_unfold_words
  simp only [View.readAt_eq_ld, harg1.read_unread, harg2.read_unread, harg3.read_unread]
  refine ⟨fun x => ?_, fun x => ?_, fun x => ?_, fun x => ?_, fun x => ?_, trivial⟩
  · obtain ⟨r, d, rfl⟩ : ∃ (r : Fin 512) (d : Fin 128), x = ix2 r d := ⟨x 0, x 1, eq_ix2 x⟩
    exact ((head3 _ _ _ r d).trans (tile_ld x0 x1 x2 3 inb_S512x512_S512x128_0_384 inb_S256x1024_S256x128_0_384 inb_S256x1024_S256x128_0_896 rfl rfl rfl r d)).trans
      (congrArg (blkO x0 x1 x2) (emb_rows inb_S512x1536_S512x128_0_1408 r d (colO 3 d) (by simp only [colO]; rw [← Nat.add_assoc]; rfl)))
  · obtain ⟨r, d, rfl⟩ : ∃ (r : Fin 512) (d : Fin 128), x = ix2 r d := ⟨x 0, x 1, eq_ix2 x⟩
    exact ((head2 _ _ _ r d).trans (tile_ld x0 x1 x2 2 inb_S512x512_S512x128_0_256 inb_S256x1024_S256x128_0_256 inb_S256x1024_S256x128_0_768 rfl rfl rfl r d)).trans
      (congrArg (blkO x0 x1 x2) (emb_rows inb_S512x1536_S512x128_0_1280 r d (colO 2 d) (by simp only [colO]; rw [← Nat.add_assoc]; rfl)))
  · obtain ⟨r, d, rfl⟩ : ∃ (r : Fin 512) (d : Fin 128), x = ix2 r d := ⟨x 0, x 1, eq_ix2 x⟩
    exact ((head1 _ _ _ r d).trans (tile_ld x0 x1 x2 1 inb_S512x512_S512x128_0_128 inb_S256x1024_S256x128_0_128 inb_S256x1024_S256x128_0_640 rfl rfl rfl r d)).trans
      (congrArg (blkO x0 x1 x2) (emb_rows inb_S512x1536_S512x128_0_1152 r d (colO 1 d) (by simp only [colO]; rw [← Nat.add_assoc]; rfl)))
  · obtain ⟨r, d, rfl⟩ : ∃ (r : Fin 512) (d : Fin 128), x = ix2 r d := ⟨x 0, x 1, eq_ix2 x⟩
    exact ((head0 _ _ _ r d).trans (tile_ld x0 x1 x2 0 inb_S512x512_S512x128_0_0 inb_S256x1024_S256x128_0_0 inb_S256x1024_S256x128_0_512 rfl rfl rfl r d)).trans
      (congrArg (blkO x0 x1 x2) (emb_rows inb_S512x1536_S512x128_0_1024 r d (colO 0 d) (by simp only [colO]; rw [← Nat.add_assoc]; rfl)))
  · obtain ⟨r, d, rfl⟩ : ∃ (r : Fin 512) (d : Fin 1024), x = ix2 r d := ⟨x 0, x 1, eq_ix2 x⟩
    refine (mixed _ r d).trans (Eq.trans ?_ (congrArg (blkO x0 x1 x2) (emb_rows inb_S512x1536_S512x1024_0_0 r d (colM d) (by simp only [colM]; omega))))
    unfold blkO
    simp only [ix2_0, ix2_1]
    rw [fwd_colM]
    exact congrArg x2 (emb_rows inb_S512x1024_S512x1024_0_0 r d d (by omega)).symm

/-! ### The kernel's result -/

/-- Row `r` of the queries: columns 2048 to 2559 of `P`. -/
def qrow (P : Vec Ideal S4096x2560 .f32) (r : Fin 4096) (c : Fin 512) : EReal := P (ix2 r ⟨2048 + c.val, by omega⟩)

/-- The result: the columns passed on, then the four heads' reads of the memory. -/
def res (P : Vec Ideal S4096x2560 .f32) (KV : Vec Ideal S256x1024 .bf16) (M : Vec Ideal S4096x1024 .f32) : Vec Ideal S4096x1536 .bf16 :=
  fun y => fwd (qrow P (y 0)) (fun j c => KV (ix2 j c)) (fun c => M (ix2 (y 0) c)) (y 1)

variable (m : (ℓ : Loc nD τ sig) → Buf (Elt Ideal) ℓ) (c : Dev nD)

/-- The three arguments. -/
abbrev aP : Vec Ideal S4096x2560 .f32 := m ((c.tc : Thread nD τ).loc main_arg0)
abbrev aKV : Vec Ideal S256x1024 .bf16 := m ((c.tc : Thread nD τ).loc main_arg1)
abbrev aM : Vec Ideal S4096x1024 .f32 := m ((c.tc : Thread nD τ).loc main_arg2)

theorem idx0 : ∀ t : Fin cfg0.N, win0_0.index t = ![t.val, 4] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

theorem lt8 (t : Fin cfg0.N) : t.val < 8 := lt_of_lt_of_eq t.isLt (show cfg0.N = 8 from N_0)

/-- Row `r` of grid point `t`'s blocks in the whole arrays. -/
def rowOf (t : Fin cfg0.N) (r : Fin 512) : Fin 4096 := ⟨t.val * 512 + r.val, by have := lt8 t; omega⟩

theorem blk0 (t : Fin cfg0.N) (r d : Fin 512) : iblk m c 0 t (ix2 r d : S512x512.Idx) = qrow (aP m c) (rowOf t r) d := by
  unfold qrow rowOf
  blk_ext [iblk, V, idx0 t]

theorem blk1 (t : Fin cfg0.N) (j : Fin 256) (d : Fin 1024) : iblk m c 1 t (ix2 j d : S256x1024.Idx) = aKV m c (ix2 j d) := by
  blk_ext [iblk, V, idx1 t]

theorem blk2 (t : Fin cfg0.N) (r : Fin 512) (d : Fin 1024) : iblk m c 2 t (ix2 r d : S512x1024.Idx) = aM m c (ix2 (rowOf t r) d) := by
  unfold rowOf
  blk_ext [iblk, V, idx2 t]

theorem emb3 (t : Fin cfg0.N) (y : S512x1536.Idx) : (win0_3.blk t).view.emb y = ix2 (rowOf t (y 0)) (y 1) := by
  unfold rowOf
  blk_ext [idx3 t]

/-- The block a point computes. -/
theorem point (t : Fin cfg0.N) (y : S512x1536.Idx) :
    outsAt0 m c t y = res (aP m c) (aKV m c) (aM m c) (ix2 (rowOf t (y 0)) (y 1)) := by
  unfold outsAt0
  refine (out_A c (grid0.coords t) (ms0_0 t) (hs0_0 t) (ms0_1 t) (hs0_1 t) (ms0_2 t) (hs0_2 t) (ms0_3 t) (hs0_3 t) _ _ _ y).trans ?_
  obtain ⟨r, j, rfl⟩ : ∃ (r : Fin 512) (j : Fin 1536), y = ix2 r j := ⟨y 0, y 1, eq_ix2 y⟩
  unfold blkO res
  simp only [blk0, blk1, blk2, ix2_0, ix2_1]

theorem arr3 : (dats m 0 c).arrAt 3 cfg0.N = res (aP m c) (aKV m c) (aM m c) := by
  refine (dats m 0 c).arrAt_eq_of_covers 3 _ (by decide +kernel) fun t hf y => ?_
  blk_simp
  rw [after0_3]
  exact (point m c t y).trans (congrArg (res (aP m c) (aKV m c) (aM m c)) (emb3 t y).symm)

/-- The run of the kernel: its result named, the arguments unchanged. -/
theorem run_kernel (ρ : Dev nD → PrngReg) : θ_run defs (onTc (τ := τ) (main (F := Ideal))) ⟨m, fun _ => 0, ρ⟩ fun r => ∀ c : Dev nD,
      r.2.mem ((c : Thread nD τ).loc main_v0) = res (aP m c) (aKV m c) (aM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

/-! ### The reference's result -/

section
open Cert.MemFwdBRefIdeal.Read
variable (x0 : Vec Ideal S4096x2560 .f32) (x1 : Vec Ideal S256x1024 .bf16) (x2 : Vec Ideal S4096x1024 .f32)

/-- The memory's row, as a function of its index and column. -/
abbrev mem (x1 : Vec Ideal S256x1024 .bf16) : Fin 256 → Fin 1024 → EReal := fun j c => x1 (ix2 j c)

/-- The queries, by head. -/
theorem q_at (r : Fin 4096) (h : Fin 4) (d : Fin 128) : val_main_v4 (F := Ideal) x0 (ix4 0 r h d) = qrow x0 r (col h d) := by
  pointwise [val_main_v4, val_main_v1, val_main_v0]
  unfold qrow col
  exact congrArg x0 (congrArg (ix2 r) (Fin.ext (by simp only []; omega)))

/-- The keys, by head. -/
theorem k_at (j : Fin 256) (h : Fin 4) (d : Fin 128) : val_main_v7 (F := Ideal) x1 (ix4 0 j h d) = x1 (ix2 j (colK h d)) := by
  pointwise [val_main_v7, val_main_v6, val_main_v5, val_main_v3, val_main_v2]
  unfold colK
  exact congrArg x1 (congrArg (ix2 j) (Fin.ext (by simp only []; omega)))

/-- The values, by head. -/
theorem v_at (j : Fin 256) (h : Fin 4) (d : Fin 128) : val_main_v9 (F := Ideal) x1 (ix4 0 j h d) = x1 (ix2 j (colV h d)) := by
  pointwise [val_main_v9, val_main_v8, val_main_v5, val_main_v3, val_main_v2]
  unfold colV
  exact congrArg x1 (congrArg (ix2 j) (Fin.ext (by simp only []; omega)))

/-- The scores. -/
theorem s_at (h : Fin 4) (r : Fin 4096) (j : Fin 256) :
    val_main_v12 (F := Ideal) x0 x1 (ix4 0 h r j) = hscore (qrow x0 r) (mem x1) h j := by
  pointwise [val_main_v12, val_main_v10, val_main_v11, val_main_cst]
  simp only [q_at, k_at]
  unfold hscore score kap
  with_reducible rfl

/-- The larger of two numbers, as the host writes it. -/
theorem max_at (a b : EReal) : FloatOps.maximumf (F := Ideal) (φ := .f32) a b = max a b := rfl

/-- The maximum over the keys. -/
theorem mx_at (h : Fin 4) (r : Fin 4096) :
    val_main_v13 (F := Ideal) x0 x1 (ix3 0 h r) = Finset.univ.fold max ninf fun j => val_main_v12 (F := Ideal) x0 x1 (ix4 0 h r j) := by
  pointwise [val_main_v13, val_main_cst_0]
  unfold ninf
  with_reducible rfl

/-- Its initial value, once more. -/
theorem mi_at (h : Fin 4) (r : Fin 4096) : val_main_v14 (F := Ideal) (ix3 0 h r) = ninf := by
  pointwise [val_main_v14, val_main_cst_1]
  unfold ninf
  with_reducible rfl

/-- The maximum of a row of scores. -/
theorem m_at (h : Fin 4) (r : Fin 4096) :
    val_main_v15 (F := Ideal) x0 x1 (ix3 0 h r) = rmax (hscore (qrow x0 r) (mem x1) h) := by
  refine (val_main_v15_apply x0 x1 _).trans ?_
  rw [mi_at, mx_at, max_at, ninf_eq]
  simp only [s_at]
  unfold rmax
  rw [ninf_eq]
  exact max_eq_right bot_le

/-- The exponentials. -/
theorem e_at (h : Fin 4) (r : Fin 4096) (j : Fin 256) :
    val_main_v19 (F := Ideal) x0 x1 (ix4 0 h r j) = ex (hscore (qrow x0 r) (mem x1) h) j := by
  pointwise [val_main_v19, val_main_v18, val_main_v17, val_main_v16]
  simp only [s_at, m_at]
  unfold ex
  with_reducible rfl

/-- Their sum. -/
theorem z_at (h : Fin 4) (r : Fin 4096) :
    val_main_v21 (F := Ideal) x0 x1 (ix4 0 h r 0) = ∑ j, ex (hscore (qrow x0 r) (mem x1) h) j := by
  pointwise [val_main_v21, val_main_v20, val_main_cst_2]
  simp only [e_at]
  try exact zero_add _

/-- The probabilities. -/
theorem p_at (h : Fin 4) (r : Fin 4096) (j : Fin 256) :
    val_main_v23 (F := Ideal) x0 x1 (ix4 0 h r j) = prob (hscore (qrow x0 r) (mem x1) h) j := by
  pointwise [val_main_v23, val_main_v22]
  simp only [e_at, z_at]
  unfold prob
  with_reducible rfl

/-- One head's weighted sum of the values. -/
theorem a_at (h : Fin 4) (r : Fin 4096) (d : Fin 128) :
    val_main_v24 (F := Ideal) x0 x1 (ix4 0 h d r) = ∑ j, x1 (ix2 j (colV h d)) * prob (hscore (qrow x0 r) (mem x1) h) j := by
  pointwise [val_main_v24]
  simp only [p_at, v_at]

/-- The four heads side by side. -/
theorem o_at (r : Fin 4096) (c : Fin 512) :
    val_main_v27 (F := Ideal) x0 x1 (ix2 r c) = val_main_v24 (F := Ideal) x0 x1 (ix4 0 ⟨c.val / 128, by omega⟩ ⟨c.val % 128, by omega⟩ r) := by
  pointwise [val_main_v27, val_main_v26, val_main_v25]

/-- The reference's value is the same. -/
theorem ref_res : val_main_v29 (F := Ideal) x0 x1 x2 = res x0 x1 x2 := by
  funext i
  obtain ⟨r, j, rfl⟩ : ∃ (r : Fin 4096) (j : Fin 1536), i = ix2 r j := ⟨i 0, i 1, eq_ix2 i⟩
  pointwise [val_main_v29, val_main_v28]
  unfold res
  simp only [ix2_0, ix2_1]
  by_cases hj : j.val < 1024
  · rw [dif_pos hj]
    have e : j = colM ⟨j.val, hj⟩ := rfl
    exact ((congrArg (fwd (qrow x0 r) (fun j c => x1 (ix2 j c)) fun c => x2 (ix2 r c)) e).trans (fwd_colM _ _ _ _)).symm
  · rw [dif_neg hj, o_at, a_at]
    have e : j = colO ⟨(j.val - 1024) / 128, by omega⟩ ⟨(j.val - 1024) % 128, by omega⟩ := Fin.ext (by simp only [colO]; omega)
    refine Eq.trans ?_ ((congrArg (fwd _ _ _) e).trans (fwd_colO _ _ _ _ _)).symm
    exact Finset.sum_congr rfl fun k _ => mul_comm _ _

end

/-- The reference runs, keeps its arguments and leaves every semaphore at zero. -/
theorem ref_frame : Cert.quiescent_MemFwdBRefIdeal := fun m ρ _ =>
  (θ_run Cert.MemFwdBRefIdeal.defs _ _).mono (fun r h => ⟨fun c => (h c).2, sem_eq_zero_of_no_sems (by decide) r.2⟩)
    (Cert.MemFwdBRefIdeal.Value.run (F := Ideal) m ρ)

/-- The kernel's result is the reference's. -/
theorem value : Cert.algebraic_MemFwdBIdeal_MemFwdBRefIdeal := fun m ρ m' ρ' _ hag =>
  ⟨fun c => res (aP m c) (aKV m c) (aM m c), run_kernel m ρ,
    (θ_run Cert.MemFwdBRefIdeal.defs _ _).mono (fun r h c => by
      obtain ⟨e0, e1, e2⟩ := hag c
      refine ⟨(h c).1.trans ?_, (h c).2⟩
      rw [Cert.MemFwdBRefIdeal.Read.val_main_v29_eq, e0, e1, e2]
      exact ref_res _ _ _)
      (Cert.MemFwdBRefIdeal.Value.run (F := Ideal) m' ρ')⟩

end Cert.MemFwdBProof
end
-- ==== Proof.AttnSpec.lean ====
/- One row of the dilated attention: a query against the keys of its own block of 128 and of the block before. -/
module
public import proofs.«01_k».proof.Proof.MemSpec
@[expose] public section
noncomputable section
namespace Cert.Attn
open Cert.Mem Idealize.ShloMosaic

/-- The scores against the query's own block: keys after the query are left out. -/
def own (q : Fin 128 → EReal) (k : Fin 128 → Fin 128 → EReal) (r j : Fin 128) : EReal :=
  if j.val ≤ r.val then (∑ d, q d * k j d) * kap else ⊥

/-- The scores against the block before, if there is one: keys more than 128 before the query are left out. -/
def before (p : Prop) [Decidable p] (q : Fin 128 → EReal) (k : Fin 128 → Fin 128 → EReal) (r j : Fin 128) : EReal :=
  if r.val ≤ j.val ∧ p then (∑ d, q d * k j d) * kap else ⊥

/-- The largest of both rows of scores. -/
def top (s t : Fin 128 → EReal) : EReal := max (Finset.univ.fold max ninf s) (Finset.univ.fold max ninf t)

/-- The exponential of a score, shifted by the largest. -/
def wt (s t : Fin 128 → EReal) (x : EReal) : EReal := Ideal.exp (x - top s t)

/-- The sum of the exponentials. -/
def den (s t : Fin 128 → EReal) : EReal := (∑ j, wt s t (s j)) + ∑ j, wt s t (t j)

/-- The values weighted by the softmax of both rows of scores. -/
def att (s t v w : Fin 128 → EReal) : EReal := Ideal.div ((∑ j, wt s t (s j) * v j) + ∑ j, wt s t (t j) * w j) (den s t)

/-- The logarithm of the sum of the exponentials of the scores. -/
def lse (s t : Fin 128 → EReal) : EReal := top s t + Ideal.log (den s t)

/-- Without a block before, the scores against it are all `⊥`, whatever its keys are. -/
theorem before_none {p : Prop} [Decidable p] (hp : ¬p) (q : Fin 128 → EReal) (k : Fin 128 → Fin 128 → EReal) (r : Fin 128) :
    before p q k r = fun _ => ⊥ := by
  funext j
  unfold before
  rw [if_neg fun h => hp h.2]

theorem wt_bot (s t : Fin 128 → EReal) : wt s t ⊥ = 0 := by
  unfold wt
  rw [sub_eq_add_neg, EReal.bot_add]
  exact Ideal.exp_bot

/-- Scores of `⊥` give no weight to any value. -/
theorem att_none (s v w w' : Fin 128 → EReal) : att s (fun _ => ⊥) v w = att s (fun _ => ⊥) v w' := by
  unfold att
  simp only [wt_bot, zero_mul]

/-- A sum over 256 keys is the sum over the block before and over the own block. -/
theorem sum_two (f : Fin 256 → EReal) :
    ∑ j, f j = (∑ j : Fin 128, f ⟨128 + j.val, by omega⟩) + ∑ j : Fin 128, f ⟨j.val, by omega⟩ := by
  rw [add_comm]
  exact Fin.sum_univ_add (a := 128) (b := 128) f

/-- The largest over 256 keys is the larger of the largest over either block. -/
theorem max_two (f : Fin 256 → EReal) :
    Finset.univ.fold max ninf f = top (fun j => f ⟨128 + j.val, by omega⟩) fun j => f ⟨j.val, by omega⟩ := by
  unfold top
  rw [ninf_eq]
  refine le_antisymm ?_ (max_le ?_ ?_)
  · rw [Finset.fold_max_le]
    refine ⟨bot_le, fun j _ => ?_⟩
    by_cases h : j.val < 128
    · exact le_max_of_le_right ((Finset.le_fold_max _).mpr (Or.inr ⟨⟨j.val, h⟩, Finset.mem_univ _, le_rfl⟩))
    · refine le_max_of_le_left ((Finset.le_fold_max _).mpr (Or.inr ⟨⟨j.val - 128, by omega⟩, Finset.mem_univ _, ?_⟩))
      exact le_of_eq (congrArg f (Fin.ext (by simp only []; omega)))
  · rw [Finset.fold_max_le]
    exact ⟨bot_le, fun j _ => (Finset.le_fold_max _).mpr (Or.inr ⟨_, Finset.mem_univ _, le_rfl⟩)⟩
  · rw [Finset.fold_max_le]
    exact ⟨bot_le, fun j _ => (Finset.le_fold_max _).mpr (Or.inr ⟨_, Finset.mem_univ _, le_rfl⟩)⟩

end Cert.Attn
end
-- ==== Proof.AttnFwd16Block.lean ====
/- One grid point of the dilated attention over every 16th token: what its blocks hold after the body. -/
module
public import proofs.«01_k».proof.Proof.Gen.AttnFwd16Ideal.Value
public import proofs.«01_k».proof.Proof.AttnSpec
public import Idealize.ShloMosaic.Lib.Pipeline.ValueKit
public import Idealize.ShloMosaic.Lib.Pipeline.ReadBack
public import Idealize.ShloMosaic.Lib.ValueIdx
public import Idealize.ShloMosaic.Lib.Pointwise
@[expose] public section
set_option maxRecDepth 16384
noncomputable section
namespace Cert.AttnFwd16Proof
open Cert.Mem Cert.Attn Cert.AttnFwd16Ideal Cert.AttnFwd16Ideal.Gen Idealize.ShloMosaic Idealize.ShloMosaic.TcCoe Idealize.SL.Sem
open Idealize.ShloMosaic.Pipeline (Dat)

/-! ### One head of one block of 128 queries, on whole tiles -/

/-- A tile as the products take it. -/
def cw (x : Vec Ideal S128x128 .bf16) : FVec Ideal S128x128 .bf16 := shapeCast S128x128 x shapeCasts_S128x128_S128x128

/-- The scores of a tile of queries against a tile of keys, left out where `b` is not set. -/
def scr (b : IVec S128x128 1) (q k : FVec Ideal S128x128 .bf16) : FVec Ideal S128x128 .f32 :=
  select b (mulf (matmul dot_S128x128_S128x128_S128x128_1_1_0_0_n_n none q k (constant S128x128 .f32 0x00000000#32))
    (broadcast S128x128 (Scalar.ofBits .f32 0x3DB504F3#32))) (broadcast S128x128 (Named.named κ "neg" 0xF149F2CA#32))

/-- The largest score of each row of either tile. -/
def mxv (s t : FVec Ideal S128x128 .f32) : FVec Ideal S128x1 .f32 :=
  maximumf (shapeCast S128x1 (multiReduction .maximumf [1] S128 s 0xFF800000#32 reduces_S128x128_S128 (.inl rfl) rfl) shapeCasts_S128_S128x1)
    (shapeCast S128x1 (multiReduction .maximumf [1] S128 t 0xFF800000#32 reduces_S128x128_S128 (.inl rfl) rfl) shapeCasts_S128_S128x1)

/-- The exponentials of the tile `x`, shifted by the largest score. -/
def exv (s t x : FVec Ideal S128x128 .f32) : FVec Ideal S128x128 .f32 :=
  exp (subf x (broadcastTo S128x128 (mxv s t) broadcasts_S128x1_S128x128))

/-- The sum of the exponentials of each row. -/
def smv (s t : FVec Ideal S128x128 .f32) : FVec Ideal S128x1 .f32 :=
  addf (shapeCast S128x1 (multiReduction .add [1] S128 (exv s t s) 0x00000000#32 reduces_S128x128_S128 (.inl rfl) rfl) shapeCasts_S128_S128x1)
    (shapeCast S128x1 (multiReduction .add [1] S128 (exv s t t) 0x00000000#32 reduces_S128x128_S128 (.inl rfl) rfl) shapeCasts_S128_S128x1)

/-- The weighted values. -/
def outv (s t : FVec Ideal S128x128 .f32) (v w : FVec Ideal S128x128 .bf16) : FVec Ideal S128x128 .f32 :=
  divf (addf (matmul dot_S128x128_S128x128_S128x128_1_0_0_1_n_n none (truncf .bf16 (exv s t s) bitsLt_bf16_f32) v (constant S128x128 .f32 0x00000000#32))
    (matmul dot_S128x128_S128x128_S128x128_1_0_0_1_n_n none (truncf .bf16 (exv s t t) bitsLt_bf16_f32) w (constant S128x128 .f32 0x00000000#32)))
    (broadcastTo S128x128 (smv s t) broadcasts_S128x1_S128x128)

/-- The logarithm of the sum of the exponentials. -/
def lsev (s t : FVec Ideal S128x128 .f32) : FVec Ideal S128x128 .f32 :=
  broadcastTo S128x128 (shapeCast S128x1 (addf (mxv s t) (log (smv s t))) shapeCasts_S128x1_S128x1) broadcasts_S128x1_S128x128

/-- The constant that stands for a score left out is `⊥`. -/
theorem neg_eq : Named.named (F := Ideal) κ "neg" (φ := .f32) 0xF149F2CA#32 = (⊥ : EReal) :=
  IdealRules.named_const.ideal_named_scalar _ _ _ _ rfl

theorem cw_apply (x : Vec Ideal S128x128 .bf16) (r d : Fin 128) : cw x (ix2 r d) = x (ix2 r d) := by
  pointwise [cw]

section
variable (b : IVec S128x128 1) (q k : FVec Ideal S128x128 .bf16) (s t x : FVec Ideal S128x128 .f32) (v w : FVec Ideal S128x128 .bf16) (r j d : Fin 128)

theorem scr_apply : scr b q k (ix2 r j) = if b (ix2 r j) = 1#1 then (∑ d, q (ix2 r d) * k (ix2 j d)) * kap else ⊥ := by
  pointwise [scr]
  rw [neg_eq]
  rfl

theorem mxv_apply : mxv s t (ix2 r 0) = top (fun j => s (ix2 r j)) fun j => t (ix2 r j) := by
  pointwise [mxv]
  rfl

theorem exv_apply : exv s t x (ix2 r j) = wt (fun j => s (ix2 r j)) (fun j => t (ix2 r j)) (x (ix2 r j)) := by
  pointwise [exv]
  rw [mxv_apply]
  rfl

theorem smv_apply : smv s t (ix2 r 0) = den (fun j => s (ix2 r j)) fun j => t (ix2 r j) := by
  pointwise [smv]
  simp only [exv_apply]
  rfl

theorem outv_apply : outv s t v w (ix2 r d)
    = att (fun j => s (ix2 r j)) (fun j => t (ix2 r j)) (fun j => v (ix2 j d)) fun j => w (ix2 j d) := by
  pointwise [outv]
  simp only [exv_apply, smv_apply]
  rfl

theorem lsev_apply : lsev s t (ix2 r d) = lse (fun j => s (ix2 r j)) fun j => t (ix2 r j) := by
  pointwise [lsev]
  simp only [mxv_apply, smv_apply]
  rfl
end

/-! ### The masks -/

theorem mask_own (r j : Fin 128) : k0_pay4 (ix2 r j) = 1#1 ↔ j.val ≤ r.val := by
  pointwise [k0_pay4]
  revert r j
  decide +kernel

theorem mask_before (r j : Fin 128) : k0_pay5 (ix2 r j) = 1#1 ↔ r.val ≤ j.val := by
  pointwise [k0_pay5]
  revert r j
  decide +kernel

theorem mask_first (i : grid0.Coords) (r j : Fin 128) : k0_pay6 i (ix2 r j) = 1#1 ↔ r.val ≤ j.val ∧ 0 < (i 1).val := by
  have h : k0_pay6 i (ix2 r j) = k0_pay5 (ix2 r j) &&& Scalar.cmpi .sgt (BitVec.ofNat 32 (i 1).val) 0#32 := rfl
  have g : ∀ n : Fin 1, Scalar.cmpi .sgt (BitVec.ofNat 32 n.val) 0#32 = if 0 < n.val then 1#1 else 0#1 := by decide +kernel
  rw [h, ← mask_before, g (i 1)]
  generalize k0_pay5 (ix2 r j) = x
  by_cases hn : 0 < (i 1).val
  · rw [if_pos hn]
    simp only [hn, and_true]
    revert x
    decide
  · rw [if_neg hn]
    simp only [hn, and_false]
    revert x
    decide

/-! ### The point's blocks -/

/-- Row `r` of block `s` of the point's 2 blocks. -/
def rw' (s : Fin 2) (r : Fin 128) : Fin 256 := ⟨128 * s.val + r.val, by omega⟩

/-- Column `d` of head `h` of the point's four heads. -/
def cl (h : Fin 4) (d : Fin 128) : Fin 512 := ⟨128 * h.val + d.val, by omega⟩

section
variable (i : grid0.Coords) (x0 : Vec Ideal S256x512 .bf16) (x1 : Vec Ideal S256x512 .bf16) (x2 : Vec Ideal S128x512 .bf16)
  (x3 : Vec Ideal S256x512 .bf16) (x4 : Vec Ideal S128x512 .bf16)

/-- A head's tile of block `s`. -/
def here (x : Vec Ideal S256x512 .bf16) (s : Fin 2) (h : Fin 4) (r d : Fin 128) : EReal := x (ix2 (rw' s r) (cl h d))

/-- A head's tile of the block before block `s`: the point's own, or for the first the window on the row before. -/
def prev (x : Vec Ideal S256x512 .bf16) (xp : Vec Ideal S128x512 .bf16) (s : Fin 2) (h : Fin 4) (r d : Fin 128) : EReal :=
  if s.val = 0 then xp (ix2 r (cl h d)) else x (ix2 (rw' ⟨s.val - 1, by omega⟩ r) (cl h d))

/-- The scores of row `r` of block `s` against its own block. -/
def sO (s : Fin 2) (h : Fin 4) (r : Fin 128) : Fin 128 → EReal := own (here x0 s h r) (here x1 s h) r

/-- The scores of row `r` of block `s` against the block before. -/
def sB (s : Fin 2) (h : Fin 4) (r : Fin 128) : Fin 128 → EReal :=
  before (0 < s.val ∨ 0 < (i 1).val) (here x0 s h r) (prev x1 x2 s h) r

/-- The weighted values a point writes at row `r`, column `d` of head `h` of block `s`. -/
def oAt (s : Fin 2) (h : Fin 4) (r d : Fin 128) : EReal :=
  att (sO x0 x1 s h r) (sB i x0 x1 x2 s h r) (fun j => here x3 s h j d) fun j => prev x3 x4 s h j d

/-- The logarithm a point writes there. -/
def lAt (s : Fin 2) (h : Fin 4) (r : Fin 128) : EReal := lse (sO x0 x1 s h r) (sB i x0 x1 x2 s h r)

/-- The block of weighted values. -/
def blkO : Vec Ideal S256x512 .f32 := fun y =>
  oAt i x0 x1 x2 x3 x4 ⟨(y 0).val / 128, by have := (y 0).isLt; simp at this; omega⟩ ⟨(y 1).val / 128, by have := (y 1).isLt; simp at this; omega⟩
    ⟨(y 0).val % 128, by omega⟩ ⟨(y 1).val % 128, by omega⟩

/-- The block of logarithms. -/
def blkL : Vec Ideal S256x512 .f32 := fun y =>
  lAt i x0 x1 x2 ⟨(y 0).val / 128, by have := (y 0).isLt; simp at this; omega⟩ ⟨(y 1).val / 128, by have := (y 1).isLt; simp at this; omega⟩
    ⟨(y 0).val % 128, by omega⟩

theorem blkO_at (s : Fin 2) (h : Fin 4) (r d : Fin 128) :
    blkO i x0 x1 x2 x3 x4 (ix2 (rw' s r) (cl h d)) = oAt i x0 x1 x2 x3 x4 s h r d := by
  have e0 : (⟨(rw' s r).val / 128, by omega⟩ : Fin 2) = s := Fin.ext (by simp only [rw']; omega)
  have e1 : (⟨(cl h d).val / 128, by omega⟩ : Fin 4) = h := Fin.ext (by simp only [cl]; omega)
  have e2 : (⟨(rw' s r).val % 128, by omega⟩ : Fin 128) = r := Fin.ext (by simp only [rw']; omega)
  have e3 : (⟨(cl h d).val % 128, by omega⟩ : Fin 128) = d := Fin.ext (by simp only [cl]; omega)
  show oAt i x0 x1 x2 x3 x4 ⟨(rw' s r).val / 128, _⟩ ⟨(cl h d).val / 128, _⟩ ⟨(rw' s r).val % 128, _⟩ ⟨(cl h d).val % 128, _⟩ = _
  rw [e0, e1, e2, e3]

theorem blkL_at (s : Fin 2) (h : Fin 4) (r d : Fin 128) :
    blkL i x0 x1 x2 (ix2 (rw' s r) (cl h d)) = lAt i x0 x1 x2 s h r := by
  have e0 : (⟨(rw' s r).val / 128, by omega⟩ : Fin 2) = s := Fin.ext (by simp only [rw']; omega)
  have e1 : (⟨(cl h d).val / 128, by omega⟩ : Fin 4) = h := Fin.ext (by simp only [cl]; omega)
  have e2 : (⟨(rw' s r).val % 128, by omega⟩ : Fin 128) = r := Fin.ext (by simp only [rw']; omega)
  show lAt i x0 x1 x2 ⟨(rw' s r).val / 128, _⟩ ⟨(cl h d).val / 128, _⟩ ⟨(rw' s r).val % 128, _⟩ = _
  rw [e0, e1, e2]

/-- Where a tile of 128 rows and columns puts its index. -/
theorem emb_tile {n a b : ℕ} (inb : ∀ k, (![a, b] : Fin 2 → ℕ) k + (![128, 128] : Fin 2 → ℕ) k ≤ (![n, 512] : Fin 2 → ℕ) k)
    (r d : Fin 128) (y : Fin n) (z : Fin 512) (hy : y.val = a + r.val) (hz : z.val = b + d.val) :
    (Rect.unit (s := ⟨2, ![n, 512]⟩) ![a, b] ![128, 128] inb).emb (ix2 r d) = (ix2 y z : (⟨2, ![n, 512]⟩ : Shape).Idx) := by
  refine funext fun k => Fin.ext ?_
  fin_cases k
  · simpa [Rect.emb, Rect.unit] using hy.symm
  · simpa [Rect.emb, Rect.unit] using hz.symm

/-- The scores of a tile of the first block against the block before. -/
theorem sB_zero (h : Fin 4) (r j : Fin 128) (q k : FVec Ideal S128x128 .bf16) (hq : ∀ r d, q (ix2 r d) = here x0 0 h r d)
    (hk : ∀ r d, k (ix2 r d) = x2 (ix2 r (cl h d))) : scr (k0_pay6 i) q k (ix2 r j) = sB i x0 x1 x2 0 h r j := by
  rw [scr_apply]
  unfold sB before
  simp only [mask_first, hq, hk]
  unfold prev
  simp

/-- The scores of a tile of a later block against the block before. -/
theorem sB_succ (s : Fin 2) (hs : 0 < s.val) (h : Fin 4) (r j : Fin 128) (q k : FVec Ideal S128x128 .bf16)
    (hq : ∀ r d, q (ix2 r d) = here x0 s h r d) (hk : ∀ r d, k (ix2 r d) = x1 (ix2 (rw' ⟨s.val - 1, by omega⟩ r) (cl h d))) :
    scr k0_pay5 q k (ix2 r j) = sB i x0 x1 x2 s h r j := by
  rw [scr_apply]
  unfold sB before
  simp only [mask_before, hq, hk]
  unfold prev
  simp only [if_neg (Nat.ne_of_gt hs), hs, true_or, and_true]

/-- The scores of a tile against its own block. -/
theorem sO_at (s : Fin 2) (h : Fin 4) (r j : Fin 128) (q k : FVec Ideal S128x128 .bf16)
    (hq : ∀ r d, q (ix2 r d) = here x0 s h r d) (hk : ∀ r d, k (ix2 r d) = here x1 s h r d) :
    scr k0_pay4 q k (ix2 r j) = sO x0 x1 s h r j := by
  rw [scr_apply]
  unfold sO own
  simp only [mask_own, hq, hk]

section
variable (h : Fin 4) {a b a' : ℕ} (inb : ∀ k, (![a, b] : Fin 2 → ℕ) k + S128x128.size k ≤ S256x512.size k)

theorem ld_here (x : Vec Ideal S256x512 .bf16) (s : Fin 2) (ha : a = 128 * s.val) (hb : b = 128 * h.val) (r d : Fin 128) :
    cw (View.ld x (Rect.unit ![a, b] S128x128.size inb)) (ix2 r d) = here x s h r d :=
  (cw_apply _ r d).trans (congrArg x (emb_tile inb r d _ _ (by simp only [rw']; omega) (by simp only [cl]; omega)))

theorem ld_prev (x : Vec Ideal S128x512 .bf16) (inp : ∀ k, (![0, b] : Fin 2 → ℕ) k + S128x128.size k ≤ S128x512.size k)
    (hb : b = 128 * h.val) (r d : Fin 128) :
    cw (View.ld x (Rect.unit ![0, b] S128x128.size inp)) (ix2 r d) = x (ix2 r (cl h d)) :=
  (cw_apply _ r d).trans (congrArg x (emb_tile inp r d _ _ (by omega) (by simp only [cl]; omega)))
end

section
variable (h : Fin 4) {b : ℕ} (inb : ∀ k, (![0, b] : Fin 2 → ℕ) k + S128x128.size k ≤ S256x512.size k)
  (inp : ∀ k, (![0, b] : Fin 2 → ℕ) k + S128x128.size k ≤ S128x512.size k) (hb : b = 128 * h.val) (x : S128x128.Idx)
include hb

/-- A tile of the first block's weighted values. -/
theorem pieceO0 : outv (scr k0_pay4 (cw (View.ld x0 (Rect.unit ![0, b] S128x128.size inb))) (cw (View.ld x1 (Rect.unit ![0, b] S128x128.size inb))))
      (scr (k0_pay6 i) (cw (View.ld x0 (Rect.unit ![0, b] S128x128.size inb))) (cw (View.ld x2 (Rect.unit ![0, b] S128x128.size inp))))
      (cw (View.ld x3 (Rect.unit ![0, b] S128x128.size inb))) (cw (View.ld x4 (Rect.unit ![0, b] S128x128.size inp))) x
    = blkO i x0 x1 x2 x3 x4 ((Rect.unit (s := S256x512) ![0, b] S128x128.size inb).emb x) := by
  obtain ⟨r, d, rfl⟩ : ∃ (r d : Fin 128), x = ix2 r d := ⟨x 0, x 1, eq_ix2 x⟩
  refine Eq.trans ?_ (congrArg (blkO i x0 x1 x2 x3 x4) (emb_tile inb r d (rw' 0 r) (cl h d) (by simp [rw']) (by simp only [cl]; omega)).symm)
  rw [blkO_at, outv_apply]
  unfold oAt
  congr 1
  · exact funext fun j => sO_at x0 x1 0 h r j _ _ (ld_here h inb x0 0 rfl hb) (ld_here h inb x1 0 rfl hb)
  · exact funext fun j => sB_zero i x0 x1 x2 h r j _ _ (ld_here h inb x0 0 rfl hb) (ld_prev h x2 inp hb)
  · exact funext fun j => ld_here h inb x3 0 rfl hb j d
  · exact funext fun j => (ld_prev h x4 inp hb j d).trans (if_pos rfl).symm

/-- A tile of the first block's logarithms. -/
theorem pieceL0 : lsev (scr k0_pay4 (cw (View.ld x0 (Rect.unit ![0, b] S128x128.size inb))) (cw (View.ld x1 (Rect.unit ![0, b] S128x128.size inb))))
      (scr (k0_pay6 i) (cw (View.ld x0 (Rect.unit ![0, b] S128x128.size inb))) (cw (View.ld x2 (Rect.unit ![0, b] S128x128.size inp)))) x
    = blkL i x0 x1 x2 ((Rect.unit (s := S256x512) ![0, b] S128x128.size inb).emb x) := by
  obtain ⟨r, d, rfl⟩ : ∃ (r d : Fin 128), x = ix2 r d := ⟨x 0, x 1, eq_ix2 x⟩
  refine Eq.trans ?_ (congrArg (blkL i x0 x1 x2) (emb_tile inb r d (rw' 0 r) (cl h d) (by simp [rw']) (by simp only [cl]; omega)).symm)
  rw [blkL_at, lsev_apply]
  unfold lAt
  congr 1
  · exact funext fun j => sO_at x0 x1 0 h r j _ _ (ld_here h inb x0 0 rfl hb) (ld_here h inb x1 0 rfl hb)
  · exact funext fun j => sB_zero i x0 x1 x2 h r j _ _ (ld_here h inb x0 0 rfl hb) (ld_prev h x2 inp hb)
end

section
variable (s : Fin 2) (h : Fin 4) (hs : 0 < s.val) {a a' b : ℕ} (inb : ∀ k, (![a, b] : Fin 2 → ℕ) k + S128x128.size k ≤ S256x512.size k)
  (inp : ∀ k, (![a', b] : Fin 2 → ℕ) k + S128x128.size k ≤ S256x512.size k) (ha : a = 128 * s.val) (hp : a' = 128 * (s.val - 1))
  (hb : b = 128 * h.val) (x : S128x128.Idx)
include hs ha hp hb

/-- A tile of a later block's weighted values. -/
theorem pieceO1 : outv (scr k0_pay4 (cw (View.ld x0 (Rect.unit ![a, b] S128x128.size inb))) (cw (View.ld x1 (Rect.unit ![a, b] S128x128.size inb))))
      (scr k0_pay5 (cw (View.ld x0 (Rect.unit ![a, b] S128x128.size inb))) (cw (View.ld x1 (Rect.unit ![a', b] S128x128.size inp))))
      (cw (View.ld x3 (Rect.unit ![a, b] S128x128.size inb))) (cw (View.ld x3 (Rect.unit ![a', b] S128x128.size inp))) x
    = blkO i x0 x1 x2 x3 x4 ((Rect.unit (s := S256x512) ![a, b] S128x128.size inb).emb x) := by
  obtain ⟨r, d, rfl⟩ : ∃ (r d : Fin 128), x = ix2 r d := ⟨x 0, x 1, eq_ix2 x⟩
  refine Eq.trans ?_ (congrArg (blkO i x0 x1 x2 x3 x4) (emb_tile inb r d (rw' s r) (cl h d) (by simp only [rw']; omega) (by simp only [cl]; omega)).symm)
  rw [blkO_at, outv_apply]
  unfold oAt
  congr 1
  · exact funext fun j => sO_at x0 x1 s h r j _ _ (ld_here h inb x0 s ha hb) (ld_here h inb x1 s ha hb)
  · exact funext fun j => sB_succ i x0 x1 x2 s hs h r j _ _ (ld_here h inb x0 s ha hb) (ld_here h inp x1 _ hp hb)
  · exact funext fun j => ld_here h inb x3 s ha hb j d
  · exact funext fun j => (ld_here h inp x3 _ hp hb j d).trans (if_neg (Nat.ne_of_gt hs)).symm

/-- A tile of a later block's logarithms. -/
theorem pieceL1 : lsev (scr k0_pay4 (cw (View.ld x0 (Rect.unit ![a, b] S128x128.size inb))) (cw (View.ld x1 (Rect.unit ![a, b] S128x128.size inb))))
      (scr k0_pay5 (cw (View.ld x0 (Rect.unit ![a, b] S128x128.size inb))) (cw (View.ld x1 (Rect.unit ![a', b] S128x128.size inp)))) x
    = blkL i x0 x1 x2 ((Rect.unit (s := S256x512) ![a, b] S128x128.size inb).emb x) := by
  obtain ⟨r, d, rfl⟩ : ∃ (r d : Fin 128), x = ix2 r d := ⟨x 0, x 1, eq_ix2 x⟩
  refine Eq.trans ?_ (congrArg (blkL i x0 x1 x2) (emb_tile inb r d (rw' s r) (cl h d) (by simp only [rw']; omega) (by simp only [cl]; omega)).symm)
  rw [blkL_at, lsev_apply]
  unfold lAt
  congr 1
  · exact funext fun j => sO_at x0 x1 s h r j _ _ (ld_here h inb x0 s ha hb) (ld_here h inb x1 s ha hb)
  · exact funext fun j => sB_succ i x0 x1 x2 s hs h r j _ _ (ld_here h inb x0 s ha hb) (ld_here h inp x1 _ hp hb)
end

/-- The block of weighted values the body leaves. -/
theorem out_O (y : S256x512.Idx) : out0_5 (F := Ideal) i x0 x1 x2 x3 x4 y = blkO i x0 x1 x2 x3 x4 y := by
  unfold out0_5
  refine View.canon_apply_of_pieces (blkO i x0 x1 x2 x3 x4) _ ?_ y (cover0_5 _ _ _ _ _ _ _ _ y)
  refine View.PiecesOf.mem (Val := Elt Ideal) (s := S256x512) (e := .f32) (G := blkO i x0 x1 x2 x3 x4) ?_
  refine ⟨fun x => ?_, fun x => ?_, fun x => ?_, fun x => ?_, fun x => ?_, fun x => ?_, fun x => ?_, fun x => ?_, trivial⟩
  · exact pieceO1 i x0 x1 x2 x3 x4 1 3 (by decide) inb_S256x512_S128x128_128_384 inb_S256x512_S128x128_0_384 rfl rfl rfl x
  · exact pieceO1 i x0 x1 x2 x3 x4 1 2 (by decide) inb_S256x512_S128x128_128_256 inb_S256x512_S128x128_0_256 rfl rfl rfl x
  · exact pieceO1 i x0 x1 x2 x3 x4 1 1 (by decide) inb_S256x512_S128x128_128_128 inb_S256x512_S128x128_0_128 rfl rfl rfl x
  · exact pieceO1 i x0 x1 x2 x3 x4 1 0 (by decide) inb_S256x512_S128x128_128_0 inb_S256x512_S128x128_0_0 rfl rfl rfl x
  · exact pieceO0 i x0 x1 x2 x3 x4 3 inb_S256x512_S128x128_0_384 inb_S128x512_S128x128_0_384 rfl x
  · exact pieceO0 i x0 x1 x2 x3 x4 2 inb_S256x512_S128x128_0_256 inb_S128x512_S128x128_0_256 rfl x
  · exact pieceO0 i x0 x1 x2 x3 x4 1 inb_S256x512_S128x128_0_128 inb_S128x512_S128x128_0_128 rfl x
  · exact pieceO0 i x0 x1 x2 x3 x4 0 inb_S256x512_S128x128_0_0 inb_S128x512_S128x128_0_0 rfl x

/-- The block of logarithms the body leaves. -/
theorem out_L (y : S256x512.Idx) : out0_6 (F := Ideal) i x0 x1 x2 x3 x4 y = blkL i x0 x1 x2 y := by
  unfold out0_6
  refine View.canon_apply_of_pieces (blkL i x0 x1 x2) _ ?_ y (cover0_6 _ _ _ _ _ _ _ _ y)
  refine View.PiecesOf.mem (Val := Elt Ideal) (s := S256x512) (e := .f32) (G := blkL i x0 x1 x2) ?_
  refine ⟨fun x => ?_, fun x => ?_, fun x => ?_, fun x => ?_, fun x => ?_, fun x => ?_, fun x => ?_, fun x => ?_, trivial⟩
  · exact pieceL1 i x0 x1 x2 1 3 (by decide) inb_S256x512_S128x128_128_384 inb_S256x512_S128x128_0_384 rfl rfl rfl x
  · exact pieceL1 i x0 x1 x2 1 2 (by decide) inb_S256x512_S128x128_128_256 inb_S256x512_S128x128_0_256 rfl rfl rfl x
  · exact pieceL1 i x0 x1 x2 1 1 (by decide) inb_S256x512_S128x128_128_128 inb_S256x512_S128x128_0_128 rfl rfl rfl x
  · exact pieceL1 i x0 x1 x2 1 0 (by decide) inb_S256x512_S128x128_128_0 inb_S256x512_S128x128_0_0 rfl rfl rfl x
  · exact pieceL0 i x0 x1 x2 3 inb_S256x512_S128x128_0_384 inb_S128x512_S128x128_0_384 rfl x
  · exact pieceL0 i x0 x1 x2 2 inb_S256x512_S128x128_0_256 inb_S128x512_S128x128_0_256 rfl x
  · exact pieceL0 i x0 x1 x2 1 inb_S256x512_S128x128_0_128 inb_S128x512_S128x128_0_128 rfl x
  · exact pieceL0 i x0 x1 x2 0 inb_S256x512_S128x128_0_0 inb_S128x512_S128x128_0_0 rfl x
end

end Cert.AttnFwd16Proof
end
-- ==== Proof.AttnFwd16Value.lean ====
/- The dilated attention over every 16th token: what the kernel's two results hold. -/
module
public import proofs.«01_k».proof.Proof.AttnFwd16Block
@[expose] public section
set_option maxRecDepth 16384
noncomputable section
namespace Cert.AttnFwd16Proof
open Cert.Mem Cert.Attn Cert.AttnFwd16Ideal Cert.AttnFwd16Ideal.Gen Idealize.ShloMosaic Idealize.ShloMosaic.TcCoe Idealize.SL.Sem
open Idealize.ShloMosaic.Pipeline (Dat)

/-- Part `part` (queries, keys, values) of head `h` of token `j` of block `n` of the sequence of every 16th token from `ρ` on. -/
def tok (P : Vec Ideal S4096x3072 .bf16) (ρ : Fin 16) (part : Fin 3) (h : Fin 8) (n : Fin 2) (j d : Fin 128) : EReal :=
  P (ix2 ⟨(128 * n.val + j.val) * 16 + ρ.val, by omega⟩ ⟨1024 * part.val + (128 * h.val + d.val), by omega⟩)

/-- The block before. -/
def pre (n : Fin 2) : Fin 2 := ⟨n.val - 1, by omega⟩

section
variable (P : Vec Ideal S4096x3072 .bf16) (ρ : Fin 16) (h : Fin 8) (n : Fin 2) (r d : Fin 128)

/-- The scores of a token against its own block. -/
def sOwn : Fin 128 → EReal := own (tok P ρ 0 h n r) (tok P ρ 1 h n) r

/-- The scores of a token against the block before. -/
def sBef : Fin 128 → EReal := before (0 < n.val) (tok P ρ 0 h n r) (tok P ρ 1 h (pre n)) r

/-- The attention of a token: the values of both blocks, weighted by the softmax of the scores. -/
def attT : EReal := att (sOwn P ρ h n r) (sBef P ρ h n r) (fun j => tok P ρ 2 h n j d) fun j => tok P ρ 2 h (pre n) j d

/-- The logarithm of the sum of the exponentials of its scores. -/
def lseT : EReal := lse (sOwn P ρ h n r) (sBef P ρ h n r)
end

/-- The first result: every token's attention. -/
def resO (P : Vec Ideal S4096x3072 .bf16) : Vec Ideal S256x16384 .f32 := fun y =>
  attT P ⟨(y 1).val / 1024, by have := (y 1).isLt; simp at this; omega⟩ ⟨(y 1).val % 1024 / 128, by omega⟩
    ⟨(y 0).val / 128, by have := (y 0).isLt; simp at this; omega⟩ ⟨(y 0).val % 128, by omega⟩ ⟨(y 1).val % 128, by omega⟩

/-- The second result: every token's logarithm, once for each of a head's 128 columns. -/
def resL (P : Vec Ideal S4096x3072 .bf16) : Vec Ideal S256x16384 .f32 := fun y =>
  lseT P ⟨(y 1).val / 1024, by have := (y 1).isLt; simp at this; omega⟩ ⟨(y 1).val % 1024 / 128, by omega⟩
    ⟨(y 0).val / 128, by have := (y 0).isLt; simp at this; omega⟩ ⟨(y 0).val % 128, by omega⟩

/-- Row of token `j` of block `n` in the array the call reads. -/
def rowI (n : Fin 2) (j : Fin 128) : Fin 256 := ⟨128 * n.val + j.val, by omega⟩

/-- Column of a head's part in the array the call reads. -/
def colI (ρ : Fin 16) (part : Fin 3) (h : Fin 8) (d : Fin 128) : Fin 49152 :=
  ⟨ρ.val * 3072 + (1024 * part.val + (128 * h.val + d.val)), by omega⟩

/-- Column of a head in the results. -/
def colR (ρ : Fin 16) (h : Fin 8) (d : Fin 128) : Fin 16384 := ⟨ρ.val * 1024 + (128 * h.val + d.val), by omega⟩

theorem resO_at (P : Vec Ideal S4096x3072 .bf16) (ρ : Fin 16) (h : Fin 8) (n : Fin 2) (r d : Fin 128) :
    resO P (ix2 (rowI n r) (colR ρ h d)) = attT P ρ h n r d := by
  have e0 : (⟨(colR ρ h d).val / 1024, by omega⟩ : Fin 16) = ρ := Fin.ext (by simp only [colR]; omega)
  have e1 : (⟨(colR ρ h d).val % 1024 / 128, by omega⟩ : Fin 8) = h := Fin.ext (by simp only [colR]; omega)
  have e2 : (⟨(rowI n r).val / 128, by omega⟩ : Fin 2) = n := Fin.ext (by simp only [rowI]; omega)
  have e3 : (⟨(rowI n r).val % 128, by omega⟩ : Fin 128) = r := Fin.ext (by simp only [rowI]; omega)
  have e4 : (⟨(colR ρ h d).val % 128, by omega⟩ : Fin 128) = d := Fin.ext (by simp only [colR]; omega)
  show attT P ⟨(colR ρ h d).val / 1024, _⟩ ⟨(colR ρ h d).val % 1024 / 128, _⟩ ⟨(rowI n r).val / 128, _⟩ ⟨(rowI n r).val % 128, _⟩ ⟨(colR ρ h d).val % 128, _⟩ = _
  rw [e0, e1, e2, e3, e4]

theorem resL_at (P : Vec Ideal S4096x3072 .bf16) (ρ : Fin 16) (h : Fin 8) (n : Fin 2) (r d : Fin 128) :
    resL P (ix2 (rowI n r) (colR ρ h d)) = lseT P ρ h n r := by
  have e0 : (⟨(colR ρ h d).val / 1024, by omega⟩ : Fin 16) = ρ := Fin.ext (by simp only [colR]; omega)
  have e1 : (⟨(colR ρ h d).val % 1024 / 128, by omega⟩ : Fin 8) = h := Fin.ext (by simp only [colR]; omega)
  have e2 : (⟨(rowI n r).val / 128, by omega⟩ : Fin 2) = n := Fin.ext (by simp only [rowI]; omega)
  have e3 : (⟨(rowI n r).val % 128, by omega⟩ : Fin 128) = r := Fin.ext (by simp only [rowI]; omega)
  show lseT P ⟨(colR ρ h d).val / 1024, _⟩ ⟨(colR ρ h d).val % 1024 / 128, _⟩ ⟨(rowI n r).val / 128, _⟩ ⟨(rowI n r).val % 128, _⟩ = _
  rw [e0, e1, e2, e3]

/-! ### The points' blocks in the arrays -/

variable (m : (ℓ : Loc nD τ sig) → Buf (Elt Ideal) ℓ) (c : Dev nD)

/-- The argument. -/
abbrev aP : Vec Ideal S4096x3072 .bf16 := m ((c.tc : Thread nD τ).loc main_arg0)

theorem idx0 : ∀ t : Fin cfg0.N, win0_0.index t = ![t.val / 2 % 1, t.val / 2 * 6 + t.val % 2] := by decide +kernel
theorem idx1 : ∀ t : Fin cfg0.N, win0_1.index t = ![t.val / 2 % 1, t.val / 2 * 6 + 2 + t.val % 2] := by decide +kernel
theorem idx2 : ∀ t : Fin cfg0.N, win0_2.index t = ![t.val / 2 % 1 * 2 - 1, t.val / 2 * 6 + 2 + t.val % 2] := by decide +kernel
theorem idx3 : ∀ t : Fin cfg0.N, win0_3.index t = ![t.val / 2 % 1, t.val / 2 * 6 + 4 + t.val % 2] := by decide +kernel
theorem idx4 : ∀ t : Fin cfg0.N, win0_4.index t = ![t.val / 2 % 1 * 2 - 1, t.val / 2 * 6 + 4 + t.val % 2] := by decide +kernel
theorem idx5 : ∀ t : Fin cfg0.N, win0_5.index t = ![t.val / 2 % 1, t.val / 2 * 2 + t.val % 2] := by decide +kernel
theorem idx6 : ∀ t : Fin cfg0.N, win0_6.index t = ![t.val / 2 % 1, t.val / 2 * 2 + t.val % 2] := by decide +kernel
theorem crd1 : ∀ t : Fin cfg0.N, (grid0.coords t 1).val = t.val / 2 % 1 := by decide +kernel

theorem ltN (t : Fin cfg0.N) : t.val < 32 := lt_of_lt_of_eq t.isLt (show cfg0.N = 32 from N_0)

/-- The sequence of grid point `t`. -/
def rhoT (t : Fin cfg0.N) : Fin 16 := ⟨t.val / 2, by have := ltN t; omega⟩
/-- Its head `h`. -/
def hdT (t : Fin cfg0.N) (h : Fin 4) : Fin 8 := ⟨t.val % 2 * 4 + h.val, by omega⟩
/-- Its block `s`. -/
def bkT (t : Fin cfg0.N) (s : Fin 2) : Fin 2 := ⟨t.val / 2 % 1 * 2 + s.val, by omega⟩

/-- The argument's tokens, 16 of them to a row. -/
theorem castP (P : Vec Ideal S4096x3072 .bf16) (n : Fin 2) (j : Fin 128) (ρ : Fin 16) (part : Fin 3) (h : Fin 8) (d : Fin 128) :
    shapeCast S256x49152 P shapeCasts_S4096x3072_S256x49152 (ix2 (rowI n j) (colI ρ part h d)) = tok P ρ part h n j d :=
  shapeCast_apply P shapeCasts_S4096x3072_S256x49152 _ _ (by
    rewrite [Shape.rowMajor_val_two, Shape.rowMajor_val_two]
    show ((128 * n.val + j.val) * 16 + ρ.val) * 3072 + (1024 * part.val + (128 * h.val + d.val))
      = (128 * n.val + j.val) * 49152 + (ρ.val * 3072 + (1024 * part.val + (128 * h.val + d.val)))
    omega)

/-- The array the call reads is the argument, 16 tokens to a row. -/
theorem src (n : Fin 2) (j : Fin 128) (ρ : Fin 16) (part : Fin 3) (h : Fin 8) (d : Fin 128) :
    V m c main_v0 (ix2 (rowI n j) (colI ρ part h d)) = tok (aP m c) ρ part h n j d := by
  have e : V m c main_v0 = shapeCast S256x49152 (aP m c) shapeCasts_S4096x3072_S256x49152 := by
    entry_read
    rfl
  rw [e]
  exact castP _ _ _ _ _ _ _

section
variable (t : Fin cfg0.N) (s : Fin 2) (h : Fin 4) (r d : Fin 128)

theorem blk0 : iblk m c 0 t (ix2 (rw' s r) (cl h d) : S256x512.Idx) = tok (aP m c) (rhoT t) 0 (hdT t h) (bkT t s) r d := by
  have h : iblk m c 0 t (ix2 (rw' s r) (cl h d) : S256x512.Idx) = V m c main_v0 (ix2 (rowI (bkT t s) r) (colI (rhoT t) 0 (hdT t h) d)) := by
    unfold iblk rw' cl rowI colI rhoT hdT bkT
    generalize V m c = f
    blk_ext [idx0 t]
  exact h.trans (src m c _ _ _ _ _ _)

theorem blk1 : iblk m c 1 t (ix2 (rw' s r) (cl h d) : S256x512.Idx) = tok (aP m c) (rhoT t) 1 (hdT t h) (bkT t s) r d := by
  have h : iblk m c 1 t (ix2 (rw' s r) (cl h d) : S256x512.Idx) = V m c main_v0 (ix2 (rowI (bkT t s) r) (colI (rhoT t) 1 (hdT t h) d)) := by
    unfold iblk rw' cl rowI colI rhoT hdT bkT
    generalize V m c = f
    blk_ext [idx1 t]
  exact h.trans (src m c _ _ _ _ _ _)

theorem blk3 : iblk m c 3 t (ix2 (rw' s r) (cl h d) : S256x512.Idx) = tok (aP m c) (rhoT t) 2 (hdT t h) (bkT t s) r d := by
  have h : iblk m c 3 t (ix2 (rw' s r) (cl h d) : S256x512.Idx) = V m c main_v0 (ix2 (rowI (bkT t s) r) (colI (rhoT t) 2 (hdT t h) d)) := by
    unfold iblk rw' cl rowI colI rhoT hdT bkT
    generalize V m c = f
    blk_ext [idx3 t]
  exact h.trans (src m c _ _ _ _ _ _)

theorem blk2 : iblk m c 2 t (ix2 r (cl h d) : S128x512.Idx) = tok (aP m c) (rhoT t) 1 (hdT t h) (pre (bkT t 0)) r d := by
  have h : iblk m c 2 t (ix2 r (cl h d) : S128x512.Idx) = V m c main_v0 (ix2 (rowI (pre (bkT t 0)) r) (colI (rhoT t) 1 (hdT t h) d)) := by
    unfold iblk cl rowI colI rhoT hdT pre bkT
    generalize V m c = f
    blk_ext [idx2 t]
  exact h.trans (src m c _ _ _ _ _ _)

theorem blk4 : iblk m c 4 t (ix2 r (cl h d) : S128x512.Idx) = tok (aP m c) (rhoT t) 2 (hdT t h) (pre (bkT t 0)) r d := by
  have h : iblk m c 4 t (ix2 r (cl h d) : S128x512.Idx) = V m c main_v0 (ix2 (rowI (pre (bkT t 0)) r) (colI (rhoT t) 2 (hdT t h) d)) := by
    unfold iblk cl rowI colI rhoT hdT pre bkT
    generalize V m c = f
    blk_ext [idx4 t]
  exact h.trans (src m c _ _ _ _ _ _)

theorem pre_bk (hs : ¬s.val = 0) : bkT t ⟨s.val - 1, by omega⟩ = pre (bkT t s) := Fin.ext (by simp only [bkT, pre]; omega)

theorem prev1 : prev (iblk m c 1 t) (iblk m c 2 t) s h r d = tok (aP m c) (rhoT t) 1 (hdT t h) (pre (bkT t s)) r d := by
  unfold prev
  split <;> rename_i hs
  · obtain rfl : s = 0 := Fin.ext hs
    exact blk2 m c t h r d
  · rw [← pre_bk t s hs]
    exact blk1 m c t _ h r d

theorem prev3 : prev (iblk m c 3 t) (iblk m c 4 t) s h r d = tok (aP m c) (rhoT t) 2 (hdT t h) (pre (bkT t s)) r d := by
  unfold prev
  split <;> rename_i hs
  · obtain rfl : s = 0 := Fin.ext hs
    exact blk4 m c t h r d
  · rw [← pre_bk t s hs]
    exact blk3 m c t _ h r d

/-- The point's scores are the tokens' scores. -/
theorem sO_tok : sO (iblk m c 0 t) (iblk m c 1 t) s h r = sOwn (aP m c) (rhoT t) (hdT t h) (bkT t s) r := by
  have e0 : here (iblk m c 0 t) s h r = tok (aP m c) (rhoT t) 0 (hdT t h) (bkT t s) r := funext fun d => blk0 m c t s h r d
  have e1 : here (iblk m c 1 t) s h = tok (aP m c) (rhoT t) 1 (hdT t h) (bkT t s) := funext fun r => funext fun d => blk1 m c t s h r d
  unfold sO sOwn
  rw [e0, e1]

theorem sB_tok : sB (grid0.coords t) (iblk m c 0 t) (iblk m c 1 t) (iblk m c 2 t) s h r = sBef (aP m c) (rhoT t) (hdT t h) (bkT t s) r := by
  have e0 : here (iblk m c 0 t) s h r = tok (aP m c) (rhoT t) 0 (hdT t h) (bkT t s) r := funext fun d => blk0 m c t s h r d
  have e1 : prev (iblk m c 1 t) (iblk m c 2 t) s h = tok (aP m c) (rhoT t) 1 (hdT t h) (pre (bkT t s)) :=
    funext fun r => funext fun d => prev1 m c t s h r d
  have hp : (0 < s.val ∨ 0 < (grid0.coords t 1).val) ↔ 0 < (bkT t s).val := by
    rw [crd1 t]
    simp only [bkT]
    omega
  unfold sB sBef
  rw [e0, e1]
  unfold before
  simp only [hp]

theorem o_tok : oAt (grid0.coords t) (iblk m c 0 t) (iblk m c 1 t) (iblk m c 2 t) (iblk m c 3 t) (iblk m c 4 t) s h r d
    = attT (aP m c) (rhoT t) (hdT t h) (bkT t s) r d := by
  unfold oAt attT
  rw [sO_tok, sB_tok]
  congr 1
  · exact funext fun j => blk3 m c t s h j d
  · exact funext fun j => prev3 m c t s h j d

theorem l_tok : lAt (grid0.coords t) (iblk m c 0 t) (iblk m c 1 t) (iblk m c 2 t) s h r = lseT (aP m c) (rhoT t) (hdT t h) (bkT t s) r := by
  unfold lAt lseT
  rw [sO_tok, sB_tok]

theorem emb5 : (win0_5.blk t).view.emb (ix2 (rw' s r) (cl h d) : S256x512.Idx) = ix2 (rowI (bkT t s) r) (colR (rhoT t) (hdT t h) d) := by
  unfold rw' cl rowI colR rhoT hdT bkT
  blk_ext [idx5 t]

theorem emb6 : (win0_6.blk t).view.emb (ix2 (rw' s r) (cl h d) : S256x512.Idx) = ix2 (rowI (bkT t s) r) (colR (rhoT t) (hdT t h) d) := by
  unfold rw' cl rowI colR rhoT hdT bkT
  blk_ext [idx6 t]
end

/-- Every index of a block is a row of one of its blocks of 128 and a column of one of its heads. -/
theorem idx_cases (y : S256x512.Idx) : ∃ (s : Fin 2) (h : Fin 4) (r d : Fin 128), y = ix2 (rw' s r) (cl h d) := by
  obtain ⟨a, b, rfl⟩ : ∃ (a : Fin 256) (b : Fin 512), y = ix2 a b := ⟨y 0, y 1, eq_ix2 y⟩
  refine ⟨⟨a.val / 128, by omega⟩, ⟨b.val / 128, by omega⟩, ⟨a.val % 128, by omega⟩, ⟨b.val % 128, by omega⟩, ?_⟩
  congr 1
  · exact Fin.ext (by simp only [rw']; omega)
  · exact Fin.ext (by simp only [cl]; omega)

theorem arr5 : (dats m 0 c).arrAt 5 cfg0.N = resO (aP m c) := by
  refine (dats m 0 c).arrAt_eq_of_covers 5 _ (by decide +kernel) fun t hf y => ?_
  blk_simp
  rw [after0_5]
  obtain ⟨s, h, r, d, rfl⟩ := idx_cases y
  exact ((out_O _ _ _ _ _ _ _).trans ((blkO_at _ _ _ _ _ _ s h r d).trans (o_tok m c t s h r d))).trans
    ((congrArg (resO (aP m c)) (emb5 t s h r d)).trans (resO_at _ _ _ _ _ _)).symm

theorem arr6 : (dats m 0 c).arrAt 6 cfg0.N = resL (aP m c) := by
  refine (dats m 0 c).arrAt_eq_of_covers 6 _ (by decide +kernel) fun t hf y => ?_
  blk_simp
  rw [after0_6]
  obtain ⟨s, h, r, d, rfl⟩ := idx_cases y
  exact ((out_L _ _ _ _ _ _ _).trans ((blkL_at _ _ _ _ s h r d).trans (l_tok m c t s h r))).trans
    ((congrArg (resL (aP m c)) (emb6 t s h r d)).trans (resL_at _ _ _ _ _ _)).symm

/-- The run of the kernel: its two results named, the argument unchanged. -/
theorem run_kernel (g : Dev nD → PrngReg) : θ_run defs (onTc (τ := τ) (main (F := Ideal))) ⟨m, fun _ => 0, g⟩ fun r => ∀ c : Dev nD,
      r.2.mem ((c : Thread nD τ).loc main_v1_0) = resO (aP m c)
      ∧ r.2.mem ((c : Thread nD τ).loc main_v1_1) = resL (aP m c)
      ∧ r.2.mem ((c : Thread nD τ).loc main_arg0) = m ((c : Thread nD τ).loc main_arg0) :=
  (θ_run defs _ _).mono (fun r h c => ⟨(h c).1.trans (arr5 m c), (h c).2.1.trans (arr6 m c), (h c).2.2⟩) (Value.run_blocks m g)

end Cert.AttnFwd16Proof
end
-- ==== Proof.AttnMask.lean ====
/- Which of 256 keys, the block before and the own block, a token of the dilated attention attends to. -/
module
public import proofs.«01_k».proof.Proof.AttnSpec
@[expose] public section
set_option maxRecDepth 16384
namespace Cert.Attn
open Idealize.ShloMosaic

/-- A key at most 128 tokens before the query, and not after it. -/
theorem near_at (r : Fin 128) (j : Fin 256) :
    IntOp.andi (IntOp.cmpi .sge (IntOp.subi (IntOp.addi (BitVec.ofNat 32 r.val) 128#32) (BitVec.ofNat 32 j.val)) 0#32)
      (IntOp.cmpi .sle (IntOp.subi (IntOp.addi (BitVec.ofNat 32 r.val) 128#32) (BitVec.ofNat 32 j.val)) 128#32)
      = if r.val ≤ j.val ∧ j.val ≤ 128 + r.val then 1#1 else 0#1 := by
  revert r j
  decide +kernel

/-- A key of the own block, or of a block before it that exists. -/
theorem some_at (n : Fin 32) (j : Fin 256) :
    IntOp.ori (IntOp.cmpi .sgt (BitVec.ofNat 32 n.val) 0#32) (IntOp.cmpi .sge (BitVec.ofNat 32 j.val) 128#32)
      = if 0 < n.val ∨ 128 ≤ j.val then 1#1 else 0#1 := by
  revert n j
  decide +kernel

end Cert.Attn
-- ==== Proof.AttnFwd16Proof.lean ====
/- The dilated attention over every 16th token: the kernel's two results are the reference's. -/
module
public import proofs.«01_k».proof.Proof.AttnFwd16Value
public import proofs.«01_k».proof.Proof.AttnMask
public import proofs.«01_k».proof.Defs
public import proofs.«01_k».proof.Proof.Gen.AttnFwd16RefIdeal.Read
public import Idealize.ShloMosaic.Lib.ValueIdxRank6
@[expose] public section
set_option maxRecDepth 16384
noncomputable section
namespace Cert.AttnFwd16Proof
open Cert.Mem Cert.Attn Cert.AttnFwd16Ideal Cert.AttnFwd16RefIdeal.Read Idealize.ShloMosaic Idealize.ShloMosaic.TcCoe Idealize.SL.Sem

/-- The sum over the last axis of the scores' array. -/
theorem sum_last (y : Vec Ideal Cert.AttnFwd16RefIdeal.S1x16x2x8x128x256 .f32) (ρ : Fin 16) (n : Fin 2) (h : Fin 8) (r : Fin 128) :
    Ideal.hostReduceAdd Cert.AttnFwd16RefIdeal.Gen.reducesTo_S1x16x2x8x128x256_S1x16x2x8x128_d5 y 0 (ix5 0 ρ n h r) = ∑ j, y (ix6 0 ρ n h r j) := by
  rw [Ideal.hostReduceAdd_single _ (by decide), zero_add]
  exact Finset.sum_congr rfl fun k _ => congrArg y (funext fun a => Fin.ext (by
    match a with | ⟨0, _⟩ => rfl | ⟨1, _⟩ => rfl | ⟨2, _⟩ => rfl | ⟨3, _⟩ => rfl | ⟨4, _⟩ => rfl | ⟨5, _⟩ => rfl))

/-- The largest along the last axis of the scores' array. -/
theorem max_last (y : Vec Ideal Cert.AttnFwd16RefIdeal.S1x16x2x8x128x256 .f32) (c : EReal) (ρ : Fin 16) (n : Fin 2) (h : Fin 8) (r : Fin 128) :
    Finset.fold max c y {i | Cert.AttnFwd16RefIdeal.Gen.reducesTo_S1x16x2x8x128x256_S1x16x2x8x128_d5.drop i = ix5 0 ρ n h r}
      = Finset.univ.fold max c fun j => y (ix6 0 ρ n h r j) := by
  have hR : Shape.Reduces Cert.AttnFwd16RefIdeal.S1x16x2x8x128x256 [5] Cert.AttnFwd16RefIdeal.S1x16x2x8x128 := by decide
  rw [Shape.ReducesTo.drop_eq_drop _ hR]
  refine (hR.fold_filter_drop_single _ _ y _).trans (congrArg (Finset.univ.fold max c) (funext fun k => ?_))
  exact congrArg y (funext fun a => Fin.ext (by
    match a with | ⟨0, _⟩ => rfl | ⟨1, _⟩ => rfl | ⟨2, _⟩ => rfl | ⟨3, _⟩ => rfl | ⟨4, _⟩ => rfl | ⟨5, _⟩ => rfl))

theorem attT_congr (P : Vec Ideal S4096x3072 .bf16) {ρ ρ' : Fin 16} {h h' : Fin 8} {n n' : Fin 2} {r r' d d' : Fin 128}
    (e : ρ = ρ') (f : h = h') (g : n = n') (k : r = r') (l : d = d') : attT P ρ h n r d = attT P ρ' h' n' r' d' := by
  subst e f g k l; rfl

theorem lseT_congr (P : Vec Ideal S4096x3072 .bf16) {ρ ρ' : Fin 16} {h h' : Fin 8} {n n' : Fin 2} {r r' : Fin 128}
    (e : ρ = ρ') (f : h = h') (g : n = n') (k : r = r') : lseT P ρ h n r = lseT P ρ' h' n' r' := by
  subst e f g k; rfl

section
variable (x0 : Vec Ideal S4096x3072 .bf16) (ρ : Fin 16) (n : Fin 2) (h : Fin 8) (r d : Fin 128)

/-- Two entries of the array of the projections at equal places. -/
theorem x_congr {a b : Fin 4096} {c e : Fin 3072} (hab : a.val = b.val) (hce : c.val = e.val) : x0 (ix2 a c) = x0 (ix2 b e) := by
  rw [Fin.ext hab, Fin.ext hce]

/-- The queries, by block and head. -/
theorem q_at : val_main_v11 (F := Ideal) x0 (ix6 0 ρ n r h d) = tok x0 ρ 0 h n r d := by
  pointwise [val_main_v11, val_main_v10, val_main_v9, val_main_v8, val_main_v3, val_main_v2, val_main_v1, val_main_v0]
  unfold tok
  rw [dif_pos (by omega)]
  have e : ((0 : Fin 3) : ℕ) = 0 := rfl
  exact x_congr x0 (by simp only []; omega) (by simp only []; omega)

/-- The keys, by block and head. -/
theorem k_own : val_main_v15 (F := Ideal) x0 (ix6 0 ρ n r h d) = tok x0 ρ 1 h n r d := by
  pointwise [val_main_v15, val_main_v14, val_main_v13, val_main_v12, val_main_v5, val_main_v4, val_main_v1, val_main_v0]
  unfold tok
  rw [dif_pos (by omega)]
  have e : ((1 : Fin 3) : ℕ) = 1 := rfl
  exact x_congr x0 (by simp only []; omega) (by simp only []; omega)

/-- The values, by block and head. -/
theorem v_own : val_main_v19 (F := Ideal) x0 (ix6 0 ρ n r h d) = tok x0 ρ 2 h n r d := by
  pointwise [val_main_v19, val_main_v18, val_main_v17, val_main_v16, val_main_v7, val_main_v6, val_main_v1, val_main_v0]
  unfold tok
  rw [dif_pos (by omega)]
  have e : ((2 : Fin 3) : ℕ) = 2 := rfl
  exact x_congr x0 (by simp only []; omega) (by simp only []; omega)

/-- The keys of the block before. -/
theorem k_bef (hn : 0 < n.val) : val_main_v21 (F := Ideal) x0 (ix6 0 ρ n r h d) = tok x0 ρ 1 h (pre n) r d := by
  pointwise [val_main_v21, val_main_v20]
  rw [dif_pos ⟨by omega, by omega⟩]
  exact k_own x0 ρ (pre n) h r d

/-- The values of the block before. -/
theorem v_bef (hn : 0 < n.val) : val_main_v24 (F := Ideal) x0 (ix6 0 ρ n r h d) = tok x0 ρ 2 h (pre n) r d := by
  pointwise [val_main_v24, val_main_v23]
  rw [dif_pos ⟨by omega, by omega⟩]
  exact v_own x0 ρ (pre n) h r d

/-- The first 128 of a block's 256 keys are those of the block before. -/
theorem k_lo (j : Fin 128) : val_main_v22 (F := Ideal) x0 (ix6 0 ρ n ⟨j.val, by omega⟩ h d) = val_main_v21 (F := Ideal) x0 (ix6 0 ρ n j h d) := by
  pointwise [val_main_v22]

/-- The last 128 are the own block's. -/
theorem k_hi (j : Fin 128) : val_main_v22 (F := Ideal) x0 (ix6 0 ρ n ⟨128 + j.val, by omega⟩ h d) = tok x0 ρ 1 h n j d := by
  pointwise [val_main_v22]
  exact k_own x0 ρ n h j d

/-- The first 128 of a block's 256 values are those of the block before. -/
theorem v_lo (j : Fin 128) : val_main_v25 (F := Ideal) x0 (ix6 0 ρ n ⟨j.val, by omega⟩ h d) = val_main_v24 (F := Ideal) x0 (ix6 0 ρ n j h d) := by
  pointwise [val_main_v25]

/-- The last 128 are the own block's. -/
theorem v_hi (j : Fin 128) : val_main_v25 (F := Ideal) x0 (ix6 0 ρ n ⟨128 + j.val, by omega⟩ h d) = tok x0 ρ 2 h n j d := by
  pointwise [val_main_v25]
  exact v_own x0 ρ n h j d

/-- Which keys a query attends to. -/
theorem m_at (j : Fin 256) : val_main_call5_v1 (F := Ideal) (ix6 0 ρ n h r j)
    = if r.val ≤ j.val ∧ j.val ≤ 128 + r.val ∧ (0 < n.val ∨ 128 ≤ j.val) then 1#1 else 0#1 := by
  pointwise [val_main_call5_v1, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29]
  refine (congrArg₂ IntOp.andi (near_at r j) (some_at ⟨n.val, by omega⟩ j)).trans ?_
  by_cases h1 : r.val ≤ j.val ∧ j.val ≤ 128 + r.val
  · by_cases h2 : 0 < n.val ∨ 128 ≤ j.val
    · rw [if_pos h1, if_pos h2, if_pos ⟨h1.1, h1.2, h2⟩]; decide
    · rw [if_pos h1, if_neg h2, if_neg fun c => h2 c.2.2]; decide
  · rw [if_neg h1]
    by_cases h2 : 0 < n.val ∨ 128 ≤ j.val
    · rw [if_pos h2, if_neg fun c => h1 ⟨c.1, c.2.1⟩]; decide
    · rw [if_neg h2, if_neg fun c => h1 ⟨c.1, c.2.1⟩]; decide

/-- The scaled products of the queries with the keys. -/
theorem s_at (j : Fin 256) : val_main_v28 (F := Ideal) x0 (ix6 0 ρ n h r j)
    = (∑ x, val_main_v11 (F := Ideal) x0 (ix6 0 ρ n r h x) * val_main_v22 (F := Ideal) x0 (ix6 0 ρ n j h x)) * kap := by
  pointwise [val_main_v28, val_main_v27, val_main_v26, val_main_cst]
  unfold kap
  with_reducible rfl

/-- What stands where a key is left out. -/
theorem f_at (j : Fin 256) : val_main_call5_v2 (F := Ideal) (ix6 0 ρ n h r j) = ⊥ := by
  rw [← ninf_eq]
  pointwise [val_main_call5_v2, val_main_call5_v0, val_main_cst_9]
  unfold ninf
  rfl

/-- The scores. -/
theorem z_at (j : Fin 256) : val_main_v58 (F := Ideal) x0 (ix6 0 ρ n h r j)
    = if r.val ≤ j.val ∧ j.val ≤ 128 + r.val ∧ (0 < n.val ∨ 128 ≤ j.val) then val_main_v28 (F := Ideal) x0 (ix6 0 ρ n h r j) else ⊥ := by
  refine (val_main_v58_apply x0 _).trans ?_
  rw [m_at, f_at]
  generalize val_main_v28 (F := Ideal) x0 (ix6 0 ρ n h r j) = y
  by_cases hc : r.val ≤ j.val ∧ j.val ≤ 128 + r.val ∧ (0 < n.val ∨ 128 ≤ j.val)
  · rw [if_pos hc, if_pos hc]; rfl
  · rw [if_neg hc, if_neg hc]; rfl

/-- The scores against the block before. -/
theorem z_lo (j : Fin 128) : val_main_v58 (F := Ideal) x0 (ix6 0 ρ n h r ⟨j.val, by omega⟩) = sBef x0 ρ h n r j := by
  refine (z_at x0 ρ n h r _).trans ?_
  unfold sBef before
  by_cases hn : r.val ≤ j.val ∧ 0 < n.val
  · rw [if_pos ⟨hn.1, by simp only []; omega, Or.inl hn.2⟩, if_pos hn, s_at]
    simp only [q_at, k_lo, k_bef x0 ρ n h _ _ hn.2]
  · rw [if_neg fun c => hn ⟨c.1, by have := c.2.2; simp only [] at this; omega⟩, if_neg hn]

/-- The scores against the own block. -/
theorem z_hi (j : Fin 128) : val_main_v58 (F := Ideal) x0 (ix6 0 ρ n h r ⟨128 + j.val, by omega⟩) = sOwn x0 ρ h n r j := by
  refine (z_at x0 ρ n h r _).trans ?_
  unfold sOwn own
  by_cases hn : j.val ≤ r.val
  · rw [if_pos ⟨by simp only []; omega, by simp only []; omega, Or.inr (by simp only []; omega)⟩, if_pos hn, s_at]
    simp only [q_at, k_hi]
  · rw [if_neg fun c => hn (by have := c.2.1; simp only [] at this; omega), if_neg hn]

/-- The largest score. -/
theorem x_at : val_main_v59 (F := Ideal) x0 (ix5 0 ρ n h r) = top (sOwn x0 ρ h n r) (sBef x0 ρ h n r) := by
  pointwise [val_main_v59, val_main_cst_10]
  refine (max_last _ _ ρ n h r).trans ((max_two _).trans ?_)
  exact congrArg₂ top (funext fun j => z_hi x0 ρ n h r j) (funext fun j => z_lo x0 ρ n h r j)

/-- The exponentials. -/
theorem e_at (j : Fin 256) : val_main_v63 (F := Ideal) x0 (ix6 0 ρ n h r j)
    = wt (sOwn x0 ρ h n r) (sBef x0 ρ h n r) (val_main_v58 (F := Ideal) x0 (ix6 0 ρ n h r j)) := by
  pointwise [val_main_v63, val_main_v62, val_main_v61, val_main_v60]
  rw [x_at]
  unfold wt
  with_reducible rfl

/-- Their sum. -/
theorem l_at : val_main_v65 (F := Ideal) x0 (ix6 0 ρ n h r 0) = den (sOwn x0 ρ h n r) (sBef x0 ρ h n r) := by
  pointwise [val_main_v65, val_main_v64, val_main_cst_11]
  refine (sum_last _ ρ n h r).trans ((sum_two _).trans ?_)
  simp only [e_at, z_hi, z_lo]
  unfold den
  with_reducible rfl

/-- Without a block before, it makes no difference which values it would have. -/
theorem attT_eq : attT x0 ρ h n r d = att (sOwn x0 ρ h n r) (sBef x0 ρ h n r) (fun j => tok x0 ρ 2 h n j d)
    fun j => val_main_v24 (F := Ideal) x0 (ix6 0 ρ n j h d) := by
  unfold attT
  by_cases hn : 0 < n.val
  · exact congrArg (att _ _ _) (funext fun j => (v_bef x0 ρ n h j d hn).symm)
  · have e : sBef x0 ρ h n r = fun _ => ⊥ := before_none hn _ _ _
    rw [e]
    exact att_none _ _ _ _

/-- The attention. -/
theorem o_at : val_main_v70 (F := Ideal) x0 (ix6 0 ρ n r h d) = attT x0 ρ h n r d := by
  rw [attT_eq]
  pointwise [val_main_v70, val_main_v69, val_main_v68, val_main_v67, val_main_v66]
  rw [l_at, sum_two]
  simp only [e_at, z_hi, z_lo, v_hi, v_lo]
  unfold att
  exact congrArg₂ Ideal.div (congrArg₂ (· + ·) (Finset.sum_congr rfl fun k _ => mul_comm _ _)
    (Finset.sum_congr rfl fun k _ => mul_comm _ _)) rfl

/-- The largest score, with a last axis of size one. -/
theorem m1_at : val_main_v60 (F := Ideal) x0 (ix6 0 ρ n h r 0) = top (sOwn x0 ρ h n r) (sBef x0 ρ h n r) := by
  pointwise [val_main_v60]
  exact x_at x0 ρ n h r

/-- The logarithm of the sum. -/
theorem g_at : val_main_v72 (F := Ideal) x0 (ix6 0 ρ n h r 0) = lseT x0 ρ h n r := by
  refine (val_main_v72_apply x0 _).trans ?_
  rw [m1_at, val_main_v71_apply, l_at]
  rfl

/-- The same, without the last axis. -/
theorem g5_at : val_main_v73 (F := Ideal) x0 (ix5 0 ρ n h r) = lseT x0 ρ h n r := by
  refine Eq.trans ?_ (g_at x0 ρ n h r)
  unfold val_main_v73
  generalize val_main_v72 (F := Ideal) x0 = y
  pointwise []

/-- The same, by token and head. -/
theorem gt_at : val_main_v74 (F := Ideal) x0 (ix5 0 ρ n r h) = lseT x0 ρ h n r := by
  pointwise [val_main_v74]
  exact g5_at x0 ρ n h r

/-- The reference's first result is the kernel's. -/
theorem ref_O : val_main_v81 (F := Ideal) x0 = resO x0 := by
  funext i
  obtain ⟨a, b, rfl⟩ : ∃ (a : Fin 256) (b : Fin 16384), i = ix2 a b := ⟨i 0, i 1, eq_ix2 i⟩
  pointwise [val_main_v81, val_main_v77, val_main_v76, val_main_v75]
  rw [o_at]
  exact attT_congr x0 (Fin.ext (by show _ = b.val / 1024; simp only []; omega)) (Fin.ext (by show _ = b.val % 1024 / 128; simp only []; omega))
    (Fin.ext (by show _ = a.val / 128; simp only []; try omega)) (Fin.ext (by show _ = a.val % 128; simp only []; try omega)) (Fin.ext (by show _ = b.val % 128; simp only []; try omega))

/-- The logarithms, by token and head. -/
theorem t_at (t : Fin 4096) : val_main_v80 (F := Ideal) x0 (ix3 0 t h)
    = lseT x0 ⟨t.val % 16, by omega⟩ h ⟨t.val / 16 / 128, by omega⟩ ⟨t.val / 16 % 128, by omega⟩ := by
  pointwise [val_main_v80, val_main_v79, val_main_v78]
  exact (gt_at x0 _ _ _ _).trans (lseT_congr x0 (Fin.ext (by simp only []; try omega)) (Fin.ext (by simp only []; try omega)) (Fin.ext (by simp only []; try omega)) (Fin.ext (by simp only []; try omega)))

/-- The reference's second result is the kernel's. -/
theorem ref_L : val_main_v84 (F := Ideal) x0 = resL x0 := by
  funext i
  obtain ⟨a, b, rfl⟩ : ∃ (a : Fin 256) (b : Fin 16384), i = ix2 a b := ⟨i 0, i 1, eq_ix2 i⟩
  pointwise [val_main_v84, val_main_v83, val_main_v82]
  rw [t_at]
  exact lseT_congr x0 (Fin.ext (by show _ = b.val / 1024; simp only []; omega)) (Fin.ext (by show _ = b.val % 1024 / 128; simp only []; omega))
    (Fin.ext (by show _ = a.val / 128; simp only []; omega)) (Fin.ext (by show _ = a.val % 128; simp only []; omega))

end

/-- The mask's value counts as the named constant `⊥`. -/
theorem preserves : Cert.preserves_AttnFwd16_AttnFwd16Ideal :=
  IdealRules.named_const.statement Cert.AttnFwd16Ideal.κ "neg" .f32 0xF149F2CA#32 ⊥ rfl

/-- The reference runs, keeps its argument and leaves every semaphore at zero. -/
theorem ref_frame : Cert.quiescent_AttnFwd16RefIdeal := fun m ρ _ =>
  (θ_run Cert.AttnFwd16RefIdeal.defs _ _).mono (fun r h => ⟨fun c => (h c).2.2, sem_eq_zero_of_no_sems (by decide) r.2⟩)
    (Cert.AttnFwd16RefIdeal.Value.run (F := Ideal) m ρ)

/-- The kernel's two results are the reference's. -/
theorem value : Cert.algebraic_AttnFwd16Ideal_AttnFwd16RefIdeal := fun m ρ m' ρ' _ hag =>
  ⟨fun c => resO (aP m c), fun c => resL (aP m c), run_kernel m ρ,
    (θ_run Cert.AttnFwd16RefIdeal.defs _ _).mono (fun r h c => by
      have e0 := hag c
      refine ⟨(h c).1.trans ?_, (h c).2.1.trans ?_, (h c).2.2⟩
      · rw [Cert.AttnFwd16RefIdeal.Read.val_main_v81_eq, e0]
        exact ref_O _
      · rw [Cert.AttnFwd16RefIdeal.Read.val_main_v84_eq, e0]
        exact ref_L _)
      (Cert.AttnFwd16RefIdeal.Value.run (F := Ideal) m' ρ')⟩

end Cert.AttnFwd16Proof
end
-- ==== Proof.AttnFwd4Block.lean ====
/- One grid point of the dilated attention over every 4th token: what its blocks hold after the body. -/
module
public import proofs.«01_k».proof.Proof.Gen.AttnFwd4Ideal.Value
public import proofs.«01_k».proof.Proof.AttnSpec
public import Idealize.ShloMosaic.Lib.Pipeline.ValueKit
public import Idealize.ShloMosaic.Lib.Pipeline.ReadBack
public import Idealize.ShloMosaic.Lib.ValueIdx
public import Idealize.ShloMosaic.Lib.Pointwise
@[expose] public section
set_option maxRecDepth 16384
noncomputable section
namespace Cert.AttnFwd4Proof
open Cert.Mem Cert.Attn Cert.AttnFwd4Ideal Cert.AttnFwd4Ideal.Gen Idealize.ShloMosaic Idealize.ShloMosaic.TcCoe Idealize.SL.Sem
open Idealize.ShloMosaic.Pipeline (Dat)

/-! ### One head of one block of 128 queries, on whole tiles -/

/-- A tile as the products take it. -/
def cw (x : Vec Ideal S128x128 .bf16) : FVec Ideal S128x128 .bf16 := shapeCast S128x128 x shapeCasts_S128x128_S128x128

/-- The scores of a tile of queries against a tile of keys, left out where `b` is not set. -/
def scr (b : IVec S128x128 1) (q k : FVec Ideal S128x128 .bf16) : FVec Ideal S128x128 .f32 :=
  select b (mulf (matmul dot_S128x128_S128x128_S128x128_1_1_0_0_n_n none q k (constant S128x128 .f32 0x00000000#32))
    (broadcast S128x128 (Scalar.ofBits .f32 0x3DB504F3#32))) (broadcast S128x128 (Named.named κ "neg" 0xF149F2CA#32))

/-- The largest score of each row of either tile. -/
def mxv (s t : FVec Ideal S128x128 .f32) : FVec Ideal S128x1 .f32 :=
  maximumf (shapeCast S128x1 (multiReduction .maximumf [1] S128 s 0xFF800000#32 reduces_S128x128_S128 (.inl rfl) rfl) shapeCasts_S128_S128x1)
    (shapeCast S128x1 (multiReduction .maximumf [1] S128 t 0xFF800000#32 reduces_S128x128_S128 (.inl rfl) rfl) shapeCasts_S128_S128x1)

/-- The exponentials of the tile `x`, shifted by the largest score. -/
def exv (s t x : FVec Ideal S128x128 .f32) : FVec Ideal S128x128 .f32 :=
  exp (subf x (broadcastTo S128x128 (mxv s t) broadcasts_S128x1_S128x128))

/-- The sum of the exponentials of each row. -/
def smv (s t : FVec Ideal S128x128 .f32) : FVec Ideal S128x1 .f32 :=
  addf (shapeCast S128x1 (multiReduction .add [1] S128 (exv s t s) 0x00000000#32 reduces_S128x128_S128 (.inl rfl) rfl) shapeCasts_S128_S128x1)
    (shapeCast S128x1 (multiReduction .add [1] S128 (exv s t t) 0x00000000#32 reduces_S128x128_S128 (.inl rfl) rfl) shapeCasts_S128_S128x1)

/-- The weighted values. -/
def outv (s t : FVec Ideal S128x128 .f32) (v w : FVec Ideal S128x128 .bf16) : FVec Ideal S128x128 .f32 :=
  divf (addf (matmul dot_S128x128_S128x128_S128x128_1_0_0_1_n_n none (truncf .bf16 (exv s t s) bitsLt_bf16_f32) v (constant S128x128 .f32 0x00000000#32))
    (matmul dot_S128x128_S128x128_S128x128_1_0_0_1_n_n none (truncf .bf16 (exv s t t) bitsLt_bf16_f32) w (constant S128x128 .f32 0x00000000#32)))
    (broadcastTo S128x128 (smv s t) broadcasts_S128x1_S128x128)

/-- The logarithm of the sum of the exponentials. -/
def lsev (s t : FVec Ideal S128x128 .f32) : FVec Ideal S128x128 .f32 :=
  broadcastTo S128x128 (shapeCast S128x1 (addf (mxv s t) (log (smv s t))) shapeCasts_S128x1_S128x1) broadcasts_S128x1_S128x128

/-- The constant that stands for a score left out is `⊥`. -/
theorem neg_eq : Named.named (F := Ideal) κ "neg" (φ := .f32) 0xF149F2CA#32 = (⊥ : EReal) :=
  IdealRules.named_const.ideal_named_scalar _ _ _ _ rfl

theorem cw_apply (x : Vec Ideal S128x128 .bf16) (r d : Fin 128) : cw x (ix2 r d) = x (ix2 r d) := by
  pointwise [cw]

section
variable (b : IVec S128x128 1) (q k : FVec Ideal S128x128 .bf16) (s t x : FVec Ideal S128x128 .f32) (v w : FVec Ideal S128x128 .bf16) (r j d : Fin 128)

theorem scr_apply : scr b q k (ix2 r j) = if b (ix2 r j) = 1#1 then (∑ d, q (ix2 r d) * k (ix2 j d)) * kap else ⊥ := by
  pointwise [scr]
  rw [neg_eq]
  rfl

theorem mxv_apply : mxv s t (ix2 r 0) = top (fun j => s (ix2 r j)) fun j => t (ix2 r j) := by
  pointwise [mxv]
  rfl

theorem exv_apply : exv s t x (ix2 r j) = wt (fun j => s (ix2 r j)) (fun j => t (ix2 r j)) (x (ix2 r j)) := by
  pointwise [exv]
  rw [mxv_apply]
  rfl

theorem smv_apply : smv s t (ix2 r 0) = den (fun j => s (ix2 r j)) fun j => t (ix2 r j) := by
  pointwise [smv]
  simp only [exv_apply]
  rfl

theorem outv_apply : outv s t v w (ix2 r d)
    = att (fun j => s (ix2 r j)) (fun j => t (ix2 r j)) (fun j => v (ix2 j d)) fun j => w (ix2 j d) := by
  pointwise [outv]
  simp only [exv_apply, smv_apply]
  rfl

theorem lsev_apply : lsev s t (ix2 r d) = lse (fun j => s (ix2 r j)) fun j => t (ix2 r j) := by
  pointwise [lsev]
  simp only [mxv_apply, smv_apply]
  rfl
end

/-! ### The masks -/

theorem mask_own (r j : Fin 128) : k0_pay1 (ix2 r j) = 1#1 ↔ j.val ≤ r.val := by
  pointwise [k0_pay1]
  revert r j
  decide +kernel

theorem mask_before (r j : Fin 128) : k0_pay2 (ix2 r j) = 1#1 ↔ r.val ≤ j.val := by
  pointwise [k0_pay2]
  revert r j
  decide +kernel

theorem mask_first (i : grid0.Coords) (r j : Fin 128) : k0_pay3 i (ix2 r j) = 1#1 ↔ r.val ≤ j.val ∧ 0 < (i 1).val := by
  have h : k0_pay3 i (ix2 r j) = k0_pay2 (ix2 r j) &&& Scalar.cmpi .sgt (BitVec.ofNat 32 (i 1).val) 0#32 := rfl
  have g : ∀ n : Fin 2, Scalar.cmpi .sgt (BitVec.ofNat 32 n.val) 0#32 = if 0 < n.val then 1#1 else 0#1 := by decide +kernel
  rw [h, ← mask_before, g (i 1)]
  generalize k0_pay2 (ix2 r j) = x
  by_cases hn : 0 < (i 1).val
  · rw [if_pos hn]
    simp only [hn, and_true]
    revert x
    decide
  · rw [if_neg hn]
    simp only [hn, and_false]
    revert x
    decide

/-! ### The point's blocks -/

/-- Row `r` of block `s` of the point's 4 blocks. -/
def rw' (s : Fin 4) (r : Fin 128) : Fin 512 := ⟨128 * s.val + r.val, by omega⟩

/-- Column `d` of head `h` of the point's four heads. -/
def cl (h : Fin 4) (d : Fin 128) : Fin 512 := ⟨128 * h.val + d.val, by omega⟩

section
variable (i : grid0.Coords) (x0 : Vec Ideal S512x512 .bf16) (x1 : Vec Ideal S512x512 .bf16) (x2 : Vec Ideal S128x512 .bf16)
  (x3 : Vec Ideal S512x512 .bf16) (x4 : Vec Ideal S128x512 .bf16)

/-- A head's tile of block `s`. -/
def here (x : Vec Ideal S512x512 .bf16) (s : Fin 4) (h : Fin 4) (r d : Fin 128) : EReal := x (ix2 (rw' s r) (cl h d))

/-- A head's tile of the block before block `s`: the point's own, or for the first the window on the row before. -/
def prev (x : Vec Ideal S512x512 .bf16) (xp : Vec Ideal S128x512 .bf16) (s : Fin 4) (h : Fin 4) (r d : Fin 128) : EReal :=
  if s.val = 0 then xp (ix2 r (cl h d)) else x (ix2 (rw' ⟨s.val - 1, by omega⟩ r) (cl h d))

/-- The scores of row `r` of block `s` against its own block. -/
def sO (s : Fin 4) (h : Fin 4) (r : Fin 128) : Fin 128 → EReal := own (here x0 s h r) (here x1 s h) r

/-- The scores of row `r` of block `s` against the block before. -/
def sB (s : Fin 4) (h : Fin 4) (r : Fin 128) : Fin 128 → EReal :=
  before (0 < s.val ∨ 0 < (i 1).val) (here x0 s h r) (prev x1 x2 s h) r

/-- The weighted values a point writes at row `r`, column `d` of head `h` of block `s`. -/
def oAt (s : Fin 4) (h : Fin 4) (r d : Fin 128) : EReal :=
  att (sO x0 x1 s h r) (sB i x0 x1 x2 s h r) (fun j => here x3 s h j d) fun j => prev x3 x4 s h j d

/-- The logarithm a point writes there. -/
def lAt (s : Fin 4) (h : Fin 4) (r : Fin 128) : EReal := lse (sO x0 x1 s h r) (sB i x0 x1 x2 s h r)

/-- The block of weighted values. -/
def blkO : Vec Ideal S512x512 .f32 := fun y =>
  oAt i x0 x1 x2 x3 x4 ⟨(y 0).val / 128, by have := (y 0).isLt; simp at this; omega⟩ ⟨(y 1).val / 128, by have := (y 1).isLt; simp at this; omega⟩
    ⟨(y 0).val % 128, by omega⟩ ⟨(y 1).val % 128, by omega⟩

/-- The block of logarithms. -/
def blkL : Vec Ideal S512x512 .f32 := fun y =>
  lAt i x0 x1 x2 ⟨(y 0).val / 128, by have := (y 0).isLt; simp at this; omega⟩ ⟨(y 1).val / 128, by have := (y 1).isLt; simp at this; omega⟩
    ⟨(y 0).val % 128, by omega⟩

theorem blkO_at (s : Fin 4) (h : Fin 4) (r d : Fin 128) :
    blkO i x0 x1 x2 x3 x4 (ix2 (rw' s r) (cl h d)) = oAt i x0 x1 x2 x3 x4 s h r d := by
  have e0 : (⟨(rw' s r).val / 128, by omega⟩ : Fin 4) = s := Fin.ext (by simp only [rw']; omega)
  have e1 : (⟨(cl h d).val / 128, by omega⟩ : Fin 4) = h := Fin.ext (by simp only [cl]; omega)
  have e2 : (⟨(rw' s r).val % 128, by omega⟩ : Fin 128) = r := Fin.ext (by simp only [rw']; omega)
  have e3 : (⟨(cl h d).val % 128, by omega⟩ : Fin 128) = d := Fin.ext (by simp only [cl]; omega)
  show oAt i x0 x1 x2 x3 x4 ⟨(rw' s r).val / 128, _⟩ ⟨(cl h d).val / 128, _⟩ ⟨(rw' s r).val % 128, _⟩ ⟨(cl h d).val % 128, _⟩ = _
  rw [e0, e1, e2, e3]

theorem blkL_at (s : Fin 4) (h : Fin 4) (r d : Fin 128) :
    blkL i x0 x1 x2 (ix2 (rw' s r) (cl h d)) = lAt i x0 x1 x2 s h r := by
  have e0 : (⟨(rw' s r).val / 128, by omega⟩ : Fin 4) = s := Fin.ext (by simp only [rw']; omega)
  have e1 : (⟨(cl h d).val / 128, by omega⟩ : Fin 4) = h := Fin.ext (by simp only [cl]; omega)
  have e2 : (⟨(rw' s r).val % 128, by omega⟩ : Fin 128) = r := Fin.ext (by simp only [rw']; omega)
  show lAt i x0 x1 x2 ⟨(rw' s r).val / 128, _⟩ ⟨(cl h d).val / 128, _⟩ ⟨(rw' s r).val % 128, _⟩ = _
  rw [e0, e1, e2]

/-- Where a tile of 128 rows and columns puts its index. -/
theorem emb_tile {n a b : ℕ} (inb : ∀ k, (![a, b] : Fin 2 → ℕ) k + (![128, 128] : Fin 2 → ℕ) k ≤ (![n, 512] : Fin 2 → ℕ) k)
    (r d : Fin 128) (y : Fin n) (z : Fin 512) (hy : y.val = a + r.val) (hz : z.val = b + d.val) :
    (Rect.unit (s := ⟨2, ![n, 512]⟩) ![a, b] ![128, 128] inb).emb (ix2 r d) = (ix2 y z : (⟨2, ![n, 512]⟩ : Shape).Idx) := by
  refine funext fun k => Fin.ext ?_
  fin_cases k
  · simpa [Rect.emb, Rect.unit] using hy.symm
  · simpa [Rect.emb, Rect.unit] using hz.symm

/-- The scores of a tile of the first block against the block before. -/
theorem sB_zero (h : Fin 4) (r j : Fin 128) (q k : FVec Ideal S128x128 .bf16) (hq : ∀ r d, q (ix2 r d) = here x0 0 h r d)
    (hk : ∀ r d, k (ix2 r d) = x2 (ix2 r (cl h d))) : scr (k0_pay3 i) q k (ix2 r j) = sB i x0 x1 x2 0 h r j := by
  rw [scr_apply]
  unfold sB before
  simp only [mask_first, hq, hk]
  unfold prev
  simp

/-- The scores of a tile of a later block against the block before. -/
theorem sB_succ (s : Fin 4) (hs : 0 < s.val) (h : Fin 4) (r j : Fin 128) (q k : FVec Ideal S128x128 .bf16)
    (hq : ∀ r d, q (ix2 r d) = here x0 s h r d) (hk : ∀ r d, k (ix2 r d) = x1 (ix2 (rw' ⟨s.val - 1, by omega⟩ r) (cl h d))) :
    scr k0_pay2 q k (ix2 r j) = sB i x0 x1 x2 s h r j := by
  rw [scr_apply]
  unfold sB before
  simp only [mask_before, hq, hk]
  unfold prev
  simp only [if_neg (Nat.ne_of_gt hs), hs, true_or, and_true]

/-- The scores of a tile against its own block. -/
theorem sO_at (s : Fin 4) (h : Fin 4) (r j : Fin 128) (q k : FVec Ideal S128x128 .bf16)
    (hq : ∀ r d, q (ix2 r d) = here x0 s h r d) (hk : ∀ r d, k (ix2 r d) = here x1 s h r d) :
    scr k0_pay1 q k (ix2 r j) = sO x0 x1 s h r j := by
  rw [scr_apply]
  unfold sO own
  simp only [mask_own, hq, hk]

section
variable (h : Fin 4) {a b a' : ℕ} (inb : ∀ k, (![a, b] : Fin 2 → ℕ) k + S128x128.size k ≤ S512x512.size k)

theorem ld_here (x : Vec Ideal S512x512 .bf16) (s : Fin 4) (ha : a = 128 * s.val) (hb : b = 128 * h.val) (r d : Fin 128) :
    cw (View.ld x (Rect.unit ![a, b] S128x128.size inb)) (ix2 r d) = here x s h r d :=
  (cw_apply _ r d).trans (congrArg x (emb_tile inb r d _ _ (by simp only [rw']; omega) (by simp only [cl]; omega)))

theorem ld_prev (x : Vec Ideal S128x512 .bf16) (inp : ∀ k, (![0, b] : Fin 2 → ℕ) k + S128x128.size k ≤ S128x512.size k)
    (hb : b = 128 * h.val) (r d : Fin 128) :
    cw (View.ld x (Rect.unit ![0, b] S128x128.size inp)) (ix2 r d) = x (ix2 r (cl h d)) :=
  (cw_apply _ r d).trans (congrArg x (emb_tile inp r d _ _ (by omega) (by simp only [cl]; omega)))
end

section
variable (h : Fin 4) {b : ℕ} (inb : ∀ k, (![0, b] : Fin 2 → ℕ) k + S128x128.size k ≤ S512x512.size k)
  (inp : ∀ k, (![0, b] : Fin 2 → ℕ) k + S128x128.size k ≤ S128x512.size k) (hb : b = 128 * h.val) (x : S128x128.Idx)
include hb

/-- A tile of the first block's weighted values. -/
theorem pieceO0 : outv (scr k0_pay1 (cw (View.ld x0 (Rect.unit ![0, b] S128x128.size inb))) (cw (View.ld x1 (Rect.unit ![0, b] S128x128.size inb))))
      (scr (k0_pay3 i) (cw (View.ld x0 (Rect.unit ![0, b] S128x128.size inb))) (cw (View.ld x2 (Rect.unit ![0, b] S128x128.size inp))))
      (cw (View.ld x3 (Rect.unit ![0, b] S128x128.size inb))) (cw (View.ld x4 (Rect.unit ![0, b] S128x128.size inp))) x
    = blkO i x0 x1 x2 x3 x4 ((Rect.unit (s := S512x512) ![0, b] S128x128.size inb).emb x) := by
  obtain ⟨r, d, rfl⟩ : ∃ (r d : Fin 128), x = ix2 r d := ⟨x 0, x 1, eq_ix2 x⟩
  refine Eq.trans ?_ (congrArg (blkO i x0 x1 x2 x3 x4) (emb_tile inb r d (rw' 0 r) (cl h d) (by simp [rw']) (by simp only [cl]; omega)).symm)
  rw [blkO_at, outv_apply]
  unfold oAt
  congr 1
  · exact funext fun j => sO_at x0 x1 0 h r j _ _ (ld_here h inb x0 0 rfl hb) (ld_here h inb x1 0 rfl hb)
  · exact funext fun j => sB_zero i x0 x1 x2 h r j _ _ (ld_here h inb x0 0 rfl hb) (ld_prev h x2 inp hb)
  · exact funext fun j => ld_here h inb x3 0 rfl hb j d
  · exact funext fun j => (ld_prev h x4 inp hb j d).trans (if_pos rfl).symm

/-- A tile of the first block's logarithms. -/
theorem pieceL0 : lsev (scr k0_pay1 (cw (View.ld x0 (Rect.unit ![0, b] S128x128.size inb))) (cw (View.ld x1 (Rect.unit ![0, b] S128x128.size inb))))
      (scr (k0_pay3 i) (cw (View.ld x0 (Rect.unit ![0, b] S128x128.size inb))) (cw (View.ld x2 (Rect.unit ![0, b] S128x128.size inp)))) x
    = blkL i x0 x1 x2 ((Rect.unit (s := S512x512) ![0, b] S128x128.size inb).emb x) := by
  obtain ⟨r, d, rfl⟩ : ∃ (r d : Fin 128), x = ix2 r d := ⟨x 0, x 1, eq_ix2 x⟩
  refine Eq.trans ?_ (congrArg (blkL i x0 x1 x2) (emb_tile inb r d (rw' 0 r) (cl h d) (by simp [rw']) (by simp only [cl]; omega)).symm)
  rw [blkL_at, lsev_apply]
  unfold lAt
  congr 1
  · exact funext fun j => sO_at x0 x1 0 h r j _ _ (ld_here h inb x0 0 rfl hb) (ld_here h inb x1 0 rfl hb)
  · exact funext fun j => sB_zero i x0 x1 x2 h r j _ _ (ld_here h inb x0 0 rfl hb) (ld_prev h x2 inp hb)
end

section
variable (s : Fin 4) (h : Fin 4) (hs : 0 < s.val) {a a' b : ℕ} (inb : ∀ k, (![a, b] : Fin 2 → ℕ) k + S128x128.size k ≤ S512x512.size k)
  (inp : ∀ k, (![a', b] : Fin 2 → ℕ) k + S128x128.size k ≤ S512x512.size k) (ha : a = 128 * s.val) (hp : a' = 128 * (s.val - 1))
  (hb : b = 128 * h.val) (x : S128x128.Idx)
include hs ha hp hb

/-- A tile of a later block's weighted values. -/
theorem pieceO1 : outv (scr k0_pay1 (cw (View.ld x0 (Rect.unit ![a, b] S128x128.size inb))) (cw (View.ld x1 (Rect.unit ![a, b] S128x128.size inb))))
      (scr k0_pay2 (cw (View.ld x0 (Rect.unit ![a, b] S128x128.size inb))) (cw (View.ld x1 (Rect.unit ![a', b] S128x128.size inp))))
      (cw (View.ld x3 (Rect.unit ![a, b] S128x128.size inb))) (cw (View.ld x3 (Rect.unit ![a', b] S128x128.size inp))) x
    = blkO i x0 x1 x2 x3 x4 ((Rect.unit (s := S512x512) ![a, b] S128x128.size inb).emb x) := by
  obtain ⟨r, d, rfl⟩ : ∃ (r d : Fin 128), x = ix2 r d := ⟨x 0, x 1, eq_ix2 x⟩
  refine Eq.trans ?_ (congrArg (blkO i x0 x1 x2 x3 x4) (emb_tile inb r d (rw' s r) (cl h d) (by simp only [rw']; omega) (by simp only [cl]; omega)).symm)
  rw [blkO_at, outv_apply]
  unfold oAt
  congr 1
  · exact funext fun j => sO_at x0 x1 s h r j _ _ (ld_here h inb x0 s ha hb) (ld_here h inb x1 s ha hb)
  · exact funext fun j => sB_succ i x0 x1 x2 s hs h r j _ _ (ld_here h inb x0 s ha hb) (ld_here h inp x1 _ hp hb)
  · exact funext fun j => ld_here h inb x3 s ha hb j d
  · exact funext fun j => (ld_here h inp x3 _ hp hb j d).trans (if_neg (Nat.ne_of_gt hs)).symm

/-- A tile of a later block's logarithms. -/
theorem pieceL1 : lsev (scr k0_pay1 (cw (View.ld x0 (Rect.unit ![a, b] S128x128.size inb))) (cw (View.ld x1 (Rect.unit ![a, b] S128x128.size inb))))
      (scr k0_pay2 (cw (View.ld x0 (Rect.unit ![a, b] S128x128.size inb))) (cw (View.ld x1 (Rect.unit ![a', b] S128x128.size inp)))) x
    = blkL i x0 x1 x2 ((Rect.unit (s := S512x512) ![a, b] S128x128.size inb).emb x) := by
  obtain ⟨r, d, rfl⟩ : ∃ (r d : Fin 128), x = ix2 r d := ⟨x 0, x 1, eq_ix2 x⟩
  refine Eq.trans ?_ (congrArg (blkL i x0 x1 x2) (emb_tile inb r d (rw' s r) (cl h d) (by simp only [rw']; omega) (by simp only [cl]; omega)).symm)
  rw [blkL_at, lsev_apply]
  unfold lAt
  congr 1
  · exact funext fun j => sO_at x0 x1 s h r j _ _ (ld_here h inb x0 s ha hb) (ld_here h inb x1 s ha hb)
  · exact funext fun j => sB_succ i x0 x1 x2 s hs h r j _ _ (ld_here h inb x0 s ha hb) (ld_here h inp x1 _ hp hb)
end

/-- The block of weighted values the body leaves. -/
theorem out_O (y : S512x512.Idx) : out0_5 (F := Ideal) i x0 x1 x2 x3 x4 y = blkO i x0 x1 x2 x3 x4 y := by
  unfold out0_5
  refine View.canon_apply_of_pieces (blkO i x0 x1 x2 x3 x4) _ ?_ y (cover0_5 _ _ _ _ _ _ _ _ _ _ _ _ _ _ _ _ y)
  refine View.PiecesOf.mem (Val := Elt Ideal) (s := S512x512) (e := .f32) (G := blkO i x0 x1 x2 x3 x4) ?_
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact pieceO1 i x0 x1 x2 x3 x4 3 3 (by decide) inb_S512x512_S128x128_384_384 inb_S512x512_S128x128_256_384 rfl rfl rfl x
  · exact pieceO1 i x0 x1 x2 x3 x4 3 2 (by decide) inb_S512x512_S128x128_384_256 inb_S512x512_S128x128_256_256 rfl rfl rfl x
  · exact pieceO1 i x0 x1 x2 x3 x4 3 1 (by decide) inb_S512x512_S128x128_384_128 inb_S512x512_S128x128_256_128 rfl rfl rfl x
  · exact pieceO1 i x0 x1 x2 x3 x4 3 0 (by decide) inb_S512x512_S128x128_384_0 inb_S512x512_S128x128_256_0 rfl rfl rfl x
  · exact pieceO1 i x0 x1 x2 x3 x4 2 3 (by decide) inb_S512x512_S128x128_256_384 inb_S512x512_S128x128_128_384 rfl rfl rfl x
  · exact pieceO1 i x0 x1 x2 x3 x4 2 2 (by decide) inb_S512x512_S128x128_256_256 inb_S512x512_S128x128_128_256 rfl rfl rfl x
  · exact pieceO1 i x0 x1 x2 x3 x4 2 1 (by decide) inb_S512x512_S128x128_256_128 inb_S512x512_S128x128_128_128 rfl rfl rfl x
  · exact pieceO1 i x0 x1 x2 x3 x4 2 0 (by decide) inb_S512x512_S128x128_256_0 inb_S512x512_S128x128_128_0 rfl rfl rfl x
  · exact pieceO1 i x0 x1 x2 x3 x4 1 3 (by decide) inb_S512x512_S128x128_128_384 inb_S512x512_S128x128_0_384 rfl rfl rfl x
  · exact pieceO1 i x0 x1 x2 x3 x4 1 2 (by decide) inb_S512x512_S128x128_128_256 inb_S512x512_S128x128_0_256 rfl rfl rfl x
  · exact pieceO1 i x0 x1 x2 x3 x4 1 1 (by decide) inb_S512x512_S128x128_128_128 inb_S512x512_S128x128_0_128 rfl rfl rfl x
  · exact pieceO1 i x0 x1 x2 x3 x4 1 0 (by decide) inb_S512x512_S128x128_128_0 inb_S512x512_S128x128_0_0 rfl rfl rfl x
  · exact pieceO0 i x0 x1 x2 x3 x4 3 inb_S512x512_S128x128_0_384 inb_S128x512_S128x128_0_384 rfl x
  · exact pieceO0 i x0 x1 x2 x3 x4 2 inb_S512x512_S128x128_0_256 inb_S128x512_S128x128_0_256 rfl x
  · exact pieceO0 i x0 x1 x2 x3 x4 1 inb_S512x512_S128x128_0_128 inb_S128x512_S128x128_0_128 rfl x
  · exact pieceO0 i x0 x1 x2 x3 x4 0 inb_S512x512_S128x128_0_0 inb_S128x512_S128x128_0_0 rfl x

/-- The block of logarithms the body leaves. -/
theorem out_L (y : S512x512.Idx) : out0_6 (F := Ideal) i x0 x1 x2 x3 x4 y = blkL i x0 x1 x2 y := by
  unfold out0_6
  refine View.canon_apply_of_pieces (blkL i x0 x1 x2) _ ?_ y (cover0_6 _ _ _ _ _ _ _ _ _ _ _ _ _ _ _ _ y)
  refine View.PiecesOf.mem (Val := Elt Ideal) (s := S512x512) (e := .f32) (G := blkL i x0 x1 x2) ?_
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact pieceL1 i x0 x1 x2 3 3 (by decide) inb_S512x512_S128x128_384_384 inb_S512x512_S128x128_256_384 rfl rfl rfl x
  · exact pieceL1 i x0 x1 x2 3 2 (by decide) inb_S512x512_S128x128_384_256 inb_S512x512_S128x128_256_256 rfl rfl rfl x
  · exact pieceL1 i x0 x1 x2 3 1 (by decide) inb_S512x512_S128x128_384_128 inb_S512x512_S128x128_256_128 rfl rfl rfl x
  · exact pieceL1 i x0 x1 x2 3 0 (by decide) inb_S512x512_S128x128_384_0 inb_S512x512_S128x128_256_0 rfl rfl rfl x
  · exact pieceL1 i x0 x1 x2 2 3 (by decide) inb_S512x512_S128x128_256_384 inb_S512x512_S128x128_128_384 rfl rfl rfl x
  · exact pieceL1 i x0 x1 x2 2 2 (by decide) inb_S512x512_S128x128_256_256 inb_S512x512_S128x128_128_256 rfl rfl rfl x
  · exact pieceL1 i x0 x1 x2 2 1 (by decide) inb_S512x512_S128x128_256_128 inb_S512x512_S128x128_128_128 rfl rfl rfl x
  · exact pieceL1 i x0 x1 x2 2 0 (by decide) inb_S512x512_S128x128_256_0 inb_S512x512_S128x128_128_0 rfl rfl rfl x
  · exact pieceL1 i x0 x1 x2 1 3 (by decide) inb_S512x512_S128x128_128_384 inb_S512x512_S128x128_0_384 rfl rfl rfl x
  · exact pieceL1 i x0 x1 x2 1 2 (by decide) inb_S512x512_S128x128_128_256 inb_S512x512_S128x128_0_256 rfl rfl rfl x
  · exact pieceL1 i x0 x1 x2 1 1 (by decide) inb_S512x512_S128x128_128_128 inb_S512x512_S128x128_0_128 rfl rfl rfl x
  · exact pieceL1 i x0 x1 x2 1 0 (by decide) inb_S512x512_S128x128_128_0 inb_S512x512_S128x128_0_0 rfl rfl rfl x
  · exact pieceL0 i x0 x1 x2 3 inb_S512x512_S128x128_0_384 inb_S128x512_S128x128_0_384 rfl x
  · exact pieceL0 i x0 x1 x2 2 inb_S512x512_S128x128_0_256 inb_S128x512_S128x128_0_256 rfl x
  · exact pieceL0 i x0 x1 x2 1 inb_S512x512_S128x128_0_128 inb_S128x512_S128x128_0_128 rfl x
  · exact pieceL0 i x0 x1 x2 0 inb_S512x512_S128x128_0_0 inb_S128x512_S128x128_0_0 rfl x
end

end Cert.AttnFwd4Proof
end
-- ==== Proof.AttnFwd4Value.lean ====
/- The dilated attention over every 4th token: what the kernel's two results hold. -/
module
public import proofs.«01_k».proof.Proof.AttnFwd4Block
@[expose] public section
set_option maxRecDepth 16384
noncomputable section
namespace Cert.AttnFwd4Proof
open Cert.Mem Cert.Attn Cert.AttnFwd4Ideal Cert.AttnFwd4Ideal.Gen Idealize.ShloMosaic Idealize.ShloMosaic.TcCoe Idealize.SL.Sem
open Idealize.ShloMosaic.Pipeline (Dat)

/-- Part `part` (queries, keys, values) of head `h` of token `j` of block `n` of the sequence of every 4th token from `ρ` on. -/
def tok (P : Vec Ideal S4096x3072 .bf16) (ρ : Fin 4) (part : Fin 3) (h : Fin 8) (n : Fin 8) (j d : Fin 128) : EReal :=
  P (ix2 ⟨(128 * n.val + j.val) * 4 + ρ.val, by omega⟩ ⟨1024 * part.val + (128 * h.val + d.val), by omega⟩)

/-- The block before. -/
def pre (n : Fin 8) : Fin 8 := ⟨n.val - 1, by omega⟩

section
variable (P : Vec Ideal S4096x3072 .bf16) (ρ : Fin 4) (h : Fin 8) (n : Fin 8) (r d : Fin 128)

/-- The scores of a token against its own block. -/
def sOwn : Fin 128 → EReal := own (tok P ρ 0 h n r) (tok P ρ 1 h n) r

/-- The scores of a token against the block before. -/
def sBef : Fin 128 → EReal := before (0 < n.val) (tok P ρ 0 h n r) (tok P ρ 1 h (pre n)) r

/-- The attention of a token: the values of both blocks, weighted by the softmax of the scores. -/
def attT : EReal := att (sOwn P ρ h n r) (sBef P ρ h n r) (fun j => tok P ρ 2 h n j d) fun j => tok P ρ 2 h (pre n) j d

/-- The logarithm of the sum of the exponentials of its scores. -/
def lseT : EReal := lse (sOwn P ρ h n r) (sBef P ρ h n r)
end

/-- The first result: every token's attention. -/
def resO (P : Vec Ideal S4096x3072 .bf16) : Vec Ideal S1024x4096 .f32 := fun y =>
  attT P ⟨(y 1).val / 1024, by have := (y 1).isLt; simp at this; omega⟩ ⟨(y 1).val % 1024 / 128, by omega⟩
    ⟨(y 0).val / 128, by have := (y 0).isLt; simp at this; omega⟩ ⟨(y 0).val % 128, by omega⟩ ⟨(y 1).val % 128, by omega⟩

/-- The second result: every token's logarithm, once for each of a head's 128 columns. -/
def resL (P : Vec Ideal S4096x3072 .bf16) : Vec Ideal S1024x4096 .f32 := fun y =>
  lseT P ⟨(y 1).val / 1024, by have := (y 1).isLt; simp at this; omega⟩ ⟨(y 1).val % 1024 / 128, by omega⟩
    ⟨(y 0).val / 128, by have := (y 0).isLt; simp at this; omega⟩ ⟨(y 0).val % 128, by omega⟩

/-- Row of token `j` of block `n` in the array the call reads. -/
def rowI (n : Fin 8) (j : Fin 128) : Fin 1024 := ⟨128 * n.val + j.val, by omega⟩

/-- Column of a head's part in the array the call reads. -/
def colI (ρ : Fin 4) (part : Fin 3) (h : Fin 8) (d : Fin 128) : Fin 12288 :=
  ⟨ρ.val * 3072 + (1024 * part.val + (128 * h.val + d.val)), by omega⟩

/-- Column of a head in the results. -/
def colR (ρ : Fin 4) (h : Fin 8) (d : Fin 128) : Fin 4096 := ⟨ρ.val * 1024 + (128 * h.val + d.val), by omega⟩

theorem resO_at (P : Vec Ideal S4096x3072 .bf16) (ρ : Fin 4) (h : Fin 8) (n : Fin 8) (r d : Fin 128) :
    resO P (ix2 (rowI n r) (colR ρ h d)) = attT P ρ h n r d := by
  have e0 : (⟨(colR ρ h d).val / 1024, by omega⟩ : Fin 4) = ρ := Fin.ext (by simp only [colR]; omega)
  have e1 : (⟨(colR ρ h d).val % 1024 / 128, by omega⟩ : Fin 8) = h := Fin.ext (by simp only [colR]; omega)
  have e2 : (⟨(rowI n r).val / 128, by omega⟩ : Fin 8) = n := Fin.ext (by simp only [rowI]; omega)
  have e3 : (⟨(rowI n r).val % 128, by omega⟩ : Fin 128) = r := Fin.ext (by simp only [rowI]; omega)
  have e4 : (⟨(colR ρ h d).val % 128, by omega⟩ : Fin 128) = d := Fin.ext (by simp only [colR]; omega)
  show attT P ⟨(colR ρ h d).val / 1024, _⟩ ⟨(colR ρ h d).val % 1024 / 128, _⟩ ⟨(rowI n r).val / 128, _⟩ ⟨(rowI n r).val % 128, _⟩ ⟨(colR ρ h d).val % 128, _⟩ = _
  rw [e0, e1, e2, e3, e4]

theorem resL_at (P : Vec Ideal S4096x3072 .bf16) (ρ : Fin 4) (h : Fin 8) (n : Fin 8) (r d : Fin 128) :
    resL P (ix2 (rowI n r) (colR ρ h d)) = lseT P ρ h n r := by
  have e0 : (⟨(colR ρ h d).val / 1024, by omega⟩ : Fin 4) = ρ := Fin.ext (by simp only [colR]; omega)
  have e1 : (⟨(colR ρ h d).val % 1024 / 128, by omega⟩ : Fin 8) = h := Fin.ext (by simp only [colR]; omega)
  have e2 : (⟨(rowI n r).val / 128, by omega⟩ : Fin 8) = n := Fin.ext (by simp only [rowI]; omega)
  have e3 : (⟨(rowI n r).val % 128, by omega⟩ : Fin 128) = r := Fin.ext (by simp only [rowI]; omega)
  show lseT P ⟨(colR ρ h d).val / 1024, _⟩ ⟨(colR ρ h d).val % 1024 / 128, _⟩ ⟨(rowI n r).val / 128, _⟩ ⟨(rowI n r).val % 128, _⟩ = _
  rw [e0, e1, e2, e3]

/-! ### The points' blocks in the arrays -/

variable (m : (ℓ : Loc nD τ sig) → Buf (Elt Ideal) ℓ) (c : Dev nD)

/-- The argument. -/
abbrev aP : Vec Ideal S4096x3072 .bf16 := m ((c.tc : Thread nD τ).loc main_arg0)

theorem idx0 : ∀ t : Fin cfg0.N, win0_0.index t = ![t.val / 2 % 2, t.val / 4 * 6 + t.val % 2] := by decide +kernel
theorem idx1 : ∀ t : Fin cfg0.N, win0_1.index t = ![t.val / 2 % 2, t.val / 4 * 6 + 2 + t.val % 2] := by decide +kernel
theorem idx2 : ∀ t : Fin cfg0.N, win0_2.index t = ![t.val / 2 % 2 * 4 - 1, t.val / 4 * 6 + 2 + t.val % 2] := by decide +kernel
theorem idx3 : ∀ t : Fin cfg0.N, win0_3.index t = ![t.val / 2 % 2, t.val / 4 * 6 + 4 + t.val % 2] := by decide +kernel
theorem idx4 : ∀ t : Fin cfg0.N, win0_4.index t = ![t.val / 2 % 2 * 4 - 1, t.val / 4 * 6 + 4 + t.val % 2] := by decide +kernel
theorem idx5 : ∀ t : Fin cfg0.N, win0_5.index t = ![t.val / 2 % 2, t.val / 4 * 2 + t.val % 2] := by decide +kernel
theorem idx6 : ∀ t : Fin cfg0.N, win0_6.index t = ![t.val / 2 % 2, t.val / 4 * 2 + t.val % 2] := by decide +kernel
theorem crd1 : ∀ t : Fin cfg0.N, (grid0.coords t 1).val = t.val / 2 % 2 := by decide +kernel

theorem ltN (t : Fin cfg0.N) : t.val < 16 := lt_of_lt_of_eq t.isLt (show cfg0.N = 16 from N_0)

/-- The sequence of grid point `t`. -/
def rhoT (t : Fin cfg0.N) : Fin 4 := ⟨t.val / 4, by have := ltN t; omega⟩
/-- Its head `h`. -/
def hdT (t : Fin cfg0.N) (h : Fin 4) : Fin 8 := ⟨t.val % 2 * 4 + h.val, by omega⟩
/-- Its block `s`. -/
def bkT (t : Fin cfg0.N) (s : Fin 4) : Fin 8 := ⟨t.val / 2 % 2 * 4 + s.val, by omega⟩

/-- The argument's tokens, 4 of them to a row. -/
theorem castP (P : Vec Ideal S4096x3072 .bf16) (n : Fin 8) (j : Fin 128) (ρ : Fin 4) (part : Fin 3) (h : Fin 8) (d : Fin 128) :
    shapeCast S1024x12288 P shapeCasts_S4096x3072_S1024x12288 (ix2 (rowI n j) (colI ρ part h d)) = tok P ρ part h n j d :=
  shapeCast_apply P shapeCasts_S4096x3072_S1024x12288 _ _ (by
    rewrite [Shape.rowMajor_val_two, Shape.rowMajor_val_two]
    show ((128 * n.val + j.val) * 4 + ρ.val) * 3072 + (1024 * part.val + (128 * h.val + d.val))
      = (128 * n.val + j.val) * 12288 + (ρ.val * 3072 + (1024 * part.val + (128 * h.val + d.val)))
    omega)

/-- The array the call reads is the argument, 4 tokens to a row. -/
theorem src (n : Fin 8) (j : Fin 128) (ρ : Fin 4) (part : Fin 3) (h : Fin 8) (d : Fin 128) :
    V m c main_v0 (ix2 (rowI n j) (colI ρ part h d)) = tok (aP m c) ρ part h n j d := by
  have e : V m c main_v0 = shapeCast S1024x12288 (aP m c) shapeCasts_S4096x3072_S1024x12288 := by
    entry_read
    rfl
  rw [e]
  exact castP _ _ _ _ _ _ _

section
variable (t : Fin cfg0.N) (s : Fin 4) (h : Fin 4) (r d : Fin 128)

theorem blk0 : iblk m c 0 t (ix2 (rw' s r) (cl h d) : S512x512.Idx) = tok (aP m c) (rhoT t) 0 (hdT t h) (bkT t s) r d := by
  have h : iblk m c 0 t (ix2 (rw' s r) (cl h d) : S512x512.Idx) = V m c main_v0 (ix2 (rowI (bkT t s) r) (colI (rhoT t) 0 (hdT t h) d)) := by
    unfold iblk rw' cl rowI colI rhoT hdT bkT
    generalize V m c = f
    blk_ext [idx0 t]
  exact h.trans (src m c _ _ _ _ _ _)

theorem blk1 : iblk m c 1 t (ix2 (rw' s r) (cl h d) : S512x512.Idx) = tok (aP m c) (rhoT t) 1 (hdT t h) (bkT t s) r d := by
  have h : iblk m c 1 t (ix2 (rw' s r) (cl h d) : S512x512.Idx) = V m c main_v0 (ix2 (rowI (bkT t s) r) (colI (rhoT t) 1 (hdT t h) d)) := by
    unfold iblk rw' cl rowI colI rhoT hdT bkT
    generalize V m c = f
    blk_ext [idx1 t]
  exact h.trans (src m c _ _ _ _ _ _)

theorem blk3 : iblk m c 3 t (ix2 (rw' s r) (cl h d) : S512x512.Idx) = tok (aP m c) (rhoT t) 2 (hdT t h) (bkT t s) r d := by
  have h : iblk m c 3 t (ix2 (rw' s r) (cl h d) : S512x512.Idx) = V m c main_v0 (ix2 (rowI (bkT t s) r) (colI (rhoT t) 2 (hdT t h) d)) := by
    unfold iblk rw' cl rowI colI rhoT hdT bkT
    generalize V m c = f
    blk_ext [idx3 t]
  exact h.trans (src m c _ _ _ _ _ _)

theorem blk2 : iblk m c 2 t (ix2 r (cl h d) : S128x512.Idx) = tok (aP m c) (rhoT t) 1 (hdT t h) (pre (bkT t 0)) r d := by
  have h : iblk m c 2 t (ix2 r (cl h d) : S128x512.Idx) = V m c main_v0 (ix2 (rowI (pre (bkT t 0)) r) (colI (rhoT t) 1 (hdT t h) d)) := by
    unfold iblk cl rowI colI rhoT hdT pre bkT
    generalize V m c = f
    blk_ext [idx2 t]
  exact h.trans (src m c _ _ _ _ _ _)

theorem blk4 : iblk m c 4 t (ix2 r (cl h d) : S128x512.Idx) = tok (aP m c) (rhoT t) 2 (hdT t h) (pre (bkT t 0)) r d := by
  have h : iblk m c 4 t (ix2 r (cl h d) : S128x512.Idx) = V m c main_v0 (ix2 (rowI (pre (bkT t 0)) r) (colI (rhoT t) 2 (hdT t h) d)) := by
    unfold iblk cl rowI colI rhoT hdT pre bkT
    generalize V m c = f
    blk_ext [idx4 t]
  exact h.trans (src m c _ _ _ _ _ _)

theorem pre_bk (hs : ¬s.val = 0) : bkT t ⟨s.val - 1, by omega⟩ = pre (bkT t s) := Fin.ext (by simp only [bkT, pre]; omega)

theorem prev1 : prev (iblk m c 1 t) (iblk m c 2 t) s h r d = tok (aP m c) (rhoT t) 1 (hdT t h) (pre (bkT t s)) r d := by
  unfold prev
  split <;> rename_i hs
  · obtain rfl : s = 0 := Fin.ext hs
    exact blk2 m c t h r d
  · rw [← pre_bk t s hs]
    exact blk1 m c t _ h r d

theorem prev3 : prev (iblk m c 3 t) (iblk m c 4 t) s h r d = tok (aP m c) (rhoT t) 2 (hdT t h) (pre (bkT t s)) r d := by
  unfold prev
  split <;> rename_i hs
  · obtain rfl : s = 0 := Fin.ext hs
    exact blk4 m c t h r d
  · rw [← pre_bk t s hs]
    exact blk3 m c t _ h r d

/-- The point's scores are the tokens' scores. -/
theorem sO_tok : sO (iblk m c 0 t) (iblk m c 1 t) s h r = sOwn (aP m c) (rhoT t) (hdT t h) (bkT t s) r := by
  have e0 : here (iblk m c 0 t) s h r = tok (aP m c) (rhoT t) 0 (hdT t h) (bkT t s) r := funext fun d => blk0 m c t s h r d
  have e1 : here (iblk m c 1 t) s h = tok (aP m c) (rhoT t) 1 (hdT t h) (bkT t s) := funext fun r => funext fun d => blk1 m c t s h r d
  unfold sO sOwn
  rw [e0, e1]

theorem sB_tok : sB (grid0.coords t) (iblk m c 0 t) (iblk m c 1 t) (iblk m c 2 t) s h r = sBef (aP m c) (rhoT t) (hdT t h) (bkT t s) r := by
  have e0 : here (iblk m c 0 t) s h r = tok (aP m c) (rhoT t) 0 (hdT t h) (bkT t s) r := funext fun d => blk0 m c t s h r d
  have e1 : prev (iblk m c 1 t) (iblk m c 2 t) s h = tok (aP m c) (rhoT t) 1 (hdT t h) (pre (bkT t s)) :=
    funext fun r => funext fun d => prev1 m c t s h r d
  have hp : (0 < s.val ∨ 0 < (grid0.coords t 1).val) ↔ 0 < (bkT t s).val := by
    rw [crd1 t]
    simp only [bkT]
    omega
  unfold sB sBef
  rw [e0, e1]
  unfold before
  simp only [hp]

theorem o_tok : oAt (grid0.coords t) (iblk m c 0 t) (iblk m c 1 t) (iblk m c 2 t) (iblk m c 3 t) (iblk m c 4 t) s h r d
    = attT (aP m c) (rhoT t) (hdT t h) (bkT t s) r d := by
  unfold oAt attT
  rw [sO_tok, sB_tok]
  congr 1
  · exact funext fun j => blk3 m c t s h j d
  · exact funext fun j => prev3 m c t s h j d

theorem l_tok : lAt (grid0.coords t) (iblk m c 0 t) (iblk m c 1 t) (iblk m c 2 t) s h r = lseT (aP m c) (rhoT t) (hdT t h) (bkT t s) r := by
  unfold lAt lseT
  rw [sO_tok, sB_tok]

theorem emb5 : (win0_5.blk t).view.emb (ix2 (rw' s r) (cl h d) : S512x512.Idx) = ix2 (rowI (bkT t s) r) (colR (rhoT t) (hdT t h) d) := by
  unfold rw' cl rowI colR rhoT hdT bkT
  blk_ext [idx5 t]

theorem emb6 : (win0_6.blk t).view.emb (ix2 (rw' s r) (cl h d) : S512x512.Idx) = ix2 (rowI (bkT t s) r) (colR (rhoT t) (hdT t h) d) := by
  unfold rw' cl rowI colR rhoT hdT bkT
  blk_ext [idx6 t]
end

/-- Every index of a block is a row of one of its blocks of 128 and a column of one of its heads. -/
theorem idx_cases (y : S512x512.Idx) : ∃ (s : Fin 4) (h : Fin 4) (r d : Fin 128), y = ix2 (rw' s r) (cl h d) := by
  obtain ⟨a, b, rfl⟩ : ∃ (a : Fin 512) (b : Fin 512), y = ix2 a b := ⟨y 0, y 1, eq_ix2 y⟩
  refine ⟨⟨a.val / 128, by omega⟩, ⟨b.val / 128, by omega⟩, ⟨a.val % 128, by omega⟩, ⟨b.val % 128, by omega⟩, ?_⟩
  congr 1
  · exact Fin.ext (by simp only [rw']; omega)
  · exact Fin.ext (by simp only [cl]; omega)

theorem arr5 : (dats m 0 c).arrAt 5 cfg0.N = resO (aP m c) := by
  refine (dats m 0 c).arrAt_eq_of_covers 5 _ (by decide +kernel) fun t hf y => ?_
  blk_simp
  rw [after0_5]
  obtain ⟨s, h, r, d, rfl⟩ := idx_cases y
  exact ((out_O _ _ _ _ _ _ _).trans ((blkO_at _ _ _ _ _ _ s h r d).trans (o_tok m c t s h r d))).trans
    ((congrArg (resO (aP m c)) (emb5 t s h r d)).trans (resO_at _ _ _ _ _ _)).symm

theorem arr6 : (dats m 0 c).arrAt 6 cfg0.N = resL (aP m c) := by
  refine (dats m 0 c).arrAt_eq_of_covers 6 _ (by decide +kernel) fun t hf y => ?_
  blk_simp
  rw [after0_6]
  obtain ⟨s, h, r, d, rfl⟩ := idx_cases y
  exact ((out_L _ _ _ _ _ _ _).trans ((blkL_at _ _ _ _ s h r d).trans (l_tok m c t s h r))).trans
    ((congrArg (resL (aP m c)) (emb6 t s h r d)).trans (resL_at _ _ _ _ _ _)).symm

/-- The run of the kernel: its two results named, the argument unchanged. -/
theorem run_kernel (g : Dev nD → PrngReg) : θ_run defs (onTc (τ := τ) (main (F := Ideal))) ⟨m, fun _ => 0, g⟩ fun r => ∀ c : Dev nD,
      r.2.mem ((c : Thread nD τ).loc main_v1_0) = resO (aP m c)
      ∧ r.2.mem ((c : Thread nD τ).loc main_v1_1) = resL (aP m c)
      ∧ r.2.mem ((c : Thread nD τ).loc main_arg0) = m ((c : Thread nD τ).loc main_arg0) :=
  (θ_run defs _ _).mono (fun r h c => ⟨(h c).1.trans (arr5 m c), (h c).2.1.trans (arr6 m c), (h c).2.2⟩) (Value.run_blocks m g)

end Cert.AttnFwd4Proof
end
-- ==== Proof.AttnFwd4Proof.lean ====
/- The dilated attention over every 4th token: the kernel's two results are the reference's. -/
module
public import proofs.«01_k».proof.Proof.AttnFwd4Value
public import proofs.«01_k».proof.Proof.AttnMask
public import proofs.«01_k».proof.Defs
public import proofs.«01_k».proof.Proof.Gen.AttnFwd4RefIdeal.Read
public import Idealize.ShloMosaic.Lib.ValueIdxRank6
@[expose] public section
set_option maxRecDepth 16384
noncomputable section
namespace Cert.AttnFwd4Proof
open Cert.Mem Cert.Attn Cert.AttnFwd4Ideal Cert.AttnFwd4RefIdeal.Read Idealize.ShloMosaic Idealize.ShloMosaic.TcCoe Idealize.SL.Sem

/-- The sum over the last axis of the scores' array. -/
theorem sum_last (y : Vec Ideal Cert.AttnFwd4RefIdeal.S1x4x8x8x128x256 .f32) (ρ : Fin 4) (n : Fin 8) (h : Fin 8) (r : Fin 128) :
    Ideal.hostReduceAdd Cert.AttnFwd4RefIdeal.Gen.reducesTo_S1x4x8x8x128x256_S1x4x8x8x128_d5 y 0 (ix5 0 ρ n h r) = ∑ j, y (ix6 0 ρ n h r j) := by
  rw [Ideal.hostReduceAdd_single _ (by decide), zero_add]
  exact Finset.sum_congr rfl fun k _ => congrArg y (funext fun a => Fin.ext (by
    match a with | ⟨0, _⟩ => rfl | ⟨1, _⟩ => rfl | ⟨2, _⟩ => rfl | ⟨3, _⟩ => rfl | ⟨4, _⟩ => rfl | ⟨5, _⟩ => rfl))

/-- The largest along the last axis of the scores' array. -/
theorem max_last (y : Vec Ideal Cert.AttnFwd4RefIdeal.S1x4x8x8x128x256 .f32) (c : EReal) (ρ : Fin 4) (n : Fin 8) (h : Fin 8) (r : Fin 128) :
    Finset.fold max c y {i | Cert.AttnFwd4RefIdeal.Gen.reducesTo_S1x4x8x8x128x256_S1x4x8x8x128_d5.drop i = ix5 0 ρ n h r}
      = Finset.univ.fold max c fun j => y (ix6 0 ρ n h r j) := by
  have hR : Shape.Reduces Cert.AttnFwd4RefIdeal.S1x4x8x8x128x256 [5] Cert.AttnFwd4RefIdeal.S1x4x8x8x128 := by decide
  rw [Shape.ReducesTo.drop_eq_drop _ hR]
  refine (hR.fold_filter_drop_single _ _ y _).trans (congrArg (Finset.univ.fold max c) (funext fun k => ?_))
  exact congrArg y (funext fun a => Fin.ext (by
    match a with | ⟨0, _⟩ => rfl | ⟨1, _⟩ => rfl | ⟨2, _⟩ => rfl | ⟨3, _⟩ => rfl | ⟨4, _⟩ => rfl | ⟨5, _⟩ => rfl))

theorem mul_at (a b : EReal) : FloatOps.mulf (F := Ideal) (φ := .f32) a b = a * b := rfl

theorem attT_congr (P : Vec Ideal S4096x3072 .bf16) {ρ ρ' : Fin 4} {h h' : Fin 8} {n n' : Fin 8} {r r' d d' : Fin 128}
    (e : ρ = ρ') (f : h = h') (g : n = n') (k : r = r') (l : d = d') : attT P ρ h n r d = attT P ρ' h' n' r' d' := by
  subst e f g k l; rfl

theorem lseT_congr (P : Vec Ideal S4096x3072 .bf16) {ρ ρ' : Fin 4} {h h' : Fin 8} {n n' : Fin 8} {r r' : Fin 128}
    (e : ρ = ρ') (f : h = h') (g : n = n') (k : r = r') : lseT P ρ h n r = lseT P ρ' h' n' r' := by
  subst e f g k; rfl

section
variable (x0 : Vec Ideal S4096x3072 .bf16) (ρ : Fin 4) (n : Fin 8) (h : Fin 8) (r d : Fin 128)

/-- Two entries of the array of the projections at equal places. -/
theorem x_congr {a b : Fin 4096} {c e : Fin 3072} (hab : a.val = b.val) (hce : c.val = e.val) : x0 (ix2 a c) = x0 (ix2 b e) := by
  rw [Fin.ext hab, Fin.ext hce]

/-- The queries, by block and head. -/
theorem q_at : val_main_v11 (F := Ideal) x0 (ix6 0 ρ n r h d) = tok x0 ρ 0 h n r d := by
  pointwise [val_main_v11, val_main_v10, val_main_v9, val_main_v8, val_main_v3, val_main_v2, val_main_v1, val_main_v0]
  unfold tok
  rw [dif_pos (by omega)]
  have e : ((0 : Fin 3) : ℕ) = 0 := rfl
  exact x_congr x0 (by (try simp only []); omega) (by (try simp only []); omega)

/-- The keys, by block and head. -/
theorem k_own : val_main_v15 (F := Ideal) x0 (ix6 0 ρ n r h d) = tok x0 ρ 1 h n r d := by
  pointwise [val_main_v15, val_main_v14, val_main_v13, val_main_v12, val_main_v5, val_main_v4, val_main_v1, val_main_v0]
  unfold tok
  rw [dif_pos (by omega)]
  have e : ((1 : Fin 3) : ℕ) = 1 := rfl
  exact x_congr x0 (by (try simp only []); omega) (by (try simp only []); omega)

/-- The values, by block and head. -/
theorem v_own : val_main_v19 (F := Ideal) x0 (ix6 0 ρ n r h d) = tok x0 ρ 2 h n r d := by
  pointwise [val_main_v19, val_main_v18, val_main_v17, val_main_v16, val_main_v7, val_main_v6, val_main_v1, val_main_v0]
  unfold tok
  rw [dif_pos (by omega)]
  have e : ((2 : Fin 3) : ℕ) = 2 := rfl
  exact x_congr x0 (by (try simp only []); omega) (by (try simp only []); omega)

/-- The keys of the block before. -/
theorem k_bef (hn : 0 < n.val) : val_main_v21 (F := Ideal) x0 (ix6 0 ρ n r h d) = tok x0 ρ 1 h (pre n) r d := by
  pointwise [val_main_v21, val_main_v20]
  rw [dif_pos ⟨by omega, by omega⟩]
  exact k_own x0 ρ (pre n) h r d

/-- The values of the block before. -/
theorem v_bef (hn : 0 < n.val) : val_main_v24 (F := Ideal) x0 (ix6 0 ρ n r h d) = tok x0 ρ 2 h (pre n) r d := by
  pointwise [val_main_v24, val_main_v23]
  rw [dif_pos ⟨by omega, by omega⟩]
  exact v_own x0 ρ (pre n) h r d

/-- The first 128 of a block's 256 keys are those of the block before. -/
theorem k_lo (j : Fin 128) : val_main_v22 (F := Ideal) x0 (ix6 0 ρ n ⟨j.val, by omega⟩ h d) = val_main_v21 (F := Ideal) x0 (ix6 0 ρ n j h d) := by
  pointwise [val_main_v22]

/-- The last 128 are the own block's. -/
theorem k_hi (j : Fin 128) : val_main_v22 (F := Ideal) x0 (ix6 0 ρ n ⟨128 + j.val, by omega⟩ h d) = tok x0 ρ 1 h n j d := by
  pointwise [val_main_v22]
  exact k_own x0 ρ n h j d

/-- The first 128 of a block's 256 values are those of the block before. -/
theorem v_lo (j : Fin 128) : val_main_v25 (F := Ideal) x0 (ix6 0 ρ n ⟨j.val, by omega⟩ h d) = val_main_v24 (F := Ideal) x0 (ix6 0 ρ n j h d) := by
  pointwise [val_main_v25]

/-- The last 128 are the own block's. -/
theorem v_hi (j : Fin 128) : val_main_v25 (F := Ideal) x0 (ix6 0 ρ n ⟨128 + j.val, by omega⟩ h d) = tok x0 ρ 2 h n j d := by
  pointwise [val_main_v25]
  exact v_own x0 ρ n h j d

/-- Which keys a query attends to. -/
theorem m_at (j : Fin 256) : val_main_call5_v1 (F := Ideal) (ix6 0 ρ n h r j)
    = if r.val ≤ j.val ∧ j.val ≤ 128 + r.val ∧ (0 < n.val ∨ 128 ≤ j.val) then 1#1 else 0#1 := by
  pointwise [val_main_call5_v1, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29]
  refine (congrArg₂ IntOp.andi (near_at r j) (some_at ⟨n.val, by omega⟩ j)).trans ?_
  by_cases h1 : r.val ≤ j.val ∧ j.val ≤ 128 + r.val
  · by_cases h2 : 0 < n.val ∨ 128 ≤ j.val
    · rw [if_pos h1, if_pos h2, if_pos ⟨h1.1, h1.2, h2⟩]; decide
    · rw [if_pos h1, if_neg h2, if_neg fun c => h2 c.2.2]; decide
  · rw [if_neg h1]
    by_cases h2 : 0 < n.val ∨ 128 ≤ j.val
    · rw [if_pos h2, if_neg fun c => h1 ⟨c.1, c.2.1⟩]; decide
    · rw [if_neg h2, if_neg fun c => h1 ⟨c.1, c.2.1⟩]; decide

/-- The scale. -/
theorem c_at (j : Fin 256) : val_main_v27 (F := Ideal) (ix6 0 ρ n h r j) = kap := by
  pointwise [val_main_v27, val_main_cst]
  unfold kap
  rfl

/-- The scaled products of the queries with the keys. -/
theorem s_at (j : Fin 256) : val_main_v28 (F := Ideal) x0 (ix6 0 ρ n h r j)
    = (∑ x, val_main_v11 (F := Ideal) x0 (ix6 0 ρ n r h x) * val_main_v22 (F := Ideal) x0 (ix6 0 ρ n j h x)) * kap := by
  refine (val_main_v28_apply x0 _).trans ((congrArg₂ (FloatOps.mulf (F := Ideal) (φ := .f32)) ?_ (c_at ρ n h r j)).trans (mul_at _ _))
  pointwise [val_main_v26]

/-- What stands where a key is left out. -/
theorem f_at (j : Fin 256) : val_main_call5_v2 (F := Ideal) (ix6 0 ρ n h r j) = ⊥ := by
  rw [← ninf_eq]
  pointwise [val_main_call5_v2, val_main_call5_v0, val_main_cst_9]
  unfold ninf
  rfl

/-- The scores. -/
theorem z_at (j : Fin 256) : val_main_v58 (F := Ideal) x0 (ix6 0 ρ n h r j)
    = if r.val ≤ j.val ∧ j.val ≤ 128 + r.val ∧ (0 < n.val ∨ 128 ≤ j.val) then val_main_v28 (F := Ideal) x0 (ix6 0 ρ n h r j) else ⊥ := by
  refine (val_main_v58_apply x0 _).trans ?_
  rw [m_at, f_at]
  generalize val_main_v28 (F := Ideal) x0 (ix6 0 ρ n h r j) = y
  by_cases hc : r.val ≤ j.val ∧ j.val ≤ 128 + r.val ∧ (0 < n.val ∨ 128 ≤ j.val)
  · rw [if_pos hc, if_pos hc]; rfl
  · rw [if_neg hc, if_neg hc]; rfl

/-- The scores against the block before. -/
theorem z_lo (j : Fin 128) : val_main_v58 (F := Ideal) x0 (ix6 0 ρ n h r ⟨j.val, by omega⟩) = sBef x0 ρ h n r j := by
  refine (z_at x0 ρ n h r _).trans ?_
  unfold sBef before
  by_cases hn : r.val ≤ j.val ∧ 0 < n.val
  · rw [if_pos ⟨hn.1, by (try simp only []); omega, Or.inl hn.2⟩, if_pos hn, s_at]
    simp only [q_at, k_lo, k_bef x0 ρ n h _ _ hn.2]
  · rw [if_neg fun c => hn ⟨c.1, by have := c.2.2; simp only [] at this; omega⟩, if_neg hn]

/-- The scores against the own block. -/
theorem z_hi (j : Fin 128) : val_main_v58 (F := Ideal) x0 (ix6 0 ρ n h r ⟨128 + j.val, by omega⟩) = sOwn x0 ρ h n r j := by
  refine (z_at x0 ρ n h r _).trans ?_
  unfold sOwn own
  by_cases hn : j.val ≤ r.val
  · rw [if_pos ⟨by (try simp only []); omega, by (try simp only []); omega, Or.inr (by (try simp only []); omega)⟩, if_pos hn, s_at]
    simp only [q_at, k_hi]
  · rw [if_neg fun c => hn (by have := c.2.1; simp only [] at this; omega), if_neg hn]

/-- The largest score. -/
theorem x_at : val_main_v59 (F := Ideal) x0 (ix5 0 ρ n h r) = top (sOwn x0 ρ h n r) (sBef x0 ρ h n r) := by
  pointwise [val_main_v59, val_main_cst_10]
  refine (max_last _ _ ρ n h r).trans ((max_two _).trans ?_)
  exact congrArg₂ top (funext fun j => z_hi x0 ρ n h r j) (funext fun j => z_lo x0 ρ n h r j)

/-- The exponentials. -/
theorem e_at (j : Fin 256) : val_main_v63 (F := Ideal) x0 (ix6 0 ρ n h r j)
    = wt (sOwn x0 ρ h n r) (sBef x0 ρ h n r) (val_main_v58 (F := Ideal) x0 (ix6 0 ρ n h r j)) := by
  pointwise [val_main_v63, val_main_v62, val_main_v61, val_main_v60]
  rw [x_at]
  unfold wt
  with_reducible rfl

/-- Their sum. -/
theorem l_at : val_main_v65 (F := Ideal) x0 (ix6 0 ρ n h r 0) = den (sOwn x0 ρ h n r) (sBef x0 ρ h n r) := by
  pointwise [val_main_v65, val_main_v64, val_main_cst_11]
  refine (sum_last _ ρ n h r).trans ((sum_two _).trans ?_)
  simp only [e_at, z_hi, z_lo]
  unfold den
  with_reducible rfl

/-- Without a block before, it makes no difference which values it would have. -/
theorem attT_eq : attT x0 ρ h n r d = att (sOwn x0 ρ h n r) (sBef x0 ρ h n r) (fun j => tok x0 ρ 2 h n j d)
    fun j => val_main_v24 (F := Ideal) x0 (ix6 0 ρ n j h d) := by
  unfold attT
  by_cases hn : 0 < n.val
  · exact congrArg (att _ _ _) (funext fun j => (v_bef x0 ρ n h j d hn).symm)
  · have e : sBef x0 ρ h n r = fun _ => ⊥ := before_none hn _ _ _
    rw [e]
    exact att_none _ _ _ _

/-- The attention. -/
theorem o_at : val_main_v70 (F := Ideal) x0 (ix6 0 ρ n r h d) = attT x0 ρ h n r d := by
  rw [attT_eq]
  pointwise [val_main_v70, val_main_v69, val_main_v68, val_main_v67, val_main_v66]
  rw [l_at, sum_two]
  simp only [e_at, z_hi, z_lo, v_hi, v_lo]
  unfold att
  exact congrArg₂ Ideal.div (congrArg₂ (· + ·) (Finset.sum_congr rfl fun k _ => mul_comm _ _)
    (Finset.sum_congr rfl fun k _ => mul_comm _ _)) rfl

/-- The largest score, with a last axis of size one. -/
theorem m1_at : val_main_v60 (F := Ideal) x0 (ix6 0 ρ n h r 0) = top (sOwn x0 ρ h n r) (sBef x0 ρ h n r) := by
  pointwise [val_main_v60]
  exact x_at x0 ρ n h r

/-- The logarithm of the sum. -/
theorem g_at : val_main_v72 (F := Ideal) x0 (ix6 0 ρ n h r 0) = lseT x0 ρ h n r := by
  refine (val_main_v72_apply x0 _).trans ?_
  rw [m1_at, val_main_v71_apply, l_at]
  rfl

/-- The same, without the last axis. -/
theorem g5_at : val_main_v73 (F := Ideal) x0 (ix5 0 ρ n h r) = lseT x0 ρ h n r := by
  refine Eq.trans ?_ (g_at x0 ρ n h r)
  unfold val_main_v73
  generalize val_main_v72 (F := Ideal) x0 = y
  pointwise []

/-- The same, by token and head. -/
theorem gt_at : val_main_v74 (F := Ideal) x0 (ix5 0 ρ n r h) = lseT x0 ρ h n r := by
  pointwise [val_main_v74]
  exact g5_at x0 ρ n h r

/-- The reference's first result is the kernel's. -/
theorem ref_O : val_main_v81 (F := Ideal) x0 = resO x0 := by
  funext i
  obtain ⟨a, b, rfl⟩ : ∃ (a : Fin 1024) (b : Fin 4096), i = ix2 a b := ⟨i 0, i 1, eq_ix2 i⟩
  pointwise [val_main_v81, val_main_v77, val_main_v76, val_main_v75]
  rw [o_at]
  exact attT_congr x0 (Fin.ext (by show _ = b.val / 1024; (try simp only []); omega)) (Fin.ext (by show _ = b.val % 1024 / 128; (try simp only []); omega))
    (Fin.ext (by show _ = a.val / 128; (try simp only []); try omega)) (Fin.ext (by show _ = a.val % 128; (try simp only []); try omega)) (Fin.ext (by show _ = b.val % 128; (try simp only []); try omega))

/-- The logarithms, by token and head. -/
theorem t_at (t : Fin 4096) : val_main_v80 (F := Ideal) x0 (ix3 0 t h)
    = lseT x0 ⟨t.val % 4, by omega⟩ h ⟨t.val / 4 / 128, by omega⟩ ⟨t.val / 4 % 128, by omega⟩ := by
  pointwise [val_main_v80, val_main_v79, val_main_v78]
  exact (gt_at x0 _ _ _ _).trans (lseT_congr x0 (Fin.ext (by (try simp only []); try omega)) (Fin.ext (by (try simp only []); try omega)) (Fin.ext (by (try simp only []); try omega)) (Fin.ext (by (try simp only []); try omega)))

/-- The reference's second result is the kernel's. -/
theorem ref_L : val_main_v84 (F := Ideal) x0 = resL x0 := by
  funext i
  obtain ⟨a, b, rfl⟩ : ∃ (a : Fin 1024) (b : Fin 4096), i = ix2 a b := ⟨i 0, i 1, eq_ix2 i⟩
  pointwise [val_main_v84, val_main_v83, val_main_v82]
  rw [t_at]
  exact lseT_congr x0 (Fin.ext (by show _ = b.val / 1024; (try simp only []); omega)) (Fin.ext (by show _ = b.val % 1024 / 128; (try simp only []); omega))
    (Fin.ext (by show _ = a.val / 128; (try simp only []); omega)) (Fin.ext (by show _ = a.val % 128; (try simp only []); omega))

end

/-- The mask's value counts as the named constant `⊥`. -/
theorem preserves : Cert.preserves_AttnFwd4_AttnFwd4Ideal :=
  IdealRules.named_const.statement Cert.AttnFwd4Ideal.κ "neg" .f32 0xF149F2CA#32 ⊥ rfl

/-- The reference runs, keeps its argument and leaves every semaphore at zero. -/
theorem ref_frame : Cert.quiescent_AttnFwd4RefIdeal := fun m ρ _ =>
  (θ_run Cert.AttnFwd4RefIdeal.defs _ _).mono (fun r h => ⟨fun c => (h c).2.2, sem_eq_zero_of_no_sems (by decide) r.2⟩)
    (Cert.AttnFwd4RefIdeal.Value.run (F := Ideal) m ρ)

/-- The kernel's two results are the reference's. -/
theorem value : Cert.algebraic_AttnFwd4Ideal_AttnFwd4RefIdeal := fun m ρ m' ρ' _ hag =>
  ⟨fun c => resO (aP m c), fun c => resL (aP m c), run_kernel m ρ,
    (θ_run Cert.AttnFwd4RefIdeal.defs _ _).mono (fun r h c => by
      have e0 := hag c
      refine ⟨(h c).1.trans ?_, (h c).2.1.trans ?_, (h c).2.2⟩
      · rw [Cert.AttnFwd4RefIdeal.Read.val_main_v81_eq, e0]
        exact ref_O _
      · rw [Cert.AttnFwd4RefIdeal.Read.val_main_v84_eq, e0]
        exact ref_L _)
      (Cert.AttnFwd4RefIdeal.Value.run (F := Ideal) m' ρ')⟩

end Cert.AttnFwd4Proof
end
-- ==== Proof.AttnFwd1Block.lean ====
/- One grid point of the dilated attention over every 1th token: what its blocks hold after the body. -/
module
public import proofs.«01_k».proof.Proof.Gen.AttnFwd1Ideal.Value
public import proofs.«01_k».proof.Proof.AttnSpec
public import Idealize.ShloMosaic.Lib.Pipeline.ValueKit
public import Idealize.ShloMosaic.Lib.Pipeline.ReadBack
public import Idealize.ShloMosaic.Lib.ValueIdx
public import Idealize.ShloMosaic.Lib.Pointwise
@[expose] public section
set_option maxRecDepth 16384
noncomputable section
namespace Cert.AttnFwd1Proof
open Cert.Mem Cert.Attn Cert.AttnFwd1Ideal Cert.AttnFwd1Ideal.Gen Idealize.ShloMosaic Idealize.ShloMosaic.TcCoe Idealize.SL.Sem
open Idealize.ShloMosaic.Pipeline (Dat)

/-! ### One head of one block of 128 queries, on whole tiles -/

/-- A tile as the products take it. -/
def cw (x : Vec Ideal S128x128 .bf16) : FVec Ideal S128x128 .bf16 := x

/-- The scores of a tile of queries against a tile of keys, left out where `b` is not set. -/
def scr (b : IVec S128x128 1) (q k : FVec Ideal S128x128 .bf16) : FVec Ideal S128x128 .f32 :=
  select b (mulf (matmul dot_S128x128_S128x128_S128x128_1_1_0_0_n_n none q k (constant S128x128 .f32 0x00000000#32))
    (broadcast S128x128 (Scalar.ofBits .f32 0x3DB504F3#32))) (broadcast S128x128 (Named.named κ "neg" 0xF149F2CA#32))

/-- The largest score of each row of either tile. -/
def mxv (s t : FVec Ideal S128x128 .f32) : FVec Ideal S128x1 .f32 :=
  maximumf (shapeCast S128x1 (multiReduction .maximumf [1] S128 s 0xFF800000#32 reduces_S128x128_S128 (.inl rfl) rfl) shapeCasts_S128_S128x1)
    (shapeCast S128x1 (multiReduction .maximumf [1] S128 t 0xFF800000#32 reduces_S128x128_S128 (.inl rfl) rfl) shapeCasts_S128_S128x1)

/-- The exponentials of the tile `x`, shifted by the largest score. -/
def exv (s t x : FVec Ideal S128x128 .f32) : FVec Ideal S128x128 .f32 :=
  exp (subf x (broadcastTo S128x128 (mxv s t) broadcasts_S128x1_S128x128))

/-- The sum of the exponentials of each row. -/
def smv (s t : FVec Ideal S128x128 .f32) : FVec Ideal S128x1 .f32 :=
  addf (shapeCast S128x1 (multiReduction .add [1] S128 (exv s t s) 0x00000000#32 reduces_S128x128_S128 (.inl rfl) rfl) shapeCasts_S128_S128x1)
    (shapeCast S128x1 (multiReduction .add [1] S128 (exv s t t) 0x00000000#32 reduces_S128x128_S128 (.inl rfl) rfl) shapeCasts_S128_S128x1)

/-- The weighted values. -/
def outv (s t : FVec Ideal S128x128 .f32) (v w : FVec Ideal S128x128 .bf16) : FVec Ideal S128x128 .f32 :=
  divf (addf (matmul dot_S128x128_S128x128_S128x128_1_0_0_1_n_n none (truncf .bf16 (exv s t s) bitsLt_bf16_f32) v (constant S128x128 .f32 0x00000000#32))
    (matmul dot_S128x128_S128x128_S128x128_1_0_0_1_n_n none (truncf .bf16 (exv s t t) bitsLt_bf16_f32) w (constant S128x128 .f32 0x00000000#32)))
    (broadcastTo S128x128 (smv s t) broadcasts_S128x1_S128x128)

/-- The logarithm of the sum of the exponentials. -/
def lsev (s t : FVec Ideal S128x128 .f32) : FVec Ideal S128x128 .f32 :=
  broadcastTo S128x128 (shapeCast S128x1 (addf (mxv s t) (log (smv s t))) shapeCasts_S128x1_S128x1) broadcasts_S128x1_S128x128

/-- The constant that stands for a score left out is `⊥`. -/
theorem neg_eq : Named.named (F := Ideal) κ "neg" (φ := .f32) 0xF149F2CA#32 = (⊥ : EReal) :=
  IdealRules.named_const.ideal_named_scalar _ _ _ _ rfl

theorem cw_apply (x : Vec Ideal S128x128 .bf16) (r d : Fin 128) : cw x (ix2 r d) = x (ix2 r d) := by
  rfl

section
variable (b : IVec S128x128 1) (q k : FVec Ideal S128x128 .bf16) (s t x : FVec Ideal S128x128 .f32) (v w : FVec Ideal S128x128 .bf16) (r j d : Fin 128)

theorem scr_apply : scr b q k (ix2 r j) = if b (ix2 r j) = 1#1 then (∑ d, q (ix2 r d) * k (ix2 j d)) * kap else ⊥ := by
  pointwise [scr]
  rw [neg_eq]
  rfl

theorem mxv_apply : mxv s t (ix2 r 0) = top (fun j => s (ix2 r j)) fun j => t (ix2 r j) := by
  pointwise [mxv]
  rfl

theorem exv_apply : exv s t x (ix2 r j) = wt (fun j => s (ix2 r j)) (fun j => t (ix2 r j)) (x (ix2 r j)) := by
  pointwise [exv]
  rw [mxv_apply]
  rfl

theorem smv_apply : smv s t (ix2 r 0) = den (fun j => s (ix2 r j)) fun j => t (ix2 r j) := by
  pointwise [smv]
  simp only [exv_apply]
  rfl

theorem outv_apply : outv s t v w (ix2 r d)
    = att (fun j => s (ix2 r j)) (fun j => t (ix2 r j)) (fun j => v (ix2 j d)) fun j => w (ix2 j d) := by
  pointwise [outv]
  simp only [exv_apply, smv_apply]
  rfl

theorem lsev_apply : lsev s t (ix2 r d) = lse (fun j => s (ix2 r j)) fun j => t (ix2 r j) := by
  pointwise [lsev]
  simp only [mxv_apply, smv_apply]
  rfl
end

/-! ### The masks -/

theorem mask_own (r j : Fin 128) : k0_pay3 (ix2 r j) = 1#1 ↔ j.val ≤ r.val := by
  pointwise [k0_pay3]
  revert r j
  decide +kernel

theorem mask_before (r j : Fin 128) : k0_pay4 (ix2 r j) = 1#1 ↔ r.val ≤ j.val := by
  pointwise [k0_pay4]
  revert r j
  decide +kernel

theorem mask_first (i : grid0.Coords) (r j : Fin 128) : k0_pay5 i (ix2 r j) = 1#1 ↔ r.val ≤ j.val ∧ 0 < (i 1).val := by
  have h : k0_pay5 i (ix2 r j) = k0_pay4 (ix2 r j) &&& Scalar.cmpi .sgt (BitVec.ofNat 32 (i 1).val) 0#32 := rfl
  have g : ∀ n : Fin 8, Scalar.cmpi .sgt (BitVec.ofNat 32 n.val) 0#32 = if 0 < n.val then 1#1 else 0#1 := by decide +kernel
  rw [h, ← mask_before, g (i 1)]
  generalize k0_pay4 (ix2 r j) = x
  by_cases hn : 0 < (i 1).val
  · rw [if_pos hn]
    simp only [hn, and_true]
    revert x
    decide
  · rw [if_neg hn]
    simp only [hn, and_false]
    revert x
    decide

/-! ### The point's blocks -/

/-- Row `r` of block `s` of the point's 4 blocks. -/
def rw' (s : Fin 4) (r : Fin 128) : Fin 512 := ⟨128 * s.val + r.val, by omega⟩

/-- Column `d` of head `h` of the point's four heads. -/
def cl (h : Fin 4) (d : Fin 128) : Fin 512 := ⟨128 * h.val + d.val, by omega⟩

section
variable (i : grid0.Coords) (x0 : Vec Ideal S512x512 .bf16) (x1 : Vec Ideal S512x512 .bf16) (x2 : Vec Ideal S128x512 .bf16)
  (x3 : Vec Ideal S512x512 .bf16) (x4 : Vec Ideal S128x512 .bf16)

/-- A head's tile of block `s`. -/
def here (x : Vec Ideal S512x512 .bf16) (s : Fin 4) (h : Fin 4) (r d : Fin 128) : EReal := x (ix2 (rw' s r) (cl h d))

/-- A head's tile of the block before block `s`: the point's own, or for the first the window on the row before. -/
def prev (x : Vec Ideal S512x512 .bf16) (xp : Vec Ideal S128x512 .bf16) (s : Fin 4) (h : Fin 4) (r d : Fin 128) : EReal :=
  if s.val = 0 then xp (ix2 r (cl h d)) else x (ix2 (rw' ⟨s.val - 1, by omega⟩ r) (cl h d))

/-- The scores of row `r` of block `s` against its own block. -/
def sO (s : Fin 4) (h : Fin 4) (r : Fin 128) : Fin 128 → EReal := own (here x0 s h r) (here x1 s h) r

/-- The scores of row `r` of block `s` against the block before. -/
def sB (s : Fin 4) (h : Fin 4) (r : Fin 128) : Fin 128 → EReal :=
  before (0 < s.val ∨ 0 < (i 1).val) (here x0 s h r) (prev x1 x2 s h) r

/-- The weighted values a point writes at row `r`, column `d` of head `h` of block `s`. -/
def oAt (s : Fin 4) (h : Fin 4) (r d : Fin 128) : EReal :=
  att (sO x0 x1 s h r) (sB i x0 x1 x2 s h r) (fun j => here x3 s h j d) fun j => prev x3 x4 s h j d

/-- The logarithm a point writes there. -/
def lAt (s : Fin 4) (h : Fin 4) (r : Fin 128) : EReal := lse (sO x0 x1 s h r) (sB i x0 x1 x2 s h r)

/-- The block of weighted values. -/
def blkO : Vec Ideal S512x512 .f32 := fun y =>
  oAt i x0 x1 x2 x3 x4 ⟨(y 0).val / 128, by have := (y 0).isLt; simp at this; omega⟩ ⟨(y 1).val / 128, by have := (y 1).isLt; simp at this; omega⟩
    ⟨(y 0).val % 128, by omega⟩ ⟨(y 1).val % 128, by omega⟩

/-- The block of logarithms. -/
def blkL : Vec Ideal S512x512 .f32 := fun y =>
  lAt i x0 x1 x2 ⟨(y 0).val / 128, by have := (y 0).isLt; simp at this; omega⟩ ⟨(y 1).val / 128, by have := (y 1).isLt; simp at this; omega⟩
    ⟨(y 0).val % 128, by omega⟩

theorem blkO_at (s : Fin 4) (h : Fin 4) (r d : Fin 128) :
    blkO i x0 x1 x2 x3 x4 (ix2 (rw' s r) (cl h d)) = oAt i x0 x1 x2 x3 x4 s h r d := by
  have e0 : (⟨(rw' s r).val / 128, by omega⟩ : Fin 4) = s := Fin.ext (by simp only [rw']; omega)
  have e1 : (⟨(cl h d).val / 128, by omega⟩ : Fin 4) = h := Fin.ext (by simp only [cl]; omega)
  have e2 : (⟨(rw' s r).val % 128, by omega⟩ : Fin 128) = r := Fin.ext (by simp only [rw']; omega)
  have e3 : (⟨(cl h d).val % 128, by omega⟩ : Fin 128) = d := Fin.ext (by simp only [cl]; omega)
  show oAt i x0 x1 x2 x3 x4 ⟨(rw' s r).val / 128, _⟩ ⟨(cl h d).val / 128, _⟩ ⟨(rw' s r).val % 128, _⟩ ⟨(cl h d).val % 128, _⟩ = _
  rw [e0, e1, e2, e3]

theorem blkL_at (s : Fin 4) (h : Fin 4) (r d : Fin 128) :
    blkL i x0 x1 x2 (ix2 (rw' s r) (cl h d)) = lAt i x0 x1 x2 s h r := by
  have e0 : (⟨(rw' s r).val / 128, by omega⟩ : Fin 4) = s := Fin.ext (by simp only [rw']; omega)
  have e1 : (⟨(cl h d).val / 128, by omega⟩ : Fin 4) = h := Fin.ext (by simp only [cl]; omega)
  have e2 : (⟨(rw' s r).val % 128, by omega⟩ : Fin 128) = r := Fin.ext (by simp only [rw']; omega)
  show lAt i x0 x1 x2 ⟨(rw' s r).val / 128, _⟩ ⟨(cl h d).val / 128, _⟩ ⟨(rw' s r).val % 128, _⟩ = _
  rw [e0, e1, e2]

/-- Where a tile of 128 rows and columns puts its index. -/
theorem emb_tile {n a b : ℕ} (inb : ∀ k, (![a, b] : Fin 2 → ℕ) k + (![128, 128] : Fin 2 → ℕ) k ≤ (![n, 512] : Fin 2 → ℕ) k)
    (r d : Fin 128) (y : Fin n) (z : Fin 512) (hy : y.val = a + r.val) (hz : z.val = b + d.val) :
    (Rect.unit (s := ⟨2, ![n, 512]⟩) ![a, b] ![128, 128] inb).emb (ix2 r d) = (ix2 y z : (⟨2, ![n, 512]⟩ : Shape).Idx) := by
  refine funext fun k => Fin.ext ?_
  fin_cases k
  · simpa [Rect.emb, Rect.unit] using hy.symm
  · simpa [Rect.emb, Rect.unit] using hz.symm

/-- The scores of a tile of the first block against the block before. -/
theorem sB_zero (h : Fin 4) (r j : Fin 128) (q k : FVec Ideal S128x128 .bf16) (hq : ∀ r d, q (ix2 r d) = here x0 0 h r d)
    (hk : ∀ r d, k (ix2 r d) = x2 (ix2 r (cl h d))) : scr (k0_pay5 i) q k (ix2 r j) = sB i x0 x1 x2 0 h r j := by
  rw [scr_apply]
  unfold sB before
  simp only [mask_first, hq, hk]
  unfold prev
  simp

/-- The scores of a tile of a later block against the block before. -/
theorem sB_succ (s : Fin 4) (hs : 0 < s.val) (h : Fin 4) (r j : Fin 128) (q k : FVec Ideal S128x128 .bf16)
    (hq : ∀ r d, q (ix2 r d) = here x0 s h r d) (hk : ∀ r d, k (ix2 r d) = x1 (ix2 (rw' ⟨s.val - 1, by omega⟩ r) (cl h d))) :
    scr k0_pay4 q k (ix2 r j) = sB i x0 x1 x2 s h r j := by
  rw [scr_apply]
  unfold sB before
  simp only [mask_before, hq, hk]
  unfold prev
  simp only [if_neg (Nat.ne_of_gt hs), hs, true_or, and_true]

/-- The scores of a tile against its own block. -/
theorem sO_at (s : Fin 4) (h : Fin 4) (r j : Fin 128) (q k : FVec Ideal S128x128 .bf16)
    (hq : ∀ r d, q (ix2 r d) = here x0 s h r d) (hk : ∀ r d, k (ix2 r d) = here x1 s h r d) :
    scr k0_pay3 q k (ix2 r j) = sO x0 x1 s h r j := by
  rw [scr_apply]
  unfold sO own
  simp only [mask_own, hq, hk]

section
variable (h : Fin 4) {a b a' : ℕ} (inb : ∀ k, (![a, b] : Fin 2 → ℕ) k + S128x128.size k ≤ S512x512.size k)

theorem ld_here (x : Vec Ideal S512x512 .bf16) (s : Fin 4) (ha : a = 128 * s.val) (hb : b = 128 * h.val) (r d : Fin 128) :
    cw (View.ld x (Rect.unit ![a, b] S128x128.size inb)) (ix2 r d) = here x s h r d :=
  (cw_apply _ r d).trans (congrArg x (emb_tile inb r d _ _ (by simp only [rw']; omega) (by simp only [cl]; omega)))

theorem ld_prev (x : Vec Ideal S128x512 .bf16) (inp : ∀ k, (![0, b] : Fin 2 → ℕ) k + S128x128.size k ≤ S128x512.size k)
    (hb : b = 128 * h.val) (r d : Fin 128) :
    cw (View.ld x (Rect.unit ![0, b] S128x128.size inp)) (ix2 r d) = x (ix2 r (cl h d)) :=
  (cw_apply _ r d).trans (congrArg x (emb_tile inp r d _ _ (by omega) (by simp only [cl]; omega)))
end

section
variable (h : Fin 4) {b : ℕ} (inb : ∀ k, (![0, b] : Fin 2 → ℕ) k + S128x128.size k ≤ S512x512.size k)
  (inp : ∀ k, (![0, b] : Fin 2 → ℕ) k + S128x128.size k ≤ S128x512.size k) (hb : b = 128 * h.val) (x : S128x128.Idx)
include hb

/-- A tile of the first block's weighted values. -/
theorem pieceO0 : outv (scr k0_pay3 (cw (View.ld x0 (Rect.unit ![0, b] S128x128.size inb))) (cw (View.ld x1 (Rect.unit ![0, b] S128x128.size inb))))
      (scr (k0_pay5 i) (cw (View.ld x0 (Rect.unit ![0, b] S128x128.size inb))) (cw (View.ld x2 (Rect.unit ![0, b] S128x128.size inp))))
      (cw (View.ld x3 (Rect.unit ![0, b] S128x128.size inb))) (cw (View.ld x4 (Rect.unit ![0, b] S128x128.size inp))) x
    = blkO i x0 x1 x2 x3 x4 ((Rect.unit (s := S512x512) ![0, b] S128x128.size inb).emb x) := by
  obtain ⟨r, d, rfl⟩ : ∃ (r d : Fin 128), x = ix2 r d := ⟨x 0, x 1, eq_ix2 x⟩
  refine Eq.trans ?_ (congrArg (blkO i x0 x1 x2 x3 x4) (emb_tile inb r d (rw' 0 r) (cl h d) (by simp [rw']) (by simp only [cl]; omega)).symm)
  rw [blkO_at, outv_apply]
  unfold oAt
  congr 1
  · exact funext fun j => sO_at x0 x1 0 h r j _ _ (ld_here h inb x0 0 rfl hb) (ld_here h inb x1 0 rfl hb)
  · exact funext fun j => sB_zero i x0 x1 x2 h r j _ _ (ld_here h inb x0 0 rfl hb) (ld_prev h x2 inp hb)
  · exact funext fun j => ld_here h inb x3 0 rfl hb j d
  · exact funext fun j => (ld_prev h x4 inp hb j d).trans (if_pos rfl).symm

/-- A tile of the first block's logarithms. -/
theorem pieceL0 : lsev (scr k0_pay3 (cw (View.ld x0 (Rect.unit ![0, b] S128x128.size inb))) (cw (View.ld x1 (Rect.unit ![0, b] S128x128.size inb))))
      (scr (k0_pay5 i) (cw (View.ld x0 (Rect.unit ![0, b] S128x128.size inb))) (cw (View.ld x2 (Rect.unit ![0, b] S128x128.size inp)))) x
    = blkL i x0 x1 x2 ((Rect.unit (s := S512x512) ![0, b] S128x128.size inb).emb x) := by
  obtain ⟨r, d, rfl⟩ : ∃ (r d : Fin 128), x = ix2 r d := ⟨x 0, x 1, eq_ix2 x⟩
  refine Eq.trans ?_ (congrArg (blkL i x0 x1 x2) (emb_tile inb r d (rw' 0 r) (cl h d) (by simp [rw']) (by simp only [cl]; omega)).symm)
  rw [blkL_at, lsev_apply]
  unfold lAt
  congr 1
  · exact funext fun j => sO_at x0 x1 0 h r j _ _ (ld_here h inb x0 0 rfl hb) (ld_here h inb x1 0 rfl hb)
  · exact funext fun j => sB_zero i x0 x1 x2 h r j _ _ (ld_here h inb x0 0 rfl hb) (ld_prev h x2 inp hb)
end

section
variable (s : Fin 4) (h : Fin 4) (hs : 0 < s.val) {a a' b : ℕ} (inb : ∀ k, (![a, b] : Fin 2 → ℕ) k + S128x128.size k ≤ S512x512.size k)
  (inp : ∀ k, (![a', b] : Fin 2 → ℕ) k + S128x128.size k ≤ S512x512.size k) (ha : a = 128 * s.val) (hp : a' = 128 * (s.val - 1))
  (hb : b = 128 * h.val) (x : S128x128.Idx)
include hs ha hp hb

/-- A tile of a later block's weighted values. -/
theorem pieceO1 : outv (scr k0_pay3 (cw (View.ld x0 (Rect.unit ![a, b] S128x128.size inb))) (cw (View.ld x1 (Rect.unit ![a, b] S128x128.size inb))))
      (scr k0_pay4 (cw (View.ld x0 (Rect.unit ![a, b] S128x128.size inb))) (cw (View.ld x1 (Rect.unit ![a', b] S128x128.size inp))))
      (cw (View.ld x3 (Rect.unit ![a, b] S128x128.size inb))) (cw (View.ld x3 (Rect.unit ![a', b] S128x128.size inp))) x
    = blkO i x0 x1 x2 x3 x4 ((Rect.unit (s := S512x512) ![a, b] S128x128.size inb).emb x) := by
  obtain ⟨r, d, rfl⟩ : ∃ (r d : Fin 128), x = ix2 r d := ⟨x 0, x 1, eq_ix2 x⟩
  refine Eq.trans ?_ (congrArg (blkO i x0 x1 x2 x3 x4) (emb_tile inb r d (rw' s r) (cl h d) (by simp only [rw']; omega) (by simp only [cl]; omega)).symm)
  rw [blkO_at, outv_apply]
  unfold oAt
  congr 1
  · exact funext fun j => sO_at x0 x1 s h r j _ _ (ld_here h inb x0 s ha hb) (ld_here h inb x1 s ha hb)
  · exact funext fun j => sB_succ i x0 x1 x2 s hs h r j _ _ (ld_here h inb x0 s ha hb) (ld_here h inp x1 _ hp hb)
  · exact funext fun j => ld_here h inb x3 s ha hb j d
  · exact funext fun j => (ld_here h inp x3 _ hp hb j d).trans (if_neg (Nat.ne_of_gt hs)).symm

/-- A tile of a later block's logarithms. -/
theorem pieceL1 : lsev (scr k0_pay3 (cw (View.ld x0 (Rect.unit ![a, b] S128x128.size inb))) (cw (View.ld x1 (Rect.unit ![a, b] S128x128.size inb))))
      (scr k0_pay4 (cw (View.ld x0 (Rect.unit ![a, b] S128x128.size inb))) (cw (View.ld x1 (Rect.unit ![a', b] S128x128.size inp)))) x
    = blkL i x0 x1 x2 ((Rect.unit (s := S512x512) ![a, b] S128x128.size inb).emb x) := by
  obtain ⟨r, d, rfl⟩ : ∃ (r d : Fin 128), x = ix2 r d := ⟨x 0, x 1, eq_ix2 x⟩
  refine Eq.trans ?_ (congrArg (blkL i x0 x1 x2) (emb_tile inb r d (rw' s r) (cl h d) (by simp only [rw']; omega) (by simp only [cl]; omega)).symm)
  rw [blkL_at, lsev_apply]
  unfold lAt
  congr 1
  · exact funext fun j => sO_at x0 x1 s h r j _ _ (ld_here h inb x0 s ha hb) (ld_here h inb x1 s ha hb)
  · exact funext fun j => sB_succ i x0 x1 x2 s hs h r j _ _ (ld_here h inb x0 s ha hb) (ld_here h inp x1 _ hp hb)
end

/-- The block of weighted values the body leaves. -/
theorem out_O (y : S512x512.Idx) : out0_5 (F := Ideal) i x0 x1 x2 x3 x4 y = blkO i x0 x1 x2 x3 x4 y := by
  unfold out0_5
  refine View.canon_apply_of_pieces (blkO i x0 x1 x2 x3 x4) _ ?_ y (cover0_5 _ _ _ _ _ _ _ _ _ _ _ _ _ _ _ _ y)
  refine View.PiecesOf.mem (Val := Elt Ideal) (s := S512x512) (e := .f32) (G := blkO i x0 x1 x2 x3 x4) ?_
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact pieceO1 i x0 x1 x2 x3 x4 3 3 (by decide) inb_S512x512_S128x128_384_384 inb_S512x512_S128x128_256_384 rfl rfl rfl x
  · exact pieceO1 i x0 x1 x2 x3 x4 3 2 (by decide) inb_S512x512_S128x128_384_256 inb_S512x512_S128x128_256_256 rfl rfl rfl x
  · exact pieceO1 i x0 x1 x2 x3 x4 3 1 (by decide) inb_S512x512_S128x128_384_128 inb_S512x512_S128x128_256_128 rfl rfl rfl x
  · exact pieceO1 i x0 x1 x2 x3 x4 3 0 (by decide) inb_S512x512_S128x128_384_0 inb_S512x512_S128x128_256_0 rfl rfl rfl x
  · exact pieceO1 i x0 x1 x2 x3 x4 2 3 (by decide) inb_S512x512_S128x128_256_384 inb_S512x512_S128x128_128_384 rfl rfl rfl x
  · exact pieceO1 i x0 x1 x2 x3 x4 2 2 (by decide) inb_S512x512_S128x128_256_256 inb_S512x512_S128x128_128_256 rfl rfl rfl x
  · exact pieceO1 i x0 x1 x2 x3 x4 2 1 (by decide) inb_S512x512_S128x128_256_128 inb_S512x512_S128x128_128_128 rfl rfl rfl x
  · exact pieceO1 i x0 x1 x2 x3 x4 2 0 (by decide) inb_S512x512_S128x128_256_0 inb_S512x512_S128x128_128_0 rfl rfl rfl x
  · exact pieceO1 i x0 x1 x2 x3 x4 1 3 (by decide) inb_S512x512_S128x128_128_384 inb_S512x512_S128x128_0_384 rfl rfl rfl x
  · exact pieceO1 i x0 x1 x2 x3 x4 1 2 (by decide) inb_S512x512_S128x128_128_256 inb_S512x512_S128x128_0_256 rfl rfl rfl x
  · exact pieceO1 i x0 x1 x2 x3 x4 1 1 (by decide) inb_S512x512_S128x128_128_128 inb_S512x512_S128x128_0_128 rfl rfl rfl x
  · exact pieceO1 i x0 x1 x2 x3 x4 1 0 (by decide) inb_S512x512_S128x128_128_0 inb_S512x512_S128x128_0_0 rfl rfl rfl x
  · exact pieceO0 i x0 x1 x2 x3 x4 3 inb_S512x512_S128x128_0_384 inb_S128x512_S128x128_0_384 rfl x
  · exact pieceO0 i x0 x1 x2 x3 x4 2 inb_S512x512_S128x128_0_256 inb_S128x512_S128x128_0_256 rfl x
  · exact pieceO0 i x0 x1 x2 x3 x4 1 inb_S512x512_S128x128_0_128 inb_S128x512_S128x128_0_128 rfl x
  · exact pieceO0 i x0 x1 x2 x3 x4 0 inb_S512x512_S128x128_0_0 inb_S128x512_S128x128_0_0 rfl x

/-- The block of logarithms the body leaves. -/
theorem out_L (y : S512x512.Idx) : out0_6 (F := Ideal) i x0 x1 x2 x3 x4 y = blkL i x0 x1 x2 y := by
  unfold out0_6
  refine View.canon_apply_of_pieces (blkL i x0 x1 x2) _ ?_ y (cover0_6 _ _ _ _ _ _ _ _ _ _ _ _ _ _ _ _ y)
  refine View.PiecesOf.mem (Val := Elt Ideal) (s := S512x512) (e := .f32) (G := blkL i x0 x1 x2) ?_
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact pieceL1 i x0 x1 x2 3 3 (by decide) inb_S512x512_S128x128_384_384 inb_S512x512_S128x128_256_384 rfl rfl rfl x
  · exact pieceL1 i x0 x1 x2 3 2 (by decide) inb_S512x512_S128x128_384_256 inb_S512x512_S128x128_256_256 rfl rfl rfl x
  · exact pieceL1 i x0 x1 x2 3 1 (by decide) inb_S512x512_S128x128_384_128 inb_S512x512_S128x128_256_128 rfl rfl rfl x
  · exact pieceL1 i x0 x1 x2 3 0 (by decide) inb_S512x512_S128x128_384_0 inb_S512x512_S128x128_256_0 rfl rfl rfl x
  · exact pieceL1 i x0 x1 x2 2 3 (by decide) inb_S512x512_S128x128_256_384 inb_S512x512_S128x128_128_384 rfl rfl rfl x
  · exact pieceL1 i x0 x1 x2 2 2 (by decide) inb_S512x512_S128x128_256_256 inb_S512x512_S128x128_128_256 rfl rfl rfl x
  · exact pieceL1 i x0 x1 x2 2 1 (by decide) inb_S512x512_S128x128_256_128 inb_S512x512_S128x128_128_128 rfl rfl rfl x
  · exact pieceL1 i x0 x1 x2 2 0 (by decide) inb_S512x512_S128x128_256_0 inb_S512x512_S128x128_128_0 rfl rfl rfl x
  · exact pieceL1 i x0 x1 x2 1 3 (by decide) inb_S512x512_S128x128_128_384 inb_S512x512_S128x128_0_384 rfl rfl rfl x
  · exact pieceL1 i x0 x1 x2 1 2 (by decide) inb_S512x512_S128x128_128_256 inb_S512x512_S128x128_0_256 rfl rfl rfl x
  · exact pieceL1 i x0 x1 x2 1 1 (by decide) inb_S512x512_S128x128_128_128 inb_S512x512_S128x128_0_128 rfl rfl rfl x
  · exact pieceL1 i x0 x1 x2 1 0 (by decide) inb_S512x512_S128x128_128_0 inb_S512x512_S128x128_0_0 rfl rfl rfl x
  · exact pieceL0 i x0 x1 x2 3 inb_S512x512_S128x128_0_384 inb_S128x512_S128x128_0_384 rfl x
  · exact pieceL0 i x0 x1 x2 2 inb_S512x512_S128x128_0_256 inb_S128x512_S128x128_0_256 rfl x
  · exact pieceL0 i x0 x1 x2 1 inb_S512x512_S128x128_0_128 inb_S128x512_S128x128_0_128 rfl x
  · exact pieceL0 i x0 x1 x2 0 inb_S512x512_S128x128_0_0 inb_S128x512_S128x128_0_0 rfl x
end

end Cert.AttnFwd1Proof
end
-- ==== Proof.AttnFwd1Value.lean ====
/- The dilated attention over every 1th token: what the kernel's two results hold. -/
module
public import proofs.«01_k».proof.Proof.AttnFwd1Block
@[expose] public section
set_option maxRecDepth 16384
noncomputable section
namespace Cert.AttnFwd1Proof
open Cert.Mem Cert.Attn Cert.AttnFwd1Ideal Cert.AttnFwd1Ideal.Gen Idealize.ShloMosaic Idealize.ShloMosaic.TcCoe Idealize.SL.Sem
open Idealize.ShloMosaic.Pipeline (Dat)

/-- Part `part` (queries, keys, values) of head `h` of token `j` of block `n` of the sequence of every 1th token from `ρ` on. -/
def tok (P : Vec Ideal S4096x9728 .bf16) (ρ : Fin 1) (part : Fin 3) (h : Fin 8) (n : Fin 32) (j d : Fin 128) : EReal :=
  P (ix2 ⟨(128 * n.val + j.val) * 1 + ρ.val, by omega⟩ ⟨1024 * part.val + (128 * h.val + d.val), by omega⟩)

/-- The block before. -/
def pre (n : Fin 32) : Fin 32 := ⟨n.val - 1, by omega⟩

section
variable (P : Vec Ideal S4096x9728 .bf16) (ρ : Fin 1) (h : Fin 8) (n : Fin 32) (r d : Fin 128)

/-- The scores of a token against its own block. -/
def sOwn : Fin 128 → EReal := own (tok P ρ 0 h n r) (tok P ρ 1 h n) r

/-- The scores of a token against the block before. -/
def sBef : Fin 128 → EReal := before (0 < n.val) (tok P ρ 0 h n r) (tok P ρ 1 h (pre n)) r

/-- The attention of a token: the values of both blocks, weighted by the softmax of the scores. -/
def attT : EReal := att (sOwn P ρ h n r) (sBef P ρ h n r) (fun j => tok P ρ 2 h n j d) fun j => tok P ρ 2 h (pre n) j d

/-- The logarithm of the sum of the exponentials of its scores. -/
def lseT : EReal := lse (sOwn P ρ h n r) (sBef P ρ h n r)
end

/-- The first result: every token's attention. -/
def resO (P : Vec Ideal S4096x9728 .bf16) : Vec Ideal S4096x1024 .f32 := fun y =>
  attT P ⟨(y 1).val / 1024, by have := (y 1).isLt; simp at this; omega⟩ ⟨(y 1).val % 1024 / 128, by omega⟩
    ⟨(y 0).val / 128, by have := (y 0).isLt; simp at this; omega⟩ ⟨(y 0).val % 128, by omega⟩ ⟨(y 1).val % 128, by omega⟩

/-- The second result: every token's logarithm, once for each of a head's 128 columns. -/
def resL (P : Vec Ideal S4096x9728 .bf16) : Vec Ideal S4096x1024 .f32 := fun y =>
  lseT P ⟨(y 1).val / 1024, by have := (y 1).isLt; simp at this; omega⟩ ⟨(y 1).val % 1024 / 128, by omega⟩
    ⟨(y 0).val / 128, by have := (y 0).isLt; simp at this; omega⟩ ⟨(y 0).val % 128, by omega⟩

/-- Row of token `j` of block `n` in the array the call reads. -/
def rowI (n : Fin 32) (j : Fin 128) : Fin 4096 := ⟨128 * n.val + j.val, by omega⟩

/-- Column of a head's part in the array the call reads. -/
def colI (ρ : Fin 1) (part : Fin 3) (h : Fin 8) (d : Fin 128) : Fin 9728 :=
  ⟨ρ.val * 9728 + (1024 * part.val + (128 * h.val + d.val)), by omega⟩

/-- Column of a head in the results. -/
def colR (ρ : Fin 1) (h : Fin 8) (d : Fin 128) : Fin 1024 := ⟨ρ.val * 1024 + (128 * h.val + d.val), by omega⟩

theorem resO_at (P : Vec Ideal S4096x9728 .bf16) (ρ : Fin 1) (h : Fin 8) (n : Fin 32) (r d : Fin 128) :
    resO P (ix2 (rowI n r) (colR ρ h d)) = attT P ρ h n r d := by
  have e0 : (⟨(colR ρ h d).val / 1024, by omega⟩ : Fin 1) = ρ := Fin.ext (by simp only [colR]; omega)
  have e1 : (⟨(colR ρ h d).val % 1024 / 128, by omega⟩ : Fin 8) = h := Fin.ext (by simp only [colR]; omega)
  have e2 : (⟨(rowI n r).val / 128, by omega⟩ : Fin 32) = n := Fin.ext (by simp only [rowI]; omega)
  have e3 : (⟨(rowI n r).val % 128, by omega⟩ : Fin 128) = r := Fin.ext (by simp only [rowI]; omega)
  have e4 : (⟨(colR ρ h d).val % 128, by omega⟩ : Fin 128) = d := Fin.ext (by simp only [colR]; omega)
  show attT P ⟨(colR ρ h d).val / 1024, _⟩ ⟨(colR ρ h d).val % 1024 / 128, _⟩ ⟨(rowI n r).val / 128, _⟩ ⟨(rowI n r).val % 128, _⟩ ⟨(colR ρ h d).val % 128, _⟩ = _
  rw [e0, e1, e2, e3, e4]

theorem resL_at (P : Vec Ideal S4096x9728 .bf16) (ρ : Fin 1) (h : Fin 8) (n : Fin 32) (r d : Fin 128) :
    resL P (ix2 (rowI n r) (colR ρ h d)) = lseT P ρ h n r := by
  have e0 : (⟨(colR ρ h d).val / 1024, by omega⟩ : Fin 1) = ρ := Fin.ext (by simp only [colR]; omega)
  have e1 : (⟨(colR ρ h d).val % 1024 / 128, by omega⟩ : Fin 8) = h := Fin.ext (by simp only [colR]; omega)
  have e2 : (⟨(rowI n r).val / 128, by omega⟩ : Fin 32) = n := Fin.ext (by simp only [rowI]; omega)
  have e3 : (⟨(rowI n r).val % 128, by omega⟩ : Fin 128) = r := Fin.ext (by simp only [rowI]; omega)
  show lseT P ⟨(colR ρ h d).val / 1024, _⟩ ⟨(colR ρ h d).val % 1024 / 128, _⟩ ⟨(rowI n r).val / 128, _⟩ ⟨(rowI n r).val % 128, _⟩ = _
  rw [e0, e1, e2, e3]

/-! ### The points' blocks in the arrays -/

variable (m : (ℓ : Loc nD τ sig) → Buf (Elt Ideal) ℓ) (c : Dev nD)

/-- The argument. -/
abbrev aP : Vec Ideal S4096x9728 .bf16 := m ((c.tc : Thread nD τ).loc main_arg0)

theorem idx0 : ∀ t : Fin cfg0.N, win0_0.index t = ![t.val / 2 % 8, t.val / 16 * 19 + t.val % 2] := by decide +kernel
theorem idx1 : ∀ t : Fin cfg0.N, win0_1.index t = ![t.val / 2 % 8, t.val / 16 * 19 + 2 + t.val % 2] := by decide +kernel
theorem idx2 : ∀ t : Fin cfg0.N, win0_2.index t = ![t.val / 2 % 8 * 4 - 1, t.val / 16 * 19 + 2 + t.val % 2] := by decide +kernel
theorem idx3 : ∀ t : Fin cfg0.N, win0_3.index t = ![t.val / 2 % 8, t.val / 16 * 19 + 4 + t.val % 2] := by decide +kernel
theorem idx4 : ∀ t : Fin cfg0.N, win0_4.index t = ![t.val / 2 % 8 * 4 - 1, t.val / 16 * 19 + 4 + t.val % 2] := by decide +kernel
theorem idx5 : ∀ t : Fin cfg0.N, win0_5.index t = ![t.val / 2 % 8, t.val / 16 * 2 + t.val % 2] := by decide +kernel
theorem idx6 : ∀ t : Fin cfg0.N, win0_6.index t = ![t.val / 2 % 8, t.val / 16 * 2 + t.val % 2] := by decide +kernel
theorem crd1 : ∀ t : Fin cfg0.N, (grid0.coords t 1).val = t.val / 2 % 8 := by decide +kernel

theorem ltN (t : Fin cfg0.N) : t.val < 16 := lt_of_lt_of_eq t.isLt (show cfg0.N = 16 from N_0)

/-- The sequence of grid point `t`. -/
def rhoT (t : Fin cfg0.N) : Fin 1 := ⟨t.val / 16, by have := ltN t; omega⟩
/-- Its head `h`. -/
def hdT (t : Fin cfg0.N) (h : Fin 4) : Fin 8 := ⟨t.val % 2 * 4 + h.val, by omega⟩
/-- Its block `s`. -/
def bkT (t : Fin cfg0.N) (s : Fin 4) : Fin 32 := ⟨t.val / 2 % 8 * 4 + s.val, by omega⟩

/-- The array the call reads is the argument. -/
theorem src (n : Fin 32) (j : Fin 128) (ρ : Fin 1) (part : Fin 3) (h : Fin 8) (d : Fin 128) :
    V m c main_arg0 (ix2 (rowI n j) (colI ρ part h d)) = tok (aP m c) ρ part h n j d := by
  unfold tok rowI colI
  have e : V m c main_arg0 = aP m c := rfl
  rw [e]
  refine congrArg (aP m c) ?_
  congr 1 <;> exact Fin.ext (by simp only []; omega)

section
variable (t : Fin cfg0.N) (s : Fin 4) (h : Fin 4) (r d : Fin 128)

theorem blk0 : iblk m c 0 t (ix2 (rw' s r) (cl h d) : S512x512.Idx) = tok (aP m c) (rhoT t) 0 (hdT t h) (bkT t s) r d := by
  have h : iblk m c 0 t (ix2 (rw' s r) (cl h d) : S512x512.Idx) = V m c main_arg0 (ix2 (rowI (bkT t s) r) (colI (rhoT t) 0 (hdT t h) d)) := by
    unfold iblk rw' cl rowI colI rhoT hdT bkT
    generalize V m c = f
    blk_ext [idx0 t]
  exact h.trans (src m c _ _ _ _ _ _)

theorem blk1 : iblk m c 1 t (ix2 (rw' s r) (cl h d) : S512x512.Idx) = tok (aP m c) (rhoT t) 1 (hdT t h) (bkT t s) r d := by
  have h : iblk m c 1 t (ix2 (rw' s r) (cl h d) : S512x512.Idx) = V m c main_arg0 (ix2 (rowI (bkT t s) r) (colI (rhoT t) 1 (hdT t h) d)) := by
    unfold iblk rw' cl rowI colI rhoT hdT bkT
    generalize V m c = f
    blk_ext [idx1 t]
  exact h.trans (src m c _ _ _ _ _ _)

theorem blk3 : iblk m c 3 t (ix2 (rw' s r) (cl h d) : S512x512.Idx) = tok (aP m c) (rhoT t) 2 (hdT t h) (bkT t s) r d := by
  have h : iblk m c 3 t (ix2 (rw' s r) (cl h d) : S512x512.Idx) = V m c main_arg0 (ix2 (rowI (bkT t s) r) (colI (rhoT t) 2 (hdT t h) d)) := by
    unfold iblk rw' cl rowI colI rhoT hdT bkT
    generalize V m c = f
    blk_ext [idx3 t]
  exact h.trans (src m c _ _ _ _ _ _)

theorem blk2 : iblk m c 2 t (ix2 r (cl h d) : S128x512.Idx) = tok (aP m c) (rhoT t) 1 (hdT t h) (pre (bkT t 0)) r d := by
  have h : iblk m c 2 t (ix2 r (cl h d) : S128x512.Idx) = V m c main_arg0 (ix2 (rowI (pre (bkT t 0)) r) (colI (rhoT t) 1 (hdT t h) d)) := by
    unfold iblk cl rowI colI rhoT hdT pre bkT
    generalize V m c = f
    blk_ext [idx2 t]
  exact h.trans (src m c _ _ _ _ _ _)

theorem blk4 : iblk m c 4 t (ix2 r (cl h d) : S128x512.Idx) = tok (aP m c) (rhoT t) 2 (hdT t h) (pre (bkT t 0)) r d := by
  have h : iblk m c 4 t (ix2 r (cl h d) : S128x512.Idx) = V m c main_arg0 (ix2 (rowI (pre (bkT t 0)) r) (colI (rhoT t) 2 (hdT t h) d)) := by
    unfold iblk cl rowI colI rhoT hdT pre bkT
    generalize V m c = f
    blk_ext [idx4 t]
  exact h.trans (src m c _ _ _ _ _ _)

theorem pre_bk (hs : ¬s.val = 0) : bkT t ⟨s.val - 1, by omega⟩ = pre (bkT t s) := Fin.ext (by simp only [bkT, pre]; omega)

theorem prev1 : prev (iblk m c 1 t) (iblk m c 2 t) s h r d = tok (aP m c) (rhoT t) 1 (hdT t h) (pre (bkT t s)) r d := by
  unfold prev
  split <;> rename_i hs
  · obtain rfl : s = 0 := Fin.ext hs
    exact blk2 m c t h r d
  · rw [← pre_bk t s hs]
    exact blk1 m c t _ h r d

theorem prev3 : prev (iblk m c 3 t) (iblk m c 4 t) s h r d = tok (aP m c) (rhoT t) 2 (hdT t h) (pre (bkT t s)) r d := by
  unfold prev
  split <;> rename_i hs
  · obtain rfl : s = 0 := Fin.ext hs
    exact blk4 m c t h r d
  · rw [← pre_bk t s hs]
    exact blk3 m c t _ h r d

/-- The point's scores are the tokens' scores. -/
theorem sO_tok : sO (iblk m c 0 t) (iblk m c 1 t) s h r = sOwn (aP m c) (rhoT t) (hdT t h) (bkT t s) r := by
  have e0 : here (iblk m c 0 t) s h r = tok (aP m c) (rhoT t) 0 (hdT t h) (bkT t s) r := funext fun d => blk0 m c t s h r d
  have e1 : here (iblk m c 1 t) s h = tok (aP m c) (rhoT t) 1 (hdT t h) (bkT t s) := funext fun r => funext fun d => blk1 m c t s h r d
  unfold sO sOwn
  rw [e0, e1]

theorem sB_tok : sB (grid0.coords t) (iblk m c 0 t) (iblk m c 1 t) (iblk m c 2 t) s h r = sBef (aP m c) (rhoT t) (hdT t h) (bkT t s) r := by
  have e0 : here (iblk m c 0 t) s h r = tok (aP m c) (rhoT t) 0 (hdT t h) (bkT t s) r := funext fun d => blk0 m c t s h r d
  have e1 : prev (iblk m c 1 t) (iblk m c 2 t) s h = tok (aP m c) (rhoT t) 1 (hdT t h) (pre (bkT t s)) :=
    funext fun r => funext fun d => prev1 m c t s h r d
  have hp : (0 < s.val ∨ 0 < (grid0.coords t 1).val) ↔ 0 < (bkT t s).val := by
    rw [crd1 t]
    simp only [bkT]
    omega
  unfold sB sBef
  rw [e0, e1]
  unfold before
  simp only [hp]

theorem o_tok : oAt (grid0.coords t) (iblk m c 0 t) (iblk m c 1 t) (iblk m c 2 t) (iblk m c 3 t) (iblk m c 4 t) s h r d
    = attT (aP m c) (rhoT t) (hdT t h) (bkT t s) r d := by
  unfold oAt attT
  rw [sO_tok, sB_tok]
  congr 1
  · exact funext fun j => blk3 m c t s h j d
  · exact funext fun j => prev3 m c t s h j d

theorem l_tok : lAt (grid0.coords t) (iblk m c 0 t) (iblk m c 1 t) (iblk m c 2 t) s h r = lseT (aP m c) (rhoT t) (hdT t h) (bkT t s) r := by
  unfold lAt lseT
  rw [sO_tok, sB_tok]

theorem emb5 : (win0_5.blk t).view.emb (ix2 (rw' s r) (cl h d) : S512x512.Idx) = ix2 (rowI (bkT t s) r) (colR (rhoT t) (hdT t h) d) := by
  unfold rw' cl rowI colR rhoT hdT bkT
  blk_ext [idx5 t]

theorem emb6 : (win0_6.blk t).view.emb (ix2 (rw' s r) (cl h d) : S512x512.Idx) = ix2 (rowI (bkT t s) r) (colR (rhoT t) (hdT t h) d) := by
  unfold rw' cl rowI colR rhoT hdT bkT
  blk_ext [idx6 t]
end

/-- Every index of a block is a row of one of its blocks of 128 and a column of one of its heads. -/
theorem idx_cases (y : S512x512.Idx) : ∃ (s : Fin 4) (h : Fin 4) (r d : Fin 128), y = ix2 (rw' s r) (cl h d) := by
  obtain ⟨a, b, rfl⟩ : ∃ (a : Fin 512) (b : Fin 512), y = ix2 a b := ⟨y 0, y 1, eq_ix2 y⟩
  refine ⟨⟨a.val / 128, by omega⟩, ⟨b.val / 128, by omega⟩, ⟨a.val % 128, by omega⟩, ⟨b.val % 128, by omega⟩, ?_⟩
  congr 1
  · exact Fin.ext (by simp only [rw']; omega)
  · exact Fin.ext (by simp only [cl]; omega)

theorem arr5 : (dats m 0 c).arrAt 5 cfg0.N = resO (aP m c) := by
  refine (dats m 0 c).arrAt_eq_of_covers 5 _ (by decide +kernel) fun t hf y => ?_
  blk_simp
  rw [after0_5]
  obtain ⟨s, h, r, d, rfl⟩ := idx_cases y
  exact ((out_O _ _ _ _ _ _ _).trans ((blkO_at _ _ _ _ _ _ s h r d).trans (o_tok m c t s h r d))).trans
    ((congrArg (resO (aP m c)) (emb5 t s h r d)).trans (resO_at _ _ _ _ _ _)).symm

theorem arr6 : (dats m 0 c).arrAt 6 cfg0.N = resL (aP m c) := by
  refine (dats m 0 c).arrAt_eq_of_covers 6 _ (by decide +kernel) fun t hf y => ?_
  blk_simp
  rw [after0_6]
  obtain ⟨s, h, r, d, rfl⟩ := idx_cases y
  exact ((out_L _ _ _ _ _ _ _).trans ((blkL_at _ _ _ _ s h r d).trans (l_tok m c t s h r))).trans
    ((congrArg (resL (aP m c)) (emb6 t s h r d)).trans (resL_at _ _ _ _ _ _)).symm

/-- The run of the kernel: its two results named, the argument unchanged. -/
theorem run_kernel (g : Dev nD → PrngReg) : θ_run defs (onTc (τ := τ) (main (F := Ideal))) ⟨m, fun _ => 0, g⟩ fun r => ∀ c : Dev nD,
      r.2.mem ((c : Thread nD τ).loc main_v0_0) = resO (aP m c)
      ∧ r.2.mem ((c : Thread nD τ).loc main_v0_1) = resL (aP m c)
      ∧ r.2.mem ((c : Thread nD τ).loc main_arg0) = m ((c : Thread nD τ).loc main_arg0) :=
  (θ_run defs _ _).mono (fun r h c => ⟨(h c).1.trans (arr5 m c), (h c).2.1.trans (arr6 m c), (h c).2.2⟩) (Value.run_blocks m g)

end Cert.AttnFwd1Proof
end
-- ==== Proof.AttnFwd1Proof.lean ====
/- The dilated attention over every 1th token: the kernel's two results are the reference's. -/
module
public import proofs.«01_k».proof.Proof.AttnFwd1Value
public import proofs.«01_k».proof.Proof.AttnMask
public import proofs.«01_k».proof.Defs
public import proofs.«01_k».proof.Proof.Gen.AttnFwd1RefIdeal.Read
public import Idealize.ShloMosaic.Lib.ValueIdxRank6
@[expose] public section
set_option maxRecDepth 16384
noncomputable section
namespace Cert.AttnFwd1Proof
open Cert.Mem Cert.Attn Cert.AttnFwd1Ideal Cert.AttnFwd1RefIdeal.Read Idealize.ShloMosaic Idealize.ShloMosaic.TcCoe Idealize.SL.Sem

/-- The sum over the last axis of the scores' array. -/
theorem sum_last (y : Vec Ideal Cert.AttnFwd1RefIdeal.S1x1x32x8x128x256 .f32) (ρ : Fin 1) (n : Fin 32) (h : Fin 8) (r : Fin 128) :
    Ideal.hostReduceAdd Cert.AttnFwd1RefIdeal.Gen.reducesTo_S1x1x32x8x128x256_S1x1x32x8x128_d5 y 0 (ix5 0 ρ n h r) = ∑ j, y (ix6 0 ρ n h r j) := by
  rw [Ideal.hostReduceAdd_single _ (by decide), zero_add]
  exact Finset.sum_congr rfl fun k _ => congrArg y (funext fun a => Fin.ext (by
    match a with | ⟨0, _⟩ => rfl | ⟨1, _⟩ => rfl | ⟨2, _⟩ => rfl | ⟨3, _⟩ => rfl | ⟨4, _⟩ => rfl | ⟨5, _⟩ => rfl))

/-- The largest along the last axis of the scores' array. -/
theorem max_last (y : Vec Ideal Cert.AttnFwd1RefIdeal.S1x1x32x8x128x256 .f32) (c : EReal) (ρ : Fin 1) (n : Fin 32) (h : Fin 8) (r : Fin 128) :
    Finset.fold max c y {i | Cert.AttnFwd1RefIdeal.Gen.reducesTo_S1x1x32x8x128x256_S1x1x32x8x128_d5.drop i = ix5 0 ρ n h r}
      = Finset.univ.fold max c fun j => y (ix6 0 ρ n h r j) := by
  have hR : Shape.Reduces Cert.AttnFwd1RefIdeal.S1x1x32x8x128x256 [5] Cert.AttnFwd1RefIdeal.S1x1x32x8x128 := by decide
  rw [Shape.ReducesTo.drop_eq_drop _ hR]
  refine (hR.fold_filter_drop_single _ _ y _).trans (congrArg (Finset.univ.fold max c) (funext fun k => ?_))
  exact congrArg y (funext fun a => Fin.ext (by
    match a with | ⟨0, _⟩ => rfl | ⟨1, _⟩ => rfl | ⟨2, _⟩ => rfl | ⟨3, _⟩ => rfl | ⟨4, _⟩ => rfl | ⟨5, _⟩ => rfl))

theorem mul_at (a b : EReal) : FloatOps.mulf (F := Ideal) (φ := .f32) a b = a * b := rfl

theorem attT_congr (P : Vec Ideal S4096x9728 .bf16) {ρ ρ' : Fin 1} {h h' : Fin 8} {n n' : Fin 32} {r r' d d' : Fin 128}
    (e : ρ = ρ') (f : h = h') (g : n = n') (k : r = r') (l : d = d') : attT P ρ h n r d = attT P ρ' h' n' r' d' := by
  subst e f g k l; rfl

theorem lseT_congr (P : Vec Ideal S4096x9728 .bf16) {ρ ρ' : Fin 1} {h h' : Fin 8} {n n' : Fin 32} {r r' : Fin 128}
    (e : ρ = ρ') (f : h = h') (g : n = n') (k : r = r') : lseT P ρ h n r = lseT P ρ' h' n' r' := by
  subst e f g k; rfl

section
variable (x0 : Vec Ideal S4096x9728 .bf16) (ρ : Fin 1) (n : Fin 32) (h : Fin 8) (r d : Fin 128)

/-- Two entries of the array of the projections at equal places. -/
theorem x_congr {a b : Fin 4096} {c e : Fin 9728} (hab : a.val = b.val) (hce : c.val = e.val) : x0 (ix2 a c) = x0 (ix2 b e) := by
  rw [Fin.ext hab, Fin.ext hce]

/-- The queries, by block and head. -/
theorem q_at : val_main_v13 (F := Ideal) x0 (ix6 0 ρ n r h d) = tok x0 ρ 0 h n r d := by
  obtain rfl : ρ = 0 := Subsingleton.elim _ _
  pointwise [val_main_v13, val_main_v12, val_main_v11, val_main_v10, val_main_v5, val_main_v4, val_main_v3, val_main_v2, val_main_v1, val_main_v0]
  unfold tok
  rw [dif_pos (by omega)]
  have e : ((0 : Fin 3) : ℕ) = 0 := rfl
  exact x_congr x0 (by (try simp only []); omega) (by (try simp only []); omega)

/-- The keys, by block and head. -/
theorem k_own : val_main_v17 (F := Ideal) x0 (ix6 0 ρ n r h d) = tok x0 ρ 1 h n r d := by
  obtain rfl : ρ = 0 := Subsingleton.elim _ _
  pointwise [val_main_v17, val_main_v16, val_main_v15, val_main_v14, val_main_v7, val_main_v6, val_main_v3, val_main_v2, val_main_v1, val_main_v0]
  unfold tok
  rw [dif_pos (by omega)]
  have e : ((1 : Fin 3) : ℕ) = 1 := rfl
  exact x_congr x0 (by (try simp only []); omega) (by (try simp only []); omega)

/-- The values, by block and head. -/
theorem v_own : val_main_v21 (F := Ideal) x0 (ix6 0 ρ n r h d) = tok x0 ρ 2 h n r d := by
  obtain rfl : ρ = 0 := Subsingleton.elim _ _
  pointwise [val_main_v21, val_main_v20, val_main_v19, val_main_v18, val_main_v9, val_main_v8, val_main_v3, val_main_v2, val_main_v1, val_main_v0]
  unfold tok
  rw [dif_pos (by omega)]
  have e : ((2 : Fin 3) : ℕ) = 2 := rfl
  exact x_congr x0 (by (try simp only []); omega) (by (try simp only []); omega)

/-- The keys of the block before. -/
theorem k_bef (hn : 0 < n.val) : val_main_v23 (F := Ideal) x0 (ix6 0 ρ n r h d) = tok x0 ρ 1 h (pre n) r d := by
  obtain rfl : ρ = 0 := Subsingleton.elim _ _
  pointwise [val_main_v23, val_main_v22]
  rw [dif_pos ⟨by omega, by omega⟩]
  exact k_own x0 0 (pre n) h r d

/-- The values of the block before. -/
theorem v_bef (hn : 0 < n.val) : val_main_v26 (F := Ideal) x0 (ix6 0 ρ n r h d) = tok x0 ρ 2 h (pre n) r d := by
  obtain rfl : ρ = 0 := Subsingleton.elim _ _
  pointwise [val_main_v26, val_main_v25]
  rw [dif_pos ⟨by omega, by omega⟩]
  exact v_own x0 0 (pre n) h r d

/-- The first 128 of a block's 256 keys are those of the block before. -/
theorem k_lo (j : Fin 128) : val_main_v24 (F := Ideal) x0 (ix6 0 ρ n ⟨j.val, by omega⟩ h d) = val_main_v23 (F := Ideal) x0 (ix6 0 ρ n j h d) := by
  obtain rfl : ρ = 0 := Subsingleton.elim _ _
  pointwise [val_main_v24]

/-- The last 128 are the own block's. -/
theorem k_hi (j : Fin 128) : val_main_v24 (F := Ideal) x0 (ix6 0 ρ n ⟨128 + j.val, by omega⟩ h d) = tok x0 ρ 1 h n j d := by
  obtain rfl : ρ = 0 := Subsingleton.elim _ _
  pointwise [val_main_v24]
  exact k_own x0 0 n h j d

/-- The first 128 of a block's 256 values are those of the block before. -/
theorem v_lo (j : Fin 128) : val_main_v27 (F := Ideal) x0 (ix6 0 ρ n ⟨j.val, by omega⟩ h d) = val_main_v26 (F := Ideal) x0 (ix6 0 ρ n j h d) := by
  obtain rfl : ρ = 0 := Subsingleton.elim _ _
  pointwise [val_main_v27]

/-- The last 128 are the own block's. -/
theorem v_hi (j : Fin 128) : val_main_v27 (F := Ideal) x0 (ix6 0 ρ n ⟨128 + j.val, by omega⟩ h d) = tok x0 ρ 2 h n j d := by
  obtain rfl : ρ = 0 := Subsingleton.elim _ _
  pointwise [val_main_v27]
  exact v_own x0 0 n h j d

/-- Which keys a query attends to. -/
theorem m_at (j : Fin 256) : val_main_call5_v1 (F := Ideal) (ix6 0 ρ n h r j)
    = if r.val ≤ j.val ∧ j.val ≤ 128 + r.val ∧ (0 < n.val ∨ 128 ≤ j.val) then 1#1 else 0#1 := by
  obtain rfl : ρ = 0 := Subsingleton.elim _ _
  pointwise [val_main_call5_v1, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31]
  refine (congrArg₂ IntOp.andi (near_at r j) (some_at ⟨n.val, by omega⟩ j)).trans ?_
  by_cases h1 : r.val ≤ j.val ∧ j.val ≤ 128 + r.val
  · by_cases h2 : 0 < n.val ∨ 128 ≤ j.val
    · rw [if_pos h1, if_pos h2, if_pos ⟨h1.1, h1.2, h2⟩]; decide
    · rw [if_pos h1, if_neg h2, if_neg fun c => h2 c.2.2]; decide
  · rw [if_neg h1]
    by_cases h2 : 0 < n.val ∨ 128 ≤ j.val
    · rw [if_pos h2, if_neg fun c => h1 ⟨c.1, c.2.1⟩]; decide
    · rw [if_neg h2, if_neg fun c => h1 ⟨c.1, c.2.1⟩]; decide

/-- The scale. -/
theorem c_at (j : Fin 256) : val_main_v29 (F := Ideal) (ix6 0 ρ n h r j) = kap := by
  obtain rfl : ρ = 0 := Subsingleton.elim _ _
  pointwise [val_main_v29, val_main_cst]
  unfold kap
  rfl

/-- The scaled products of the queries with the keys. -/
theorem s_at (j : Fin 256) : val_main_v30 (F := Ideal) x0 (ix6 0 ρ n h r j)
    = (∑ x, val_main_v13 (F := Ideal) x0 (ix6 0 ρ n r h x) * val_main_v24 (F := Ideal) x0 (ix6 0 ρ n j h x)) * kap := by
  obtain rfl : ρ = 0 := Subsingleton.elim _ _
  refine (val_main_v30_apply x0 _).trans ((congrArg₂ (FloatOps.mulf (F := Ideal) (φ := .f32)) ?_ (c_at 0 n h r j)).trans (mul_at _ _))
  pointwise [val_main_v28]

/-- What stands where a key is left out. -/
theorem f_at (j : Fin 256) : val_main_call5_v2 (F := Ideal) (ix6 0 ρ n h r j) = ⊥ := by
  obtain rfl : ρ = 0 := Subsingleton.elim _ _
  rw [← ninf_eq]
  pointwise [val_main_call5_v2, val_main_call5_v0, val_main_cst_9]
  unfold ninf
  rfl

/-- The scores. -/
theorem z_at (j : Fin 256) : val_main_v60 (F := Ideal) x0 (ix6 0 ρ n h r j)
    = if r.val ≤ j.val ∧ j.val ≤ 128 + r.val ∧ (0 < n.val ∨ 128 ≤ j.val) then val_main_v30 (F := Ideal) x0 (ix6 0 ρ n h r j) else ⊥ := by
  obtain rfl : ρ = 0 := Subsingleton.elim _ _
  refine (val_main_v60_apply x0 _).trans ?_
  rw [m_at, f_at]
  generalize val_main_v30 (F := Ideal) x0 (ix6 0 0 n h r j) = y
  by_cases hc : r.val ≤ j.val ∧ j.val ≤ 128 + r.val ∧ (0 < n.val ∨ 128 ≤ j.val)
  · rw [if_pos hc, if_pos hc]; rfl
  · rw [if_neg hc, if_neg hc]; rfl

/-- The scores against the block before. -/
theorem z_lo (j : Fin 128) : val_main_v60 (F := Ideal) x0 (ix6 0 ρ n h r ⟨j.val, by omega⟩) = sBef x0 ρ h n r j := by
  obtain rfl : ρ = 0 := Subsingleton.elim _ _
  refine (z_at x0 0 n h r _).trans ?_
  unfold sBef before
  by_cases hn : r.val ≤ j.val ∧ 0 < n.val
  · rw [if_pos ⟨hn.1, by (try simp only []); omega, Or.inl hn.2⟩, if_pos hn, s_at]
    simp only [q_at, k_lo, k_bef x0 0 n h _ _ hn.2]
  · rw [if_neg fun c => hn ⟨c.1, by have := c.2.2; simp only [] at this; omega⟩, if_neg hn]

/-- The scores against the own block. -/
theorem z_hi (j : Fin 128) : val_main_v60 (F := Ideal) x0 (ix6 0 ρ n h r ⟨128 + j.val, by omega⟩) = sOwn x0 ρ h n r j := by
  obtain rfl : ρ = 0 := Subsingleton.elim _ _
  refine (z_at x0 0 n h r _).trans ?_
  unfold sOwn own
  by_cases hn : j.val ≤ r.val
  · rw [if_pos ⟨by (try simp only []); omega, by (try simp only []); omega, Or.inr (by (try simp only []); omega)⟩, if_pos hn, s_at]
    simp only [q_at, k_hi]
  · rw [if_neg fun c => hn (by have := c.2.1; simp only [] at this; omega), if_neg hn]

/-- The largest score. -/
theorem x_at : val_main_v61 (F := Ideal) x0 (ix5 0 ρ n h r) = top (sOwn x0 ρ h n r) (sBef x0 ρ h n r) := by
  obtain rfl : ρ = 0 := Subsingleton.elim _ _
  pointwise [val_main_v61, val_main_cst_10]
  refine (max_last _ _ 0 n h r).trans ((max_two _).trans ?_)
  exact congrArg₂ top (funext fun j => z_hi x0 0 n h r j) (funext fun j => z_lo x0 0 n h r j)

/-- The exponentials. -/
theorem e_at (j : Fin 256) : val_main_v65 (F := Ideal) x0 (ix6 0 ρ n h r j)
    = wt (sOwn x0 ρ h n r) (sBef x0 ρ h n r) (val_main_v60 (F := Ideal) x0 (ix6 0 ρ n h r j)) := by
  obtain rfl : ρ = 0 := Subsingleton.elim _ _
  pointwise [val_main_v65, val_main_v64, val_main_v63, val_main_v62]
  rw [x_at]
  unfold wt
  with_reducible rfl

/-- Their sum. -/
theorem l_at : val_main_v67 (F := Ideal) x0 (ix6 0 ρ n h r 0) = den (sOwn x0 ρ h n r) (sBef x0 ρ h n r) := by
  obtain rfl : ρ = 0 := Subsingleton.elim _ _
  pointwise [val_main_v67, val_main_v66, val_main_cst_11]
  refine (sum_last _ 0 n h r).trans ((sum_two _).trans ?_)
  simp only [e_at, z_hi, z_lo]
  unfold den
  with_reducible rfl

/-- Without a block before, it makes no difference which values it would have. -/
theorem attT_eq : attT x0 ρ h n r d = att (sOwn x0 ρ h n r) (sBef x0 ρ h n r) (fun j => tok x0 ρ 2 h n j d)
    fun j => val_main_v26 (F := Ideal) x0 (ix6 0 ρ n j h d) := by
  obtain rfl : ρ = 0 := Subsingleton.elim _ _
  unfold attT
  by_cases hn : 0 < n.val
  · exact congrArg (att _ _ _) (funext fun j => (v_bef x0 0 n h j d hn).symm)
  · have e : sBef x0 0 h n r = fun _ => ⊥ := before_none hn _ _ _
    rw [e]
    exact att_none _ _ _ _

/-- The attention. -/
theorem o_at : val_main_v72 (F := Ideal) x0 (ix6 0 ρ n r h d) = attT x0 ρ h n r d := by
  obtain rfl : ρ = 0 := Subsingleton.elim _ _
  rw [attT_eq]
  pointwise [val_main_v72, val_main_v71, val_main_v70, val_main_v69, val_main_v68]
  rw [l_at, sum_two]
  simp only [e_at, z_hi, z_lo, v_hi, v_lo]
  unfold att
  exact congrArg₂ Ideal.div (congrArg₂ (· + ·) (Finset.sum_congr rfl fun k _ => mul_comm _ _)
    (Finset.sum_congr rfl fun k _ => mul_comm _ _)) rfl

/-- The largest score, with a last axis of size one. -/
theorem m1_at : val_main_v62 (F := Ideal) x0 (ix6 0 ρ n h r 0) = top (sOwn x0 ρ h n r) (sBef x0 ρ h n r) := by
  obtain rfl : ρ = 0 := Subsingleton.elim _ _
  pointwise [val_main_v62]
  exact x_at x0 0 n h r

/-- The logarithm of the sum. -/
theorem g_at : val_main_v74 (F := Ideal) x0 (ix6 0 ρ n h r 0) = lseT x0 ρ h n r := by
  obtain rfl : ρ = 0 := Subsingleton.elim _ _
  refine (val_main_v74_apply x0 _).trans ?_
  rw [m1_at, val_main_v73_apply, l_at]
  rfl

/-- The same, without the last axis. -/
theorem g5_at : val_main_v75 (F := Ideal) x0 (ix5 0 ρ n h r) = lseT x0 ρ h n r := by
  obtain rfl : ρ = 0 := Subsingleton.elim _ _
  refine Eq.trans ?_ (g_at x0 0 n h r)
  unfold val_main_v75
  generalize val_main_v74 (F := Ideal) x0 = y
  pointwise []

/-- The same, by token and head. -/
theorem gt_at : val_main_v76 (F := Ideal) x0 (ix5 0 ρ n r h) = lseT x0 ρ h n r := by
  obtain rfl : ρ = 0 := Subsingleton.elim _ _
  pointwise [val_main_v76]
  exact g5_at x0 0 n h r

/-- The reference's first result is the kernel's. -/
theorem ref_O : val_main_v83 (F := Ideal) x0 = resO x0 := by
  funext i
  obtain ⟨a, b, rfl⟩ : ∃ (a : Fin 4096) (b : Fin 1024), i = ix2 a b := ⟨i 0, i 1, eq_ix2 i⟩
  pointwise [val_main_v83, val_main_v79, val_main_v78, val_main_v77]
  rw [o_at]
  exact attT_congr x0 (Fin.ext (by show _ = b.val / 1024; (try simp only []); omega)) (Fin.ext (by show _ = b.val % 1024 / 128; (try simp only []); omega))
    (Fin.ext (by show _ = a.val / 128; (try simp only []); try omega)) (Fin.ext (by show _ = a.val % 128; (try simp only []); try omega)) (Fin.ext (by show _ = b.val % 128; (try simp only []); try omega))

/-- The logarithms, by token and head. -/
theorem t_at (t : Fin 4096) : val_main_v82 (F := Ideal) x0 (ix3 0 t h)
    = lseT x0 ⟨t.val % 1, by omega⟩ h ⟨t.val / 1 / 128, by omega⟩ ⟨t.val / 1 % 128, by omega⟩ := by
  pointwise [val_main_v82, val_main_v81, val_main_v80]
  exact (gt_at x0 _ _ _ _).trans (lseT_congr x0 (Fin.ext (by (try simp only []); try omega)) (Fin.ext (by (try simp only []); try omega)) (Fin.ext (by (try simp only []); try omega)) (Fin.ext (by (try simp only []); try omega)))

/-- The reference's second result is the kernel's. -/
theorem ref_L : val_main_v86 (F := Ideal) x0 = resL x0 := by
  funext i
  obtain ⟨a, b, rfl⟩ : ∃ (a : Fin 4096) (b : Fin 1024), i = ix2 a b := ⟨i 0, i 1, eq_ix2 i⟩
  pointwise [val_main_v86, val_main_v85, val_main_v84]
  rw [t_at]
  exact lseT_congr x0 (Fin.ext (by show _ = b.val / 1024; (try simp only []); omega)) (Fin.ext (by show _ = b.val % 1024 / 128; (try simp only []); omega))
    (Fin.ext (by show _ = a.val / 128; (try simp only []); omega)) (Fin.ext (by show _ = a.val % 128; (try simp only []); omega))

end

/-- The mask's value counts as the named constant `⊥`. -/
theorem preserves : Cert.preserves_AttnFwd1_AttnFwd1Ideal :=
  IdealRules.named_const.statement Cert.AttnFwd1Ideal.κ "neg" .f32 0xF149F2CA#32 ⊥ rfl

/-- The reference runs, keeps its argument and leaves every semaphore at zero. -/
theorem ref_frame : Cert.quiescent_AttnFwd1RefIdeal := fun m ρ _ =>
  (θ_run Cert.AttnFwd1RefIdeal.defs _ _).mono (fun r h => ⟨fun c => (h c).2.2, sem_eq_zero_of_no_sems (by decide) r.2⟩)
    (Cert.AttnFwd1RefIdeal.Value.run (F := Ideal) m ρ)

/-- The kernel's two results are the reference's. -/
theorem value : Cert.algebraic_AttnFwd1Ideal_AttnFwd1RefIdeal := fun m ρ m' ρ' _ hag =>
  ⟨fun c => resO (aP m c), fun c => resL (aP m c), run_kernel m ρ,
    (θ_run Cert.AttnFwd1RefIdeal.defs _ _).mono (fun r h c => by
      have e0 := hag c
      refine ⟨(h c).1.trans ?_, (h c).2.1.trans ?_, (h c).2.2⟩
      · rw [Cert.AttnFwd1RefIdeal.Read.val_main_v83_eq, e0]
        exact ref_O _
      · rw [Cert.AttnFwd1RefIdeal.Read.val_main_v86_eq, e0]
        exact ref_L _)
      (Cert.AttnFwd1RefIdeal.Value.run (F := Ideal) m' ρ')⟩

end Cert.AttnFwd1Proof
end
-- ==== Proof.AdamSmallProof.lean ====
/- The optimiser's step on the small weights, packed into one array. -/
module
public import Idealize.ShloMosaic.Lib.Pointwise
public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
@[expose] public section
set_option maxRecDepth 16384
noncomputable section
namespace Cert.AdamSmallProof
open Cert.AdamSmallIdeal Cert.AdamSmallIdeal.Gen Idealize.ShloMosaic Idealize.ShloMosaic.TcCoe Idealize.SL.Sem

section
open Cert.AdamSmallRefIdeal.Read

/-- The reference's step, entry by entry, is the kernel's. -/
theorem ref_step (w g a v : (⟨S2328x128, .f32⟩ : BufTy).Contents (Elt Ideal)) :
    val_main_v23 (F := Ideal) w g a v = Value.G4 (F := Ideal) g a v w := by
  funext y
  obtain ⟨r, d, rfl⟩ : ∃ r d, y = ix2 r d := ⟨_, _, eq_ix2 y⟩
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3, val_main_v11,
    val_main_v12, val_main_cst_4, val_main_v13, val_main_v14, val_main_v15, val_main_cst_5, val_main_v16, val_main_v17,
    val_main_v18, val_main_cst_6, val_main_v19, val_main_v20, val_main_v21, val_main_cst_7, val_main_v22, val_main_v23]

/-- The reference's first moment is the kernel's. -/
theorem ref_first (g a : (⟨S2328x128, .f32⟩ : BufTy).Contents (Elt Ideal)) : val_main_v4 (F := Ideal) g a = Value.G5 (F := Ideal) g a := by
  funext y
  obtain ⟨r, d, rfl⟩ : ∃ r d, y = ix2 r d := ⟨_, _, eq_ix2 y⟩
  pointwise [val_main_cst, val_main_v0, val_main_v1, val_main_cst_0, val_main_v2, val_main_v3, val_main_v4]

/-- The reference's second moment is the kernel's. -/
theorem ref_second (g v : (⟨S2328x128, .f32⟩ : BufTy).Contents (Elt Ideal)) : val_main_v10 (F := Ideal) g v = Value.G6 (F := Ideal) g v := by
  funext y
  obtain ⟨r, d, rfl⟩ : ∃ r d, y = ix2 r d := ⟨_, _, eq_ix2 y⟩
  pointwise [val_main_cst_1, val_main_v5, val_main_v6, val_main_v7, val_main_cst_2, val_main_v8, val_main_v9, val_main_v10]

end

/-- The reference runs, keeps its arguments and leaves every semaphore at zero. -/
theorem ref_frame : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

/-- The kernel's results are the reference's. -/
theorem value : Cert.algebraic_AdamSmallIdeal_AdamSmallRefIdeal := fun m ρ m' ρ' _ hag =>
  ⟨_, _, _, Value.run (F := Ideal) m ρ,
    (θ_run Cert.AdamSmallRefIdeal.defs _ _).mono (fun r h c => by
      obtain ⟨e0, e1, e2, e3⟩ := hag c
      refine ⟨(h c).1.trans ?_, (h c).2.1.trans ?_, (h c).2.2.1.trans ?_, (h c).2.2.2⟩
      · rw [Cert.AdamSmallRefIdeal.Read.val_main_v23_eq, e0, e1, e2, e3]
        exact ref_step _ _ _ _
      · rw [Cert.AdamSmallRefIdeal.Read.val_main_v4_eq, e1, e2]
        exact ref_first _ _
      · rw [Cert.AdamSmallRefIdeal.Read.val_main_v10_eq, e1, e3]
        exact ref_second _ _)
      (Cert.AdamSmallRefIdeal.Value.run (F := Ideal) m' ρ')⟩

end Cert.AdamSmallProof
end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ff1.Frame
public import proofs.«01_k».proof.Proof.Gen.Ff1Ideal.Frame
public import proofs.«01_k».proof.Proof.Gen.Ff1Ideal.Value
public import proofs.«01_k».proof.Proof.Gen.Ff1RefIdeal.Run
public import proofs.«01_k».proof.Proof.Gen.Ff1RefIdeal.Read
public import proofs.«01_k».proof.Proof.Ff1Proof
public import proofs.«01_k».proof.Proof.Gen.Ff2.Frame
public import proofs.«01_k».proof.Proof.Gen.Ff2Ideal.Frame
public import proofs.«01_k».proof.Proof.Gen.Ff2Ideal.Value
public import proofs.«01_k».proof.Proof.Gen.Ff2RefIdeal.Run
public import proofs.«01_k».proof.Proof.Gen.Ff2RefIdeal.Read
public import proofs.«01_k».proof.Proof.Ff2Proof
public import proofs.«01_k».proof.Proof.Gen.Ff2Bwd.Frame
public import proofs.«01_k».proof.Proof.Gen.Ff2BwdIdeal.Frame
public import proofs.«01_k».proof.Proof.Gen.Ff2BwdIdeal.Value
public import proofs.«01_k».proof.Proof.Gen.Ff2BwdRefIdeal.Run
public import proofs.«01_k».proof.Proof.Gen.Ff2BwdRefIdeal.Read
public import proofs.«01_k».proof.Proof.Ff2BwdProof
public import proofs.«01_k».proof.Proof.Gen.GradFf2.Frame
public import proofs.«01_k».proof.Proof.Gen.GradFf2Ideal.Frame
public import proofs.«01_k».proof.Proof.Gen.GradFf2Ideal.Value
public import proofs.«01_k».proof.Proof.Gen.GradFf2RefIdeal.Run
public import proofs.«01_k».proof.Proof.Gen.GradFf2RefIdeal.Read
public import proofs.«01_k».proof.Proof.GradFf2Proof
public import proofs.«01_k».proof.Proof.Gen.GradFf1.Frame
public import proofs.«01_k».proof.Proof.Gen.GradFf1Ideal.Frame
public import proofs.«01_k».proof.Proof.Gen.GradFf1Ideal.Value
public import proofs.«01_k».proof.Proof.Gen.GradFf1RefIdeal.Run
public import proofs.«01_k».proof.Proof.Gen.GradFf1RefIdeal.Read
public import proofs.«01_k».proof.Proof.GradFf1Proof
public import proofs.«01_k».proof.Proof.Gen.Ff1Bwd.Frame
public import proofs.«01_k».proof.Proof.Gen.Ff1BwdIdeal.Frame
public import proofs.«01_k».proof.Proof.Gen.Ff1BwdIdeal.Value
public import proofs.«01_k».proof.Proof.Gen.Ff1BwdRefIdeal.Run
public import proofs.«01_k».proof.Proof.Gen.Ff1BwdRefIdeal.Read
public import proofs.«01_k».proof.Proof.Ff1BwdProof
public import proofs.«01_k».proof.Proof.Gen.ProjInA.Frame
public import proofs.«01_k».proof.Proof.Gen.ProjInAIdeal.Frame
public import proofs.«01_k».proof.Proof.Gen.ProjInAIdeal.Value
public import proofs.«01_k».proof.Proof.Gen.ProjInARefIdeal.Run
public import proofs.«01_k».proof.Proof.Gen.ProjInARefIdeal.Read
public import proofs.«01_k».proof.Proof.ProjInAProof
public import proofs.«01_k».proof.Proof.Gen.ProjInB.Frame
public import proofs.«01_k».proof.Proof.Gen.ProjInBIdeal.Frame
public import proofs.«01_k».proof.Proof.Gen.ProjInBIdeal.Value
public import proofs.«01_k».proof.Proof.Gen.ProjInBRefIdeal.Run
public import proofs.«01_k».proof.Proof.Gen.ProjInBRefIdeal.Read
public import proofs.«01_k».proof.Proof.ProjInBProof
public import proofs.«01_k».proof.Proof.Gen.ProjKv.Frame
public import proofs.«01_k».proof.Proof.Gen.ProjKvIdeal.Frame
public import proofs.«01_k».proof.Proof.Gen.ProjKvIdeal.Value
public import proofs.«01_k».proof.Proof.Gen.ProjKvRefIdeal.Run
public import proofs.«01_k».proof.Proof.Gen.ProjKvRefIdeal.Read
public import proofs.«01_k».proof.Proof.ProjKvProof
public import proofs.«01_k».proof.Proof.Gen.ProjOut.Frame
public import proofs.«01_k».proof.Proof.Gen.ProjOutIdeal.Frame
public import proofs.«01_k».proof.Proof.Gen.ProjOutIdeal.Value
public import proofs.«01_k».proof.Proof.Gen.ProjOutRefIdeal.Run
public import proofs.«01_k».proof.Proof.Gen.ProjOutRefIdeal.Read
public import proofs.«01_k».proof.Proof.ProjOutProof
public import proofs.«01_k».proof.Proof.Gen.GradOut.Frame
public import proofs.«01_k».proof.Proof.Gen.GradOutIdeal.Frame
public import proofs.«01_k».proof.Proof.Gen.GradOutIdeal.Value
public import proofs.«01_k».proof.Proof.Gen.GradOutRefIdeal.Run
public import proofs.«01_k».proof.Proof.Gen.GradOutRefIdeal.Read
public import proofs.«01_k».proof.Proof.GradOutProof
public import proofs.«01_k».proof.Proof.Gen.ProjOutBwd.Frame
public import proofs.«01_k».proof.Proof.Gen.ProjOutBwdIdeal.Frame
public import proofs.«01_k».proof.Proof.Gen.ProjOutBwdIdeal.Value
public import proofs.«01_k».proof.Proof.Gen.ProjOutBwdRefIdeal.Run
public import proofs.«01_k».proof.Proof.Gen.ProjOutBwdRefIdeal.Read
public import proofs.«01_k».proof.Proof.ProjOutBwdProof
public import proofs.«01_k».proof.Proof.Gen.GradKv.Frame
public import proofs.«01_k».proof.Proof.Gen.GradKvIdeal.Frame
public import proofs.«01_k».proof.Proof.Gen.GradKvIdeal.Value
public import proofs.«01_k».proof.Proof.Gen.GradKvRefIdeal.Run
public import proofs.«01_k».proof.Proof.Gen.GradKvRefIdeal.Read
public import proofs.«01_k».proof.Proof.GradKvProof
public import proofs.«01_k».proof.Proof.Gen.GradInA.Frame
public import proofs.«01_k».proof.Proof.Gen.GradInAIdeal.Frame
public import proofs.«01_k».proof.Proof.Gen.GradInAIdeal.Value
public import proofs.«01_k».proof.Proof.Gen.GradInARefIdeal.Run
public import proofs.«01_k».proof.Proof.Gen.GradInARefIdeal.Read
public import proofs.«01_k».proof.Proof.GradInAProof
public import proofs.«01_k».proof.Proof.Gen.GradInB.Frame
public import proofs.«01_k».proof.Proof.Gen.GradInBIdeal.Frame
public import proofs.«01_k».proof.Proof.Gen.GradInBIdeal.Value
public import proofs.«01_k».proof.Proof.Gen.GradInBRefIdeal.Run
public import proofs.«01_k».proof.Proof.Gen.GradInBRefIdeal.Read
public import proofs.«01_k».proof.Proof.GradInBProof
public import proofs.«01_k».proof.Proof.Gen.ProjInBwdA.Frame
public import proofs.«01_k».proof.Proof.Gen.ProjInBwdAIdeal.Frame
public import proofs.«01_k».proof.Proof.Gen.ProjInBwdAIdeal.Value
public import proofs.«01_k».proof.Proof.Gen.ProjInBwdARefIdeal.Run
public import proofs.«01_k».proof.Proof.Gen.ProjInBwdARefIdeal.Read
public import proofs.«01_k».proof.Proof.ProjInBwdAProof
public import proofs.«01_k».proof.Proof.Gen.ProjInBwdB.Frame
public import proofs.«01_k».proof.Proof.Gen.ProjInBwdBIdeal.Frame
public import proofs.«01_k».proof.Proof.Gen.ProjInBwdBIdeal.Value
public import proofs.«01_k».proof.Proof.Gen.ProjInBwdBRefIdeal.Run
public import proofs.«01_k».proof.Proof.Gen.ProjInBwdBRefIdeal.Read
public import proofs.«01_k».proof.Proof.ProjInBwdBProof
public import proofs.«01_k».proof.Proof.Gen.LnBwd.Frame
public import proofs.«01_k».proof.Proof.Gen.LnBwdIdeal.Frame
public import proofs.«01_k».proof.Proof.Gen.LnBwdIdeal.Value
public import proofs.«01_k».proof.Proof.Gen.LnBwdRefIdeal.Run
public import proofs.«01_k».proof.Proof.Gen.LnBwdRefIdeal.Read
public import proofs.«01_k».proof.Proof.LnBwdProof
public import proofs.«01_k».proof.Proof.Gen.LnFwd.Frame
public import proofs.«01_k».proof.Proof.Gen.LnFwdIdeal.Frame
public import proofs.«01_k».proof.Proof.Gen.LnFwdIdeal.Value
public import proofs.«01_k».proof.Proof.Gen.LnFwdRefIdeal.Run
public import proofs.«01_k».proof.Proof.Gen.LnFwdRefIdeal.Read
public import proofs.«01_k».proof.Proof.LnFwdProof
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.LossHeadProof
public import proofs.«01_k».proof.Proof.Gen.AdamFf.Frame
public import proofs.«01_k».proof.Proof.Gen.AdamFfIdeal.Frame
public import proofs.«01_k».proof.Proof.Gen.AdamFfIdeal.Value
public import proofs.«01_k».proof.Proof.Gen.AdamFfRefIdeal.Run
public import proofs.«01_k».proof.Proof.Gen.AdamFfRefIdeal.Read
public import proofs.«01_k».proof.Proof.AdamFfProof
public import proofs.«01_k».proof.Proof.Gen.AdamInA.Frame
public import proofs.«01_k».proof.Proof.Gen.AdamInAIdeal.Frame
public import proofs.«01_k».proof.Proof.Gen.AdamInAIdeal.Value
public import proofs.«01_k».proof.Proof.Gen.AdamInARefIdeal.Run
public import proofs.«01_k».proof.Proof.Gen.AdamInARefIdeal.Read
public import proofs.«01_k».proof.Proof.AdamInAProof
public import proofs.«01_k».proof.Proof.Gen.AdamInB.Frame
public import proofs.«01_k».proof.Proof.Gen.AdamInBIdeal.Frame
public import proofs.«01_k».proof.Proof.Gen.AdamInBIdeal.Value
public import proofs.«01_k».proof.Proof.Gen.AdamInBRefIdeal.Run
public import proofs.«01_k».proof.Proof.Gen.AdamInBRefIdeal.Read
public import proofs.«01_k».proof.Proof.AdamInBProof
public import proofs.«01_k».proof.Proof.Gen.AdamKv.Frame
public import proofs.«01_k».proof.Proof.Gen.AdamKvIdeal.Frame
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Proof.AdamKvProof
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.AdamOutProof
public import proofs.«01_k».proof.Proof.Gen.MemBwdB.Frame
public import proofs.«01_k».proof.Proof.Gen.MemBwdBIdeal.Frame
public import proofs.«01_k».proof.Proof.Gen.MemBwdBIdeal.Value
public import proofs.«01_k».proof.Proof.Gen.MemBwdBRefIdeal.Run
public import proofs.«01_k».proof.Proof.Gen.MemBwdBRefIdeal.Read
public import proofs.«01_k».proof.Proof.MemBwdBProof
public import proofs.«01_k».proof.Proof.Gen.MemFwd.Frame
public import proofs.«01_k».proof.Proof.Gen.MemFwdIdeal.Frame
public import proofs.«01_k».proof.Proof.Gen.MemFwdIdeal.Value
public import proofs.«01_k».proof.Proof.Gen.MemFwdRefIdeal.Run
public import proofs.«01_k».proof.Proof.Gen.MemFwdRefIdeal.Read
public import proofs.«01_k».proof.Proof.MemFwdProof
public import proofs.«01_k».proof.Proof.Gen.MemFwdB.Frame
public import proofs.«01_k».proof.Proof.Gen.MemFwdBIdeal.Frame
public import proofs.«01_k».proof.Proof.Gen.MemFwdBIdeal.Value
public import proofs.«01_k».proof.Proof.Gen.MemFwdBRefIdeal.Run
public import proofs.«01_k».proof.Proof.Gen.MemFwdBRefIdeal.Read
public import proofs.«01_k».proof.Proof.MemFwdBProof
public import proofs.«01_k».proof.Proof.Gen.AttnFwd16.Frame
public import proofs.«01_k».proof.Proof.Gen.AttnFwd16Ideal.Frame
public import proofs.«01_k».proof.Proof.Gen.AttnFwd16Ideal.Value
public import proofs.«01_k».proof.Proof.Gen.AttnFwd16RefIdeal.Run
public import proofs.«01_k».proof.Proof.Gen.AttnFwd16RefIdeal.Read
public import proofs.«01_k».proof.Proof.AttnFwd16Proof
public import proofs.«01_k».proof.Proof.Gen.AttnFwd4.Frame
public import proofs.«01_k».proof.Proof.Gen.AttnFwd4Ideal.Frame
public import proofs.«01_k».proof.Proof.Gen.AttnFwd4Ideal.Value
public import proofs.«01_k».proof.Proof.Gen.AttnFwd4RefIdeal.Run
public import proofs.«01_k».proof.Proof.Gen.AttnFwd4RefIdeal.Read
public import proofs.«01_k».proof.Proof.AttnFwd4Proof
public import proofs.«01_k».proof.Proof.Gen.AttnFwd1.Frame
public import proofs.«01_k».proof.Proof.Gen.AttnFwd1Ideal.Frame
public import proofs.«01_k».proof.Proof.Gen.AttnFwd1Ideal.Value
public import proofs.«01_k».proof.Proof.Gen.AttnFwd1RefIdeal.Run
public import proofs.«01_k».proof.Proof.Gen.AttnFwd1RefIdeal.Read
public import proofs.«01_k».proof.Proof.AttnFwd1Proof
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.AdamSmallProof
public import proofs.«01_k».proof.Proof.MemValue
public import proofs.«01_k».proof.Proof.MemRef
public import proofs.«01_k».proof.Proof.MemPre
public import Idealize.ShloMosaic.Adequacy
public import Idealize.ShloMosaic.Init

@[expose] public section

noncomputable section

namespace Cert.Proof

open Idealize.ShloMosaic Idealize.SL.Sem

/-- The reference of the memory attention's gradients runs, keeps its arguments and leaves every semaphore at zero. -/
theorem mem_ref_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's two gradients are the reference's: both are `gradQ` and `gradKV` of the arguments. -/
theorem mem_value : Cert.algebraic_KernelIdeal_ReferenceIdeal_pre_scores_finite := fun m ρ m' ρ' hp hag =>
  ⟨fun c => Cert.Mem.gradQ (Cert.Mem.aP m c) (Cert.Mem.aKV m c) (Cert.Mem.aD m c),
    fun c => Cert.Mem.gradKV (Cert.Mem.aP m c) (Cert.Mem.aKV m c) (Cert.Mem.aD m c),
    Cert.Mem.run_kernel m ρ,
    (θ_run Cert.ReferenceIdeal.defs _ _).mono (fun r h c => by
      have H := Cert.MemPre.realQK _ _ _ (hp c).1 (hp c).2
      obtain ⟨e0, e1, e2⟩ := hag c
      refine ⟨(h c).1.trans ?_, (h c).2.1.trans ?_, (h c).2.2⟩
      · rw [Cert.ReferenceIdeal.Read.val_main_v79_eq, e0, e1, e2]
        exact Cert.MemRef.v79_eq _ H
      · rw [Cert.ReferenceIdeal.Read.val_main_v80_eq, e0, e1, e2]
        exact Cert.MemRef.v80_eq _ H)
      (Cert.ReferenceIdeal.Value.run (F := Ideal) m' ρ')⟩

/-- Every claim: the programs run and keep their arguments, and each kernel computes what its reference computes. -/
theorem claim : Cert.Claim :=
  ⟨Cert.Kernel.Gen.facts,
    Cert.KernelIdeal.Gen.facts,
    Cert.ReferenceIdeal.Gen.facts,
    Cert.Ff1.Gen.facts,
    Cert.Ff1Ideal.Gen.facts,
    Cert.Ff1RefIdeal.Gen.facts,
    Cert.Ff2.Gen.facts,
    Cert.Ff2Ideal.Gen.facts,
    Cert.Ff2RefIdeal.Gen.facts,
    Cert.Ff2Bwd.Gen.facts,
    Cert.Ff2BwdIdeal.Gen.facts,
    Cert.Ff2BwdRefIdeal.Gen.facts,
    Cert.GradFf2.Gen.facts,
    Cert.GradFf2Ideal.Gen.facts,
    Cert.GradFf2RefIdeal.Gen.facts,
    Cert.GradFf1.Gen.facts,
    Cert.GradFf1Ideal.Gen.facts,
    Cert.GradFf1RefIdeal.Gen.facts,
    Cert.Ff1Bwd.Gen.facts,
    Cert.Ff1BwdIdeal.Gen.facts,
    Cert.Ff1BwdRefIdeal.Gen.facts,
    Cert.ProjInA.Gen.facts,
    Cert.ProjInAIdeal.Gen.facts,
    Cert.ProjInARefIdeal.Gen.facts,
    Cert.ProjInB.Gen.facts,
    Cert.ProjInBIdeal.Gen.facts,
    Cert.ProjInBRefIdeal.Gen.facts,
    Cert.ProjKv.Gen.facts,
    Cert.ProjKvIdeal.Gen.facts,
    Cert.ProjKvRefIdeal.Gen.facts,
    Cert.ProjOut.Gen.facts,
    Cert.ProjOutIdeal.Gen.facts,
    Cert.ProjOutRefIdeal.Gen.facts,
    Cert.GradOut.Gen.facts,
    Cert.GradOutIdeal.Gen.facts,
    Cert.GradOutRefIdeal.Gen.facts,
    Cert.ProjOutBwd.Gen.facts,
    Cert.ProjOutBwdIdeal.Gen.facts,
    Cert.ProjOutBwdRefIdeal.Gen.facts,
    Cert.GradKv.Gen.facts,
    Cert.GradKvIdeal.Gen.facts,
    Cert.GradKvRefIdeal.Gen.facts,
    Cert.GradInA.Gen.facts,
    Cert.GradInAIdeal.Gen.facts,
    Cert.GradInARefIdeal.Gen.facts,
    Cert.GradInB.Gen.facts,
    Cert.GradInBIdeal.Gen.facts,
    Cert.GradInBRefIdeal.Gen.facts,
    Cert.ProjInBwdA.Gen.facts,
    Cert.ProjInBwdAIdeal.Gen.facts,
    Cert.ProjInBwdARefIdeal.Gen.facts,
    Cert.ProjInBwdB.Gen.facts,
    Cert.ProjInBwdBIdeal.Gen.facts,
    Cert.ProjInBwdBRefIdeal.Gen.facts,
    Cert.LnBwd.Gen.facts,
    Cert.LnBwdIdeal.Gen.facts,
    Cert.LnBwdRefIdeal.Gen.facts,
    Cert.LnFwd.Gen.facts,
    Cert.LnFwdIdeal.Gen.facts,
    Cert.LnFwdRefIdeal.Gen.facts,
    Cert.LossHead.Gen.facts,
    Cert.LossHeadIdeal.Gen.facts,
    Cert.LossHeadRefIdeal.Gen.facts,
    Cert.AdamFf.Gen.facts,
    Cert.AdamFfIdeal.Gen.facts,
    Cert.AdamFfRefIdeal.Gen.facts,
    Cert.AdamInA.Gen.facts,
    Cert.AdamInAIdeal.Gen.facts,
    Cert.AdamInARefIdeal.Gen.facts,
    Cert.AdamInB.Gen.facts,
    Cert.AdamInBIdeal.Gen.facts,
    Cert.AdamInBRefIdeal.Gen.facts,
    Cert.AdamKv.Gen.facts,
    Cert.AdamKvIdeal.Gen.facts,
    Cert.AdamKvRefIdeal.Gen.facts,
    Cert.AdamOut.Gen.facts,
    Cert.AdamOutIdeal.Gen.facts,
    Cert.AdamOutRefIdeal.Gen.facts,
    Cert.MemBwdB.Gen.facts,
    Cert.MemBwdBIdeal.Gen.facts,
    Cert.MemBwdBRefIdeal.Gen.facts,
    Cert.MemFwd.Gen.facts,
    Cert.MemFwdIdeal.Gen.facts,
    Cert.MemFwdRefIdeal.Gen.facts,
    Cert.MemFwdB.Gen.facts,
    Cert.MemFwdBIdeal.Gen.facts,
    Cert.MemFwdBRefIdeal.Gen.facts,
    Cert.AttnFwd16.Gen.facts,
    Cert.AttnFwd16Ideal.Gen.facts,
    Cert.AttnFwd16RefIdeal.Gen.facts,
    Cert.AttnFwd4.Gen.facts,
    Cert.AttnFwd4Ideal.Gen.facts,
    Cert.AttnFwd4RefIdeal.Gen.facts,
    Cert.AttnFwd1.Gen.facts,
    Cert.AttnFwd1Ideal.Gen.facts,
    Cert.AttnFwd1RefIdeal.Gen.facts,
    Cert.AdamSmall.Gen.facts,
    Cert.AdamSmallIdeal.Gen.facts,
    Cert.AdamSmallRefIdeal.Gen.facts,
    Cert.MemPre.facts,
    Cert.LnBwdProof.pre_facts,
    Cert.MemBPre.facts,
    fun m ρ _ => Cert.Kernel.Gen.frame m ρ,
    fun m ρ _ => Cert.KernelIdeal.Gen.frame m ρ,
    fun m ρ _ => Cert.KernelIdeal.Gen.frame m ρ,
    mem_ref_frame,
    fun m ρ _ => mem_ref_frame m ρ trivial,
    fun m ρ _ => Cert.Ff1.Gen.frame m ρ,
    fun m ρ _ => Cert.Ff1Ideal.Gen.frame m ρ,
    Cert.Ff1Proof.ref_frame,
    fun m ρ _ => Cert.Ff2.Gen.frame m ρ,
    fun m ρ _ => Cert.Ff2Ideal.Gen.frame m ρ,
    Cert.Ff2Proof.ref_frame,
    fun m ρ _ => Cert.Ff2Bwd.Gen.frame m ρ,
    fun m ρ _ => Cert.Ff2BwdIdeal.Gen.frame m ρ,
    Cert.Ff2BwdProof.ref_frame,
    fun m ρ _ => Cert.GradFf2.Gen.frame m ρ,
    fun m ρ _ => Cert.GradFf2Ideal.Gen.frame m ρ,
    Cert.GradFf2Proof.ref_frame,
    fun m ρ _ => Cert.GradFf1.Gen.frame m ρ,
    fun m ρ _ => Cert.GradFf1Ideal.Gen.frame m ρ,
    Cert.GradFf1Proof.ref_frame,
    fun m ρ _ => Cert.Ff1Bwd.Gen.frame m ρ,
    fun m ρ _ => Cert.Ff1BwdIdeal.Gen.frame m ρ,
    Cert.Ff1BwdProof.ref_frame,
    fun m ρ _ => Cert.ProjInA.Gen.frame m ρ,
    fun m ρ _ => Cert.ProjInAIdeal.Gen.frame m ρ,
    Cert.ProjInAProof.ref_frame,
    fun m ρ _ => Cert.ProjInB.Gen.frame m ρ,
    fun m ρ _ => Cert.ProjInBIdeal.Gen.frame m ρ,
    Cert.ProjInBProof.ref_frame,
    fun m ρ _ => Cert.ProjKv.Gen.frame m ρ,
    fun m ρ _ => Cert.ProjKvIdeal.Gen.frame m ρ,
    Cert.ProjKvProof.ref_frame,
    fun m ρ _ => Cert.ProjOut.Gen.frame m ρ,
    fun m ρ _ => Cert.ProjOutIdeal.Gen.frame m ρ,
    Cert.ProjOutProof.ref_frame,
    fun m ρ _ => Cert.GradOut.Gen.frame m ρ,
    fun m ρ _ => Cert.GradOutIdeal.Gen.frame m ρ,
    Cert.GradOutProof.ref_frame,
    fun m ρ _ => Cert.ProjOutBwd.Gen.frame m ρ,
    fun m ρ _ => Cert.ProjOutBwdIdeal.Gen.frame m ρ,
    Cert.ProjOutBwdProof.ref_frame,
    fun m ρ _ => Cert.GradKv.Gen.frame m ρ,
    fun m ρ _ => Cert.GradKvIdeal.Gen.frame m ρ,
    Cert.GradKvProof.ref_frame,
    fun m ρ _ => Cert.GradInA.Gen.frame m ρ,
    fun m ρ _ => Cert.GradInAIdeal.Gen.frame m ρ,
    Cert.GradInAProof.ref_frame,
    fun m ρ _ => Cert.GradInB.Gen.frame m ρ,
    fun m ρ _ => Cert.GradInBIdeal.Gen.frame m ρ,
    Cert.GradInBProof.ref_frame,
    fun m ρ _ => Cert.ProjInBwdA.Gen.frame m ρ,
    fun m ρ _ => Cert.ProjInBwdAIdeal.Gen.frame m ρ,
    Cert.ProjInBwdAProof.ref_frame,
    fun m ρ _ => Cert.ProjInBwdB.Gen.frame m ρ,
    fun m ρ _ => Cert.ProjInBwdBIdeal.Gen.frame m ρ,
    Cert.ProjInBwdBProof.ref_frame,
    fun m ρ _ => Cert.LnBwd.Gen.frame m ρ,
    fun m ρ _ => Cert.LnBwdIdeal.Gen.frame m ρ,
    fun m ρ _ => Cert.LnBwdIdeal.Gen.frame m ρ,
    Cert.LnBwdProof.ref_frame,
    fun m ρ _ => Cert.LnBwdProof.ref_frame m ρ trivial,
    fun m ρ _ => Cert.LnFwd.Gen.frame m ρ,
    fun m ρ _ => Cert.LnFwdIdeal.Gen.frame m ρ,
    Cert.LnFwdProof.ref_frame,
    fun m ρ _ => Cert.LossHead.Gen.frame m ρ,
    fun m ρ _ => Cert.LossHeadIdeal.Gen.frame m ρ,
    Cert.LossHeadProof.ref_frame,
    fun m ρ _ => Cert.AdamFf.Gen.frame m ρ,
    fun m ρ _ => Cert.AdamFfIdeal.Gen.frame m ρ,
    Cert.AdamFfProof.ref_frame,
    fun m ρ _ => Cert.AdamInA.Gen.frame m ρ,
    fun m ρ _ => Cert.AdamInAIdeal.Gen.frame m ρ,
    Cert.AdamInAProof.ref_frame,
    fun m ρ _ => Cert.AdamInB.Gen.frame m ρ,
    fun m ρ _ => Cert.AdamInBIdeal.Gen.frame m ρ,
    Cert.AdamInBProof.ref_frame,
    fun m ρ _ => Cert.AdamKv.Gen.frame m ρ,
    fun m ρ _ => Cert.AdamKvIdeal.Gen.frame m ρ,
    Cert.AdamKvProof.ref_frame,
    fun m ρ _ => Cert.AdamOut.Gen.frame m ρ,
    fun m ρ _ => Cert.AdamOutIdeal.Gen.frame m ρ,
    Cert.AdamOutProof.ref_frame,
    fun m ρ _ => Cert.MemBwdB.Gen.frame m ρ,
    fun m ρ _ => Cert.MemBwdBIdeal.Gen.frame m ρ,
    fun m ρ _ => Cert.MemBwdBIdeal.Gen.frame m ρ,
    Cert.MemBwdBProof.ref_frame,
    fun m ρ _ => Cert.MemBwdBProof.ref_frame m ρ trivial,
    fun m ρ _ => Cert.MemFwd.Gen.frame m ρ,
    fun m ρ _ => Cert.MemFwdIdeal.Gen.frame m ρ,
    Cert.MemFwdProof.ref_frame,
    fun m ρ _ => Cert.MemFwdB.Gen.frame m ρ,
    fun m ρ _ => Cert.MemFwdBIdeal.Gen.frame m ρ,
    Cert.MemFwdBProof.ref_frame,
    fun m ρ _ => Cert.AttnFwd16.Gen.frame m ρ,
    fun m ρ _ => Cert.AttnFwd16Ideal.Gen.frame m ρ,
    Cert.AttnFwd16Proof.ref_frame,
    fun m ρ _ => Cert.AttnFwd4.Gen.frame m ρ,
    fun m ρ _ => Cert.AttnFwd4Ideal.Gen.frame m ρ,
    Cert.AttnFwd4Proof.ref_frame,
    fun m ρ _ => Cert.AttnFwd1.Gen.frame m ρ,
    fun m ρ _ => Cert.AttnFwd1Ideal.Gen.frame m ρ,
    Cert.AttnFwd1Proof.ref_frame,
    fun m ρ _ => Cert.AdamSmall.Gen.frame m ρ,
    fun m ρ _ => Cert.AdamSmallIdeal.Gen.frame m ρ,
    Cert.AdamSmallProof.ref_frame,
    trivial,
    mem_value,
    trivial,
    Cert.Ff1Proof.value,
    trivial,
    Cert.Ff2Proof.value,
    trivial,
    Cert.Ff2BwdProof.value,
    trivial,
    Cert.GradFf2Proof.value,
    trivial,
    Cert.GradFf1Proof.value,
    trivial,
    Cert.Ff1BwdProof.value,
    trivial,
    Cert.ProjInAProof.value,
    trivial,
    Cert.ProjInBProof.value,
    trivial,
    Cert.ProjKvProof.value,
    trivial,
    Cert.ProjOutProof.value,
    trivial,
    Cert.GradOutProof.value,
    trivial,
    Cert.ProjOutBwdProof.value,
    trivial,
    Cert.GradKvProof.value,
    trivial,
    Cert.GradInAProof.value,
    trivial,
    Cert.GradInBProof.value,
    trivial,
    Cert.ProjInBwdAProof.value,
    trivial,
    Cert.ProjInBwdBProof.value,
    trivial,
    Cert.LnBwdProof.value,
    trivial,
    Cert.LnFwdProof.value,
    trivial,
    Cert.LossHeadProof.value,
    trivial,
    Cert.AdamFfProof.value,
    trivial,
    Cert.AdamInAProof.value,
    trivial,
    Cert.AdamInBProof.value,
    trivial,
    Cert.AdamKvProof.value,
    trivial,
    Cert.AdamOutProof.value,
    trivial,
    Cert.MemBwdBProof.value,
    trivial,
    Cert.MemFwdProof.value,
    trivial,
    Cert.MemFwdBProof.value,
    Cert.AttnFwd16Proof.preserves,
    Cert.AttnFwd16Proof.value,
    Cert.AttnFwd4Proof.preserves,
    Cert.AttnFwd4Proof.value,
    Cert.AttnFwd1Proof.preserves,
    Cert.AttnFwd1Proof.value,
    trivial,
    Cert.AdamSmallProof.value⟩

end Cert.Proof

end
